-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite_dact [hPre_finite_dact : Cert.Pre_finite_dact.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite_dact.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))) = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_finite_dact [hPre_finite_dact : Cert.Pre_finite_dact.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_finite_dact.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_finite_ffndx [hPre_finite_ffndx : Cert.Pre_finite_ffndx.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_finite_ffndx.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_finite_ffndx [hPre_finite_ffndx : Cert.Pre_finite_ffndx.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_finite_ffndx.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4))) = (fun _ => 1#1)

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxIdeal_finite_pooldx [hPre_finite_pooldx : Cert.Pre_finite_pooldx.Facts] (m : (ℓ : Loc Cert.PoolDxIdeal.nD Cert.PoolDxIdeal.τ Cert.PoolDxIdeal.sig) → Buf (Elt Ideal) ℓ) : Prop :=
  ∀ c : Dev Cert.PoolDxIdeal.nD,
    (Cert.Pre_finite_pooldx.fn (F := Ideal) (m ((c.tc : Thread Cert.PoolDxIdeal.nD Cert.PoolDxIdeal.τ).loc Cert.PoolDxIdeal.main_arg0)) (m ((c.tc : Thread Cert.PoolDxIdeal.nD Cert.PoolDxIdeal.τ).loc Cert.PoolDxIdeal.main_arg1)) (m ((c.tc : Thread Cert.PoolDxIdeal.nD Cert.PoolDxIdeal.τ).loc Cert.PoolDxIdeal.main_arg2)) (m ((c.tc : Thread Cert.PoolDxIdeal.nD Cert.PoolDxIdeal.τ).loc Cert.PoolDxIdeal.main_arg3)) (m ((c.tc : Thread Cert.PoolDxIdeal.nD Cert.PoolDxIdeal.τ).loc Cert.PoolDxIdeal.main_arg4))) = (fun _ => 1#1)

def Pre_PoolDxRefIdeal (m : (ℓ : Loc Cert.PoolDxRefIdeal.nD Cert.PoolDxRefIdeal.τ Cert.PoolDxRefIdeal.sig) → Buf (Elt Ideal) ℓ) : Prop :=
  True

def Pre_PoolDxRefIdeal_finite_pooldx [hPre_finite_pooldx : Cert.Pre_finite_pooldx.Facts] (m : (ℓ : Loc Cert.PoolDxRefIdeal.nD Cert.PoolDxRefIdeal.τ Cert.PoolDxRefIdeal.sig) → Buf (Elt Ideal) ℓ) : Prop :=
  ∀ c : Dev Cert.PoolDxRefIdeal.nD,
    (Cert.Pre_finite_pooldx.fn (F := Ideal) (m ((c.tc : Thread Cert.PoolDxRefIdeal.nD Cert.PoolDxRefIdeal.τ).loc Cert.PoolDxRefIdeal.main_arg0)) (m ((c.tc : Thread Cert.PoolDxRefIdeal.nD Cert.PoolDxRefIdeal.τ).loc Cert.PoolDxRefIdeal.main_arg1)) (m ((c.tc : Thread Cert.PoolDxRefIdeal.nD Cert.PoolDxRefIdeal.τ).loc Cert.PoolDxRefIdeal.main_arg2)) (m ((c.tc : Thread Cert.PoolDxRefIdeal.nD Cert.PoolDxRefIdeal.τ).loc Cert.PoolDxRefIdeal.main_arg3)) (m ((c.tc : Thread Cert.PoolDxRefIdeal.nD Cert.PoolDxRefIdeal.τ).loc Cert.PoolDxRefIdeal.main_arg4))) = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdIdeal_finite_ple [hPre_finite_ple : Cert.Pre_finite_ple.Facts] (m : (ℓ : Loc Cert.PleBwdIdeal.nD Cert.PleBwdIdeal.τ Cert.PleBwdIdeal.sig) → Buf (Elt Ideal) ℓ) : Prop :=
  ∀ c : Dev Cert.PleBwdIdeal.nD,
    (Cert.Pre_finite_ple.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))) = (fun _ => 1#1)

def Pre_PleBwdRefIdeal (m : (ℓ : Loc Cert.PleBwdRefIdeal.nD Cert.PleBwdRefIdeal.τ Cert.PleBwdRefIdeal.sig) → Buf (Elt Ideal) ℓ) : Prop :=
  True

def Pre_PleBwdRefIdeal_finite_ple [hPre_finite_ple : Cert.Pre_finite_ple.Facts] (m : (ℓ : Loc Cert.PleBwdRefIdeal.nD Cert.PleBwdRefIdeal.τ Cert.PleBwdRefIdeal.sig) → Buf (Elt Ideal) ℓ) : Prop :=
  ∀ c : Dev Cert.PleBwdRefIdeal.nD,
    (Cert.Pre_finite_ple.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))) = (fun _ => 1#1)

def Pre_PoolGroup (m : (ℓ : Loc Cert.PoolGroup.nD Cert.PoolGroup.τ Cert.PoolGroup.sig) → Buf (Elt Bits) ℓ) : Prop :=
  True

def Pre_PoolGroupIdeal (m : (ℓ : Loc Cert.PoolGroupIdeal.nD Cert.PoolGroupIdeal.τ Cert.PoolGroupIdeal.sig) → Buf (Elt Ideal) ℓ) : Prop :=
  True

def Pre_PoolGroupRefIdeal (m : (ℓ : Loc Cert.PoolGroupRefIdeal.nD Cert.PoolGroupRefIdeal.τ Cert.PoolGroupRefIdeal.sig) → Buf (Elt Ideal) ℓ) : Prop :=
  True

def Pre_PoolWindow (m : (ℓ : Loc Cert.PoolWindow.nD Cert.PoolWindow.τ Cert.PoolWindow.sig) → Buf (Elt Bits) ℓ) : Prop :=
  True

def Pre_PoolWindowIdeal (m : (ℓ : Loc Cert.PoolWindowIdeal.nD Cert.PoolWindowIdeal.τ Cert.PoolWindowIdeal.sig) → Buf (Elt Ideal) ℓ) : Prop :=
  True

def Pre_PoolWindowIdeal_finite_poolwindow [hPre_finite_poolwindow : Cert.Pre_finite_poolwindow.Facts] (m : (ℓ : Loc Cert.PoolWindowIdeal.nD Cert.PoolWindowIdeal.τ Cert.PoolWindowIdeal.sig) → Buf (Elt Ideal) ℓ) : Prop :=
  ∀ c : Dev Cert.PoolWindowIdeal.nD,
    (Cert.Pre_finite_poolwindow.fn (F := Ideal) (m ((c.tc : Thread Cert.PoolWindowIdeal.nD Cert.PoolWindowIdeal.τ).loc Cert.PoolWindowIdeal.main_arg0)) (m ((c.tc : Thread Cert.PoolWindowIdeal.nD Cert.PoolWindowIdeal.τ).loc Cert.PoolWindowIdeal.main_arg1))) = (fun _ => 1#1)

def Pre_PoolWindowRefIdeal (m : (ℓ : Loc Cert.PoolWindowRefIdeal.nD Cert.PoolWindowRefIdeal.τ Cert.PoolWindowRefIdeal.sig) → Buf (Elt Ideal) ℓ) : Prop :=
  True

def Pre_PoolWindowRefIdeal_finite_poolwindow [hPre_finite_poolwindow : Cert.Pre_finite_poolwindow.Facts] (m : (ℓ : Loc Cert.PoolWindowRefIdeal.nD Cert.PoolWindowRefIdeal.τ Cert.PoolWindowRefIdeal.sig) → Buf (Elt Ideal) ℓ) : Prop :=
  ∀ c : Dev Cert.PoolWindowRefIdeal.nD,
    (Cert.Pre_finite_poolwindow.fn (F := Ideal) (m ((c.tc : Thread Cert.PoolWindowRefIdeal.nD Cert.PoolWindowRefIdeal.τ).loc Cert.PoolWindowRefIdeal.main_arg0)) (m ((c.tc : Thread Cert.PoolWindowRefIdeal.nD Cert.PoolWindowRefIdeal.τ).loc Cert.PoolWindowRefIdeal.main_arg1))) = (fun _ => 1#1)

def Pre_QkNormBwd (m : (ℓ : Loc Cert.QkNormBwd.nD Cert.QkNormBwd.τ Cert.QkNormBwd.sig) → Buf (Elt Bits) ℓ) : Prop :=
  True

def Pre_QkNormBwdIdeal (m : (ℓ : Loc Cert.QkNormBwdIdeal.nD Cert.QkNormBwdIdeal.τ Cert.QkNormBwdIdeal.sig) → Buf (Elt Ideal) ℓ) : Prop :=
  True

def Pre_QkNormBwdIdeal_finite_qknorm [hPre_finite_qknorm : Cert.Pre_finite_qknorm.Facts] (m : (ℓ : Loc Cert.QkNormBwdIdeal.nD Cert.QkNormBwdIdeal.τ Cert.QkNormBwdIdeal.sig) → Buf (Elt Ideal) ℓ) : Prop :=
  ∀ c : Dev Cert.QkNormBwdIdeal.nD,
    (Cert.Pre_finite_qknorm.fn (F := Ideal) (m ((c.tc : Thread Cert.QkNormBwdIdeal.nD Cert.QkNormBwdIdeal.τ).loc Cert.QkNormBwdIdeal.main_arg0)) (m ((c.tc : Thread Cert.QkNormBwdIdeal.nD Cert.QkNormBwdIdeal.τ).loc Cert.QkNormBwdIdeal.main_arg1)) (m ((c.tc : Thread Cert.QkNormBwdIdeal.nD Cert.QkNormBwdIdeal.τ).loc Cert.QkNormBwdIdeal.main_arg2)) (m ((c.tc : Thread Cert.QkNormBwdIdeal.nD Cert.QkNormBwdIdeal.τ).loc Cert.QkNormBwdIdeal.main_arg3)) (m ((c.tc : Thread Cert.QkNormBwdIdeal.nD Cert.QkNormBwdIdeal.τ).loc Cert.QkNormBwdIdeal.main_arg4)) (m ((c.tc : Thread Cert.QkNormBwdIdeal.nD Cert.QkNormBwdIdeal.τ).loc Cert.QkNormBwdIdeal.main_arg5))) = (fun _ => 1#1)

def Pre_QkNormBwdRefIdeal (m : (ℓ : Loc Cert.QkNormBwdRefIdeal.nD Cert.QkNormBwdRefIdeal.τ Cert.QkNormBwdRefIdeal.sig) → Buf (Elt Ideal) ℓ) : Prop :=
  True

def Pre_QkNormBwdRefIdeal_finite_qknorm [hPre_finite_qknorm : Cert.Pre_finite_qknorm.Facts] (m : (ℓ : Loc Cert.QkNormBwdRefIdeal.nD Cert.QkNormBwdRefIdeal.τ Cert.QkNormBwdRefIdeal.sig) → Buf (Elt Ideal) ℓ) : Prop :=
  ∀ c : Dev Cert.QkNormBwdRefIdeal.nD,
    (Cert.Pre_finite_qknorm.fn (F := Ideal) (m ((c.tc : Thread Cert.QkNormBwdRefIdeal.nD Cert.QkNormBwdRefIdeal.τ).loc Cert.QkNormBwdRefIdeal.main_arg0)) (m ((c.tc : Thread Cert.QkNormBwdRefIdeal.nD Cert.QkNormBwdRefIdeal.τ).loc Cert.QkNormBwdRefIdeal.main_arg1)) (m ((c.tc : Thread Cert.QkNormBwdRefIdeal.nD Cert.QkNormBwdRefIdeal.τ).loc Cert.QkNormBwdRefIdeal.main_arg2)) (m ((c.tc : Thread Cert.QkNormBwdRefIdeal.nD Cert.QkNormBwdRefIdeal.τ).loc Cert.QkNormBwdRefIdeal.main_arg3)) (m ((c.tc : Thread Cert.QkNormBwdRefIdeal.nD Cert.QkNormBwdRefIdeal.τ).loc Cert.QkNormBwdRefIdeal.main_arg4)) (m ((c.tc : Thread Cert.QkNormBwdRefIdeal.nD Cert.QkNormBwdRefIdeal.τ).loc Cert.QkNormBwdRefIdeal.main_arg5))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_RmsNorm (m : (ℓ : Loc Cert.RmsNorm.nD Cert.RmsNorm.τ Cert.RmsNorm.sig) → Buf (Elt Bits) ℓ) : Prop :=
  True

def Pre_RmsNormIdeal (m : (ℓ : Loc Cert.RmsNormIdeal.nD Cert.RmsNormIdeal.τ Cert.RmsNormIdeal.sig) → Buf (Elt Ideal) ℓ) : Prop :=
  True

def Pre_RmsNormRefIdeal (m : (ℓ : Loc Cert.RmsNormRefIdeal.nD Cert.RmsNormRefIdeal.τ Cert.RmsNormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnfwd [hPre_finite_attnfwd : Cert.Pre_finite_attnfwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnfwd [hPre_finite_attnfwd : Cert.Pre_finite_attnfwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_QkNorm (m : (ℓ : Loc Cert.QkNorm.nD Cert.QkNorm.τ Cert.QkNorm.sig) → Buf (Elt Bits) ℓ) : Prop :=
  True

def Pre_QkNormIdeal (m : (ℓ : Loc Cert.QkNormIdeal.nD Cert.QkNormIdeal.τ Cert.QkNormIdeal.sig) → Buf (Elt Ideal) ℓ) : Prop :=
  True

def Pre_QkNormRefIdeal (m : (ℓ : Loc Cert.QkNormRefIdeal.nD Cert.QkNormRefIdeal.τ Cert.QkNormRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactIdeal_pre_finite_dact [hFfnDactIdeal : Cert.FfnDactIdeal.Facts] [hPre_finite_dact : Cert.Pre_finite_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite_dact m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDactRefIdeal_pre_finite_dact [hFfnDactRefIdeal : Cert.FfnDactRefIdeal.Facts] [hPre_finite_dact : Cert.Pre_finite_dact.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_finite_dact m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxIdeal_pre_finite_ffndx [hFfnDxIdeal : Cert.FfnDxIdeal.Facts] [hPre_finite_ffndx : Cert.Pre_finite_ffndx.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_finite_ffndx m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_FfnDxRefIdeal_pre_finite_ffndx [hFfnDxRefIdeal : Cert.FfnDxRefIdeal.Facts] [hPre_finite_ffndx : Cert.Pre_finite_ffndx.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_finite_ffndx m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1)
      ∧ r.2.mem ((c.tc : Thread Cert.PoolDx.nD Cert.PoolDx.τ).loc Cert.PoolDx.main_arg2) = m ((c.tc : Thread Cert.PoolDx.nD Cert.PoolDx.τ).loc Cert.PoolDx.main_arg2)
      ∧ r.2.mem ((c.tc : Thread Cert.PoolDx.nD Cert.PoolDx.τ).loc Cert.PoolDx.main_arg3) = m ((c.tc : Thread Cert.PoolDx.nD Cert.PoolDx.τ).loc Cert.PoolDx.main_arg3)
      ∧ r.2.mem ((c.tc : Thread Cert.PoolDx.nD Cert.PoolDx.τ).loc Cert.PoolDx.main_arg4) = m ((c.tc : Thread Cert.PoolDx.nD Cert.PoolDx.τ).loc Cert.PoolDx.main_arg4))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1)
      ∧ r.2.mem ((c.tc : Thread Cert.PoolDxIdeal.nD Cert.PoolDxIdeal.τ).loc Cert.PoolDxIdeal.main_arg2) = m ((c.tc : Thread Cert.PoolDxIdeal.nD Cert.PoolDxIdeal.τ).loc Cert.PoolDxIdeal.main_arg2)
      ∧ r.2.mem ((c.tc : Thread Cert.PoolDxIdeal.nD Cert.PoolDxIdeal.τ).loc Cert.PoolDxIdeal.main_arg3) = m ((c.tc : Thread Cert.PoolDxIdeal.nD Cert.PoolDxIdeal.τ).loc Cert.PoolDxIdeal.main_arg3)
      ∧ r.2.mem ((c.tc : Thread Cert.PoolDxIdeal.nD Cert.PoolDxIdeal.τ).loc Cert.PoolDxIdeal.main_arg4) = m ((c.tc : Thread Cert.PoolDxIdeal.nD Cert.PoolDxIdeal.τ).loc Cert.PoolDxIdeal.main_arg4))
      ∧ r.2.sem = fun _ => 0)

def quiescent_PoolDxIdeal_pre_finite_pooldx [hPoolDxIdeal : Cert.PoolDxIdeal.Facts] [hPre_finite_pooldx : Cert.Pre_finite_pooldx.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal_finite_pooldx m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1)
      ∧ r.2.mem ((c.tc : Thread Cert.PoolDxIdeal.nD Cert.PoolDxIdeal.τ).loc Cert.PoolDxIdeal.main_arg2) = m ((c.tc : Thread Cert.PoolDxIdeal.nD Cert.PoolDxIdeal.τ).loc Cert.PoolDxIdeal.main_arg2)
      ∧ r.2.mem ((c.tc : Thread Cert.PoolDxIdeal.nD Cert.PoolDxIdeal.τ).loc Cert.PoolDxIdeal.main_arg3) = m ((c.tc : Thread Cert.PoolDxIdeal.nD Cert.PoolDxIdeal.τ).loc Cert.PoolDxIdeal.main_arg3)
      ∧ r.2.mem ((c.tc : Thread Cert.PoolDxIdeal.nD Cert.PoolDxIdeal.τ).loc Cert.PoolDxIdeal.main_arg4) = m ((c.tc : Thread Cert.PoolDxIdeal.nD Cert.PoolDxIdeal.τ).loc Cert.PoolDxIdeal.main_arg4))
      ∧ r.2.sem = fun _ => 0)

def quiescent_PoolDxRefIdeal [hPoolDxRefIdeal : Cert.PoolDxRefIdeal.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1)
      ∧ r.2.mem ((c.tc : Thread Cert.PoolDxRefIdeal.nD Cert.PoolDxRefIdeal.τ).loc Cert.PoolDxRefIdeal.main_arg2) = m ((c.tc : Thread Cert.PoolDxRefIdeal.nD Cert.PoolDxRefIdeal.τ).loc Cert.PoolDxRefIdeal.main_arg2)
      ∧ r.2.mem ((c.tc : Thread Cert.PoolDxRefIdeal.nD Cert.PoolDxRefIdeal.τ).loc Cert.PoolDxRefIdeal.main_arg3) = m ((c.tc : Thread Cert.PoolDxRefIdeal.nD Cert.PoolDxRefIdeal.τ).loc Cert.PoolDxRefIdeal.main_arg3)
      ∧ r.2.mem ((c.tc : Thread Cert.PoolDxRefIdeal.nD Cert.PoolDxRefIdeal.τ).loc Cert.PoolDxRefIdeal.main_arg4) = m ((c.tc : Thread Cert.PoolDxRefIdeal.nD Cert.PoolDxRefIdeal.τ).loc Cert.PoolDxRefIdeal.main_arg4))
      ∧ r.2.sem = fun _ => 0)

def quiescent_PoolDxRefIdeal_pre_finite_pooldx [hPoolDxRefIdeal : Cert.PoolDxRefIdeal.Facts] [hPre_finite_pooldx : Cert.Pre_finite_pooldx.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal_finite_pooldx m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1)
      ∧ r.2.mem ((c.tc : Thread Cert.PoolDxRefIdeal.nD Cert.PoolDxRefIdeal.τ).loc Cert.PoolDxRefIdeal.main_arg2) = m ((c.tc : Thread Cert.PoolDxRefIdeal.nD Cert.PoolDxRefIdeal.τ).loc Cert.PoolDxRefIdeal.main_arg2)
      ∧ r.2.mem ((c.tc : Thread Cert.PoolDxRefIdeal.nD Cert.PoolDxRefIdeal.τ).loc Cert.PoolDxRefIdeal.main_arg3) = m ((c.tc : Thread Cert.PoolDxRefIdeal.nD Cert.PoolDxRefIdeal.τ).loc Cert.PoolDxRefIdeal.main_arg3)
      ∧ r.2.mem ((c.tc : Thread Cert.PoolDxRefIdeal.nD Cert.PoolDxRefIdeal.τ).loc Cert.PoolDxRefIdeal.main_arg4) = m ((c.tc : Thread Cert.PoolDxRefIdeal.nD Cert.PoolDxRefIdeal.τ).loc Cert.PoolDxRefIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdIdeal_pre_finite_ple [hPleBwdIdeal : Cert.PleBwdIdeal.Facts] [hPre_finite_ple : Cert.Pre_finite_ple.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal_finite_ple m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_PleBwdRefIdeal_pre_finite_ple [hPleBwdRefIdeal : Cert.PleBwdRefIdeal.Facts] [hPre_finite_ple : Cert.Pre_finite_ple.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal_finite_ple m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_PoolGroup [hPoolGroup : Cert.PoolGroup.Facts] : Prop :=
  ∀ (m : (ℓ : Loc Cert.PoolGroup.nD Cert.PoolGroup.τ Cert.PoolGroup.sig) → Buf (Elt Bits) ℓ) (g : Dev Cert.PoolGroup.nD → PrngReg), Pre_PoolGroup m →
    θ_run (Cert.PoolGroup.defs (F := Bits)) (onTc (τ := Cert.PoolGroup.τ) (Cert.PoolGroup.main (F := Bits))) ⟨m, fun _ => 0, g⟩ (fun r => (∀ c : Dev Cert.PoolGroup.nD,
      r.2.mem ((c.tc : Thread Cert.PoolGroup.nD Cert.PoolGroup.τ).loc Cert.PoolGroup.main_arg0) = m ((c.tc : Thread Cert.PoolGroup.nD Cert.PoolGroup.τ).loc Cert.PoolGroup.main_arg0)
      ∧ r.2.mem ((c.tc : Thread Cert.PoolGroup.nD Cert.PoolGroup.τ).loc Cert.PoolGroup.main_arg1) = m ((c.tc : Thread Cert.PoolGroup.nD Cert.PoolGroup.τ).loc Cert.PoolGroup.main_arg1)
      ∧ r.2.mem ((c.tc : Thread Cert.PoolGroup.nD Cert.PoolGroup.τ).loc Cert.PoolGroup.main_arg2) = m ((c.tc : Thread Cert.PoolGroup.nD Cert.PoolGroup.τ).loc Cert.PoolGroup.main_arg2)
      ∧ r.2.mem ((c.tc : Thread Cert.PoolGroup.nD Cert.PoolGroup.τ).loc Cert.PoolGroup.main_arg3) = m ((c.tc : Thread Cert.PoolGroup.nD Cert.PoolGroup.τ).loc Cert.PoolGroup.main_arg3))
      ∧ r.2.sem = fun _ => 0)

def quiescent_PoolGroupIdeal [hPoolGroupIdeal : Cert.PoolGroupIdeal.Facts] : Prop :=
  ∀ (m : (ℓ : Loc Cert.PoolGroupIdeal.nD Cert.PoolGroupIdeal.τ Cert.PoolGroupIdeal.sig) → Buf (Elt Ideal) ℓ) (g : Dev Cert.PoolGroupIdeal.nD → PrngReg), Pre_PoolGroupIdeal m →
    θ_run (Cert.PoolGroupIdeal.defs (F := Ideal)) (onTc (τ := Cert.PoolGroupIdeal.τ) (Cert.PoolGroupIdeal.main (F := Ideal))) ⟨m, fun _ => 0, g⟩ (fun r => (∀ c : Dev Cert.PoolGroupIdeal.nD,
      r.2.mem ((c.tc : Thread Cert.PoolGroupIdeal.nD Cert.PoolGroupIdeal.τ).loc Cert.PoolGroupIdeal.main_arg0) = m ((c.tc : Thread Cert.PoolGroupIdeal.nD Cert.PoolGroupIdeal.τ).loc Cert.PoolGroupIdeal.main_arg0)
      ∧ r.2.mem ((c.tc : Thread Cert.PoolGroupIdeal.nD Cert.PoolGroupIdeal.τ).loc Cert.PoolGroupIdeal.main_arg1) = m ((c.tc : Thread Cert.PoolGroupIdeal.nD Cert.PoolGroupIdeal.τ).loc Cert.PoolGroupIdeal.main_arg1)
      ∧ r.2.mem ((c.tc : Thread Cert.PoolGroupIdeal.nD Cert.PoolGroupIdeal.τ).loc Cert.PoolGroupIdeal.main_arg2) = m ((c.tc : Thread Cert.PoolGroupIdeal.nD Cert.PoolGroupIdeal.τ).loc Cert.PoolGroupIdeal.main_arg2)
      ∧ r.2.mem ((c.tc : Thread Cert.PoolGroupIdeal.nD Cert.PoolGroupIdeal.τ).loc Cert.PoolGroupIdeal.main_arg3) = m ((c.tc : Thread Cert.PoolGroupIdeal.nD Cert.PoolGroupIdeal.τ).loc Cert.PoolGroupIdeal.main_arg3))
      ∧ r.2.sem = fun _ => 0)

def quiescent_PoolGroupRefIdeal [hPoolGroupRefIdeal : Cert.PoolGroupRefIdeal.Facts] : Prop :=
  ∀ (m : (ℓ : Loc Cert.PoolGroupRefIdeal.nD Cert.PoolGroupRefIdeal.τ Cert.PoolGroupRefIdeal.sig) → Buf (Elt Ideal) ℓ) (g : Dev Cert.PoolGroupRefIdeal.nD → PrngReg), Pre_PoolGroupRefIdeal m →
    θ_run (Cert.PoolGroupRefIdeal.defs (F := Ideal)) (onTc (τ := Cert.PoolGroupRefIdeal.τ) (Cert.PoolGroupRefIdeal.main (F := Ideal))) ⟨m, fun _ => 0, g⟩ (fun r => (∀ c : Dev Cert.PoolGroupRefIdeal.nD,
      r.2.mem ((c.tc : Thread Cert.PoolGroupRefIdeal.nD Cert.PoolGroupRefIdeal.τ).loc Cert.PoolGroupRefIdeal.main_arg0) = m ((c.tc : Thread Cert.PoolGroupRefIdeal.nD Cert.PoolGroupRefIdeal.τ).loc Cert.PoolGroupRefIdeal.main_arg0)
      ∧ r.2.mem ((c.tc : Thread Cert.PoolGroupRefIdeal.nD Cert.PoolGroupRefIdeal.τ).loc Cert.PoolGroupRefIdeal.main_arg1) = m ((c.tc : Thread Cert.PoolGroupRefIdeal.nD Cert.PoolGroupRefIdeal.τ).loc Cert.PoolGroupRefIdeal.main_arg1)
      ∧ r.2.mem ((c.tc : Thread Cert.PoolGroupRefIdeal.nD Cert.PoolGroupRefIdeal.τ).loc Cert.PoolGroupRefIdeal.main_arg2) = m ((c.tc : Thread Cert.PoolGroupRefIdeal.nD Cert.PoolGroupRefIdeal.τ).loc Cert.PoolGroupRefIdeal.main_arg2)
      ∧ r.2.mem ((c.tc : Thread Cert.PoolGroupRefIdeal.nD Cert.PoolGroupRefIdeal.τ).loc Cert.PoolGroupRefIdeal.main_arg3) = m ((c.tc : Thread Cert.PoolGroupRefIdeal.nD Cert.PoolGroupRefIdeal.τ).loc Cert.PoolGroupRefIdeal.main_arg3))
      ∧ r.2.sem = fun _ => 0)

def quiescent_PoolWindow [hPoolWindow : Cert.PoolWindow.Facts] : Prop :=
  ∀ (m : (ℓ : Loc Cert.PoolWindow.nD Cert.PoolWindow.τ Cert.PoolWindow.sig) → Buf (Elt Bits) ℓ) (g : Dev Cert.PoolWindow.nD → PrngReg), Pre_PoolWindow m →
    θ_run (Cert.PoolWindow.defs (F := Bits)) (onTc (τ := Cert.PoolWindow.τ) (Cert.PoolWindow.main (F := Bits))) ⟨m, fun _ => 0, g⟩ (fun r => (∀ c : Dev Cert.PoolWindow.nD,
      r.2.mem ((c.tc : Thread Cert.PoolWindow.nD Cert.PoolWindow.τ).loc Cert.PoolWindow.main_arg0) = m ((c.tc : Thread Cert.PoolWindow.nD Cert.PoolWindow.τ).loc Cert.PoolWindow.main_arg0)
      ∧ r.2.mem ((c.tc : Thread Cert.PoolWindow.nD Cert.PoolWindow.τ).loc Cert.PoolWindow.main_arg1) = m ((c.tc : Thread Cert.PoolWindow.nD Cert.PoolWindow.τ).loc Cert.PoolWindow.main_arg1))
      ∧ r.2.sem = fun _ => 0)

def quiescent_PoolWindowIdeal [hPoolWindowIdeal : Cert.PoolWindowIdeal.Facts] : Prop :=
  ∀ (m : (ℓ : Loc Cert.PoolWindowIdeal.nD Cert.PoolWindowIdeal.τ Cert.PoolWindowIdeal.sig) → Buf (Elt Ideal) ℓ) (g : Dev Cert.PoolWindowIdeal.nD → PrngReg), Pre_PoolWindowIdeal m →
    θ_run (Cert.PoolWindowIdeal.defs (F := Ideal)) (onTc (τ := Cert.PoolWindowIdeal.τ) (Cert.PoolWindowIdeal.main (F := Ideal))) ⟨m, fun _ => 0, g⟩ (fun r => (∀ c : Dev Cert.PoolWindowIdeal.nD,
      r.2.mem ((c.tc : Thread Cert.PoolWindowIdeal.nD Cert.PoolWindowIdeal.τ).loc Cert.PoolWindowIdeal.main_arg0) = m ((c.tc : Thread Cert.PoolWindowIdeal.nD Cert.PoolWindowIdeal.τ).loc Cert.PoolWindowIdeal.main_arg0)
      ∧ r.2.mem ((c.tc : Thread Cert.PoolWindowIdeal.nD Cert.PoolWindowIdeal.τ).loc Cert.PoolWindowIdeal.main_arg1) = m ((c.tc : Thread Cert.PoolWindowIdeal.nD Cert.PoolWindowIdeal.τ).loc Cert.PoolWindowIdeal.main_arg1))
      ∧ r.2.sem = fun _ => 0)

def quiescent_PoolWindowIdeal_pre_finite_poolwindow [hPoolWindowIdeal : Cert.PoolWindowIdeal.Facts] [hPre_finite_poolwindow : Cert.Pre_finite_poolwindow.Facts] : Prop :=
  ∀ (m : (ℓ : Loc Cert.PoolWindowIdeal.nD Cert.PoolWindowIdeal.τ Cert.PoolWindowIdeal.sig) → Buf (Elt Ideal) ℓ) (g : Dev Cert.PoolWindowIdeal.nD → PrngReg), Pre_PoolWindowIdeal_finite_poolwindow m →
    θ_run (Cert.PoolWindowIdeal.defs (F := Ideal)) (onTc (τ := Cert.PoolWindowIdeal.τ) (Cert.PoolWindowIdeal.main (F := Ideal))) ⟨m, fun _ => 0, g⟩ (fun r => (∀ c : Dev Cert.PoolWindowIdeal.nD,
      r.2.mem ((c.tc : Thread Cert.PoolWindowIdeal.nD Cert.PoolWindowIdeal.τ).loc Cert.PoolWindowIdeal.main_arg0) = m ((c.tc : Thread Cert.PoolWindowIdeal.nD Cert.PoolWindowIdeal.τ).loc Cert.PoolWindowIdeal.main_arg0)
      ∧ r.2.mem ((c.tc : Thread Cert.PoolWindowIdeal.nD Cert.PoolWindowIdeal.τ).loc Cert.PoolWindowIdeal.main_arg1) = m ((c.tc : Thread Cert.PoolWindowIdeal.nD Cert.PoolWindowIdeal.τ).loc Cert.PoolWindowIdeal.main_arg1))
      ∧ r.2.sem = fun _ => 0)

def quiescent_PoolWindowRefIdeal [hPoolWindowRefIdeal : Cert.PoolWindowRefIdeal.Facts] : Prop :=
  ∀ (m : (ℓ : Loc Cert.PoolWindowRefIdeal.nD Cert.PoolWindowRefIdeal.τ Cert.PoolWindowRefIdeal.sig) → Buf (Elt Ideal) ℓ) (g : Dev Cert.PoolWindowRefIdeal.nD → PrngReg), Pre_PoolWindowRefIdeal m →
    θ_run (Cert.PoolWindowRefIdeal.defs (F := Ideal)) (onTc (τ := Cert.PoolWindowRefIdeal.τ) (Cert.PoolWindowRefIdeal.main (F := Ideal))) ⟨m, fun _ => 0, g⟩ (fun r => (∀ c : Dev Cert.PoolWindowRefIdeal.nD,
      r.2.mem ((c.tc : Thread Cert.PoolWindowRefIdeal.nD Cert.PoolWindowRefIdeal.τ).loc Cert.PoolWindowRefIdeal.main_arg0) = m ((c.tc : Thread Cert.PoolWindowRefIdeal.nD Cert.PoolWindowRefIdeal.τ).loc Cert.PoolWindowRefIdeal.main_arg0)
      ∧ r.2.mem ((c.tc : Thread Cert.PoolWindowRefIdeal.nD Cert.PoolWindowRefIdeal.τ).loc Cert.PoolWindowRefIdeal.main_arg1) = m ((c.tc : Thread Cert.PoolWindowRefIdeal.nD Cert.PoolWindowRefIdeal.τ).loc Cert.PoolWindowRefIdeal.main_arg1))
      ∧ r.2.sem = fun _ => 0)

def quiescent_PoolWindowRefIdeal_pre_finite_poolwindow [hPoolWindowRefIdeal : Cert.PoolWindowRefIdeal.Facts] [hPre_finite_poolwindow : Cert.Pre_finite_poolwindow.Facts] : Prop :=
  ∀ (m : (ℓ : Loc Cert.PoolWindowRefIdeal.nD Cert.PoolWindowRefIdeal.τ Cert.PoolWindowRefIdeal.sig) → Buf (Elt Ideal) ℓ) (g : Dev Cert.PoolWindowRefIdeal.nD → PrngReg), Pre_PoolWindowRefIdeal_finite_poolwindow m →
    θ_run (Cert.PoolWindowRefIdeal.defs (F := Ideal)) (onTc (τ := Cert.PoolWindowRefIdeal.τ) (Cert.PoolWindowRefIdeal.main (F := Ideal))) ⟨m, fun _ => 0, g⟩ (fun r => (∀ c : Dev Cert.PoolWindowRefIdeal.nD,
      r.2.mem ((c.tc : Thread Cert.PoolWindowRefIdeal.nD Cert.PoolWindowRefIdeal.τ).loc Cert.PoolWindowRefIdeal.main_arg0) = m ((c.tc : Thread Cert.PoolWindowRefIdeal.nD Cert.PoolWindowRefIdeal.τ).loc Cert.PoolWindowRefIdeal.main_arg0)
      ∧ r.2.mem ((c.tc : Thread Cert.PoolWindowRefIdeal.nD Cert.PoolWindowRefIdeal.τ).loc Cert.PoolWindowRefIdeal.main_arg1) = m ((c.tc : Thread Cert.PoolWindowRefIdeal.nD Cert.PoolWindowRefIdeal.τ).loc Cert.PoolWindowRefIdeal.main_arg1))
      ∧ r.2.sem = fun _ => 0)

def quiescent_QkNormBwd [hQkNormBwd : Cert.QkNormBwd.Facts] : Prop :=
  ∀ (m : (ℓ : Loc Cert.QkNormBwd.nD Cert.QkNormBwd.τ Cert.QkNormBwd.sig) → Buf (Elt Bits) ℓ) (g : Dev Cert.QkNormBwd.nD → PrngReg), Pre_QkNormBwd m →
    θ_run (Cert.QkNormBwd.defs (F := Bits)) (onTc (τ := Cert.QkNormBwd.τ) (Cert.QkNormBwd.main (F := Bits))) ⟨m, fun _ => 0, g⟩ (fun r => (∀ c : Dev Cert.QkNormBwd.nD,
      r.2.mem ((c.tc : Thread Cert.QkNormBwd.nD Cert.QkNormBwd.τ).loc Cert.QkNormBwd.main_arg0) = m ((c.tc : Thread Cert.QkNormBwd.nD Cert.QkNormBwd.τ).loc Cert.QkNormBwd.main_arg0)
      ∧ r.2.mem ((c.tc : Thread Cert.QkNormBwd.nD Cert.QkNormBwd.τ).loc Cert.QkNormBwd.main_arg1) = m ((c.tc : Thread Cert.QkNormBwd.nD Cert.QkNormBwd.τ).loc Cert.QkNormBwd.main_arg1)
      ∧ r.2.mem ((c.tc : Thread Cert.QkNormBwd.nD Cert.QkNormBwd.τ).loc Cert.QkNormBwd.main_arg2) = m ((c.tc : Thread Cert.QkNormBwd.nD Cert.QkNormBwd.τ).loc Cert.QkNormBwd.main_arg2)
      ∧ r.2.mem ((c.tc : Thread Cert.QkNormBwd.nD Cert.QkNormBwd.τ).loc Cert.QkNormBwd.main_arg3) = m ((c.tc : Thread Cert.QkNormBwd.nD Cert.QkNormBwd.τ).loc Cert.QkNormBwd.main_arg3)
      ∧ r.2.mem ((c.tc : Thread Cert.QkNormBwd.nD Cert.QkNormBwd.τ).loc Cert.QkNormBwd.main_arg4) = m ((c.tc : Thread Cert.QkNormBwd.nD Cert.QkNormBwd.τ).loc Cert.QkNormBwd.main_arg4)
      ∧ r.2.mem ((c.tc : Thread Cert.QkNormBwd.nD Cert.QkNormBwd.τ).loc Cert.QkNormBwd.main_arg5) = m ((c.tc : Thread Cert.QkNormBwd.nD Cert.QkNormBwd.τ).loc Cert.QkNormBwd.main_arg5))
      ∧ r.2.sem = fun _ => 0)

def quiescent_QkNormBwdIdeal [hQkNormBwdIdeal : Cert.QkNormBwdIdeal.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg), Pre_QkNormBwdIdeal m →
    θ_run (Cert.QkNormBwdIdeal.defs (F := Ideal)) (onTc (τ := Cert.QkNormBwdIdeal.τ) (Cert.QkNormBwdIdeal.main (F := Ideal))) ⟨m, fun _ => 0, g⟩ (fun r => (∀ c : Dev Cert.QkNormBwdIdeal.nD,
      r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
      ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
      ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
      ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
      ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
      ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ r.2.sem = fun _ => 0)

def quiescent_QkNormBwdIdeal_pre_finite_qknorm [hQkNormBwdIdeal : Cert.QkNormBwdIdeal.Facts] [hPre_finite_qknorm : Cert.Pre_finite_qknorm.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg), Pre_QkNormBwdIdeal_finite_qknorm m →
    θ_run (Cert.QkNormBwdIdeal.defs (F := Ideal)) (onTc (τ := Cert.QkNormBwdIdeal.τ) (Cert.QkNormBwdIdeal.main (F := Ideal))) ⟨m, fun _ => 0, g⟩ (fun r => (∀ c : Dev Cert.QkNormBwdIdeal.nD,
      r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
      ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
      ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
      ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
      ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
      ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ r.2.sem = fun _ => 0)

def quiescent_QkNormBwdRefIdeal [hQkNormBwdRefIdeal : Cert.QkNormBwdRefIdeal.Facts] : Prop :=
  ∀ (m : (ℓ : Loc Cert.QkNormBwdRefIdeal.nD Cert.QkNormBwdRefIdeal.τ Cert.QkNormBwdRefIdeal.sig) → Buf (Elt Ideal) ℓ) (g : Dev Cert.QkNormBwdRefIdeal.nD → PrngReg), Pre_QkNormBwdRefIdeal m →
    θ_run (Cert.QkNormBwdRefIdeal.defs (F := Ideal)) (onTc (τ := Cert.QkNormBwdRefIdeal.τ) (Cert.QkNormBwdRefIdeal.main (F := Ideal))) ⟨m, fun _ => 0, g⟩ (fun r => (∀ c : Dev Cert.QkNormBwdRefIdeal.nD,
      r.2.mem ((c.tc : Thread Cert.QkNormBwdRefIdeal.nD Cert.QkNormBwdRefIdeal.τ).loc Cert.QkNormBwdRefIdeal.main_arg0) = m ((c.tc : Thread Cert.QkNormBwdRefIdeal.nD Cert.QkNormBwdRefIdeal.τ).loc Cert.QkNormBwdRefIdeal.main_arg0)
      ∧ r.2.mem ((c.tc : Thread Cert.QkNormBwdRefIdeal.nD Cert.QkNormBwdRefIdeal.τ).loc Cert.QkNormBwdRefIdeal.main_arg1) = m ((c.tc : Thread Cert.QkNormBwdRefIdeal.nD Cert.QkNormBwdRefIdeal.τ).loc Cert.QkNormBwdRefIdeal.main_arg1)
      ∧ r.2.mem ((c.tc : Thread Cert.QkNormBwdRefIdeal.nD Cert.QkNormBwdRefIdeal.τ).loc Cert.QkNormBwdRefIdeal.main_arg2) = m ((c.tc : Thread Cert.QkNormBwdRefIdeal.nD Cert.QkNormBwdRefIdeal.τ).loc Cert.QkNormBwdRefIdeal.main_arg2)
      ∧ r.2.mem ((c.tc : Thread Cert.QkNormBwdRefIdeal.nD Cert.QkNormBwdRefIdeal.τ).loc Cert.QkNormBwdRefIdeal.main_arg3) = m ((c.tc : Thread Cert.QkNormBwdRefIdeal.nD Cert.QkNormBwdRefIdeal.τ).loc Cert.QkNormBwdRefIdeal.main_arg3)
      ∧ r.2.mem ((c.tc : Thread Cert.QkNormBwdRefIdeal.nD Cert.QkNormBwdRefIdeal.τ).loc Cert.QkNormBwdRefIdeal.main_arg4) = m ((c.tc : Thread Cert.QkNormBwdRefIdeal.nD Cert.QkNormBwdRefIdeal.τ).loc Cert.QkNormBwdRefIdeal.main_arg4)
      ∧ r.2.mem ((c.tc : Thread Cert.QkNormBwdRefIdeal.nD Cert.QkNormBwdRefIdeal.τ).loc Cert.QkNormBwdRefIdeal.main_arg5) = m ((c.tc : Thread Cert.QkNormBwdRefIdeal.nD Cert.QkNormBwdRefIdeal.τ).loc Cert.QkNormBwdRefIdeal.main_arg5))
      ∧ r.2.sem = fun _ => 0)

def quiescent_QkNormBwdRefIdeal_pre_finite_qknorm [hQkNormBwdRefIdeal : Cert.QkNormBwdRefIdeal.Facts] [hPre_finite_qknorm : Cert.Pre_finite_qknorm.Facts] : Prop :=
  ∀ (m : (ℓ : Loc Cert.QkNormBwdRefIdeal.nD Cert.QkNormBwdRefIdeal.τ Cert.QkNormBwdRefIdeal.sig) → Buf (Elt Ideal) ℓ) (g : Dev Cert.QkNormBwdRefIdeal.nD → PrngReg), Pre_QkNormBwdRefIdeal_finite_qknorm m →
    θ_run (Cert.QkNormBwdRefIdeal.defs (F := Ideal)) (onTc (τ := Cert.QkNormBwdRefIdeal.τ) (Cert.QkNormBwdRefIdeal.main (F := Ideal))) ⟨m, fun _ => 0, g⟩ (fun r => (∀ c : Dev Cert.QkNormBwdRefIdeal.nD,
      r.2.mem ((c.tc : Thread Cert.QkNormBwdRefIdeal.nD Cert.QkNormBwdRefIdeal.τ).loc Cert.QkNormBwdRefIdeal.main_arg0) = m ((c.tc : Thread Cert.QkNormBwdRefIdeal.nD Cert.QkNormBwdRefIdeal.τ).loc Cert.QkNormBwdRefIdeal.main_arg0)
      ∧ r.2.mem ((c.tc : Thread Cert.QkNormBwdRefIdeal.nD Cert.QkNormBwdRefIdeal.τ).loc Cert.QkNormBwdRefIdeal.main_arg1) = m ((c.tc : Thread Cert.QkNormBwdRefIdeal.nD Cert.QkNormBwdRefIdeal.τ).loc Cert.QkNormBwdRefIdeal.main_arg1)
      ∧ r.2.mem ((c.tc : Thread Cert.QkNormBwdRefIdeal.nD Cert.QkNormBwdRefIdeal.τ).loc Cert.QkNormBwdRefIdeal.main_arg2) = m ((c.tc : Thread Cert.QkNormBwdRefIdeal.nD Cert.QkNormBwdRefIdeal.τ).loc Cert.QkNormBwdRefIdeal.main_arg2)
      ∧ r.2.mem ((c.tc : Thread Cert.QkNormBwdRefIdeal.nD Cert.QkNormBwdRefIdeal.τ).loc Cert.QkNormBwdRefIdeal.main_arg3) = m ((c.tc : Thread Cert.QkNormBwdRefIdeal.nD Cert.QkNormBwdRefIdeal.τ).loc Cert.QkNormBwdRefIdeal.main_arg3)
      ∧ r.2.mem ((c.tc : Thread Cert.QkNormBwdRefIdeal.nD Cert.QkNormBwdRefIdeal.τ).loc Cert.QkNormBwdRefIdeal.main_arg4) = m ((c.tc : Thread Cert.QkNormBwdRefIdeal.nD Cert.QkNormBwdRefIdeal.τ).loc Cert.QkNormBwdRefIdeal.main_arg4)
      ∧ r.2.mem ((c.tc : Thread Cert.QkNormBwdRefIdeal.nD Cert.QkNormBwdRefIdeal.τ).loc Cert.QkNormBwdRefIdeal.main_arg5) = m ((c.tc : Thread Cert.QkNormBwdRefIdeal.nD Cert.QkNormBwdRefIdeal.τ).loc Cert.QkNormBwdRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_RmsNorm [hRmsNorm : Cert.RmsNorm.Facts] : Prop :=
  ∀ (m : (ℓ : Loc Cert.RmsNorm.nD Cert.RmsNorm.τ Cert.RmsNorm.sig) → Buf (Elt Bits) ℓ) (g : Dev Cert.RmsNorm.nD → PrngReg), Pre_RmsNorm m →
    θ_run (Cert.RmsNorm.defs (F := Bits)) (onTc (τ := Cert.RmsNorm.τ) (Cert.RmsNorm.main (F := Bits))) ⟨m, fun _ => 0, g⟩ (fun r => (∀ c : Dev Cert.RmsNorm.nD,
      r.2.mem ((c.tc : Thread Cert.RmsNorm.nD Cert.RmsNorm.τ).loc Cert.RmsNorm.main_arg0) = m ((c.tc : Thread Cert.RmsNorm.nD Cert.RmsNorm.τ).loc Cert.RmsNorm.main_arg0)
      ∧ r.2.mem ((c.tc : Thread Cert.RmsNorm.nD Cert.RmsNorm.τ).loc Cert.RmsNorm.main_arg1) = m ((c.tc : Thread Cert.RmsNorm.nD Cert.RmsNorm.τ).loc Cert.RmsNorm.main_arg1))
      ∧ r.2.sem = fun _ => 0)

def quiescent_RmsNormIdeal [hRmsNormIdeal : Cert.RmsNormIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg), Pre_RmsNormIdeal m →
    θ_run (Cert.RmsNormIdeal.defs (F := Ideal)) (onTc (τ := Cert.RmsNormIdeal.τ) (Cert.RmsNormIdeal.main (F := Ideal))) ⟨m, fun _ => 0, g⟩ (fun r => (∀ c : Dev Cert.RmsNormIdeal.nD,
      r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
      ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ r.2.sem = fun _ => 0)

def quiescent_RmsNormRefIdeal [hRmsNormRefIdeal : Cert.RmsNormRefIdeal.Facts] : Prop :=
  ∀ (m : (ℓ : Loc Cert.RmsNormRefIdeal.nD Cert.RmsNormRefIdeal.τ Cert.RmsNormRefIdeal.sig) → Buf (Elt Ideal) ℓ) (g : Dev Cert.RmsNormRefIdeal.nD → PrngReg), Pre_RmsNormRefIdeal m →
    θ_run (Cert.RmsNormRefIdeal.defs (F := Ideal)) (onTc (τ := Cert.RmsNormRefIdeal.τ) (Cert.RmsNormRefIdeal.main (F := Ideal))) ⟨m, fun _ => 0, g⟩ (fun r => (∀ c : Dev Cert.RmsNormRefIdeal.nD,
      r.2.mem ((c.tc : Thread Cert.RmsNormRefIdeal.nD Cert.RmsNormRefIdeal.τ).loc Cert.RmsNormRefIdeal.main_arg0) = m ((c.tc : Thread Cert.RmsNormRefIdeal.nD Cert.RmsNormRefIdeal.τ).loc Cert.RmsNormRefIdeal.main_arg0)
      ∧ r.2.mem ((c.tc : Thread Cert.RmsNormRefIdeal.nD Cert.RmsNormRefIdeal.τ).loc Cert.RmsNormRefIdeal.main_arg1) = m ((c.tc : Thread Cert.RmsNormRefIdeal.nD Cert.RmsNormRefIdeal.τ).loc Cert.RmsNormRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attnfwd [hAttnFwdIdeal : Cert.AttnFwdIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnfwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attnfwd [hAttnFwdRefIdeal : Cert.AttnFwdRefIdeal.Facts] [hPre_finite_attnfwd : Cert.Pre_finite_attnfwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnfwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_QkNorm [hQkNorm : Cert.QkNorm.Facts] : Prop :=
  ∀ (m : (ℓ : Loc Cert.QkNorm.nD Cert.QkNorm.τ Cert.QkNorm.sig) → Buf (Elt Bits) ℓ) (g : Dev Cert.QkNorm.nD → PrngReg), Pre_QkNorm m →
    θ_run (Cert.QkNorm.defs (F := Bits)) (onTc (τ := Cert.QkNorm.τ) (Cert.QkNorm.main (F := Bits))) ⟨m, fun _ => 0, g⟩ (fun r => (∀ c : Dev Cert.QkNorm.nD,
      r.2.mem ((c.tc : Thread Cert.QkNorm.nD Cert.QkNorm.τ).loc Cert.QkNorm.main_arg0) = m ((c.tc : Thread Cert.QkNorm.nD Cert.QkNorm.τ).loc Cert.QkNorm.main_arg0)
      ∧ r.2.mem ((c.tc : Thread Cert.QkNorm.nD Cert.QkNorm.τ).loc Cert.QkNorm.main_arg1) = m ((c.tc : Thread Cert.QkNorm.nD Cert.QkNorm.τ).loc Cert.QkNorm.main_arg1)
      ∧ r.2.mem ((c.tc : Thread Cert.QkNorm.nD Cert.QkNorm.τ).loc Cert.QkNorm.main_arg2) = m ((c.tc : Thread Cert.QkNorm.nD Cert.QkNorm.τ).loc Cert.QkNorm.main_arg2))
      ∧ r.2.sem = fun _ => 0)

def quiescent_QkNormIdeal [hQkNormIdeal : Cert.QkNormIdeal.Facts] : Prop :=
  ∀ (m : (ℓ : Loc Cert.QkNormIdeal.nD Cert.QkNormIdeal.τ Cert.QkNormIdeal.sig) → Buf (Elt Ideal) ℓ) (g : Dev Cert.QkNormIdeal.nD → PrngReg), Pre_QkNormIdeal m →
    θ_run (Cert.QkNormIdeal.defs (F := Ideal)) (onTc (τ := Cert.QkNormIdeal.τ) (Cert.QkNormIdeal.main (F := Ideal))) ⟨m, fun _ => 0, g⟩ (fun r => (∀ c : Dev Cert.QkNormIdeal.nD,
      r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
      ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
      ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2))
      ∧ r.2.sem = fun _ => 0)

def quiescent_QkNormRefIdeal [hQkNormRefIdeal : Cert.QkNormRefIdeal.Facts] : Prop :=
  ∀ (m : (ℓ : Loc Cert.QkNormRefIdeal.nD Cert.QkNormRefIdeal.τ Cert.QkNormRefIdeal.sig) → Buf (Elt Ideal) ℓ) (g : Dev Cert.QkNormRefIdeal.nD → PrngReg), Pre_QkNormRefIdeal m →
    θ_run (Cert.QkNormRefIdeal.defs (F := Ideal)) (onTc (τ := Cert.QkNormRefIdeal.τ) (Cert.QkNormRefIdeal.main (F := Ideal))) ⟨m, fun _ => 0, g⟩ (fun r => (∀ c : Dev Cert.QkNormRefIdeal.nD,
      r.2.mem ((c.tc : Thread Cert.QkNormRefIdeal.nD Cert.QkNormRefIdeal.τ).loc Cert.QkNormRefIdeal.main_arg0) = m ((c.tc : Thread Cert.QkNormRefIdeal.nD Cert.QkNormRefIdeal.τ).loc Cert.QkNormRefIdeal.main_arg0)
      ∧ r.2.mem ((c.tc : Thread Cert.QkNormRefIdeal.nD Cert.QkNormRefIdeal.τ).loc Cert.QkNormRefIdeal.main_arg1) = m ((c.tc : Thread Cert.QkNormRefIdeal.nD Cert.QkNormRefIdeal.τ).loc Cert.QkNormRefIdeal.main_arg1)
      ∧ r.2.mem ((c.tc : Thread Cert.QkNormRefIdeal.nD Cert.QkNormRefIdeal.τ).loc Cert.QkNormRefIdeal.main_arg2) = m ((c.tc : Thread Cert.QkNormRefIdeal.nD Cert.QkNormRefIdeal.τ).loc Cert.QkNormRefIdeal.main_arg2))
      ∧ r.2.sem = fun _ => 0)

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v2)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v8) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_FfnDact_FfnDactIdeal : Prop :=
  True

def algebraic_FfnDactIdeal_FfnDactRefIdeal_pre_finite_dact [hFfnDactIdeal : Cert.FfnDactIdeal.Facts] [hFfnDactRefIdeal : Cert.FfnDactRefIdeal.Facts] [hPre_finite_dact : Cert.Pre_finite_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_finite_dact m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v9)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v9) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v19) = v0 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3))

def preserves_FfnDx_FfnDxIdeal : Prop :=
  True

def algebraic_FfnDxIdeal_FfnDxRefIdeal_pre_finite_ffndx [hFfnDxIdeal : Cert.FfnDxIdeal.Facts] [hFfnDxRefIdeal : Cert.FfnDxRefIdeal.Facts] [hPre_finite_ffndx : Cert.Pre_finite_ffndx.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_finite_ffndx m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v7_0)) (v1 : (c : Dev Cert.FfnDxIdeal.nD) → Buf (Elt Ideal) ((c.tc : Thread Cert.FfnDxIdeal.nD Cert.FfnDxIdeal.τ).loc Cert.FfnDxIdeal.main_v7_1)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v7_0) = v0 c
          ∧ r.2.mem ((c.tc : Thread Cert.FfnDxIdeal.nD Cert.FfnDxIdeal.τ).loc Cert.FfnDxIdeal.main_v7_1) = v1 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v44) = v0 c
          ∧ r.2.mem ((c.tc : Thread Cert.FfnDxRefIdeal.nD Cert.FfnDxRefIdeal.τ).loc Cert.FfnDxRefIdeal.main_v45) = v1 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4))

def preserves_PoolDx_PoolDxIdeal : Prop :=
  True

def algebraic_PoolDxIdeal_PoolDxRefIdeal_pre_finite_pooldx [hPoolDxIdeal : Cert.PoolDxIdeal.Facts] [hPoolDxRefIdeal : Cert.PoolDxRefIdeal.Facts] [hPre_finite_pooldx : Cert.Pre_finite_pooldx.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxRefIdeal.nD Cert.PoolDxRefIdeal.τ Cert.PoolDxRefIdeal.sig) → Buf (Elt Ideal) ℓ) (g' : Dev Cert.PoolDxRefIdeal.nD → PrngReg), Pre_PoolDxIdeal_finite_pooldx m →
    (∀ c : Dev Cert.PoolDxIdeal.nD,
      m' ((c.tc : Thread Cert.PoolDxRefIdeal.nD Cert.PoolDxRefIdeal.τ).loc Cert.PoolDxRefIdeal.main_arg0) = m ((c.tc : Thread Cert.PoolDxIdeal.nD Cert.PoolDxIdeal.τ).loc Cert.PoolDxIdeal.main_arg0)
      ∧ m' ((c.tc : Thread Cert.PoolDxRefIdeal.nD Cert.PoolDxRefIdeal.τ).loc Cert.PoolDxRefIdeal.main_arg1) = m ((c.tc : Thread Cert.PoolDxIdeal.nD Cert.PoolDxIdeal.τ).loc Cert.PoolDxIdeal.main_arg1)
      ∧ m' ((c.tc : Thread Cert.PoolDxRefIdeal.nD Cert.PoolDxRefIdeal.τ).loc Cert.PoolDxRefIdeal.main_arg2) = m ((c.tc : Thread Cert.PoolDxIdeal.nD Cert.PoolDxIdeal.τ).loc Cert.PoolDxIdeal.main_arg2)
      ∧ m' ((c.tc : Thread Cert.PoolDxRefIdeal.nD Cert.PoolDxRefIdeal.τ).loc Cert.PoolDxRefIdeal.main_arg3) = m ((c.tc : Thread Cert.PoolDxIdeal.nD Cert.PoolDxIdeal.τ).loc Cert.PoolDxIdeal.main_arg3)
      ∧ m' ((c.tc : Thread Cert.PoolDxRefIdeal.nD Cert.PoolDxRefIdeal.τ).loc Cert.PoolDxRefIdeal.main_arg4) = m ((c.tc : Thread Cert.PoolDxIdeal.nD Cert.PoolDxIdeal.τ).loc Cert.PoolDxIdeal.main_arg4)) →
    ∃ (v0 : (c : Dev Cert.PoolDxIdeal.nD) → Buf (Elt Ideal) ((c.tc : Thread Cert.PoolDxIdeal.nD Cert.PoolDxIdeal.τ).loc Cert.PoolDxIdeal.main_v5_0)) (v1 : (c : Dev Cert.PoolDxIdeal.nD) → Buf (Elt Ideal) ((c.tc : Thread Cert.PoolDxIdeal.nD Cert.PoolDxIdeal.τ).loc Cert.PoolDxIdeal.main_v5_1)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v5_0) = v0 c
          ∧ r.2.mem ((c.tc : Thread Cert.PoolDxIdeal.nD Cert.PoolDxIdeal.τ).loc Cert.PoolDxIdeal.main_v5_1) = v1 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1)
          ∧ r.2.mem ((c.tc : Thread Cert.PoolDxIdeal.nD Cert.PoolDxIdeal.τ).loc Cert.PoolDxIdeal.main_arg2) = m ((c.tc : Thread Cert.PoolDxIdeal.nD Cert.PoolDxIdeal.τ).loc Cert.PoolDxIdeal.main_arg2)
          ∧ r.2.mem ((c.tc : Thread Cert.PoolDxIdeal.nD Cert.PoolDxIdeal.τ).loc Cert.PoolDxIdeal.main_arg3) = m ((c.tc : Thread Cert.PoolDxIdeal.nD Cert.PoolDxIdeal.τ).loc Cert.PoolDxIdeal.main_arg3)
          ∧ r.2.mem ((c.tc : Thread Cert.PoolDxIdeal.nD Cert.PoolDxIdeal.τ).loc Cert.PoolDxIdeal.main_arg4) = m ((c.tc : Thread Cert.PoolDxIdeal.nD Cert.PoolDxIdeal.τ).loc Cert.PoolDxIdeal.main_arg4))
      ∧ θ_run (Cert.PoolDxRefIdeal.defs (F := Ideal)) (onTc (τ := Cert.PoolDxRefIdeal.τ) (Cert.PoolDxRefIdeal.main (F := Ideal))) ⟨m', fun _ => 0, g'⟩ (fun r => ∀ c : Dev Cert.PoolDxRefIdeal.nD,
          r.2.mem ((c.tc : Thread Cert.PoolDxRefIdeal.nD Cert.PoolDxRefIdeal.τ).loc Cert.PoolDxRefIdeal.main_v44) = v0 c
          ∧ r.2.mem ((c.tc : Thread Cert.PoolDxRefIdeal.nD Cert.PoolDxRefIdeal.τ).loc Cert.PoolDxRefIdeal.main_v45) = v1 c
          ∧ r.2.mem ((c.tc : Thread Cert.PoolDxRefIdeal.nD Cert.PoolDxRefIdeal.τ).loc Cert.PoolDxRefIdeal.main_arg0) = m' ((c.tc : Thread Cert.PoolDxRefIdeal.nD Cert.PoolDxRefIdeal.τ).loc Cert.PoolDxRefIdeal.main_arg0)
          ∧ r.2.mem ((c.tc : Thread Cert.PoolDxRefIdeal.nD Cert.PoolDxRefIdeal.τ).loc Cert.PoolDxRefIdeal.main_arg1) = m' ((c.tc : Thread Cert.PoolDxRefIdeal.nD Cert.PoolDxRefIdeal.τ).loc Cert.PoolDxRefIdeal.main_arg1)
          ∧ r.2.mem ((c.tc : Thread Cert.PoolDxRefIdeal.nD Cert.PoolDxRefIdeal.τ).loc Cert.PoolDxRefIdeal.main_arg2) = m' ((c.tc : Thread Cert.PoolDxRefIdeal.nD Cert.PoolDxRefIdeal.τ).loc Cert.PoolDxRefIdeal.main_arg2)
          ∧ r.2.mem ((c.tc : Thread Cert.PoolDxRefIdeal.nD Cert.PoolDxRefIdeal.τ).loc Cert.PoolDxRefIdeal.main_arg3) = m' ((c.tc : Thread Cert.PoolDxRefIdeal.nD Cert.PoolDxRefIdeal.τ).loc Cert.PoolDxRefIdeal.main_arg3)
          ∧ r.2.mem ((c.tc : Thread Cert.PoolDxRefIdeal.nD Cert.PoolDxRefIdeal.τ).loc Cert.PoolDxRefIdeal.main_arg4) = m' ((c.tc : Thread Cert.PoolDxRefIdeal.nD Cert.PoolDxRefIdeal.τ).loc Cert.PoolDxRefIdeal.main_arg4))

def preserves_PleBwd_PleBwdIdeal : Prop :=
  True

def algebraic_PleBwdIdeal_PleBwdRefIdeal_pre_finite_ple [hPleBwdIdeal : Cert.PleBwdIdeal.Facts] [hPleBwdRefIdeal : Cert.PleBwdRefIdeal.Facts] [hPre_finite_ple : Cert.Pre_finite_ple.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal_finite_ple m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)
      ∧ m' ((c.tc : Thread Cert.PleBwdRefIdeal.nD Cert.PleBwdRefIdeal.τ).loc Cert.PleBwdRefIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v33_0)) (v1 : (c : Dev Cert.PleBwdIdeal.nD) → Buf (Elt Ideal) ((c.tc : Thread Cert.PleBwdIdeal.nD Cert.PleBwdIdeal.τ).loc Cert.PleBwdIdeal.main_v33_1)) (v2 : (c : Dev Cert.PleBwdIdeal.nD) → Buf (Elt Ideal) ((c.tc : Thread Cert.PleBwdIdeal.nD Cert.PleBwdIdeal.τ).loc Cert.PleBwdIdeal.main_v33_2)) (v3 : (c : Dev Cert.PleBwdIdeal.nD) → Buf (Elt Ideal) ((c.tc : Thread Cert.PleBwdIdeal.nD Cert.PleBwdIdeal.τ).loc Cert.PleBwdIdeal.main_v33_3)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v33_0) = v0 c
          ∧ r.2.mem ((c.tc : Thread Cert.PleBwdIdeal.nD Cert.PleBwdIdeal.τ).loc Cert.PleBwdIdeal.main_v33_1) = v1 c
          ∧ r.2.mem ((c.tc : Thread Cert.PleBwdIdeal.nD Cert.PleBwdIdeal.τ).loc Cert.PleBwdIdeal.main_v33_2) = v2 c
          ∧ r.2.mem ((c.tc : Thread Cert.PleBwdIdeal.nD Cert.PleBwdIdeal.τ).loc Cert.PleBwdIdeal.main_v33_3) = v3 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v63) = v0 c
          ∧ r.2.mem ((c.tc : Thread Cert.PleBwdRefIdeal.nD Cert.PleBwdRefIdeal.τ).loc Cert.PleBwdRefIdeal.main_v92) = v1 c
          ∧ r.2.mem ((c.tc : Thread Cert.PleBwdRefIdeal.nD Cert.PleBwdRefIdeal.τ).loc Cert.PleBwdRefIdeal.main_v93) = v2 c
          ∧ r.2.mem ((c.tc : Thread Cert.PleBwdRefIdeal.nD Cert.PleBwdRefIdeal.τ).loc Cert.PleBwdRefIdeal.main_v94) = v3 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4)
          ∧ r.2.mem ((c.tc : Thread Cert.PleBwdRefIdeal.nD Cert.PleBwdRefIdeal.τ).loc Cert.PleBwdRefIdeal.main_arg5) = m' ((c.tc : Thread Cert.PleBwdRefIdeal.nD Cert.PleBwdRefIdeal.τ).loc Cert.PleBwdRefIdeal.main_arg5))

def preserves_PoolGroup_PoolGroupIdeal : Prop :=
  True

def algebraic_PoolGroupIdeal_PoolGroupRefIdeal [hPoolGroupIdeal : Cert.PoolGroupIdeal.Facts] [hPoolGroupRefIdeal : Cert.PoolGroupRefIdeal.Facts] : Prop :=
  ∀ (m : (ℓ : Loc Cert.PoolGroupIdeal.nD Cert.PoolGroupIdeal.τ Cert.PoolGroupIdeal.sig) → Buf (Elt Ideal) ℓ) (g : Dev Cert.PoolGroupIdeal.nD → PrngReg)
    (m' : (ℓ : Loc Cert.PoolGroupRefIdeal.nD Cert.PoolGroupRefIdeal.τ Cert.PoolGroupRefIdeal.sig) → Buf (Elt Ideal) ℓ) (g' : Dev Cert.PoolGroupRefIdeal.nD → PrngReg), Pre_PoolGroupIdeal m →
    (∀ c : Dev Cert.PoolGroupIdeal.nD,
      m' ((c.tc : Thread Cert.PoolGroupRefIdeal.nD Cert.PoolGroupRefIdeal.τ).loc Cert.PoolGroupRefIdeal.main_arg0) = m ((c.tc : Thread Cert.PoolGroupIdeal.nD Cert.PoolGroupIdeal.τ).loc Cert.PoolGroupIdeal.main_arg0)
      ∧ m' ((c.tc : Thread Cert.PoolGroupRefIdeal.nD Cert.PoolGroupRefIdeal.τ).loc Cert.PoolGroupRefIdeal.main_arg1) = m ((c.tc : Thread Cert.PoolGroupIdeal.nD Cert.PoolGroupIdeal.τ).loc Cert.PoolGroupIdeal.main_arg1)
      ∧ m' ((c.tc : Thread Cert.PoolGroupRefIdeal.nD Cert.PoolGroupRefIdeal.τ).loc Cert.PoolGroupRefIdeal.main_arg2) = m ((c.tc : Thread Cert.PoolGroupIdeal.nD Cert.PoolGroupIdeal.τ).loc Cert.PoolGroupIdeal.main_arg2)
      ∧ m' ((c.tc : Thread Cert.PoolGroupRefIdeal.nD Cert.PoolGroupRefIdeal.τ).loc Cert.PoolGroupRefIdeal.main_arg3) = m ((c.tc : Thread Cert.PoolGroupIdeal.nD Cert.PoolGroupIdeal.τ).loc Cert.PoolGroupIdeal.main_arg3)) →
    ∃ (v0 : (c : Dev Cert.PoolGroupIdeal.nD) → Buf (Elt Ideal) ((c.tc : Thread Cert.PoolGroupIdeal.nD Cert.PoolGroupIdeal.τ).loc Cert.PoolGroupIdeal.main_v84_0)) (v1 : (c : Dev Cert.PoolGroupIdeal.nD) → Buf (Elt Ideal) ((c.tc : Thread Cert.PoolGroupIdeal.nD Cert.PoolGroupIdeal.τ).loc Cert.PoolGroupIdeal.main_v84_1)) (v2 : (c : Dev Cert.PoolGroupIdeal.nD) → Buf (Elt Ideal) ((c.tc : Thread Cert.PoolGroupIdeal.nD Cert.PoolGroupIdeal.τ).loc Cert.PoolGroupIdeal.main_v84_2)),
      θ_run (Cert.PoolGroupIdeal.defs (F := Ideal)) (onTc (τ := Cert.PoolGroupIdeal.τ) (Cert.PoolGroupIdeal.main (F := Ideal))) ⟨m, fun _ => 0, g⟩ (fun r => ∀ c : Dev Cert.PoolGroupIdeal.nD,
          r.2.mem ((c.tc : Thread Cert.PoolGroupIdeal.nD Cert.PoolGroupIdeal.τ).loc Cert.PoolGroupIdeal.main_v84_0) = v0 c
          ∧ r.2.mem ((c.tc : Thread Cert.PoolGroupIdeal.nD Cert.PoolGroupIdeal.τ).loc Cert.PoolGroupIdeal.main_v84_1) = v1 c
          ∧ r.2.mem ((c.tc : Thread Cert.PoolGroupIdeal.nD Cert.PoolGroupIdeal.τ).loc Cert.PoolGroupIdeal.main_v84_2) = v2 c
          ∧ r.2.mem ((c.tc : Thread Cert.PoolGroupIdeal.nD Cert.PoolGroupIdeal.τ).loc Cert.PoolGroupIdeal.main_arg0) = m ((c.tc : Thread Cert.PoolGroupIdeal.nD Cert.PoolGroupIdeal.τ).loc Cert.PoolGroupIdeal.main_arg0)
          ∧ r.2.mem ((c.tc : Thread Cert.PoolGroupIdeal.nD Cert.PoolGroupIdeal.τ).loc Cert.PoolGroupIdeal.main_arg1) = m ((c.tc : Thread Cert.PoolGroupIdeal.nD Cert.PoolGroupIdeal.τ).loc Cert.PoolGroupIdeal.main_arg1)
          ∧ r.2.mem ((c.tc : Thread Cert.PoolGroupIdeal.nD Cert.PoolGroupIdeal.τ).loc Cert.PoolGroupIdeal.main_arg2) = m ((c.tc : Thread Cert.PoolGroupIdeal.nD Cert.PoolGroupIdeal.τ).loc Cert.PoolGroupIdeal.main_arg2)
          ∧ r.2.mem ((c.tc : Thread Cert.PoolGroupIdeal.nD Cert.PoolGroupIdeal.τ).loc Cert.PoolGroupIdeal.main_arg3) = m ((c.tc : Thread Cert.PoolGroupIdeal.nD Cert.PoolGroupIdeal.τ).loc Cert.PoolGroupIdeal.main_arg3))
      ∧ θ_run (Cert.PoolGroupRefIdeal.defs (F := Ideal)) (onTc (τ := Cert.PoolGroupRefIdeal.τ) (Cert.PoolGroupRefIdeal.main (F := Ideal))) ⟨m', fun _ => 0, g'⟩ (fun r => ∀ c : Dev Cert.PoolGroupRefIdeal.nD,
          r.2.mem ((c.tc : Thread Cert.PoolGroupRefIdeal.nD Cert.PoolGroupRefIdeal.τ).loc Cert.PoolGroupRefIdeal.main_v98) = v0 c
          ∧ r.2.mem ((c.tc : Thread Cert.PoolGroupRefIdeal.nD Cert.PoolGroupRefIdeal.τ).loc Cert.PoolGroupRefIdeal.main_v99) = v1 c
          ∧ r.2.mem ((c.tc : Thread Cert.PoolGroupRefIdeal.nD Cert.PoolGroupRefIdeal.τ).loc Cert.PoolGroupRefIdeal.main_v100) = v2 c
          ∧ r.2.mem ((c.tc : Thread Cert.PoolGroupRefIdeal.nD Cert.PoolGroupRefIdeal.τ).loc Cert.PoolGroupRefIdeal.main_arg0) = m' ((c.tc : Thread Cert.PoolGroupRefIdeal.nD Cert.PoolGroupRefIdeal.τ).loc Cert.PoolGroupRefIdeal.main_arg0)
          ∧ r.2.mem ((c.tc : Thread Cert.PoolGroupRefIdeal.nD Cert.PoolGroupRefIdeal.τ).loc Cert.PoolGroupRefIdeal.main_arg1) = m' ((c.tc : Thread Cert.PoolGroupRefIdeal.nD Cert.PoolGroupRefIdeal.τ).loc Cert.PoolGroupRefIdeal.main_arg1)
          ∧ r.2.mem ((c.tc : Thread Cert.PoolGroupRefIdeal.nD Cert.PoolGroupRefIdeal.τ).loc Cert.PoolGroupRefIdeal.main_arg2) = m' ((c.tc : Thread Cert.PoolGroupRefIdeal.nD Cert.PoolGroupRefIdeal.τ).loc Cert.PoolGroupRefIdeal.main_arg2)
          ∧ r.2.mem ((c.tc : Thread Cert.PoolGroupRefIdeal.nD Cert.PoolGroupRefIdeal.τ).loc Cert.PoolGroupRefIdeal.main_arg3) = m' ((c.tc : Thread Cert.PoolGroupRefIdeal.nD Cert.PoolGroupRefIdeal.τ).loc Cert.PoolGroupRefIdeal.main_arg3))

def preserves_PoolWindow_PoolWindowIdeal : Prop :=
  True

def algebraic_PoolWindowIdeal_PoolWindowRefIdeal_pre_finite_poolwindow [hPoolWindowIdeal : Cert.PoolWindowIdeal.Facts] [hPoolWindowRefIdeal : Cert.PoolWindowRefIdeal.Facts] [hPre_finite_poolwindow : Cert.Pre_finite_poolwindow.Facts] : Prop :=
  ∀ (m : (ℓ : Loc Cert.PoolWindowIdeal.nD Cert.PoolWindowIdeal.τ Cert.PoolWindowIdeal.sig) → Buf (Elt Ideal) ℓ) (g : Dev Cert.PoolWindowIdeal.nD → PrngReg)
    (m' : (ℓ : Loc Cert.PoolWindowRefIdeal.nD Cert.PoolWindowRefIdeal.τ Cert.PoolWindowRefIdeal.sig) → Buf (Elt Ideal) ℓ) (g' : Dev Cert.PoolWindowRefIdeal.nD → PrngReg), Pre_PoolWindowIdeal_finite_poolwindow m →
    (∀ c : Dev Cert.PoolWindowIdeal.nD,
      m' ((c.tc : Thread Cert.PoolWindowRefIdeal.nD Cert.PoolWindowRefIdeal.τ).loc Cert.PoolWindowRefIdeal.main_arg0) = m ((c.tc : Thread Cert.PoolWindowIdeal.nD Cert.PoolWindowIdeal.τ).loc Cert.PoolWindowIdeal.main_arg0)
      ∧ m' ((c.tc : Thread Cert.PoolWindowRefIdeal.nD Cert.PoolWindowRefIdeal.τ).loc Cert.PoolWindowRefIdeal.main_arg1) = m ((c.tc : Thread Cert.PoolWindowIdeal.nD Cert.PoolWindowIdeal.τ).loc Cert.PoolWindowIdeal.main_arg1)) →
    ∃ (v0 : (c : Dev Cert.PoolWindowIdeal.nD) → Buf (Elt Ideal) ((c.tc : Thread Cert.PoolWindowIdeal.nD Cert.PoolWindowIdeal.τ).loc Cert.PoolWindowIdeal.main_v0)),
      θ_run (Cert.PoolWindowIdeal.defs (F := Ideal)) (onTc (τ := Cert.PoolWindowIdeal.τ) (Cert.PoolWindowIdeal.main (F := Ideal))) ⟨m, fun _ => 0, g⟩ (fun r => ∀ c : Dev Cert.PoolWindowIdeal.nD,
          r.2.mem ((c.tc : Thread Cert.PoolWindowIdeal.nD Cert.PoolWindowIdeal.τ).loc Cert.PoolWindowIdeal.main_v0) = v0 c
          ∧ r.2.mem ((c.tc : Thread Cert.PoolWindowIdeal.nD Cert.PoolWindowIdeal.τ).loc Cert.PoolWindowIdeal.main_arg0) = m ((c.tc : Thread Cert.PoolWindowIdeal.nD Cert.PoolWindowIdeal.τ).loc Cert.PoolWindowIdeal.main_arg0)
          ∧ r.2.mem ((c.tc : Thread Cert.PoolWindowIdeal.nD Cert.PoolWindowIdeal.τ).loc Cert.PoolWindowIdeal.main_arg1) = m ((c.tc : Thread Cert.PoolWindowIdeal.nD Cert.PoolWindowIdeal.τ).loc Cert.PoolWindowIdeal.main_arg1))
      ∧ θ_run (Cert.PoolWindowRefIdeal.defs (F := Ideal)) (onTc (τ := Cert.PoolWindowRefIdeal.τ) (Cert.PoolWindowRefIdeal.main (F := Ideal))) ⟨m', fun _ => 0, g'⟩ (fun r => ∀ c : Dev Cert.PoolWindowRefIdeal.nD,
          r.2.mem ((c.tc : Thread Cert.PoolWindowRefIdeal.nD Cert.PoolWindowRefIdeal.τ).loc Cert.PoolWindowRefIdeal.main_v154) = v0 c
          ∧ r.2.mem ((c.tc : Thread Cert.PoolWindowRefIdeal.nD Cert.PoolWindowRefIdeal.τ).loc Cert.PoolWindowRefIdeal.main_arg0) = m' ((c.tc : Thread Cert.PoolWindowRefIdeal.nD Cert.PoolWindowRefIdeal.τ).loc Cert.PoolWindowRefIdeal.main_arg0)
          ∧ r.2.mem ((c.tc : Thread Cert.PoolWindowRefIdeal.nD Cert.PoolWindowRefIdeal.τ).loc Cert.PoolWindowRefIdeal.main_arg1) = m' ((c.tc : Thread Cert.PoolWindowRefIdeal.nD Cert.PoolWindowRefIdeal.τ).loc Cert.PoolWindowRefIdeal.main_arg1))

def preserves_QkNormBwd_QkNormBwdIdeal : Prop :=
  True

def algebraic_QkNormBwdIdeal_QkNormBwdRefIdeal_pre_finite_qknorm [hQkNormBwdIdeal : Cert.QkNormBwdIdeal.Facts] [hQkNormBwdRefIdeal : Cert.QkNormBwdRefIdeal.Facts] [hPre_finite_qknorm : Cert.Pre_finite_qknorm.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg)
    (m' : (ℓ : Loc Cert.QkNormBwdRefIdeal.nD Cert.QkNormBwdRefIdeal.τ Cert.QkNormBwdRefIdeal.sig) → Buf (Elt Ideal) ℓ) (g' : Dev Cert.QkNormBwdRefIdeal.nD → PrngReg), Pre_QkNormBwdIdeal_finite_qknorm m →
    (∀ c : Dev Cert.QkNormBwdIdeal.nD,
      m' ((c.tc : Thread Cert.QkNormBwdRefIdeal.nD Cert.QkNormBwdRefIdeal.τ).loc Cert.QkNormBwdRefIdeal.main_arg0) = m ((c.tc : Thread Cert.QkNormBwdIdeal.nD Cert.QkNormBwdIdeal.τ).loc Cert.QkNormBwdIdeal.main_arg0)
      ∧ m' ((c.tc : Thread Cert.QkNormBwdRefIdeal.nD Cert.QkNormBwdRefIdeal.τ).loc Cert.QkNormBwdRefIdeal.main_arg1) = m ((c.tc : Thread Cert.QkNormBwdIdeal.nD Cert.QkNormBwdIdeal.τ).loc Cert.QkNormBwdIdeal.main_arg1)
      ∧ m' ((c.tc : Thread Cert.QkNormBwdRefIdeal.nD Cert.QkNormBwdRefIdeal.τ).loc Cert.QkNormBwdRefIdeal.main_arg2) = m ((c.tc : Thread Cert.QkNormBwdIdeal.nD Cert.QkNormBwdIdeal.τ).loc Cert.QkNormBwdIdeal.main_arg2)
      ∧ m' ((c.tc : Thread Cert.QkNormBwdRefIdeal.nD Cert.QkNormBwdRefIdeal.τ).loc Cert.QkNormBwdRefIdeal.main_arg3) = m ((c.tc : Thread Cert.QkNormBwdIdeal.nD Cert.QkNormBwdIdeal.τ).loc Cert.QkNormBwdIdeal.main_arg3)
      ∧ m' ((c.tc : Thread Cert.QkNormBwdRefIdeal.nD Cert.QkNormBwdRefIdeal.τ).loc Cert.QkNormBwdRefIdeal.main_arg4) = m ((c.tc : Thread Cert.QkNormBwdIdeal.nD Cert.QkNormBwdIdeal.τ).loc Cert.QkNormBwdIdeal.main_arg4)
      ∧ m' ((c.tc : Thread Cert.QkNormBwdRefIdeal.nD Cert.QkNormBwdRefIdeal.τ).loc Cert.QkNormBwdRefIdeal.main_arg5) = m ((c.tc : Thread Cert.QkNormBwdIdeal.nD Cert.QkNormBwdIdeal.τ).loc Cert.QkNormBwdIdeal.main_arg5)) →
    ∃ (v0 : (c : Dev Cert.QkNormBwdIdeal.nD) → Buf (Elt Ideal) ((c.tc : Thread Cert.QkNormBwdIdeal.nD Cert.QkNormBwdIdeal.τ).loc Cert.QkNormBwdIdeal.main_v9)) (v1 : (c : Dev Cert.QkNormBwdIdeal.nD) → Buf (Elt Ideal) ((c.tc : Thread Cert.QkNormBwdIdeal.nD Cert.QkNormBwdIdeal.τ).loc Cert.QkNormBwdIdeal.main_v12)) (v2 : (c : Dev Cert.QkNormBwdIdeal.nD) → Buf (Elt Ideal) ((c.tc : Thread Cert.QkNormBwdIdeal.nD Cert.QkNormBwdIdeal.τ).loc Cert.QkNormBwdIdeal.main_v15)),
      θ_run (Cert.QkNormBwdIdeal.defs (F := Ideal)) (onTc (τ := Cert.QkNormBwdIdeal.τ) (Cert.QkNormBwdIdeal.main (F := Ideal))) ⟨m, fun _ => 0, g⟩ (fun r => ∀ c : Dev Cert.QkNormBwdIdeal.nD,
          r.2.mem ((c.tc : Thread Cert.QkNormBwdIdeal.nD Cert.QkNormBwdIdeal.τ).loc Cert.QkNormBwdIdeal.main_v9) = v0 c
          ∧ r.2.mem ((c.tc : Thread Cert.QkNormBwdIdeal.nD Cert.QkNormBwdIdeal.τ).loc Cert.QkNormBwdIdeal.main_v12) = v1 c
          ∧ r.2.mem ((c.tc : Thread Cert.QkNormBwdIdeal.nD Cert.QkNormBwdIdeal.τ).loc Cert.QkNormBwdIdeal.main_v15) = v2 c
          ∧ r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
          ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
          ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
          ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
          ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
          ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ θ_run (Cert.QkNormBwdRefIdeal.defs (F := Ideal)) (onTc (τ := Cert.QkNormBwdRefIdeal.τ) (Cert.QkNormBwdRefIdeal.main (F := Ideal))) ⟨m', fun _ => 0, g'⟩ (fun r => ∀ c : Dev Cert.QkNormBwdRefIdeal.nD,
          r.2.mem ((c.tc : Thread Cert.QkNormBwdRefIdeal.nD Cert.QkNormBwdRefIdeal.τ).loc Cert.QkNormBwdRefIdeal.main_v88) = v0 c
          ∧ r.2.mem ((c.tc : Thread Cert.QkNormBwdRefIdeal.nD Cert.QkNormBwdRefIdeal.τ).loc Cert.QkNormBwdRefIdeal.main_v89) = v1 c
          ∧ r.2.mem ((c.tc : Thread Cert.QkNormBwdRefIdeal.nD Cert.QkNormBwdRefIdeal.τ).loc Cert.QkNormBwdRefIdeal.main_v90) = v2 c
          ∧ r.2.mem ((c.tc : Thread Cert.QkNormBwdRefIdeal.nD Cert.QkNormBwdRefIdeal.τ).loc Cert.QkNormBwdRefIdeal.main_arg0) = m' ((c.tc : Thread Cert.QkNormBwdRefIdeal.nD Cert.QkNormBwdRefIdeal.τ).loc Cert.QkNormBwdRefIdeal.main_arg0)
          ∧ r.2.mem ((c.tc : Thread Cert.QkNormBwdRefIdeal.nD Cert.QkNormBwdRefIdeal.τ).loc Cert.QkNormBwdRefIdeal.main_arg1) = m' ((c.tc : Thread Cert.QkNormBwdRefIdeal.nD Cert.QkNormBwdRefIdeal.τ).loc Cert.QkNormBwdRefIdeal.main_arg1)
          ∧ r.2.mem ((c.tc : Thread Cert.QkNormBwdRefIdeal.nD Cert.QkNormBwdRefIdeal.τ).loc Cert.QkNormBwdRefIdeal.main_arg2) = m' ((c.tc : Thread Cert.QkNormBwdRefIdeal.nD Cert.QkNormBwdRefIdeal.τ).loc Cert.QkNormBwdRefIdeal.main_arg2)
          ∧ r.2.mem ((c.tc : Thread Cert.QkNormBwdRefIdeal.nD Cert.QkNormBwdRefIdeal.τ).loc Cert.QkNormBwdRefIdeal.main_arg3) = m' ((c.tc : Thread Cert.QkNormBwdRefIdeal.nD Cert.QkNormBwdRefIdeal.τ).loc Cert.QkNormBwdRefIdeal.main_arg3)
          ∧ r.2.mem ((c.tc : Thread Cert.QkNormBwdRefIdeal.nD Cert.QkNormBwdRefIdeal.τ).loc Cert.QkNormBwdRefIdeal.main_arg4) = m' ((c.tc : Thread Cert.QkNormBwdRefIdeal.nD Cert.QkNormBwdRefIdeal.τ).loc Cert.QkNormBwdRefIdeal.main_arg4)
          ∧ r.2.mem ((c.tc : Thread Cert.QkNormBwdRefIdeal.nD Cert.QkNormBwdRefIdeal.τ).loc Cert.QkNormBwdRefIdeal.main_arg5) = m' ((c.tc : Thread Cert.QkNormBwdRefIdeal.nD Cert.QkNormBwdRefIdeal.τ).loc Cert.QkNormBwdRefIdeal.main_arg5))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v45_0)) (v1 : (c : Dev Cert.AttnBwdIdeal.nD) → Buf (Elt Ideal) ((c.tc : Thread Cert.AttnBwdIdeal.nD Cert.AttnBwdIdeal.τ).loc Cert.AttnBwdIdeal.main_v45_1)) (v2 : (c : Dev Cert.AttnBwdIdeal.nD) → Buf (Elt Ideal) ((c.tc : Thread Cert.AttnBwdIdeal.nD Cert.AttnBwdIdeal.τ).loc Cert.AttnBwdIdeal.main_v45_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v45_0) = v0 c
          ∧ r.2.mem ((c.tc : Thread Cert.AttnBwdIdeal.nD Cert.AttnBwdIdeal.τ).loc Cert.AttnBwdIdeal.main_v45_1) = v1 c
          ∧ r.2.mem ((c.tc : Thread Cert.AttnBwdIdeal.nD Cert.AttnBwdIdeal.τ).loc Cert.AttnBwdIdeal.main_v45_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v48) = v0 c
          ∧ r.2.mem ((c.tc : Thread Cert.AttnBwdRefIdeal.nD Cert.AttnBwdRefIdeal.τ).loc Cert.AttnBwdRefIdeal.main_v46) = v1 c
          ∧ r.2.mem ((c.tc : Thread Cert.AttnBwdRefIdeal.nD Cert.AttnBwdRefIdeal.τ).loc Cert.AttnBwdRefIdeal.main_v32) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_RmsNorm_RmsNormIdeal : Prop :=
  True

def algebraic_RmsNormIdeal_RmsNormRefIdeal [hRmsNormIdeal : Cert.RmsNormIdeal.Facts] [hRmsNormRefIdeal : Cert.RmsNormRefIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg)
    (m' : (ℓ : Loc Cert.RmsNormRefIdeal.nD Cert.RmsNormRefIdeal.τ Cert.RmsNormRefIdeal.sig) → Buf (Elt Ideal) ℓ) (g' : Dev Cert.RmsNormRefIdeal.nD → PrngReg), Pre_RmsNormIdeal m →
    (∀ c : Dev Cert.RmsNormIdeal.nD,
      m' ((c.tc : Thread Cert.RmsNormRefIdeal.nD Cert.RmsNormRefIdeal.τ).loc Cert.RmsNormRefIdeal.main_arg0) = m ((c.tc : Thread Cert.RmsNormIdeal.nD Cert.RmsNormIdeal.τ).loc Cert.RmsNormIdeal.main_arg0)
      ∧ m' ((c.tc : Thread Cert.RmsNormRefIdeal.nD Cert.RmsNormRefIdeal.τ).loc Cert.RmsNormRefIdeal.main_arg1) = m ((c.tc : Thread Cert.RmsNormIdeal.nD Cert.RmsNormIdeal.τ).loc Cert.RmsNormIdeal.main_arg1)) →
    ∃ (v0 : (c : Dev Cert.RmsNormIdeal.nD) → Buf (Elt Ideal) ((c.tc : Thread Cert.RmsNormIdeal.nD Cert.RmsNormIdeal.τ).loc Cert.RmsNormIdeal.main_v3)),
      θ_run (Cert.RmsNormIdeal.defs (F := Ideal)) (onTc (τ := Cert.RmsNormIdeal.τ) (Cert.RmsNormIdeal.main (F := Ideal))) ⟨m, fun _ => 0, g⟩ (fun r => ∀ c : Dev Cert.RmsNormIdeal.nD,
          r.2.mem ((c.tc : Thread Cert.RmsNormIdeal.nD Cert.RmsNormIdeal.τ).loc Cert.RmsNormIdeal.main_v3) = v0 c
          ∧ r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
          ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ θ_run (Cert.RmsNormRefIdeal.defs (F := Ideal)) (onTc (τ := Cert.RmsNormRefIdeal.τ) (Cert.RmsNormRefIdeal.main (F := Ideal))) ⟨m', fun _ => 0, g'⟩ (fun r => ∀ c : Dev Cert.RmsNormRefIdeal.nD,
          r.2.mem ((c.tc : Thread Cert.RmsNormRefIdeal.nD Cert.RmsNormRefIdeal.τ).loc Cert.RmsNormRefIdeal.main_v15) = v0 c
          ∧ r.2.mem ((c.tc : Thread Cert.RmsNormRefIdeal.nD Cert.RmsNormRefIdeal.τ).loc Cert.RmsNormRefIdeal.main_arg0) = m' ((c.tc : Thread Cert.RmsNormRefIdeal.nD Cert.RmsNormRefIdeal.τ).loc Cert.RmsNormRefIdeal.main_arg0)
          ∧ r.2.mem ((c.tc : Thread Cert.RmsNormRefIdeal.nD Cert.RmsNormRefIdeal.τ).loc Cert.RmsNormRefIdeal.main_arg1) = m' ((c.tc : Thread Cert.RmsNormRefIdeal.nD Cert.RmsNormRefIdeal.τ).loc Cert.RmsNormRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v8) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v5_0)) (v1 : (c : Dev Cert.PleFwdIdeal.nD) → Buf (Elt Ideal) ((c.tc : Thread Cert.PleFwdIdeal.nD Cert.PleFwdIdeal.τ).loc Cert.PleFwdIdeal.main_v5_1)) (v2 : (c : Dev Cert.PleFwdIdeal.nD) → Buf (Elt Ideal) ((c.tc : Thread Cert.PleFwdIdeal.nD Cert.PleFwdIdeal.τ).loc Cert.PleFwdIdeal.main_v5_2)) (v3 : (c : Dev Cert.PleFwdIdeal.nD) → Buf (Elt Ideal) ((c.tc : Thread Cert.PleFwdIdeal.nD Cert.PleFwdIdeal.τ).loc Cert.PleFwdIdeal.main_v5_3)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v5_0) = v0 c
          ∧ r.2.mem ((c.tc : Thread Cert.PleFwdIdeal.nD Cert.PleFwdIdeal.τ).loc Cert.PleFwdIdeal.main_v5_1) = v1 c
          ∧ r.2.mem ((c.tc : Thread Cert.PleFwdIdeal.nD Cert.PleFwdIdeal.τ).loc Cert.PleFwdIdeal.main_v5_2) = v2 c
          ∧ r.2.mem ((c.tc : Thread Cert.PleFwdIdeal.nD Cert.PleFwdIdeal.τ).loc Cert.PleFwdIdeal.main_v5_3) = v3 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v26) = v0 c
          ∧ r.2.mem ((c.tc : Thread Cert.PleFwdRefIdeal.nD Cert.PleFwdRefIdeal.τ).loc Cert.PleFwdRefIdeal.main_v27) = v1 c
          ∧ r.2.mem ((c.tc : Thread Cert.PleFwdRefIdeal.nD Cert.PleFwdRefIdeal.τ).loc Cert.PleFwdRefIdeal.main_v28) = v2 c
          ∧ r.2.mem ((c.tc : Thread Cert.PleFwdRefIdeal.nD Cert.PleFwdRefIdeal.τ).loc Cert.PleFwdRefIdeal.main_v29) = v3 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def preserves_AttnFwd_AttnFwdIdeal : Prop :=
  True

def algebraic_AttnFwdIdeal_AttnFwdRefIdeal_pre_finite_attnfwd [hAttnFwdIdeal : Cert.AttnFwdIdeal.Facts] [hAttnFwdRefIdeal : Cert.AttnFwdRefIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnfwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3_0) = v0 c
          ∧ r.2.mem ((c.tc : Thread Cert.AttnFwdIdeal.nD Cert.AttnFwdIdeal.τ).loc Cert.AttnFwdIdeal.main_v3_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v67) = v0 c
          ∧ r.2.mem ((c.tc : Thread Cert.AttnFwdRefIdeal.nD Cert.AttnFwdRefIdeal.τ).loc Cert.AttnFwdRefIdeal.main_v40) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_QkNorm_QkNormIdeal : Prop :=
  True

def algebraic_QkNormIdeal_QkNormRefIdeal [hQkNormIdeal : Cert.QkNormIdeal.Facts] [hQkNormRefIdeal : Cert.QkNormRefIdeal.Facts] : Prop :=
  ∀ (m : (ℓ : Loc Cert.QkNormIdeal.nD Cert.QkNormIdeal.τ Cert.QkNormIdeal.sig) → Buf (Elt Ideal) ℓ) (g : Dev Cert.QkNormIdeal.nD → PrngReg)
    (m' : (ℓ : Loc Cert.QkNormRefIdeal.nD Cert.QkNormRefIdeal.τ Cert.QkNormRefIdeal.sig) → Buf (Elt Ideal) ℓ) (g' : Dev Cert.QkNormRefIdeal.nD → PrngReg), Pre_QkNormIdeal m →
    (∀ c : Dev Cert.QkNormIdeal.nD,
      m' ((c.tc : Thread Cert.QkNormRefIdeal.nD Cert.QkNormRefIdeal.τ).loc Cert.QkNormRefIdeal.main_arg0) = m ((c.tc : Thread Cert.QkNormIdeal.nD Cert.QkNormIdeal.τ).loc Cert.QkNormIdeal.main_arg0)
      ∧ m' ((c.tc : Thread Cert.QkNormRefIdeal.nD Cert.QkNormRefIdeal.τ).loc Cert.QkNormRefIdeal.main_arg1) = m ((c.tc : Thread Cert.QkNormIdeal.nD Cert.QkNormIdeal.τ).loc Cert.QkNormIdeal.main_arg1)
      ∧ m' ((c.tc : Thread Cert.QkNormRefIdeal.nD Cert.QkNormRefIdeal.τ).loc Cert.QkNormRefIdeal.main_arg2) = m ((c.tc : Thread Cert.QkNormIdeal.nD Cert.QkNormIdeal.τ).loc Cert.QkNormIdeal.main_arg2)) →
    ∃ (v0 : (c : Dev Cert.QkNormIdeal.nD) → Buf (Elt Ideal) ((c.tc : Thread Cert.QkNormIdeal.nD Cert.QkNormIdeal.τ).loc Cert.QkNormIdeal.main_v8_0)) (v1 : (c : Dev Cert.QkNormIdeal.nD) → Buf (Elt Ideal) ((c.tc : Thread Cert.QkNormIdeal.nD Cert.QkNormIdeal.τ).loc Cert.QkNormIdeal.main_v8_1)) (v2 : (c : Dev Cert.QkNormIdeal.nD) → Buf (Elt Ideal) ((c.tc : Thread Cert.QkNormIdeal.nD Cert.QkNormIdeal.τ).loc Cert.QkNormIdeal.main_v8_2)),
      θ_run (Cert.QkNormIdeal.defs (F := Ideal)) (onTc (τ := Cert.QkNormIdeal.τ) (Cert.QkNormIdeal.main (F := Ideal))) ⟨m, fun _ => 0, g⟩ (fun r => ∀ c : Dev Cert.QkNormIdeal.nD,
          r.2.mem ((c.tc : Thread Cert.QkNormIdeal.nD Cert.QkNormIdeal.τ).loc Cert.QkNormIdeal.main_v8_0) = v0 c
          ∧ r.2.mem ((c.tc : Thread Cert.QkNormIdeal.nD Cert.QkNormIdeal.τ).loc Cert.QkNormIdeal.main_v8_1) = v1 c
          ∧ r.2.mem ((c.tc : Thread Cert.QkNormIdeal.nD Cert.QkNormIdeal.τ).loc Cert.QkNormIdeal.main_v8_2) = v2 c
          ∧ r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
          ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
          ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2))
      ∧ θ_run (Cert.QkNormRefIdeal.defs (F := Ideal)) (onTc (τ := Cert.QkNormRefIdeal.τ) (Cert.QkNormRefIdeal.main (F := Ideal))) ⟨m', fun _ => 0, g'⟩ (fun r => ∀ c : Dev Cert.QkNormRefIdeal.nD,
          r.2.mem ((c.tc : Thread Cert.QkNormRefIdeal.nD Cert.QkNormRefIdeal.τ).loc Cert.QkNormRefIdeal.main_v35) = v0 c
          ∧ r.2.mem ((c.tc : Thread Cert.QkNormRefIdeal.nD Cert.QkNormRefIdeal.τ).loc Cert.QkNormRefIdeal.main_v36) = v1 c
          ∧ r.2.mem ((c.tc : Thread Cert.QkNormRefIdeal.nD Cert.QkNormRefIdeal.τ).loc Cert.QkNormRefIdeal.main_v37) = v2 c
          ∧ r.2.mem ((c.tc : Thread Cert.QkNormRefIdeal.nD Cert.QkNormRefIdeal.τ).loc Cert.QkNormRefIdeal.main_arg0) = m' ((c.tc : Thread Cert.QkNormRefIdeal.nD Cert.QkNormRefIdeal.τ).loc Cert.QkNormRefIdeal.main_arg0)
          ∧ r.2.mem ((c.tc : Thread Cert.QkNormRefIdeal.nD Cert.QkNormRefIdeal.τ).loc Cert.QkNormRefIdeal.main_arg1) = m' ((c.tc : Thread Cert.QkNormRefIdeal.nD Cert.QkNormRefIdeal.τ).loc Cert.QkNormRefIdeal.main_arg1)
          ∧ r.2.mem ((c.tc : Thread Cert.QkNormRefIdeal.nD Cert.QkNormRefIdeal.τ).loc Cert.QkNormRefIdeal.main_arg2) = m' ((c.tc : Thread Cert.QkNormRefIdeal.nD Cert.QkNormRefIdeal.τ).loc Cert.QkNormRefIdeal.main_arg2))

def Claim : Prop :=
  ∃ (hLossHead : Cert.LossHead.Facts) (hLossHeadIdeal : Cert.LossHeadIdeal.Facts) (hLossHeadRefIdeal : Cert.LossHeadRefIdeal.Facts) (hFfnDact : Cert.FfnDact.Facts) (hFfnDactIdeal : Cert.FfnDactIdeal.Facts) (hFfnDactRefIdeal : Cert.FfnDactRefIdeal.Facts) (hFfnDx : Cert.FfnDx.Facts) (hFfnDxIdeal : Cert.FfnDxIdeal.Facts) (hFfnDxRefIdeal : Cert.FfnDxRefIdeal.Facts) (hPoolDx : Cert.PoolDx.Facts) (hPoolDxIdeal : Cert.PoolDxIdeal.Facts) (hPoolDxRefIdeal : Cert.PoolDxRefIdeal.Facts) (hPleBwd : Cert.PleBwd.Facts) (hPleBwdIdeal : Cert.PleBwdIdeal.Facts) (hPleBwdRefIdeal : Cert.PleBwdRefIdeal.Facts) (hPoolGroup : Cert.PoolGroup.Facts) (hPoolGroupIdeal : Cert.PoolGroupIdeal.Facts) (hPoolGroupRefIdeal : Cert.PoolGroupRefIdeal.Facts) (hPoolWindow : Cert.PoolWindow.Facts) (hPoolWindowIdeal : Cert.PoolWindowIdeal.Facts) (hPoolWindowRefIdeal : Cert.PoolWindowRefIdeal.Facts) (hQkNormBwd : Cert.QkNormBwd.Facts) (hQkNormBwdIdeal : Cert.QkNormBwdIdeal.Facts) (hQkNormBwdRefIdeal : Cert.QkNormBwdRefIdeal.Facts) (hAttnBwd : Cert.AttnBwd.Facts) (hAttnBwdIdeal : Cert.AttnBwdIdeal.Facts) (hAttnBwdRefIdeal : Cert.AttnBwdRefIdeal.Facts) (hRmsNorm : Cert.RmsNorm.Facts) (hRmsNormIdeal : Cert.RmsNormIdeal.Facts) (hRmsNormRefIdeal : Cert.RmsNormRefIdeal.Facts) (hFfnUp : Cert.FfnUp.Facts) (hFfnUpIdeal : Cert.FfnUpIdeal.Facts) (hFfnUpRefIdeal : Cert.FfnUpRefIdeal.Facts) (hPleFwd : Cert.PleFwd.Facts) (hPleFwdIdeal : Cert.PleFwdIdeal.Facts) (hPleFwdRefIdeal : Cert.PleFwdRefIdeal.Facts) (hAttnFwd : Cert.AttnFwd.Facts) (hAttnFwdIdeal : Cert.AttnFwdIdeal.Facts) (hAttnFwdRefIdeal : Cert.AttnFwdRefIdeal.Facts) (hQkNorm : Cert.QkNorm.Facts) (hQkNormIdeal : Cert.QkNormIdeal.Facts) (hQkNormRefIdeal : Cert.QkNormRefIdeal.Facts) (hPre_finite_dact : Cert.Pre_finite_dact.Facts) (hPre_finite_ffndx : Cert.Pre_finite_ffndx.Facts) (hPre_finite_pooldx : Cert.Pre_finite_pooldx.Facts) (hPre_finite_ple : Cert.Pre_finite_ple.Facts) (hPre_finite_poolwindow : Cert.Pre_finite_poolwindow.Facts) (hPre_finite_qknorm : Cert.Pre_finite_qknorm.Facts) (hPre_finite_attn : Cert.Pre_finite_attn.Facts) (hPre_finite_attnfwd : Cert.Pre_finite_attnfwd.Facts),
    quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_FfnDact (hFfnDact := hFfnDact)
    ∧ quiescent_FfnDactIdeal (hFfnDactIdeal := hFfnDactIdeal)
    ∧ quiescent_FfnDactIdeal_pre_finite_dact (hFfnDactIdeal := hFfnDactIdeal) (hPre_finite_dact := hPre_finite_dact)
    ∧ quiescent_FfnDactRefIdeal (hFfnDactRefIdeal := hFfnDactRefIdeal)
    ∧ quiescent_FfnDactRefIdeal_pre_finite_dact (hFfnDactRefIdeal := hFfnDactRefIdeal) (hPre_finite_dact := hPre_finite_dact)
    ∧ quiescent_FfnDx (hFfnDx := hFfnDx)
    ∧ quiescent_FfnDxIdeal (hFfnDxIdeal := hFfnDxIdeal)
    ∧ quiescent_FfnDxIdeal_pre_finite_ffndx (hFfnDxIdeal := hFfnDxIdeal) (hPre_finite_ffndx := hPre_finite_ffndx)
    ∧ quiescent_FfnDxRefIdeal (hFfnDxRefIdeal := hFfnDxRefIdeal)
    ∧ quiescent_FfnDxRefIdeal_pre_finite_ffndx (hFfnDxRefIdeal := hFfnDxRefIdeal) (hPre_finite_ffndx := hPre_finite_ffndx)
    ∧ quiescent_PoolDx (hPoolDx := hPoolDx)
    ∧ quiescent_PoolDxIdeal (hPoolDxIdeal := hPoolDxIdeal)
    ∧ quiescent_PoolDxIdeal_pre_finite_pooldx (hPoolDxIdeal := hPoolDxIdeal) (hPre_finite_pooldx := hPre_finite_pooldx)
    ∧ quiescent_PoolDxRefIdeal (hPoolDxRefIdeal := hPoolDxRefIdeal)
    ∧ quiescent_PoolDxRefIdeal_pre_finite_pooldx (hPoolDxRefIdeal := hPoolDxRefIdeal) (hPre_finite_pooldx := hPre_finite_pooldx)
    ∧ quiescent_PleBwd (hPleBwd := hPleBwd)
    ∧ quiescent_PleBwdIdeal (hPleBwdIdeal := hPleBwdIdeal)
    ∧ quiescent_PleBwdIdeal_pre_finite_ple (hPleBwdIdeal := hPleBwdIdeal) (hPre_finite_ple := hPre_finite_ple)
    ∧ quiescent_PleBwdRefIdeal (hPleBwdRefIdeal := hPleBwdRefIdeal)
    ∧ quiescent_PleBwdRefIdeal_pre_finite_ple (hPleBwdRefIdeal := hPleBwdRefIdeal) (hPre_finite_ple := hPre_finite_ple)
    ∧ quiescent_PoolGroup (hPoolGroup := hPoolGroup)
    ∧ quiescent_PoolGroupIdeal (hPoolGroupIdeal := hPoolGroupIdeal)
    ∧ quiescent_PoolGroupRefIdeal (hPoolGroupRefIdeal := hPoolGroupRefIdeal)
    ∧ quiescent_PoolWindow (hPoolWindow := hPoolWindow)
    ∧ quiescent_PoolWindowIdeal (hPoolWindowIdeal := hPoolWindowIdeal)
    ∧ quiescent_PoolWindowIdeal_pre_finite_poolwindow (hPoolWindowIdeal := hPoolWindowIdeal) (hPre_finite_poolwindow := hPre_finite_poolwindow)
    ∧ quiescent_PoolWindowRefIdeal (hPoolWindowRefIdeal := hPoolWindowRefIdeal)
    ∧ quiescent_PoolWindowRefIdeal_pre_finite_poolwindow (hPoolWindowRefIdeal := hPoolWindowRefIdeal) (hPre_finite_poolwindow := hPre_finite_poolwindow)
    ∧ quiescent_QkNormBwd (hQkNormBwd := hQkNormBwd)
    ∧ quiescent_QkNormBwdIdeal (hQkNormBwdIdeal := hQkNormBwdIdeal)
    ∧ quiescent_QkNormBwdIdeal_pre_finite_qknorm (hQkNormBwdIdeal := hQkNormBwdIdeal) (hPre_finite_qknorm := hPre_finite_qknorm)
    ∧ quiescent_QkNormBwdRefIdeal (hQkNormBwdRefIdeal := hQkNormBwdRefIdeal)
    ∧ quiescent_QkNormBwdRefIdeal_pre_finite_qknorm (hQkNormBwdRefIdeal := hQkNormBwdRefIdeal) (hPre_finite_qknorm := hPre_finite_qknorm)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_RmsNorm (hRmsNorm := hRmsNorm)
    ∧ quiescent_RmsNormIdeal (hRmsNormIdeal := hRmsNormIdeal)
    ∧ quiescent_RmsNormRefIdeal (hRmsNormRefIdeal := hRmsNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_AttnFwd (hAttnFwd := hAttnFwd)
    ∧ quiescent_AttnFwdIdeal (hAttnFwdIdeal := hAttnFwdIdeal)
    ∧ quiescent_AttnFwdIdeal_pre_finite_attnfwd (hAttnFwdIdeal := hAttnFwdIdeal) (hPre_finite_attnfwd := hPre_finite_attnfwd)
    ∧ quiescent_AttnFwdRefIdeal (hAttnFwdRefIdeal := hAttnFwdRefIdeal)
    ∧ quiescent_AttnFwdRefIdeal_pre_finite_attnfwd (hAttnFwdRefIdeal := hAttnFwdRefIdeal) (hPre_finite_attnfwd := hPre_finite_attnfwd)
    ∧ quiescent_QkNorm (hQkNorm := hQkNorm)
    ∧ quiescent_QkNormIdeal (hQkNormIdeal := hQkNormIdeal)
    ∧ quiescent_QkNormRefIdeal (hQkNormRefIdeal := hQkNormRefIdeal)
    ∧ preserves_LossHead_LossHeadIdeal
    ∧ algebraic_LossHeadIdeal_LossHeadRefIdeal (hLossHeadIdeal := hLossHeadIdeal) (hLossHeadRefIdeal := hLossHeadRefIdeal)
    ∧ preserves_FfnDact_FfnDactIdeal
    ∧ algebraic_FfnDactIdeal_FfnDactRefIdeal_pre_finite_dact (hFfnDactIdeal := hFfnDactIdeal) (hFfnDactRefIdeal := hFfnDactRefIdeal) (hPre_finite_dact := hPre_finite_dact)
    ∧ preserves_FfnDx_FfnDxIdeal
    ∧ algebraic_FfnDxIdeal_FfnDxRefIdeal_pre_finite_ffndx (hFfnDxIdeal := hFfnDxIdeal) (hFfnDxRefIdeal := hFfnDxRefIdeal) (hPre_finite_ffndx := hPre_finite_ffndx)
    ∧ preserves_PoolDx_PoolDxIdeal
    ∧ algebraic_PoolDxIdeal_PoolDxRefIdeal_pre_finite_pooldx (hPoolDxIdeal := hPoolDxIdeal) (hPoolDxRefIdeal := hPoolDxRefIdeal) (hPre_finite_pooldx := hPre_finite_pooldx)
    ∧ preserves_PleBwd_PleBwdIdeal
    ∧ algebraic_PleBwdIdeal_PleBwdRefIdeal_pre_finite_ple (hPleBwdIdeal := hPleBwdIdeal) (hPleBwdRefIdeal := hPleBwdRefIdeal) (hPre_finite_ple := hPre_finite_ple)
    ∧ preserves_PoolGroup_PoolGroupIdeal
    ∧ algebraic_PoolGroupIdeal_PoolGroupRefIdeal (hPoolGroupIdeal := hPoolGroupIdeal) (hPoolGroupRefIdeal := hPoolGroupRefIdeal)
    ∧ preserves_PoolWindow_PoolWindowIdeal
    ∧ algebraic_PoolWindowIdeal_PoolWindowRefIdeal_pre_finite_poolwindow (hPoolWindowIdeal := hPoolWindowIdeal) (hPoolWindowRefIdeal := hPoolWindowRefIdeal) (hPre_finite_poolwindow := hPre_finite_poolwindow)
    ∧ preserves_QkNormBwd_QkNormBwdIdeal
    ∧ algebraic_QkNormBwdIdeal_QkNormBwdRefIdeal_pre_finite_qknorm (hQkNormBwdIdeal := hQkNormBwdIdeal) (hQkNormBwdRefIdeal := hQkNormBwdRefIdeal) (hPre_finite_qknorm := hPre_finite_qknorm)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_RmsNorm_RmsNormIdeal
    ∧ algebraic_RmsNormIdeal_RmsNormRefIdeal (hRmsNormIdeal := hRmsNormIdeal) (hRmsNormRefIdeal := hRmsNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_PleFwd_PleFwdIdeal
    ∧ algebraic_PleFwdIdeal_PleFwdRefIdeal (hPleFwdIdeal := hPleFwdIdeal) (hPleFwdRefIdeal := hPleFwdRefIdeal)
    ∧ preserves_AttnFwd_AttnFwdIdeal
    ∧ algebraic_AttnFwdIdeal_AttnFwdRefIdeal_pre_finite_attnfwd (hAttnFwdIdeal := hAttnFwdIdeal) (hAttnFwdRefIdeal := hAttnFwdRefIdeal) (hPre_finite_attnfwd := hPre_finite_attnfwd)
    ∧ preserves_QkNorm_QkNormIdeal
    ∧ algebraic_QkNormIdeal_QkNormRefIdeal (hQkNormIdeal := hQkNormIdeal) (hQkNormRefIdeal := hQkNormRefIdeal)
-- ==== Pre_finite_attn.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_attnfwd.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_finite_dact.lean ====
abbrev S8192x1024 : Shape := ⟨2, ![8192, 1024]⟩
abbrev S1024x5632 : Shape := ⟨2, ![1024, 5632]⟩
abbrev S4x2816x1024 : Shape := ⟨3, ![4, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4x2816x1024 : S_.BroadcastsInDim S4x2816x1024 (![] : Fin 0 → Fin S4x2816x1024.rank)
  reducesTo_S4x2816x1024_S_d0_1_2 : S4x2816x1024.ReducesTo [0, 1, 2] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024x5632 .f32) (main_arg2 : FVec F S4x2816x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S4x2816x1024 .f32 := Host.absf main_arg2
  let main_cst_2 : FVec F S_ .f32 := constant S_ .f32 0x7F800000#32
  let main_v10 : FVec F S4x2816x1024 .f32 := broadcastInDim S4x2816x1024 ![] bcast_S_S4x2816x1024 main_cst_2
  let main_v11 : IVec S4x2816x1024 1 := cmpf .olt main_v9 main_v10
  let main_c_3 : IVec S_ 1 := constantI S_ 1 1#1
  let main_v12 : IVec S_ 1 := (fun x v => Host.reduce IntOp.andi x v reducesTo_S4x2816x1024_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_ffndx.lean ====
abbrev S8192x1024 : Shape := ⟨2, ![8192, 1024]⟩
abbrev S4x1024 : Shape := ⟨2, ![4, 1024]⟩
abbrev S4x1024x5632 : Shape := ⟨3, ![4, 1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4x1024x5632 : S_.BroadcastsInDim S4x1024x5632 (![] : Fin 0 → Fin S4x1024x5632.rank)
  reducesTo_S4x1024x5632_S_d0_1_2 : S4x1024x5632.ReducesTo [0, 1, 2] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v13 : IVec S_ 1) (main_v16 : IVec S8192x5632 1) : IVec S_ 1 :=
  let main_c_5 : IVec S_ 1 := constantI S_ 1 1#1
  let main_v17 : IVec S_ 1 := (fun x v => Host.reduce IntOp.andi x v reducesTo_S8192x5632_S_d0_1 h_S_) main_v16 main_c_5
  let main_v18 : IVec S_ 1 := andi main_v13 main_v17
  main_v18

def fn {F : FTy → Type} [FloatOps F] (main_arg0 : FVec F S8192x1024 .f32) (main_arg1 : FVec F S4x1024 .f32) (main_arg2 : FVec F S4x1024x5632 .f32) (main_arg3 : FVec F S8192x1024 .f32) (main_arg4 : FVec F S8192x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024x5632 .f32 := Host.absf main_arg2
  let main_cst_2 : FVec F S_ .f32 := constant S_ .f32 0x7F800000#32
  let main_v10 : FVec F S4x1024x5632 .f32 := broadcastInDim S4x1024x5632 ![] bcast_S_S4x1024x5632 main_cst_2
  let main_v11 : IVec S4x1024x5632 1 := cmpf .olt main_v9 main_v10
  let main_c_3 : IVec S_ 1 := constantI S_ 1 1#1
  let main_v12 : IVec S_ 1 := (fun x v => Host.reduce IntOp.andi x v reducesTo_S4x1024x5632_S_d0_1_2 h_S_) main_v11 main_c_3
  let main_v13 : IVec S_ 1 := andi main_v8 main_v12
  let main_v14 : FVec F S8192x5632 .f32 := Host.absf main_arg4
  let main_cst_4 : FVec F S_ .f32 := constant S_ .f32 0x7F800000#32
  let main_v15 : FVec F S8192x5632 .f32 := broadcastInDim S8192x5632 ![] bcast_S_S8192x5632 main_cst_4
  let main_v16 : IVec S8192x5632 1 := cmpf .olt main_v14 main_v15
  fn_part1 (F := F) main_v13 main_v16
-- ==== Pre_finite_ple.lean ====
abbrev S8192x1024 : Shape := ⟨2, ![8192, 1024]⟩
abbrev S4x1024 : Shape := ⟨2, ![4, 1024]⟩
abbrev S4x1024x1024 : Shape := ⟨3, ![4, 1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S8192x1024 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S4x1024 .f32) (main_arg2 : FVec F S4x1024x1024 .f32) (main_arg3 : FVec F S8192x256 .f32) (main_arg4 : FVec F S256x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_v13 main_v16
-- ==== Pre_finite_pooldx.lean ====
abbrev S8192x1024 : Shape := ⟨2, ![8192, 1024]⟩
abbrev S4x1024 : Shape := ⟨2, ![4, 1024]⟩
abbrev S2x1024x1024 : Shape := ⟨3, ![2, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S2x1024x1024 : S_.BroadcastsInDim S2x1024x1024 (![] : Fin 0 → Fin S2x1024x1024.rank)
  reducesTo_S2x1024x1024_S_d0_1_2 : S2x1024x1024.ReducesTo [0, 1, 2] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S4x1024 .f32) (main_arg2 : FVec F S2x1024x1024 .f32) (main_arg3 : FVec F S8192x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S2x1024x1024 .f32 := Host.absf main_arg2
  let main_cst_2 : FVec F S_ .f32 := constant S_ .f32 0x7F800000#32
  let main_v10 : FVec F S2x1024x1024 .f32 := broadcastInDim S2x1024x1024 ![] bcast_S_S2x1024x1024 main_cst_2
  let main_v11 : IVec S2x1024x1024 1 := cmpf .olt main_v9 main_v10
  let main_c_3 : IVec S_ 1 := constantI S_ 1 1#1
  let main_v12 : IVec S_ 1 := (fun x v => Host.reduce IntOp.andi x v reducesTo_S2x1024x1024_S_d0_1_2 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_poolwindow.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_qknorm.lean ====
abbrev S8192x3072 : Shape := ⟨2, ![8192, 3072]⟩
abbrev S64 : Shape := ⟨1, ![64]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S64 : S_.BroadcastsInDim S64 (![] : Fin 0 → Fin S64.rank)
  reducesTo_S64_S_d0 : S64.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x3072 .f32) (main_arg1 : FVec F S64 .f32) (main_arg2 : FVec F S64 .f32) (main_arg3 : FVec F S8192x1024 .f32) (main_arg4 : FVec F S8192x1024 .f32) (main_arg5 : FVec F S8192x1024 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== LossHead.lean ====
abbrev S8192x1024 : Shape := ⟨2, ![8192, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FfnDact.lean ====
abbrev S8192x1024 : Shape := ⟨2, ![8192, 1024]⟩
abbrev S1024x5632 : Shape := ⟨2, ![1024, 5632]⟩
abbrev S4x2816x1024 : Shape := ⟨3, ![4, 2816, 1024]⟩
abbrev S8192x5632 : Shape := ⟨2, ![8192, 5632]⟩
abbrev S8192x2816 : Shape := ⟨2, ![8192, 2816]⟩
abbrev S256x1024 : Shape := ⟨2, ![256, 1024]⟩
abbrev S1x2816x1024 : Shape := ⟨3, ![1, 2816, 1024]⟩
abbrev S256x2816 : Shape := ⟨2, ![256, 2816]⟩
abbrev S256x5632 : Shape := ⟨2, ![256, 5632]⟩
abbrev S2816x1024 : Shape := ⟨2, ![2816, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S4x2816x1024, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S1024x5632, .bf16⟩
  | .hbm, ⟨7, _⟩ => ⟨S1024x5632, .f32⟩
  | .hbm, ⟨8, _⟩ => ⟨S8192x5632, .f32⟩
  | .hbm, ⟨9, _⟩ => ⟨S8192x5632, .bf16⟩
  | .hbm, ⟨10, _⟩ => ⟨S4x2816x1024, .bf16⟩
  | .hbm, ⟨11, _⟩ => ⟨S8192x2816, .bf16⟩
  | .hbm, ⟨12, _⟩ => ⟨S8192x2816, .bf16⟩
  | .hbm, ⟨13, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S1x2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | .local _ .vmem, ⟨9, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDactRefIdeal.lean ====
abbrev S8192x1024 : Shape := ⟨2, ![8192, 1024]⟩
abbrev S1024x5632 : Shape := ⟨2, ![1024, 5632]⟩
abbrev S4x2816x1024 : Shape := ⟨3, ![4, 2816, 1024]⟩
abbrev S8192x5632 : Shape := ⟨2, ![8192, 5632]⟩
abbrev S1x2816x1024 : Shape := ⟨3, ![1, 2816, 1024]⟩
abbrev S2816x1024 : Shape := ⟨2, ![2816, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S4x2816x1024, .f32⟩
  | .hbm, ⟨3, _⟩ => ⟨S8192x1024, .f32⟩
  | .hbm, ⟨4, _⟩ => ⟨S8192x5632, .f32⟩
  | .hbm, ⟨5, _⟩ => ⟨S1x2816x1024, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S1024x2816, .f32⟩
  | .hbm, ⟨31, _⟩ => ⟨S2816x1024, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x5632, .f32⟩
  | .hbm, ⟨40, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== FfnDx.lean ====
abbrev S8192x1024 : Shape := ⟨2, ![8192, 1024]⟩
abbrev S4x1024 : Shape := ⟨2, ![4, 1024]⟩
abbrev S4x1024x5632 : Shape := ⟨3, ![4, 1024, 5632]⟩
abbrev S8192x5632 : Shape := ⟨2, ![8192, 5632]⟩
abbrev S4x1024x4x1408 : Shape := ⟨4, ![4, 1024, 4, 1408]⟩
abbrev S4x4x1024x1408 : Shape := ⟨4, ![4, 4, 1024, 1408]⟩
abbrev S1x1024 : Shape := ⟨2, ![1, 1024]⟩
abbrev S1024 : Shape := ⟨1, ![1024]⟩
abbrev S256x5632 : Shape := ⟨2, ![256, 5632]⟩
abbrev S1x4x1024x1408 : Shape := ⟨4, ![1, 4, 1024, 1408]⟩
abbrev S256x1024 : Shape := ⟨2, ![256, 1024]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x5632, .f32⟩
  | .hbm, ⟨3, _⟩ => ⟨S8192x1024, .f32⟩
  | .hbm, ⟨4, _⟩ => ⟨S8192x5632, .f32⟩
  | .hbm, ⟨5, _⟩ => ⟨S4x1024x5632, .bf16⟩
  | .hbm, ⟨6, _⟩ => ⟨S4x1024x4x1408, .bf16⟩
  | .hbm, ⟨7, _⟩ => ⟨S4x4x1024x1408, .bf16⟩
  | .hbm, ⟨8, _⟩ => ⟨S8192x5632, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1x4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnDxRefIdeal.lean ====
abbrev S8192x1024 : Shape := ⟨2, ![8192, 1024]⟩
abbrev S4x1024 : Shape := ⟨2, ![4, 1024]⟩
abbrev S4x1024x5632 : Shape := ⟨3, ![4, 1024, 5632]⟩
abbrev S8192x5632 : Shape := ⟨2, ![8192, 5632]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x5632, .f32⟩
  | .hbm, ⟨3, _⟩ => ⟨S8192x1024, .f32⟩
  | .hbm, ⟨4, _⟩ => ⟨S8192x5632, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S5632x1024, .f32⟩
  | .hbm, ⟨31, _⟩ => ⟨S1024x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== PoolDx.lean ====
abbrev S8192x1024 : Shape := ⟨2, ![8192, 1024]⟩
abbrev S4x1024 : Shape := ⟨2, ![4, 1024]⟩
abbrev S2x1024x1024 : Shape := ⟨3, ![2, 1024, 1024]⟩
abbrev S1x1024 : Shape := ⟨2, ![1, 1024]⟩
abbrev S1024 : Shape := ⟨1, ![1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S2x1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S2x1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_10 : BitVec 32 := 0#32
  let v14 : BitVec 1 := Scalar.cmpi .eq arg1 c0_i32_10
  let v15 : BitVec 32 := Scalar.extui v14
  let c0_i32_11 : BitVec 32 := 0#32
  let v16 : BitVec 1 := Scalar.cmpi .ne v15 c0_i32_11
  v16

def k0_cond3 (i : grid0.Coords) : BitVec 1 :=
  let arg0 : BitVec 32 := BitVec.ofNat 32 (i 0).val
  let c0_i32_9 : BitVec 32 := 0#32
  let v13 : BitVec 1 := Scalar.cmpi .eq arg0 c0_i32_9
  let v46 : BitVec 32 := Scalar.extui v13
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== PoolDxRefIdeal.lean ====
abbrev S8192x1024 : Shape := ⟨2, ![8192, 1024]⟩
abbrev S4x1024 : Shape := ⟨2, ![4, 1024]⟩
abbrev S2x1024x1024 : Shape := ⟨3, ![2, 1024, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S2x1024x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S1x1024x1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== PleBwd.lean ====
abbrev S8192x1024 : Shape := ⟨2, ![8192, 1024]⟩
abbrev S4x1024 : Shape := ⟨2, ![4, 1024]⟩
abbrev S4x1024x1024 : Shape := ⟨3, ![4, 1024, 1024]⟩
abbrev S8192x256 : Shape := ⟨2, ![8192, 256]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 46
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S8192x1024, .f32⟩
  | .hbm, ⟨31, _⟩ => ⟨S8192x1024, .bf16⟩
  | .hbm, ⟨32, _⟩ => ⟨S8192x256, .bf16⟩
  | .hbm, ⟨33, _⟩ => ⟨S8192x256, .f32⟩
  | .hbm, ⟨34, _⟩ => ⟨S256x1024, .bf16⟩
  | .hbm, ⟨35, _⟩ => ⟨S256x1024, .f32⟩
  | .hbm, ⟨36, _⟩ => ⟨S8192x1024, .f32⟩
  | .hbm, ⟨37, _⟩ => ⟨S8192x1024, .bf16⟩
  | .hbm, ⟨38, _⟩ => ⟨S4x1024x1024, .bf16⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleBwdRefIdeal.lean ====
abbrev S8192x1024 : Shape := ⟨2, ![8192, 1024]⟩
abbrev S4x1024 : Shape := ⟨2, ![4, 1024]⟩
abbrev S4x1024x1024 : Shape := ⟨3, ![4, 1024, 1024]⟩
abbrev S8192x256 : Shape := ⟨2, ![8192, 256]⟩
abbrev S256x1024 : Shape := ⟨2, ![256, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S1x1024x1024, .f32⟩
  | .hbm, ⟨9, _⟩ => ⟨S1024x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x256, .f32⟩
  | .hbm, ⟨50, _⟩ => ⟨S256x1024, .f32⟩
  | .hbm, ⟨51, _⟩ => ⟨S8192x256, .f32⟩
  | .hbm, ⟨52, _⟩ => ⟨S8192x1024, .f32⟩
  | .hbm, ⟨53, _⟩ => ⟨S1024x1024, .f32⟩
  | .hbm, ⟨54, _⟩ => ⟨S1024x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .bf16⟩
  | .hbm, ⟨117, _⟩ => ⟨S8192x1024, .bf16⟩
  | .hbm, ⟨118, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩

abbrev nD : Nat := 1
abbrev τ : Topo := Topo.v7x

variable {F : FTy → Type} [FloatOps F]
-- ==== PoolGroup.lean ====
abbrev S8192x1024 : Shape := ⟨2, ![8192, 1024]⟩
abbrev S4x256x256 : Shape := ⟨3, ![4, 256, 256]⟩
abbrev S1024 : Shape := ⟨1, ![1024]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8194x256 : Shape := ⟨2, ![8194, 256]⟩
abbrev S8192x1 : Shape := ⟨2, ![8192, 1]⟩
abbrev S4x256 : Shape := ⟨2, ![4, 256]⟩
abbrev S8196x256 : Shape := ⟨2, ![8196, 256]⟩
abbrev S8x256 : Shape := ⟨2, ![8, 256]⟩
abbrev S8200x256 : Shape := ⟨2, ![8200, 256]⟩
abbrev S16x256 : Shape := ⟨2, ![16, 256]⟩
abbrev S8208x256 : Shape := ⟨2, ![8208, 256]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 105
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1024, .f32⟩
  | .hbm, ⟨3, _⟩ => ⟨S8192x1024, .f32⟩
  | .hbm, ⟨4, _⟩ => ⟨S8192x4x256, .f32⟩
  | .hbm, ⟨5, _⟩ => ⟨S_, .f32⟩
  | .hbm, ⟨6, _⟩ => ⟨S_, .f32⟩
  | .hbm, ⟨7, _⟩ => ⟨S8192x4x256, .f32⟩
  | .hbm, ⟨8, _⟩ => ⟨S8192, .i32⟩
  | .hbm, ⟨9, _⟩ => ⟨S8192x1x256, .f32⟩
  | .hbm, ⟨10, _⟩ => ⟨S8192x256, .f32⟩
  | .hbm, ⟨11, _⟩ => ⟨S_, .f32⟩
  | .hbm, ⟨12, _⟩ => ⟨S2x256, .f32⟩
  | .hbm, ⟨13, _⟩ => ⟨S8194x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .f32⟩
  | .hbm, ⟨24, _⟩ => ⟨S8192x1, .f32⟩
  | .hbm, ⟨25, _⟩ => ⟨S8192x256, .f32⟩
  | .hbm, ⟨26, _⟩ => ⟨S8192x256, .f32⟩
  | .hbm, ⟨27, _⟩ => ⟨S8192x1x256, .f32⟩
  | .hbm, ⟨28, _⟩ => ⟨S8192x256, .f32⟩
  | .hbm, ⟨29, _⟩ => ⟨S8192x256, .f32⟩
  | .hbm, ⟨30, _⟩ => ⟨S8192x1x256, .f32⟩
  | .hbm, ⟨31, _⟩ => ⟨S8192x256, .f32⟩
  | .hbm, ⟨32, _⟩ => ⟨S_, .f32⟩
  | .hbm, ⟨33, _⟩ => ⟨S4x256, .f32⟩
  | .hbm, ⟨34, _⟩ => ⟨S8196x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .f32⟩
  | .hbm, ⟨45, _⟩ => ⟨S8192x1, .f32⟩
  | .hbm, ⟨46, _⟩ => ⟨S8192x256, .f32⟩
  | .hbm, ⟨47, _⟩ => ⟨S8192x256, .f32⟩
  | .hbm, ⟨48, _⟩ => ⟨S8192x1x256, .f32⟩
  | .hbm, ⟨49, _⟩ => ⟨S8192x256, .f32⟩
  | .hbm, ⟨50, _⟩ => ⟨S8192x256, .f32⟩
  | .hbm, ⟨51, _⟩ => ⟨S8192x1x256, .f32⟩
  | .hbm, ⟨52, _⟩ => ⟨S8192x256, .f32⟩
  | .hbm, ⟨53, _⟩ => ⟨S_, .f32⟩
  | .hbm, ⟨54, _⟩ => ⟨S8x256, .f32⟩
  | .hbm, ⟨55, _⟩ => ⟨S8200x256, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x1, .f32⟩
  | .hbm, ⟨67, _⟩ => ⟨S8192x256, .f32⟩
  | .hbm, ⟨68, _⟩ => ⟨S8192x256, .f32⟩
  | .hbm, ⟨69, _⟩ => ⟨S8192x1x256, .f32⟩
  | .hbm, ⟨70, _⟩ => ⟨S8192x256, .f32⟩
  | .hbm, ⟨71, _⟩ => ⟨S8192x256, .f32⟩
  | .hbm, ⟨72, _⟩ => ⟨S8192x1x256, .f32⟩
  | .hbm, ⟨73, _⟩ => ⟨S8192x256, .f32⟩
  | .hbm, ⟨74, _⟩ => ⟨S_, .f32⟩
  | .hbm, ⟨75, _⟩ => ⟨S16x256, .f32⟩
  | .hbm, ⟨76, _⟩ => ⟨S8208x256, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .f32⟩
  | .hbm, ⟨87, _⟩ => ⟨S8192x1, .f32⟩
  | .hbm, ⟨88, _⟩ => ⟨S8192x256, .f32⟩
  | .hbm, ⟨89, _⟩ => ⟨S8192x256, .f32⟩
  | .hbm, ⟨90, _⟩ => ⟨S8192x1x256, .f32⟩
  | .hbm, ⟨91, _⟩ => ⟨S8192x256, .f32⟩
  | .hbm, ⟨92, _⟩ => ⟨S8192x256, .f32⟩
  | .hbm, ⟨93, _⟩ => ⟨S8192x1x256, .f32⟩
  | .hbm, ⟨94, _⟩ => ⟨S8192x1x256, .f32⟩
  | .hbm, ⟨95, _⟩ => ⟨S8192x1x256, .f32⟩
  | .hbm, ⟨96, _⟩ => ⟨S8192x1x256, .f32⟩
  | .hbm, ⟨97, _⟩ => ⟨S8192x4x256, .f32⟩
  | .hbm, ⟨98, _⟩ => ⟨S8192x1024, .f32⟩
  | .hbm, ⟨99, _⟩ => ⟨S8192x1024, .bf16⟩
  | .hbm, ⟨100, _⟩ => ⟨S4x256x256, .bf16⟩
  | .hbm, ⟨101, _⟩ => ⟨S1x1024, .f32⟩
  | .hbm, ⟨102, _⟩ => ⟨S8192x1024, .f32⟩
  | .hbm, ⟨103, _⟩ => ⟨S4x256x256, .bf16⟩
  | .hbm, ⟨104, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S4x256x256, .bf16⟩
  | .local _ .vmem, ⟨9, _⟩ => ⟨S1x1024, .f32⟩
  | .local _ .vmem, ⟨10, _⟩ => ⟨S4x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_8 : Ref sig .tc := ⟨.hbm, 80, rfl⟩
abbrev main_v64 : Ref sig .tc := ⟨.hbm, 81, rfl⟩
abbrev main_v65 : Ref sig .tc := ⟨.hbm, 82, rfl⟩
abbrev main_c_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84_0 : Ref sig .tc := ⟨.hbm, 102, rfl⟩
abbrev main_v84_1 : Ref sig .tc := ⟨.hbm, 103, rfl⟩
abbrev main_v84_2 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v89 : BitVec 1 := Scalar.cmpi .eq arg0 c15_i32
  let v90 : BitVec 32 := Scalar.extui v89
  let c0_i32_78 : BitVec 32 := 0#32
  let v91 : BitVec 1 := Scalar.cmpi .ne v90 c0_i32_78
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolGroupRefIdeal.lean ====
abbrev S8192x1024 : Shape := ⟨2, ![8192, 1024]⟩
abbrev S4x256x256 : Shape := ⟨3, ![4, 256, 256]⟩
abbrev S1024 : Shape := ⟨1, ![1024]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8194x256 : Shape := ⟨2, ![8194, 256]⟩
abbrev S8192x1 : Shape := ⟨2, ![8192, 1]⟩
abbrev S4x256 : Shape := ⟨2, ![4, 256]⟩
abbrev S8196x256 : Shape := ⟨2, ![8196, 256]⟩
abbrev S8x256 : Shape := ⟨2, ![8, 256]⟩
abbrev S8200x256 : Shape := ⟨2, ![8200, 256]⟩
abbrev S16x256 : Shape := ⟨2, ![16, 256]⟩
abbrev S8208x256 : Shape := ⟨2, ![8208, 256]⟩
abbrev S4x256x8192 : Shape := ⟨3, ![4, 256, 8192]⟩
abbrev S1x1024 : Shape := ⟨2, ![1, 1024]⟩
abbrev S4x8192x256 : Shape := ⟨3, ![4, 8192, 256]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1024, .f32⟩
  | .hbm, ⟨3, _⟩ => ⟨S8192x1024, .f32⟩
  | .hbm, ⟨4, _⟩ => ⟨S8192x4x256, .f32⟩
  | .hbm, ⟨5, _⟩ => ⟨S_, .f32⟩
  | .hbm, ⟨6, _⟩ => ⟨S_, .f32⟩
  | .hbm, ⟨7, _⟩ => ⟨S8192x4x256, .f32⟩
  | .hbm, ⟨8, _⟩ => ⟨S8192, .i32⟩
  | .hbm, ⟨9, _⟩ => ⟨S8192x1x256, .f32⟩
  | .hbm, ⟨10, _⟩ => ⟨S8192x256, .f32⟩
  | .hbm, ⟨11, _⟩ => ⟨S_, .f32⟩
  | .hbm, ⟨12, _⟩ => ⟨S2x256, .f32⟩
  | .hbm, ⟨13, _⟩ => ⟨S8194x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .f32⟩
  | .hbm, ⟨24, _⟩ => ⟨S8192x1, .f32⟩
  | .hbm, ⟨25, _⟩ => ⟨S8192x256, .f32⟩
  | .hbm, ⟨26, _⟩ => ⟨S8192x256, .f32⟩
  | .hbm, ⟨27, _⟩ => ⟨S8192x1x256, .f32⟩
  | .hbm, ⟨28, _⟩ => ⟨S8192x256, .f32⟩
  | .hbm, ⟨29, _⟩ => ⟨S8192x256, .f32⟩
  | .hbm, ⟨30, _⟩ => ⟨S8192x1x256, .f32⟩
  | .hbm, ⟨31, _⟩ => ⟨S8192x256, .f32⟩
  | .hbm, ⟨32, _⟩ => ⟨S_, .f32⟩
  | .hbm, ⟨33, _⟩ => ⟨S4x256, .f32⟩
  | .hbm, ⟨34, _⟩ => ⟨S8196x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .f32⟩
  | .hbm, ⟨45, _⟩ => ⟨S8192x1, .f32⟩
  | .hbm, ⟨46, _⟩ => ⟨S8192x256, .f32⟩
  | .hbm, ⟨47, _⟩ => ⟨S8192x256, .f32⟩
  | .hbm, ⟨48, _⟩ => ⟨S8192x1x256, .f32⟩
  | .hbm, ⟨49, _⟩ => ⟨S8192x256, .f32⟩
  | .hbm, ⟨50, _⟩ => ⟨S8192x256, .f32⟩
  | .hbm, ⟨51, _⟩ => ⟨S8192x1x256, .f32⟩
  | .hbm, ⟨52, _⟩ => ⟨S8192x256, .f32⟩
  | .hbm, ⟨53, _⟩ => ⟨S_, .f32⟩
  | .hbm, ⟨54, _⟩ => ⟨S8x256, .f32⟩
  | .hbm, ⟨55, _⟩ => ⟨S8200x256, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x1, .f32⟩
  | .hbm, ⟨67, _⟩ => ⟨S8192x256, .f32⟩
  | .hbm, ⟨68, _⟩ => ⟨S8192x256, .f32⟩
  | .hbm, ⟨69, _⟩ => ⟨S8192x1x256, .f32⟩
  | .hbm, ⟨70, _⟩ => ⟨S8192x256, .f32⟩
  | .hbm, ⟨71, _⟩ => ⟨S8192x256, .f32⟩
  | .hbm, ⟨72, _⟩ => ⟨S8192x1x256, .f32⟩
  | .hbm, ⟨73, _⟩ => ⟨S8192x256, .f32⟩
  | .hbm, ⟨74, _⟩ => ⟨S_, .f32⟩
  | .hbm, ⟨75, _⟩ => ⟨S16x256, .f32⟩
  | .hbm, ⟨76, _⟩ => ⟨S8208x256, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .f32⟩
  | .hbm, ⟨87, _⟩ => ⟨S8192x1, .f32⟩
  | .hbm, ⟨88, _⟩ => ⟨S8192x256, .f32⟩
  | .hbm, ⟨89, _⟩ => ⟨S8192x256, .f32⟩
  | .hbm, ⟨90, _⟩ => ⟨S8192x1x256, .f32⟩
  | .hbm, ⟨91, _⟩ => ⟨S8192x256, .f32⟩
  | .hbm, ⟨92, _⟩ => ⟨S8192x256, .f32⟩
  | .hbm, ⟨93, _⟩ => ⟨S8192x1x256, .f32⟩
  | .hbm, ⟨94, _⟩ => ⟨S8192x1x256, .f32⟩
  | .hbm, ⟨95, _⟩ => ⟨S8192x1x256, .f32⟩
  | .hbm, ⟨96, _⟩ => ⟨S8192x1x256, .f32⟩
  | .hbm, ⟨97, _⟩ => ⟨S8192x4x256, .f32⟩
  | .hbm, ⟨98, _⟩ => ⟨S4x256x8192, .f32⟩
  | .hbm, ⟨99, _⟩ => ⟨S8192x4x256, .f32⟩
  | .hbm, ⟨100, _⟩ => ⟨S8192x1024, .f32⟩
  | .hbm, ⟨101, _⟩ => ⟨S1x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S8192x1024, .f32⟩
  | .hbm, ⟨109, _⟩ => ⟨S8192x1024, .f32⟩
  | .hbm, ⟨110, _⟩ => ⟨S_, .f32⟩
  | .hbm, ⟨111, _⟩ => ⟨S1024, .f32⟩
  | .hbm, ⟨112, _⟩ => ⟨S8192x4x256, .f32⟩
  | .hbm, ⟨113, _⟩ => ⟨S4x256x8192, .f32⟩
  | .hbm, ⟨114, _⟩ => ⟨S4x8192x256, .f32⟩
  | .hbm, ⟨115, _⟩ => ⟨S8192x4x256, .f32⟩
  | .hbm, ⟨116, _⟩ => ⟨S4x256x256, .f32⟩
  | .hbm, ⟨117, _⟩ => ⟨S4x256x256, .f32⟩
  | .hbm, ⟨118, _⟩ => ⟨S8192x1024, .f32⟩
  | .hbm, ⟨119, _⟩ => ⟨S4x256x256, .bf16⟩
  | .hbm, ⟨120, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_8 : Ref sig .tc := ⟨.hbm, 80, rfl⟩
abbrev main_v64 : Ref sig .tc := ⟨.hbm, 81, rfl⟩
abbrev main_v65 : Ref sig .tc := ⟨.hbm, 82, rfl⟩
abbrev main_c_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_11 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩

abbrev nD : Nat := 1
abbrev τ : Topo := Topo.v7x

variable {F : FTy → Type} [FloatOps F]
-- ==== PoolWindow.lean ====
abbrev S8192x1024 : Shape := ⟨2, ![8192, 1024]⟩
abbrev S512x1024 : Shape := ⟨2, ![512, 1024]⟩
abbrev S16x1024 : Shape := ⟨2, ![16, 1024]⟩
abbrev S528x1 : Shape := ⟨2, ![528, 1]⟩
abbrev S528x1024 : Shape := ⟨2, ![528, 1024]⟩
abbrev S528x256 : Shape := ⟨2, ![528, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolWindowRefIdeal.lean ====
abbrev S8192x1024 : Shape := ⟨2, ![8192, 1024]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8194x256 : Shape := ⟨2, ![8194, 256]⟩
abbrev S8192x1 : Shape := ⟨2, ![8192, 1]⟩
abbrev S4x256 : Shape := ⟨2, ![4, 256]⟩
abbrev S8196x256 : Shape := ⟨2, ![8196, 256]⟩
abbrev S8x256 : Shape := ⟨2, ![8, 256]⟩
abbrev S8200x256 : Shape := ⟨2, ![8200, 256]⟩
abbrev S16x256 : Shape := ⟨2, ![16, 256]⟩
abbrev S8208x256 : Shape := ⟨2, ![8208, 256]⟩

abbrev nBuf : Space → Nat
  | .hbm => 193
  | .vmem => 0
  | .smem => 0
  | _ => 0

abbrev hbmTy0_0 (i : Nat) : BufTy := match i % 128 with
  | 0 => ⟨S8192x1024, .f32⟩
  | 1 => ⟨S8192x1024, .f32⟩
  | 2 => ⟨S8192x4x256, .f32⟩
  | 3 => ⟨S8192x4x256, .f32⟩
  | 4 => ⟨S_, .f32⟩
  | 5 => ⟨S_, .f32⟩
  | 6 => ⟨S8192x4x256, .f32⟩
  | 7 => ⟨S8192, .i32⟩
  | 8 => ⟨S8192x1x256, .f32⟩
  | 9 => ⟨S8192x256, .f32⟩
  | 10 => ⟨S_, .f32⟩
  | 11 => ⟨S2x256, .f32⟩
  | 12 => ⟨S8194x256, .f32⟩
  | 13 => ⟨S_, .f32⟩
  | 14 => ⟨S2x256, .f32⟩
  | 15 => ⟨S8192x256, .f32⟩
  | 16 => ⟨S8192x256, .f32⟩
  | 17 => ⟨S8192x256, .f32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .f32⟩
  | 25 => ⟨S8192x1, .f32⟩
  | 26 => ⟨S8192x256, .f32⟩
  | 27 => ⟨S8192x256, .f32⟩
  | 28 => ⟨S8192x1x256, .f32⟩
  | 29 => ⟨S8192x256, .f32⟩
  | 30 => ⟨S8192x256, .f32⟩
  | 31 => ⟨S8192x1x256, .f32⟩
  | 32 => ⟨S8192x256, .f32⟩
  | 33 => ⟨S_, .f32⟩
  | 34 => ⟨S4x256, .f32⟩
  | 35 => ⟨S8196x256, .f32⟩
  | 36 => ⟨S_, .f32⟩
  | 37 => ⟨S4x256, .f32⟩
  | 38 => ⟨S8192x256, .f32⟩
  | 39 => ⟨S8192x256, .f32⟩
  | 40 => ⟨S8192x256, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S8192x1, .f32⟩
  | 49 => ⟨S8192x256, .f32⟩
  | 50 => ⟨S8192x256, .f32⟩
  | 51 => ⟨S8192x1x256, .f32⟩
  | 52 => ⟨S8192x256, .f32⟩
  | 53 => ⟨S8192x256, .f32⟩
  | 54 => ⟨S8192x1x256, .f32⟩
  | 55 => ⟨S8192x256, .f32⟩
  | 56 => ⟨S_, .f32⟩
  | 57 => ⟨S8x256, .f32⟩
  | 58 => ⟨S8200x256, .f32⟩
  | 59 => ⟨S_, .f32⟩
  | 60 => ⟨S8x256, .f32⟩
  | 61 => ⟨S8192x256, .f32⟩
  | 62 => ⟨S8192x256, .f32⟩
  | 63 => ⟨S8192x256, .f32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S8192, .f32⟩
  | 71 => ⟨S8192x1, .f32⟩
  | 72 => ⟨S8192x256, .f32⟩
  | 73 => ⟨S8192x256, .f32⟩
  | 74 => ⟨S8192x1x256, .f32⟩
  | 75 => ⟨S8192x256, .f32⟩
  | 76 => ⟨S8192x256, .f32⟩
  | 77 => ⟨S8192x1x256, .f32⟩
  | 78 => ⟨S8192x256, .f32⟩
  | 79 => ⟨S_, .f32⟩
  | 80 => ⟨S16x256, .f32⟩
  | 81 => ⟨S8208x256, .f32⟩
  | 82 => ⟨S_, .f32⟩
  | 83 => ⟨S16x256, .f32⟩
  | 84 => ⟨S8192x256, .f32⟩
  | 85 => ⟨S8192x256, .f32⟩
  | 86 => ⟨S8192x256, .f32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S8192, .f32⟩
  | 94 => ⟨S8192x1, .f32⟩
  | 95 => ⟨S8192x256, .f32⟩
  | 96 => ⟨S8192x256, .f32⟩
  | 97 => ⟨S8192x1x256, .f32⟩
  | 98 => ⟨S8192x256, .f32⟩
  | 99 => ⟨S8192x256, .f32⟩
  | 100 => ⟨S8192x1x256, .f32⟩
  | 101 => ⟨S8192x1x256, .f32⟩
  | 102 => ⟨S8192x1x256, .f32⟩
  | 103 => ⟨S8192x1x256, .f32⟩
  | 104 => ⟨S8192x4x256, .f32⟩
  | 105 => ⟨S8192x1x256, .f32⟩
  | 106 => ⟨S8192x256, .f32⟩
  | 107 => ⟨S8192x1x256, .f32⟩
  | 108 => ⟨S8192x256, .f32⟩
  | 109 => ⟨S8192x1x256, .f32⟩
  | 110 => ⟨S8192x256, .f32⟩
  | 111 => ⟨S8192x1x256, .f32⟩
  | 112 => ⟨S8192x256, .f32⟩
  | 113 => ⟨S8192x256, .f32⟩
  | 114 => ⟨S8192x1x256, .f32⟩
  | 115 => ⟨S_, .f32⟩
  | 116 => ⟨S8192x4x256, .f32⟩
  | 117 => ⟨S8192x256, .f32⟩
  | 118 => ⟨S8192x256, .f32⟩
  | 119 => ⟨S8192x256, .f32⟩
  | 120 => ⟨S_, .f32⟩
  | 121 => ⟨S8208x256, .f32⟩
  | 122 => ⟨S_, .f32⟩
  | 123 => ⟨S8208x256, .f32⟩
  | 124 => ⟨S8208x256, .f32⟩
  | 125 => ⟨S16x256, .f32⟩
  | 126 => ⟨S8192x256, .f32⟩
  | 127 => ⟨S8192x1x256, .f32⟩
  | _ => ⟨S8192x1024, .f32⟩

abbrev hbmTy0_1 (i : Nat) : BufTy := match i % 128 with
  | 0 => ⟨S_, .f32⟩
  | 1 => ⟨S8192x4x256, .f32⟩
  | 2 => ⟨S8192x256, .f32⟩
  | 3 => ⟨S8192x1x256, .f32⟩
  | 4 => ⟨S_, .f32⟩
  | 5 => ⟨S8192x4x256, .f32⟩
  | 6 => ⟨S8192x4x256, .f32⟩
  | 7 => ⟨S8192x256, .f32⟩
  | 8 => ⟨S8192x256, .f32⟩
  | 9 => ⟨S8192x256, .f32⟩
  | 10 => ⟨S_, .f32⟩
  | 11 => ⟨S8200x256, .f32⟩
  | 12 => ⟨S_, .f32⟩
  | 13 => ⟨S8200x256, .f32⟩
  | 14 => ⟨S8200x256, .f32⟩
  | 15 => ⟨S8x256, .f32⟩
  | 16 => ⟨S8192x256, .f32⟩
  | 17 => ⟨S8192x1x256, .f32⟩
  | 18 => ⟨S_, .f32⟩
  | 19 => ⟨S8192x4x256, .f32⟩
  | 20 => ⟨S8192x4x256, .f32⟩
  | 21 => ⟨S8192x256, .f32⟩
  | 22 => ⟨S8192x1x256, .f32⟩
  | 23 => ⟨S_, .f32⟩
  | 24 => ⟨S8192x4x256, .f32⟩
  | 25 => ⟨S8192x4x256, .f32⟩
  | 26 => ⟨S8192x256, .f32⟩
  | 27 => ⟨S8192x256, .f32⟩
  | 28 => ⟨S8192x256, .f32⟩
  | 29 => ⟨S_, .f32⟩
  | 30 => ⟨S8196x256, .f32⟩
  | 31 => ⟨S_, .f32⟩
  | 32 => ⟨S8196x256, .f32⟩
  | 33 => ⟨S8196x256, .f32⟩
  | 34 => ⟨S4x256, .f32⟩
  | 35 => ⟨S8192x256, .f32⟩
  | 36 => ⟨S8192x1x256, .f32⟩
  | 37 => ⟨S_, .f32⟩
  | 38 => ⟨S8192x4x256, .f32⟩
  | 39 => ⟨S8192x4x256, .f32⟩
  | 40 => ⟨S8192x256, .f32⟩
  | 41 => ⟨S8192x1x256, .f32⟩
  | 42 => ⟨S_, .f32⟩
  | 43 => ⟨S8192x4x256, .f32⟩
  | 44 => ⟨S8192x4x256, .f32⟩
  | 45 => ⟨S8192x256, .f32⟩
  | 46 => ⟨S8192x256, .f32⟩
  | 47 => ⟨S8192x256, .f32⟩
  | 48 => ⟨S_, .f32⟩
  | 49 => ⟨S8194x256, .f32⟩
  | 50 => ⟨S_, .f32⟩
  | 51 => ⟨S8194x256, .f32⟩
  | 52 => ⟨S8194x256, .f32⟩
  | 53 => ⟨S2x256, .f32⟩
  | 54 => ⟨S8192x256, .f32⟩
  | 55 => ⟨S8192x1x256, .f32⟩
  | 56 => ⟨S_, .f32⟩
  | 57 => ⟨S8192x4x256, .f32⟩
  | 58 => ⟨S8192x4x256, .f32⟩
  | 59 => ⟨S_, .f32⟩
  | 60 => ⟨S_, .f32⟩
  | 61 => ⟨S8192x4x256, .f32⟩
  | 62 => ⟨S8192x4x256, .f32⟩
  | 63 => ⟨S8192x1024, .f32⟩
  | 64 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_12 : Ref sig .tc := ⟨.hbm, 87, rfl⟩
abbrev main_v69 : Ref sig .tc := ⟨.hbm, 88, rfl⟩
abbrev main_v70 : Ref sig .tc := ⟨.hbm, 89, rfl⟩
abbrev main_c_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_15 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_17 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_18 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_19 : Ref sig .tc := ⟨.hbm, 138, rfl⟩
abbrev main_v113 : Ref sig .tc := ⟨.hbm, 139, rfl⟩
abbrev main_cst_20 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_21 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_cst_22 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_23 : Ref sig .tc := ⟨.hbm, 157, rfl⟩
abbrev main_v128 : Ref sig .tc := ⟨.hbm, 158, rfl⟩
abbrev main_cst_24 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_25 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_26 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_27 : Ref sig .tc := ⟨.hbm, 176, rfl⟩
abbrev main_v143 : Ref sig .tc := ⟨.hbm, 177, rfl⟩
abbrev main_cst_28 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_29 : Ref sig .tc := ⟨.hbm, 184, rfl⟩
abbrev main_v149 : Ref sig .tc := ⟨.hbm, 185, rfl⟩
abbrev main_v150 : Ref sig .tc := ⟨.hbm, 186, rfl⟩
abbrev main_call1_call0_cst : Ref sig .tc := ⟨.hbm, 187, rfl⟩
abbrev main_call1_call0_v0 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩

abbrev nD : Nat := 1
abbrev τ : Topo := Topo.v7x

variable {F : FTy → Type} [FloatOps F]
-- ==== QkNormBwd.lean ====
abbrev S8192x3072 : Shape := ⟨2, ![8192, 3072]⟩
abbrev S64 : Shape := ⟨1, ![64]⟩
abbrev S8192x1024 : Shape := ⟨2, ![8192, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 26
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x128, .f32⟩
  | .hbm, ⟨18, _⟩ => ⟨S1x128, .f32⟩
  | .hbm, ⟨19, _⟩ => ⟨S8192x3072, .bf16⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x128, .f32⟩
  | .local _ .vmem, ⟨19, _⟩ => ⟨S1x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== QkNormBwdRefIdeal.lean ====
abbrev S8192x3072 : Shape := ⟨2, ![8192, 3072]⟩
abbrev S64 : Shape := ⟨1, ![64]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x16x64, .f32⟩
  | .hbm, ⟨10, _⟩ => ⟨S8192x16x64, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x1, .f32⟩
  | .hbm, ⟨22, _⟩ => ⟨S_, .f32⟩
  | .hbm, ⟨23, _⟩ => ⟨S8192x16x1, .f32⟩
  | .hbm, ⟨24, _⟩ => ⟨S8192x16x1, .f32⟩
  | .hbm, ⟨25, _⟩ => ⟨S8192x16x64, .f32⟩
  | .hbm, ⟨26, _⟩ => ⟨S8192x16x64, .f32⟩
  | .hbm, ⟨27, _⟩ => ⟨S1x1x64, .f32⟩
  | .hbm, ⟨28, _⟩ => ⟨S8192x16x64, .f32⟩
  | .hbm, ⟨29, _⟩ => ⟨S8192x16x64, .f32⟩
  | .hbm, ⟨30, _⟩ => ⟨S_, .f32⟩
  | .hbm, ⟨31, _⟩ => ⟨S8192x16x64, .f32⟩
  | .hbm, ⟨32, _⟩ => ⟨S8192x16x64, .f32⟩
  | .hbm, ⟨33, _⟩ => ⟨S8192x16x64, .f32⟩
  | .hbm, ⟨34, _⟩ => ⟨S8192x16x64, .f32⟩
  | .hbm, ⟨35, _⟩ => ⟨S_, .f32⟩
  | .hbm, ⟨36, _⟩ => ⟨S8192x16, .f32⟩
  | .hbm, ⟨37, _⟩ => ⟨S8192x16x1, .f32⟩
  | .hbm, ⟨38, _⟩ => ⟨S_, .f32⟩
  | .hbm, ⟨39, _⟩ => ⟨S8192x16x1, .f32⟩
  | .hbm, ⟨40, _⟩ => ⟨S8192x16x1, .f32⟩
  | .hbm, ⟨41, _⟩ => ⟨S_, .f32⟩
  | .hbm, ⟨42, _⟩ => ⟨S8192x16x1, .f32⟩
  | .hbm, ⟨43, _⟩ => ⟨S8192x16x1, .f32⟩
  | .hbm, ⟨44, _⟩ => ⟨S8192x16x1, .f32⟩
  | .hbm, ⟨45, _⟩ => ⟨S8192x16x1, .f32⟩
  | .hbm, ⟨46, _⟩ => ⟨S_, .f32⟩
  | .hbm, ⟨47, _⟩ => ⟨S8192x16x1, .f32⟩
  | .hbm, ⟨48, _⟩ => ⟨S8192x16x1, .f32⟩
  | .hbm, ⟨49, _⟩ => ⟨S8192x16x64, .f32⟩
  | .hbm, ⟨50, _⟩ => ⟨S8192x16x64, .f32⟩
  | .hbm, ⟨51, _⟩ => ⟨S1x1x64, .f32⟩
  | .hbm, ⟨52, _⟩ => ⟨S8192x16x64, .f32⟩
  | .hbm, ⟨53, _⟩ => ⟨S8192x16x64, .f32⟩
  | .hbm, ⟨54, _⟩ => ⟨S8192x1024, .f32⟩
  | .hbm, ⟨55, _⟩ => ⟨S8192x1024, .f32⟩
  | .hbm, ⟨56, _⟩ => ⟨S8192x16x64, .f32⟩
  | .hbm, ⟨57, _⟩ => ⟨S8192x16x64, .f32⟩
  | .hbm, ⟨58, _⟩ => ⟨S8192x16x64, .f32⟩
  | .hbm, ⟨59, _⟩ => ⟨S_, .f32⟩
  | .hbm, ⟨60, _⟩ => ⟨S64, .f32⟩
  | .hbm, ⟨61, _⟩ => ⟨S1x1x64, .f32⟩
  | .hbm, ⟨62, _⟩ => ⟨S8192x16x64, .f32⟩
  | .hbm, ⟨63, _⟩ => ⟨S8192x16x64, .f32⟩
  | .hbm, ⟨64, _⟩ => ⟨S_, .f32⟩
  | .hbm, ⟨65, _⟩ => ⟨S64, .f32⟩
  | .hbm, ⟨66, _⟩ => ⟨S8192x16x64, .f32⟩
  | .hbm, ⟨67, _⟩ => ⟨S_, .f32⟩
  | .hbm, ⟨68, _⟩ => ⟨S8192x16, .f32⟩
  | .hbm, ⟨69, _⟩ => ⟨S8192x16x1, .f32⟩
  | .hbm, ⟨70, _⟩ => ⟨S8192x16x64, .f32⟩
  | .hbm, ⟨71, _⟩ => ⟨S8192x16x64, .f32⟩
  | .hbm, ⟨72, _⟩ => ⟨S8192x16x1, .f32⟩
  | .hbm, ⟨73, _⟩ => ⟨S_, .f32⟩
  | .hbm, ⟨74, _⟩ => ⟨S8192x16x1, .f32⟩
  | .hbm, ⟨75, _⟩ => ⟨S8192x16x1, .f32⟩
  | .hbm, ⟨76, _⟩ => ⟨S_, .f32⟩
  | .hbm, ⟨77, _⟩ => ⟨S8192x16, .f32⟩
  | .hbm, ⟨78, _⟩ => ⟨S8192x16x64, .f32⟩
  | .hbm, ⟨79, _⟩ => ⟨S8192x16x64, .f32⟩
  | .hbm, ⟨80, _⟩ => ⟨S8192x16x64, .f32⟩
  | .hbm, ⟨81, _⟩ => ⟨S8192x16x64, .f32⟩
  | .hbm, ⟨82, _⟩ => ⟨S8192x16x64, .f32⟩
  | .hbm, ⟨83, _⟩ => ⟨S8192x1024, .f32⟩
  | .hbm, ⟨84, _⟩ => ⟨S_, .f32⟩
  | .hbm, ⟨85, _⟩ => ⟨S8192x16x64, .f32⟩
  | .hbm, ⟨86, _⟩ => ⟨S8192x16x64, .f32⟩
  | .hbm, ⟨87, _⟩ => ⟨S8192x16x64, .f32⟩
  | .hbm, ⟨88, _⟩ => ⟨S_, .f32⟩
  | .hbm, ⟨89, _⟩ => ⟨S64, .f32⟩
  | .hbm, ⟨90, _⟩ => ⟨S1x1x64, .f32⟩
  | .hbm, ⟨91, _⟩ => ⟨S8192x16x64, .f32⟩
  | .hbm, ⟨92, _⟩ => ⟨S8192x16x64, .f32⟩
  | .hbm, ⟨93, _⟩ => ⟨S_, .f32⟩
  | .hbm, ⟨94, _⟩ => ⟨S64, .f32⟩
  | .hbm, ⟨95, _⟩ => ⟨S8192x16x64, .f32⟩
  | .hbm, ⟨96, _⟩ => ⟨S_, .f32⟩
  | .hbm, ⟨97, _⟩ => ⟨S8192x16, .f32⟩
  | .hbm, ⟨98, _⟩ => ⟨S8192x16x1, .f32⟩
  | .hbm, ⟨99, _⟩ => ⟨S8192x16x64, .f32⟩
  | .hbm, ⟨100, _⟩ => ⟨S8192x16x64, .f32⟩
  | .hbm, ⟨101, _⟩ => ⟨S8192x16x1, .f32⟩
  | .hbm, ⟨102, _⟩ => ⟨S_, .f32⟩
  | .hbm, ⟨103, _⟩ => ⟨S8192x16x1, .f32⟩
  | .hbm, ⟨104, _⟩ => ⟨S8192x16x1, .f32⟩
  | .hbm, ⟨105, _⟩ => ⟨S_, .f32⟩
  | .hbm, ⟨106, _⟩ => ⟨S8192x16, .f32⟩
  | .hbm, ⟨107, _⟩ => ⟨S8192x16x64, .f32⟩
  | .hbm, ⟨108, _⟩ => ⟨S8192x16x64, .f32⟩
  | .hbm, ⟨109, _⟩ => ⟨S8192x16x64, .f32⟩
  | .hbm, ⟨110, _⟩ => ⟨S8192x16x64, .f32⟩
  | .hbm, ⟨111, _⟩ => ⟨S8192x16x64, .f32⟩
  | .hbm, ⟨112, _⟩ => ⟨S8192x1024, .f32⟩
  | .hbm, ⟨113, _⟩ => ⟨S8192x3072, .f32⟩
  | .hbm, ⟨114, _⟩ => ⟨S8192x3072, .bf16⟩
  | .hbm, ⟨115, _⟩ => ⟨S1x64, .f32⟩
  | .hbm, ⟨116, _⟩ => ⟨S1x64, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== AttnBwd.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x2x8x1024x32x256 : Shape := ⟨6, ![8, 2, 8, 1024, 32, 256]⟩
abbrev S8x8x32x2x1024x256 : Shape := ⟨6, ![8, 8, 32, 2, 1024, 256]⟩
abbrev S8x1x4x2x1024x256 : Shape := ⟨6, ![8, 1, 4, 2, 1024, 256]⟩
abbrev S8x4x2x1024x256 : Shape := ⟨5, ![8, 4, 2, 1024, 256]⟩
abbrev S8x1x8x2x1024x256 : Shape := ⟨6, ![8, 1, 8, 2, 1024, 256]⟩
abbrev S8x8x2x1024x256 : Shape := ⟨5, ![8, 8, 2, 1024, 256]⟩
abbrev S8x1x12x2x1024x256 : Shape := ⟨6, ![8, 1, 12, 2, 1024, 256]⟩
abbrev S8x12x2x1024x256 : Shape := ⟨5, ![8, 12, 2, 1024, 256]⟩
abbrev S8x1x16x2x1024x256 : Shape := ⟨6, ![8, 1, 16, 2, 1024, 256]⟩
abbrev S8x16x2x1024x256 : Shape := ⟨5, ![8, 16, 2, 1024, 256]⟩
abbrev S8x1x20x2x1024x256 : Shape := ⟨6, ![8, 1, 20, 2, 1024, 256]⟩
abbrev S8x20x2x1024x256 : Shape := ⟨5, ![8, 20, 2, 1024, 256]⟩
abbrev S8x1x24x2x1024x256 : Shape := ⟨6, ![8, 1, 24, 2, 1024, 256]⟩
abbrev S8x24x2x1024x256 : Shape := ⟨5, ![8, 24, 2, 1024, 256]⟩
abbrev S8x1x28x2x1024x256 : Shape := ⟨6, ![8, 1, 28, 2, 1024, 256]⟩
abbrev S8x28x2x1024x256 : Shape := ⟨5, ![8, 28, 2, 1024, 256]⟩
abbrev S8x1x32x2x1024x256 : Shape := ⟨6, ![8, 1, 32, 2, 1024, 256]⟩
abbrev S8x32x2x1024x256 : Shape := ⟨5, ![8, 32, 2, 1024, 256]⟩
abbrev S8x144x2x1024x256 : Shape := ⟨5, ![8, 144, 2, 1024, 256]⟩
abbrev S1024x128 : Shape := ⟨2, ![1024, 128]⟩
abbrev S8192x128 : Shape := ⟨2, ![8192, 128]⟩
abbrev S3x2x1024x256 : Shape := ⟨4, ![3, 2, 1024, 256]⟩
abbrev S3 : Shape := ⟨1, ![3]⟩
abbrev S256x256 : Shape := ⟨2, ![256, 256]⟩
abbrev S1024x64 : Shape := ⟨2, ![1024, 64]⟩
abbrev S1 : Shape := ⟨1, ![1]⟩
abbrev S1x2x1024x256 : Shape := ⟨4, ![1, 2, 1024, 256]⟩
abbrev S2x1024x256 : Shape := ⟨3, ![2, 1024, 256]⟩
abbrev S1x1x2x1024x256 : Shape := ⟨5, ![1, 1, 2, 1024, 256]⟩
abbrev S1024x1 : Shape := ⟨2, ![1024, 1]⟩
abbrev S256x64 : Shape := ⟨2, ![256, 64]⟩
abbrev S1024x256 : Shape := ⟨2, ![1024, 256]⟩
abbrev S1x1x1024x256 : Shape := ⟨4, ![1, 1, 1024, 256]⟩
abbrev S1024 : Shape := ⟨1, ![1024]⟩
abbrev S768x256 : Shape := ⟨2, ![768, 256]⟩
abbrev S768x64 : Shape := ⟨2, ![768, 64]⟩
abbrev S1x1x768x256 : Shape := ⟨4, ![1, 1, 768, 256]⟩
abbrev S768x1 : Shape := ⟨2, ![768, 1]⟩
abbrev S768 : Shape := ⟨1, ![768]⟩
abbrev S256x1 : Shape := ⟨2, ![256, 1]⟩
abbrev S512x256 : Shape := ⟨2, ![512, 256]⟩
abbrev S512x64 : Shape := ⟨2, ![512, 64]⟩
abbrev S1x1x512x256 : Shape := ⟨4, ![1, 1, 512, 256]⟩
abbrev S512x1 : Shape := ⟨2, ![512, 1]⟩
abbrev S512 : Shape := ⟨1, ![512]⟩
abbrev S1x1x256x256 : Shape := ⟨4, ![1, 1, 256, 256]⟩

abbrev nBuf : Space → Nat
  | .hbm => 92
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x16x64, .f32⟩
  | .hbm, ⟨5, _⟩ => ⟨S16x8192x64, .f32⟩
  | .hbm, ⟨6, _⟩ => ⟨S8192x16x64, .f32⟩
  | .hbm, ⟨7, _⟩ => ⟨S16x8192x64, .f32⟩
  | .hbm, ⟨8, _⟩ => ⟨S16x8192x8192, .f32⟩
  | .hbm, ⟨9, _⟩ => ⟨S8192, .i32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S16x8192x8192, .f32⟩
  | .hbm, ⟨17, _⟩ => ⟨S16x8192x8192, .f32⟩
  | .hbm, ⟨18, _⟩ => ⟨S_, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S_, .f32⟩
  | .hbm, ⟨35, _⟩ => ⟨S16x8192x8192, .i1⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S_, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .i1⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S_, .f32⟩
  | .hbm, ⟨62, _⟩ => ⟨S16x8192x8192, .i1⟩
  | .hbm, ⟨63, _⟩ => ⟨S16x8192x8192, .f32⟩
  | .hbm, ⟨64, _⟩ => ⟨S16x8192x8192, .f32⟩
  | .hbm, ⟨65, _⟩ => ⟨S16x8192x8192, .bf16⟩
  | .hbm, ⟨66, _⟩ => ⟨S8x2x8x1024x32x256, .bf16⟩
  | .hbm, ⟨67, _⟩ => ⟨S8x8x32x2x1024x256, .bf16⟩
  | .hbm, ⟨68, _⟩ => ⟨S8x1x4x2x1024x256, .bf16⟩
  | .hbm, ⟨69, _⟩ => ⟨S8x4x2x1024x256, .bf16⟩
  | .hbm, ⟨70, _⟩ => ⟨S8x1x8x2x1024x256, .bf16⟩
  | .hbm, ⟨71, _⟩ => ⟨S8x8x2x1024x256, .bf16⟩
  | .hbm, ⟨72, _⟩ => ⟨S8x1x12x2x1024x256, .bf16⟩
  | .hbm, ⟨73, _⟩ => ⟨S8x12x2x1024x256, .bf16⟩
  | .hbm, ⟨74, _⟩ => ⟨S8x1x16x2x1024x256, .bf16⟩
  | .hbm, ⟨75, _⟩ => ⟨S8x16x2x1024x256, .bf16⟩
  | .hbm, ⟨76, _⟩ => ⟨S8x1x20x2x1024x256, .bf16⟩
  | .hbm, ⟨77, _⟩ => ⟨S8x20x2x1024x256, .bf16⟩
  | .hbm, ⟨78, _⟩ => ⟨S8x1x24x2x1024x256, .bf16⟩
  | .hbm, ⟨79, _⟩ => ⟨S8x24x2x1024x256, .bf16⟩
  | .hbm, ⟨80, _⟩ => ⟨S8x1x28x2x1024x256, .bf16⟩
  | .hbm, ⟨81, _⟩ => ⟨S8x28x2x1024x256, .bf16⟩
  | .hbm, ⟨82, _⟩ => ⟨S8x1x32x2x1024x256, .bf16⟩
  | .hbm, ⟨83, _⟩ => ⟨S8x32x2x1024x256, .bf16⟩
  | .hbm, ⟨84, _⟩ => ⟨S8x144x2x1024x256, .bf16⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x1024, .bf16⟩
  | .hbm, ⟨89, _⟩ => ⟨S8192x1024, .f32⟩
  | .hbm, ⟨90, _⟩ => ⟨S8192x1024, .f32⟩
  | .hbm, ⟨91, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S3x2x1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45_0 : Ref sig .tc := ⟨.hbm, 89, rfl⟩
abbrev main_v45_1 : Ref sig .tc := ⟨.hbm, 90, rfl⟩
abbrev main_v45_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let c4_i32 : BitVec 32 := 4#32
  let arg1 : BitVec 32 := BitVec.ofNat 32 (i 1).val
  let v17 : BitVec 32 := Scalar.muli c4_i32 arg1
  let c4_i32_7 : BitVec 32 := 4#32
  let v18 : BitVec 32 := Scalar.addi v17 c4_i32_7
  let c0_i32_8 : BitVec 32 := 0#32
  let v19 : BitVec 1 := Scalar.cmpi .sgt v18 c0_i32_8
  let v20 : BitVec 32 := Scalar.extui v19
  let c0_i32_9 : BitVec 32 := 0#32
  let v21 : BitVec 1 := Scalar.cmpi .ne v20 c0_i32_9
  v21

def k0_off1 (i : grid0.Coords) : Fin 5 → Nat :=
  let arg0 : BitVec 32 := BitVec.ofNat 32 (i 0).val
  let c4_i32_283 : BitVec 32 := 4#32
  let arg1 : BitVec 32 := BitVec.ofNat 32 (i 1).val
  let c1_i32_275 : BitVec 32 := 1#32
  let v663 : BitVec 32 := Scalar.addi arg1 c1_i32_275
  let v664 : BitVec 32 := Scalar.muli arg1 v663
  let c0_i32_277 : BitVec 32 := 0#32
  let v666 : BitVec 1 := Scalar.cmpi .sgt v664 c0_i32_277
  let v667 : BitVec 32 := Scalar.extui v666
  let c0_i32_278 : BitVec 32 := 0#32
  let v668 : BitVec 1 := Scalar.cmpi .slt v664 c0_i32_278
  let v669 : BitVec 32 := Scalar.extui v668
  let v670 : BitVec 32 := Scalar.subi v667 v669
  let c2_i32_276 : BitVec 32 := 2#32
  let c0_i32_279 : BitVec 32 := 0#32
  let v671 : BitVec 1 := Scalar.cmpi .sgt c2_i32_276 c0_i32_279
  let v672 : BitVec 32 := Scalar.extui v671
  let c0_i32_280 : BitVec 32 := 0#32
  let v673 : BitVec 1 := Scalar.cmpi .slt c2_i32_276 c0_i32_280
  let v674 : BitVec 32 := Scalar.extui v673
  let v675 : BitVec 32 := Scalar.subi v672 v674
  let v676 : BitVec 1 := Scalar.cmpi .ne v670 v675
  let v677 : BitVec 32 := Scalar.remsi v664 c2_i32_276
  let c0_i32_281 : BitVec 32 := 0#32
  let v678 : BitVec 1 := Scalar.cmpi .ne v677 c0_i32_281
  let v679 : BitVec 1 := Scalar.andi v676 v678
  let v665 : BitVec 32 := Scalar.divsi v664 c2_i32_276
  let c1_i32_282 : BitVec 32 := 1#32
  let v680 : BitVec 32 := Scalar.subi v665 c1_i32_282
  let v681 : BitVec 32 := Scalar.select v679 v680 v665
  let v682 : BitVec 32 := Scalar.muli c4_i32_283 v681
  let c0_i32_284 : BitVec 32 := 0#32
  let v683 : BitVec 32 := Scalar.addi v682 c0_i32_284
  let c0_i32_290 : BitVec 32 := 0#32
  let c0_i32_291 : BitVec 32 := 0#32
  let c0_i32_292 : BitVec 32 := 0#32
  ![arg0.toNat, v683.toNat, 0, 0, 0]
def k0_cond3 (i : grid0.Coords) : BitVec 1 :=
  let c4_i32 : BitVec 32 := 4#32
  let arg1 : BitVec 32 := BitVec.ofNat 32 (i 1).val
  let v17 : BitVec 32 := Scalar.muli c4_i32 arg1
  let c4_i32_7 : BitVec 32 := 4#32
  let v18 : BitVec 32 := Scalar.addi v17 c4_i32_7
  let c1_i32 : BitVec 32 := 1#32
  let v22 : BitVec 1 := Scalar.cmpi .sgt v18 c1_i32
  let v23 : BitVec 32 := Scalar.extui v22
  let c0_i32_10 : BitVec 32 := 0#32
  let v24 : BitVec 1 := Scalar.cmpi .ne v23 c0_i32_10
  v24

def k0_off2 (i : grid0.Coords) : Fin 5 → Nat :=
  let arg0 : BitVec 32 := BitVec.ofNat 32 (i 0).val
  let c4_i32_283 : BitVec 32 := 4#32
  let arg1 : BitVec 32 := BitVec.ofNat 32 (i 1).val
  let c1_i32_275 : BitVec 32 := 1#32
  let v663 : BitVec 32 := Scalar.addi arg1 c1_i32_275
  let v664 : BitVec 32 := Scalar.muli arg1 v663
  let c0_i32_277 : BitVec 32 := 0#32
  let v666 : BitVec 1 := Scalar.cmpi .sgt v664 c0_i32_277
  let v667 : BitVec 32 := Scalar.extui v666
  let c0_i32_278 : BitVec 32 := 0#32
  let v668 : BitVec 1 := Scalar.cmpi .slt v664 c0_i32_278
  let v669 : BitVec 32 := Scalar.extui v668
  let v670 : BitVec 32 := Scalar.subi v667 v669
  let c2_i32_276 : BitVec 32 := 2#32
  let c0_i32_279 : BitVec 32 := 0#32
  let v671 : BitVec 1 := Scalar.cmpi .sgt c2_i32_276 c0_i32_279
  let v672 : BitVec 32 := Scalar.extui v671
  let c0_i32_280 : BitVec 32 := 0#32
  let v673 : BitVec 1 := Scalar.cmpi .slt c2_i32_276 c0_i32_280
  let v674 : BitVec 32 := Scalar.extui v673
  let v675 : BitVec 32 := Scalar.subi v672 v674
  let v676 : BitVec 1 := Scalar.cmpi .ne v670 v675
  let v677 : BitVec 32 := Scalar.remsi v664 c2_i32_276
  let c0_i32_281 : BitVec 32 := 0#32
  let v678 : BitVec 1 := Scalar.cmpi .ne v677 c0_i32_281
  let v679 : BitVec 1 := Scalar.andi v676 v678
  let v665 : BitVec 32 := Scalar.divsi v664 c2_i32_276
  let c1_i32_282 : BitVec 32 := 1#32
  let v680 : BitVec 32 := Scalar.subi v665 c1_i32_282
  let v681 : BitVec 32 := Scalar.select v679 v680 v665
  let v682 : BitVec 32 := Scalar.muli c4_i32_283 v681
  let c1_i32_284 : BitVec 32 := 1#32
  let v683 : BitVec 32 := Scalar.addi v682 c1_i32_284
  let c0_i32_290 : BitVec 32 := 0#32
  let c0_i32_291 : BitVec 32 := 0#32
  let c0_i32_292 : BitVec 32 := 0#32
  ![arg0.toNat, v683.toNat, 0, 0, 0]
def k0_cond4 (i : grid0.Coords) : BitVec 1 :=
  let c4_i32 : BitVec 32 := 4#32
  let arg1 : BitVec 32 := BitVec.ofNat 32 (i 1).val
  let v17 : BitVec 32 := Scalar.muli c4_i32 arg1
  let c4_i32_7 : BitVec 32 := 4#32
  let v18 : BitVec 32 := Scalar.addi v17 c4_i32_7
  let c2_i32 : BitVec 32 := 2#32
  let v25 : BitVec 1 := Scalar.cmpi .sgt v18 c2_i32
  let v26 : BitVec 32 := Scalar.extui v25
  let c0_i32_11 : BitVec 32 := 0#32
  let v27 : BitVec 1 := Scalar.cmpi .ne v26 c0_i32_11
  v27

def k0_off3 (i : grid0.Coords) : Fin 5 → Nat :=
  let arg0 : BitVec 32 := BitVec.ofNat 32 (i 0).val
  let c4_i32_283 : BitVec 32 := 4#32
  let arg1 : BitVec 32 := BitVec.ofNat 32 (i 1).val
  let c1_i32_275 : BitVec 32 := 1#32
  let v663 : BitVec 32 := Scalar.addi arg1 c1_i32_275
  let v664 : BitVec 32 := Scalar.muli arg1 v663
  let c0_i32_277 : BitVec 32 := 0#32
  let v666 : BitVec 1 := Scalar.cmpi .sgt v664 c0_i32_277
  let v667 : BitVec 32 := Scalar.extui v666
  let c0_i32_278 : BitVec 32 := 0#32
  let v668 : BitVec 1 := Scalar.cmpi .slt v664 c0_i32_278
  let v669 : BitVec 32 := Scalar.extui v668
  let v670 : BitVec 32 := Scalar.subi v667 v669
  let c2_i32_276 : BitVec 32 := 2#32
  let c0_i32_279 : BitVec 32 := 0#32
  let v671 : BitVec 1 := Scalar.cmpi .sgt c2_i32_276 c0_i32_279
  let v672 : BitVec 32 := Scalar.extui v671
  let c0_i32_280 : BitVec 32 := 0#32
  let v673 : BitVec 1 := Scalar.cmpi .slt c2_i32_276 c0_i32_280
  let v674 : BitVec 32 := Scalar.extui v673
  let v675 : BitVec 32 := Scalar.subi v672 v674
  let v676 : BitVec 1 := Scalar.cmpi .ne v670 v675
  let v677 : BitVec 32 := Scalar.remsi v664 c2_i32_276
  let c0_i32_281 : BitVec 32 := 0#32
  let v678 : BitVec 1 := Scalar.cmpi .ne v677 c0_i32_281
  let v679 : BitVec 1 := Scalar.andi v676 v678
  let v665 : BitVec 32 := Scalar.divsi v664 c2_i32_276
  let c1_i32_282 : BitVec 32 := 1#32
  let v680 : BitVec 32 := Scalar.subi v665 c1_i32_282
  let v681 : BitVec 32 := Scalar.select v679 v680 v665
  let v682 : BitVec 32 := Scalar.muli c4_i32_283 v681
  let c2_i32_284 : BitVec 32 := 2#32
  let v683 : BitVec 32 := Scalar.addi v682 c2_i32_284
  let c0_i32_290 : BitVec 32 := 0#32
  let c0_i32_291 : BitVec 32 := 0#32
  let c0_i32_292 : BitVec 32 := 0#32
  ![arg0.toNat, v683.toNat, 0, 0, 0]
@[reducible] def k0_t1_loop (i : grid0.Coords) : Scf.Loop 32 :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg12 : BitVec 32 := Scf.iv c0_i32_15 c1_i32_17 k0_t1
  let c256_i32_281 : BitVec 32 := 256#32
  let v673 : BitVec 32 := Scalar.muli arg12 c256_i32_281
  v673
def k0_off4 (i : grid0.Coords) (k0_t1 : Fin (k0_t1_loop i).trips) : Fin 2 → Nat :=
  let c0_i32_15 : BitVec 32 := 0#32
  let c1_i32_17 : BitVec 32 := 1#32
  let arg12 : BitVec 32 := Scf.iv c0_i32_15 c1_i32_17 k0_t1
  let c256_i32_281 : BitVec 32 := 256#32
  let v673 : BitVec 32 := Scalar.muli arg12 c256_i32_281
  let v674 : BitVec 32 := v673
  let v675 : Index := Scalar.indexCast v674
  let c0_282 : Index := 0#32
  ![v675.toNat, 0]
def k0_off5 (i : grid0.Coords) (k0_t1 : Fin (k0_t1_loop i).trips) : Fin 2 → Nat :=
  let c0_i32_15 : BitVec 32 := 0#32
  let c1_i32_17 : BitVec 32 := 1#32
  let arg12 : BitVec 32 := Scf.iv c0_i32_15 c1_i32_17 k0_t1
  let c256_i32_281 : BitVec 32 := 256#32
  let v673 : BitVec 32 := Scalar.muli arg12 c256_i32_281
  let v674 : BitVec 32 := v673
  let v678 : Index := Scalar.indexCast v674
  let c64_283 : Index := 64#32
  ![v678.toNat, 64]
def k0_off6 (i : grid0.Coords) (k0_t1 : Fin (k0_t1_loop i).trips) : Fin 1 → Nat :=
  let c0_i32_15 : BitVec 32 := 0#32
  let c1_i32_17 : BitVec 32 := 1#32
  let arg12 : BitVec 32 := Scf.iv c0_i32_15 c1_i32_17 k0_t1
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  ![v672.toNat]
def k0_off7 (i : grid0.Coords) (k0_t1 : Fin (k0_t1_loop i).trips) : Fin 4 → Nat :=
  let c0_i32_15 : BitVec 32 := 0#32
  let c1_i32_17 : BitVec 32 := 1#32
  let arg12 : BitVec 32 := Scf.iv c0_i32_15 c1_i32_17 k0_t1
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let c0_i32_305 : BitVec 32 := 0#32
  let c0_i32_306 : BitVec 32 := 0#32
  let c0_i32_307 : BitVec 32 := 0#32
  ![v672.toNat, 0, 0, 0]
def k0_off8 (i : grid0.Coords) (k0_t1 : Fin (k0_t1_loop i).trips) : Fin 5 → Nat :=
  let arg0 : BitVec 32 := BitVec.ofNat 32 (i 0).val
  let c4_i32_304 : BitVec 32 := 4#32
  let arg1 : BitVec 32 := BitVec.ofNat 32 (i 1).val
  let c1_i32_296 : BitVec 32 := 1#32
  let v705 : BitVec 32 := Scalar.addi arg1 c1_i32_296
  let v706 : BitVec 32 := Scalar.muli arg1 v705
  let c0_i32_298 : BitVec 32 := 0#32
  let v708 : BitVec 1 := Scalar.cmpi .sgt v706 c0_i32_298
  let v709 : BitVec 32 := Scalar.extui v708
  let c0_i32_299 : BitVec 32 := 0#32
  let v710 : BitVec 1 := Scalar.cmpi .slt v706 c0_i32_299
  let v711 : BitVec 32 := Scalar.extui v710
  let v712 : BitVec 32 := Scalar.subi v709 v711
  let c2_i32_297 : BitVec 32 := 2#32
  let c0_i32_300 : BitVec 32 := 0#32
  let v713 : BitVec 1 := Scalar.cmpi .sgt c2_i32_297 c0_i32_300
  let v714 : BitVec 32 := Scalar.extui v713
  let c0_i32_301 : BitVec 32 := 0#32
  let v715 : BitVec 1 := Scalar.cmpi .slt c2_i32_297 c0_i32_301
  let v716 : BitVec 32 := Scalar.extui v715
  let v717 : BitVec 32 := Scalar.subi v714 v716
  let v718 : BitVec 1 := Scalar.cmpi .ne v712 v717
  let v719 : BitVec 32 := Scalar.remsi v706 c2_i32_297
  let c0_i32_302 : BitVec 32 := 0#32
  let v720 : BitVec 1 := Scalar.cmpi .ne v719 c0_i32_302
  let v721 : BitVec 1 := Scalar.andi v718 v720
  let v707 : BitVec 32 := Scalar.divsi v706 c2_i32_297
  let c1_i32_303 : BitVec 32 := 1#32
  let v722 : BitVec 32 := Scalar.subi v707 c1_i32_303
  let v723 : BitVec 32 := Scalar.select v721 v722 v707
  let v724 : BitVec 32 := Scalar.muli c4_i32_304 v723
  let c0_i32_15 : BitVec 32 := 0#32
  let c1_i32_17 : BitVec 32 := 1#32
  let arg12 : BitVec 32 := Scf.iv c0_i32_15 c1_i32_17 k0_t1
  let v725 : BitVec 32 := Scalar.addi v724 arg12
  let c0_i32_308 : BitVec 32 := 0#32
  let c0_i32_309 : BitVec 32 := 0#32
  let c0_i32_310 : BitVec 32 := 0#32
  ![arg0.toNat, v725.toNat, 0, 0, 0]
def k0_off9 (i : grid0.Coords) (k0_t1 : Fin (k0_t1_loop i).trips) : Fin 4 → Nat :=
  let c0_i32_15 : BitVec 32 := 0#32
  let c1_i32_17 : BitVec 32 := 1#32
  let arg12 : BitVec 32 := Scf.iv c0_i32_15 c1_i32_17 k0_t1
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let v732 : Index := Scalar.indexCast v672
  let c0_311 : Index := 0#32
  let c0_312 : Index := 0#32
  let c0_313 : Index := 0#32
  ![v732.toNat, 0, 0, 0]
def k0_off10 (i : grid0.Coords) (k0_t1 : Fin (k0_t1_loop i).trips) : Fin 4 → Nat :=
  let c0_i32_15 : BitVec 32 := 0#32
  let c1_i32_17 : BitVec 32 := 1#32
  let arg12 : BitVec 32 := Scf.iv c0_i32_15 c1_i32_17 k0_t1
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let v735 : Index := Scalar.indexCast v672
  let c1_314 : Index := 1#32
  let c0_315 : Index := 0#32
  let c0_316 : Index := 0#32
  ![v735.toNat, 1, 0, 0]
def k0_cond5 (i : grid0.Coords) (k0_t1 : Fin (k0_t1_loop i).trips) : BitVec 1 :=
  let c0_i32_15 : BitVec 32 := 0#32
  let c1_i32_17 : BitVec 32 := 1#32
  let arg12 : BitVec 32 := Scf.iv c0_i32_15 c1_i32_17 k0_t1
  let c3_i32_335 : BitVec 32 := 3#32
  let v796 : BitVec 32 := Scalar.addi arg12 c3_i32_335
  let c4_i32 : BitVec 32 := 4#32
  let arg1 : BitVec 32 := BitVec.ofNat 32 (i 1).val
  let v17 : BitVec 32 := Scalar.muli c4_i32 arg1
  let c4_i32_7 : BitVec 32 := 4#32
  let v18 : BitVec 32 := Scalar.addi v17 c4_i32_7
  let v797 : BitVec 1 := Scalar.cmpi .slt v796 v18
  let v798 : BitVec 32 := Scalar.extui v797
  let c0_i32_336 : BitVec 32 := 0#32
  let v799 : BitVec 1 := Scalar.cmpi .ne v798 c0_i32_336
  v799

def k0_off11 (i : grid0.Coords) (k0_t1 : Fin (k0_t1_loop i).trips) : Fin 1 → Nat :=
  let c0_i32_15 : BitVec 32 := 0#32
  let c1_i32_17 : BitVec 32 := 1#32
  let arg12 : BitVec 32 := Scf.iv c0_i32_15 c1_i32_17 k0_t1
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  ![v672.toNat]
def k0_off12 (i : grid0.Coords) (k0_t1 : Fin (k0_t1_loop i).trips) : Fin 4 → Nat :=
  let c0_i32_15 : BitVec 32 := 0#32
  let c1_i32_17 : BitVec 32 := 1#32
  let arg12 : BitVec 32 := Scf.iv c0_i32_15 c1_i32_17 k0_t1
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let c0_i32_347 : BitVec 32 := 0#32
  let c0_i32_348 : BitVec 32 := 0#32
  let c0_i32_349 : BitVec 32 := 0#32
  ![v672.toNat, 0, 0, 0]
def k0_off13 (i : grid0.Coords) (k0_t1 : Fin (k0_t1_loop i).trips) : Fin 5 → Nat :=
  let arg0 : BitVec 32 := BitVec.ofNat 32 (i 0).val
  let c4_i32_346 : BitVec 32 := 4#32
  let arg1 : BitVec 32 := BitVec.ofNat 32 (i 1).val
  let c1_i32_338 : BitVec 32 := 1#32
  let v801 : BitVec 32 := Scalar.addi arg1 c1_i32_338
  let v802 : BitVec 32 := Scalar.muli arg1 v801
  let c0_i32_340 : BitVec 32 := 0#32
  let v804 : BitVec 1 := Scalar.cmpi .sgt v802 c0_i32_340
  let v805 : BitVec 32 := Scalar.extui v804
  let c0_i32_341 : BitVec 32 := 0#32
  let v806 : BitVec 1 := Scalar.cmpi .slt v802 c0_i32_341
  let v807 : BitVec 32 := Scalar.extui v806
  let v808 : BitVec 32 := Scalar.subi v805 v807
  let c2_i32_339 : BitVec 32 := 2#32
  let c0_i32_342 : BitVec 32 := 0#32
  let v809 : BitVec 1 := Scalar.cmpi .sgt c2_i32_339 c0_i32_342
  let v810 : BitVec 32 := Scalar.extui v809
  let c0_i32_343 : BitVec 32 := 0#32
  let v811 : BitVec 1 := Scalar.cmpi .slt c2_i32_339 c0_i32_343
  let v812 : BitVec 32 := Scalar.extui v811
  let v813 : BitVec 32 := Scalar.subi v810 v812
  let v814 : BitVec 1 := Scalar.cmpi .ne v808 v813
  let v815 : BitVec 32 := Scalar.remsi v802 c2_i32_339
  let c0_i32_344 : BitVec 32 := 0#32
  let v816 : BitVec 1 := Scalar.cmpi .ne v815 c0_i32_344
  let v817 : BitVec 1 := Scalar.andi v814 v816
  let v803 : BitVec 32 := Scalar.divsi v802 c2_i32_339
  let c1_i32_345 : BitVec 32 := 1#32
  let v818 : BitVec 32 := Scalar.subi v803 c1_i32_345
  let v819 : BitVec 32 := Scalar.select v817 v818 v803
  let v820 : BitVec 32 := Scalar.muli c4_i32_346 v819
  let c0_i32_15 : BitVec 32 := 0#32
  let c1_i32_17 : BitVec 32 := 1#32
  let arg12 : BitVec 32 := Scf.iv c0_i32_15 c1_i32_17 k0_t1
  let c3_i32_337 : BitVec 32 := 3#32
  let v800 : BitVec 32 := Scalar.addi arg12 c3_i32_337
  let v821 : BitVec 32 := Scalar.addi v820 v800
  let c0_i32_350 : BitVec 32 := 0#32
  let c0_i32_351 : BitVec 32 := 0#32
  let c0_i32_352 : BitVec 32 := 0#32
  ![arg0.toNat, v821.toNat, 0, 0, 0]
@[reducible] def k0_t2_loop (i : grid0.Coords) : Scf.Loop 32 :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c256_i32_281 : BitVec 32 := 256#32
  let v673 : BitVec 32 := Scalar.muli arg12 c256_i32_281
  v673
def k0_off14 (i : grid0.Coords) (k0_t2 : Fin (k0_t2_loop i).trips) : Fin 2 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c256_i32_281 : BitVec 32 := 256#32
  let v673 : BitVec 32 := Scalar.muli arg12 c256_i32_281
  let v674 : BitVec 32 := v673
  let v675 : Index := Scalar.indexCast v674
  let c0_282 : Index := 0#32
  ![v675.toNat, 0]
def k0_off15 (i : grid0.Coords) (k0_t2 : Fin (k0_t2_loop i).trips) : Fin 2 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c256_i32_281 : BitVec 32 := 256#32
  let v673 : BitVec 32 := Scalar.muli arg12 c256_i32_281
  let v674 : BitVec 32 := v673
  let v678 : Index := Scalar.indexCast v674
  let c64_283 : Index := 64#32
  ![v678.toNat, 64]
def k0_off16 (i : grid0.Coords) (k0_t2 : Fin (k0_t2_loop i).trips) : Fin 1 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  ![v672.toNat]
def k0_off17 (i : grid0.Coords) (k0_t2 : Fin (k0_t2_loop i).trips) : Fin 4 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let c0_i32_305 : BitVec 32 := 0#32
  let c0_i32_306 : BitVec 32 := 0#32
  let c0_i32_307 : BitVec 32 := 0#32
  ![v672.toNat, 0, 0, 0]
def k0_off18 (i : grid0.Coords) (k0_t2 : Fin (k0_t2_loop i).trips) : Fin 5 → Nat :=
  let arg0 : BitVec 32 := BitVec.ofNat 32 (i 0).val
  let c4_i32_304 : BitVec 32 := 4#32
  let arg1 : BitVec 32 := BitVec.ofNat 32 (i 1).val
  let c1_i32_296 : BitVec 32 := 1#32
  let v705 : BitVec 32 := Scalar.addi arg1 c1_i32_296
  let v706 : BitVec 32 := Scalar.muli arg1 v705
  let c0_i32_298 : BitVec 32 := 0#32
  let v708 : BitVec 1 := Scalar.cmpi .sgt v706 c0_i32_298
  let v709 : BitVec 32 := Scalar.extui v708
  let c0_i32_299 : BitVec 32 := 0#32
  let v710 : BitVec 1 := Scalar.cmpi .slt v706 c0_i32_299
  let v711 : BitVec 32 := Scalar.extui v710
  let v712 : BitVec 32 := Scalar.subi v709 v711
  let c2_i32_297 : BitVec 32 := 2#32
  let c0_i32_300 : BitVec 32 := 0#32
  let v713 : BitVec 1 := Scalar.cmpi .sgt c2_i32_297 c0_i32_300
  let v714 : BitVec 32 := Scalar.extui v713
  let c0_i32_301 : BitVec 32 := 0#32
  let v715 : BitVec 1 := Scalar.cmpi .slt c2_i32_297 c0_i32_301
  let v716 : BitVec 32 := Scalar.extui v715
  let v717 : BitVec 32 := Scalar.subi v714 v716
  let v718 : BitVec 1 := Scalar.cmpi .ne v712 v717
  let v719 : BitVec 32 := Scalar.remsi v706 c2_i32_297
  let c0_i32_302 : BitVec 32 := 0#32
  let v720 : BitVec 1 := Scalar.cmpi .ne v719 c0_i32_302
  let v721 : BitVec 1 := Scalar.andi v718 v720
  let v707 : BitVec 32 := Scalar.divsi v706 c2_i32_297
  let c1_i32_303 : BitVec 32 := 1#32
  let v722 : BitVec 32 := Scalar.subi v707 c1_i32_303
  let v723 : BitVec 32 := Scalar.select v721 v722 v707
  let v724 : BitVec 32 := Scalar.muli c4_i32_304 v723
  let c0_i32_15 : BitVec 32 := 0#32
  let c4_i32 : BitVec 32 := 4#32
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let v725 : BitVec 32 := Scalar.addi v724 arg12
  let c0_i32_308 : BitVec 32 := 0#32
  let c0_i32_309 : BitVec 32 := 0#32
  let c0_i32_310 : BitVec 32 := 0#32
  ![arg0.toNat, v725.toNat, 0, 0, 0]
def k0_off19 (i : grid0.Coords) (k0_t2 : Fin (k0_t2_loop i).trips) : Fin 4 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let v732 : Index := Scalar.indexCast v672
  let c0_311 : Index := 0#32
  let c0_312 : Index := 0#32
  let c0_313 : Index := 0#32
  ![v732.toNat, 0, 0, 0]
def k0_off20 (i : grid0.Coords) (k0_t2 : Fin (k0_t2_loop i).trips) : Fin 4 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let v735 : Index := Scalar.indexCast v672
  let c1_314 : Index := 1#32
  let c0_315 : Index := 0#32
  let c0_316 : Index := 0#32
  ![v735.toNat, 1, 0, 0]
def k0_cond6 (i : grid0.Coords) (k0_t2 : Fin (k0_t2_loop i).trips) : BitVec 1 :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_335 : BitVec 32 := 3#32
  let v796 : BitVec 32 := Scalar.addi arg12 c3_i32_335
  let c4_i32_7 : BitVec 32 := 4#32
  let v18 : BitVec 32 := Scalar.addi v17 c4_i32_7
  let v797 : BitVec 1 := Scalar.cmpi .slt v796 v18
  let v798 : BitVec 32 := Scalar.extui v797
  let c0_i32_336 : BitVec 32 := 0#32
  let v799 : BitVec 1 := Scalar.cmpi .ne v798 c0_i32_336
  v799

def k0_off21 (i : grid0.Coords) (k0_t2 : Fin (k0_t2_loop i).trips) : Fin 1 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  ![v672.toNat]
def k0_off22 (i : grid0.Coords) (k0_t2 : Fin (k0_t2_loop i).trips) : Fin 4 → Nat :=
  let c0_i32_15 : BitVec 32 := 0#32
  let c4_i32 : BitVec 32 := 4#32
  let arg1 : BitVec 32 := BitVec.ofNat 32 (i 1).val
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_275 : BitVec 32 := 3#32
  let c0_i32_276 : BitVec 32 := 0#32
  let v663 : BitVec 1 := Scalar.cmpi .eq c3_i32_275 c0_i32_276
  let c1_i32_277 : BitVec 32 := 1#32
  let v664 : BitVec 32 := Scalar.select v663 c1_i32_277 c3_i32_275
  let v665 : BitVec 32 := Scalar.remsi arg12 v664
  let c0_i32_279 : BitVec 32 := 0#32
  let v667 : BitVec 1 := Scalar.cmpi .slt v665 c0_i32_279
  let c0_i32_280 : BitVec 32 := 0#32
  let v668 : BitVec 1 := Scalar.cmpi .slt v664 c0_i32_280
  let v669 : BitVec 1 := Scalar.xori v667 v668
  let c0_i32_278 : BitVec 32 := 0#32
  let v666 : BitVec 1 := Scalar.cmpi .ne v665 c0_i32_278
  let v670 : BitVec 1 := Scalar.andi v669 v666
  let v671 : BitVec 32 := Scalar.addi v665 v664
  let v672 : BitVec 32 := Scalar.select v670 v671 v665
  let c0_i32_347 : BitVec 32 := 0#32
  let c0_i32_348 : BitVec 32 := 0#32
  let c0_i32_349 : BitVec 32 := 0#32
  ![v672.toNat, 0, 0, 0]
def k0_off23 (i : grid0.Coords) (k0_t2 : Fin (k0_t2_loop i).trips) : Fin 5 → Nat :=
  let arg0 : BitVec 32 := BitVec.ofNat 32 (i 0).val
  let c4_i32_346 : BitVec 32 := 4#32
  let arg1 : BitVec 32 := BitVec.ofNat 32 (i 1).val
  let c1_i32_338 : BitVec 32 := 1#32
  let v801 : BitVec 32 := Scalar.addi arg1 c1_i32_338
  let v802 : BitVec 32 := Scalar.muli arg1 v801
  let c0_i32_340 : BitVec 32 := 0#32
  let v804 : BitVec 1 := Scalar.cmpi .sgt v802 c0_i32_340
  let v805 : BitVec 32 := Scalar.extui v804
  let c0_i32_341 : BitVec 32 := 0#32
  let v806 : BitVec 1 := Scalar.cmpi .slt v802 c0_i32_341
  let v807 : BitVec 32 := Scalar.extui v806
  let v808 : BitVec 32 := Scalar.subi v805 v807
  let c2_i32_339 : BitVec 32 := 2#32
  let c0_i32_342 : BitVec 32 := 0#32
  let v809 : BitVec 1 := Scalar.cmpi .sgt c2_i32_339 c0_i32_342
  let v810 : BitVec 32 := Scalar.extui v809
  let c0_i32_343 : BitVec 32 := 0#32
  let v811 : BitVec 1 := Scalar.cmpi .slt c2_i32_339 c0_i32_343
  let v812 : BitVec 32 := Scalar.extui v811
  let v813 : BitVec 32 := Scalar.subi v810 v812
  let v814 : BitVec 1 := Scalar.cmpi .ne v808 v813
  let v815 : BitVec 32 := Scalar.remsi v802 c2_i32_339
  let c0_i32_344 : BitVec 32 := 0#32
  let v816 : BitVec 1 := Scalar.cmpi .ne v815 c0_i32_344
  let v817 : BitVec 1 := Scalar.andi v814 v816
  let v803 : BitVec 32 := Scalar.divsi v802 c2_i32_339
  let c1_i32_345 : BitVec 32 := 1#32
  let v818 : BitVec 32 := Scalar.subi v803 c1_i32_345
  let v819 : BitVec 32 := Scalar.select v817 v818 v803
  let v820 : BitVec 32 := Scalar.muli c4_i32_346 v819
  let c0_i32_15 : BitVec 32 := 0#32
  let c4_i32 : BitVec 32 := 4#32
  let v17 : BitVec 32 := Scalar.muli c4_i32 arg1
  let v32 : BitVec 32 := Scalar.subi v17 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg12 : BitVec 32 := Scf.iv v36 c1_i32_18 k0_t2
  let c3_i32_337 : BitVec 32 := 3#32
  let v800 : BitVec 32 := Scalar.addi arg12 c3_i32_337
  let v821 : BitVec 32 := Scalar.addi v820 v800
  let c0_i32_350 : BitVec 32 := 0#32
  let c0_i32_351 : BitVec 32 := 0#32
  let c0_i32_352 : BitVec 32 := 0#32
  ![arg0.toNat, v821.toNat, 0, 0, 0]
def k0_mult3 (i : grid0.Coords) : BitVec 32 :=
  let c4_i32 : BitVec 32 := 4#32
  let arg1 : BitVec 32 := BitVec.ofNat 32 (i 1).val
  let v17 : BitVec 32 := Scalar.muli c4_i32 arg1
  let c0_i32_19 : BitVec 32 := 0#32
  let v39 : BitVec 32 := Scalar.addi v17 c0_i32_19
  let c256_i32 : BitVec 32 := 256#32
  let v53 : BitVec 32 := Scalar.muli v39 c256_i32
  v53
def k0_off24 (i : grid0.Coords) (c0_i32_19 : BitVec 32) : Fin 2 → Nat :=
  let c4_i32 : BitVec 32 := 4#32
  let arg1 : BitVec 32 := BitVec.ofNat 32 (i 1).val
  let v17 : BitVec 32 := Scalar.muli c4_i32 arg1
  let v39 : BitVec 32 := Scalar.addi v17 c0_i32_19
  let c256_i32 : BitVec 32 := 256#32
  let v53 : BitVec 32 := Scalar.muli v39 c256_i32
  let v54 : BitVec 32 := v53
  let v55 : Index := Scalar.indexCast v54
  let c0_25 : Index := 0#32
  ![v55.toNat, 0]
def k0_off25 (i : grid0.Coords) (c0_i32_19 : BitVec 32) : Fin 2 → Nat :=
  let c4_i32 : BitVec 32 := 4#32
  let arg1 : BitVec 32 := BitVec.ofNat 32 (i 1).val
  let v17 : BitVec 32 := Scalar.muli c4_i32 arg1
  let v39 : BitVec 32 := Scalar.addi v17 c0_i32_19
  let c256_i32 : BitVec 32 := 256#32
  let v53 : BitVec 32 := Scalar.muli v39 c256_i32
  let v54 : BitVec 32 := v53
  let v58 : Index := Scalar.indexCast v54
  let c64_26 : Index := 64#32
  ![v58.toNat, 64]
def k0_off26 (i : grid0.Coords) (c0_i32_19 : BitVec 32) : Fin 1 → Nat :=
  let c4_i32 : BitVec 32 := 4#32
  let arg1 : BitVec 32 := BitVec.ofNat 32 (i 1).val
  let v17 : BitVec 32 := Scalar.muli c4_i32 arg1
  let v39 : BitVec 32 := Scalar.addi v17 c0_i32_19
  let c3_i32 : BitVec 32 := 3#32
  let c0_i32_20 : BitVec 32 := 0#32
  let v43 : BitVec 1 := Scalar.cmpi .eq c3_i32 c0_i32_20
  let c1_i32_21 : BitVec 32 := 1#32
  let v44 : BitVec 32 := Scalar.select v43 c1_i32_21 c3_i32
  let v45 : BitVec 32 := Scalar.remsi v39 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  ![v52.toNat]
def k0_off27 (i : grid0.Coords) (c0_i32_19 : BitVec 32) : Fin 4 → Nat :=
  let c4_i32 : BitVec 32 := 4#32
  let arg1 : BitVec 32 := BitVec.ofNat 32 (i 1).val
  let v17 : BitVec 32 := Scalar.muli c4_i32 arg1
  let v39 : BitVec 32 := Scalar.addi v17 c0_i32_19
  let c3_i32 : BitVec 32 := 3#32
  let c0_i32_20 : BitVec 32 := 0#32
  let v43 : BitVec 1 := Scalar.cmpi .eq c3_i32 c0_i32_20
  let c1_i32_21 : BitVec 32 := 1#32
  let v44 : BitVec 32 := Scalar.select v43 c1_i32_21 c3_i32
  let v45 : BitVec 32 := Scalar.remsi v39 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  let c0_i32_48 : BitVec 32 := 0#32
  let c0_i32_49 : BitVec 32 := 0#32
  let c0_i32_50 : BitVec 32 := 0#32
  ![v52.toNat, 0, 0, 0]
def k0_off28 (i : grid0.Coords) (c0_i32_19 : BitVec 32) : Fin 5 → Nat :=
  let arg0 : BitVec 32 := BitVec.ofNat 32 (i 0).val
  let c4_i32_47 : BitVec 32 := 4#32
  let arg1 : BitVec 32 := BitVec.ofNat 32 (i 1).val
  let c1_i32_39 : BitVec 32 := 1#32
  let v85 : BitVec 32 := Scalar.addi arg1 c1_i32_39
  let v86 : BitVec 32 := Scalar.muli arg1 v85
  let c0_i32_41 : BitVec 32 := 0#32
  let v88 : BitVec 1 := Scalar.cmpi .sgt v86 c0_i32_41
  let v89 : BitVec 32 := Scalar.extui v88
  let c0_i32_42 : BitVec 32 := 0#32
  let v90 : BitVec 1 := Scalar.cmpi .slt v86 c0_i32_42
  let v91 : BitVec 32 := Scalar.extui v90
  let v92 : BitVec 32 := Scalar.subi v89 v91
  let c2_i32_40 : BitVec 32 := 2#32
  let c0_i32_43 : BitVec 32 := 0#32
  let v93 : BitVec 1 := Scalar.cmpi .sgt c2_i32_40 c0_i32_43
  let v94 : BitVec 32 := Scalar.extui v93
  let c0_i32_44 : BitVec 32 := 0#32
  let v95 : BitVec 1 := Scalar.cmpi .slt c2_i32_40 c0_i32_44
  let v96 : BitVec 32 := Scalar.extui v95
  let v97 : BitVec 32 := Scalar.subi v94 v96
  let v98 : BitVec 1 := Scalar.cmpi .ne v92 v97
  let v99 : BitVec 32 := Scalar.remsi v86 c2_i32_40
  let c0_i32_45 : BitVec 32 := 0#32
  let v100 : BitVec 1 := Scalar.cmpi .ne v99 c0_i32_45
  let v101 : BitVec 1 := Scalar.andi v98 v100
  let v87 : BitVec 32 := Scalar.divsi v86 c2_i32_40
  let c1_i32_46 : BitVec 32 := 1#32
  let v102 : BitVec 32 := Scalar.subi v87 c1_i32_46
  let v103 : BitVec 32 := Scalar.select v101 v102 v87
  let v104 : BitVec 32 := Scalar.muli c4_i32_47 v103
  let c4_i32 : BitVec 32 := 4#32
  let v17 : BitVec 32 := Scalar.muli c4_i32 arg1
  let v39 : BitVec 32 := Scalar.addi v17 c0_i32_19
  let v105 : BitVec 32 := Scalar.addi v104 v39
  let c0_i32_51 : BitVec 32 := 0#32
  let c0_i32_52 : BitVec 32 := 0#32
  let c0_i32_53 : BitVec 32 := 0#32
  ![arg0.toNat, v105.toNat, 0, 0, 0]
def k0_off29 (i : grid0.Coords) : Fin 4 → Nat :=
  let c4_i32 : BitVec 32 := 4#32
  let arg1 : BitVec 32 := BitVec.ofNat 32 (i 1).val
  let v17 : BitVec 32 := Scalar.muli c4_i32 arg1
  let c0_i32_19 : BitVec 32 := 0#32
  let v39 : BitVec 32 := Scalar.addi v17 c0_i32_19
  let c3_i32 : BitVec 32 := 3#32
  let c0_i32_20 : BitVec 32 := 0#32
  let v43 : BitVec 1 := Scalar.cmpi .eq c3_i32 c0_i32_20
  let c1_i32_21 : BitVec 32 := 1#32
  let v44 : BitVec 32 := Scalar.select v43 c1_i32_21 c3_i32
  let v45 : BitVec 32 := Scalar.remsi v39 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  let v112 : Index := Scalar.indexCast v52
  let c0_54 : Index := 0#32
  let c0_55 : Index := 0#32
  let c0_56 : Index := 0#32
  ![v112.toNat, 0, 0, 0]
def k0_off30 (i : grid0.Coords) : Fin 4 → Nat :=
  let c4_i32 : BitVec 32 := 4#32
  let arg1 : BitVec 32 := BitVec.ofNat 32 (i 1).val
  let v17 : BitVec 32 := Scalar.muli c4_i32 arg1
  let c0_i32_19 : BitVec 32 := 0#32
  let v39 : BitVec 32 := Scalar.addi v17 c0_i32_19
  let c3_i32 : BitVec 32 := 3#32
  let c0_i32_20 : BitVec 32 := 0#32
  let v43 : BitVec 1 := Scalar.cmpi .eq c3_i32 c0_i32_20
  let c1_i32_21 : BitVec 32 := 1#32
  let v44 : BitVec 32 := Scalar.select v43 c1_i32_21 c3_i32
  let v45 : BitVec 32 := Scalar.remsi v39 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  let v115 : Index := Scalar.indexCast v52
  let c1 : Index := 1#32
  let c0_57 : Index := 0#32
  let c0_58 : Index := 0#32
  ![v115.toNat, 1, 0, 0]
def k0_cond7 (i : grid0.Coords) : BitVec 1 :=
  let c4_i32 : BitVec 32 := 4#32
  let arg1 : BitVec 32 := BitVec.ofNat 32 (i 1).val
  let v17 : BitVec 32 := Scalar.muli c4_i32 arg1
  let c0_i32_19 : BitVec 32 := 0#32
  let v39 : BitVec 32 := Scalar.addi v17 c0_i32_19
  let c3_i32_79 : BitVec 32 := 3#32
  let v180 : BitVec 32 := Scalar.addi v39 c3_i32_79
  let c4_i32_7 : BitVec 32 := 4#32
  let v18 : BitVec 32 := Scalar.addi v17 c4_i32_7
  let v181 : BitVec 1 := Scalar.cmpi .slt v180 v18
  let v182 : BitVec 32 := Scalar.extui v181
  let c0_i32_80 : BitVec 32 := 0#32
  let v183 : BitVec 1 := Scalar.cmpi .ne v182 c0_i32_80
  v183

def k0_off31 (i : grid0.Coords) : Fin 1 → Nat :=
  let c4_i32 : BitVec 32 := 4#32
  let arg1 : BitVec 32 := BitVec.ofNat 32 (i 1).val
  let v17 : BitVec 32 := Scalar.muli c4_i32 arg1
  let c0_i32_19 : BitVec 32 := 0#32
  let v39 : BitVec 32 := Scalar.addi v17 c0_i32_19
  let c3_i32 : BitVec 32 := 3#32
  let c0_i32_20 : BitVec 32 := 0#32
  let v43 : BitVec 1 := Scalar.cmpi .eq c3_i32 c0_i32_20
  let c1_i32_21 : BitVec 32 := 1#32
  let v44 : BitVec 32 := Scalar.select v43 c1_i32_21 c3_i32
  let v45 : BitVec 32 := Scalar.remsi v39 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  ![v52.toNat]
def k0_off32 (i : grid0.Coords) : Fin 4 → Nat :=
  let c4_i32 : BitVec 32 := 4#32
  let arg1 : BitVec 32 := BitVec.ofNat 32 (i 1).val
  let v17 : BitVec 32 := Scalar.muli c4_i32 arg1
  let c0_i32_19 : BitVec 32 := 0#32
  let v39 : BitVec 32 := Scalar.addi v17 c0_i32_19
  let c3_i32 : BitVec 32 := 3#32
  let c0_i32_20 : BitVec 32 := 0#32
  let v43 : BitVec 1 := Scalar.cmpi .eq c3_i32 c0_i32_20
  let c1_i32_21 : BitVec 32 := 1#32
  let v44 : BitVec 32 := Scalar.select v43 c1_i32_21 c3_i32
  let v45 : BitVec 32 := Scalar.remsi v39 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  let c0_i32_285 : BitVec 32 := 0#32
  let c0_i32_286 : BitVec 32 := 0#32
  let c0_i32_287 : BitVec 32 := 0#32
  ![v52.toNat, 0, 0, 0]
def k0_off33 (i : grid0.Coords) : Fin 5 → Nat :=
  let arg0 : BitVec 32 := BitVec.ofNat 32 (i 0).val
  let c4_i32_284 : BitVec 32 := 4#32
  let arg1 : BitVec 32 := BitVec.ofNat 32 (i 1).val
  let c1_i32_276 : BitVec 32 := 1#32
  let v664 : BitVec 32 := Scalar.addi arg1 c1_i32_276
  let v665 : BitVec 32 := Scalar.muli arg1 v664
  let c0_i32_278 : BitVec 32 := 0#32
  let v667 : BitVec 1 := Scalar.cmpi .sgt v665 c0_i32_278
  let v668 : BitVec 32 := Scalar.extui v667
  let c0_i32_279 : BitVec 32 := 0#32
  let v669 : BitVec 1 := Scalar.cmpi .slt v665 c0_i32_279
  let v670 : BitVec 32 := Scalar.extui v669
  let v671 : BitVec 32 := Scalar.subi v668 v670
  let c2_i32_277 : BitVec 32 := 2#32
  let c0_i32_280 : BitVec 32 := 0#32
  let v672 : BitVec 1 := Scalar.cmpi .sgt c2_i32_277 c0_i32_280
  let v673 : BitVec 32 := Scalar.extui v672
  let c0_i32_281 : BitVec 32 := 0#32
  let v674 : BitVec 1 := Scalar.cmpi .slt c2_i32_277 c0_i32_281
  let v675 : BitVec 32 := Scalar.extui v674
  let v676 : BitVec 32 := Scalar.subi v673 v675
  let v677 : BitVec 1 := Scalar.cmpi .ne v671 v676
  let v678 : BitVec 32 := Scalar.remsi v665 c2_i32_277
  let c0_i32_282 : BitVec 32 := 0#32
  let v679 : BitVec 1 := Scalar.cmpi .ne v678 c0_i32_282
  let v680 : BitVec 1 := Scalar.andi v677 v679
  let v666 : BitVec 32 := Scalar.divsi v665 c2_i32_277
  let c1_i32_283 : BitVec 32 := 1#32
  let v681 : BitVec 32 := Scalar.subi v666 c1_i32_283
  let v682 : BitVec 32 := Scalar.select v680 v681 v666
  let v683 : BitVec 32 := Scalar.muli c4_i32_284 v682
  let c4_i32 : BitVec 32 := 4#32
  let v17 : BitVec 32 := Scalar.muli c4_i32 arg1
  let c0_i32_19 : BitVec 32 := 0#32
  let v39 : BitVec 32 := Scalar.addi v17 c0_i32_19
  let c3_i32_275 : BitVec 32 := 3#32
  let v663 : BitVec 32 := Scalar.addi v39 c3_i32_275
  let v684 : BitVec 32 := Scalar.addi v683 v663
  let c0_i32_288 : BitVec 32 := 0#32
  let c0_i32_289 : BitVec 32 := 0#32
  let c0_i32_290 : BitVec 32 := 0#32
  ![arg0.toNat, v684.toNat, 0, 0, 0]
def k0_mult4 (i : grid0.Coords) : BitVec 32 :=
  let c4_i32 : BitVec 32 := 4#32
  let arg1 : BitVec 32 := BitVec.ofNat 32 (i 1).val
  let v17 : BitVec 32 := Scalar.muli c4_i32 arg1
  let c1_i32_81 : BitVec 32 := 1#32
  let v184 : BitVec 32 := Scalar.addi v17 c1_i32_81
  let c256_i32_88 : BitVec 32 := 256#32
  let v198 : BitVec 32 := Scalar.muli v184 c256_i32_88
  v198
def k0_off34 (i : grid0.Coords) : Fin 4 → Nat :=
  let c4_i32 : BitVec 32 := 4#32
  let arg1 : BitVec 32 := BitVec.ofNat 32 (i 1).val
  let v17 : BitVec 32 := Scalar.muli c4_i32 arg1
  let c1_i32_81 : BitVec 32 := 1#32
  let v184 : BitVec 32 := Scalar.addi v17 c1_i32_81
  let c3_i32_82 : BitVec 32 := 3#32
  let c0_i32_83 : BitVec 32 := 0#32
  let v188 : BitVec 1 := Scalar.cmpi .eq c3_i32_82 c0_i32_83
  let c1_i32_84 : BitVec 32 := 1#32
  let v189 : BitVec 32 := Scalar.select v188 c1_i32_84 c3_i32_82
  let v190 : BitVec 32 := Scalar.remsi v184 v189
  let c0_i32_86 : BitVec 32 := 0#32
  let v192 : BitVec 1 := Scalar.cmpi .slt v190 c0_i32_86
  let c0_i32_87 : BitVec 32 := 0#32
  let v193 : BitVec 1 := Scalar.cmpi .slt v189 c0_i32_87
  let v194 : BitVec 1 := Scalar.xori v192 v193
  let c0_i32_85 : BitVec 32 := 0#32
  let v191 : BitVec 1 := Scalar.cmpi .ne v190 c0_i32_85
  let v195 : BitVec 1 := Scalar.andi v194 v191
  let v196 : BitVec 32 := Scalar.addi v190 v189
  let v197 : BitVec 32 := Scalar.select v195 v196 v190
  let v261 : Index := Scalar.indexCast v197
  let c0_118 : Index := 0#32
  let c256 : Index := 256#32
  let c0_119 : Index := 0#32
  ![v261.toNat, 0, 256, 0]
def k0_off35 (i : grid0.Coords) : Fin 4 → Nat :=
  let c4_i32 : BitVec 32 := 4#32
  let arg1 : BitVec 32 := BitVec.ofNat 32 (i 1).val
  let v17 : BitVec 32 := Scalar.muli c4_i32 arg1
  let c1_i32_81 : BitVec 32 := 1#32
  let v184 : BitVec 32 := Scalar.addi v17 c1_i32_81
  let c3_i32_82 : BitVec 32 := 3#32
  let c0_i32_83 : BitVec 32 := 0#32
  let v188 : BitVec 1 := Scalar.cmpi .eq c3_i32_82 c0_i32_83
  let c1_i32_84 : BitVec 32 := 1#32
  let v189 : BitVec 32 := Scalar.select v188 c1_i32_84 c3_i32_82
  let v190 : BitVec 32 := Scalar.remsi v184 v189
  let c0_i32_86 : BitVec 32 := 0#32
  let v192 : BitVec 1 := Scalar.cmpi .slt v190 c0_i32_86
  let c0_i32_87 : BitVec 32 := 0#32
  let v193 : BitVec 1 := Scalar.cmpi .slt v189 c0_i32_87
  let v194 : BitVec 1 := Scalar.xori v192 v193
  let c0_i32_85 : BitVec 32 := 0#32
  let v191 : BitVec 1 := Scalar.cmpi .ne v190 c0_i32_85
  let v195 : BitVec 1 := Scalar.andi v194 v191
  let v196 : BitVec 32 := Scalar.addi v190 v189
  let v197 : BitVec 32 := Scalar.select v195 v196 v190
  let v264 : Index := Scalar.indexCast v197
  let c1_120 : Index := 1#32
  let c256_121 : Index := 256#32
  let c0_122 : Index := 0#32
  ![v264.toNat, 1, 256, 0]
def k0_cond8 (i : grid0.Coords) : BitVec 1 :=
  let c4_i32 : BitVec 32 := 4#32
  let arg1 : BitVec 32 := BitVec.ofNat 32 (i 1).val
  let v17 : BitVec 32 := Scalar.muli c4_i32 arg1
  let c1_i32_81 : BitVec 32 := 1#32
  let v184 : BitVec 32 := Scalar.addi v17 c1_i32_81
  let c3_i32_143 : BitVec 32 := 3#32
  let v343 : BitVec 32 := Scalar.addi v184 c3_i32_143
  let c4_i32_7 : BitVec 32 := 4#32
  let v18 : BitVec 32 := Scalar.addi v17 c4_i32_7
  let v344 : BitVec 1 := Scalar.cmpi .slt v343 v18
  let v345 : BitVec 32 := Scalar.extui v344
  let c0_i32_144 : BitVec 32 := 0#32
  let v346 : BitVec 1 := Scalar.cmpi .ne v345 c0_i32_144
  v346

def k0_off36 (i : grid0.Coords) : Fin 1 → Nat :=
  let c4_i32 : BitVec 32 := 4#32
  let arg1 : BitVec 32 := BitVec.ofNat 32 (i 1).val
  let v17 : BitVec 32 := Scalar.muli c4_i32 arg1
  let c1_i32_81 : BitVec 32 := 1#32
  let v184 : BitVec 32 := Scalar.addi v17 c1_i32_81
  let c3_i32_82 : BitVec 32 := 3#32
  let c0_i32_83 : BitVec 32 := 0#32
  let v188 : BitVec 1 := Scalar.cmpi .eq c3_i32_82 c0_i32_83
  let c1_i32_84 : BitVec 32 := 1#32
  let v189 : BitVec 32 := Scalar.select v188 c1_i32_84 c3_i32_82
  let v190 : BitVec 32 := Scalar.remsi v184 v189
  let c0_i32_86 : BitVec 32 := 0#32
  let v192 : BitVec 1 := Scalar.cmpi .slt v190 c0_i32_86
  let c0_i32_87 : BitVec 32 := 0#32
  let v193 : BitVec 1 := Scalar.cmpi .slt v189 c0_i32_87
  let v194 : BitVec 1 := Scalar.xori v192 v193
  let c0_i32_85 : BitVec 32 := 0#32
  let v191 : BitVec 1 := Scalar.cmpi .ne v190 c0_i32_85
  let v195 : BitVec 1 := Scalar.andi v194 v191
  let v196 : BitVec 32 := Scalar.addi v190 v189
  let v197 : BitVec 32 := Scalar.select v195 v196 v190
  ![v197.toNat]
def k0_off37 (i : grid0.Coords) : Fin 4 → Nat :=
  let c4_i32 : BitVec 32 := 4#32
  let arg1 : BitVec 32 := BitVec.ofNat 32 (i 1).val
  let v17 : BitVec 32 := Scalar.muli c4_i32 arg1
  let c1_i32_81 : BitVec 32 := 1#32
  let v184 : BitVec 32 := Scalar.addi v17 c1_i32_81
  let c3_i32_82 : BitVec 32 := 3#32
  let c0_i32_83 : BitVec 32 := 0#32
  let v188 : BitVec 1 := Scalar.cmpi .eq c3_i32_82 c0_i32_83
  let c1_i32_84 : BitVec 32 := 1#32
  let v189 : BitVec 32 := Scalar.select v188 c1_i32_84 c3_i32_82
  let v190 : BitVec 32 := Scalar.remsi v184 v189
  let c0_i32_86 : BitVec 32 := 0#32
  let v192 : BitVec 1 := Scalar.cmpi .slt v190 c0_i32_86
  let c0_i32_87 : BitVec 32 := 0#32
  let v193 : BitVec 1 := Scalar.cmpi .slt v189 c0_i32_87
  let v194 : BitVec 1 := Scalar.xori v192 v193
  let c0_i32_85 : BitVec 32 := 0#32
  let v191 : BitVec 1 := Scalar.cmpi .ne v190 c0_i32_85
  let v195 : BitVec 1 := Scalar.andi v194 v191
  let v196 : BitVec 32 := Scalar.addi v190 v189
  let v197 : BitVec 32 := Scalar.select v195 v196 v190
  let c0_i32_285 : BitVec 32 := 0#32
  let c0_i32_286 : BitVec 32 := 0#32
  let c0_i32_287 : BitVec 32 := 0#32
  ![v197.toNat, 0, 0, 0]
def k0_off38 (i : grid0.Coords) : Fin 5 → Nat :=
  let arg0 : BitVec 32 := BitVec.ofNat 32 (i 0).val
  let c4_i32_284 : BitVec 32 := 4#32
  let arg1 : BitVec 32 := BitVec.ofNat 32 (i 1).val
  let c1_i32_276 : BitVec 32 := 1#32
  let v664 : BitVec 32 := Scalar.addi arg1 c1_i32_276
  let v665 : BitVec 32 := Scalar.muli arg1 v664
  let c0_i32_278 : BitVec 32 := 0#32
  let v667 : BitVec 1 := Scalar.cmpi .sgt v665 c0_i32_278
  let v668 : BitVec 32 := Scalar.extui v667
  let c0_i32_279 : BitVec 32 := 0#32
  let v669 : BitVec 1 := Scalar.cmpi .slt v665 c0_i32_279
  let v670 : BitVec 32 := Scalar.extui v669
  let v671 : BitVec 32 := Scalar.subi v668 v670
  let c2_i32_277 : BitVec 32 := 2#32
  let c0_i32_280 : BitVec 32 := 0#32
  let v672 : BitVec 1 := Scalar.cmpi .sgt c2_i32_277 c0_i32_280
  let v673 : BitVec 32 := Scalar.extui v672
  let c0_i32_281 : BitVec 32 := 0#32
  let v674 : BitVec 1 := Scalar.cmpi .slt c2_i32_277 c0_i32_281
  let v675 : BitVec 32 := Scalar.extui v674
  let v676 : BitVec 32 := Scalar.subi v673 v675
  let v677 : BitVec 1 := Scalar.cmpi .ne v671 v676
  let v678 : BitVec 32 := Scalar.remsi v665 c2_i32_277
  let c0_i32_282 : BitVec 32 := 0#32
  let v679 : BitVec 1 := Scalar.cmpi .ne v678 c0_i32_282
  let v680 : BitVec 1 := Scalar.andi v677 v679
  let v666 : BitVec 32 := Scalar.divsi v665 c2_i32_277
  let c1_i32_283 : BitVec 32 := 1#32
  let v681 : BitVec 32 := Scalar.subi v666 c1_i32_283
  let v682 : BitVec 32 := Scalar.select v680 v681 v666
  let v683 : BitVec 32 := Scalar.muli c4_i32_284 v682
  let c4_i32 : BitVec 32 := 4#32
  let v17 : BitVec 32 := Scalar.muli c4_i32 arg1
  let c1_i32_81 : BitVec 32 := 1#32
  let v184 : BitVec 32 := Scalar.addi v17 c1_i32_81
  let c3_i32_275 : BitVec 32 := 3#32
  let v663 : BitVec 32 := Scalar.addi v184 c3_i32_275
  let v684 : BitVec 32 := Scalar.addi v683 v663
  let c0_i32_288 : BitVec 32 := 0#32
  let c0_i32_289 : BitVec 32 := 0#32
  let c0_i32_290 : BitVec 32 := 0#32
  ![arg0.toNat, v684.toNat, 0, 0, 0]
def k0_mult5 (i : grid0.Coords) : BitVec 32 :=
  let c4_i32 : BitVec 32 := 4#32
  let arg1 : BitVec 32 := BitVec.ofNat 32 (i 1).val
  let v17 : BitVec 32 := Scalar.muli c4_i32 arg1
  let c2_i32_145 : BitVec 32 := 2#32
  let v347 : BitVec 32 := Scalar.addi v17 c2_i32_145
  let c256_i32_152 : BitVec 32 := 256#32
  let v361 : BitVec 32 := Scalar.muli v347 c256_i32_152
  v361
def k0_off39 (i : grid0.Coords) : Fin 4 → Nat :=
  let c4_i32 : BitVec 32 := 4#32
  let arg1 : BitVec 32 := BitVec.ofNat 32 (i 1).val
  let v17 : BitVec 32 := Scalar.muli c4_i32 arg1
  let c2_i32_145 : BitVec 32 := 2#32
  let v347 : BitVec 32 := Scalar.addi v17 c2_i32_145
  let c3_i32_146 : BitVec 32 := 3#32
  let c0_i32_147 : BitVec 32 := 0#32
  let v351 : BitVec 1 := Scalar.cmpi .eq c3_i32_146 c0_i32_147
  let c1_i32_148 : BitVec 32 := 1#32
  let v352 : BitVec 32 := Scalar.select v351 c1_i32_148 c3_i32_146
  let v353 : BitVec 32 := Scalar.remsi v347 v352
  let c0_i32_150 : BitVec 32 := 0#32
  let v355 : BitVec 1 := Scalar.cmpi .slt v353 c0_i32_150
  let c0_i32_151 : BitVec 32 := 0#32
  let v356 : BitVec 1 := Scalar.cmpi .slt v352 c0_i32_151
  let v357 : BitVec 1 := Scalar.xori v355 v356
  let c0_i32_149 : BitVec 32 := 0#32
  let v354 : BitVec 1 := Scalar.cmpi .ne v353 c0_i32_149
  let v358 : BitVec 1 := Scalar.andi v357 v354
  let v359 : BitVec 32 := Scalar.addi v353 v352
  let v360 : BitVec 32 := Scalar.select v358 v359 v353
  let v424 : Index := Scalar.indexCast v360
  let c0_182 : Index := 0#32
  let c512 : Index := 512#32
  let c0_183 : Index := 0#32
  ![v424.toNat, 0, 512, 0]
def k0_off40 (i : grid0.Coords) : Fin 4 → Nat :=
  let c4_i32 : BitVec 32 := 4#32
  let arg1 : BitVec 32 := BitVec.ofNat 32 (i 1).val
  let v17 : BitVec 32 := Scalar.muli c4_i32 arg1
  let c2_i32_145 : BitVec 32 := 2#32
  let v347 : BitVec 32 := Scalar.addi v17 c2_i32_145
  let c3_i32_146 : BitVec 32 := 3#32
  let c0_i32_147 : BitVec 32 := 0#32
  let v351 : BitVec 1 := Scalar.cmpi .eq c3_i32_146 c0_i32_147
  let c1_i32_148 : BitVec 32 := 1#32
  let v352 : BitVec 32 := Scalar.select v351 c1_i32_148 c3_i32_146
  let v353 : BitVec 32 := Scalar.remsi v347 v352
  let c0_i32_150 : BitVec 32 := 0#32
  let v355 : BitVec 1 := Scalar.cmpi .slt v353 c0_i32_150
  let c0_i32_151 : BitVec 32 := 0#32
  let v356 : BitVec 1 := Scalar.cmpi .slt v352 c0_i32_151
  let v357 : BitVec 1 := Scalar.xori v355 v356
  let c0_i32_149 : BitVec 32 := 0#32
  let v354 : BitVec 1 := Scalar.cmpi .ne v353 c0_i32_149
  let v358 : BitVec 1 := Scalar.andi v357 v354
  let v359 : BitVec 32 := Scalar.addi v353 v352
  let v360 : BitVec 32 := Scalar.select v358 v359 v353
  let v427 : Index := Scalar.indexCast v360
  let c1_184 : Index := 1#32
  let c512_185 : Index := 512#32
  let c0_186 : Index := 0#32
  ![v427.toNat, 1, 512, 0]
def k0_cond9 (i : grid0.Coords) : BitVec 1 :=
  let c4_i32 : BitVec 32 := 4#32
  let arg1 : BitVec 32 := BitVec.ofNat 32 (i 1).val
  let v17 : BitVec 32 := Scalar.muli c4_i32 arg1
  let c2_i32_145 : BitVec 32 := 2#32
  let v347 : BitVec 32 := Scalar.addi v17 c2_i32_145
  let c3_i32_207 : BitVec 32 := 3#32
  let v506 : BitVec 32 := Scalar.addi v347 c3_i32_207
  let c4_i32_7 : BitVec 32 := 4#32
  let v18 : BitVec 32 := Scalar.addi v17 c4_i32_7
  let v507 : BitVec 1 := Scalar.cmpi .slt v506 v18
  let v508 : BitVec 32 := Scalar.extui v507
  let c0_i32_208 : BitVec 32 := 0#32
  let v509 : BitVec 1 := Scalar.cmpi .ne v508 c0_i32_208
  v509

def k0_off41 (i : grid0.Coords) : Fin 1 → Nat :=
  let c4_i32 : BitVec 32 := 4#32
  let arg1 : BitVec 32 := BitVec.ofNat 32 (i 1).val
  let v17 : BitVec 32 := Scalar.muli c4_i32 arg1
  let c2_i32_145 : BitVec 32 := 2#32
  let v347 : BitVec 32 := Scalar.addi v17 c2_i32_145
  let c3_i32_146 : BitVec 32 := 3#32
  let c0_i32_147 : BitVec 32 := 0#32
  let v351 : BitVec 1 := Scalar.cmpi .eq c3_i32_146 c0_i32_147
  let c1_i32_148 : BitVec 32 := 1#32
  let v352 : BitVec 32 := Scalar.select v351 c1_i32_148 c3_i32_146
  let v353 : BitVec 32 := Scalar.remsi v347 v352
  let c0_i32_150 : BitVec 32 := 0#32
  let v355 : BitVec 1 := Scalar.cmpi .slt v353 c0_i32_150
  let c0_i32_151 : BitVec 32 := 0#32
  let v356 : BitVec 1 := Scalar.cmpi .slt v352 c0_i32_151
  let v357 : BitVec 1 := Scalar.xori v355 v356
  let c0_i32_149 : BitVec 32 := 0#32
  let v354 : BitVec 1 := Scalar.cmpi .ne v353 c0_i32_149
  let v358 : BitVec 1 := Scalar.andi v357 v354
  let v359 : BitVec 32 := Scalar.addi v353 v352
  let v360 : BitVec 32 := Scalar.select v358 v359 v353
  ![v360.toNat]
def k0_off42 (i : grid0.Coords) : Fin 4 → Nat :=
  let c4_i32 : BitVec 32 := 4#32
  let arg1 : BitVec 32 := BitVec.ofNat 32 (i 1).val
  let v17 : BitVec 32 := Scalar.muli c4_i32 arg1
  let c2_i32_145 : BitVec 32 := 2#32
  let v347 : BitVec 32 := Scalar.addi v17 c2_i32_145
  let c3_i32_146 : BitVec 32 := 3#32
  let c0_i32_147 : BitVec 32 := 0#32
  let v351 : BitVec 1 := Scalar.cmpi .eq c3_i32_146 c0_i32_147
  let c1_i32_148 : BitVec 32 := 1#32
  let v352 : BitVec 32 := Scalar.select v351 c1_i32_148 c3_i32_146
  let v353 : BitVec 32 := Scalar.remsi v347 v352
  let c0_i32_150 : BitVec 32 := 0#32
  let v355 : BitVec 1 := Scalar.cmpi .slt v353 c0_i32_150
  let c0_i32_151 : BitVec 32 := 0#32
  let v356 : BitVec 1 := Scalar.cmpi .slt v352 c0_i32_151
  let v357 : BitVec 1 := Scalar.xori v355 v356
  let c0_i32_149 : BitVec 32 := 0#32
  let v354 : BitVec 1 := Scalar.cmpi .ne v353 c0_i32_149
  let v358 : BitVec 1 := Scalar.andi v357 v354
  let v359 : BitVec 32 := Scalar.addi v353 v352
  let v360 : BitVec 32 := Scalar.select v358 v359 v353
  let c0_i32_285 : BitVec 32 := 0#32
  let c0_i32_286 : BitVec 32 := 0#32
  let c0_i32_287 : BitVec 32 := 0#32
  ![v360.toNat, 0, 0, 0]
def k0_off43 (i : grid0.Coords) : Fin 5 → Nat :=
  let arg0 : BitVec 32 := BitVec.ofNat 32 (i 0).val
  let c4_i32_284 : BitVec 32 := 4#32
  let arg1 : BitVec 32 := BitVec.ofNat 32 (i 1).val
  let c1_i32_276 : BitVec 32 := 1#32
  let v664 : BitVec 32 := Scalar.addi arg1 c1_i32_276
  let v665 : BitVec 32 := Scalar.muli arg1 v664
  let c0_i32_278 : BitVec 32 := 0#32
  let v667 : BitVec 1 := Scalar.cmpi .sgt v665 c0_i32_278
  let v668 : BitVec 32 := Scalar.extui v667
  let c0_i32_279 : BitVec 32 := 0#32
  let v669 : BitVec 1 := Scalar.cmpi .slt v665 c0_i32_279
  let v670 : BitVec 32 := Scalar.extui v669
  let v671 : BitVec 32 := Scalar.subi v668 v670
  let c2_i32_277 : BitVec 32 := 2#32
  let c0_i32_280 : BitVec 32 := 0#32
  let v672 : BitVec 1 := Scalar.cmpi .sgt c2_i32_277 c0_i32_280
  let v673 : BitVec 32 := Scalar.extui v672
  let c0_i32_281 : BitVec 32 := 0#32
  let v674 : BitVec 1 := Scalar.cmpi .slt c2_i32_277 c0_i32_281
  let v675 : BitVec 32 := Scalar.extui v674
  let v676 : BitVec 32 := Scalar.subi v673 v675
  let v677 : BitVec 1 := Scalar.cmpi .ne v671 v676
  let v678 : BitVec 32 := Scalar.remsi v665 c2_i32_277
  let c0_i32_282 : BitVec 32 := 0#32
  let v679 : BitVec 1 := Scalar.cmpi .ne v678 c0_i32_282
  let v680 : BitVec 1 := Scalar.andi v677 v679
  let v666 : BitVec 32 := Scalar.divsi v665 c2_i32_277
  let c1_i32_283 : BitVec 32 := 1#32
  let v681 : BitVec 32 := Scalar.subi v666 c1_i32_283
  let v682 : BitVec 32 := Scalar.select v680 v681 v666
  let v683 : BitVec 32 := Scalar.muli c4_i32_284 v682
  let c4_i32 : BitVec 32 := 4#32
  let v17 : BitVec 32 := Scalar.muli c4_i32 arg1
  let c2_i32_145 : BitVec 32 := 2#32
  let v347 : BitVec 32 := Scalar.addi v17 c2_i32_145
  let c3_i32_275 : BitVec 32 := 3#32
  let v663 : BitVec 32 := Scalar.addi v347 c3_i32_275
  let v684 : BitVec 32 := Scalar.addi v683 v663
  let c0_i32_288 : BitVec 32 := 0#32
  let c0_i32_289 : BitVec 32 := 0#32
  let c0_i32_290 : BitVec 32 := 0#32
  ![arg0.toNat, v684.toNat, 0, 0, 0]
def k0_mult6 (i : grid0.Coords) : BitVec 32 :=
  let c4_i32 : BitVec 32 := 4#32
  let arg1 : BitVec 32 := BitVec.ofNat 32 (i 1).val
  let v17 : BitVec 32 := Scalar.muli c4_i32 arg1
  let c3_i32_209 : BitVec 32 := 3#32
  let v510 : BitVec 32 := Scalar.addi v17 c3_i32_209
  let c256_i32_216 : BitVec 32 := 256#32
  let v524 : BitVec 32 := Scalar.muli v510 c256_i32_216
  v524
def k0_off44 (i : grid0.Coords) : Fin 4 → Nat :=
  let c4_i32 : BitVec 32 := 4#32
  let arg1 : BitVec 32 := BitVec.ofNat 32 (i 1).val
  let v17 : BitVec 32 := Scalar.muli c4_i32 arg1
  let c3_i32_209 : BitVec 32 := 3#32
  let v510 : BitVec 32 := Scalar.addi v17 c3_i32_209
  let c3_i32_210 : BitVec 32 := 3#32
  let c0_i32_211 : BitVec 32 := 0#32
  let v514 : BitVec 1 := Scalar.cmpi .eq c3_i32_210 c0_i32_211
  let c1_i32_212 : BitVec 32 := 1#32
  let v515 : BitVec 32 := Scalar.select v514 c1_i32_212 c3_i32_210
  let v516 : BitVec 32 := Scalar.remsi v510 v515
  let c0_i32_214 : BitVec 32 := 0#32
  let v518 : BitVec 1 := Scalar.cmpi .slt v516 c0_i32_214
  let c0_i32_215 : BitVec 32 := 0#32
  let v519 : BitVec 1 := Scalar.cmpi .slt v515 c0_i32_215
  let v520 : BitVec 1 := Scalar.xori v518 v519
  let c0_i32_213 : BitVec 32 := 0#32
  let v517 : BitVec 1 := Scalar.cmpi .ne v516 c0_i32_213
  let v521 : BitVec 1 := Scalar.andi v520 v517
  let v522 : BitVec 32 := Scalar.addi v516 v515
  let v523 : BitVec 32 := Scalar.select v521 v522 v516
  let v587 : Index := Scalar.indexCast v523
  let c0_246 : Index := 0#32
  let c768 : Index := 768#32
  let c0_247 : Index := 0#32
  ![v587.toNat, 0, 768, 0]
def k0_off45 (i : grid0.Coords) : Fin 4 → Nat :=
  let c4_i32 : BitVec 32 := 4#32
  let arg1 : BitVec 32 := BitVec.ofNat 32 (i 1).val
  let v17 : BitVec 32 := Scalar.muli c4_i32 arg1
  let c3_i32_209 : BitVec 32 := 3#32
  let v510 : BitVec 32 := Scalar.addi v17 c3_i32_209
  let c3_i32_210 : BitVec 32 := 3#32
  let c0_i32_211 : BitVec 32 := 0#32
  let v514 : BitVec 1 := Scalar.cmpi .eq c3_i32_210 c0_i32_211
  let c1_i32_212 : BitVec 32 := 1#32
  let v515 : BitVec 32 := Scalar.select v514 c1_i32_212 c3_i32_210
  let v516 : BitVec 32 := Scalar.remsi v510 v515
  let c0_i32_214 : BitVec 32 := 0#32
  let v518 : BitVec 1 := Scalar.cmpi .slt v516 c0_i32_214
  let c0_i32_215 : BitVec 32 := 0#32
  let v519 : BitVec 1 := Scalar.cmpi .slt v515 c0_i32_215
  let v520 : BitVec 1 := Scalar.xori v518 v519
  let c0_i32_213 : BitVec 32 := 0#32
  let v517 : BitVec 1 := Scalar.cmpi .ne v516 c0_i32_213
  let v521 : BitVec 1 := Scalar.andi v520 v517
  let v522 : BitVec 32 := Scalar.addi v516 v515
  let v523 : BitVec 32 := Scalar.select v521 v522 v516
  let v590 : Index := Scalar.indexCast v523
  let c1_248 : Index := 1#32
  let c768_249 : Index := 768#32
  let c0_250 : Index := 0#32
  ![v590.toNat, 1, 768, 0]
def k0_cond10 (i : grid0.Coords) : BitVec 1 :=
  let c4_i32 : BitVec 32 := 4#32
  let arg1 : BitVec 32 := BitVec.ofNat 32 (i 1).val
  let v17 : BitVec 32 := Scalar.muli c4_i32 arg1
  let c3_i32_209 : BitVec 32 := 3#32
  let v510 : BitVec 32 := Scalar.addi v17 c3_i32_209
  let c3_i32_269 : BitVec 32 := 3#32
  let v657 : BitVec 32 := Scalar.addi v510 c3_i32_269
  let c4_i32_7 : BitVec 32 := 4#32
  let v18 : BitVec 32 := Scalar.addi v17 c4_i32_7
  let v658 : BitVec 1 := Scalar.cmpi .slt v657 v18
  let v659 : BitVec 32 := Scalar.extui v658
  let c0_i32_270 : BitVec 32 := 0#32
  let v660 : BitVec 1 := Scalar.cmpi .ne v659 c0_i32_270
  v660

def k0_off46 (i : grid0.Coords) : Fin 1 → Nat :=
  let c4_i32 : BitVec 32 := 4#32
  let arg1 : BitVec 32 := BitVec.ofNat 32 (i 1).val
  let v17 : BitVec 32 := Scalar.muli c4_i32 arg1
  let c3_i32_209 : BitVec 32 := 3#32
  let v510 : BitVec 32 := Scalar.addi v17 c3_i32_209
  let c3_i32_210 : BitVec 32 := 3#32
  let c0_i32_211 : BitVec 32 := 0#32
  let v514 : BitVec 1 := Scalar.cmpi .eq c3_i32_210 c0_i32_211
  let c1_i32_212 : BitVec 32 := 1#32
  let v515 : BitVec 32 := Scalar.select v514 c1_i32_212 c3_i32_210
  let v516 : BitVec 32 := Scalar.remsi v510 v515
  let c0_i32_214 : BitVec 32 := 0#32
  let v518 : BitVec 1 := Scalar.cmpi .slt v516 c0_i32_214
  let c0_i32_215 : BitVec 32 := 0#32
  let v519 : BitVec 1 := Scalar.cmpi .slt v515 c0_i32_215
  let v520 : BitVec 1 := Scalar.xori v518 v519
  let c0_i32_213 : BitVec 32 := 0#32
  let v517 : BitVec 1 := Scalar.cmpi .ne v516 c0_i32_213
  let v521 : BitVec 1 := Scalar.andi v520 v517
  let v522 : BitVec 32 := Scalar.addi v516 v515
  let v523 : BitVec 32 := Scalar.select v521 v522 v516
  ![v523.toNat]
def k0_off47 (i : grid0.Coords) : Fin 4 → Nat :=
  let c4_i32 : BitVec 32 := 4#32
  let arg1 : BitVec 32 := BitVec.ofNat 32 (i 1).val
  let v17 : BitVec 32 := Scalar.muli c4_i32 arg1
  let c3_i32_209 : BitVec 32 := 3#32
  let v510 : BitVec 32 := Scalar.addi v17 c3_i32_209
  let c3_i32_210 : BitVec 32 := 3#32
  let c0_i32_211 : BitVec 32 := 0#32
  let v514 : BitVec 1 := Scalar.cmpi .eq c3_i32_210 c0_i32_211
  let c1_i32_212 : BitVec 32 := 1#32
  let v515 : BitVec 32 := Scalar.select v514 c1_i32_212 c3_i32_210
  let v516 : BitVec 32 := Scalar.remsi v510 v515
  let c0_i32_214 : BitVec 32 := 0#32
  let v518 : BitVec 1 := Scalar.cmpi .slt v516 c0_i32_214
  let c0_i32_215 : BitVec 32 := 0#32
  let v519 : BitVec 1 := Scalar.cmpi .slt v515 c0_i32_215
  let v520 : BitVec 1 := Scalar.xori v518 v519
  let c0_i32_213 : BitVec 32 := 0#32
  let v517 : BitVec 1 := Scalar.cmpi .ne v516 c0_i32_213
  let v521 : BitVec 1 := Scalar.andi v520 v517
  let v522 : BitVec 32 := Scalar.addi v516 v515
  let v523 : BitVec 32 := Scalar.select v521 v522 v516
  let c0_i32_285 : BitVec 32 := 0#32
  let c0_i32_286 : BitVec 32 := 0#32
  let c0_i32_287 : BitVec 32 := 0#32
  ![v523.toNat, 0, 0, 0]
def k0_off48 (i : grid0.Coords) : Fin 5 → Nat :=
  let arg0 : BitVec 32 := BitVec.ofNat 32 (i 0).val
  let c4_i32_284 : BitVec 32 := 4#32
  let arg1 : BitVec 32 := BitVec.ofNat 32 (i 1).val
  let c1_i32_276 : BitVec 32 := 1#32
  let v664 : BitVec 32 := Scalar.addi arg1 c1_i32_276
  let v665 : BitVec 32 := Scalar.muli arg1 v664
  let c0_i32_278 : BitVec 32 := 0#32
  let v667 : BitVec 1 := Scalar.cmpi .sgt v665 c0_i32_278
  let v668 : BitVec 32 := Scalar.extui v667
  let c0_i32_279 : BitVec 32 := 0#32
  let v669 : BitVec 1 := Scalar.cmpi .slt v665 c0_i32_279
  let v670 : BitVec 32 := Scalar.extui v669
  let v671 : BitVec 32 := Scalar.subi v668 v670
  let c2_i32_277 : BitVec 32 := 2#32
  let c0_i32_280 : BitVec 32 := 0#32
  let v672 : BitVec 1 := Scalar.cmpi .sgt c2_i32_277 c0_i32_280
  let v673 : BitVec 32 := Scalar.extui v672
  let c0_i32_281 : BitVec 32 := 0#32
  let v674 : BitVec 1 := Scalar.cmpi .slt c2_i32_277 c0_i32_281
  let v675 : BitVec 32 := Scalar.extui v674
  let v676 : BitVec 32 := Scalar.subi v673 v675
  let v677 : BitVec 1 := Scalar.cmpi .ne v671 v676
  let v678 : BitVec 32 := Scalar.remsi v665 c2_i32_277
  let c0_i32_282 : BitVec 32 := 0#32
  let v679 : BitVec 1 := Scalar.cmpi .ne v678 c0_i32_282
  let v680 : BitVec 1 := Scalar.andi v677 v679
  let v666 : BitVec 32 := Scalar.divsi v665 c2_i32_277
  let c1_i32_283 : BitVec 32 := 1#32
  let v681 : BitVec 32 := Scalar.subi v666 c1_i32_283
  let v682 : BitVec 32 := Scalar.select v680 v681 v666
  let v683 : BitVec 32 := Scalar.muli c4_i32_284 v682
  let c4_i32 : BitVec 32 := 4#32
  let v17 : BitVec 32 := Scalar.muli c4_i32 arg1
  let c3_i32_209 : BitVec 32 := 3#32
  let v510 : BitVec 32 := Scalar.addi v17 c3_i32_209
  let c3_i32_275 : BitVec 32 := 3#32
  let v663 : BitVec 32 := Scalar.addi v510 c3_i32_275
  let v684 : BitVec 32 := Scalar.addi v683 v663
  let c0_i32_288 : BitVec 32 := 0#32
  let c0_i32_289 : BitVec 32 := 0#32
  let c0_i32_290 : BitVec 32 := 0#32
  ![arg0.toNat, v684.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnBwdRefIdeal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S16x64x8192 : Shape := ⟨3, ![16, 64, 8192]⟩

abbrev nBuf : Space → Nat
  | .hbm => 171
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x16x64, .f32⟩
  | 5 => ⟨S16x8192x64, .f32⟩
  | 6 => ⟨S8192x16x64, .f32⟩
  | 7 => ⟨S16x8192x64, .f32⟩
  | 8 => ⟨S16x8192x8192, .f32⟩
  | 9 => ⟨S8192, .i32⟩
  | 10 => ⟨S8192, .i32⟩
  | 11 => ⟨S1x8192, .i32⟩
  | 12 => ⟨S8192x1, .i32⟩
  | 13 => ⟨S8192x8192, .i32⟩
  | 14 => ⟨S8192x8192, .i32⟩
  | 15 => ⟨S8192x8192, .i1⟩
  | 16 => ⟨S16x8192x8192, .f32⟩
  | 17 => ⟨S16x8192x8192, .f32⟩
  | 18 => ⟨S_, .f32⟩
  | 19 => ⟨S16x8192x8192, .f32⟩
  | 20 => ⟨S16x8192x8192, .f32⟩
  | 21 => ⟨S16x8192x8192, .f32⟩
  | 22 => ⟨S16x8192x8192, .f32⟩
  | 23 => ⟨S16x8192x8192, .i1⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .f32⟩
  | 31 => ⟨S16x8192x8192, .f32⟩
  | 32 => ⟨S_, .f32⟩
  | 33 => ⟨S16x8192x8192, .f32⟩
  | 34 => ⟨S16x8192x8192, .i1⟩
  | 35 => ⟨S_, .f32⟩
  | 36 => ⟨S16x8192x8192, .f32⟩
  | 37 => ⟨S16x8192x8192, .f32⟩
  | 38 => ⟨S_, .f32⟩
  | 39 => ⟨S16x8192x8192, .f32⟩
  | 40 => ⟨S16x8192x8192, .i1⟩
  | 41 => ⟨S_, .f32⟩
  | 42 => ⟨S16x8192x8192, .f32⟩
  | 43 => ⟨S16x8192x8192, .f32⟩
  | 44 => ⟨S16x8192x8192, .f32⟩
  | 45 => ⟨S16x8192x8192, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S16x8192x8192, .f32⟩
  | 54 => ⟨S16x8192x8192, .i1⟩
  | 55 => ⟨S_, .f32⟩
  | 56 => ⟨S16x8192x8192, .f32⟩
  | 57 => ⟨S16x8192x8192, .f32⟩
  | 58 => ⟨S16x8192x8192, .f32⟩
  | 59 => ⟨S16x8192x8192, .f32⟩
  | 60 => ⟨S16x8192x8192, .f32⟩
  | 61 => ⟨S_, .f32⟩
  | 62 => ⟨S16x8192x8192, .f32⟩
  | 63 => ⟨S16x8192x8192, .f32⟩
  | 64 => ⟨S16x8192x8192, .f32⟩
  | 65 => ⟨S_, .f32⟩
  | 66 => ⟨S_, .f32⟩
  | 67 => ⟨S16x8192x8192, .i1⟩
  | 68 => ⟨S16x8192x8192, .f32⟩
  | 69 => ⟨S16x8192x8192, .f32⟩
  | 70 => ⟨S_, .f32⟩
  | 71 => ⟨S16x8192x8192, .f32⟩
  | 72 => ⟨S_, .f32⟩
  | 73 => ⟨S_, .f32⟩
  | 74 => ⟨S16x8192x8192, .f32⟩
  | 75 => ⟨S16x8192x8192, .f32⟩
  | 76 => ⟨S16x8192x8192, .f32⟩
  | 77 => ⟨S_, .f32⟩
  | 78 => ⟨S16x8192x8192, .f32⟩
  | 79 => ⟨S16x8192x8192, .f32⟩
  | 80 => ⟨S16x8192x8192, .f32⟩
  | 81 => ⟨S16x8192x8192, .f32⟩
  | 82 => ⟨S16x8192x8192, .i1⟩
  | 83 => ⟨S16x8192x8192, .f32⟩
  | 84 => ⟨S16x8192x8192, .f32⟩
  | 85 => ⟨S16x8192x8192, .f32⟩
  | 86 => ⟨S16x8192x8192, .f32⟩
  | 87 => ⟨S16x8192x8192, .f32⟩
  | 88 => ⟨S16x8192x8192, .f32⟩
  | 89 => ⟨S16x8192x8192, .f32⟩
  | 90 => ⟨S16x8192x8192, .f32⟩
  | 91 => ⟨S_, .f32⟩
  | 92 => ⟨S16x8192x8192, .f32⟩
  | 93 => ⟨S16x8192x8192, .i1⟩
  | 94 => ⟨S_, .f32⟩
  | 95 => ⟨S16x8192x8192, .f32⟩
  | 96 => ⟨S16x8192x8192, .f32⟩
  | 97 => ⟨S_, .f32⟩
  | 98 => ⟨S16x8192x8192, .f32⟩
  | 99 => ⟨S16x8192x8192, .i1⟩
  | 100 => ⟨S_, .f32⟩
  | 101 => ⟨S16x8192x8192, .f32⟩
  | 102 => ⟨S16x8192x8192, .f32⟩
  | 103 => ⟨S16x8192x8192, .f32⟩
  | 104 => ⟨S16x8192x8192, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S16x8192x8192, .f32⟩
  | 113 => ⟨S16x8192x8192, .i1⟩
  | 114 => ⟨S_, .f32⟩
  | 115 => ⟨S16x8192x8192, .f32⟩
  | 116 => ⟨S16x8192x8192, .f32⟩
  | 117 => ⟨S16x8192x8192, .f32⟩
  | 118 => ⟨S16x8192x8192, .f32⟩
  | 119 => ⟨S16x8192x8192, .f32⟩
  | 120 => ⟨S_, .f32⟩
  | 121 => ⟨S16x8192x8192, .f32⟩
  | 122 => ⟨S16x8192x8192, .f32⟩
  | 123 => ⟨S16x8192x8192, .f32⟩
  | 124 => ⟨S16x8192x8192, .f32⟩
  | 125 => ⟨S16x8192x8192, .f32⟩
  | 126 => ⟨S_, .f32⟩
  | 127 => ⟨S_, .f32⟩
  | _ => ⟨S8192x1024, .f32⟩

abbrev hbmTy0_1 (i : Nat) : BufTy := match i % 128 with
  | 0 => ⟨S16x8192x8192, .i1⟩
  | 1 => ⟨S16x8192x8192, .f32⟩
  | 2 => ⟨S16x8192x8192, .f32⟩
  | 3 => ⟨S_, .f32⟩
  | 4 => ⟨S16x8192x8192, .f32⟩
  | 5 => ⟨S8192x16x64, .f32⟩
  | 6 => ⟨S16x8192x64, .f32⟩
  | 7 => ⟨S16x8192x64, .f32⟩
  | 8 => ⟨S8192x16x64, .f32⟩
  | 9 => ⟨S8192x1024, .f32⟩
  | 10 => ⟨S8192x16x64, .f32⟩
  | 11 => ⟨S16x8192x64, .f32⟩
  | 12 => ⟨S16x64x8192, .f32⟩
  | 13 => ⟨S16x8192x64, .f32⟩
  | 14 => ⟨S16x8192x8192, .f32⟩
  | 15 => ⟨S8192x16x64, .f32⟩
  | 16 => ⟨S8192x1024, .f32⟩
  | 17 => ⟨S_, .f32⟩
  | 18 => ⟨S16x8192x8192, .f32⟩
  | 19 => ⟨S16x8192x8192, .f32⟩
  | 20 => ⟨S16x8192x8192, .f32⟩
  | 21 => ⟨S16x8192x8192, .f32⟩
  | 22 => ⟨S16x8192x8192, .f32⟩
  | 23 => ⟨S16x8192x8192, .f32⟩
  | 24 => ⟨S16x8192x8192, .f32⟩
  | 25 => ⟨S_, .f32⟩
  | 26 => ⟨S_, .f32⟩
  | 27 => ⟨S16x8192x8192, .f32⟩
  | 28 => ⟨S16x8192x8192, .f32⟩
  | 29 => ⟨S_, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x64, .f32⟩
  | 38 => ⟨S16x8192x64, .f32⟩
  | 39 => ⟨S8192x16x64, .f32⟩
  | 40 => ⟨S8192x1024, .f32⟩
  | 41 => ⟨S8192x16x64, .f32⟩
  | 42 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v13_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v13_2 : Ref sig .tc := ⟨.hbm, 63, rfl⟩
abbrev main_v13_0 : Ref sig .tc := ⟨.hbm, 64, rfl⟩
abbrev main_cst : Ref sig .tc := ⟨.hbm, 65, rfl⟩
abbrev main_call1_v0 : Ref sig .tc := ⟨.hbm, 66, rfl⟩
abbrev main_v14_1 : Ref sig .tc := ⟨.hbm, 67, rfl⟩
abbrev main_call1_v2 : Ref sig .tc := ⟨.hbm, 68, rfl⟩
abbrev main_v14_0 : Ref sig .tc := ⟨.hbm, 69, rfl⟩
abbrev main_call1_cst : Ref sig .tc := ⟨.hbm, 70, rfl⟩
abbrev main_v14_2 : Ref sig .tc := ⟨.hbm, 71, rfl⟩
abbrev main_call2_cst : Ref sig .tc := ⟨.hbm, 72, rfl⟩
abbrev main_call2_v0 : Ref sig .tc := ⟨.hbm, 73, rfl⟩
abbrev main_v15 : Ref sig .tc := ⟨.hbm, 74, rfl⟩
abbrev main_v16 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v17_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v17_2 : Ref sig .tc := ⟨.hbm, 122, rfl⟩
abbrev main_v17_0 : Ref sig .tc := ⟨.hbm, 123, rfl⟩
abbrev main_v18 : Ref sig .tc := ⟨.hbm, 124, rfl⟩
abbrev main_v19 : Ref sig .tc := ⟨.hbm, 125, rfl⟩
abbrev main_cst_0 : Ref sig .tc := ⟨.hbm, 126, rfl⟩
abbrev main_call4_v0 : Ref sig .tc := ⟨.hbm, 127, rfl⟩
abbrev main_v20_1 : Ref sig .tc := ⟨.hbm, 128, rfl⟩
abbrev main_call4_v2 : Ref sig .tc := ⟨.hbm, 129, rfl⟩
abbrev main_v20_0 : Ref sig .tc := ⟨.hbm, 130, rfl⟩
abbrev main_call4_cst : Ref sig .tc := ⟨.hbm, 131, rfl⟩
abbrev main_v20_2 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_call5_cst : Ref sig .tc := ⟨.hbm, 145, rfl⟩
abbrev main_call5_v0 : Ref sig .tc := ⟨.hbm, 146, rfl⟩
abbrev main_v33 : Ref sig .tc := ⟨.hbm, 147, rfl⟩
abbrev main_v34 : Ref sig .tc := ⟨.hbm, 148, rfl⟩
abbrev main_call6_v0 : Ref sig .tc := ⟨.hbm, 149, rfl⟩
abbrev main_call6_v1 : Ref sig .tc := ⟨.hbm, 150, rfl⟩
abbrev main_v35 : Ref sig .tc := ⟨.hbm, 151, rfl⟩
abbrev main_v36 : Ref sig .tc := ⟨.hbm, 152, rfl⟩
abbrev main_call7_cst : Ref sig .tc := ⟨.hbm, 153, rfl⟩
abbrev main_call7_v0 : Ref sig .tc := ⟨.hbm, 154, rfl⟩
abbrev main_v37 : Ref sig .tc := ⟨.hbm, 155, rfl⟩
abbrev main_v38 : Ref sig .tc := ⟨.hbm, 156, rfl⟩
abbrev main_call8_cst : Ref sig .tc := ⟨.hbm, 157, rfl⟩
abbrev main_call8_v0 : Ref sig .tc := ⟨.hbm, 158, rfl⟩
abbrev main_v39 : Ref sig .tc := ⟨.hbm, 159, rfl⟩
abbrev main_call9_v0 : Ref sig .tc := ⟨.hbm, 160, rfl⟩
abbrev main_call9_v1 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩

abbrev nD : Nat := 1
abbrev τ : Topo := Topo.v7x

variable {F : FTy → Type} [FloatOps F]
-- ==== RmsNorm.lean ====
abbrev S8192x1024 : Shape := ⟨2, ![8192, 1024]⟩
abbrev S4x1024 : Shape := ⟨2, ![4, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsNormRefIdeal.lean ====
abbrev S8192x1024 : Shape := ⟨2, ![8192, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FfnUp.lean ====
abbrev S8192x1024 : Shape := ⟨2, ![8192, 1024]⟩
abbrev S4x1024x5632 : Shape := ⟨3, ![4, 1024, 5632]⟩
abbrev S4x1024x4x1408 : Shape := ⟨4, ![4, 1024, 4, 1408]⟩
abbrev S4x4x1024x1408 : Shape := ⟨4, ![4, 4, 1024, 1408]⟩
abbrev S8192x2816 : Shape := ⟨2, ![8192, 2816]⟩
abbrev S512x1024 : Shape := ⟨2, ![512, 1024]⟩
abbrev S1x1x1024x1408 : Shape := ⟨4, ![1, 1, 1024, 1408]⟩
abbrev S512x1408 : Shape := ⟨2, ![512, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x1024x5632, .bf16⟩
  | .hbm, ⟨3, _⟩ => ⟨S4x1024x4x1408, .bf16⟩
  | .hbm, ⟨4, _⟩ => ⟨S4x4x1024x1408, .bf16⟩
  | .hbm, ⟨5, _⟩ => ⟨S8192x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S1x1024x5632, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .bf16⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== PleFwd.lean ====
abbrev S8192x1024 : Shape := ⟨2, ![8192, 1024]⟩
abbrev S4x1024 : Shape := ⟨2, ![4, 1024]⟩
abbrev S4x1024x1024 : Shape := ⟨3, ![4, 1024, 1024]⟩
abbrev S8192x256 : Shape := ⟨2, ![8192, 256]⟩
abbrev S256x1024 : Shape := ⟨2, ![256, 1024]⟩
abbrev S1x1024 : Shape := ⟨2, ![1, 1024]⟩
abbrev S1024 : Shape := ⟨1, ![1024]⟩
abbrev S512x1024 : Shape := ⟨2, ![512, 1024]⟩
abbrev S1x1024x1024 : Shape := ⟨3, ![1, 1024, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x1024, .f32⟩
  | .hbm, ⟨3, _⟩ => ⟨S8192x256, .f32⟩
  | .hbm, ⟨4, _⟩ => ⟨S256x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4x1024x1024, .bf16⟩
  | .hbm, ⟨9, _⟩ => ⟨S256x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleFwdRefIdeal.lean ====
abbrev S8192x1024 : Shape := ⟨2, ![8192, 1024]⟩
abbrev S4x1024 : Shape := ⟨2, ![4, 1024]⟩
abbrev S4x1024x1024 : Shape := ⟨3, ![4, 1024, 1024]⟩
abbrev S8192x256 : Shape := ⟨2, ![8192, 256]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1024 : Shape := ⟨3, ![1, 1024, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x1024, .f32⟩
  | .hbm, ⟨3, _⟩ => ⟨S8192x256, .f32⟩
  | .hbm, ⟨4, _⟩ => ⟨S256x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x1024, .bf16⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== AttnFwd.lean ====
abbrev S8192x1024 : Shape := ⟨2, ![8192, 1024]⟩
abbrev S8x144x2x1024x256 : Shape := ⟨5, ![8, 144, 2, 1024, 256]⟩
abbrev S1024x128 : Shape := ⟨2, ![1024, 128]⟩
abbrev S8192x128 : Shape := ⟨2, ![8192, 128]⟩
abbrev S3x2x1024x256 : Shape := ⟨4, ![3, 2, 1024, 256]⟩
abbrev S3 : Shape := ⟨1, ![3]⟩
abbrev S256x256 : Shape := ⟨2, ![256, 256]⟩
abbrev S1024x64 : Shape := ⟨2, ![1024, 64]⟩
abbrev S1024x1 : Shape := ⟨2, ![1024, 1]⟩
abbrev S256x1 : Shape := ⟨2, ![256, 1]⟩
abbrev S256x64 : Shape := ⟨2, ![256, 64]⟩
abbrev S768x256 : Shape := ⟨2, ![768, 256]⟩
abbrev S1x1x768x256 : Shape := ⟨4, ![1, 1, 768, 256]⟩
abbrev S1x1x256x256 : Shape := ⟨4, ![1, 1, 256, 256]⟩
abbrev S1 : Shape := ⟨1, ![1]⟩
abbrev S_ : Shape := ⟨0, ![]⟩
abbrev S1x1x2x1024x256 : Shape := ⟨5, ![1, 1, 2, 1024, 256]⟩
abbrev S2x1024x256 : Shape := ⟨3, ![2, 1024, 256]⟩
abbrev S1x2x1024x256 : Shape := ⟨4, ![1, 2, 1024, 256]⟩
abbrev S768x64 : Shape := ⟨2, ![768, 64]⟩
abbrev S768x1 : Shape := ⟨2, ![768, 1]⟩
abbrev S512x256 : Shape := ⟨2, ![512, 256]⟩
abbrev S512x1 : Shape := ⟨2, ![512, 1]⟩
abbrev S512x64 : Shape := ⟨2, ![512, 64]⟩
abbrev S1x1x512x256 : Shape := ⟨4, ![1, 1, 512, 256]⟩
abbrev S1024x256 : Shape := ⟨2, ![1024, 256]⟩
abbrev S1x1x1024x256 : Shape := ⟨4, ![1, 1, 1024, 256]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8x144x2x1024x256, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S3x2x1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c4_i32_5 : BitVec 32 := 4#32
  let arg1 : BitVec 32 := BitVec.ofNat 32 (i 1).val
  let v16 : BitVec 32 := Scalar.muli c4_i32_5 arg1
  let c3_i32 : BitVec 32 := 3#32
  let v17 : BitVec 32 := Scalar.addi v16 c3_i32
  let c256_i32 : BitVec 32 := 256#32
  let v21 : BitVec 32 := Scalar.muli v17 c256_i32
  v21
def k0_off1 (i : grid0.Coords) (c3_i32 : BitVec 32) : Fin 2 → Nat :=
  let c4_i32_5 : BitVec 32 := 4#32
  let arg1 : BitVec 32 := BitVec.ofNat 32 (i 1).val
  let v16 : BitVec 32 := Scalar.muli c4_i32_5 arg1
  let v17 : BitVec 32 := Scalar.addi v16 c3_i32
  let c256_i32 : BitVec 32 := 256#32
  let v21 : BitVec 32 := Scalar.muli v17 c256_i32
  let v22 : BitVec 32 := v21
  let v27 : Index := Scalar.indexCast v22
  let c0_6 : Index := 0#32
  ![v27.toNat, 0]
def k0_off2 (i : grid0.Coords) (c3_i32 : BitVec 32) : Fin 2 → Nat :=
  let c4_i32_5 : BitVec 32 := 4#32
  let arg1 : BitVec 32 := BitVec.ofNat 32 (i 1).val
  let v16 : BitVec 32 := Scalar.muli c4_i32_5 arg1
  let v17 : BitVec 32 := Scalar.addi v16 c3_i32
  let c256_i32 : BitVec 32 := 256#32
  let v21 : BitVec 32 := Scalar.muli v17 c256_i32
  let v22 : BitVec 32 := v21
  let v30 : Index := Scalar.indexCast v22
  let c64_7 : Index := 64#32
  ![v30.toNat, 64]
def k0_off3 (i : grid0.Coords) (c3_i32 : BitVec 32) : Fin 5 → Nat :=
  let arg0 : BitVec 32 := BitVec.ofNat 32 (i 0).val
  let c4_i32_48 : BitVec 32 := 4#32
  let arg1 : BitVec 32 := BitVec.ofNat 32 (i 1).val
  let c1_i32_42 : BitVec 32 := 1#32
  let v107 : BitVec 32 := Scalar.addi arg1 c1_i32_42
  let v108 : BitVec 32 := Scalar.muli arg1 v107
  let c0_i32 : BitVec 32 := 0#32
  let v110 : BitVec 1 := Scalar.cmpi .sgt v108 c0_i32
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32 : BitVec 32 := 2#32
  let c0_i32_44 : BitVec 32 := 0#32
  let v115 : BitVec 1 := Scalar.cmpi .sgt c2_i32 c0_i32_44
  let v116 : BitVec 32 := Scalar.extui v115
  let c0_i32_45 : BitVec 32 := 0#32
  let v117 : BitVec 1 := Scalar.cmpi .slt c2_i32 c0_i32_45
  let v118 : BitVec 32 := Scalar.extui v117
  let v119 : BitVec 32 := Scalar.subi v116 v118
  let v120 : BitVec 1 := Scalar.cmpi .ne v114 v119
  let v121 : BitVec 32 := Scalar.remsi v108 c2_i32
  let c0_i32_46 : BitVec 32 := 0#32
  let v122 : BitVec 1 := Scalar.cmpi .ne v121 c0_i32_46
  let v123 : BitVec 1 := Scalar.andi v120 v122
  let v109 : BitVec 32 := Scalar.divsi v108 c2_i32
  let c1_i32_47 : BitVec 32 := 1#32
  let v124 : BitVec 32 := Scalar.subi v109 c1_i32_47
  let v125 : BitVec 32 := Scalar.select v123 v124 v109
  let v126 : BitVec 32 := Scalar.muli c4_i32_48 v125
  let c4_i32_5 : BitVec 32 := 4#32
  let v16 : BitVec 32 := Scalar.muli c4_i32_5 arg1
  let v17 : BitVec 32 := Scalar.addi v16 c3_i32
  let v127 : BitVec 32 := Scalar.addi v126 v17
  let c0_i32_51 : BitVec 32 := 0#32
  let c0_i32_52 : BitVec 32 := 0#32
  let c0_i32_53 : BitVec 32 := 0#32
  ![arg0.toNat, v127.toNat, 0, 0, 0]
def k0_mult2 (i : grid0.Coords) : BitVec 32 :=
  let c4_i32_57 : BitVec 32 := 4#32
  let arg1 : BitVec 32 := BitVec.ofNat 32 (i 1).val
  let v148 : BitVec 32 := Scalar.muli c4_i32_57 arg1
  let c2_i32_58 : BitVec 32 := 2#32
  let v149 : BitVec 32 := Scalar.addi v148 c2_i32_58
  let c256_i32_59 : BitVec 32 := 256#32
  let v153 : BitVec 32 := Scalar.muli v149 c256_i32_59
  v153
def k0_mult3 (i : grid0.Coords) : BitVec 32 :=
  let c4_i32_114 : BitVec 32 := 4#32
  let arg1 : BitVec 32 := BitVec.ofNat 32 (i 1).val
  let v280 : BitVec 32 := Scalar.muli c4_i32_114 arg1
  let c1_i32_115 : BitVec 32 := 1#32
  let v281 : BitVec 32 := Scalar.addi v280 c1_i32_115
  let c256_i32_116 : BitVec 32 := 256#32
  let v285 : BitVec 32 := Scalar.muli v281 c256_i32_116
  v285
def k0_mult4 (i : grid0.Coords) : BitVec 32 :=
  let c4_i32_170 : BitVec 32 := 4#32
  let arg1 : BitVec 32 := BitVec.ofNat 32 (i 1).val
  let v412 : BitVec 32 := Scalar.muli c4_i32_170 arg1
  let c0_i32_171 : BitVec 32 := 0#32
  let v413 : BitVec 32 := Scalar.addi v412 c0_i32_171
  let c256_i32_172 : BitVec 32 := 256#32
  let v417 : BitVec 32 := Scalar.muli v413 c256_i32_172
  v417
@[reducible] def k0_t1_loop (i : grid0.Coords) : Scf.Loop 32 :=
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_238 : BitVec 32 := 1#32
  ⟨c0_i32_236, v554, c1_i32_238⟩
def k0_mult5 (i : grid0.Coords) (k0_t1 : Fin (k0_t1_loop i).trips) : BitVec 32 :=
  let c4_i32_251 : BitVec 32 := 4#32
  let arg1 : BitVec 32 := BitVec.ofNat 32 (i 1).val
  let v571 : BitVec 32 := Scalar.muli c4_i32_251 arg1
  let c1_i32_252 : BitVec 32 := 1#32
  let v572 : BitVec 32 := Scalar.subi v571 c1_i32_252
  let c0_i32_236 : BitVec 32 := 0#32
  let c1_i32_238 : BitVec 32 := 1#32
  let arg9 : BitVec 32 := Scf.iv c0_i32_236 c1_i32_238 k0_t1
  let v573 : BitVec 32 := Scalar.subi v572 arg9
  let c256_i32_259 : BitVec 32 := 256#32
  let v584 : BitVec 32 := Scalar.muli v573 c256_i32_259
  v584
def k0_off4 (i : grid0.Coords) (k0_t1 : Fin (k0_t1_loop i).trips) : Fin 2 → Nat :=
  let c4_i32_251 : BitVec 32 := 4#32
  let arg1 : BitVec 32 := BitVec.ofNat 32 (i 1).val
  let v571 : BitVec 32 := Scalar.muli c4_i32_251 arg1
  let c1_i32_252 : BitVec 32 := 1#32
  let v572 : BitVec 32 := Scalar.subi v571 c1_i32_252
  let c0_i32_236 : BitVec 32 := 0#32
  let c1_i32_238 : BitVec 32 := 1#32
  let arg9 : BitVec 32 := Scf.iv c0_i32_236 c1_i32_238 k0_t1
  let v573 : BitVec 32 := Scalar.subi v572 arg9
  let c256_i32_259 : BitVec 32 := 256#32
  let v584 : BitVec 32 := Scalar.muli v573 c256_i32_259
  let v585 : BitVec 32 := v584
  let v586 : Index := Scalar.indexCast v585
  let c0_260 : Index := 0#32
  ![v586.toNat, 0]
def k0_off5 (i : grid0.Coords) (k0_t1 : Fin (k0_t1_loop i).trips) : Fin 2 → Nat :=
  let c4_i32_251 : BitVec 32 := 4#32
  let arg1 : BitVec 32 := BitVec.ofNat 32 (i 1).val
  let v571 : BitVec 32 := Scalar.muli c4_i32_251 arg1
  let c1_i32_252 : BitVec 32 := 1#32
  let v572 : BitVec 32 := Scalar.subi v571 c1_i32_252
  let c0_i32_236 : BitVec 32 := 0#32
  let c1_i32_238 : BitVec 32 := 1#32
  let arg9 : BitVec 32 := Scf.iv c0_i32_236 c1_i32_238 k0_t1
  let v573 : BitVec 32 := Scalar.subi v572 arg9
  let c256_i32_259 : BitVec 32 := 256#32
  let v584 : BitVec 32 := Scalar.muli v573 c256_i32_259
  let v585 : BitVec 32 := v584
  let v589 : Index := Scalar.indexCast v585
  let c64_261 : Index := 64#32
  ![v589.toNat, 64]
def k0_cond1 (i : grid0.Coords) (k0_t1 : Fin (k0_t1_loop i).trips) : BitVec 1 :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_276 : BitVec 32 := 3#32
  let v644 : BitVec 1 := Scalar.cmpi .sge v570 c3_i32_276
  let v645 : BitVec 32 := Scalar.extui v644
  let c0_i32_277 : BitVec 32 := 0#32
  let v646 : BitVec 1 := Scalar.cmpi .ne v645 c0_i32_277
  v646

def k0_off6 (i : grid0.Coords) (k0_t1 : Fin (k0_t1_loop i).trips) : Fin 1 → Nat :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  ![v583.toNat]
def k0_off7 (i : grid0.Coords) (k0_t1 : Fin (k0_t1_loop i).trips) : Fin 5 → Nat :=
  let arg0 : BitVec 32 := BitVec.ofNat 32 (i 0).val
  let c4_i32_307 : BitVec 32 := 4#32
  let arg1 : BitVec 32 := BitVec.ofNat 32 (i 1).val
  let c1_i32_299 : BitVec 32 := 1#32
  let v686 : BitVec 32 := Scalar.addi arg1 c1_i32_299
  let v687 : BitVec 32 := Scalar.muli arg1 v686
  let c0_i32_301 : BitVec 32 := 0#32
  let v689 : BitVec 1 := Scalar.cmpi .sgt v687 c0_i32_301
  let v690 : BitVec 32 := Scalar.extui v689
  let c0_i32_302 : BitVec 32 := 0#32
  let v691 : BitVec 1 := Scalar.cmpi .slt v687 c0_i32_302
  let v692 : BitVec 32 := Scalar.extui v691
  let v693 : BitVec 32 := Scalar.subi v690 v692
  let c2_i32_300 : BitVec 32 := 2#32
  let c0_i32_303 : BitVec 32 := 0#32
  let v694 : BitVec 1 := Scalar.cmpi .sgt c2_i32_300 c0_i32_303
  let v695 : BitVec 32 := Scalar.extui v694
  let c0_i32_304 : BitVec 32 := 0#32
  let v696 : BitVec 1 := Scalar.cmpi .slt c2_i32_300 c0_i32_304
  let v697 : BitVec 32 := Scalar.extui v696
  let v698 : BitVec 32 := Scalar.subi v695 v697
  let v699 : BitVec 1 := Scalar.cmpi .ne v693 v698
  let v700 : BitVec 32 := Scalar.remsi v687 c2_i32_300
  let c0_i32_305 : BitVec 32 := 0#32
  let v701 : BitVec 1 := Scalar.cmpi .ne v700 c0_i32_305
  let v702 : BitVec 1 := Scalar.andi v699 v701
  let v688 : BitVec 32 := Scalar.divsi v687 c2_i32_300
  let c1_i32_306 : BitVec 32 := 1#32
  let v703 : BitVec 32 := Scalar.subi v688 c1_i32_306
  let v704 : BitVec 32 := Scalar.select v702 v703 v688
  let v705 : BitVec 32 := Scalar.muli c4_i32_307 v704
  let c4_i32_251 : BitVec 32 := 4#32
  let v571 : BitVec 32 := Scalar.muli c4_i32_251 arg1
  let c1_i32_252 : BitVec 32 := 1#32
  let v572 : BitVec 32 := Scalar.subi v571 c1_i32_252
  let c0_i32_236 : BitVec 32 := 0#32
  let c1_i32_238 : BitVec 32 := 1#32
  let arg9 : BitVec 32 := Scf.iv c0_i32_236 c1_i32_238 k0_t1
  let v573 : BitVec 32 := Scalar.subi v572 arg9
  let v706 : BitVec 32 := Scalar.addi v705 v573
  let c0_i32_308 : BitVec 32 := 0#32
  let c0_i32_309 : BitVec 32 := 0#32
  let c0_i32_310 : BitVec 32 := 0#32
  ![arg0.toNat, v706.toNat, 0, 0, 0]
def k0_off8 (i : grid0.Coords) (k0_t1 : Fin (k0_t1_loop i).trips) : Fin 4 → Nat :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let c0_i32_311 : BitVec 32 := 0#32
  let c0_i32_312 : BitVec 32 := 0#32
  let c0_i32_313 : BitVec 32 := 0#32
  ![v583.toNat, 0, 0, 0]
def k0_off9 (i : grid0.Coords) (k0_t1 : Fin (k0_t1_loop i).trips) : Fin 4 → Nat :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let v647 : Index := Scalar.indexCast v583
  let c0_278 : Index := 0#32
  let c0_279 : Index := 0#32
  let c0_280 : Index := 0#32
  ![v647.toNat, 0, 0, 0]
def k0_off10 (i : grid0.Coords) (k0_t1 : Fin (k0_t1_loop i).trips) : Fin 4 → Nat :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let v651 : Index := Scalar.indexCast v583
  let c1_281 : Index := 1#32
  let c0_282 : Index := 0#32
  let c0_283 : Index := 0#32
  ![v651.toNat, 1, 0, 0]
def k0_off11 (i : grid0.Coords) (k0_t1 : Fin (k0_t1_loop i).trips) : Fin 1 → Nat :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  ![v583.toNat]
def k0_off12 (i : grid0.Coords) (k0_t1 : Fin (k0_t1_loop i).trips) : Fin 5 → Nat :=
  let arg0 : BitVec 32 := BitVec.ofNat 32 (i 0).val
  let c4_i32_292 : BitVec 32 := 4#32
  let arg1 : BitVec 32 := BitVec.ofNat 32 (i 1).val
  let c1_i32_284 : BitVec 32 := 1#32
  let v655 : BitVec 32 := Scalar.addi arg1 c1_i32_284
  let v656 : BitVec 32 := Scalar.muli arg1 v655
  let c0_i32_286 : BitVec 32 := 0#32
  let v658 : BitVec 1 := Scalar.cmpi .sgt v656 c0_i32_286
  let v659 : BitVec 32 := Scalar.extui v658
  let c0_i32_287 : BitVec 32 := 0#32
  let v660 : BitVec 1 := Scalar.cmpi .slt v656 c0_i32_287
  let v661 : BitVec 32 := Scalar.extui v660
  let v662 : BitVec 32 := Scalar.subi v659 v661
  let c2_i32_285 : BitVec 32 := 2#32
  let c0_i32_288 : BitVec 32 := 0#32
  let v663 : BitVec 1 := Scalar.cmpi .sgt c2_i32_285 c0_i32_288
  let v664 : BitVec 32 := Scalar.extui v663
  let c0_i32_289 : BitVec 32 := 0#32
  let v665 : BitVec 1 := Scalar.cmpi .slt c2_i32_285 c0_i32_289
  let v666 : BitVec 32 := Scalar.extui v665
  let v667 : BitVec 32 := Scalar.subi v664 v666
  let v668 : BitVec 1 := Scalar.cmpi .ne v662 v667
  let v669 : BitVec 32 := Scalar.remsi v656 c2_i32_285
  let c0_i32_290 : BitVec 32 := 0#32
  let v670 : BitVec 1 := Scalar.cmpi .ne v669 c0_i32_290
  let v671 : BitVec 1 := Scalar.andi v668 v670
  let v657 : BitVec 32 := Scalar.divsi v656 c2_i32_285
  let c1_i32_291 : BitVec 32 := 1#32
  let v672 : BitVec 32 := Scalar.subi v657 c1_i32_291
  let v673 : BitVec 32 := Scalar.select v671 v672 v657
  let v674 : BitVec 32 := Scalar.muli c4_i32_292 v673
  let c4_i32_251 : BitVec 32 := 4#32
  let v571 : BitVec 32 := Scalar.muli c4_i32_251 arg1
  let c1_i32_252 : BitVec 32 := 1#32
  let v572 : BitVec 32 := Scalar.subi v571 c1_i32_252
  let c0_i32_236 : BitVec 32 := 0#32
  let c1_i32_238 : BitVec 32 := 1#32
  let arg9 : BitVec 32 := Scf.iv c0_i32_236 c1_i32_238 k0_t1
  let v573 : BitVec 32 := Scalar.subi v572 arg9
  let v675 : BitVec 32 := Scalar.addi v674 v573
  let c0_i32_293 : BitVec 32 := 0#32
  let c0_i32_294 : BitVec 32 := 0#32
  let c0_i32_295 : BitVec 32 := 0#32
  ![arg0.toNat, v675.toNat, 0, 0, 0]
def k0_off13 (i : grid0.Coords) (k0_t1 : Fin (k0_t1_loop i).trips) : Fin 4 → Nat :=
  let c4_i32_250 : BitVec 32 := 4#32
  let c0_i32_236 : BitVec 32 := 0#32
  let c1_i32_238 : BitVec 32 := 1#32
  let arg9 : BitVec 32 := Scf.iv c0_i32_236 c1_i32_238 k0_t1
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let c0_i32_296 : BitVec 32 := 0#32
  let c0_i32_297 : BitVec 32 := 0#32
  let c0_i32_298 : BitVec 32 := 0#32
  ![v583.toNat, 0, 0, 0]
@[reducible] def k0_t2_loop (i : grid0.Coords) : Scf.Loop 32 :=
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let v551 : BitVec 32 := Scalar.addi c0_i32_236 v550
  let c1_i32_239 : BitVec 32 := 1#32
  ⟨v554, v551, c1_i32_239⟩
def k0_mult6 (i : grid0.Coords) (k0_t2 : Fin (k0_t2_loop i).trips) : BitVec 32 :=
  let c4_i32_251 : BitVec 32 := 4#32
  let arg1 : BitVec 32 := BitVec.ofNat 32 (i 1).val
  let v571 : BitVec 32 := Scalar.muli c4_i32_251 arg1
  let c1_i32_252 : BitVec 32 := 1#32
  let v572 : BitVec 32 := Scalar.subi v571 c1_i32_252
  let c0_i32_236 : BitVec 32 := 0#32
  let c4_i32_235 : BitVec 32 := 4#32
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v573 : BitVec 32 := Scalar.subi v572 arg9
  let c256_i32_259 : BitVec 32 := 256#32
  let v584 : BitVec 32 := Scalar.muli v573 c256_i32_259
  v584
def k0_off14 (i : grid0.Coords) (k0_t2 : Fin (k0_t2_loop i).trips) : Fin 2 → Nat :=
  let c4_i32_251 : BitVec 32 := 4#32
  let arg1 : BitVec 32 := BitVec.ofNat 32 (i 1).val
  let v571 : BitVec 32 := Scalar.muli c4_i32_251 arg1
  let c1_i32_252 : BitVec 32 := 1#32
  let v572 : BitVec 32 := Scalar.subi v571 c1_i32_252
  let c0_i32_236 : BitVec 32 := 0#32
  let c4_i32_235 : BitVec 32 := 4#32
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v573 : BitVec 32 := Scalar.subi v572 arg9
  let c256_i32_259 : BitVec 32 := 256#32
  let v584 : BitVec 32 := Scalar.muli v573 c256_i32_259
  let v585 : BitVec 32 := v584
  let v586 : Index := Scalar.indexCast v585
  let c0_260 : Index := 0#32
  ![v586.toNat, 0]
def k0_off15 (i : grid0.Coords) (k0_t2 : Fin (k0_t2_loop i).trips) : Fin 2 → Nat :=
  let c4_i32_251 : BitVec 32 := 4#32
  let arg1 : BitVec 32 := BitVec.ofNat 32 (i 1).val
  let v571 : BitVec 32 := Scalar.muli c4_i32_251 arg1
  let c1_i32_252 : BitVec 32 := 1#32
  let v572 : BitVec 32 := Scalar.subi v571 c1_i32_252
  let c0_i32_236 : BitVec 32 := 0#32
  let c4_i32_235 : BitVec 32 := 4#32
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v573 : BitVec 32 := Scalar.subi v572 arg9
  let c256_i32_259 : BitVec 32 := 256#32
  let v584 : BitVec 32 := Scalar.muli v573 c256_i32_259
  let v585 : BitVec 32 := v584
  let v589 : Index := Scalar.indexCast v585
  let c64_261 : Index := 64#32
  ![v589.toNat, 64]
def k0_cond2 (i : grid0.Coords) (k0_t2 : Fin (k0_t2_loop i).trips) : BitVec 1 :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_276 : BitVec 32 := 3#32
  let v644 : BitVec 1 := Scalar.cmpi .sge v570 c3_i32_276
  let v645 : BitVec 32 := Scalar.extui v644
  let c0_i32_277 : BitVec 32 := 0#32
  let v646 : BitVec 1 := Scalar.cmpi .ne v645 c0_i32_277
  v646

def k0_off16 (i : grid0.Coords) (k0_t2 : Fin (k0_t2_loop i).trips) : Fin 1 → Nat :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  ![v583.toNat]
def k0_off17 (i : grid0.Coords) (k0_t2 : Fin (k0_t2_loop i).trips) : Fin 5 → Nat :=
  let arg0 : BitVec 32 := BitVec.ofNat 32 (i 0).val
  let c4_i32_307 : BitVec 32 := 4#32
  let arg1 : BitVec 32 := BitVec.ofNat 32 (i 1).val
  let c1_i32_299 : BitVec 32 := 1#32
  let v686 : BitVec 32 := Scalar.addi arg1 c1_i32_299
  let v687 : BitVec 32 := Scalar.muli arg1 v686
  let c0_i32_301 : BitVec 32 := 0#32
  let v689 : BitVec 1 := Scalar.cmpi .sgt v687 c0_i32_301
  let v690 : BitVec 32 := Scalar.extui v689
  let c0_i32_302 : BitVec 32 := 0#32
  let v691 : BitVec 1 := Scalar.cmpi .slt v687 c0_i32_302
  let v692 : BitVec 32 := Scalar.extui v691
  let v693 : BitVec 32 := Scalar.subi v690 v692
  let c2_i32_300 : BitVec 32 := 2#32
  let c0_i32_303 : BitVec 32 := 0#32
  let v694 : BitVec 1 := Scalar.cmpi .sgt c2_i32_300 c0_i32_303
  let v695 : BitVec 32 := Scalar.extui v694
  let c0_i32_304 : BitVec 32 := 0#32
  let v696 : BitVec 1 := Scalar.cmpi .slt c2_i32_300 c0_i32_304
  let v697 : BitVec 32 := Scalar.extui v696
  let v698 : BitVec 32 := Scalar.subi v695 v697
  let v699 : BitVec 1 := Scalar.cmpi .ne v693 v698
  let v700 : BitVec 32 := Scalar.remsi v687 c2_i32_300
  let c0_i32_305 : BitVec 32 := 0#32
  let v701 : BitVec 1 := Scalar.cmpi .ne v700 c0_i32_305
  let v702 : BitVec 1 := Scalar.andi v699 v701
  let v688 : BitVec 32 := Scalar.divsi v687 c2_i32_300
  let c1_i32_306 : BitVec 32 := 1#32
  let v703 : BitVec 32 := Scalar.subi v688 c1_i32_306
  let v704 : BitVec 32 := Scalar.select v702 v703 v688
  let v705 : BitVec 32 := Scalar.muli c4_i32_307 v704
  let c4_i32_251 : BitVec 32 := 4#32
  let v571 : BitVec 32 := Scalar.muli c4_i32_251 arg1
  let c1_i32_252 : BitVec 32 := 1#32
  let v572 : BitVec 32 := Scalar.subi v571 c1_i32_252
  let c0_i32_236 : BitVec 32 := 0#32
  let c4_i32_235 : BitVec 32 := 4#32
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v573 : BitVec 32 := Scalar.subi v572 arg9
  let v706 : BitVec 32 := Scalar.addi v705 v573
  let c0_i32_308 : BitVec 32 := 0#32
  let c0_i32_309 : BitVec 32 := 0#32
  let c0_i32_310 : BitVec 32 := 0#32
  ![arg0.toNat, v706.toNat, 0, 0, 0]
def k0_off18 (i : grid0.Coords) (k0_t2 : Fin (k0_t2_loop i).trips) : Fin 4 → Nat :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let c0_i32_311 : BitVec 32 := 0#32
  let c0_i32_312 : BitVec 32 := 0#32
  let c0_i32_313 : BitVec 32 := 0#32
  ![v583.toNat, 0, 0, 0]
def k0_off19 (i : grid0.Coords) (k0_t2 : Fin (k0_t2_loop i).trips) : Fin 4 → Nat :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let v647 : Index := Scalar.indexCast v583
  let c0_278 : Index := 0#32
  let c0_279 : Index := 0#32
  let c0_280 : Index := 0#32
  ![v647.toNat, 0, 0, 0]
def k0_off20 (i : grid0.Coords) (k0_t2 : Fin (k0_t2_loop i).trips) : Fin 4 → Nat :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let v651 : Index := Scalar.indexCast v583
  let c1_281 : Index := 1#32
  let c0_282 : Index := 0#32
  let c0_283 : Index := 0#32
  ![v651.toNat, 1, 0, 0]
def k0_off21 (i : grid0.Coords) (k0_t2 : Fin (k0_t2_loop i).trips) : Fin 1 → Nat :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  ![v583.toNat]
def k0_off22 (i : grid0.Coords) (k0_t2 : Fin (k0_t2_loop i).trips) : Fin 5 → Nat :=
  let arg0 : BitVec 32 := BitVec.ofNat 32 (i 0).val
  let c4_i32_292 : BitVec 32 := 4#32
  let arg1 : BitVec 32 := BitVec.ofNat 32 (i 1).val
  let c1_i32_284 : BitVec 32 := 1#32
  let v655 : BitVec 32 := Scalar.addi arg1 c1_i32_284
  let v656 : BitVec 32 := Scalar.muli arg1 v655
  let c0_i32_286 : BitVec 32 := 0#32
  let v658 : BitVec 1 := Scalar.cmpi .sgt v656 c0_i32_286
  let v659 : BitVec 32 := Scalar.extui v658
  let c0_i32_287 : BitVec 32 := 0#32
  let v660 : BitVec 1 := Scalar.cmpi .slt v656 c0_i32_287
  let v661 : BitVec 32 := Scalar.extui v660
  let v662 : BitVec 32 := Scalar.subi v659 v661
  let c2_i32_285 : BitVec 32 := 2#32
  let c0_i32_288 : BitVec 32 := 0#32
  let v663 : BitVec 1 := Scalar.cmpi .sgt c2_i32_285 c0_i32_288
  let v664 : BitVec 32 := Scalar.extui v663
  let c0_i32_289 : BitVec 32 := 0#32
  let v665 : BitVec 1 := Scalar.cmpi .slt c2_i32_285 c0_i32_289
  let v666 : BitVec 32 := Scalar.extui v665
  let v667 : BitVec 32 := Scalar.subi v664 v666
  let v668 : BitVec 1 := Scalar.cmpi .ne v662 v667
  let v669 : BitVec 32 := Scalar.remsi v656 c2_i32_285
  let c0_i32_290 : BitVec 32 := 0#32
  let v670 : BitVec 1 := Scalar.cmpi .ne v669 c0_i32_290
  let v671 : BitVec 1 := Scalar.andi v668 v670
  let v657 : BitVec 32 := Scalar.divsi v656 c2_i32_285
  let c1_i32_291 : BitVec 32 := 1#32
  let v672 : BitVec 32 := Scalar.subi v657 c1_i32_291
  let v673 : BitVec 32 := Scalar.select v671 v672 v657
  let v674 : BitVec 32 := Scalar.muli c4_i32_292 v673
  let c4_i32_251 : BitVec 32 := 4#32
  let v571 : BitVec 32 := Scalar.muli c4_i32_251 arg1
  let c1_i32_252 : BitVec 32 := 1#32
  let v572 : BitVec 32 := Scalar.subi v571 c1_i32_252
  let c0_i32_236 : BitVec 32 := 0#32
  let c4_i32_235 : BitVec 32 := 4#32
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v573 : BitVec 32 := Scalar.subi v572 arg9
  let v675 : BitVec 32 := Scalar.addi v674 v573
  let c0_i32_293 : BitVec 32 := 0#32
  let c0_i32_294 : BitVec 32 := 0#32
  let c0_i32_295 : BitVec 32 := 0#32
  ![arg0.toNat, v675.toNat, 0, 0, 0]
def k0_off23 (i : grid0.Coords) (k0_t2 : Fin (k0_t2_loop i).trips) : Fin 4 → Nat :=
  let c4_i32_250 : BitVec 32 := 4#32
  let c0_i32_236 : BitVec 32 := 0#32
  let c4_i32_235 : BitVec 32 := 4#32
  let arg1 : BitVec 32 := BitVec.ofNat 32 (i 1).val
  let v549 : BitVec 32 := Scalar.muli c4_i32_235 arg1
  let v550 : BitVec 32 := Scalar.subi v549 c0_i32_236
  let c1_i32_237 : BitVec 32 := 1#32
  let v552 : BitVec 32 := Scalar.divsi v550 c1_i32_237
  let v553 : BitVec 32 := Scalar.muli v552 c1_i32_237
  let v554 : BitVec 32 := Scalar.addi c0_i32_236 v553
  let c1_i32_239 : BitVec 32 := 1#32
  let arg9 : BitVec 32 := Scf.iv v554 c1_i32_239 k0_t2
  let v570 : BitVec 32 := Scalar.addi c4_i32_250 arg9
  let c3_i32_253 : BitVec 32 := 3#32
  let c0_i32_254 : BitVec 32 := 0#32
  let v574 : BitVec 1 := Scalar.cmpi .eq c3_i32_253 c0_i32_254
  let c1_i32_255 : BitVec 32 := 1#32
  let v575 : BitVec 32 := Scalar.select v574 c1_i32_255 c3_i32_253
  let v576 : BitVec 32 := Scalar.remsi v570 v575
  let c0_i32_257 : BitVec 32 := 0#32
  let v578 : BitVec 1 := Scalar.cmpi .slt v576 c0_i32_257
  let c0_i32_258 : BitVec 32 := 0#32
  let v579 : BitVec 1 := Scalar.cmpi .slt v575 c0_i32_258
  let v580 : BitVec 1 := Scalar.xori v578 v579
  let c0_i32_256 : BitVec 32 := 0#32
  let v577 : BitVec 1 := Scalar.cmpi .ne v576 c0_i32_256
  let v581 : BitVec 1 := Scalar.andi v580 v577
  let v582 : BitVec 32 := Scalar.addi v576 v575
  let v583 : BitVec 32 := Scalar.select v581 v582 v576
  let c0_i32_296 : BitVec 32 := 0#32
  let c0_i32_297 : BitVec 32 := 0#32
  let c0_i32_298 : BitVec 32 := 0#32
  ![v583.toNat, 0, 0, 0]
def k0_cond3 (i : grid0.Coords) : BitVec 1 :=
  let c4_i32 : BitVec 32 := 4#32
  let arg1 : BitVec 32 := BitVec.ofNat 32 (i 1).val
  let c1_i32 : BitVec 32 := 1#32
  let v10 : BitVec 32 := Scalar.addi arg1 c1_i32
  let v11 : BitVec 32 := Scalar.muli c4_i32 v10
  let c0_i32_240 : BitVec 32 := 0#32
  let v557 : BitVec 1 := Scalar.cmpi .sgt v11 c0_i32_240
  let v558 : BitVec 32 := Scalar.extui v557
  let c0_i32_241 : BitVec 32 := 0#32
  let v559 : BitVec 1 := Scalar.cmpi .ne v558 c0_i32_241
  v559

def k0_off24 (i : grid0.Coords) : Fin 5 → Nat :=
  let arg0 : BitVec 32 := BitVec.ofNat 32 (i 0).val
  let c4_i32_258 : BitVec 32 := 4#32
  let arg1 : BitVec 32 := BitVec.ofNat 32 (i 1).val
  let c1_i32_250 : BitVec 32 := 1#32
  let v570 : BitVec 32 := Scalar.addi arg1 c1_i32_250
  let v571 : BitVec 32 := Scalar.muli arg1 v570
  let c0_i32_252 : BitVec 32 := 0#32
  let v573 : BitVec 1 := Scalar.cmpi .sgt v571 c0_i32_252
  let v574 : BitVec 32 := Scalar.extui v573
  let c0_i32_253 : BitVec 32 := 0#32
  let v575 : BitVec 1 := Scalar.cmpi .slt v571 c0_i32_253
  let v576 : BitVec 32 := Scalar.extui v575
  let v577 : BitVec 32 := Scalar.subi v574 v576
  let c2_i32_251 : BitVec 32 := 2#32
  let c0_i32_254 : BitVec 32 := 0#32
  let v578 : BitVec 1 := Scalar.cmpi .sgt c2_i32_251 c0_i32_254
  let v579 : BitVec 32 := Scalar.extui v578
  let c0_i32_255 : BitVec 32 := 0#32
  let v580 : BitVec 1 := Scalar.cmpi .slt c2_i32_251 c0_i32_255
  let v581 : BitVec 32 := Scalar.extui v580
  let v582 : BitVec 32 := Scalar.subi v579 v581
  let v583 : BitVec 1 := Scalar.cmpi .ne v577 v582
  let v584 : BitVec 32 := Scalar.remsi v571 c2_i32_251
  let c0_i32_256 : BitVec 32 := 0#32
  let v585 : BitVec 1 := Scalar.cmpi .ne v584 c0_i32_256
  let v586 : BitVec 1 := Scalar.andi v583 v585
  let v572 : BitVec 32 := Scalar.divsi v571 c2_i32_251
  let c1_i32_257 : BitVec 32 := 1#32
  let v587 : BitVec 32 := Scalar.subi v572 c1_i32_257
  let v588 : BitVec 32 := Scalar.select v586 v587 v572
  let v589 : BitVec 32 := Scalar.muli c4_i32_258 v588
  let c0_i32_259 : BitVec 32 := 0#32
  let v590 : BitVec 32 := Scalar.addi v589 c0_i32_259
  let c0_i32_262 : BitVec 32 := 0#32
  let c0_i32_263 : BitVec 32 := 0#32
  let c0_i32_264 : BitVec 32 := 0#32
  ![arg0.toNat, v590.toNat, 0, 0, 0]
def k0_cond4 (i : grid0.Coords) : BitVec 1 :=
  let c4_i32 : BitVec 32 := 4#32
  let arg1 : BitVec 32 := BitVec.ofNat 32 (i 1).val
  let c1_i32 : BitVec 32 := 1#32
  let v10 : BitVec 32 := Scalar.addi arg1 c1_i32
  let v11 : BitVec 32 := Scalar.muli c4_i32 v10
  let c1_i32_242 : BitVec 32 := 1#32
  let v560 : BitVec 1 := Scalar.cmpi .sgt v11 c1_i32_242
  let v561 : BitVec 32 := Scalar.extui v560
  let c0_i32_243 : BitVec 32 := 0#32
  let v562 : BitVec 1 := Scalar.cmpi .ne v561 c0_i32_243
  v562

def k0_off25 (i : grid0.Coords) : Fin 5 → Nat :=
  let arg0 : BitVec 32 := BitVec.ofNat 32 (i 0).val
  let c4_i32_258 : BitVec 32 := 4#32
  let arg1 : BitVec 32 := BitVec.ofNat 32 (i 1).val
  let c1_i32_250 : BitVec 32 := 1#32
  let v570 : BitVec 32 := Scalar.addi arg1 c1_i32_250
  let v571 : BitVec 32 := Scalar.muli arg1 v570
  let c0_i32_252 : BitVec 32 := 0#32
  let v573 : BitVec 1 := Scalar.cmpi .sgt v571 c0_i32_252
  let v574 : BitVec 32 := Scalar.extui v573
  let c0_i32_253 : BitVec 32 := 0#32
  let v575 : BitVec 1 := Scalar.cmpi .slt v571 c0_i32_253
  let v576 : BitVec 32 := Scalar.extui v575
  let v577 : BitVec 32 := Scalar.subi v574 v576
  let c2_i32_251 : BitVec 32 := 2#32
  let c0_i32_254 : BitVec 32 := 0#32
  let v578 : BitVec 1 := Scalar.cmpi .sgt c2_i32_251 c0_i32_254
  let v579 : BitVec 32 := Scalar.extui v578
  let c0_i32_255 : BitVec 32 := 0#32
  let v580 : BitVec 1 := Scalar.cmpi .slt c2_i32_251 c0_i32_255
  let v581 : BitVec 32 := Scalar.extui v580
  let v582 : BitVec 32 := Scalar.subi v579 v581
  let v583 : BitVec 1 := Scalar.cmpi .ne v577 v582
  let v584 : BitVec 32 := Scalar.remsi v571 c2_i32_251
  let c0_i32_256 : BitVec 32 := 0#32
  let v585 : BitVec 1 := Scalar.cmpi .ne v584 c0_i32_256
  let v586 : BitVec 1 := Scalar.andi v583 v585
  let v572 : BitVec 32 := Scalar.divsi v571 c2_i32_251
  let c1_i32_257 : BitVec 32 := 1#32
  let v587 : BitVec 32 := Scalar.subi v572 c1_i32_257
  let v588 : BitVec 32 := Scalar.select v586 v587 v572
  let v589 : BitVec 32 := Scalar.muli c4_i32_258 v588
  let c0_i32_259 : BitVec 32 := 0#32
  let v590 : BitVec 32 := Scalar.addi v589 c0_i32_259
  let c0_i32_262 : BitVec 32 := 0#32
  let c0_i32_263 : BitVec 32 := 0#32
  let c0_i32_264 : BitVec 32 := 0#32
  ![arg0.toNat, v590.toNat, 0, 0, 0]
def k0_cond5 (i : grid0.Coords) : BitVec 1 :=
  let c4_i32 : BitVec 32 := 4#32
  let arg1 : BitVec 32 := BitVec.ofNat 32 (i 1).val
  let c1_i32 : BitVec 32 := 1#32
  let v10 : BitVec 32 := Scalar.addi arg1 c1_i32
  let v11 : BitVec 32 := Scalar.muli c4_i32 v10
  let c2_i32_244 : BitVec 32 := 2#32
  let v563 : BitVec 1 := Scalar.cmpi .sgt v11 c2_i32_244
  let v564 : BitVec 32 := Scalar.extui v563
  let c0_i32_245 : BitVec 32 := 0#32
  let v565 : BitVec 1 := Scalar.cmpi .ne v564 c0_i32_245
  v565

def k0_off26 (i : grid0.Coords) : Fin 5 → Nat :=
  let arg0 : BitVec 32 := BitVec.ofNat 32 (i 0).val
  let c4_i32_258 : BitVec 32 := 4#32
  let arg1 : BitVec 32 := BitVec.ofNat 32 (i 1).val
  let c1_i32_250 : BitVec 32 := 1#32
  let v570 : BitVec 32 := Scalar.addi arg1 c1_i32_250
  let v571 : BitVec 32 := Scalar.muli arg1 v570
  let c0_i32_252 : BitVec 32 := 0#32
  let v573 : BitVec 1 := Scalar.cmpi .sgt v571 c0_i32_252
  let v574 : BitVec 32 := Scalar.extui v573
  let c0_i32_253 : BitVec 32 := 0#32
  let v575 : BitVec 1 := Scalar.cmpi .slt v571 c0_i32_253
  let v576 : BitVec 32 := Scalar.extui v575
  let v577 : BitVec 32 := Scalar.subi v574 v576
  let c2_i32_251 : BitVec 32 := 2#32
  let c0_i32_254 : BitVec 32 := 0#32
  let v578 : BitVec 1 := Scalar.cmpi .sgt c2_i32_251 c0_i32_254
  let v579 : BitVec 32 := Scalar.extui v578
  let c0_i32_255 : BitVec 32 := 0#32
  let v580 : BitVec 1 := Scalar.cmpi .slt c2_i32_251 c0_i32_255
  let v581 : BitVec 32 := Scalar.extui v580
  let v582 : BitVec 32 := Scalar.subi v579 v581
  let v583 : BitVec 1 := Scalar.cmpi .ne v577 v582
  let v584 : BitVec 32 := Scalar.remsi v571 c2_i32_251
  let c0_i32_256 : BitVec 32 := 0#32
  let v585 : BitVec 1 := Scalar.cmpi .ne v584 c0_i32_256
  let v586 : BitVec 1 := Scalar.andi v583 v585
  let v572 : BitVec 32 := Scalar.divsi v571 c2_i32_251
  let c1_i32_257 : BitVec 32 := 1#32
  let v587 : BitVec 32 := Scalar.subi v572 c1_i32_257
  let v588 : BitVec 32 := Scalar.select v586 v587 v572
  let v589 : BitVec 32 := Scalar.muli c4_i32_258 v588
  let c0_i32_259 : BitVec 32 := 0#32
  let v590 : BitVec 32 := Scalar.addi v589 c0_i32_259
  let c0_i32_262 : BitVec 32 := 0#32
  let c0_i32_263 : BitVec 32 := 0#32
  let c0_i32_264 : BitVec 32 := 0#32
  ![arg0.toNat, v590.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x2x8x1024x32x256 : Shape := ⟨6, ![8, 2, 8, 1024, 32, 256]⟩
abbrev S8x8x32x2x1024x256 : Shape := ⟨6, ![8, 8, 32, 2, 1024, 256]⟩
abbrev S8x1x4x2x1024x256 : Shape := ⟨6, ![8, 1, 4, 2, 1024, 256]⟩
abbrev S8x4x2x1024x256 : Shape := ⟨5, ![8, 4, 2, 1024, 256]⟩
abbrev S8x1x8x2x1024x256 : Shape := ⟨6, ![8, 1, 8, 2, 1024, 256]⟩
abbrev S8x8x2x1024x256 : Shape := ⟨5, ![8, 8, 2, 1024, 256]⟩
abbrev S8x1x12x2x1024x256 : Shape := ⟨6, ![8, 1, 12, 2, 1024, 256]⟩
abbrev S8x12x2x1024x256 : Shape := ⟨5, ![8, 12, 2, 1024, 256]⟩
abbrev S8x1x16x2x1024x256 : Shape := ⟨6, ![8, 1, 16, 2, 1024, 256]⟩
abbrev S8x16x2x1024x256 : Shape := ⟨5, ![8, 16, 2, 1024, 256]⟩
abbrev S8x1x20x2x1024x256 : Shape := ⟨6, ![8, 1, 20, 2, 1024, 256]⟩
abbrev S8x20x2x1024x256 : Shape := ⟨5, ![8, 20, 2, 1024, 256]⟩
abbrev S8x1x24x2x1024x256 : Shape := ⟨6, ![8, 1, 24, 2, 1024, 256]⟩
abbrev S8x24x2x1024x256 : Shape := ⟨5, ![8, 24, 2, 1024, 256]⟩
abbrev S8x1x28x2x1024x256 : Shape := ⟨6, ![8, 1, 28, 2, 1024, 256]⟩
abbrev S8x28x2x1024x256 : Shape := ⟨5, ![8, 28, 2, 1024, 256]⟩
abbrev S8x1x32x2x1024x256 : Shape := ⟨6, ![8, 1, 32, 2, 1024, 256]⟩
abbrev S8x32x2x1024x256 : Shape := ⟨5, ![8, 32, 2, 1024, 256]⟩
abbrev S8x144x2x1024x256 : Shape := ⟨5, ![8, 144, 2, 1024, 256]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16x64, .f32⟩
  | 4 => ⟨S16x8192x64, .f32⟩
  | 5 => ⟨S8192x16x64, .f32⟩
  | 6 => ⟨S16x8192x64, .f32⟩
  | 7 => ⟨S16x8192x8192, .f32⟩
  | 8 => ⟨S8192, .i32⟩
  | 9 => ⟨S8192, .i32⟩
  | 10 => ⟨S1x8192, .i32⟩
  | 11 => ⟨S8192x1, .i32⟩
  | 12 => ⟨S8192x8192, .i32⟩
  | 13 => ⟨S8192x8192, .i32⟩
  | 14 => ⟨S8192x8192, .i1⟩
  | 15 => ⟨S16x8192x8192, .f32⟩
  | 16 => ⟨S16x8192x8192, .f32⟩
  | 17 => ⟨S_, .f32⟩
  | 18 => ⟨S16x8192x8192, .f32⟩
  | 19 => ⟨S16x8192x8192, .f32⟩
  | 20 => ⟨S16x8192x8192, .f32⟩
  | 21 => ⟨S16x8192x8192, .f32⟩
  | 22 => ⟨S16x8192x8192, .i1⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .f32⟩
  | 31 => ⟨S16x8192x8192, .f32⟩
  | 32 => ⟨S_, .f32⟩
  | 33 => ⟨S_, .f32⟩
  | 34 => ⟨S16x8192x8192, .i1⟩
  | 35 => ⟨S16x8192x8192, .f32⟩
  | 36 => ⟨S16x8192x8192, .f32⟩
  | 37 => ⟨S_, .f32⟩
  | 38 => ⟨S_, .f32⟩
  | 39 => ⟨S16x8192x8192, .f32⟩
  | 40 => ⟨S16x8192x8192, .f32⟩
  | 41 => ⟨S16x8192x8192, .f32⟩
  | 42 => ⟨S_, .f32⟩
  | 43 => ⟨S16x8192x8192, .f32⟩
  | 44 => ⟨S16x8192x8192, .f32⟩
  | 45 => ⟨S16x8192x8192, .f32⟩
  | 46 => ⟨S16x8192x8192, .f32⟩
  | 47 => ⟨S16x8192x8192, .i1⟩
  | 48 => ⟨S16x8192x8192, .f32⟩
  | 49 => ⟨S16x8192x8192, .f32⟩
  | 50 => ⟨S16x8192x8192, .f32⟩
  | 51 => ⟨S16x8192x8192, .f32⟩
  | 52 => ⟨S16x8192x8192, .f32⟩
  | 53 => ⟨S16x8192x8192, .f32⟩
  | 54 => ⟨S16x8192x8192, .f32⟩
  | 55 => ⟨S16x8192x8192, .f32⟩
  | 56 => ⟨S16x8192x8192, .f32⟩
  | 57 => ⟨S16x8192x8192, .f32⟩
  | 58 => ⟨S16x8192x8192, .f32⟩
  | 59 => ⟨S_, .f32⟩
  | 60 => ⟨S_, .f32⟩
  | 61 => ⟨S16x8192x8192, .i1⟩
  | 62 => ⟨S16x8192x8192, .f32⟩
  | 63 => ⟨S16x8192x8192, .f32⟩
  | 64 => ⟨S16x8192x8192, .bf16⟩
  | 65 => ⟨S8x2x8x1024x32x256, .bf16⟩
  | 66 => ⟨S8x8x32x2x1024x256, .bf16⟩
  | 67 => ⟨S8x1x4x2x1024x256, .bf16⟩
  | 68 => ⟨S8x4x2x1024x256, .bf16⟩
  | 69 => ⟨S8x1x8x2x1024x256, .bf16⟩
  | 70 => ⟨S8x8x2x1024x256, .bf16⟩
  | 71 => ⟨S8x1x12x2x1024x256, .bf16⟩
  | 72 => ⟨S8x12x2x1024x256, .bf16⟩
  | 73 => ⟨S8x1x16x2x1024x256, .bf16⟩
  | 74 => ⟨S8x16x2x1024x256, .bf16⟩
  | 75 => ⟨S8x1x20x2x1024x256, .bf16⟩
  | 76 => ⟨S8x20x2x1024x256, .bf16⟩
  | 77 => ⟨S8x1x24x2x1024x256, .bf16⟩
  | 78 => ⟨S8x24x2x1024x256, .bf16⟩
  | 79 => ⟨S8x1x28x2x1024x256, .bf16⟩
  | 80 => ⟨S8x28x2x1024x256, .bf16⟩
  | 81 => ⟨S8x1x32x2x1024x256, .bf16⟩
  | 82 => ⟨S8x32x2x1024x256, .bf16⟩
  | 83 => ⟨S8x144x2x1024x256, .bf16⟩
  | 84 => ⟨S8192x16x64, .f32⟩
  | 85 => ⟨S16x8192x64, .f32⟩
  | 86 => ⟨S8192x16x64, .f32⟩
  | 87 => ⟨S16x8192x64, .f32⟩
  | 88 => ⟨S16x8192x8192, .f32⟩
  | 89 => ⟨S8192, .i32⟩
  | 90 => ⟨S8192, .i32⟩
  | 91 => ⟨S1x8192, .i32⟩
  | 92 => ⟨S8192x1, .i32⟩
  | 93 => ⟨S8192x8192, .i32⟩
  | 94 => ⟨S8192x8192, .i32⟩
  | 95 => ⟨S8192x8192, .i1⟩
  | 96 => ⟨S16x8192x8192, .f32⟩
  | 97 => ⟨S16x8192x8192, .f32⟩
  | 98 => ⟨S_, .f32⟩
  | 99 => ⟨S16x8192x8192, .f32⟩
  | 100 => ⟨S16x8192x8192, .f32⟩
  | 101 => ⟨S16x8192x8192, .f32⟩
  | 102 => ⟨S16x8192x8192, .f32⟩
  | 103 => ⟨S16x8192x8192, .i1⟩
  | 104 => ⟨S16x8192x8192, .f32⟩
  | 105 => ⟨S16x8192x8192, .f32⟩
  | 106 => ⟨S16x8192x8192, .f32⟩
  | 107 => ⟨S16x8192x8192, .f32⟩
  | 108 => ⟨S16x8192x8192, .f32⟩
  | 109 => ⟨S16x8192x8192, .f32⟩
  | 110 => ⟨S16x8192x8192, .f32⟩
  | 111 => ⟨S16x8192x8192, .f32⟩
  | 112 => ⟨S16x8192x8192, .f32⟩
  | 113 => ⟨S_, .f32⟩
  | 114 => ⟨S_, .f32⟩
  | 115 => ⟨S16x8192x8192, .i1⟩
  | 116 => ⟨S16x8192x8192, .f32⟩
  | 117 => ⟨S16x8192x8192, .f32⟩
  | 118 => ⟨S_, .f32⟩
  | 119 => ⟨S_, .f32⟩
  | 120 => ⟨S16x8192x8192, .f32⟩
  | 121 => ⟨S16x8192x8192, .f32⟩
  | 122 => ⟨S16x8192x8192, .f32⟩
  | 123 => ⟨S_, .f32⟩
  | 124 => ⟨S16x8192x8192, .f32⟩
  | 125 => ⟨S16x8192x8192, .f32⟩
  | 126 => ⟨S16x8192x8192, .f32⟩
  | 127 => ⟨S16x8192x8192, .f32⟩
  | _ => ⟨S8192x1024, .f32⟩

abbrev hbmTy0_1 (i : Nat) : BufTy := match i % 128 with
  | 0 => ⟨S16x8192x8192, .i1⟩
  | 1 => ⟨S16x8192x8192, .f32⟩
  | 2 => ⟨S16x8192x8192, .f32⟩
  | 3 => ⟨S16x8192x8192, .f32⟩
  | 4 => ⟨S16x8192x8192, .f32⟩
  | 5 => ⟨S16x8192x8192, .f32⟩
  | 6 => ⟨S16x8192x8192, .f32⟩
  | 7 => ⟨S16x8192x8192, .f32⟩
  | 8 => ⟨S16x8192x8192, .f32⟩
  | 9 => ⟨S16x8192x8192, .f32⟩
  | 10 => ⟨S16x8192x8192, .f32⟩
  | 11 => ⟨S16x8192x8192, .f32⟩
  | 12 => ⟨S_, .f32⟩
  | 13 => ⟨S_, .f32⟩
  | 14 => ⟨S16x8192x8192, .i1⟩
  | 15 => ⟨S16x8192x8192, .f32⟩
  | 16 => ⟨S16x8192x8192, .f32⟩
  | 17 => ⟨S8192x16x64, .f32⟩
  | 18 => ⟨S16x8192x64, .f32⟩
  | 19 => ⟨S16x8192x64, .f32⟩
  | 20 => ⟨S8192x16x64, .f32⟩
  | 21 => ⟨S8192x1024, .f32⟩
  | 22 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_call2_cst : Ref sig .tc := ⟨.hbm, 37, rfl⟩
abbrev main_call2_v0 : Ref sig .tc := ⟨.hbm, 38, rfl⟩
abbrev main_v15 : Ref sig .tc := ⟨.hbm, 39, rfl⟩
abbrev main_v16 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call5_v0 : Ref sig .tc := ⟨.hbm, 97, rfl⟩
abbrev main_call5_call0_cst : Ref sig .tc := ⟨.hbm, 98, rfl⟩
abbrev main_call5_call0_v0 : Ref sig .tc := ⟨.hbm, 99, rfl⟩
abbrev main_call5_call0_v1 : Ref sig .tc := ⟨.hbm, 100, rfl⟩
abbrev main_call5_call0_v2 : Ref sig .tc := ⟨.hbm, 101, rfl⟩
abbrev main_call5_call0_v3 : Ref sig .tc := ⟨.hbm, 102, rfl⟩
abbrev main_call5_call0_v4 : Ref sig .tc := ⟨.hbm, 103, rfl⟩
abbrev main_call5_call0_v5 : Ref sig .tc := ⟨.hbm, 104, rfl⟩
abbrev main_call5_call0_v6 : Ref sig .tc := ⟨.hbm, 105, rfl⟩
abbrev main_call5_call0_v7 : Ref sig .tc := ⟨.hbm, 106, rfl⟩
abbrev main_call5_call0_v8 : Ref sig .tc := ⟨.hbm, 107, rfl⟩
abbrev main_call5_call0_v9 : Ref sig .tc := ⟨.hbm, 108, rfl⟩
abbrev main_call5_call0_v10 : Ref sig .tc := ⟨.hbm, 109, rfl⟩
abbrev main_call5_call0_v11 : Ref sig .tc := ⟨.hbm, 110, rfl⟩
abbrev main_call5_v1 : Ref sig .tc := ⟨.hbm, 111, rfl⟩
abbrev main_v54 : Ref sig .tc := ⟨.hbm, 112, rfl⟩
abbrev main_cst_1 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_v55 : Ref sig .tc := ⟨.hbm, 117, rfl⟩
abbrev main_call7_cst : Ref sig .tc := ⟨.hbm, 118, rfl⟩
abbrev main_call7_v0 : Ref sig .tc := ⟨.hbm, 119, rfl⟩
abbrev main_v56 : Ref sig .tc := ⟨.hbm, 120, rfl⟩
abbrev main_v57 : Ref sig .tc := ⟨.hbm, 121, rfl⟩
abbrev main_call8_v0 : Ref sig .tc := ⟨.hbm, 122, rfl⟩
abbrev main_call8_call0_cst : Ref sig .tc := ⟨.hbm, 123, rfl⟩
abbrev main_call8_call0_v0 : Ref sig .tc := ⟨.hbm, 124, rfl⟩
abbrev main_call8_call0_v1 : Ref sig .tc := ⟨.hbm, 125, rfl⟩
abbrev main_call8_call0_v2 : Ref sig .tc := ⟨.hbm, 126, rfl⟩
abbrev main_call8_call0_v3 : Ref sig .tc := ⟨.hbm, 127, rfl⟩
abbrev main_call8_call0_v4 : Ref sig .tc := ⟨.hbm, 128, rfl⟩
abbrev main_call8_call0_v5 : Ref sig .tc := ⟨.hbm, 129, rfl⟩
abbrev main_call8_call0_v6 : Ref sig .tc := ⟨.hbm, 130, rfl⟩
abbrev main_call8_call0_v7 : Ref sig .tc := ⟨.hbm, 131, rfl⟩
abbrev main_call8_call0_v8 : Ref sig .tc := ⟨.hbm, 132, rfl⟩
abbrev main_call8_call0_v9 : Ref sig .tc := ⟨.hbm, 133, rfl⟩
abbrev main_call8_call0_v10 : Ref sig .tc := ⟨.hbm, 134, rfl⟩
abbrev main_call8_call0_v11 : Ref sig .tc := ⟨.hbm, 135, rfl⟩
abbrev main_call8_v1 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_2 : Ref sig .tc := ⟨.hbm, 140, rfl⟩
abbrev main_call9_v0 : Ref sig .tc := ⟨.hbm, 141, rfl⟩
abbrev main_call9_v1 : Ref sig .tc := ⟨.hbm, 142, rfl⟩
abbrev main_call9_v2 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩

abbrev nD : Nat := 1
abbrev τ : Topo := Topo.v7x

variable {F : FTy → Type} [FloatOps F]
-- ==== QkNorm.lean ====
abbrev S8192x3072 : Shape := ⟨2, ![8192, 3072]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192x1024 : Shape := ⟨2, ![8192, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S2x64, .f32⟩
  | .hbm, ⟨5, _⟩ => ⟨S128, .f32⟩
  | .hbm, ⟨6, _⟩ => ⟨S1x128, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkNormRefIdeal.lean ====
abbrev S8192x3072 : Shape := ⟨2, ![8192, 3072]⟩
abbrev S64 : Shape := ⟨1, ![64]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S8192x16x64, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x64, .f32⟩
  | .hbm, ⟨19, _⟩ => ⟨S8192x16x64, .f32⟩
  | .hbm, ⟨20, _⟩ => ⟨S1x1x64, .f32⟩
  | .hbm, ⟨21, _⟩ => ⟨S8192x16x64, .f32⟩
  | .hbm, ⟨22, _⟩ => ⟨S8192x16x64, .f32⟩
  | .hbm, ⟨23, _⟩ => ⟨S_, .f32⟩
  | .hbm, ⟨24, _⟩ => ⟨S8192x16x64, .f32⟩
  | .hbm, ⟨25, _⟩ => ⟨S8192x16x64, .f32⟩
  | .hbm, ⟨26, _⟩ => ⟨S8192x16x64, .f32⟩
  | .hbm, ⟨27, _⟩ => ⟨S8192x16x64, .f32⟩
  | .hbm, ⟨28, _⟩ => ⟨S_, .f32⟩
  | .hbm, ⟨29, _⟩ => ⟨S8192x16, .f32⟩
  | .hbm, ⟨30, _⟩ => ⟨S8192x16x1, .f32⟩
  | .hbm, ⟨31, _⟩ => ⟨S_, .f32⟩
  | .hbm, ⟨32, _⟩ => ⟨S8192x16x1, .f32⟩
  | .hbm, ⟨33, _⟩ => ⟨S8192x16x1, .f32⟩
  | .hbm, ⟨34, _⟩ => ⟨S_, .f32⟩
  | .hbm, ⟨35, _⟩ => ⟨S8192x16x1, .f32⟩
  | .hbm, ⟨36, _⟩ => ⟨S8192x16x1, .f32⟩
  | .hbm, ⟨37, _⟩ => ⟨S8192x16x1, .f32⟩
  | .hbm, ⟨38, _⟩ => ⟨S8192x16x64, .f32⟩
  | .hbm, ⟨39, _⟩ => ⟨S8192x16x64, .f32⟩
  | .hbm, ⟨40, _⟩ => ⟨S1x1x64, .f32⟩
  | .hbm, ⟨41, _⟩ => ⟨S8192x16x64, .f32⟩
  | .hbm, ⟨42, _⟩ => ⟨S8192x16x64, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.Reals.lean ====
/- Arithmetic on the extended reals that every value proof of this directory uses: the float literals of the programs as
   real numbers, multiplication by a real constant as an additive map, and sums of real numbers. -/
module

public import Idealize.ShloMosaic.PureOps.Ideal.Laws
public import Idealize.ShloMosaic.Lib.IdealHost
public import Idealize.ShloMosaic.Lib.Pointwise
public import Idealize.ShloMosaic.Lib.ReduceAll

@[expose] public section

noncomputable section

namespace Cert.Reals

open Idealize.ShloMosaic
open scoped BigOperators

theorem neg_half : Ideal.ofBits .f32 0xBF000000#32 = ((-(1 / 2) : ℝ) : EReal) := by
  simp [Ideal.ofBits, Ideal.ieee, -EReal.coe_mul]; norm_num

/-- The small constant under the root, as the rational its float word is. -/
theorem eps : Ideal.ofBits .f32 0x358637BD#32 = ((8796093 / 8796093022208 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem one : Ideal.ofBits .f32 0x3F800000#32 = ((1 : ℝ) : EReal) := by
  simp
theorem width : Ideal.ofBits .f32 0x44800000#32 = ((1024 : ℝ) : EReal) := by
  simp [Ideal.ofBits, Ideal.ieee, -EReal.coe_mul]; norm_num
theorem inv_width : Ideal.ofBits .f32 0x3A800000#32 = ((1 / 1024 : ℝ) : EReal) := by
  simp [Ideal.ofBits, Ideal.ieee, -EReal.coe_mul]; norm_num

theorem inv_twice_width : Ideal.ofBits .f32 0x3A000000#32 = ((1 / 2048 : ℝ) : EReal) := by
  simp [Ideal.ofBits, Ideal.ieee, -EReal.coe_mul]; norm_num

theorem head_width : Ideal.ofBits .f32 0x42800000#32 = ((64 : ℝ) : EReal) := by
  simp [Ideal.ofBits, Ideal.ieee, -EReal.coe_mul]; norm_num
theorem inv_head_width : Ideal.ofBits .f32 0x3C800000#32 = ((1 / 64 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num

/-- A nonnegative real factor distributes over any sum of two extended reals. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A nonnegative real factor distributes over any finite sum of extended reals. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- Every element of the array is a real number. -/
def Finite {s : Shape} {φ : FTy} (x : FVec Ideal s φ) : Prop := ∃ X : s.Idx → ℝ, x = fun i => ((X i : ℝ) : EReal)

theorem infinity : Ideal.ofBits .f32 0x7F800000#32 = ⊤ := by
  simp [Ideal.ofBits, Ideal.ieee]

/-- What a precondition's `jnp.all(jnp.abs(x) < jnp.inf)` says: every element is a real number. -/
theorem finite_of_all {s : Shape} {axes : List (Fin s.rank)} (x : FVec Ideal s .f32)
    (hb : (⟨0, ![]⟩ : Shape).BroadcastsInDim s ![]) (h : s.ReducesTo axes ⟨0, ![]⟩) (hu : 0 < (⟨0, ![]⟩ : Shape).numel)
    (init : IVec ⟨0, ![]⟩ 1) (j : (⟨0, ![]⟩ : Shape).Idx)
    (e : Host.reduce IntOp.andi (cmpf .olt (Host.absf x) (broadcastInDim s ![] hb (constant (F := Ideal) ⟨0, ![]⟩ .f32 0x7F800000#32))) init h hu j = 1#1) :
    Finite x := by
  haveI : Subsingleton (⟨0, ![]⟩ : Shape).Idx := ⟨fun a b => funext fun k => k.elim0⟩
  have key : ∀ i, ∃ r : ℝ, x i = (r : EReal) := fun i => by
    have hi := Host.reduce_andi_all _ init h hu j e i
    pointwise [infinity] at hi
    have hlt : max (x i : EReal) (-(x i : EReal)) < ⊤ := by
      by_contra hc
      have hz : decide ((FloatOps.absf (x i) : EReal) < ⊤) = false := decide_eq_false hc
      rw [hz] at hi
      exact absurd hi (by decide)
    generalize hy : (x i : EReal) = y at hlt
    induction y using EReal.rec with
    | bot => simp at hlt
    | top => simp at hlt
    | coe r => exact ⟨r, rfl⟩
  exact ⟨fun i => (key i).choose, funext fun i => (key i).choose_spec⟩

theorem and_one {a b : BitVec 1} (h : IntOp.andi a b = 1#1) : a = 1#1 ∧ b = 1#1 := by
  revert h; revert a b; decide

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Reals

end
-- ==== Proof.LossHead.lean ====
/- The loss head: what the kernel leaves in its two outputs, what the reference computes, and that they are equal. -/
module

public import proofs.«01_k».proof.Defs
public import proofs.«01_k».proof.Proof.Gen.LossHeadIdeal
public import proofs.«01_k».proof.Proof.Gen.LossHeadIdeal.Frame
public import proofs.«01_k».proof.Proof.Gen.LossHeadRefIdeal.Read
public import Idealize.ShloMosaic.Lib.Claim
public import Idealize.ShloMosaic.Lib.Pointwise
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators
namespace Cert.LossHeadIdeal.Value

open Cert.LossHeadIdeal Cert.LossHeadIdeal.Gen

variable (m : (ℓ : Loc nD τ sig) → Buf (Elt Ideal) ℓ)

theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

theorem zero_fill (j : S1x1.Idx) : k0_pay3 (F := Ideal) j = 0 := by pointwise [k0_pay3]

/-- The squared errors of one block of rows, added to what the cell held. -/
theorem square_sum (y z : Vec Ideal S512x1024 .f32) (acc : Vec Ideal S1x1 .f32) (j : S1x1.Idx) :
    k0_pay4 y z acc j = acc j + ∑ r : Fin 512, ∑ k : Fin 1024, (y (ix2 r k) - z (ix2 r k)) * (y (ix2 r k) - z (ix2 r k)) := by
  pointwise [k0_pay4, k0_pay1]

/-- The sum of the squared errors over all rows and columns. -/
def squares (y z : FVec Ideal S8192x1024 .f32) : EReal :=
  ∑ r : Fin 8192, ∑ k : Fin 1024, (y (ix2 r k) - z (ix2 r k)) * (y (ix2 r k) - z (ix2 r k))

/-- The gradient of the loss with respect to `y`: the error over the width. -/
def grad (y z : FVec Ideal S8192x1024 .f32) : FVec Ideal S8192x1024 .f32 := fun i => (y i - z i) * ((1 / 1024 : ℝ) : EReal)

/-- The one cell the kernel accumulates holds the squared errors of every row. -/
theorem final_squares (c : Dev nD) : (dats m 0 c).arrAt 2 (cfgs 0).N
    = fun _ => squares (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; rw [square_sum, zero_fill])
    (fun t h j => by rw [outsAt0_B m c t h]; frame_out; rw [square_sum])
    (le_of_eq N_0) t0_15 rfl j, zero_add]
  unfold squares
  refine Fin.sum_mul_add_congr fun s k hl => ?_
  blk_point [iblk, V, idx s]

/-- The gradient's array: every grid point writes its own block of rows. -/
theorem final_grad (c : Dev nD) : (dats m 0 c).arrAt 3 (cfgs 0).N
    = grad (m ((c : Thread nD τ).loc main_arg0)) (m ((c : Thread nD τ).loc main_arg1)) := by
  refine (dats m 0 c).arrAt_eq_of_covers 3 _ (by decide +kernel) fun t hf y => ?_
  blk_simp; rw [after0_3]
  by_cases h : t.val % 16 = 0
  · rw [outsAt0_A m c t h]; dsimp only; frame_out
    pointwise [k0_pay2, k0_pay1, grad, Cert.Reals.inv_width]
    blk_point [iblk, V, idx t]
  · rw [outsAt0_B m c t h]; dsimp only; frame_out
    pointwise [k0_pay2, k0_pay1, grad, Cert.Reals.inv_width]
    blk_point [iblk, V, idx t]

/-- What the host does with the accumulated cell: it scales it. -/
def scaled (v : FVec Ideal S1x1 .f32) : FVec Ideal S_ .f32 :=
  mulf (constant S_ .f32 0x3A000000#32) (shapeCast S_ v shapeCasts_S1x1_S_)

/-- The loss is the accumulated cell, scaled by the host after the region. -/
theorem loss_after (c : Dev nD) : Pipeline.afterTail₀ cfgs (dats m) 0 (V0 m) [hostOps1] c main_v2
    = scaled ((dats m 0 c).arrAt 2 (cfgs 0).N) := by
  show StableHlo.after hostOps1 _ _ = _
  after_results
  unfold scaled
  exact congrArg (fun v : FVec Ideal S1x1 .f32 => mulf (constant S_ .f32 0x3A000000#32) (shapeCast S_ v shapeCasts_S1x1_S_))
    (Pipeline.withArrays_arr (cfgs 0).spec (by decide) c _ _ 2)

/-- Half the sum of the rows' mean squares is the sum of all squares over twice the width. -/
theorem loss_eq (f : Fin 8192 → EReal) :
    ((1 / 2 : ℝ) : EReal) * ∑ r, Ideal.div (f r) ((1024 : ℝ) : EReal) = ((1 / 2048 : ℝ) : EReal) * ∑ r, f r := by
  rw [Cert.Reals.coe_mul_sum (by norm_num), Cert.Reals.coe_mul_sum (by norm_num)]
  refine Finset.sum_congr rfl fun r _ => ?_
  rw [Ideal.div_coe (by norm_num), mul_comm (f r), ← mul_assoc, ← EReal.coe_mul]
  norm_num

/-- The chain rule's factors multiply to one over the width. -/
theorem grad_eq (x : EReal) :
    Ideal.div ((1 / 2 : ℝ) : EReal) ((1024 : ℝ) : EReal) * (((2 : ℝ) : EReal) * x) = x * ((1 / 1024 : ℝ) : EReal) := by
  rw [Ideal.div_coe (by norm_num), ← mul_assoc, ← EReal.coe_mul, ← EReal.coe_mul, mul_comm x]
  norm_num

theorem algebraic : Cert.algebraic_LossHeadIdeal_LossHeadRefIdeal := by
  pair_intro
  · run_from Cert.LossHeadIdeal.Gen.run_main m g
  · run_from Cert.LossHeadRefIdeal.Value.run m' g'
    · rw [loss_after, final_squares]
      funext i
      pointwise [Cert.Reals.half, Cert.Reals.width, Cert.Reals.inv_twice_width, squares, scaled]
      exact loss_eq _
    · rw [final_grad]
      funext i
      pointwise [Cert.Reals.half, Cert.Reals.width, Cert.Reals.two, grad]
      exact grad_eq _

end Cert.LossHeadIdeal.Value

end
-- ==== Proof.FfnDact.lean ====
/- The gate's gradient in the feed-forward layer: what the kernel leaves, what the reference computes, and that they are equal. -/
module

public import proofs.«01_k».proof.Defs
public import proofs.«01_k».proof.Proof.Gen.FfnDactIdeal
public import proofs.«01_k».proof.Proof.Gen.FfnDactIdeal.Frame
public import proofs.«01_k».proof.Proof.Gen.FfnDactRefIdeal.Read
public import Idealize.ShloMosaic.Lib.Claim
public import Idealize.ShloMosaic.Lib.Pointwise
public import Idealize.ShloMosaic.Lib.Pipeline.ValueKit
public import proofs.«01_k».proof.Proof.Gen.Pre_finite_dact
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.FfnDactIdeal.Value

open Cert.FfnDactIdeal Cert.FfnDactIdeal.Gen

variable (m : (ℓ : Loc nD τ sig) → Buf (Elt Ideal) ℓ)

theorem idx : ∀ t : Fin cfg0.N, win0_0.index t = ![t.val, 0]
    ∧ win0_1.index t = ![0, 0, 0]
    ∧ win0_2.index t = ![t.val, 0]
    ∧ win0_3.index t = ![t.val, 0]
    ∧ win0_4.index t = ![t.val, 0] :=
  (by decide +kernel : ∀ t : Fin grid0.N, _)

/-- The half of the cotangent that reaches one element of the gate's product. -/
theorem cotangent (dx : Vec Ideal S256x1024 .f32) (w : Vec Ideal S1x2816x1024 .bf16) (i : S256x2816.Idx) :
    k0_pay4 (k0_pay2 (k0_pay1 (F := Ideal)) dx w) i
      = ((1 / 2 : ℝ) : EReal) * ∑ k : Fin 1024, dx (ix2 (i 0) k) * w (ix3 0 (i 1) k) := by
  pointwise [k0_pay4, k0_pay2, k0_pay1, Cert.Reals.half]

/-- The gate's and the up projection's products side by side, as the forward pass computes them. -/
def product (h : FVec Ideal S8192x1024 .f32) (w : FVec Ideal S1024x5632 .f32) (r : Fin 8192) (f : Fin 5632) : EReal :=
  ∑ k : Fin 1024, h (ix2 r k) * w (ix2 k f)

/-- Half the cotangent times the transposed down projection. -/
def half_cotangent (w : FVec Ideal S4x2816x1024 .f32) (dx : FVec Ideal S8192x1024 .f32) (r : Fin 8192) (f : Fin 2816) : EReal :=
  ((1 / 2 : ℝ) : EReal) * ∑ k : Fin 1024, dx (ix2 r k) * w (ix3 0 f k)

/-- What the kernel writes: the gate's gradient in the left half of the columns, the up projection's in the right half. -/
def gradient (h : FVec Ideal S8192x1024 .f32) (wg : FVec Ideal S1024x5632 .f32) (w : FVec Ideal S4x2816x1024 .f32)
    (dx : FVec Ideal S8192x1024 .f32) : FVec Ideal S8192x5632 .bf16 := fun i =>
  if hi : (i 1 : ℕ) < 2816 then
    half_cotangent w dx (i 0) ⟨i 1, hi⟩ * product h wg (i 0) ⟨2816 + i 1, by omega⟩
      * (Ideal.logistic (product h wg (i 0) (i 1)) * (1 + product h wg (i 0) (i 1) * (1 - Ideal.logistic (product h wg (i 0) (i 1)))))
  else
    half_cotangent w dx (i 0) ⟨i 1 - 2816, by have := (i 1).isLt; have e : S8192x5632.size 1 = 5632 := rfl; omega⟩
      * (product h wg (i 0) ⟨i 1 - 2816, by have := (i 1).isLt; have e : S8192x5632.size 1 = 5632 := rfl; omega⟩
        * Ideal.logistic (product h wg (i 0) ⟨i 1 - 2816, by have := (i 1).isLt; have e : S8192x5632.size 1 = 5632 := rfl; omega⟩))

/-- One element of the gate's block: the product's element at the block's row. -/
theorem gate_block (c : Dev nD) (t : Fin cfg0.N) (x : S256x2816.Idx) (r : Fin 8192) (f : Fin 5632)
    (hr : (r : ℕ) = t.val * 256 + x 0) (hf : (f : ℕ) = x 1) :
    iblk m c 2 t x = product (m ((c : Thread nD τ).loc main_arg0)) (m ((c : Thread nD τ).loc main_arg1)) r f := by
  unfold product
  blk_simp [iblk, idx t]; entry_read; pointwise; blk_point [iblk, V, idx t]

/-- One element of the up projection's block: the same product, in its right half of the columns. -/
theorem up_block (c : Dev nD) (t : Fin cfg0.N) (x : S256x2816.Idx) (r : Fin 8192) (f : Fin 5632)
    (hr : (r : ℕ) = t.val * 256 + x 0) (hf : (f : ℕ) = 2816 + x 1) :
    iblk m c 3 t x = product (m ((c : Thread nD τ).loc main_arg0)) (m ((c : Thread nD τ).loc main_arg1)) r f := by
  unfold product
  blk_simp [iblk, idx t]; entry_read; pointwise; blk_point [iblk, V, idx t]

/-- One element of the half cotangent, from the blocks the kernel reads. -/
theorem cotangent_block (c : Dev nD) (t : Fin cfg0.N) (x : S256x2816.Idx) (r : Fin 8192) (f : Fin 2816)
    (hr : (r : ℕ) = t.val * 256 + x 0) (hf : (f : ℕ) = x 1) :
    k0_pay4 (k0_pay2 (k0_pay1 (F := Ideal)) (iblk m c 0 t) (iblk m c 1 t)) x
      = half_cotangent (m ((c : Thread nD τ).loc main_arg2)) (m ((c : Thread nD τ).loc main_arg3)) r f := by
  rw [cotangent]
  unfold half_cotangent
  blk_point [iblk, V, idx t]

/-- The left half of a block's columns. -/
theorem left_block (c : Dev nD) (t : Fin cfg0.N) (x : S256x2816.Idx) (j : S8192x5632.Idx)
    (h0 : (j 0 : ℕ) = t.val * 256 + x 0) (h1 : (j 1 : ℕ) = x 1) :
    k0_pay6 (k0_pay2 (k0_pay1 (F := Ideal)) (iblk m c 0 t) (iblk m c 1 t)) (iblk m c 2 t) (iblk m c 3 t) x
      = gradient (m ((c : Thread nD τ).loc main_arg0)) (m ((c : Thread nD τ).loc main_arg1))
          (m ((c : Thread nD τ).loc main_arg2)) (m ((c : Thread nD τ).loc main_arg3)) j := by
  have hx : (x 1 : ℕ) < 2816 := (x 1).isLt
  have hj : (j 1 : ℕ) < 2816 := by omega
  pointwise [k0_pay6, k0_pay5, k0_pay3]
  rw [gradient, dif_pos hj, cotangent_block m c t x (j 0) ⟨j 1, hj⟩ h0 h1, gate_block m c t x (j 0) (j 1) h0 h1,
    up_block m c t x (j 0) ⟨2816 + j 1, by omega⟩ h0 (by simp [h1])]

/-- The right half of a block's columns. -/
theorem right_block (c : Dev nD) (t : Fin cfg0.N) (x : S256x2816.Idx) (j : S8192x5632.Idx)
    (h0 : (j 0 : ℕ) = t.val * 256 + x 0) (h1 : (j 1 : ℕ) = 2816 + x 1) :
    k0_pay7 (k0_pay2 (k0_pay1 (F := Ideal)) (iblk m c 0 t) (iblk m c 1 t)) (iblk m c 2 t) x
      = gradient (m ((c : Thread nD τ).loc main_arg0)) (m ((c : Thread nD τ).loc main_arg1))
          (m ((c : Thread nD τ).loc main_arg2)) (m ((c : Thread nD τ).loc main_arg3)) j := by
  have hx : (x 1 : ℕ) < 2816 := (x 1).isLt
  pointwise [k0_pay7, k0_pay5, k0_pay3]
  rw [gradient, dif_neg (by omega), cotangent_block m c t x (j 0) ⟨j 1 - 2816, by omega⟩ h0 (by simp [h1]),
    gate_block m c t x (j 0) ⟨j 1 - 2816, by omega⟩ h0 (by simp [h1])]

theorem final (c : Dev nD) : (dats m 0 c).arrAt 4 (cfgs 0).N
    = gradient (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]; unfold Gen.outsAt0; frame_out
  canon_tiles x h
  · exact right_block m c t x _ (by blk_simp [idx t]; omega) (by blk_simp [idx t]; omega)
  · exact left_block m c t x _ (by blk_simp [idx t]; omega) (by blk_simp [idx t]; omega)

/-- The precondition says that every argument is an array of real numbers. -/
theorem finite_args (h : Cert.Pre_FfnDactIdeal_finite_dact m) (c : Dev nD) :
    Cert.Reals.Finite (s := S8192x1024) (φ := .f32) (m ((c : Thread nD τ).loc main_arg0))
    ∧ Cert.Reals.Finite (s := S1024x5632) (φ := .f32) (m ((c : Thread nD τ).loc main_arg1))
    ∧ Cert.Reals.Finite (s := S4x2816x1024) (φ := .f32) (m ((c : Thread nD τ).loc main_arg2))
    ∧ Cert.Reals.Finite (s := S8192x1024) (φ := .f32) (m ((c : Thread nD τ).loc main_arg3)) := by
  obtain ⟨h, h3⟩ := Cert.Reals.and_one (congrFun (h c) (fun a => a.elim0))
  obtain ⟨h, h2⟩ := Cert.Reals.and_one h
  obtain ⟨h0, h1⟩ := Cert.Reals.and_one h
  exact ⟨Cert.Reals.finite_of_all _ _ _ _ _ _ h0, Cert.Reals.finite_of_all _ _ _ _ _ _ h1,
    Cert.Reals.finite_of_all _ _ _ _ _ _ h2, Cert.Reals.finite_of_all _ _ _ _ _ _ h3⟩

/-- One over one plus the exponential of the negative: the logistic function as the reference spells it. -/
def sigmoid (x : EReal) : EReal := Ideal.div 1 (1 + Ideal.exp (-x))

/-- The derivative of `x ↦ x · logistic x`, as the chain rule leaves it and as the kernel writes it. -/
theorem gate_eq (d u g : ℝ) :
    (d : EReal) * (u : EReal) * sigmoid (g : EReal)
      + (g : EReal) * ((d : EReal) * (u : EReal)) * (sigmoid (g : EReal) * (1 - sigmoid (g : EReal)))
    = (d : EReal) * (u : EReal) * (Ideal.logistic (g : EReal) * (1 + (g : EReal) * (1 - Ideal.logistic (g : EReal)))) := by
  rw [show sigmoid (g : EReal) = Ideal.logistic (g : EReal) from rfl, Ideal.logistic_coe, ← EReal.coe_one]
  simp only [← EReal.coe_mul, ← EReal.coe_add, ← EReal.coe_sub]
  congr 1
  ring

theorem product_real {h : FVec Ideal S8192x1024 .f32} {w : FVec Ideal S1024x5632 .f32} (hh : Cert.Reals.Finite h) (hw : Cert.Reals.Finite w)
    (r : Fin 8192) (f : Fin 5632) : ∃ x : ℝ, product h w r f = (x : EReal) := by
  obtain ⟨H, rfl⟩ := hh
  obtain ⟨W, rfl⟩ := hw
  exact ⟨_, by unfold product; simp only [← EReal.coe_mul]; exact Cert.Reals.coe_sum _ _⟩

theorem half_cotangent_real {w : FVec Ideal S4x2816x1024 .f32} {dx : FVec Ideal S8192x1024 .f32} (hw : Cert.Reals.Finite w)
    (hx : Cert.Reals.Finite dx) (r : Fin 8192) (f : Fin 2816) : ∃ x : ℝ, half_cotangent w dx r f = (x : EReal) := by
  obtain ⟨W, rfl⟩ := hw
  obtain ⟨X, rfl⟩ := hx
  exact ⟨_, by unfold half_cotangent; simp only [← EReal.coe_mul]; rw [Cert.Reals.coe_sum, ← EReal.coe_mul]⟩

/-- The reference scales the cotangent before the product, the kernel after it. -/
theorem scaled_cotangent (w : FVec Ideal S4x2816x1024 .f32) (dx : FVec Ideal S8192x1024 .f32) (r : Fin 8192) (f : Fin 2816) :
    ∑ k : Fin 1024, ((1 / 2 : ℝ) : EReal) * dx (ix2 r k) * w (ix3 0 f k) = half_cotangent w dx r f := by
  unfold half_cotangent
  rw [Cert.Reals.coe_mul_sum (by norm_num)]
  exact Finset.sum_congr rfl fun k _ => mul_assoc _ _ _

/-- The cotangent as the reference carries it: scaled before the product. -/
def scaled (w : FVec Ideal S4x2816x1024 .f32) (dx : FVec Ideal S8192x1024 .f32) (r : Fin 8192) (f : Fin 2816) : EReal :=
  ∑ k : Fin 1024, ((1 / 2 : ℝ) : EReal) * dx (ix2 r k) * w (ix3 0 f k)

/-- What the reference computes, by the chain rule. -/
def chain (h : FVec Ideal S8192x1024 .f32) (wg : FVec Ideal S1024x5632 .f32) (w : FVec Ideal S4x2816x1024 .f32)
    (dx : FVec Ideal S8192x1024 .f32) : FVec Ideal S8192x5632 .bf16 := fun i =>
  if hi : (i 1 : ℕ) < 2816 then
    scaled w dx (i 0) ⟨i 1, hi⟩ * product h wg (i 0) ⟨2816 + i 1, by omega⟩ * sigmoid (product h wg (i 0) (i 1))
      + product h wg (i 0) (i 1) * (scaled w dx (i 0) ⟨i 1, hi⟩ * product h wg (i 0) ⟨2816 + i 1, by omega⟩)
        * (sigmoid (product h wg (i 0) (i 1)) * (1 - sigmoid (product h wg (i 0) (i 1))))
  else
    product h wg (i 0) ⟨i 1 - 2816, by have := (i 1).isLt; have e : S8192x5632.size 1 = 5632 := rfl; omega⟩
      * sigmoid (product h wg (i 0) ⟨i 1 - 2816, by have := (i 1).isLt; have e : S8192x5632.size 1 = 5632 := rfl; omega⟩)
      * scaled w dx (i 0) ⟨i 1 - 2816, by have := (i 1).isLt; have e : S8192x5632.size 1 = 5632 := rfl; omega⟩

theorem chain_eq {h : FVec Ideal S8192x1024 .f32} {wg : FVec Ideal S1024x5632 .f32} {w : FVec Ideal S4x2816x1024 .f32}
    {dx : FVec Ideal S8192x1024 .f32} (hh : Cert.Reals.Finite h) (hg : Cert.Reals.Finite wg) (hw : Cert.Reals.Finite w)
    (hx : Cert.Reals.Finite dx) (i : S8192x5632.Idx) : chain h wg w dx i = gradient h wg w dx i := by
  have hs : scaled w dx = half_cotangent w dx := funext fun r => funext fun f => scaled_cotangent w dx r f
  unfold chain gradient
  rw [hs]
  split
  · obtain ⟨d, hd⟩ := half_cotangent_real hw hx (i 0) ⟨i 1, by assumption⟩
    obtain ⟨u, hu⟩ := product_real hh hg (i 0) ⟨2816 + i 1, by omega⟩
    obtain ⟨g, hg⟩ := product_real hh hg (i 0) (i 1)
    rw [hd, hu, hg]
    exact gate_eq d u g
  · rw [mul_comm]; rfl

theorem algebraic : Cert.algebraic_FfnDactIdeal_FfnDactRefIdeal_pre_finite_dact := by
  pair_intro
  · run_from Cert.FfnDactIdeal.Gen.run_main m g
  · run_from Cert.FfnDactRefIdeal.Value.run m' g'
    · rw [final]
      obtain ⟨e0, e1, e2, e3⟩ := hagree c
      unfold FfnDactRefIdeal.Value.res_main_v19
      rw [e0, e1, e2, e3]
      obtain ⟨h0, h1, h2, h3⟩ := finite_args m hpre c
      funext i
      refine Eq.trans ?_ (chain_eq h0 h1 h2 h3 i)
      pointwise [chain, scaled, product, sigmoid, Cert.Reals.half]

end Cert.FfnDactIdeal.Value

end
-- ==== Proof.Norm.lean ====
/- The gradient of a root-mean-square normalisation: the chain rule's form and the form the kernels compute are equal on real rows. -/
module

public import Idealize.ShloMosaic.Lib.Pointwise
public import proofs.«01_k».proof.Proof.Reals

@[expose] public section

noncomputable section

open Idealize.ShloMosaic
open scoped BigOperators

namespace Cert.Norm

variable {n : ℕ}

/-- The mean of the squares of a row, plus the small constant. -/
def mean_square (w e : EReal) (x : Fin n → EReal) : EReal := Ideal.div (∑ k, x k * x k) w + e

/-- One over the root of a row's mean square. -/
def inv (w e : EReal) (x : Fin n → EReal) : EReal := Ideal.rsqrt (mean_square w e x)

/-- The gradient as the kernels compute it: `a` less the normalised row times the mean of `a` times that row, all over the root. -/
def spread (w e : EReal) (x a : Fin n → EReal) (k : Fin n) : EReal :=
  inv w e x * (a k - x k * inv w e x * Ideal.div (∑ j, a j * (x j * inv w e x)) w)

/-- The factor the chain rule gives each of the two sides of the square. -/
def slope (w e h : EReal) (x a : Fin n → EReal) : EReal :=
  Ideal.div ((∑ j, x j * a j) * (h * Ideal.div (inv w e x) (mean_square w e x))) w

theorem mean_square_coe {w e : ℝ} (hw : 0 < w) (X : Fin n → ℝ) :
    mean_square (w : EReal) (e : EReal) (fun k => (X k : EReal)) = ((((∑ k, X k * X k) / w + e : ℝ)) : EReal) := by
  unfold mean_square
  simp only [← EReal.coe_mul]
  rw [Cert.Reals.coe_sum, Ideal.div_coe hw.ne', ← EReal.coe_mul, ← EReal.coe_add]
  congr 1
  ring

theorem mean_square_pos {w e : ℝ} (hw : 0 < w) (he : 0 < e) (X : Fin n → ℝ) : 0 < (∑ k, X k * X k) / w + e :=
  add_pos_of_nonneg_of_pos (div_nonneg (Finset.sum_nonneg fun k _ => mul_self_nonneg _) hw.le) he

theorem inv_coe {w e : ℝ} (hw : 0 < w) (he : 0 < e) (X : Fin n → ℝ) :
    inv (w : EReal) (e : EReal) (fun k => (X k : EReal)) = (((Real.sqrt ((∑ k, X k * X k) / w + e))⁻¹ : ℝ) : EReal) := by
  have h := mean_square_pos hw he X
  unfold inv
  rw [mean_square_coe hw, Ideal.rsqrt_coe, if_neg (not_lt.mpr h.le), if_neg h.ne']

theorem spread_coe {w e : ℝ} (hw : 0 < w) (he : 0 < e) (X A : Fin n → ℝ) (k : Fin n) :
    spread (w : EReal) (e : EReal) (fun k => (X k : EReal)) (fun k => (A k : EReal)) k
      = (((Real.sqrt ((∑ k, X k * X k) / w + e))⁻¹
          * (A k - X k * (Real.sqrt ((∑ k, X k * X k) / w + e))⁻¹
            * ((∑ j, A j * (X j * (Real.sqrt ((∑ k, X k * X k) / w + e))⁻¹)) * (1 / w))) : ℝ) : EReal) := by
  unfold spread
  rw [inv_coe hw he]
  simp only [← EReal.coe_mul]
  rw [Cert.Reals.coe_sum, Ideal.div_coe hw.ne']
  simp only [← EReal.coe_mul, ← EReal.coe_sub]

theorem slope_coe {w e : ℝ} (hw : 0 < w) (he : 0 < e) (h : ℝ) (X A : Fin n → ℝ) :
    slope (w : EReal) (e : EReal) (h : EReal) (fun k => (X k : EReal)) (fun k => (A k : EReal))
      = (((∑ j, X j * A j) * (h * ((Real.sqrt ((∑ k, X k * X k) / w + e))⁻¹ * (1 / ((∑ k, X k * X k) / w + e)))) * (1 / w) : ℝ) : EReal) := by
  unfold slope
  rw [inv_coe hw he, mean_square_coe hw, Ideal.div_coe (mean_square_pos hw he X).ne', Ideal.div_coe hw.ne']
  simp only [← EReal.coe_mul]
  rw [Cert.Reals.coe_sum]
  simp only [← EReal.coe_mul]

/-- The chain rule's form is the kernels' form. -/
theorem chain_eq {w e : ℝ} (hw : 0 < w) (he : 0 < e) (X A : Fin n → ℝ) (k : Fin n) :
    (A k : EReal) * inv (w : EReal) (e : EReal) (fun k => (X k : EReal))
      + (X k : EReal) * slope (w : EReal) (e : EReal) ((-(1 / 2) : ℝ) : EReal) (fun k => (X k : EReal)) (fun k => (A k : EReal))
      + slope (w : EReal) (e : EReal) ((-(1 / 2) : ℝ) : EReal) (fun k => (X k : EReal)) (fun k => (A k : EReal)) * (X k : EReal)
      = spread (w : EReal) (e : EReal) (fun k => (X k : EReal)) (fun k => (A k : EReal)) k := by
  rw [spread_coe hw he, slope_coe hw he, inv_coe hw he]
  simp only [← EReal.coe_mul, ← EReal.coe_add]
  congr 1
  have h := mean_square_pos hw he X
  set s := (∑ k, X k * X k) / w + e with hs
  have hr : (Real.sqrt s)⁻¹ * (Real.sqrt s)⁻¹ = 1 / s := by
    rw [← mul_inv, Real.mul_self_sqrt h.le, one_div]
  have hsum : ∑ j, A j * (X j * (Real.sqrt s)⁻¹) = (∑ j, X j * A j) * (Real.sqrt s)⁻¹ := by
    rw [Finset.sum_mul]
    exact Finset.sum_congr rfl fun j _ => by ring
  rw [hsum, ← hr]
  ring

/-- The whole row's gradient, with the cotangent that goes past the normalisation. -/
theorem residual_chain_eq {w e : ℝ} (hw : 0 < w) (he : 0 < e) {x a : Fin n → EReal} (hx : ∃ X : Fin n → ℝ, x = fun k => (X k : EReal))
    (ha : ∃ A : Fin n → ℝ, a = fun k => (A k : EReal)) (d : EReal) (k : Fin n) :
    d + a k * inv (w : EReal) (e : EReal) x + x k * slope (w : EReal) (e : EReal) ((-(1 / 2) : ℝ) : EReal) x a
      + slope (w : EReal) (e : EReal) ((-(1 / 2) : ℝ) : EReal) x a * x k
      = d + spread (w : EReal) (e : EReal) x a k := by
  obtain ⟨X, rfl⟩ := hx
  obtain ⟨A, rfl⟩ := ha
  rw [← chain_eq hw he X A k, add_assoc, add_assoc, add_assoc]

end Cert.Norm

end
-- ==== Proof.FfnDx.lean ====
/- The gradient through the feed-forward up projection and its normalisation, fused with the residual: kernel, reference, and that they
   are equal. -/
module

public import proofs.«01_k».proof.Defs
public import proofs.«01_k».proof.Proof.Gen.FfnDxIdeal
public import proofs.«01_k».proof.Proof.Gen.FfnDxIdeal.Frame
public import proofs.«01_k».proof.Proof.Gen.FfnDxRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.Gen.Pre_finite_ffndx

@[expose] public section

set_option maxRecDepth 16384

noncomputable section

open Idealize.ShloMosaic Idealize.ShloMosaic.TcCoe Idealize.SL.Sem
open Idealize.ShloMosaic.Pipeline (Dat)
open scoped BigOperators

namespace Cert.FfnDxIdeal.Value

open Cert.FfnDxIdeal Cert.FfnDxIdeal.Gen

variable (m : (ℓ : Loc nD τ sig) → Buf (Elt Ideal) ℓ)

theorem idx : ∀ t : Fin cfg0.N, win0_0.index t = ![t.val, 0]
    ∧ win0_1.index t = ![0, 0, 0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- One row's cotangent of the normalised row: the cotangent of the product times the transposed weights. -/
def pulled (w : FVec Ideal S4x1024x5632 .f32) (d : FVec Ideal S8192x5632 .f32) (r : Fin 8192) (c : Fin 1024) : EReal :=
  ∑ k : Fin 5632, d (ix2 r k) * w (ix3 0 c k)

/-- The width of a row and the small constant under the root, as the programs spell them. -/
abbrev W : EReal := Ideal.ofBits .f32 0x44800000#32
abbrev E : EReal := Ideal.ofBits .f32 0x358637BD#32

/-- The gradient of the layer's input: the residual's cotangent plus the normalisation's gradient. -/
def grad_input (x : FVec Ideal S8192x1024 .f32) (g : FVec Ideal S4x1024 .f32) (w : FVec Ideal S4x1024x5632 .f32)
    (dx : FVec Ideal S8192x1024 .f32) (d : FVec Ideal S8192x5632 .f32) : FVec Ideal S8192x1024 .f32 := fun i =>
  dx i + Cert.Norm.spread W E (fun k : Fin 1024 => x (ix2 (i 0) k)) (fun k => pulled w d (i 0) k * g (ix2 0 k)) (i 1)

/-- The gradient of the normalisation's gain: the pulled cotangent times the normalised row, summed over the rows. -/
def grad_gain (x : FVec Ideal S8192x1024 .f32) (w : FVec Ideal S4x1024x5632 .f32) (d : FVec Ideal S8192x5632 .f32) :
    FVec Ideal S1x1024 .f32 := fun i =>
  ∑ r : Fin 8192, pulled w d r (i 1) * (x (ix2 r (i 1)) * Cert.Norm.inv W E (fun k : Fin 1024 => x (ix2 r k)))

/-- The product of a block of rows with the transposed weights, by its four strips of columns. -/
abbrev strips (d : Vec Ideal S256x5632 .bf16) (w : Vec Ideal S1x4x1024x1408 .bf16) : FVec Ideal S256x1024 .f32 :=
  k0_pay6
    (View.ld d (Rect.unit ![0, 0] ![256, 1408] inb_S256x5632_S256x1408_0_0))
    (View.ld w (Rect.unit ![0, 0, 0, 0] ![1, 1, 1024, 1408] inb_S1x4x1024x1408_S1x1x1024x1408_0_0_0_0))
    (View.ld d (Rect.unit ![0, 1408] ![256, 1408] inb_S256x5632_S256x1408_0_1408))
    (View.ld w (Rect.unit ![0, 1, 0, 0] ![1, 1, 1024, 1408] inb_S1x4x1024x1408_S1x1x1024x1408_0_1_0_0))
    (View.ld d (Rect.unit ![0, 2816] ![256, 1408] inb_S256x5632_S256x1408_0_2816))
    (View.ld w (Rect.unit ![0, 2, 0, 0] ![1, 1, 1024, 1408] inb_S1x4x1024x1408_S1x1x1024x1408_0_2_0_0))
    (View.ld d (Rect.unit ![0, 4224] ![256, 1408] inb_S256x5632_S256x1408_0_4224))
    (View.ld w (Rect.unit ![0, 3, 0, 0] ![1, 1, 1024, 1408] inb_S1x4x1024x1408_S1x1x1024x1408_0_3_0_0))

theorem strips_apply (d : Vec Ideal S256x5632 .bf16) (w : Vec Ideal S1x4x1024x1408 .bf16) (i : S256x1024.Idx) :
    strips d w i = ∑ j : Fin 4, ∑ k : Fin 1408, d (ix2 (i 0) ⟨j.val * 1408 + k.val, by omega⟩) * w (ix4 0 j (i 1) k) := by
  rw [Fin.sum_univ_four]
  pointwise [strips, k0_pay6]

theorem weight_block (c : Dev nD) (t : Fin cfg0.N) (j : Fin 4) (q : Fin 1024) (k : Fin 1408) (f : Fin 5632)
    (hf : (f : ℕ) = j * 1408 + k) :
    iblk m c 1 t (ix4 0 j q k) = m ((c : Thread nD τ).loc main_arg2) (ix3 0 q f) := by
  blk_simp [iblk, idx t]; entry_read; pointwise; blk_point [iblk, V, idx t]

theorem cotangent_block (c : Dev nD) (t : Fin cfg0.N) (a : Fin 256) (f : Fin 5632) (r : Fin 8192)
    (hr : (r : ℕ) = t.val * 256 + a) :
    iblk m c 0 t (ix2 a f) = m ((c : Thread nD τ).loc main_arg4) (ix2 r f) := by
  blk_simp [iblk, idx t]; entry_read; pointwise; blk_point [iblk, V, idx t]

/-- The strips' product at a row of the whole array. -/
theorem strips_block (c : Dev nD) (t : Fin cfg0.N) (i : S256x1024.Idx) (r : Fin 8192) (hr : (r : ℕ) = t.val * 256 + i 0) :
    strips (iblk m c 0 t) (iblk m c 1 t) i
      = pulled (m ((c : Thread nD τ).loc main_arg2)) (m ((c : Thread nD τ).loc main_arg4)) r (i 1) := by
  rw [strips_apply]
  unfold pulled
  refine Fin.sum_mul_add_congr fun s k hl => ?_
  exact congrArg₂ (· * · : EReal → EReal → EReal) (cotangent_block m c t (i 0) ⟨s.val * 1408 + k.val, hl⟩ r hr)
    (weight_block m c t s (i 1) k ⟨s.val * 1408 + k.val, hl⟩ rfl)

/-- What a block of rows contributes to the input's gradient. -/
theorem input_block (acc x dx : Vec Ideal S256x1024 .f32) (g : Vec Ideal S1x1024 .f32) (y : S256x1024.Idx) :
    k0_pay3 acc x (k0_pay7 x) g dx y
      = dx y + Cert.Norm.spread W E (fun k : Fin 1024 => x (ix2 (y 0) k)) (fun k => acc (ix2 (y 0) k) * g (ix2 0 k)) (y 1) := by
  unfold Cert.Norm.spread Cert.Norm.inv Cert.Norm.mean_square
  pointwise [k0_pay3, k0_pay2, k0_pay1, k0_pay7]

/-- What a block of rows adds to the gain's gradient. -/
theorem gain_block (acc x : Vec Ideal S256x1024 .f32) (g : Vec Ideal S1x1024 .f32) (j : S1x1024.Idx) :
    k0_pay5 acc x (k0_pay7 x) g j
      = g j + ∑ r : Fin 256, acc (ix2 r (j 1)) * (x (ix2 r (j 1)) * Cert.Norm.inv W E (fun k : Fin 1024 => x (ix2 r k))) := by
  unfold Cert.Norm.inv Cert.Norm.mean_square
  pointwise [k0_pay5, k0_pay2, k0_pay1, k0_pay7]

theorem zero_fill (j : S1x1024.Idx) : k0_pay4 (F := Ideal) j = 0 := by pointwise [k0_pay4]

/-- The row of the input a block's row is. -/
theorem input_row (c : Dev nD) (t : Fin cfg0.N) (a : Fin 256) (k : Fin 1024) (r : Fin 8192) (hr : (r : ℕ) = t.val * 256 + a) :
    iblk m c 2 t (ix2 a k) = m ((c : Thread nD τ).loc main_arg0) (ix2 r k) := by
  blk_point [iblk, V, idx t]

theorem gain_row (c : Dev nD) (t : Fin cfg0.N) (k : Fin 1024) :
    iblk m c 3 t (ix2 0 k) = m ((c : Thread nD τ).loc main_arg1) (ix2 0 k) := by
  blk_simp [iblk, idx t]; entry_read; pointwise; blk_point [iblk, V, idx t]

theorem input_point (c : Dev nD) (t : Fin cfg0.N) (y : S256x1024.Idx) (j : S8192x1024.Idx)
    (h0 : (j 0 : ℕ) = t.val * 256 + y 0) (h1 : (j 1 : ℕ) = y 1) :
    k0_pay3 (strips (iblk m c 0 t) (iblk m c 1 t)) (iblk m c 2 t) (k0_pay7 (iblk m c 2 t)) (iblk m c 3 t) (iblk m c 4 t) y
      = grad_input (m ((c : Thread nD τ).loc main_arg0)) (m ((c : Thread nD τ).loc main_arg1)) (m ((c : Thread nD τ).loc main_arg2))
        (m ((c : Thread nD τ).loc main_arg3)) (m ((c : Thread nD τ).loc main_arg4)) j := by
  rw [input_block, grad_input]
  have hx : (fun k : Fin 1024 => iblk m c 2 t (ix2 (y 0) k)) = fun k => m ((c : Thread nD τ).loc main_arg0) (ix2 (j 0) k) :=
    funext fun k => input_row m c t (y 0) k (j 0) h0
  have ha : (fun k : Fin 1024 => strips (iblk m c 0 t) (iblk m c 1 t) (ix2 (y 0) k) * iblk m c 3 t (ix2 0 k))
      = fun k => pulled (m ((c : Thread nD τ).loc main_arg2)) (m ((c : Thread nD τ).loc main_arg4)) (j 0) k * m ((c : Thread nD τ).loc main_arg1) (ix2 0 k) :=
    funext fun k => by rw [strips_block m c t (ix2 (y 0) k) (j 0) h0, gain_row]; rfl
  have hd : iblk m c 4 t y = m ((c : Thread nD τ).loc main_arg3) j := by blk_point [iblk, V, idx t]
  rw [hx, ha, hd, show y 1 = j 1 from Fin.ext h1.symm]

theorem final_input (c : Dev nD) : (dats m 0 c).arrAt 5 (cfgs 0).N
    = grad_input (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 32 = 0
  · rw [outsAt0_A m c t h]; dsimp only; frame_out
    exact input_point m c t y _ (by blk_simp [idx t]) (by blk_simp [idx t])
  · rw [outsAt0_B m c t h]; dsimp only; frame_out
    exact input_point m c t y _ (by blk_simp [idx t]) (by blk_simp [idx t])

/-- One row's part of the gain's gradient, from the pulled cotangent and the row of the input. -/
abbrev gain_term (p : EReal) (x : Fin 1024 → EReal) (j : Fin 1024) : EReal := p * (x j * Cert.Norm.inv W E x)

theorem gain_point (c : Dev nD) (t : Fin cfg0.N) (a : Fin 256) (j : Fin 1024) (r : Fin 8192) (j' : Fin 1024)
    (hr : (r : ℕ) = t.val * 256 + a) (hj : (j' : ℕ) = j) :
    gain_term (strips (iblk m c 0 t) (iblk m c 1 t) (ix2 a j)) (fun k => iblk m c 2 t (ix2 a k)) j
      = gain_term (pulled (m ((c : Thread nD τ).loc main_arg2)) (m ((c : Thread nD τ).loc main_arg4)) r j')
        (fun k => m ((c : Thread nD τ).loc main_arg0) (ix2 r k)) j' := by
  obtain rfl : j' = j := Fin.ext hj
  have hx : (fun k : Fin 1024 => iblk m c 2 t (ix2 a k)) = fun k => m ((c : Thread nD τ).loc main_arg0) (ix2 r k) :=
    funext fun k => input_row m c t a k r hr
  rw [hx, strips_block m c t (ix2 a j') r hr]
  rfl

theorem final_gain (c : Dev nD) : (dats m 0 c).arrAt 6 (cfgs 0).N
    = grad_gain (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0) _
    (fun t h j => by rw [outsAt0_A m c t h]; frame_out; rw [gain_block, zero_fill])
    (fun t h j => by rw [outsAt0_B m c t h]; frame_out; rw [gain_block])
    t ((flush0_6 t).mp hf) _, zero_add]
  unfold grad_gain
  refine Fin.sum_mul_add_congr fun s k hl => ?_
  have ht : t.val < 32 := lt_of_lt_of_eq t.isLt N_0
  have hy : ((win0_6.blk t).view.emb y 1 : ℕ) = y 1 := by blk_simp [idx t]
  exact gain_point m c _ k (y 1) _ _ (by simp; omega) hy

/-- The precondition says that the arguments it names are arrays of real numbers. -/
theorem finite_args (h : Cert.Pre_FfnDxIdeal_finite_ffndx m) (c : Dev nD) :
    Cert.Reals.Finite (s := S8192x1024) (φ := .f32) (m ((c : Thread nD τ).loc main_arg0))
    ∧ Cert.Reals.Finite (s := S4x1024) (φ := .f32) (m ((c : Thread nD τ).loc main_arg1))
    ∧ Cert.Reals.Finite (s := S4x1024x5632) (φ := .f32) (m ((c : Thread nD τ).loc main_arg2))
    ∧ Cert.Reals.Finite (s := S8192x5632) (φ := .f32) (m ((c : Thread nD τ).loc main_arg4)) := by
  obtain ⟨h, h3⟩ := Cert.Reals.and_one (congrFun (h c) (fun a => a.elim0))
  obtain ⟨h, h2⟩ := Cert.Reals.and_one h
  obtain ⟨h0, h1⟩ := Cert.Reals.and_one h
  exact ⟨Cert.Reals.finite_of_all _ _ _ _ _ _ h0, Cert.Reals.finite_of_all _ _ _ _ _ _ h1,
    Cert.Reals.finite_of_all _ _ _ _ _ _ h2, Cert.Reals.finite_of_all _ _ _ _ _ _ h3⟩

/-- The gradient of the input as the chain rule leaves it. -/
def chain (x : FVec Ideal S8192x1024 .f32) (g : FVec Ideal S4x1024 .f32) (w : FVec Ideal S4x1024x5632 .f32)
    (dx : FVec Ideal S8192x1024 .f32) (d : FVec Ideal S8192x5632 .f32) : FVec Ideal S8192x1024 .f32 := fun i =>
  dx i + pulled w d (i 0) (i 1) * g (ix2 0 (i 1)) * Cert.Norm.inv W E (fun k : Fin 1024 => x (ix2 (i 0) k))
    + x i * Cert.Norm.slope W E (Ideal.ofBits .f32 0xBF000000#32) (fun k : Fin 1024 => x (ix2 (i 0) k)) (fun k => pulled w d (i 0) k * g (ix2 0 k))
    + Cert.Norm.slope W E (Ideal.ofBits .f32 0xBF000000#32) (fun k : Fin 1024 => x (ix2 (i 0) k)) (fun k => pulled w d (i 0) k * g (ix2 0 k)) * x i

theorem chain_eq {x : FVec Ideal S8192x1024 .f32} {g : FVec Ideal S4x1024 .f32} {w : FVec Ideal S4x1024x5632 .f32}
    (dx : FVec Ideal S8192x1024 .f32) {d : FVec Ideal S8192x5632 .f32} (hx : Cert.Reals.Finite x) (hg : Cert.Reals.Finite g)
    (hw : Cert.Reals.Finite w) (hd : Cert.Reals.Finite d) (i : S8192x1024.Idx) : chain x g w dx d i = grad_input x g w dx d i := by
  obtain ⟨X, rfl⟩ := hx
  obtain ⟨G, rfl⟩ := hg
  obtain ⟨W', rfl⟩ := hw
  obtain ⟨D, rfl⟩ := hd
  unfold chain grad_input W E
  rw [Cert.Reals.width, Cert.Reals.eps, Cert.Reals.neg_half]
  have := Cert.Norm.residual_chain_eq (w := 1024) (e := 8796093 / 8796093022208) (by norm_num) (by norm_num)
    (x := fun k : Fin 1024 => ((X (ix2 (i 0) k) : ℝ) : EReal))
    (a := fun k : Fin 1024 => pulled (fun i => ((W' i : ℝ) : EReal)) (fun i => ((D i : ℝ) : EReal)) (i 0) k * ((G (ix2 0 k) : ℝ) : EReal))
    ⟨_, rfl⟩ ⟨_, funext fun k => by unfold pulled; simp only [← EReal.coe_mul]; rw [Cert.Reals.coe_sum, ← EReal.coe_mul]⟩ (dx i) (i 1)
  rw [← this]
  idx_vars i

theorem algebraic : Cert.algebraic_FfnDxIdeal_FfnDxRefIdeal_pre_finite_ffndx := by
  pair_intro
  · run_from Cert.FfnDxIdeal.Gen.run_main m g
  · run_from Cert.FfnDxRefIdeal.Value.run m' g'
    · obtain ⟨e0, e1, e2, e3, e4⟩ := hagree c
      obtain ⟨h0, h1, h2, h3⟩ := finite_args m hpre c
      unfold FfnDxRefIdeal.Value.res_main_v44
      rw [e0, e1, e2, e3, e4, final_input]
      funext i
      refine Eq.trans ?_ (chain_eq _ h0 h1 h2 h3 i)
      unfold chain Cert.Norm.slope Cert.Norm.inv Cert.Norm.mean_square pulled W E
      pointwise
      simp only [Fin.sum_univ_one, Finset.univ_unique, Finset.sum_singleton]
    · rw [final_gain]
      funext i
      unfold grad_gain Cert.Norm.inv Cert.Norm.mean_square pulled W E
      pointwise
      simp only [Fin.sum_univ_one, Finset.univ_unique, Finset.sum_singleton]
      refine Finset.sum_congr rfl fun r _ => ?_
      rw [mul_comm]
end Cert.FfnDxIdeal.Value

end
-- ==== Proof.PoolDx.lean ====
/- The gradient through the pooling mixer's input projection and its normalisation, fused with the residual: kernel, reference, and
   that they are equal. -/
module

public import proofs.«01_k».proof.Defs
public import proofs.«01_k».proof.Proof.Gen.PoolDxIdeal
public import proofs.«01_k».proof.Proof.Gen.PoolDxIdeal.Frame
public import proofs.«01_k».proof.Proof.Gen.PoolDxRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.Gen.Pre_finite_pooldx

@[expose] public section

set_option maxRecDepth 16384

noncomputable section

open Idealize.ShloMosaic Idealize.ShloMosaic.TcCoe Idealize.SL.Sem
open Idealize.ShloMosaic.Pipeline (Dat)
open scoped BigOperators

namespace Cert.PoolDxIdeal.Value

open Cert.PoolDxIdeal Cert.PoolDxIdeal.Gen

variable (m : (ℓ : Loc nD τ sig) → Buf (Elt Ideal) ℓ)

theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- One row's cotangent of the normalised row: the cotangent of the product times the transposed weights. -/
def pulled (w : FVec Ideal S2x1024x1024 .f32) (d : FVec Ideal S8192x1024 .f32) (r : Fin 8192) (c : Fin 1024) : EReal :=
  ∑ k : Fin 1024, d (ix2 r k) * w (ix3 0 c k)

/-- The width of a row and the small constant under the root, as the programs spell them. -/
abbrev W : EReal := Ideal.ofBits .f32 0x44800000#32
abbrev E : EReal := Ideal.ofBits .f32 0x358637BD#32

/-- The gradient of the layer's input: the residual's cotangent plus the normalisation's gradient. -/
def grad_input (x : FVec Ideal S8192x1024 .f32) (g : FVec Ideal S4x1024 .f32) (w : FVec Ideal S2x1024x1024 .f32)
    (dx : FVec Ideal S8192x1024 .f32) (d : FVec Ideal S8192x1024 .f32) : FVec Ideal S8192x1024 .f32 := fun i =>
  dx i + Cert.Norm.spread W E (fun k : Fin 1024 => x (ix2 (i 0) k)) (fun k => pulled w d (i 0) k * g (ix2 0 k)) (i 1)

/-- The gradient of the normalisation's gain: the pulled cotangent times the normalised row, summed over the rows. -/
def grad_gain (x : FVec Ideal S8192x1024 .f32) (w : FVec Ideal S2x1024x1024 .f32) (d : FVec Ideal S8192x1024 .f32) :
    FVec Ideal S1x1024 .f32 := fun i =>
  ∑ r : Fin 8192, pulled w d r (i 1) * (x (ix2 r (i 1)) * Cert.Norm.inv W E (fun k : Fin 1024 => x (ix2 r k)))

/-- The product of a block of rows with the transposed weights, as the kernel leaves it in its scratch buffer. -/
abbrev product (d : Vec Ideal S512x1024 .bf16) (w : Vec Ideal S1x1024x1024 .bf16) : FVec Ideal S512x1024 .f32 :=
  k0_pay2 (k0_pay1 (F := Ideal)) d w

theorem product_apply (d : Vec Ideal S512x1024 .bf16) (w : Vec Ideal S1x1024x1024 .bf16) (i : S512x1024.Idx) :
    product d w i = ∑ k : Fin 1024, d (ix2 (i 0) k) * w (ix3 0 (i 1) k) := by
  pointwise [product, k0_pay2, k0_pay1]

theorem weight_block (c : Dev nD) (t : Fin cfg0.N) (q : Fin 1024) (k : Fin 1024) :
    iblk m c 1 t (ix3 0 q k) = m ((c : Thread nD τ).loc main_arg2) (ix3 0 q k) := by
  blk_simp [iblk, idx t]; entry_read; pointwise; blk_point [iblk, V, idx t]

theorem cotangent_block (c : Dev nD) (t : Fin cfg0.N) (a : Fin 512) (f : Fin 1024) (r : Fin 8192)
    (hr : (r : ℕ) = t.val * 512 + a) :
    iblk m c 0 t (ix2 a f) = m ((c : Thread nD τ).loc main_arg4) (ix2 r f) := by
  blk_simp [iblk, idx t]; entry_read; pointwise; blk_point [iblk, V, idx t]

/-- The product of a block at a row of the whole array. -/
theorem product_block (c : Dev nD) (t : Fin cfg0.N) (i : S512x1024.Idx) (r : Fin 8192) (hr : (r : ℕ) = t.val * 512 + i 0) :
    product (iblk m c 0 t) (iblk m c 1 t) i
      = pulled (m ((c : Thread nD τ).loc main_arg2)) (m ((c : Thread nD τ).loc main_arg4)) r (i 1) := by
  rw [product_apply]
  unfold pulled
  exact Finset.sum_congr rfl fun k _ => congrArg₂ (· * · : EReal → EReal → EReal) (cotangent_block m c t (i 0) k r hr)
    (weight_block m c t (i 1) k)

/-- What a block of rows contributes to the input's gradient. -/
theorem input_block (acc x dx : Vec Ideal S512x1024 .f32) (g : Vec Ideal S1x1024 .f32) (y : S512x1024.Idx) :
    k0_pay5 acc x g dx y
      = dx y + Cert.Norm.spread W E (fun k : Fin 1024 => x (ix2 (y 0) k)) (fun k => acc (ix2 (y 0) k) * g (ix2 0 k)) (y 1) := by
  unfold Cert.Norm.spread Cert.Norm.inv Cert.Norm.mean_square
  pointwise [k0_pay5, k0_pay4, k0_pay3]

/-- What a block of rows adds to the gain's gradient. -/
theorem gain_block (acc x : Vec Ideal S512x1024 .f32) (g : Vec Ideal S1x1024 .f32) (j : S1x1024.Idx) :
    k0_pay7 acc x g j
      = g j + ∑ r : Fin 512, acc (ix2 r (j 1)) * (x (ix2 r (j 1)) * Cert.Norm.inv W E (fun k : Fin 1024 => x (ix2 r k))) := by
  unfold Cert.Norm.inv Cert.Norm.mean_square
  pointwise [k0_pay7, k0_pay4, k0_pay3]

theorem zero_fill (j : S1x1024.Idx) : k0_pay6 (F := Ideal) j = 0 := by pointwise [k0_pay6]

/-- The row of the input a block's row is. -/
theorem input_row (c : Dev nD) (t : Fin cfg0.N) (a : Fin 512) (k : Fin 1024) (r : Fin 8192) (hr : (r : ℕ) = t.val * 512 + a) :
    iblk m c 2 t (ix2 a k) = m ((c : Thread nD τ).loc main_arg0) (ix2 r k) := by
  blk_point [iblk, V, idx t]

theorem gain_row (c : Dev nD) (t : Fin cfg0.N) (k : Fin 1024) :
    iblk m c 3 t (ix2 0 k) = m ((c : Thread nD τ).loc main_arg1) (ix2 0 k) := by
  blk_simp [iblk, idx t]; entry_read; pointwise; blk_point [iblk, V, idx t]

theorem input_point (c : Dev nD) (t : Fin cfg0.N) (y : S512x1024.Idx) (j : S8192x1024.Idx)
    (h0 : (j 0 : ℕ) = t.val * 512 + y 0) (h1 : (j 1 : ℕ) = y 1) :
    k0_pay5 (product (iblk m c 0 t) (iblk m c 1 t)) (iblk m c 2 t) (iblk m c 3 t) (iblk m c 4 t) y
      = grad_input (m ((c : Thread nD τ).loc main_arg0)) (m ((c : Thread nD τ).loc main_arg1)) (m ((c : Thread nD τ).loc main_arg2))
        (m ((c : Thread nD τ).loc main_arg3)) (m ((c : Thread nD τ).loc main_arg4)) j := by
  rw [input_block, grad_input]
  have hx : (fun k : Fin 1024 => iblk m c 2 t (ix2 (y 0) k)) = fun k => m ((c : Thread nD τ).loc main_arg0) (ix2 (j 0) k) :=
    funext fun k => input_row m c t (y 0) k (j 0) h0
  have ha : (fun k : Fin 1024 => product (iblk m c 0 t) (iblk m c 1 t) (ix2 (y 0) k) * iblk m c 3 t (ix2 0 k))
      = fun k => pulled (m ((c : Thread nD τ).loc main_arg2)) (m ((c : Thread nD τ).loc main_arg4)) (j 0) k * m ((c : Thread nD τ).loc main_arg1) (ix2 0 k) :=
    funext fun k => by rw [product_block m c t (ix2 (y 0) k) (j 0) h0, gain_row]; rfl
  have hd : iblk m c 4 t y = m ((c : Thread nD τ).loc main_arg3) j := by blk_point [iblk, V, idx t]
  rw [hx, ha, hd, show y 1 = j 1 from Fin.ext h1.symm]

theorem final_input (c : Dev nD) : (dats m 0 c).arrAt 5 (cfgs 0).N
    = grad_input (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 16 = 0
  · rw [outsAt0_A m c t h]; dsimp only; frame_out
    exact input_point m c t y _ (by blk_simp [idx t]) (by blk_simp [idx t])
  · rw [outsAt0_B m c t h]; dsimp only; frame_out
    exact input_point m c t y _ (by blk_simp [idx t]) (by blk_simp [idx t])

/-- One row's part of the gain's gradient, from the pulled cotangent and the row of the input. -/
abbrev gain_term (p : EReal) (x : Fin 1024 → EReal) (j : Fin 1024) : EReal := p * (x j * Cert.Norm.inv W E x)

theorem gain_point (c : Dev nD) (t : Fin cfg0.N) (a : Fin 512) (j : Fin 1024) (r : Fin 8192) (j' : Fin 1024)
    (hr : (r : ℕ) = t.val * 512 + a) (hj : (j' : ℕ) = j) :
    gain_term (product (iblk m c 0 t) (iblk m c 1 t) (ix2 a j)) (fun k => iblk m c 2 t (ix2 a k)) j
      = gain_term (pulled (m ((c : Thread nD τ).loc main_arg2)) (m ((c : Thread nD τ).loc main_arg4)) r j')
        (fun k => m ((c : Thread nD τ).loc main_arg0) (ix2 r k)) j' := by
  obtain rfl : j' = j := Fin.ext hj
  have hx : (fun k : Fin 1024 => iblk m c 2 t (ix2 a k)) = fun k => m ((c : Thread nD τ).loc main_arg0) (ix2 r k) :=
    funext fun k => input_row m c t a k r hr
  rw [hx, product_block m c t (ix2 a j') r hr]
  rfl

theorem final_gain (c : Dev nD) : (dats m 0 c).arrAt 6 (cfgs 0).N
    = grad_gain (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6, Pipeline.eq_sum_fin_of_reset_step_apply_of_flush (fun n h => (outsAt0 m c n h).2) 16 (fun _ => 0) _
    (fun t h j => by rw [outsAt0_A m c t h]; frame_out; rw [gain_block, zero_fill])
    (fun t h j => by rw [outsAt0_B m c t h]; frame_out; rw [gain_block])
    t ((flush0_6 t).mp hf) _, zero_add]
  unfold grad_gain
  refine Fin.sum_mul_add_congr fun s k hl => ?_
  have ht : t.val < 16 := lt_of_lt_of_eq t.isLt N_0
  have hy : ((win0_6.blk t).view.emb y 1 : ℕ) = y 1 := by blk_simp [idx t]
  exact gain_point m c _ k (y 1) _ _ (by simp; omega) hy

/-- The precondition says that the arguments it names are arrays of real numbers. -/
theorem finite_args (h : Cert.Pre_PoolDxIdeal_finite_pooldx m) (c : Dev nD) :
    Cert.Reals.Finite (s := S8192x1024) (φ := .f32) (m ((c : Thread nD τ).loc main_arg0))
    ∧ Cert.Reals.Finite (s := S4x1024) (φ := .f32) (m ((c : Thread nD τ).loc main_arg1))
    ∧ Cert.Reals.Finite (s := S2x1024x1024) (φ := .f32) (m ((c : Thread nD τ).loc main_arg2))
    ∧ Cert.Reals.Finite (s := S8192x1024) (φ := .f32) (m ((c : Thread nD τ).loc main_arg4)) := by
  obtain ⟨h, h3⟩ := Cert.Reals.and_one (congrFun (h c) (fun a => a.elim0))
  obtain ⟨h, h2⟩ := Cert.Reals.and_one h
  obtain ⟨h0, h1⟩ := Cert.Reals.and_one h
  exact ⟨Cert.Reals.finite_of_all _ _ _ _ _ _ h0, Cert.Reals.finite_of_all _ _ _ _ _ _ h1,
    Cert.Reals.finite_of_all _ _ _ _ _ _ h2, Cert.Reals.finite_of_all _ _ _ _ _ _ h3⟩

/-- The gradient of the input as the chain rule leaves it. -/
def chain (x : FVec Ideal S8192x1024 .f32) (g : FVec Ideal S4x1024 .f32) (w : FVec Ideal S2x1024x1024 .f32)
    (dx : FVec Ideal S8192x1024 .f32) (d : FVec Ideal S8192x1024 .f32) : FVec Ideal S8192x1024 .f32 := fun i =>
  dx i + pulled w d (i 0) (i 1) * g (ix2 0 (i 1)) * Cert.Norm.inv W E (fun k : Fin 1024 => x (ix2 (i 0) k))
    + x i * Cert.Norm.slope W E (Ideal.ofBits .f32 0xBF000000#32) (fun k : Fin 1024 => x (ix2 (i 0) k)) (fun k => pulled w d (i 0) k * g (ix2 0 k))
    + Cert.Norm.slope W E (Ideal.ofBits .f32 0xBF000000#32) (fun k : Fin 1024 => x (ix2 (i 0) k)) (fun k => pulled w d (i 0) k * g (ix2 0 k)) * x i

theorem chain_eq {x : FVec Ideal S8192x1024 .f32} {g : FVec Ideal S4x1024 .f32} {w : FVec Ideal S2x1024x1024 .f32}
    (dx : FVec Ideal S8192x1024 .f32) {d : FVec Ideal S8192x1024 .f32} (hx : Cert.Reals.Finite x) (hg : Cert.Reals.Finite g)
    (hw : Cert.Reals.Finite w) (hd : Cert.Reals.Finite d) (i : S8192x1024.Idx) : chain x g w dx d i = grad_input x g w dx d i := by
  obtain ⟨X, rfl⟩ := hx
  obtain ⟨G, rfl⟩ := hg
  obtain ⟨W', rfl⟩ := hw
  obtain ⟨D, rfl⟩ := hd
  unfold chain grad_input W E
  rw [Cert.Reals.width, Cert.Reals.eps, Cert.Reals.neg_half]
  have := Cert.Norm.residual_chain_eq (w := 1024) (e := 8796093 / 8796093022208) (by norm_num) (by norm_num)
    (x := fun k : Fin 1024 => ((X (ix2 (i 0) k) : ℝ) : EReal))
    (a := fun k : Fin 1024 => pulled (fun i => ((W' i : ℝ) : EReal)) (fun i => ((D i : ℝ) : EReal)) (i 0) k * ((G (ix2 0 k) : ℝ) : EReal))
    ⟨_, rfl⟩ ⟨_, funext fun k => by unfold pulled; simp only [← EReal.coe_mul]; rw [Cert.Reals.coe_sum, ← EReal.coe_mul]⟩ (dx i) (i 1)
  rw [← this]
  idx_vars i

theorem algebraic : Cert.algebraic_PoolDxIdeal_PoolDxRefIdeal_pre_finite_pooldx := by
  pair_intro
  · run_from Cert.PoolDxIdeal.Gen.run_main m g
  · run_from Cert.PoolDxRefIdeal.Value.run m' g'
    · obtain ⟨e0, e1, e2, e3, e4⟩ := hagree c
      obtain ⟨h0, h1, h2, h3⟩ := finite_args m hpre c
      unfold PoolDxRefIdeal.Value.res_main_v44
      rw [e0, e1, e2, e3, e4, final_input]
      funext i
      refine Eq.trans ?_ (chain_eq _ h0 h1 h2 h3 i)
      unfold chain Cert.Norm.slope Cert.Norm.inv Cert.Norm.mean_square pulled W E
      pointwise
      simp only [Fin.sum_univ_one, Finset.univ_unique, Finset.sum_singleton]
    · rw [final_gain]
      funext i
      unfold grad_gain Cert.Norm.inv Cert.Norm.mean_square pulled W E
      pointwise
      simp only [Fin.sum_univ_one, Finset.univ_unique, Finset.sum_singleton]
      refine Finset.sum_congr rfl fun r _ => ?_
      rw [mul_comm]
end Cert.PoolDxIdeal.Value

end
-- ==== Proof.PleBwd.lean ====
/- The backward pass of the per-layer embedding: kernel, reference, and that they are equal. -/
module

public import proofs.«01_k».proof.Defs
public import proofs.«01_k».proof.Proof.Gen.PleBwdIdeal
public import proofs.«01_k».proof.Proof.Gen.PleBwdIdeal.Frame
public import proofs.«01_k».proof.Proof.Gen.PleBwdRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Gen.Pre_finite_ple
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.PleBwdIdeal.Value

open Cert.PleBwdIdeal Cert.PleBwdIdeal.Gen

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

/-- The width of a row and the small constant under the root, as the programs spell them. -/
abbrev W : EReal := Ideal.ofBits .f32 0x44800000#32
abbrev E : EReal := Ideal.ofBits .f32 0x358637BD#32

/-- The gate before the sigmoid: the normalised row times the gate's weights. -/
def gate (x : FVec Ideal S8192x1024 .f32) (g : FVec Ideal S4x1024 .f32) (w : FVec Ideal S4x1024x1024 .f32) (r : Fin 8192) (q : Fin 1024) : EReal :=
  ∑ k : Fin 1024, x (ix2 r k) * Cert.Norm.inv W E (fun k : Fin 1024 => x (ix2 r k)) * g (ix2 0 k) * w (ix3 0 k q)

/-- The projected embedding. -/
def embedding (p : FVec Ideal S8192x256 .f32) (v : FVec Ideal S256x1024 .f32) (r : Fin 8192) (q : Fin 1024) : EReal :=
  ∑ k : Fin 256, p (ix2 r k) * v (ix2 k q)

/-- The gradient of the gate before its sigmoid, from the cotangent, the gate and the embedding at one element. -/
abbrev gate_term (d z e : EReal) : EReal := d * e * (Ideal.logistic z * (1 - Ideal.logistic z))

def grad_gate (x : FVec Ideal S8192x1024 .f32) (g : FVec Ideal S4x1024 .f32) (w : FVec Ideal S4x1024x1024 .f32)
    (p : FVec Ideal S8192x256 .f32) (v : FVec Ideal S256x1024 .f32) (dx : FVec Ideal S8192x1024 .f32) : FVec Ideal S8192x1024 .bf16 := fun i =>
  gate_term (dx (ix2 (i 0) (i 1))) (gate x g w (i 0) (i 1)) (embedding p v (i 0) (i 1))

/-- The gradient of the projected embedding. -/
def grad_embedding (x : FVec Ideal S8192x1024 .f32) (g : FVec Ideal S4x1024 .f32) (w : FVec Ideal S4x1024x1024 .f32)
    (dx : FVec Ideal S8192x1024 .f32) : FVec Ideal S8192x1024 .bf16 := fun i =>
  dx (ix2 (i 0) (i 1)) * Ideal.logistic (gate x g w (i 0) (i 1))

/-- The cotangent of the normalised row: the gate's gradient times the gate's transposed weights. -/
def pulled (x : FVec Ideal S8192x1024 .f32) (g : FVec Ideal S4x1024 .f32) (w : FVec Ideal S4x1024x1024 .f32)
    (p : FVec Ideal S8192x256 .f32) (v : FVec Ideal S256x1024 .f32) (dx : FVec Ideal S8192x1024 .f32) (r : Fin 8192) (q : Fin 1024) : EReal :=
  ∑ k : Fin 1024, grad_gate x g w p v dx (ix2 r k) * w (ix3 0 q k)

def grad_input (x : FVec Ideal S8192x1024 .f32) (g : FVec Ideal S4x1024 .f32) (w : FVec Ideal S4x1024x1024 .f32)
    (p : FVec Ideal S8192x256 .f32) (v : FVec Ideal S256x1024 .f32) (dx : FVec Ideal S8192x1024 .f32) : FVec Ideal S8192x1024 .f32 := fun i =>
  dx i + Cert.Norm.spread W E (fun k : Fin 1024 => x (ix2 (i 0) k)) (fun k => pulled x g w p v dx (i 0) k * g (ix2 0 k)) (i 1)

/-- One row's part of the gain's gradient, from the pulled cotangent and the row of the input. -/
abbrev gain_term (p : EReal) (x : Fin 1024 → EReal) (j : Fin 1024) : EReal := p * (x j * Cert.Norm.inv W E x)

def grad_gain (x : FVec Ideal S8192x1024 .f32) (g : FVec Ideal S4x1024 .f32) (w : FVec Ideal S4x1024x1024 .f32)
    (p : FVec Ideal S8192x256 .f32) (v : FVec Ideal S256x1024 .f32) (dx : FVec Ideal S8192x1024 .f32) : FVec Ideal S1x1024 .f32 := fun i =>
  ∑ r : Fin 8192, gain_term (pulled x g w p v dx r (i 1)) (fun k => x (ix2 r k)) (i 1)

/-! ## What the blocks hold -/

theorem cotangent_block (c : Dev nD) (t : Fin cfg0.N) (a : Fin 512) (k : Fin 1024) (r : Fin 8192) (hr : (r : ℕ) = t.val * 512 + a) :
    iblk m c 0 t (ix2 a k) = m ((c : Thread nD τ).loc main_arg5) (ix2 r k) := by
  blk_point [iblk, V, idx t]

theorem gate_block (c : Dev nD) (t : Fin cfg0.N) (a : Fin 512) (q : Fin 1024) (r : Fin 8192) (hr : (r : ℕ) = t.val * 512 + a) :
    iblk m c 1 t (ix2 a q) = gate (m ((c : Thread nD τ).loc main_arg0)) (m ((c : Thread nD τ).loc main_arg1)) (m ((c : Thread nD τ).loc main_arg2)) r q := by
  unfold gate Cert.Norm.inv Cert.Norm.mean_square
  blk_simp [iblk, idx t]; entry_read; pointwise; blk_point [iblk, V, idx t]

theorem embedding_block (c : Dev nD) (t : Fin cfg0.N) (a : Fin 512) (q : Fin 1024) (r : Fin 8192) (hr : (r : ℕ) = t.val * 512 + a) :
    iblk m c 2 t (ix2 a q) = embedding (m ((c : Thread nD τ).loc main_arg3)) (m ((c : Thread nD τ).loc main_arg4)) r q := by
  unfold embedding
  blk_simp [iblk, idx t]; entry_read; pointwise; blk_point [iblk, V, idx t]

theorem weight_block (c : Dev nD) (t : Fin cfg0.N) (q k : Fin 1024) :
    iblk m c 3 t (ix3 0 q k) = m ((c : Thread nD τ).loc main_arg2) (ix3 0 q k) := by
  blk_simp [iblk, idx t]; entry_read; pointwise; blk_point [iblk, V, idx t]

theorem input_row (c : Dev nD) (t : Fin cfg0.N) (a : Fin 512) (k : Fin 1024) (r : Fin 8192) (hr : (r : ℕ) = t.val * 512 + a) :
    iblk m c 4 t (ix2 a k) = m ((c : Thread nD τ).loc main_arg0) (ix2 r k) := by
  blk_point [iblk, V, idx t]

theorem gain_row (c : Dev nD) (t : Fin cfg0.N) (k : Fin 1024) :
    iblk m c 5 t (ix2 0 k) = m ((c : Thread nD τ).loc main_arg1) (ix2 0 k) := by
  blk_simp [iblk, idx t]; entry_read; pointwise; blk_point [iblk, V, idx t]

/-! ## What the kernel's body computes from its blocks -/

theorem gate_pay (d : Vec Ideal S512x1024 .f32) (z e : Vec Ideal S512x1024 .bf16) (y : S512x1024.Idx) :
    k0_pay5 d z e y = gate_term (d (ix2 (y 0) (y 1))) (z (ix2 (y 0) (y 1))) (e (ix2 (y 0) (y 1))) := by
  pointwise [k0_pay5, k0_pay4, Cert.Reals.one]
  rw [EReal.coe_one]

theorem embedding_pay (d : Vec Ideal S512x1024 .f32) (z : Vec Ideal S512x1024 .bf16) (y : S512x1024.Idx) :
    k0_pay6 d z y = d (ix2 (y 0) (y 1)) * Ideal.logistic (z (ix2 (y 0) (y 1))) := by
  pointwise [k0_pay6, k0_pay4]

theorem pulled_pay (d : Vec Ideal S512x1024 .f32) (z e : Vec Ideal S512x1024 .bf16) (w : Vec Ideal S1x1024x1024 .bf16) (y : S512x1024.Idx) :
    k0_pay7 d z e w y = ∑ k : Fin 1024, k0_pay5 d z e (ix2 (y 0) k) * w (ix3 0 (y 1) k) := by
  unfold k0_pay7
  generalize k0_pay5 d z e = f
  pointwise

theorem input_pay (acc : FVec Ideal S512x1024 .f32) (x dx : Vec Ideal S512x1024 .f32) (g : Vec Ideal S1x1024 .f32) (y : S512x1024.Idx) :
    k0_pay1 acc (k0_pay8 x) (k0_pay9 x) g dx y
      = dx y + Cert.Norm.spread W E (fun k : Fin 1024 => x (ix2 (y 0) k)) (fun k => acc (ix2 (y 0) k) * g (ix2 0 k)) (y 1) := by
  unfold Cert.Norm.spread Cert.Norm.inv Cert.Norm.mean_square
  pointwise [k0_pay1, k0_pay8, k0_pay9]

theorem gain_pay (acc : FVec Ideal S512x1024 .f32) (x : Vec Ideal S512x1024 .f32) (g : Vec Ideal S1x1024 .f32) (j : S1x1024.Idx) :
    k0_pay3 acc (k0_pay9 x) g j
      = g j + ∑ r : Fin 512, gain_term (acc (ix2 r (j 1))) (fun k : Fin 1024 => x (ix2 r k)) (j 1) := by
  unfold gain_term Cert.Norm.inv Cert.Norm.mean_square
  pointwise [k0_pay3, k0_pay8, k0_pay9]

theorem zero_fill (j : S1x1024.Idx) : k0_pay2 (F := Ideal) j = 0 := by pointwise [k0_pay2]

/-! ## The points -/

theorem gate_point (c : Dev nD) (t : Fin cfg0.N) (y : S512x1024.Idx) (j : S8192x1024.Idx)
    (h0 : (j 0 : ℕ) = t.val * 512 + y 0) (h1 : (j 1 : ℕ) = y 1) :
    k0_pay5 (iblk m c 0 t) (iblk m c 1 t) (iblk m c 2 t) y = grad_gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [gate_pay, cotangent_block m c t (y 0) (y 1) (j 0) h0, gate_block m c t (y 0) (y 1) (j 0) h0,
    embedding_block m c t (y 0) (y 1) (j 0) h0, show y 1 = j 1 from Fin.ext h1.symm]
  rfl

theorem embedding_point (c : Dev nD) (t : Fin cfg0.N) (y : S512x1024.Idx) (j : S8192x1024.Idx)
    (h0 : (j 0 : ℕ) = t.val * 512 + y 0) (h1 : (j 1 : ℕ) = y 1) :
    k0_pay6 (iblk m c 0 t) (iblk m c 1 t) y = grad_embedding (m ((c : Thread nD τ).loc main_arg0)) (m ((c : Thread nD τ).loc main_arg1)) (m ((c : Thread nD τ).loc main_arg2)) (m ((c : Thread nD τ).loc main_arg5)) j := by
  rw [embedding_pay, cotangent_block m c t (y 0) (y 1) (j 0) h0, gate_block m c t (y 0) (y 1) (j 0) h0,
    show y 1 = j 1 from Fin.ext h1.symm]
  rfl

theorem pulled_point (c : Dev nD) (t : Fin cfg0.N) (a : Fin 512) (q : Fin 1024) (r : Fin 8192) (hr : (r : ℕ) = t.val * 512 + a) :
    k0_pay7 (iblk m c 0 t) (iblk m c 1 t) (iblk m c 2 t) (iblk m c 3 t) (ix2 a q) = pulled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r q := by
  rw [pulled_pay]
  unfold pulled
  exact Finset.sum_congr rfl fun k _ => congrArg₂ (· * · : EReal → EReal → EReal)
    (gate_point m c t (ix2 a k) (ix2 r k) hr rfl) (weight_block m c t q k)

theorem input_point (c : Dev nD) (t : Fin cfg0.N) (y : S512x1024.Idx) (j : S8192x1024.Idx)
    (h0 : (j 0 : ℕ) = t.val * 512 + y 0) (h1 : (j 1 : ℕ) = y 1) :
    k0_pay1 (k0_pay7 (iblk m c 0 t) (iblk m c 1 t) (iblk m c 2 t) (iblk m c 3 t)) (k0_pay8 (iblk m c 4 t)) (k0_pay9 (iblk m c 4 t))
        (iblk m c 5 t) (iblk m c 0 t) y = grad_input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [input_pay, grad_input]
  have hx : (fun k : Fin 1024 => iblk m c 4 t (ix2 (y 0) k)) = fun k => m ((c : Thread nD τ).loc main_arg0) (ix2 (j 0) k) :=
    funext fun k => input_row m c t (y 0) k (j 0) h0
  have ha : (fun k : Fin 1024 => k0_pay7 (iblk m c 0 t) (iblk m c 1 t) (iblk m c 2 t) (iblk m c 3 t) (ix2 (y 0) k) * iblk m c 5 t (ix2 0 k))
      = fun k => pulled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) k * m ((c : Thread nD τ).loc main_arg1) (ix2 0 k) :=
    funext fun k => by rw [pulled_point m c t (y 0) k (j 0) h0, gain_row]
  have hd : iblk m c 0 t y = m ((c : Thread nD τ).loc main_arg5) j := by blk_point [iblk, V, idx t]
  rw [hx, ha, hd, show y 1 = j 1 from Fin.ext h1.symm]

theorem gain_point (c : Dev nD) (t : Fin cfg0.N) (a : Fin 512) (j : Fin 1024) (r : Fin 8192) (j' : Fin 1024)
    (hr : (r : ℕ) = t.val * 512 + a) (hj : (j' : ℕ) = j) :
    gain_term (k0_pay7 (iblk m c 0 t) (iblk m c 1 t) (iblk m c 2 t) (iblk m c 3 t) (ix2 a j)) (fun k => iblk m c 4 t (ix2 a k)) j
      = gain_term (pulled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j') (fun k => m ((c : Thread nD τ).loc main_arg0) (ix2 r k)) j' := by
  obtain rfl : j' = j := Fin.ext hj
  have hx : (fun k : Fin 1024 => iblk m c 4 t (ix2 a k)) = fun k => m ((c : Thread nD τ).loc main_arg0) (ix2 r k) :=
    funext fun k => input_row m c t a k r hr
  rw [hx, pulled_point m c t a j' r hr]

/-! ## What the arrays hold -/

theorem final_input (c : Dev nD) : (dats m 0 c).arrAt 6 (cfgs 0).N = grad_input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  by_cases h : t.val % 16 = 0
  · rw [outsAt0_A m c t h]; dsimp only; frame_out
    exact input_point m c t y _ (by blk_simp [idx t]) (by blk_simp [idx t])
  · rw [outsAt0_B m c t h]; dsimp only; frame_out
    exact input_point m c t y _ (by blk_simp [idx t]) (by blk_simp [idx t])

theorem final_gate (c : Dev nD) : (dats m 0 c).arrAt 7 (cfgs 0).N = grad_gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  by_cases h : t.val % 16 = 0
  · rw [outsAt0_A m c t h]; dsimp only; frame_out
    exact gate_point m c t y _ (by blk_simp [idx t]) (by blk_simp [idx t])
  · rw [outsAt0_B m c t h]; dsimp only; frame_out
    exact gate_point m c t y _ (by blk_simp [idx t]) (by blk_simp [idx t])

theorem final_embedding (c : Dev nD) : (dats m 0 c).arrAt 8 (cfgs 0).N = grad_embedding (m ((c : Thread nD τ).loc main_arg0)) (m ((c : Thread nD τ).loc main_arg1)) (m ((c : Thread nD τ).loc main_arg2)) (m ((c : Thread nD τ).loc main_arg5)) := by
  refine (dats m 0 c).arrAt_eq_of_covers 8 _ (by decide +kernel) fun t hf y => ?_
  blk_simp; rw [after0_8]
  by_cases h : t.val % 16 = 0
  · rw [outsAt0_A m c t h]; dsimp only; frame_out
    exact embedding_point m c t y _ (by blk_simp [idx t]) (by blk_simp [idx t])
  · rw [outsAt0_B m c t h]; dsimp only; frame_out
    exact embedding_point m c t y _ (by blk_simp [idx t]) (by blk_simp [idx t])

theorem final_gain (c : Dev nD) : (dats m 0 c).arrAt 9 (cfgs 0).N = grad_gain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2) 16 (fun _ => 0) _
    (fun t h j => by rw [outsAt0_A m c t h]; frame_out; rw [gain_pay, zero_fill])
    (fun t h j => by rw [outsAt0_B m c t h]; frame_out; rw [gain_pay])
    t ((flush0_9 t).mp hf) _, zero_add]
  unfold grad_gain
  refine Fin.sum_mul_add_congr fun s k hl => ?_
  have ht : t.val < 16 := lt_of_lt_of_eq t.isLt N_0
  have hy : ((win0_9.blk t).view.emb y 1 : ℕ) = y 1 := by blk_simp [idx t]
  exact gain_point m c _ k (y 1) _ _ (by simp; omega) hy

/-! ## The reference -/

/-- The precondition says that the arguments are arrays of real numbers. -/
theorem finite_args (h : Cert.Pre_PleBwdIdeal_finite_ple m) (c : Dev nD) :
    Cert.Reals.Finite (s := S8192x1024) (φ := .f32) (m ((c : Thread nD τ).loc main_arg0))
    ∧ Cert.Reals.Finite (s := S4x1024) (φ := .f32) (m ((c : Thread nD τ).loc main_arg1))
    ∧ Cert.Reals.Finite (s := S4x1024x1024) (φ := .f32) (m ((c : Thread nD τ).loc main_arg2))
    ∧ Cert.Reals.Finite (s := S8192x256) (φ := .f32) (m ((c : Thread nD τ).loc main_arg3))
    ∧ Cert.Reals.Finite (s := S256x1024) (φ := .f32) (m ((c : Thread nD τ).loc main_arg4))
    ∧ Cert.Reals.Finite (s := S8192x1024) (φ := .f32) (m ((c : Thread nD τ).loc main_arg5)) := by
  obtain ⟨h, h5⟩ := Cert.Reals.and_one (congrFun (h c) (fun a => a.elim0))
  obtain ⟨h, h4⟩ := Cert.Reals.and_one h
  obtain ⟨h, h3⟩ := Cert.Reals.and_one h
  obtain ⟨h, h2⟩ := Cert.Reals.and_one h
  obtain ⟨h0, h1⟩ := Cert.Reals.and_one h
  exact ⟨Cert.Reals.finite_of_all _ _ _ _ _ _ h0, Cert.Reals.finite_of_all _ _ _ _ _ _ h1, Cert.Reals.finite_of_all _ _ _ _ _ _ h2,
    Cert.Reals.finite_of_all _ _ _ _ _ _ h3, Cert.Reals.finite_of_all _ _ _ _ _ _ h4, Cert.Reals.finite_of_all _ _ _ _ _ _ h5⟩

theorem gate_real {x : FVec Ideal S8192x1024 .f32} {g : FVec Ideal S4x1024 .f32} {w : FVec Ideal S4x1024x1024 .f32}
    (hx : Cert.Reals.Finite x) (hg : Cert.Reals.Finite g) (hw : Cert.Reals.Finite w) (r : Fin 8192) (q : Fin 1024) :
    ∃ z : ℝ, gate x g w r q = (z : EReal) := by
  obtain ⟨X, rfl⟩ := hx
  obtain ⟨G, rfl⟩ := hg
  obtain ⟨W', rfl⟩ := hw
  unfold gate W E
  rw [Cert.Reals.width, Cert.Reals.eps]
  refine ⟨∑ k : Fin 1024, X (ix2 r k) * (Real.sqrt ((∑ k : Fin 1024, X (ix2 r k) * X (ix2 r k)) / 1024 + 8796093 / 8796093022208))⁻¹
    * G (ix2 0 k) * W' (ix3 0 k q), ?_⟩
  rw [Cert.Norm.inv_coe (by norm_num) (by norm_num) (fun k : Fin 1024 => X (ix2 r k))]
  simp only [← EReal.coe_mul]
  rw [Cert.Reals.coe_sum]

theorem embedding_real {p : FVec Ideal S8192x256 .f32} {v : FVec Ideal S256x1024 .f32}
    (hp : Cert.Reals.Finite p) (hv : Cert.Reals.Finite v) (r : Fin 8192) (q : Fin 1024) :
    ∃ e : ℝ, embedding p v r q = (e : EReal) := by
  obtain ⟨P, rfl⟩ := hp
  obtain ⟨V', rfl⟩ := hv
  exact ⟨_, by unfold embedding; simp only [← EReal.coe_mul]; rw [Cert.Reals.coe_sum]⟩

theorem pulled_real {x : FVec Ideal S8192x1024 .f32} {g : FVec Ideal S4x1024 .f32} {w : FVec Ideal S4x1024x1024 .f32}
    {p : FVec Ideal S8192x256 .f32} {v : FVec Ideal S256x1024 .f32} {dx : FVec Ideal S8192x1024 .f32}
    (hx : Cert.Reals.Finite x) (hg : Cert.Reals.Finite g) (hw : Cert.Reals.Finite w) (hp : Cert.Reals.Finite p) (hv : Cert.Reals.Finite v)
    (hd : Cert.Reals.Finite dx) (r : Fin 8192) (q : Fin 1024) : ∃ a : ℝ, pulled x g w p v dx r q = (a : EReal) := by
  choose z hz using fun k => gate_real hx hg hw r k
  choose e he using fun k => embedding_real hp hv r k
  obtain ⟨D, rfl⟩ := hd
  obtain ⟨W', rfl⟩ := hw
  unfold pulled grad_gate
  refine ⟨∑ k : Fin 1024, D (ix2 r k) * e k * ((1 + Real.exp (-z k))⁻¹ * (1 - (1 + Real.exp (-z k))⁻¹)) * W' (ix3 0 q k), ?_⟩
  rw [← Cert.Reals.coe_sum]
  refine Finset.sum_congr rfl fun k _ => ?_
  have hk : gate_term (D (ix2 r k) : EReal) (gate x g (fun i => ((W' i : ℝ) : EReal)) r k) (embedding p v r k)
      = ((D (ix2 r k) * e k * ((1 + Real.exp (-z k))⁻¹ * (1 - (1 + Real.exp (-z k))⁻¹)) : ℝ) : EReal) := by
    rw [hz, he]
    unfold gate_term
    rw [Ideal.logistic_coe, ← EReal.coe_one, ← EReal.coe_sub]
    simp only [← EReal.coe_mul]
  rw [EReal.coe_mul, ← hk]
  rfl

/-- The gradient of the input as the chain rule leaves it. -/
def chain (x : FVec Ideal S8192x1024 .f32) (g : FVec Ideal S4x1024 .f32) (w : FVec Ideal S4x1024x1024 .f32)
    (p : FVec Ideal S8192x256 .f32) (v : FVec Ideal S256x1024 .f32) (dx : FVec Ideal S8192x1024 .f32) : FVec Ideal S8192x1024 .f32 := fun i =>
  dx i + pulled x g w p v dx (i 0) (i 1) * g (ix2 0 (i 1)) * Cert.Norm.inv W E (fun k : Fin 1024 => x (ix2 (i 0) k))
    + x i * Cert.Norm.slope W E (Ideal.ofBits .f32 0xBF000000#32) (fun k : Fin 1024 => x (ix2 (i 0) k)) (fun k => pulled x g w p v dx (i 0) k * g (ix2 0 k))
    + Cert.Norm.slope W E (Ideal.ofBits .f32 0xBF000000#32) (fun k : Fin 1024 => x (ix2 (i 0) k)) (fun k => pulled x g w p v dx (i 0) k * g (ix2 0 k)) * x i

theorem chain_eq {x : FVec Ideal S8192x1024 .f32} {g : FVec Ideal S4x1024 .f32} {w : FVec Ideal S4x1024x1024 .f32}
    {p : FVec Ideal S8192x256 .f32} {v : FVec Ideal S256x1024 .f32} {dx : FVec Ideal S8192x1024 .f32}
    (hx : Cert.Reals.Finite x) (hg : Cert.Reals.Finite g) (hw : Cert.Reals.Finite w) (hp : Cert.Reals.Finite p) (hv : Cert.Reals.Finite v)
    (hd : Cert.Reals.Finite dx) (i : S8192x1024.Idx) : chain x g w p v dx i = grad_input x g w p v dx i := by
  choose a ha using fun k => pulled_real hx hg hw hp hv hd (i 0) k
  obtain ⟨X, rfl⟩ := hx
  obtain ⟨G, rfl⟩ := hg
  unfold chain grad_input W E
  simp only [ha]
  rw [Cert.Reals.width, Cert.Reals.eps, Cert.Reals.neg_half]
  have := Cert.Norm.residual_chain_eq (w := 1024) (e := 8796093 / 8796093022208) (by norm_num) (by norm_num)
    (x := fun k : Fin 1024 => ((X (ix2 (i 0) k) : ℝ) : EReal)) (a := fun k : Fin 1024 => (a k : EReal) * ((G (ix2 0 k) : ℝ) : EReal))
    ⟨_, rfl⟩ ⟨_, funext fun k => by rw [← EReal.coe_mul]⟩ (dx i) (i 1)
  rw [← this]
  idx_vars i
  rw [ha i1]

set_option maxHeartbeats 1600000 in
theorem algebraic : Cert.algebraic_PleBwdIdeal_PleBwdRefIdeal_pre_finite_ple := by
  pair_intro
  · run_from Cert.PleBwdIdeal.Gen.run_main m g
  · run_from Cert.PleBwdRefIdeal.Value.run m' g'
    · obtain ⟨e0, e1, e2, e3, e4, e5⟩ := hagree c
      obtain ⟨h0, h1, h2, h3, h4, h5⟩ := finite_args m hpre c
      unfold PleBwdRefIdeal.Value.res_main_v63
      rw [e0, e1, e2, e3, e4, e5, final_input]
      funext i
      refine Eq.trans ?_ (chain_eq h0 h1 h2 h3 h4 h5 i)
      unfold chain Cert.Norm.slope pulled grad_gate gate_term gate embedding Cert.Norm.inv Cert.Norm.mean_square Ideal.logistic W E
      pointwise
      simp only [Fin.sum_univ_one, Finset.univ_unique, Finset.sum_singleton]
    · rw [final_gate]
      funext i
      unfold grad_gate gate_term gate embedding Cert.Norm.inv Cert.Norm.mean_square Ideal.logistic W E
      pointwise
    · rw [final_embedding]
      funext i
      unfold grad_embedding gate Cert.Norm.inv Cert.Norm.mean_square Ideal.logistic W E
      pointwise
      exact mul_comm _ _
    · rw [final_gain]
      funext i
      unfold grad_gain gain_term pulled grad_gate gate_term gate embedding Cert.Norm.inv Cert.Norm.mean_square Ideal.logistic W E
      pointwise
      simp only [Fin.sum_univ_one, Finset.univ_unique, Finset.sum_singleton]
      refine Finset.sum_congr rfl fun r _ => ?_
      rw [mul_comm]

end Cert.PleBwdIdeal.Value

end
-- ==== Proof.PoolGroupHost.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

/-- The pooled rows, as the forward lines compute them from `u`. -/
def pooled (u : FVec Ideal S8192x1024 .f32) : FVec Ideal S8192x4x256 .f32 :=
  Cert.PoolGroupRefIdeal.Read.val_main_v79 (F := Ideal) u

set_option maxHeartbeats 4000000 in
/-- What the host lines hand the call as its pooled rows. -/
theorem entry_pooled (c : Dev nD) : (V m c main_v81 : FVec Ideal S8192x1024 .bf16) =
    truncf .bf16 (shapeCast S8192x1024 (pooled (m ((c : Thread nD τ).loc main_arg0))) shapeCasts_S8192x4x256_S8192x1024) bitsLt_bf16_f32 := by
  change StableHlo.after [hostOps0, hostOps0_1, hostOps0_2].flatten (fun b => m (c, b)) (Proc.tc.devRef main_v81) = _
  dsimp only [hostOps0, hostOps0_1, hostOps0_2, List.flatten_cons, List.flatten_nil, List.cons_append, List.nil_append, List.append_nil]
  after_results
  rfl

set_option maxHeartbeats 4000000 in
/-- … and as its weights. -/
theorem entry_weight (c : Dev nD) : (V m c main_v82 : FVec Ideal S4x256x256 .bf16) =
    (fun w : FVec Ideal S4x256x256 .f32 => truncf .bf16 w bitsLt_bf16_f32) (m ((c : Thread nD τ).loc main_arg1)) := by
  change StableHlo.after [hostOps0, hostOps0_1, hostOps0_2].flatten (fun b => m (c, b)) (Proc.tc.devRef main_v82) = _
  dsimp only [hostOps0, hostOps0_1, hostOps0_2, List.flatten_cons, List.flatten_nil, List.cons_append, List.nil_append, List.append_nil]
  after_results

set_option maxHeartbeats 4000000 in
/-- … and as its scale. -/
theorem entry_scale (c : Dev nD) : (V m c main_v83 : FVec Ideal S1x1024 .f32) =
    (fun s : FVec Ideal S1024 .f32 => shapeCast S1x1024 s shapeCasts_S1024_S1x1024) (m ((c : Thread nD τ).loc main_arg2)) := by
  change StableHlo.after [hostOps0, hostOps0_1, hostOps0_2].flatten (fun b => m (c, b)) (Proc.tc.devRef main_v83) = _
  dsimp only [hostOps0, hostOps0_1, hostOps0_2, List.flatten_cons, List.flatten_nil, List.cons_append, List.nil_append, List.append_nil]
  after_results
  rfl

end Cert.PoolGroupIdeal.Value

end
-- ==== Proof.PoolGroupBlocks.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.PoolGroupHost
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

theorem idx : ∀ t : Fin cfg0.N, win0_0.index t = ![t.val, 0]
    ∧ win0_1.index t = ![t.val, 0]
    ∧ win0_2.index t = ![0, 0, 0]
    ∧ win0_3.index t = ![0, 0]
    ∧ win0_4.index t = ![t.val, 0]
    ∧ win0_5.index t = ![0, 0, 0]
    ∧ win0_6.index t = ![0, 0] :=
  (by decide +kernel : ∀ t : Fin grid0.N, _)

/-! ## The mathematics -/

/-- The column of the wide arrays that holds channel `f` of group `g`. -/
abbrev chan (g : Fin 4) (f : Fin 256) : Fin 1024 := ⟨(g : ℕ) * 256 + f, by omega⟩
/-- The group a column belongs to. -/
abbrev grp (q : Fin 1024) : Fin 4 := ⟨(q : ℕ) / 256, by omega⟩
/-- The channel of a column within its group. -/
abbrev sub (q : Fin 1024) : Fin 256 := ⟨(q : ℕ) % 256, by omega⟩

/-- The cotangent of the group map's output, after the scale. -/
abbrev cot (dx : FVec Ideal S8192x1024 .f32) (s : FVec Ideal S1024 .f32) (r : Fin 8192) (q : Fin 1024) : EReal :=
  dx (ix2 r q) * s (ix1 q)

/-- The gradient of the pooled rows. -/
def dpooled (w : FVec Ideal S4x256x256 .f32) (s : FVec Ideal S1024 .f32) (dx : FVec Ideal S8192x1024 .f32) :
    FVec Ideal S8192x1024 .f32 :=
  fun i => ∑ f : Fin 256, cot dx s (i 0) (chan (grp (i 1)) f) * w (ix3 (grp (i 1)) (sub (i 1)) f)

/-- The gradient of the group weights. -/
def dweight (P : FVec Ideal S8192x4x256 .f32) (s : FVec Ideal S1024 .f32) (dx : FVec Ideal S8192x1024 .f32) :
    FVec Ideal S4x256x256 .bf16 :=
  fun i => ∑ r : Fin 8192, P (ix3 r (i 0) (i 1)) * cot dx s r (chan (i 0) (i 2))

/-- The group map's output before the scale. -/
abbrev mapped (P : FVec Ideal S8192x4x256 .f32) (w : FVec Ideal S4x256x256 .f32) (r : Fin 8192) (q : Fin 1024) : EReal :=
  ∑ e : Fin 256, P (ix3 r (grp q) e) * w (ix3 (grp q) e (sub q))

/-- The gradient of the scale. -/
def dscale (P : FVec Ideal S8192x4x256 .f32) (w : FVec Ideal S4x256x256 .f32) (dx : FVec Ideal S8192x1024 .f32) :
    FVec Ideal S1x1024 .f32 :=
  fun i => ∑ r : Fin 8192, dx (ix2 r (i 1)) * mapped P w r (i 1)

/-! ## The blocks -/

abbrev argU (c : Dev nD) : FVec Ideal S8192x1024 .f32 := m ((c : Thread nD τ).loc main_arg0)
abbrev argW (c : Dev nD) : FVec Ideal S4x256x256 .f32 := m ((c : Thread nD τ).loc main_arg1)
abbrev argS (c : Dev nD) : FVec Ideal S1024 .f32 := m ((c : Thread nD τ).loc main_arg2)
abbrev argD (c : Dev nD) : FVec Ideal S8192x1024 .f32 := m ((c : Thread nD τ).loc main_arg3)

/-- A block of `dx`: `q'` names its column. -/
theorem dx_block (c : Dev nD) (t : Fin cfg0.N) (a : Fin 512) (q q' : Fin 1024) (r : Fin 8192) (hr : (r : ℕ) = t.val * 512 + a)
    (hq : (q' : ℕ) = q) : (iblk m c 0 t (ix2 a q) : EReal) = argD m c (ix2 r q') := by
  rw [Fin.ext hq]
  blk_point [iblk, V, idx t]

set_option maxHeartbeats 4000000 in
theorem pooled_block (c : Dev nD) (t : Fin cfg0.N) (a : Fin 512) (q : Fin 1024) (r : Fin 8192) (g : Fin 4) (e : Fin 256)
    (hr : (r : ℕ) = t.val * 512 + a) (hq : (q : ℕ) = (g : ℕ) * 256 + e) :
    (iblk m c 1 t (ix2 a q) : EReal) = pooled (argU m c) (ix3 r g e) := by
  blk_simp [iblk, idx t]
  rw [entry_pooled]
  generalize pooled (m ((c : Thread nD τ).loc main_arg0)) = P
  pointwise
  refine congrArg P ?_
  blk_ext [idx t]

theorem weight_block (c : Dev nD) (t : Fin cfg0.N) (i : S4x256x256.Idx) :
    (iblk m c 2 t i : EReal) = argW m c i := by
  blk_simp [iblk, idx t]
  rw [entry_weight]
  pointwise
  refine congrArg (m ((c : Thread nD τ).loc main_arg1)) ?_
  blk_ext [idx t]

theorem scale_block (c : Dev nD) (t : Fin cfg0.N) (q q' : Fin 1024) (hq : (q' : ℕ) = q) :
    (iblk m c 3 t (ix2 0 q) : EReal) = argS m c (ix1 q') := by
  rw [Fin.ext hq]
  blk_simp [iblk, idx t]
  rw [entry_scale]
  pointwise
  refine congrArg (m ((c : Thread nD τ).loc main_arg2)) ?_
  blk_ext [idx t]

abbrev prod3 (x y z : EReal) : EReal := x * y * z

theorem prod3_congr {x x' y y' z z' : EReal} (hx : x = x') (hy : y = y') (hz : z = z') : x * y * z = x' * y' * z' := by
  rw [hx, hy, hz]

/-! ## The gradient of the pooled rows -/

/-- One stored piece: the columns of group `g`. -/
theorem dpooled_point (c : Dev nD) (t : Fin cfg0.N) (g : Fin 4) (x : S512x256.Idx) (q : Fin 256 → Fin 1024)
    (hq : ∀ f : Fin 256, (q f : ℕ) = (g : ℕ) * 256 + f) (j : S8192x1024.Idx)
    (h0 : (j 0 : ℕ) = t.val * 512 + x 0) (h1 : (j 1 : ℕ) = (g : ℕ) * 256 + x 1) :
    ∑ f : Fin 256, prod3 (iblk m c 0 t (ix2 (x 0) (q f))) (iblk m c 3 t (ix2 0 (q f))) (iblk m c 2 t (ix3 g (x 1) f))
      = dpooled (argW m c) (argS m c) (argD m c) j := by
  have hx : (x 1 : ℕ) < 256 := (x 1).isLt
  have eg : grp (j 1) = g := Fin.ext (show (j 1 : ℕ) / 256 = g by omega)
  have ee : sub (j 1) = x 1 := Fin.ext (show (j 1 : ℕ) % 256 = x 1 by omega)
  unfold dpooled
  rw [eg, ee]
  exact Finset.sum_congr rfl fun f _ => prod3_congr (dx_block m c t _ _ _ (j 0) h0 (hq f).symm) (scale_block m c t _ _ (hq f).symm)
    (weight_block m c t _)

/-- The row of the whole arrays that is row `a` of grid point `t`. -/
abbrev row (t : Fin cfg0.N) (a : Fin 512) : Fin 8192 :=
  ⟨t.val * 512 + a, by have := lt_of_lt_of_eq t.isLt N_0; omega⟩

theorem last_point (t : Fin cfg0.N) (h : t.val % 16 = 15) : t.val + 1 = cfg0.N := by
  have := lt_of_lt_of_eq t.isLt N_0
  exact (show t.val + 1 = 16 by omega).trans N_0.symm

end Cert.PoolGroupIdeal.Value

end
-- ==== Proof.PoolGroupRows.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.PoolGroupBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

/- The blocks are used through the lemmas on them alone. -/
seal iblk

set_option maxHeartbeats 4000000 in
/-- The gradient of the pooled rows: every grid point writes its own rows, one group of columns after the other. -/
theorem final_4 (c : Dev nD) : (dats m 0 c).arrAt 4 (cfgs 0).N = dpooled (argW m c) (argS m c) (argD m c) := by
  refine (dats m 0 c).arrAt_eq_of_covers 4 _ (by decide +kernel) fun t hf y => ?_
  blk_simp
  rw [after0_4]
  by_cases hA : t.val % 16 = 0
  on_goal 1 => rw [outsAt0_A m c t hA (by omega)]
  on_goal 2 => by_cases hB : t.val % 16 = 15
  on_goal 2 => rw [outsAt0_C m c t hA hB]
  on_goal 3 => rw [outsAt0_B m c t hA hB]
  all_goals
    dsimp only
    frame_out
    canon_tiles x h
  all_goals pointwise [k0_pay21, k0_pay18, k0_pay13, k0_pay9, k0_pay5]
  all_goals first
    | exact dpooled_point m c t 3 x _ (fun f => rfl) _ (by blk_simp [idx t]; omega) (by blk_simp [idx t]; omega)
    | exact dpooled_point m c t 2 x _ (fun f => rfl) _ (by blk_simp [idx t]; omega) (by blk_simp [idx t]; omega)
    | exact dpooled_point m c t 1 x _ (fun f => rfl) _ (by blk_simp [idx t]; omega) (by blk_simp [idx t]; omega)
    | exact dpooled_point m c t 0 x _ (fun f => by simp) _ (by blk_simp [idx t]; omega) (by blk_simp [idx t]; omega)

end Cert.PoolGroupIdeal.Value

end
-- ==== Proof.PoolGroupWeights.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.PoolGroupBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

/- The blocks are used through the lemmas on them alone. -/
seal iblk

/-! ## The gradient of the group weights -/

/-- What one row adds to the gradient of the group weights. -/
abbrev dweight_term (c : Dev nD) (j : S4x256x256.Idx) (r : Fin 8192) : EReal :=
  pooled (argU m c) (ix3 r (j 0) (j 1)) * cot (argD m c) (argS m c) r (chan (j 0) (j 2))

abbrev prod2 (x y z : EReal) : EReal := x * (y * z)

theorem prod2_congr {x x' y y' z z' : EReal} (hx : x = x') (hy : y = y') (hz : z = z') : x * (y * z) = x' * (y' * z') := by
  rw [hx, hy, hz]

/-- One stored piece: what a grid point adds to the weights of group `g`. -/
theorem dweight_point (c : Dev nD) (t : Fin cfg0.N) (g : Fin 4) (x : S1x256x256.Idx) (q q' : Fin 1024)
    (hq : (q : ℕ) = (g : ℕ) * 256 + x 1) (hq' : (q' : ℕ) = (g : ℕ) * 256 + x 2) (j : S4x256x256.Idx)
    (h0 : (j 0 : ℕ) = (g : ℕ)) (h1 : (j 1 : ℕ) = x 1) (h2 : (j 2 : ℕ) = x 2) :
    ∑ a : Fin 512, prod2 (iblk m c 1 t (ix2 a q)) (iblk m c 0 t (ix2 a q')) (iblk m c 3 t (ix2 0 q'))
      = ∑ a : Fin 512, dweight_term m c j (row t a) := by
  refine Finset.sum_congr rfl fun a _ => prod2_congr (pooled_block m c t _ _ _ _ _ rfl ?_) (dx_block m c t _ _ _ _ rfl ?_)
    (scale_block m c t _ _ ?_)
  · rw [hq, h0, h1]
  · show (j 0 : ℕ) * 256 + (j 2 : ℕ) = _
    rw [hq', h0, h2]
  · show (j 0 : ℕ) * 256 + (j 2 : ℕ) = _
    rw [hq', h0, h2]

/-- The accumulated weights' gradient, as a grid point leaves it. -/
abbrev acc (c : Dev nD) (n : ℕ) (h : n < cfg0.N) : S4x256x256.Idx → EReal := (outsAt0 m c n h).2.2.2

theorem ix_eq {g : Fin 4} {x1 x2 : Fin 256} (j : S4x256x256.Idx) (h0 : (j 0 : ℕ) = g) (h1 : (j 1 : ℕ) = x1) (h2 : (j 2 : ℕ) = x2) :
    ix3 g x1 x2 = j := by
  funext a
  match a with
  | ⟨0, _⟩ => exact Fin.ext h0.symm
  | ⟨1, _⟩ => exact Fin.ext h1.symm
  | ⟨2, _⟩ => exact Fin.ext h2.symm

set_option maxHeartbeats 4000000 in
theorem acc_step (c : Dev nD) (t : Fin cfg0.N) (hA : ¬ t.val % 16 = 0) (j : S4x256x256.Idx) :
    acc m c t.val t.isLt j = acc m c (t.val - 1) (Nat.lt_of_le_of_lt (Nat.sub_le _ _) t.isLt) j
      + ∑ a : Fin 512, dweight_term m c j (row t a) := by
  unfold acc
  by_cases hB : t.val % 16 = 15
  on_goal 1 => rw [outsAt0_C m c t hA hB]
  on_goal 2 => rw [outsAt0_B m c t hA hB]
  all_goals
    dsimp only
    frame_out
    simp only [read_unread_whole]
    generalize (outsAt0 m c (t.val - 1) (Nat.lt_of_le_of_lt (Nat.sub_le _ _) t.isLt)).2.2.2 = prev
    canon_tiles x h
  all_goals pointwise [k0_pay20, k0_pay19, k0_pay17, k0_pay16, k0_pay14, k0_pay12, k0_pay10, k0_pay8, k0_pay6, k0_pay5]
  all_goals first
    | exact congrArg₂ (· + · : EReal → EReal → EReal) (congrArg prev (ix_eq (g := 3) j (by omega) h1 h2))
        (dweight_point m c t 3 x _ _ rfl rfl j (by omega) h1 h2)
    | exact congrArg₂ (· + · : EReal → EReal → EReal) (congrArg prev (ix_eq (g := 2) j (by omega) h1 h2))
        (dweight_point m c t 2 x _ _ rfl rfl j (by omega) h1 h2)
    | exact congrArg₂ (· + · : EReal → EReal → EReal) (congrArg prev (ix_eq (g := 1) j (by omega) h1 h2))
        (dweight_point m c t 1 x _ _ rfl rfl j (by omega) h1 h2)
    | exact congrArg₂ (· + · : EReal → EReal → EReal) (congrArg prev (ix_eq (g := 0) j (by omega) h1 h2))
        (dweight_point m c t 0 x _ _ (by simp) (by simp) j (by omega) h1 h2)

/-- Stores that cover an index hide the stores before them. -/
theorem canon_append_of_covered {S : Shape} {e : EltTy} (L' : List (View.Piece (Elt Ideal) S e)) (y : S.Idx) :
    ∀ L : List (View.Piece (Elt Ideal) S e), (∃ p ∈ L, y ∈ p.1.set) → View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_covered L' y L ?_
      obtain ⟨q, hq, hyq⟩ := hy
      rcases List.mem_cons.mp hq with rfl | hq'
      · exact absurd hyq hm
      · exact ⟨q, hq', hyq⟩

set_option maxHeartbeats 4000000 in
theorem acc_reset (c : Dev nD) (t : Fin cfg0.N) (hA : t.val % 16 = 0) (j : S4x256x256.Idx) :
    acc m c t.val t.isLt j = 0 + ∑ a : Fin 512, dweight_term m c j (row t a) := by
  unfold acc
  rw [outsAt0_A m c t hA (by omega)]
  dsimp only
  frame_out
  simp (discharger := decide) only [↓View.readCov_skip, ↓View.readCov_fill]
  refine Eq.trans ?_ (zero_add _).symm
  refine (canon_append_of_covered [_] j [_, _, _, _] (View.cover_of_tiled_head _ _ _ rfl j)).trans ?_
  canon_tiles x h
  all_goals pointwise [k0_pay20, k0_pay19, k0_pay17, k0_pay16, k0_pay14, k0_pay12, k0_pay10, k0_pay8, k0_pay6, k0_pay5, k0_pay3]
  all_goals first
    | exact dweight_point m c t 3 x _ _ rfl rfl j (by omega) h1 h2
    | exact dweight_point m c t 2 x _ _ rfl rfl j (by omega) h1 h2
    | exact dweight_point m c t 1 x _ _ rfl rfl j (by omega) h1 h2
    | exact dweight_point m c t 0 x _ _ (by simp) (by simp) j (by omega) h1 h2

/-- Reading the whole accumulator after stores into it. -/
theorem cast_acc (L : List (View.Piece (Elt Ideal) S4x256x256 .f32)) (j : S4x256x256.Idx) :
    k0_pay2 ((View.whole cc0_scratch0).readCov L (Rect.unit ![0, 0, 0] ![4, 256, 256] inb_S4x256x256_S4x256x256_0_0_0).toLoadRect) j
      = View.canon L j := by
  unfold k0_pay2
  rw [View.readCov_eq_canon']
  show View.canon L _ = View.canon L j
  refine congrArg (View.canon L) ?_
  funext a
  refine Fin.ext ?_
  match a with
  | ⟨0, _⟩ => simp [LoadRect.idx]
  | ⟨1, _⟩ => simp [LoadRect.idx]
  | ⟨2, _⟩ => simp [LoadRect.idx]

set_option maxHeartbeats 4000000 in
/-- The last point casts the accumulator. -/
theorem last_acc (c : Dev nD) (t : Fin cfg0.N) (hB : t.val % 16 = 15) (j : S4x256x256.Idx) :
    ((outsAt0 m c t.val t.isLt).2.1 j : EReal) = acc m c t.val t.isLt j := by
  unfold acc
  rw [outsAt0_C m c t (by omega) hB]
  dsimp only
  frame_out
  exact cast_acc _ j

set_option maxHeartbeats 4000000 in
theorem final_5 (c : Dev nD) : (dats m 0 c).arrAt 5 (cfgs 0).N = dweight (pooled (argU m c)) (argS m c) (argD m c) := by
  refine (dats m 0 c).arrAt_eq_of_covers 5 _ (by decide +kernel) fun t hf y => ?_
  have hB := (flush0_5 t).mp hf
  blk_simp
  rw [after0_5]
  have hy : ((View.whole main_v84_1).slice (win0_5.rect t)).emb y = y := by blk_ext [idx t]
  rw [hy]
  refine (last_acc m c t hB y).trans ?_
  rw [Pipeline.eq_sum_fin_of_reset_step_apply_last (acc m c) 16 (fun _ => 0) (fun t j => ∑ a : Fin 512, dweight_term m c j (row t a))
    (acc_reset m c) (acc_step m c) (le_of_eq N_0) t (last_point t hB) y, zero_add]
  unfold dweight
  exact Fin.sum_mul_add_congr fun s k hl => rfl

end Cert.PoolGroupIdeal.Value

end
-- ==== Proof.PoolGroupScale.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.PoolGroupBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

/- The blocks are used through the lemmas on them alone. -/
seal iblk

/-! ## The gradient of the scale -/

abbrev dscale_term (c : Dev nD) (q : Fin 1024) (r : Fin 8192) : EReal :=
  argD m c (ix2 r q) * mapped (pooled (argU m c)) (argW m c) r q

abbrev pairProd (x y : EReal) : EReal := x * y

theorem dscale_point (c : Dev nD) (t : Fin cfg0.N) (a : Fin 512) (q : Fin 1024) (g : Fin 4) (f : Fin 256)
    (e : Fin 256 → Fin 1024) (he : ∀ k, (e k : ℕ) = (g : ℕ) * 256 + k) (hq : (q : ℕ) = (g : ℕ) * 256 + f) :
    ∑ k : Fin 256, pairProd (iblk m c 1 t (ix2 a (e k))) (iblk m c 2 t (ix3 g k f))
      = mapped (pooled (argU m c)) (argW m c) (row t a) q := by
  have eg : grp q = g := Fin.ext (show (q : ℕ) / 256 = g by omega)
  have ee : sub q = f := Fin.ext (show (q : ℕ) % 256 = f by omega)
  unfold mapped
  rw [eg, ee]
  exact Finset.sum_congr rfl fun k _ => congrArg₂ (· * · : EReal → EReal → EReal) (pooled_block m c t _ _ _ _ _ rfl (he k)) (weight_block m c t _)

/-- One column of the four group maps put side by side. -/
theorem mapped_cases (c : Dev nD) (t : Fin cfg0.N) (a : Fin 512) (q : Fin 1024) :
    (if h : (q : ℕ) < 256 then ∑ k : Fin 256, pairProd (iblk m c 1 t (ix2 a ⟨k, by omega⟩)) (iblk m c 2 t (ix3 0 k ⟨q, h⟩))
      else if h : (q : ℕ) - 256 < 256 then
        ∑ k : Fin 256, pairProd (iblk m c 1 t (ix2 a ⟨256 + k, by omega⟩)) (iblk m c 2 t (ix3 1 k ⟨(q : ℕ) - 256, h⟩))
      else if h : (q : ℕ) - 256 - 256 < 256 then
        ∑ k : Fin 256, pairProd (iblk m c 1 t (ix2 a ⟨512 + k, by omega⟩)) (iblk m c 2 t (ix3 2 k ⟨(q : ℕ) - 256 - 256, h⟩))
      else ∑ k : Fin 256, pairProd (iblk m c 1 t (ix2 a ⟨768 + k, by omega⟩))
        (iblk m c 2 t (ix3 3 k ⟨(q : ℕ) - 256 - 256 - 256, by omega⟩)))
      = mapped (pooled (argU m c)) (argW m c) (row t a) q := by
  by_cases h1 : (q : ℕ) < 256
  · rw [dif_pos h1]
    exact dscale_point m c t a q 0 ⟨q, h1⟩ _ (fun k => by simp) (by simp)
  rw [dif_neg h1]
  by_cases h2 : (q : ℕ) - 256 < 256
  · rw [dif_pos h2]
    exact dscale_point m c t a q 1 ⟨(q : ℕ) - 256, h2⟩ _ (fun k => rfl) (by simp; omega)
  rw [dif_neg h2]
  by_cases h3 : (q : ℕ) - 256 - 256 < 256
  · rw [dif_pos h3]
    exact dscale_point m c t a q 2 ⟨(q : ℕ) - 256 - 256, h3⟩ _ (fun k => rfl) (by simp; omega)
  rw [dif_neg h3]
  exact dscale_point m c t a q 3 ⟨(q : ℕ) - 256 - 256 - 256, by omega⟩ _ (fun k => rfl) (by simp; omega)

theorem scale_step (c : Dev nD) (t : Fin cfg0.N) (j : S1x1024.Idx) (hA : ¬ t.val % 16 = 0) :
    ((outsAt0 m c t.val t.isLt).2.2.1 j : EReal) = (outsAt0 m c (t.val - 1) (Nat.lt_of_le_of_lt (Nat.sub_le _ _) t.isLt)).2.2.1 j
      + ∑ a : Fin 512, dscale_term m c (j 1) (row t a) := by
  by_cases hB : t.val % 16 = 15
  on_goal 1 => rw [outsAt0_C m c t hA hB]
  on_goal 2 => rw [outsAt0_B m c t hA hB]
  all_goals
    dsimp only
    frame_out
    pointwise [k0_pay1, k0_pay22, k0_pay23, k0_pay7, k0_pay6, k0_pay10, k0_pay11, k0_pay14, k0_pay15, k0_pay19]
    refine congrArg₂ (· + · : EReal → EReal → EReal) rfl (Finset.sum_congr rfl fun a _ =>
      congrArg₂ (· * · : EReal → EReal → EReal) (dx_block m c t _ _ _ _ rfl rfl) ?_)
    exact mapped_cases m c t a (j 1)

theorem scale_reset (c : Dev nD) (t : Fin cfg0.N) (j : S1x1024.Idx) (hA : t.val % 16 = 0) :
    ((outsAt0 m c t.val t.isLt).2.2.1 j : EReal) = 0 + ∑ a : Fin 512, dscale_term m c (j 1) (row t a) := by
  rw [outsAt0_A m c t hA (by omega)]
  dsimp only
  frame_out
  refine Eq.trans ?_ (zero_add _).symm
  pointwise [k0_pay1, k0_pay4, k0_pay22, k0_pay23, k0_pay7, k0_pay6, k0_pay10, k0_pay11, k0_pay14, k0_pay15, k0_pay19]
  refine Finset.sum_congr rfl fun a _ =>
    congrArg₂ (· * · : EReal → EReal → EReal) (dx_block m c t _ _ _ _ rfl rfl) ?_
  exact mapped_cases m c t a (j 1)

theorem final_6 (c : Dev nD) : (dats m 0 c).arrAt 6 (cfgs 0).N = dscale (pooled (argU m c)) (argW m c) (argD m c) := by
  refine (dats m 0 c).arrAt_eq_of_covers 6 _ (by decide +kernel) fun t hf y => ?_
  have hB := (flush0_6 t).mp hf
  blk_simp
  rw [after0_6]
  have hy : ((View.whole main_v84_2).slice (win0_6.rect t)).emb y = y := by blk_ext [idx t]
  rw [hy]
  rw [Pipeline.eq_sum_fin_of_reset_step_apply_last (fun n h => (outsAt0 m c n h).2.2.1) 16 (fun _ => 0)
    (fun t j => ∑ a : Fin 512, dscale_term m c (j 1) (row t a))
    (fun t h j => scale_reset m c t j h) (fun t h j => scale_step m c t j h) (le_of_eq N_0) t (last_point t hB) y, zero_add]
  unfold dscale
  exact Fin.sum_mul_add_congr fun s k hl => rfl

end Cert.PoolGroupIdeal.Value

end
-- ==== Proof.PoolGroupReference.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.PoolGroupBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

set_option maxHeartbeats 4000000 in
open Cert.PoolGroupRefIdeal.Read in
theorem ref_dpooled (x1 : FVec Ideal S4x256x256 .f32) (x2 : FVec Ideal S1024 .f32) (x3 : FVec Ideal S8192x1024 .f32) :
    val_main_v98 (F := Ideal) x1 x2 x3 = dpooled x1 x2 x3 := by
  funext i
  unfold dpooled val_main_v98 val_main_v95 val_main_v94 val_main_v93 val_main_v92 val_main_v90 val_main_v89 val_main_v83
  pointwise

set_option maxHeartbeats 4000000 in
open Cert.PoolGroupRefIdeal.Read in
theorem ref_dweight (x0 : FVec Ideal S8192x1024 .f32) (x2 : FVec Ideal S1024 .f32) (x3 : FVec Ideal S8192x1024 .f32) :
    val_main_v99 (F := Ideal) x0 x2 x3 = dweight (pooled x0) x2 x3 := by
  funext i
  unfold dweight pooled val_main_v99 val_main_v97 val_main_v96 val_main_v93 val_main_v92 val_main_v90 val_main_v89 val_main_v83
  generalize val_main_v79 (F := Ideal) x0 = P
  pointwise
  exact Finset.sum_congr rfl fun r _ => mul_comm _ _

set_option maxHeartbeats 4000000 in
open Cert.PoolGroupRefIdeal.Read in
theorem ref_dscale (x0 : FVec Ideal S8192x1024 .f32) (x1 : FVec Ideal S4x256x256 .f32) (x3 : FVec Ideal S8192x1024 .f32) :
    val_main_v91 (F := Ideal) x0 x1 x3 = fun i => dscale (pooled x0) x1 x3 (ix2 0 (i 0)) := by
  funext i
  unfold dscale pooled val_main_v91 val_main_v88 val_main_v87 val_main_v86 val_main_v82 val_main_v81 val_main_v80 val_main_cst_11 val_main_cst_10
  generalize val_main_v79 (F := Ideal) x0 = P
  pointwise
  rw [Fin.sum_univ_one]
  refine Finset.sum_congr rfl fun r _ => ?_
  rw [mul_comm]
  refine congrArg _ (Finset.sum_congr rfl fun e _ => mul_comm _ _)

end Cert.PoolGroupIdeal.Value

end
-- ==== Proof.PoolGroup.lean ====
/- The group map's gradient -/
module

public import proofs.«01_k».proof.Defs
public import proofs.«01_k».proof.Proof.Gen.PoolGroupIdeal
public import proofs.«01_k».proof.Proof.Gen.PoolGroupIdeal.Frame
public import proofs.«01_k».proof.Proof.Gen.PoolGroupRefIdeal.Read
public import Idealize.ShloMosaic.Lib.Claim
public import Idealize.ShloMosaic.Lib.Pointwise
public import Idealize.ShloMosaic.Lib.Pipeline.ValueKit
public import proofs.«01_k».proof.Proof.PoolGroupRows
public import proofs.«01_k».proof.Proof.PoolGroupWeights
public import proofs.«01_k».proof.Proof.PoolGroupScale
public import proofs.«01_k».proof.Proof.PoolGroupReference
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolGroupIdeal.Value

open Cert.PoolGroupIdeal Cert.PoolGroupIdeal.Gen

variable (m : (ℓ : Loc nD τ sig) → Buf (Elt Ideal) ℓ)

set_option maxHeartbeats 4000000 in
theorem algebraic : Cert.algebraic_PoolGroupIdeal_PoolGroupRefIdeal := by
  pair_intro
  · run_from Cert.PoolGroupIdeal.Gen.run_main m g
    all_goals first | exact V_main_arg0 m c | exact V_main_arg1 m c | exact V_main_arg2 m c | skip
  · run_from Cert.PoolGroupRefIdeal.Value.run m' g'
    · exact (ref_dpooled _ _ _).trans (final_4 m c).symm
    · rw [Cert.PoolGroupRefIdeal.Read.val_main_v99_eq, ref_dweight, final_5]
      obtain ⟨e0, e1, e2, e3⟩ := hagree c
      rw [e0, e2, e3]
    · rw [Cert.PoolGroupRefIdeal.Read.val_main_v100_eq, final_6]
      obtain ⟨e0, e1, e2, e3⟩ := hagree c
      rw [e0, e1, e3]
      unfold Cert.PoolGroupRefIdeal.Read.val_main_v100
      rw [ref_dscale]
      funext i
      unfold dscale
      pointwise

end Cert.PoolGroupIdeal.Value

end
-- ==== Proof.Running.lean ====
/- Sums over windows of rows: the host's running sum, and the telescoping of a difference of two running sums. -/
module

public import Idealize.ShloMosaic.Lib.Pointwise
public import Idealize.ShloMosaic.PureOps.Ideal

@[expose] public section

noncomputable section

open Idealize.ShloMosaic
open scoped BigOperators

namespace Cert.Running

/-- A host window sum, as a sum over the window's positions. -/
theorem window_sum {s : Shape} (window strides lo hi : Fin s.rank → Nat) {t : Shape} (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  have fold : ∀ {ι : Type} (l : List ι) (g : ι → EReal) (z : EReal), l.foldl (fun r n => r + g n) z = z + (l.map g).sum := by
    intro ι l g
    induction l with
    | nil => intro z; simp
    | cons a l ih => intro z; rw [List.foldl_cons, ih, List.map_cons, List.sum_cons, add_assoc]
  unfold Ideal.hostReduceWindowAdd Host.reduceWindow
  dsimp only
  rw [fold, zero_add, ← List.ofFn_eq_map, List.sum_ofFn]
  exact Fintype.sum_equiv (⟨s.rank, window⟩ : Shape).rowMajor.symm _ _ fun _ => by congr

/-- The sum of all the rows from `r` on, as jax writes the gradient of a running sum along the first of three axes. -/
theorem suffix_sum {n p q : ℕ} {hi : Fin 3 → ℕ}
    (h : (⟨3, ![n, p, q]⟩ : Shape).ReduceWindows ![n, 1, 1] ![1, 1, 1] ![0, 0, 0] hi ⟨3, ![n, p, q]⟩)
    (x : (⟨3, ![n, p, q]⟩ : Shape).Idx → EReal) (r : Fin n) (a : Fin p) (b : Fin q) :
    Ideal.hostReduceWindowAdd ![n, 1, 1] ![1, 1, 1] ![0, 0, 0] hi h x 0 (ix3 r a b)
      = ∑ k : Fin n, if hk : (r : ℕ) + k < n then x (ix3 ⟨(r : ℕ) + k, hk⟩ a b) else 0 := by
  rw [window_sum]
  refine (sum_idx3 (n0 := n) (n1 := 1) (n2 := 1) _).trans (Finset.sum_congr rfl fun k _ => ?_)
  rw [Fin.sum_univ_one, Fin.sum_univ_one]
  by_cases hk : (r : ℕ) + k < n
  · rw [dif_pos hk, dif_pos]
    · refine congrArg x (funext fun d => Fin.ext ?_)
      match d with
      | ⟨0, _⟩ => show (r : ℕ) * 1 + k - 0 = r + k; omega
      | ⟨1, _⟩ => show (a : ℕ) * 1 + 0 - 0 = a; omega
      | ⟨2, _⟩ => show (b : ℕ) * 1 + 0 - 0 = b; omega
    · intro d
      match d with
      | ⟨0, _⟩ => exact ⟨Nat.zero_le _, (show (r : ℕ) * 1 + k - 0 < n by omega)⟩
      | ⟨1, _⟩ => exact ⟨Nat.zero_le _, (show (a : ℕ) * 1 + 0 - 0 < p by have := a.isLt; omega)⟩
      | ⟨2, _⟩ => exact ⟨Nat.zero_le _, (show (b : ℕ) * 1 + 0 - 0 < q by have := b.isLt; omega)⟩
  · rw [dif_neg hk, dif_neg]
    intro hin
    have h2 := (hin (0 : Fin 3)).2
    exact hk (by
      have h3 : (r : ℕ) * 1 + k - 0 < n := h2
      omega)

/-- The rows from `r` on of a difference between an array and its shift by `w` leave the first `w` of them. -/
theorem telescope (D : ℕ → ℝ) (n w r : ℕ) (hD : ∀ j, n ≤ j → D j = 0) :
    ∑ k ∈ Finset.range n, (D (r + k) - D (r + k + w)) = ∑ k ∈ Finset.range w, D (r + k) := by
  have h1 := Finset.sum_range_add (fun k => D (r + k)) w n
  have h2 := Finset.sum_range_add (fun k => D (r + k)) n w
  have h3 : ∑ x ∈ Finset.range w, D (r + (n + x)) = 0 := Finset.sum_eq_zero fun x _ => hD _ (by omega)
  rw [h3, add_zero, Nat.add_comm n w, h1] at h2
  rw [Finset.sum_sub_distrib, ← h2, add_sub_assoc]
  rw [show ∑ x ∈ Finset.range n, D (r + (w + x)) = ∑ x ∈ Finset.range n, D (r + x + w) from
    Finset.sum_congr rfl fun x _ => congrArg D (by omega)]
  rw [sub_self, add_zero]

/-- The number of tokens a trailing window of at most 16 holds, as the programs count it: a nonzero real. -/
theorem count (s w : ℕ) (hs : s < 16384) (hw : w ≤ 16) :
    (BitVec.toInt (IntOp.minsi (BitVec.ofNat 32 (s + 1)) (BitVec.ofNat 32 w))) = ((min (s + 1) w : ℕ) : ℤ) := by
  have e1 : (BitVec.ofNat 32 (s + 1)).toInt = ((s + 1 : ℕ) : ℤ) := by
    rw [BitVec.toInt_eq_toNat_cond, BitVec.toNat_ofNat]
    have : (s + 1) % 2 ^ 32 = s + 1 := Nat.mod_eq_of_lt (by omega)
    rw [this, if_pos (by omega)]
  have e2 : (BitVec.ofNat 32 w).toInt = ((w : ℕ) : ℤ) := by
    rw [BitVec.toInt_eq_toNat_cond, BitVec.toNat_ofNat]
    have : w % 2 ^ 32 = w := Nat.mod_eq_of_lt (by omega)
    rw [this, if_pos (by omega)]
  unfold IntOp.minsi
  simp only [BitVec.slt, e1, e2]
  split_ifs with h
  all_goals simp_all
  all_goals omega

end Cert.Running

end
-- ==== Proof.PoolWindowReference.lean ====
/- The gradient of the trailing-window means equals its reference. -/
module

public import proofs.«01_k».proof.Defs
public import proofs.«01_k».proof.Proof.Gen.PoolWindowIdeal
public import proofs.«01_k».proof.Proof.Gen.PoolWindowIdeal.Frame
public import proofs.«01_k».proof.Proof.Gen.PoolWindowRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Gen.Pre_finite_poolwindow
public import proofs.«01_k».proof.Proof.Running

@[expose] public section

set_option maxRecDepth 16384

noncomputable section

open Idealize.ShloMosaic Idealize.ShloMosaic.TcCoe Idealize.SL.Sem
open Idealize.ShloMosaic.Pipeline (Dat)
open scoped BigOperators

namespace Cert.PoolWindowRefIdeal.Read

open Cert.PoolWindowRefIdeal Cert.PoolWindowRefIdeal.Gen

/-- The column of the wide arrays that holds channel `e` of group `g`. -/
abbrev chan (g : Fin 4) (e : Fin 256) : Fin 1024 := ⟨(g : ℕ) * 256 + e, by omega⟩

/-- The width of the trailing window of group `g`. -/
abbrev width (g : Fin 4) : ℕ := ![2, 4, 8, 16] g

/-- What the cotangent at token `s` gives to each token of its window of width `w`; nothing after the last token. -/
def share (x : FVec Ideal S8192x1024 .f32) (q : Fin 1024) (w s : ℕ) : EReal :=
  if h : s < 8192 then Ideal.div (x (ix2 ⟨s, h⟩ q)) (((min (s + 1) w : ℕ) : ℝ) : EReal) else 0

/-- The gradient: the shares of the windows that hold a token, less the token's own cotangent. -/
def window_grad (x : FVec Ideal S8192x1024 .f32) (r : Fin 8192) (q : Fin 1024) (w : ℕ) : EReal :=
  (∑ k ∈ Finset.range w, share x q w (r + k)) - x (ix2 r q)

theorem share_of_lt (x : FVec Ideal S8192x1024 .f32) (q : Fin 1024) (w : ℕ) (hw : w ≤ 16) (s : ℕ) (hs : s < 8192) :
    Ideal.div (x (ix2 ⟨s, hs⟩ q)) (FloatOps.sitofp (F := Ideal) FTy.f32 (IntOp.minsi (IntOp.addi (BitVec.ofNat 32 s) 1#32) (BitVec.ofNat 32 w)))
      = share x q w s := by
  unfold share
  rw [dif_pos hs]
  refine congrArg _ ?_
  have e : IntOp.addi (BitVec.ofNat 32 s) 1#32 = BitVec.ofNat 32 (s + 1) := by
    unfold IntOp.addi
    rw [BitVec.ofNat_add]
  show (((IntOp.minsi (IntOp.addi (BitVec.ofNat 32 s) 1#32) (BitVec.ofNat 32 w)).toInt : ℝ) : EReal) = _
  rw [e, Cert.Running.count s w (by omega) hw]
  push_cast
  rfl

theorem share_at (x : FVec Ideal S8192x1024 .f32) (q q' : Fin 1024) (w : ℕ) (hw : w ≤ 16) (s : ℕ) (hs : s < 8192) (h : q = q') :
    Ideal.div (x (ix2 ⟨s, hs⟩ q)) (FloatOps.sitofp (F := Ideal) FTy.f32 (IntOp.minsi (IntOp.addi (BitVec.ofNat 32 s) 1#32) (BitVec.ofNat 32 w)))
      = share x q' w s := by
  rw [← h]
  exact share_of_lt x q w hw s hs

theorem ref_left (x : FVec Ideal S8192x1024 .f32) (r : Fin 8192) (g : Fin 4) (e : Fin 256) :
    val_main_v139 (F := Ideal) x (ix3 r g e) = - x (ix2 r (chan g e)) := by
  unfold val_main_v139 val_main_v138 val_main_cst_26 val_main_v137 val_main_v136 val_main_v86 val_main_v85 val_main_v124 val_main_v123 val_main_cst_22 val_main_v122 val_main_v121 val_main_v88 val_main_v87 val_main_v109 val_main_v108 val_main_cst_18 val_main_v107 val_main_v106 val_main_v90 val_main_v89 val_main_v95 val_main_cst_14 val_main_v94 val_main_v93 val_main_v92 val_main_v91 val_main_v0
  fin_cases g
  all_goals pointwise
  all_goals exact congrArg (fun q => - x (ix2 r q)) (Fin.ext (by simp))

theorem ref_right (x : FVec Ideal S8192x1024 .f32) (r : Fin 8192) (g : Fin 4) (e : Fin 256) :
    val_main_v150 (F := Ideal) x (ix3 r g e)
      = (if _h : width g + r < 8192 then - share x (chan g e) (width g) (width g + r) else 0) + share x (chan g e) (width g) r := by
  unfold val_main_v150 val_main_v149 val_main_cst_29 val_main_v148 val_main_v147 val_main_v145 val_main_v144 val_main_cst_28 val_main_v143 val_main_cst_27 val_main_v142 val_main_v141 val_main_v140 val_main_v17 val_main_v16 val_main_v15 val_main_v14 val_main_c_1 val_main_v13 val_main_v12 val_main_c val_main_v86 val_main_v85 val_main_v135 val_main_v134 val_main_cst_25 val_main_v133 val_main_v132 val_main_v130 val_main_v129 val_main_cst_24 val_main_v128 val_main_cst_23 val_main_v127 val_main_v126 val_main_v125 val_main_v36 val_main_v35 val_main_v34 val_main_v33 val_main_c_5 val_main_v32 val_main_v31 val_main_c_4 val_main_v88 val_main_v87 val_main_v120 val_main_v119 val_main_cst_21 val_main_v118 val_main_v117 val_main_v115 val_main_v114 val_main_cst_20 val_main_v113 val_main_cst_19 val_main_v112 val_main_v111 val_main_v110 val_main_v55 val_main_v54 val_main_v53 val_main_v52 val_main_c_9 val_main_v51 val_main_v50 val_main_c_8 val_main_v90 val_main_v89 val_main_v105 val_main_cst_17 val_main_v104 val_main_v103 val_main_v101 val_main_v100 val_main_cst_16 val_main_v99 val_main_cst_15 val_main_v98 val_main_v97 val_main_v96 val_main_v74 val_main_v73 val_main_v72 val_main_v71 val_main_c_13 val_main_v70 val_main_v69 val_main_c_12 val_main_v3 val_main_v92 val_main_v91 val_main_v0
  fin_cases g
  all_goals pointwise
  all_goals refine congrArg₂ (· + · : EReal → EReal → EReal) ?_ (share_at x _ _ _ (by decide) _ r.isLt (Fin.ext (by simp)))
  all_goals
    split_ifs with h
    · exact congrArg (fun y : EReal => - y) (share_at x _ _ _ (by decide) _ h (Fin.ext (by simp)))
    · rfl

/-- The shares of a finite cotangent are real. -/
theorem share_real (x : FVec Ideal S8192x1024 .f32) (hx : Cert.Reals.Finite x) (q : Fin 1024) (w : ℕ) (hw : 0 < w) :
    ∃ D : ℕ → ℝ, (∀ s, share x q w s = ((D s : ℝ) : EReal)) ∧ ∀ s, 8192 ≤ s → D s = 0 := by
  refine ⟨fun s => if h : s < 8192 then (x (ix2 ⟨s, h⟩ q)).toReal * (1 / ((min (s + 1) w : ℕ) : ℝ)) else 0, fun s => ?_, fun s hs => ?_⟩
  · unfold share
    by_cases h : s < 8192
    · simp only [dif_pos h]
      obtain ⟨X, rfl⟩ := hx
      rw [Ideal.div_coe (by
        have : 0 < min (s + 1) w := by omega
        exact_mod_cast this.ne'), EReal.toReal_coe, EReal.coe_mul]
    · simp only [dif_neg h]
      rfl
  · exact dif_neg (by omega)

theorem suffix (x : FVec Ideal S8192x1024 .f32) (hx : Cert.Reals.Finite x) (q : Fin 1024) (w : ℕ) (hw : 0 < w) (r : Fin 8192) :
    (∑ k : Fin 8192, if _hk : (r : ℕ) + k < 8192 then
        (if _h : w + (r + k) < 8192 then - share x q w (w + (r + k)) else 0) + share x q w (r + k) else 0)
      = ∑ k ∈ Finset.range w, share x q w (r + k) := by
  obtain ⟨D, hD, hz⟩ := share_real x hx q w hw
  have e : ∀ k : Fin 8192, (if _hk : (r : ℕ) + k < 8192 then
        (if _h : w + (r + k) < 8192 then - share x q w (w + (r + k)) else 0) + share x q w (r + k) else 0)
      = (((D (r + k) - D (r + k + w) : ℝ)) : EReal) := by
    intro k
    split_ifs with h1 h2
    · rw [hD, hD, ← EReal.coe_neg, ← EReal.coe_add]
      refine congrArg _ ?_
      rw [show w + ((r : ℕ) + k) = r + k + w by omega]
      ring
    · rw [hD, hz (r + k + w) (by omega), zero_add, sub_zero]
    · rw [hz (r + k) (by omega), hz (r + k + w) (by omega), sub_zero]
      rfl
  rw [Finset.sum_congr rfl fun k _ => e k, Cert.Reals.coe_sum, Fin.sum_univ_eq_sum_range (fun k => D (r + k) - D (r + k + w)) 8192,
    Cert.Running.telescope D 8192 w r hz]
  rw [Finset.sum_congr rfl fun k _ => hD (r + k)]
  exact (Cert.Reals.coe_sum _ _).symm

theorem ref_value (x : FVec Ideal S8192x1024 .f32) (hx : Cert.Reals.Finite x) (r : Fin 8192) (g : Fin 4) (e : Fin 256) :
    val_main_v154 (F := Ideal) x (ix2 r (chan g e)) = window_grad x r (chan g e) (width g) := by
  have hg : (⟨((g : ℕ) * 256 + e) / 256, by omega⟩ : Fin 4) = g := Fin.ext (show ((g : ℕ) * 256 + e) / 256 = g by omega)
  have he : (⟨((g : ℕ) * 256 + e) % 256, by omega⟩ : Fin 256) = e := Fin.ext (show ((g : ℕ) * 256 + e) % 256 = e by omega)
  have h0 : val_main_call1_call0_v0 (F := Ideal) (Shape.Idx.first h_S_) = 0 := by
    unfold val_main_call1_call0_v0 val_main_call1_call0_cst
    pointwise
  have hw : 0 < width g := by fin_cases g <;> decide
  unfold val_main_v154 val_main_v153 val_main_v152 val_main_v151
  pointwise
  rw [hg, he, ref_left]
  unfold Host.reduceWindowAdd
  rw [Ideal.hostReduceWindowAdd_def, h0, Cert.Running.suffix_sum]
  have e1 := suffix x hx (chan g e) (width g) hw r
  unfold window_grad
  rw [← e1, add_comm, ← sub_eq_add_neg]
  refine congrArg (fun y : EReal => y - x (ix2 r (chan g e))) (Finset.sum_congr rfl fun k _ => ?_)
  split_ifs with h1 h2
  · rw [ref_right, dif_pos h2]
  · rw [ref_right, dif_neg h2]
  · rfl

end Cert.PoolWindowRefIdeal.Read

end
-- ==== Proof.PoolWindow.lean ====
/- The gradient of the trailing-window means equals its reference. -/
module

public import proofs.«01_k».proof.Defs
public import proofs.«01_k».proof.Proof.Gen.PoolWindowIdeal
public import proofs.«01_k».proof.Proof.Gen.PoolWindowIdeal.Frame
public import proofs.«01_k».proof.Proof.Gen.PoolWindowRefIdeal.Read
public import Idealize.ShloMosaic.Lib.Claim
public import Idealize.ShloMosaic.Lib.Pointwise
public import Idealize.ShloMosaic.Lib.Pipeline.ValueKit
public import Idealize.ShloMosaic.Lib.KernelVsHost
public import proofs.«01_k».proof.Proof.Reals
public import proofs.«01_k».proof.Proof.Gen.Pre_finite_poolwindow
public import proofs.«01_k».proof.Proof.Running
public import proofs.«01_k».proof.Proof.PoolWindowReference

@[expose] public section

set_option maxRecDepth 16384

noncomputable section

open Idealize.ShloMosaic Idealize.ShloMosaic.TcCoe Idealize.SL.Sem
open Idealize.ShloMosaic.Pipeline (Dat)
open scoped BigOperators

namespace Cert.PoolWindowIdeal.Value

open Cert.PoolWindowIdeal Cert.PoolWindowIdeal.Gen
open Cert.PoolWindowRefIdeal.Read (chan width share window_grad)

variable (m : (ℓ : Loc nD τ sig) → Buf (Elt Ideal) ℓ)

theorem idx : ∀ t : Fin cfg0.N, win0_0.index t = ![t.val, 0] ∧ win0_1.index t = ![min ((t.val + 1) * 32) 511, 0]
    ∧ win0_2.index t = ![t.val, 0] :=
  (by decide +kernel : ∀ t : Fin grid0.N, _)

abbrev arg (c : Dev nD) : FVec Ideal S8192x1024 .f32 := m ((c : Thread nD τ).loc main_arg1)

theorem own_block (c : Dev nD) (t : Fin cfg0.N) (a : Fin 512) (q : Fin 1024) (r : Fin 8192) (hr : (r : ℕ) = t.val * 512 + a) :
    (iblk m c 0 t (ix2 a q) : EReal) = arg m c (ix2 r q) := by
  blk_point [iblk, V, idx t]

theorem next_block (c : Dev nD) (t : Fin cfg0.N) (a : Fin 16) (q : Fin 1024) (r : Fin 8192) (hr : (r : ℕ) = (t.val + 1) * 512 + a) :
    (iblk m c 1 t (ix2 a q) : EReal) = arg m c (ix2 r q) := by
  blk_point [iblk, V, idx t]

theorem coord (t : Fin cfg0.N) : (grid0.coords t 0).val = t.val :=
  (by decide +kernel : ∀ t : Fin grid0.N, (grid0.coords t 0).val = t.val) t

/-- One step of the doubling: sums of `k` rows, added to themselves `k` rows further on, are sums of `2 k` rows. -/
theorem double {F : Fin 256 → ℕ → EReal} {k : ℕ} {B : FVec Ideal S528x256 .f32}
    (hB : ∀ (n : Fin 528) (e : Fin 256), (n : ℕ) + k ≤ 528 → (B (ix2 n e) : EReal) = ∑ j ∈ Finset.range k, F e (n + j))
    (s : BitVec 32) (hk : 0 < k ∧ k < 528) (hs : s.toNat = 528 - k) (hr : S528x256.Rotates 0 none) (n : Fin 528) (e : Fin 256)
    (hn : (n : ℕ) + 2 * k ≤ 528) :
    (addf B (dynamicRotate 0 s none B hr) (ix2 n e) : EReal) = ∑ j ∈ Finset.range (2 * k), F e (n + j) := by
  have e1 : dynamicRotate 0 s none B hr (ix2 n e) = B (ix2 ⟨(n : ℕ) + k, by omega⟩ e) := by
    refine dynamicRotate_apply 0 s B hr _ _ fun b => ?_
    match b with
    | ⟨0, _⟩ =>
      show (n : ℕ) + k = ((n : ℕ) + 528 - s.toNat % 528) % 528
      rw [hs]
      omega
    | ⟨1, _⟩ => rfl
  show (B (ix2 n e) : EReal) + dynamicRotate 0 s none B hr (ix2 n e) = _
  rw [e1, hB n e (by omega), hB _ e (by show (n : ℕ) + k + k ≤ 528; omega), two_mul, Finset.sum_range_add]
  refine congrArg _ (Finset.sum_congr rfl fun j _ => congrArg (F e) ?_)
  show (n : ℕ) + k + j = n + (k + j)
  omega

/-- The number of tokens that the window of row `n` of a block holds, as the kernel computes it. -/
abbrev held (i : grid0.Coords) (n : Fin 528) (w : BitVec 32) : BitVec 32 :=
  IntOp.minsi (IntOp.addi (IntOp.addi (Scalar.muli (BitVec.ofNat 32 (i 0).val) 512#32) (BitVec.ofNat 32 n)) 1#32) w

theorem pay6_apply (i : grid0.Coords) (v25 : Vec Ideal S16x1024 .f32) (v28 : Vec Ideal S512x1024 .f32) (a : Fin 512) (e : Fin 256) (F : Fin 256 → ℕ → EReal)
    (hF : ∀ (n : Fin 528) (e : Fin 256), Ideal.div (k0_pay5 (F := Ideal) i v25 v28 (ix2 n (chan 0 e))) (FloatOps.sitofp (F := Ideal) .f32 (held i n 2#32)) = F e n) :
    (k0_pay6 (F := Ideal) i v25 v28 (ix2 a e) : EReal) = (∑ j ∈ Finset.range 2, F e ((a : ℕ) + j)) - k0_pay5 (F := Ideal) i v25 v28 (ix2 ⟨a, by omega⟩ (chan 0 e)) := by
  unfold k0_pay6
  dsimp only
  generalize k0_pay5 (F := Ideal) i v25 v28 = E at hF ⊢
  generalize hA : divf (F := Ideal) _ _ = A1
  have h1 : ∀ (n : Fin 528) (e : Fin 256), (n : ℕ) + 1 ≤ 528 → (A1 (ix2 n e) : EReal) = ∑ j ∈ Finset.range 1, F e (n + j) := by
    intro n e _
    rw [← hA, Finset.sum_range_one]
    refine Eq.trans ?_ (hF n e)
    pointwise [k0_pay1, held]
    all_goals first | rfl | exact congrArg (fun q => Ideal.div (E (ix2 n q)) _) (Fin.ext (by simp))
  have h2 := double h1 527#32 (by decide) (by decide) rotates_S528x256_d0
  generalize addf A1 (dynamicRotate 0 527#32 none A1 rotates_S528x256_d0) = A2 at h2 ⊢
  pointwise
  exact congrArg₂ (· - · : EReal → EReal → EReal) (h2 ⟨a, by omega⟩ e (show (a : ℕ) + 2 ≤ 528 by omega)) (congrArg (fun q => E (ix2 ⟨(a : ℕ), by omega⟩ q)) (Fin.ext (by simp)))

theorem pay7_apply (v : FVec Ideal S528x1 .f32) (E : FVec Ideal S528x1024 .f32) (a : Fin 512) (e : Fin 256) (F : Fin 256 → ℕ → EReal)
    (hF : ∀ (n : Fin 528) (e : Fin 256), Ideal.div (E (ix2 n (chan 1 e))) (v (ix2 n 0)) = F e n) :
    (k0_pay7 (F := Ideal) v E (ix2 a e) : EReal) = (∑ j ∈ Finset.range 4, F e ((a : ℕ) + j)) - E (ix2 ⟨a, by omega⟩ (chan 1 e)) := by
  unfold k0_pay7
  dsimp only
  generalize hA : divf (F := Ideal) _ _ = A1
  have h1 : ∀ (n : Fin 528) (e : Fin 256), (n : ℕ) + 1 ≤ 528 → (A1 (ix2 n e) : EReal) = ∑ j ∈ Finset.range 1, F e (n + j) := by
    intro n e _
    rw [← hA, Finset.sum_range_one]
    refine Eq.trans ?_ (hF n e)
    pointwise [k0_pay1, held]
    all_goals first | rfl | exact congrArg (fun q => Ideal.div (E (ix2 n q)) _) (Fin.ext (by simp))
  have h2 := double h1 527#32 (by decide) (by decide) rotates_S528x256_d0
  generalize addf A1 (dynamicRotate 0 527#32 none A1 rotates_S528x256_d0) = A2 at h2 ⊢
  have h4 := double h2 526#32 (by decide) (by decide) rotates_S528x256_d0
  generalize addf A2 (dynamicRotate 0 526#32 none A2 rotates_S528x256_d0) = A4 at h4 ⊢
  pointwise
  exact congrArg₂ (· - · : EReal → EReal → EReal) (h4 ⟨a, by omega⟩ e (show (a : ℕ) + 4 ≤ 528 by omega)) (congrArg (fun q => E (ix2 ⟨(a : ℕ), by omega⟩ q)) (Fin.ext (by simp)))

theorem pay8_apply (v : FVec Ideal S528x1 .f32) (E : FVec Ideal S528x1024 .f32) (a : Fin 512) (e : Fin 256) (F : Fin 256 → ℕ → EReal)
    (hF : ∀ (n : Fin 528) (e : Fin 256), Ideal.div (E (ix2 n (chan 2 e))) (v (ix2 n 0)) = F e n) :
    (k0_pay8 (F := Ideal) v E (ix2 a e) : EReal) = (∑ j ∈ Finset.range 8, F e ((a : ℕ) + j)) - E (ix2 ⟨a, by omega⟩ (chan 2 e)) := by
  unfold k0_pay8
  dsimp only
  generalize hA : divf (F := Ideal) _ _ = A1
  have h1 : ∀ (n : Fin 528) (e : Fin 256), (n : ℕ) + 1 ≤ 528 → (A1 (ix2 n e) : EReal) = ∑ j ∈ Finset.range 1, F e (n + j) := by
    intro n e _
    rw [← hA, Finset.sum_range_one]
    refine Eq.trans ?_ (hF n e)
    pointwise [k0_pay1, held]
    all_goals first | rfl | exact congrArg (fun q => Ideal.div (E (ix2 n q)) _) (Fin.ext (by simp))
  have h2 := double h1 527#32 (by decide) (by decide) rotates_S528x256_d0
  generalize addf A1 (dynamicRotate 0 527#32 none A1 rotates_S528x256_d0) = A2 at h2 ⊢
  have h4 := double h2 526#32 (by decide) (by decide) rotates_S528x256_d0
  generalize addf A2 (dynamicRotate 0 526#32 none A2 rotates_S528x256_d0) = A4 at h4 ⊢
  have h8 := double h4 524#32 (by decide) (by decide) rotates_S528x256_d0
  generalize addf A4 (dynamicRotate 0 524#32 none A4 rotates_S528x256_d0) = A8 at h8 ⊢
  pointwise
  exact congrArg₂ (· - · : EReal → EReal → EReal) (h8 ⟨a, by omega⟩ e (show (a : ℕ) + 8 ≤ 528 by omega)) (congrArg (fun q => E (ix2 ⟨(a : ℕ), by omega⟩ q)) (Fin.ext (by simp)))

theorem pay9_apply (v : FVec Ideal S528x1 .f32) (E : FVec Ideal S528x1024 .f32) (a : Fin 512) (e : Fin 256) (F : Fin 256 → ℕ → EReal)
    (hF : ∀ (n : Fin 528) (e : Fin 256), Ideal.div (E (ix2 n (chan 3 e))) (v (ix2 n 0)) = F e n) :
    (k0_pay9 (F := Ideal) v E (ix2 a e) : EReal) = (∑ j ∈ Finset.range 16, F e ((a : ℕ) + j)) - E (ix2 ⟨a, by omega⟩ (chan 3 e)) := by
  unfold k0_pay9
  dsimp only
  generalize hA : divf (F := Ideal) _ _ = A1
  have h1 : ∀ (n : Fin 528) (e : Fin 256), (n : ℕ) + 1 ≤ 528 → (A1 (ix2 n e) : EReal) = ∑ j ∈ Finset.range 1, F e (n + j) := by
    intro n e _
    rw [← hA, Finset.sum_range_one]
    refine Eq.trans ?_ (hF n e)
    pointwise [k0_pay1, held]
    all_goals first | rfl | exact congrArg (fun q => Ideal.div (E (ix2 n q)) _) (Fin.ext (by simp))
  have h2 := double h1 527#32 (by decide) (by decide) rotates_S528x256_d0
  generalize addf A1 (dynamicRotate 0 527#32 none A1 rotates_S528x256_d0) = A2 at h2 ⊢
  have h4 := double h2 526#32 (by decide) (by decide) rotates_S528x256_d0
  generalize addf A2 (dynamicRotate 0 526#32 none A2 rotates_S528x256_d0) = A4 at h4 ⊢
  have h8 := double h4 524#32 (by decide) (by decide) rotates_S528x256_d0
  generalize addf A4 (dynamicRotate 0 524#32 none A4 rotates_S528x256_d0) = A8 at h8 ⊢
  have h16 := double h8 520#32 (by decide) (by decide) rotates_S528x256_d0
  generalize addf A8 (dynamicRotate 0 520#32 none A8 rotates_S528x256_d0) = A16 at h16 ⊢
  pointwise
  exact congrArg₂ (· - · : EReal → EReal → EReal) (h16 ⟨a, by omega⟩ e (show (a : ℕ) + 16 ≤ 528 by omega)) (congrArg (fun q => E (ix2 ⟨(a : ℕ), by omega⟩ q)) (Fin.ext (by simp)))

theorem pay2_apply (i : grid0.Coords) (n : Fin 528) : k0_pay2 (F := Ideal) i (ix2 n 0) = FloatOps.sitofp (F := Ideal) .f32 (held i n 4#32) := by
  pointwise [k0_pay2, k0_pay1]
theorem pay3_apply (i : grid0.Coords) (n : Fin 528) : k0_pay3 (F := Ideal) i (ix2 n 0) = FloatOps.sitofp (F := Ideal) .f32 (held i n 8#32) := by
  pointwise [k0_pay3, k0_pay1]
theorem pay4_apply (i : grid0.Coords) (n : Fin 528) : k0_pay4 (F := Ideal) i (ix2 n 0) = FloatOps.sitofp (F := Ideal) .f32 (held i n 16#32) := by
  pointwise [k0_pay4, k0_pay1]

theorem ext_share (c : Dev nD) (t : Fin cfg0.N) (n : Fin 528) (q : Fin 1024) (w : ℕ) (hw : w ≤ 16) (hw0 : 0 < w) :
    Ideal.div (k0_pay5 (F := Ideal) (grid0.coords t) (View.ld (iblk m c 1 t) r0_0) (View.ld (iblk m c 0 t) r0_1) (ix2 n q))
        (FloatOps.sitofp (F := Ideal) .f32 (held (grid0.coords t) n (BitVec.ofNat 32 w)))
      = share (arg m c) q w (t.val * 512 + n) := by
  have ht := lt_of_lt_of_eq t.isLt N_0
  have hword : (FloatOps.sitofp (F := Ideal) FTy.f32 (held (grid0.coords t) n (BitVec.ofNat 32 w)))
      = (((min (t.val * 512 + n + 1) w : ℕ) : ℝ) : EReal) := by
    unfold held
    rw [coord t]
    have e : IntOp.addi (IntOp.addi (Scalar.muli (BitVec.ofNat 32 t.val) 512#32) (BitVec.ofNat 32 n)) 1#32
        = BitVec.ofNat 32 (t.val * 512 + n + 1) := by
      unfold IntOp.addi Scalar.muli IntOp.muli
      rw [BitVec.ofNat_add, BitVec.ofNat_add, BitVec.ofNat_mul]
    rw [e]
    show (((IntOp.minsi _ _).toInt : ℝ) : EReal) = _
    rw [Cert.Running.count _ w (by omega) hw]
    push_cast
    rfl
  rw [hword]
  unfold share
  pointwise [k0_pay5]
  rw [coord t]
  by_cases h1 : (n : ℕ) < 512
  · rw [dif_pos h1, dif_pos (by omega)]
    exact congrArg (fun z => Ideal.div z _) (own_block m c t _ _ _ rfl)
  · rw [dif_neg h1]
    by_cases h2 : t.val = 15
    · have e : Scalar.cmpi .eq (BitVec.ofNat 32 t.val) 15#32 = 1#1 := by rw [h2]; decide
      rw [e, dif_neg (by omega), Ideal.div_coe (by
        have : 0 < min (t.val * 512 + n + 1) w := by omega
        exact_mod_cast this.ne')]
      exact zero_mul _
    · have e : Scalar.cmpi .eq (BitVec.ofNat 32 t.val) 15#32 = 0#1 := by
        have : ∀ v : Fin 16, v.val ≠ 15 → Scalar.cmpi .eq (BitVec.ofNat 32 v.val) 15#32 = 0#1 := by decide
        exact this ⟨t.val, ht⟩ h2
      rw [e, dif_pos (by omega)]
      exact congrArg (fun z => Ideal.div z _) (next_block m c t _ _ _ (show t.val * 512 + n = (t.val + 1) * 512 + (n - 512) by omega))

theorem ext_own (c : Dev nD) (t : Fin cfg0.N) (n : Fin 528) (a : Fin 512) (hn : (n : ℕ) = a) (q : Fin 1024) (r : Fin 8192) (hr : (r : ℕ) = t.val * 512 + a) :
    (k0_pay5 (F := Ideal) (grid0.coords t) (View.ld (iblk m c 1 t) r0_0) (View.ld (iblk m c 0 t) r0_1) (ix2 n q) : EReal)
      = arg m c (ix2 r q) := by
  pointwise [k0_pay5]
  rw [dif_pos (by omega)]
  exact own_block m c t _ _ _ (by rw [hr]; simp [hn])

theorem grad_at (c : Dev nD) (t : Fin cfg0.N) (a : Fin 512) (g : Fin 4) (e : Fin 256) (r : Fin 8192) (hr : (r : ℕ) = t.val * 512 + a)
    (q : Fin 1024) (hq : (q : ℕ) = g * 256 + e) (z : EReal) (hz : z = arg m c (ix2 r (chan g e))) (w : ℕ) (hw : w = width g) :
    (∑ j ∈ Finset.range w, share (arg m c) (chan g e) w (t.val * 512 + ((a : ℕ) + j))) - z
      = window_grad (arg m c) r q (width ⟨(q : ℕ) / 256, by omega⟩) := by
  have e1 : (⟨(q : ℕ) / 256, by omega⟩ : Fin 4) = g := Fin.ext (show (q : ℕ) / 256 = g by omega)
  have e2 : q = chan g e := Fin.ext hq
  rw [e1, e2, hz, hw]
  unfold window_grad
  refine congrArg (fun y : EReal => y - _) (Finset.sum_congr rfl fun j _ => congrArg _ ?_)
  rw [hr]
  omega

theorem point (c : Dev nD) (t : Fin cfg0.N) (y : S512x1024.Idx) (r : Fin 8192) (hr : (r : ℕ) = t.val * 512 + y 0) (q : Fin 1024)
    (hq : (q : ℕ) = y 1) :
    (out0_2 (grid0.coords t) (iblk m c 0 t) (iblk m c 1 t) y : EReal)
      = window_grad (arg m c) r q (width ⟨(q : ℕ) / 256, by omega⟩) := by
  unfold out0_2 k0_pay10
  canon_tiles x h
  all_goals obtain ⟨a, e, rfl⟩ : ∃ (a : Fin 512) (e : Fin 256), x = ix2 a e := ⟨x 0, x 1, (ix2_eta x).symm⟩
  all_goals have h0' : (y 0 : ℕ) = a := h0
  · have h1' : (y 1 : ℕ) = 768 + e := h1
    exact (pay9_apply _ _ a e (fun e n => share (arg m c) (chan 3 e) 16 (t.val * 512 + n))
      (fun n e => (congrArg (Ideal.div _) (pay4_apply _ n)).trans (ext_share m c t n _ 16 (by decide) (by decide)))).trans
      (grad_at m c t a 3 e r (by omega) q (by show (q : ℕ) = 3 * 256 + e; omega) _ (ext_own m c t _ a rfl _ r (by omega)) 16 rfl)
  · have h1' : (y 1 : ℕ) = 512 + e := h1
    exact (pay8_apply _ _ a e (fun e n => share (arg m c) (chan 2 e) 8 (t.val * 512 + n))
      (fun n e => (congrArg (Ideal.div _) (pay3_apply _ n)).trans (ext_share m c t n _ 8 (by decide) (by decide)))).trans
      (grad_at m c t a 2 e r (by omega) q (by show (q : ℕ) = 2 * 256 + e; omega) _ (ext_own m c t _ a rfl _ r (by omega)) 8 rfl)
  · have h1' : (y 1 : ℕ) = 256 + e := h1
    exact (pay7_apply _ _ a e (fun e n => share (arg m c) (chan 1 e) 4 (t.val * 512 + n))
      (fun n e => (congrArg (Ideal.div _) (pay2_apply _ n)).trans (ext_share m c t n _ 4 (by decide) (by decide)))).trans
      (grad_at m c t a 1 e r (by omega) q (by show (q : ℕ) = 1 * 256 + e; omega) _ (ext_own m c t _ a rfl _ r (by omega)) 4 rfl)
  · have h1' : (y 1 : ℕ) = e := h1
    exact (pay6_apply _ _ _ a e (fun e n => share (arg m c) (chan 0 e) 2 (t.val * 512 + n))
      (fun n e => ext_share m c t n _ 2 (by decide) (by decide))).trans
      (grad_at m c t a 0 e r (by omega) q (by show (q : ℕ) = 0 * 256 + e; omega) _ (ext_own m c t _ a rfl _ r (by omega)) 2 rfl)

/-- The whole gradient. -/
def grad (x : FVec Ideal S8192x1024 .f32) : FVec Ideal S8192x1024 .bf16 :=
  fun i => window_grad x (i 0) (i 1) (width ⟨(i 1 : ℕ) / 256, by have : (i 1 : ℕ) < 1024 := (i 1).isLt; omega⟩)

theorem final (c : Dev nD) : (dats m 0 c).arrAt 2 (cfgs 0).N = grad (arg m c) := by
  refine (dats m 0 c).arrAt_eq_of_covers 2 _ (by decide +kernel) fun t hf y => ?_
  blk_simp
  rw [after0_2]
  exact point m c t y _ (by blk_simp [idx t]) _ (by blk_simp [idx t])

theorem finite_args (h : Cert.Pre_PoolWindowIdeal_finite_poolwindow m) (c : Dev nD) :
    Cert.Reals.Finite (s := S8192x1024) (φ := .f32) (m ((c : Thread nD τ).loc main_arg1)) := by
  have h0 := congrFun (h c) (fun a => a.elim0)
  unfold Cert.Pre_finite_poolwindow.fn at h0
  exact Cert.Reals.finite_of_all _ _ _ _ _ _ h0

theorem algebraic : Cert.algebraic_PoolWindowIdeal_PoolWindowRefIdeal_pre_finite_poolwindow := by
  pair_intro
  · run_from Cert.PoolWindowIdeal.Gen.run_main m g
  · run_from Cert.PoolWindowRefIdeal.Value.run m' g'
    refine (Cert.PoolWindowRefIdeal.Read.val_main_v154_eq _).trans ?_
    rw [final]
    have hx : Cert.Reals.Finite (arg m c) := finite_args m hpre c
    refine (congrArg _ (hagree c).2).trans ?_
    funext i
    have hi : (i 1 : ℕ) < 1024 := (i 1).isLt
    have e : i = ix2 (i 0) (chan ⟨(i 1 : ℕ) / 256, by omega⟩ ⟨(i 1 : ℕ) % 256, by omega⟩) := by
      refine (ix2_eta i).symm.trans (congrArg (ix2 (i 0)) (Fin.ext ?_))
      show (i 1 : ℕ) = (i 1 : ℕ) / 256 * 256 + (i 1 : ℕ) % 256
      omega
    refine (congrArg _ e).trans ((Cert.PoolWindowRefIdeal.Read.ref_value _ hx _ _ _).trans ?_)
    unfold grad
    exact congrArg (fun q => window_grad _ _ q _) (Fin.ext (show (i 1 : ℕ) / 256 * 256 + (i 1 : ℕ) % 256 = i 1 by omega))

end Cert.PoolWindowIdeal.Value

end
-- ==== Proof.QkNormBlock.lean ====
/- One block of the head normalisations' gradient as its rows' gradients. -/
module

public import proofs.«01_k».proof.Defs
public import proofs.«01_k».proof.Proof.Gen.QkNormBwdIdeal
public import proofs.«01_k».proof.Proof.Gen.QkNormBwdIdeal.Frame
public import proofs.«01_k».proof.Proof.Gen.QkNormBwdRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.Gen.Pre_finite_qknorm

@[expose] public section

set_option maxRecDepth 16384

noncomputable section

open Idealize.ShloMosaic Idealize.ShloMosaic.TcCoe Idealize.SL.Sem
open Idealize.ShloMosaic.Pipeline (Dat)
open scoped BigOperators

namespace Cert.QkNormBwdIdeal.Value

open Cert.QkNormBwdIdeal Cert.QkNormBwdIdeal.Gen

variable (m : (ℓ : Loc nD τ sig) → Buf (Elt Ideal) ℓ)

/-- The lane of an element of one of the two heads that a block's lanes hold. -/
abbrev lane (b : Fin 2) (e : Fin 64) : Fin 128 := ⟨64 * b + e, by omega⟩

/-- The width of a head, the small constant under the root, and the queries' scale, as the programs spell them. -/
abbrev W : EReal := Ideal.ofBits .f32 0x42800000#32
abbrev E : EReal := Ideal.ofBits .f32 0x358637BD#32
abbrev A : EReal := Ideal.ofBits .f32 0x3E000000#32

theorem mask (x : Fin 128) : IntOp.cmpi CmpIPredicate.slt (BitVec.ofNat 32 x) 64#32 = if (x : ℕ) < 64 then 1#1 else 0#1 :=
  (by decide : ∀ x : Fin 128, IntOp.cmpi CmpIPredicate.slt (BitVec.ofNat 32 x) 64#32 = if (x : ℕ) < 64 then 1#1 else 0#1) x

/-- The two masked sums of a row, each lane taking its own head's: the sum over the lane's head. -/
theorem half_sum (f : Fin 128 → EReal) (b : Fin 2) (e : Fin 64) :
    Scalar.select (IntOp.cmpi CmpIPredicate.slt (BitVec.ofNat 32 (64 * b + e)) 64#32)
      (∑ x : Fin 128, Scalar.select (IntOp.cmpi CmpIPredicate.slt (BitVec.ofNat 32 x) 64#32) (f x) 0)
      (∑ x : Fin 128, Scalar.select (IntOp.cmpi CmpIPredicate.slt (BitVec.ofNat 32 x) 64#32) 0 (f x))
      = ∑ k : Fin 64, f (lane b k) := by
  have split : ∀ g : Fin 128 → EReal, ∑ x : Fin 128, g x = (∑ k : Fin 64, g (lane 0 k)) + ∑ k : Fin 64, g (lane 1 k) := by
    intro g
    refine (Fin.sum_univ_add (a := 64) (b := 64) g).trans (congrArg₂ (· + · : EReal → EReal → EReal) ?_ ?_)
    · exact Finset.sum_congr rfl fun k _ => congrArg g (Fin.ext (by simp [lane]))
    · exact Finset.sum_congr rfl fun k _ => congrArg g (Fin.ext (by simp [lane]; omega))
  have low : ∀ k : Fin 64, IntOp.cmpi CmpIPredicate.slt (BitVec.ofNat 32 (lane 0 k : Fin 128)) 64#32 = 1#1 := fun k => by
    rw [mask, if_pos (by simp [lane])]
  have high : ∀ k : Fin 64, IntOp.cmpi CmpIPredicate.slt (BitVec.ofNat 32 (lane 1 k : Fin 128)) 64#32 = 0#1 := fun k => by
    rw [mask, if_neg (by simp [lane])]
  rw [split, split]
  simp only [low, high]
  match b with
  | 0 =>
    rw [show BitVec.ofNat 32 (64 * ((0 : Fin 2) : ℕ) + e) = BitVec.ofNat 32 (lane 0 e : Fin 128) from rfl, low]
    simp [Scalar.select]
  | 1 =>
    rw [show BitVec.ofNat 32 (64 * ((1 : Fin 2) : ℕ) + e) = BitVec.ofNat 32 (lane 1 e : Fin 128) from rfl, high]
    simp [Scalar.select]

theorem over_width (x : EReal) : x * Ideal.ofBits .f32 0x3C800000#32 = Ideal.div x W := by
  unfold W
  rw [Cert.Reals.inv_head_width, Cert.Reals.head_width, Ideal.div_coe (by norm_num)]

/-- One over the root of the mean square of a lane's head. -/
theorem inv_apply (t : FVec Ideal S1024x128 .f32) (a : Fin 1024) (b : Fin 2) (e : Fin 64) :
    (k0_pay4 (F := Ideal) t (ix2 a (lane b e)) : EReal) = Cert.Norm.inv W E (fun k : Fin 64 => t (ix2 a (lane b k))) := by
  unfold Cert.Norm.inv Cert.Norm.mean_square
  pointwise [k0_pay4, k0_pay3]
  rw [half_sum (fun x => t (ix2 a x) * t (ix2 a x)), over_width]

theorem inv_apply' (t : FVec Ideal S1024x128 .f32) (a : Fin 1024) (b : Fin 2) (e : Fin 64) :
    (k0_pay13 (F := Ideal) t (ix2 a (lane b e)) : EReal) = Cert.Norm.inv W E (fun k : Fin 64 => t (ix2 a (lane b k))) :=
  inv_apply t a b e

/-- What a block of the queries' gradient holds. -/
theorem query_apply (t d : FVec Ideal S1024x128 .f32) (g : FVec Ideal S1x128 .f32) (a : Fin 1024) (b : Fin 2) (e : Fin 64) :
    (k0_pay19 (k0_pay10 (F := Ideal) k0_pay3 (k0_pay4 t) (k0_pay5 t) (k0_pay6 g d) (k0_pay8 t g d) (k0_pay9 t g d)) (ix2 a (lane b e)) : EReal)
      = Cert.Norm.spread W E (fun k : Fin 64 => t (ix2 a (lane b k))) (fun k => d (ix2 a (lane b k)) * A * g (ix2 0 (lane b k))) e := by
  unfold Cert.Norm.spread
  pointwise [k0_pay19, k0_pay10, k0_pay9, k0_pay8, k0_pay7, k0_pay6, k0_pay5, k0_pay3, k0_pay2]
  have h := half_sum (fun x => d (ix2 a x) * A * g (ix2 0 x) * (t (ix2 a x) * (k0_pay4 (F := Ideal) t (ix2 a x) : EReal))) b e
  simp only [inv_apply] at h
  exact congrArg₂ (· * · : EReal → EReal → EReal) (inv_apply t a b e) (congrArg₂ (· - · : EReal → EReal → EReal) rfl
    (congrArg₂ (· * · : EReal → EReal → EReal) (congrArg (t (ix2 a (lane b e)) * ·) (inv_apply t a b e))
      ((congrArg (· * Ideal.ofBits .f32 0x3C800000#32) h).trans (over_width _))))

/-- What a block of the keys' gradient holds. -/
theorem key_apply (t d : FVec Ideal S1024x128 .f32) (g : FVec Ideal S1x128 .f32) (a : Fin 1024) (b : Fin 2) (e : Fin 64) :
    (k0_pay20 (F := Ideal) k0_pay12 (k0_pay13 t) (k0_pay14 t) (k0_pay15 g d) (k0_pay16 t g d) k0_pay17 (ix2 a (lane b e)) : EReal)
      = Cert.Norm.spread W E (fun k : Fin 64 => t (ix2 a (lane b k))) (fun k => d (ix2 a (lane b k)) * g (ix2 0 (lane b k))) e := by
  unfold Cert.Norm.spread
  pointwise [k0_pay20, k0_pay12, k0_pay14, k0_pay15, k0_pay16, k0_pay17]
  have h := half_sum (fun x => d (ix2 a x) * g (ix2 0 x) * (t (ix2 a x) * (k0_pay13 (F := Ideal) t (ix2 a x) : EReal))) b e
  simp only [inv_apply'] at h
  exact congrArg₂ (· * · : EReal → EReal → EReal) (inv_apply' t a b e) (congrArg₂ (· - · : EReal → EReal → EReal) rfl
    (congrArg₂ (· * · : EReal → EReal → EReal) (congrArg (t (ix2 a (lane b e)) * ·) (inv_apply' t a b e))
      ((congrArg (· * Ideal.ofBits .f32 0x3C800000#32) h).trans (over_width _))))

/-- What a block of rows adds to the queries' gain gradient. -/
theorem query_gain_apply (t d : FVec Ideal S1024x128 .f32) (v : FVec Ideal S1x128 .f32) (b : Fin 2) (e : Fin 64) :
    (k0_pay24 (F := Ideal) (k0_pay11 (k0_pay2 d) (k0_pay5 t)) v (ix2 0 (lane b e)) : EReal)
      = v (ix2 0 (lane b e)) + ∑ a : Fin 1024, d (ix2 a (lane b e)) * A
        * (t (ix2 a (lane b e)) * Cert.Norm.inv W E (fun k : Fin 64 => t (ix2 a (lane b k)))) := by
  pointwise [k0_pay24, k0_pay11, k0_pay2, k0_pay5]
  simp only [inv_apply]

/-- What a block of rows adds to the keys' gain gradient. -/
theorem key_gain_apply (t d : FVec Ideal S1024x128 .f32) (v : FVec Ideal S1x128 .f32) (b : Fin 2) (e : Fin 64) :
    (k0_pay1 (F := Ideal) (k0_pay18 d (k0_pay14 t)) v (ix2 0 (lane b e)) : EReal)
      = v (ix2 0 (lane b e)) + ∑ a : Fin 1024, d (ix2 a (lane b e))
        * (t (ix2 a (lane b e)) * Cert.Norm.inv W E (fun k : Fin 64 => t (ix2 a (lane b k)))) := by
  pointwise [k0_pay1, k0_pay18, k0_pay14]
  simp only [inv_apply']

end Cert.QkNormBwdIdeal.Value

end
-- ==== Proof.QkNormArrays.lean ====
/- The arrays the gradient of the head normalisations leaves. -/
module

public import proofs.«01_k».proof.Defs
public import proofs.«01_k».proof.Proof.Gen.QkNormBwdIdeal
public import proofs.«01_k».proof.Proof.Gen.QkNormBwdIdeal.Frame
public import proofs.«01_k».proof.Proof.Gen.QkNormBwdRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.QkNormBlock
public import proofs.«01_k».proof.Proof.Gen.Pre_finite_qknorm

@[expose] public section

set_option maxRecDepth 16384

noncomputable section

open Idealize.ShloMosaic Idealize.ShloMosaic.TcCoe Idealize.SL.Sem
open Idealize.ShloMosaic.Pipeline (Dat)
open scoped BigOperators

namespace Cert.QkNormBwdIdeal.Value

open Cert.QkNormBwdIdeal Cert.QkNormBwdIdeal.Gen

variable (m : (ℓ : Loc nD τ sig) → Buf (Elt Ideal) ℓ)

theorem idx : ∀ t : Fin cfg0.N, win0_0.index t = ![t.val / 8, t.val % 8] ∧ win0_1.index t = ![t.val / 8, 8 + t.val % 8]
    ∧ win0_2.index t = ![t.val / 8, t.val % 8] ∧ win0_3.index t = ![t.val / 8, t.val % 8] ∧ win0_4.index t = ![t.val / 8, t.val % 8]
    ∧ win0_5.index t = ![0, 0] ∧ win0_6.index t = ![0, 0] ∧ win0_7.index t = ![t.val / 8, t.val % 8]
    ∧ win0_8.index t = ![t.val / 8, t.val % 8] ∧ win0_9.index t = ![t.val / 8, t.val % 8] ∧ win0_10.index t = ![0, 0] ∧ win0_11.index t = ![0, 0] :=
  (by decide +kernel : ∀ t : Fin grid0.N, _)

/-- The column of an element of a head among the queries (`o = 0`) or the keys (`o = 1`) of the fused projection, and among its own. -/
abbrev col (o : Fin 2) (h : Fin 16) (k : Fin 64) : Fin 3072 := ⟨1024 * o + 64 * h + k, by omega⟩
abbrev pos (h : Fin 16) (k : Fin 64) : Fin 1024 := ⟨64 * h + k, by omega⟩

/-- The arguments. -/
abbrev qkv (c : Dev nD) : FVec Ideal S8192x3072 .f32 := m ((c : Thread nD τ).loc main_arg0)
abbrev query_gain (c : Dev nD) : FVec Ideal S64 .f32 := m ((c : Thread nD τ).loc main_arg1)
abbrev key_gain (c : Dev nD) : FVec Ideal S64 .f32 := m ((c : Thread nD τ).loc main_arg2)
abbrev dq (c : Dev nD) : FVec Ideal S8192x1024 .f32 := m ((c : Thread nD τ).loc main_arg3)
abbrev dk (c : Dev nD) : FVec Ideal S8192x1024 .f32 := m ((c : Thread nD τ).loc main_arg4)
abbrev dv (c : Dev nD) : FVec Ideal S8192x1024 .f32 := m ((c : Thread nD τ).loc main_arg5)

/-- One head of a row before its normalisation. -/
def row (x : FVec Ideal S8192x3072 .f32) (o : Fin 2) (r : Fin 8192) (h : Fin 16) : Fin 64 → EReal := fun k => x (ix2 r (col o h k))

/-- The cotangent of a normalised head times its gain: the queries' is scaled, the keys' is not. -/
def query_cot (d : FVec Ideal S8192x1024 .f32) (r : Fin 8192) (h : Fin 16) (k : Fin 64) : EReal := d (ix2 r (pos h k)) * A
def key_cot (d : FVec Ideal S8192x1024 .f32) (r : Fin 8192) (h : Fin 16) (k : Fin 64) : EReal := d (ix2 r (pos h k))

theorem query_block (c : Dev nD) (t : Fin cfg0.N) (a : Fin 1024) (b : Fin 2) (k : Fin 64) (r : Fin 8192) (h : Fin 16)
    (hr : (r : ℕ) = t.val / 8 * 1024 + a) (hh : (h : ℕ) = 2 * (t.val % 8) + b) :
    (iblk m c 0 t (ix2 a (lane b k)) : EReal) = row (qkv m c) 0 r h k := by
  unfold row; blk_point [iblk, V, idx t]

theorem key_block (c : Dev nD) (t : Fin cfg0.N) (a : Fin 1024) (b : Fin 2) (k : Fin 64) (r : Fin 8192) (h : Fin 16)
    (hr : (r : ℕ) = t.val / 8 * 1024 + a) (hh : (h : ℕ) = 2 * (t.val % 8) + b) :
    (iblk m c 1 t (ix2 a (lane b k)) : EReal) = row (qkv m c) 1 r h k := by
  unfold row; blk_point [iblk, V, idx t]

theorem query_cot_block (c : Dev nD) (t : Fin cfg0.N) (a : Fin 1024) (b : Fin 2) (k : Fin 64) (r : Fin 8192) (h : Fin 16)
    (hr : (r : ℕ) = t.val / 8 * 1024 + a) (hh : (h : ℕ) = 2 * (t.val % 8) + b) :
    (iblk m c 2 t (ix2 a (lane b k)) : EReal) = dq m c (ix2 r (pos h k)) := by
  blk_point [iblk, V, idx t]

theorem key_cot_block (c : Dev nD) (t : Fin cfg0.N) (a : Fin 1024) (b : Fin 2) (k : Fin 64) (r : Fin 8192) (h : Fin 16)
    (hr : (r : ℕ) = t.val / 8 * 1024 + a) (hh : (h : ℕ) = 2 * (t.val % 8) + b) :
    (iblk m c 3 t (ix2 a (lane b k)) : EReal) = key_cot (dk m c) r h k := by
  unfold key_cot; blk_point [iblk, V, idx t]

theorem value_block (c : Dev nD) (t : Fin cfg0.N) (y : S1024x128.Idx) (j : S8192x1024.Idx)
    (h0 : (j 0 : ℕ) = t.val / 8 * 1024 + y 0) (h1 : (j 1 : ℕ) = t.val % 8 * 128 + y 1) :
    (iblk m c 4 t y : EReal) = dv m c j := by
  blk_point [iblk, V, idx t]

theorem tiled (g : FVec Ideal S64 .f32) (b : Fin 2) (k : Fin 64) :
    (shapeCast S1x128 (shapeCast S128 (broadcastInDim S2x64 ![0, 1] bcast_S1x64_S2x64_0_1 (shapeCast S1x64 g shapeCasts_S64_S1x64)) shapeCasts_S2x64_S128) shapeCasts_S128_S1x128 (ix2 0 (lane b k)) : EReal) = g (ix1 k) := by
  pointwise
  exact congrArg (fun q => g (ix1 q)) (Fin.ext (show (64 * (b : ℕ) + k) % 64 = k by omega))

theorem query_gain_block (c : Dev nD) (t : Fin cfg0.N) (b : Fin 2) (k : Fin 64) :
    (iblk m c 5 t (ix2 0 (lane b k)) : EReal) = query_gain m c (ix1 k) := by
  have e : (V m c main_v3 : FVec Ideal S1x128 .f32) = shapeCast S1x128 (shapeCast S128 (broadcastInDim S2x64 ![0, 1] bcast_S1x64_S2x64_0_1 (shapeCast S1x64 (query_gain m c) shapeCasts_S64_S1x64)) shapeCasts_S2x64_S128) shapeCasts_S128_S1x128 := by
    change StableHlo.after [hostOps0].flatten (fun b => m (c, b)) (Proc.tc.devRef main_v3) = _
    dsimp only [hostOps0, List.flatten_cons, List.flatten_nil, List.cons_append, List.nil_append, List.append_nil]
    after_results
    rfl
  have e' : (iblk m c 5 t (ix2 0 (lane b k)) : EReal) = (V m c main_v3 : FVec Ideal S1x128 .f32) (ix2 0 (lane b k)) := by
    blk_point [iblk, idx t]
  rw [e', e, tiled]

theorem key_gain_block (c : Dev nD) (t : Fin cfg0.N) (b : Fin 2) (k : Fin 64) :
    (iblk m c 6 t (ix2 0 (lane b k)) : EReal) = key_gain m c (ix1 k) := by
  have e : (V m c main_v7 : FVec Ideal S1x128 .f32) = shapeCast S1x128 (shapeCast S128 (broadcastInDim S2x64 ![0, 1] bcast_S1x64_S2x64_0_1 (shapeCast S1x64 (key_gain m c) shapeCasts_S64_S1x64)) shapeCasts_S2x64_S128) shapeCasts_S128_S1x128 := by
    change StableHlo.after [hostOps0].flatten (fun b => m (c, b)) (Proc.tc.devRef main_v7) = _
    dsimp only [hostOps0, List.flatten_cons, List.flatten_nil, List.cons_append, List.nil_append, List.append_nil]
    after_results
    rfl
  have e' : (iblk m c 6 t (ix2 0 (lane b k)) : EReal) = (V m c main_v7 : FVec Ideal S1x128 .f32) (ix2 0 (lane b k)) := by
    blk_point [iblk, idx t]
  rw [e', e, tiled]

/-- The half of the lanes an index of a row of lanes lies in. -/
abbrev half (j : S1x128.Idx) : Fin 2 := ⟨(j 1 : ℕ) / 64, by have : (j 1 : ℕ) < 128 := (j 1).isLt; omega⟩

theorem lanes (j : S1x128.Idx) : ∃ (b : Fin 2) (e : Fin 64), j = ix2 0 (lane b e) := by
  have h : (j 1 : ℕ) < 128 := (j 1).isLt
  refine ⟨⟨(j 1 : ℕ) / 64, by omega⟩, ⟨(j 1 : ℕ) % 64, by omega⟩, (ix2_eta j).symm.trans (congrArg₂ ix2 (Subsingleton.elim _ _) (Fin.ext ?_))⟩
  show (j 1 : ℕ) = 64 * ((j 1 : ℕ) / 64) + (j 1 : ℕ) % 64
  omega

theorem half_lane (b : Fin 2) (e : Fin 64) : half (ix2 0 (lane b e)) = b :=
  Fin.ext (show (64 * (b : ℕ) + e) / 64 = b by omega)

theorem blocks (y : S1024x128.Idx) : ∃ (a : Fin 1024) (b : Fin 2) (e : Fin 64), y = ix2 a (lane b e) := by
  have h : (y 1 : ℕ) < 128 := (y 1).isLt
  refine ⟨y 0, ⟨(y 1 : ℕ) / 64, by omega⟩, ⟨(y 1 : ℕ) % 64, by omega⟩, (ix2_eta y).symm.trans (congrArg (ix2 (y 0)) (Fin.ext ?_))⟩
  show (y 1 : ℕ) = 64 * ((y 1 : ℕ) / 64) + (y 1 : ℕ) % 64
  omega

/-- The head a column belongs to, and its element there. -/
abbrev head (q : Fin 1024) : Fin 16 := ⟨(q : ℕ) / 64, by omega⟩
abbrev elem (q : Fin 1024) : Fin 64 := ⟨(q : ℕ) % 64, by omega⟩

/-- What a block of rows adds to the queries' gain gradient, at any lane. -/
theorem query_gain_step (t d : FVec Ideal S1024x128 .f32) (v : FVec Ideal S1x128 .f32) (j : S1x128.Idx) :
    (k0_pay24 (F := Ideal) (k0_pay11 (k0_pay2 d) (k0_pay5 t)) v j : EReal)
      = v j + ∑ a : Fin 1024, d (ix2 a (j 1)) * A * (t (ix2 a (j 1)) * Cert.Norm.inv W E (fun k : Fin 64 => t (ix2 a (lane (half j) k)))) := by
  obtain ⟨b, e, rfl⟩ := lanes j
  rw [half_lane]
  exact query_gain_apply t d v b e

theorem key_gain_step (t d : FVec Ideal S1024x128 .f32) (v : FVec Ideal S1x128 .f32) (j : S1x128.Idx) :
    (k0_pay1 (F := Ideal) (k0_pay18 d (k0_pay14 t)) v j : EReal)
      = v j + ∑ a : Fin 1024, d (ix2 a (j 1)) * (t (ix2 a (j 1)) * Cert.Norm.inv W E (fun k : Fin 64 => t (ix2 a (lane (half j) k)))) := by
  obtain ⟨b, e, rfl⟩ := lanes j
  rw [half_lane]
  exact key_gain_apply t d v b e

seal iblk

/-- The gradient of the queries or of the keys, before the cast. -/
def grad (x : FVec Ideal S8192x3072 .f32) (o : Fin 2) (g : FVec Ideal S64 .f32) (d : Fin 8192 → Fin 16 → Fin 64 → EReal) :
    FVec Ideal S8192x1024 .bf16 := fun i =>
  Cert.Norm.spread W E (row x o (i 0) (head (i 1))) (fun k => d (i 0) (head (i 1)) k * g (ix1 k)) (elem (i 1))

/-- One row's part of a gain's gradient. -/
def gain_term (x : FVec Ideal S8192x3072 .f32) (o : Fin 2) (d : Fin 8192 → Fin 16 → Fin 64 → EReal) (r : Fin 8192) (h : Fin 16) (e : Fin 64) : EReal :=
  d r h e * (row x o r h e * Cert.Norm.inv W E (row x o r h))

/-- The gain's gradient as the launch leaves it: each lane holds the sum over every other head. -/
def gain_lanes (x : FVec Ideal S8192x3072 .f32) (o : Fin 2) (d : Fin 8192 → Fin 16 → Fin 64 → EReal) : FVec Ideal S1x128 .f32 := fun i =>
  ∑ t : Fin 64, ∑ a : Fin 1024, gain_term x o d ⟨t / 8 * 1024 + a, by omega⟩ ⟨2 * (t % 8) + (half i), by have := (half i).isLt; omega⟩
    ⟨(i 1 : ℕ) % 64, Nat.mod_lt _ (by decide)⟩

theorem query_row (c : Dev nD) (t : Fin cfg0.N) (a : Fin 1024) (b : Fin 2) (r : Fin 8192) (h : Fin 16)
    (hr : (r : ℕ) = t.val / 8 * 1024 + a) (hh : (h : ℕ) = 2 * (t.val % 8) + b) :
    (fun k : Fin 64 => (iblk m c 0 t (ix2 a (lane b k)) : EReal)) = row (qkv m c) 0 r h :=
  funext fun k => query_block m c t a b k r h hr hh

theorem key_row (c : Dev nD) (t : Fin cfg0.N) (a : Fin 1024) (b : Fin 2) (r : Fin 8192) (h : Fin 16)
    (hr : (r : ℕ) = t.val / 8 * 1024 + a) (hh : (h : ℕ) = 2 * (t.val % 8) + b) :
    (fun k : Fin 64 => (iblk m c 1 t (ix2 a (lane b k)) : EReal)) = row (qkv m c) 1 r h :=
  funext fun k => key_block m c t a b k r h hr hh

theorem query_point (c : Dev nD) (t : Fin cfg0.N) (y : S1024x128.Idx) (j : S8192x1024.Idx)
    (h0 : (j 0 : ℕ) = t.val / 8 * 1024 + y 0) (h1 : (j 1 : ℕ) = t.val % 8 * 128 + y 1) :
    (k0_pay19 (k0_pay10 (F := Ideal) k0_pay3 (k0_pay4 (iblk m c 0 t)) (k0_pay5 (iblk m c 0 t)) (k0_pay6 (iblk m c 5 t) (iblk m c 2 t))
      (k0_pay8 (iblk m c 0 t) (iblk m c 5 t) (iblk m c 2 t)) (k0_pay9 (iblk m c 0 t) (iblk m c 5 t) (iblk m c 2 t))) y : EReal)
      = grad (qkv m c) 0 (query_gain m c) (query_cot (dq m c)) j := by
  obtain ⟨a, b, e, rfl⟩ := blocks y
  have h1' : (j 1 : ℕ) = t.val % 8 * 128 + (64 * b + e) := h1
  have hh : (head (j 1) : ℕ) = 2 * (t.val % 8) + b := by show (j 1 : ℕ) / 64 = _; omega
  refine (query_apply (iblk m c 0 t) (iblk m c 2 t) (iblk m c 5 t) a b e).trans ?_
  unfold grad
  rw [query_row m c t a b (j 0) (head (j 1)) h0 hh]
  refine congrArg₂ (Cert.Norm.spread W E (row (qkv m c) 0 (j 0) (head (j 1)))) (funext fun k => ?_) (Fin.ext ?_)
  · unfold query_cot
    exact congrArg₂ (fun u v : EReal => u * A * v) (query_cot_block m c t a b k (j 0) (head (j 1)) h0 hh) (query_gain_block m c t b k)
  · show (e : ℕ) = (j 1 : ℕ) % 64
    omega

theorem key_point (c : Dev nD) (t : Fin cfg0.N) (y : S1024x128.Idx) (j : S8192x1024.Idx)
    (h0 : (j 0 : ℕ) = t.val / 8 * 1024 + y 0) (h1 : (j 1 : ℕ) = t.val % 8 * 128 + y 1) :
    (k0_pay20 (F := Ideal) k0_pay12 (k0_pay13 (iblk m c 1 t)) (k0_pay14 (iblk m c 1 t)) (k0_pay15 (iblk m c 6 t) (iblk m c 3 t))
      (k0_pay16 (iblk m c 1 t) (iblk m c 6 t) (iblk m c 3 t)) k0_pay17 y : EReal)
      = grad (qkv m c) 1 (key_gain m c) (key_cot (dk m c)) j := by
  obtain ⟨a, b, e, rfl⟩ := blocks y
  have h1' : (j 1 : ℕ) = t.val % 8 * 128 + (64 * b + e) := h1
  have hh : (head (j 1) : ℕ) = 2 * (t.val % 8) + b := by show (j 1 : ℕ) / 64 = _; omega
  refine (key_apply (iblk m c 1 t) (iblk m c 3 t) (iblk m c 6 t) a b e).trans ?_
  unfold grad
  rw [key_row m c t a b (j 0) (head (j 1)) h0 hh]
  refine congrArg₂ (Cert.Norm.spread W E (row (qkv m c) 1 (j 0) (head (j 1)))) (funext fun k => ?_) (Fin.ext ?_)
  · exact congrArg₂ (· * · : EReal → EReal → EReal) (key_cot_block m c t a b k (j 0) (head (j 1)) h0 hh) (key_gain_block m c t b k)
  · show (e : ℕ) = (j 1 : ℕ) % 64
    omega

theorem final_query (c : Dev nD) : (dats m 0 c).arrAt 7 (cfgs 0).N = grad (qkv m c) 0 (query_gain m c) (query_cot (dq m c)) := by
  refine (dats m 0 c).arrAt_eq_of_covers 7 _ (by decide +kernel) fun t hf y => ?_
  blk_simp; rw [after0_7]
  by_cases h : t.val % 64 = 0
  · rw [outsAt0_A m c t h]; dsimp only; frame_out
    exact query_point m c t y _ (by blk_simp [idx t]) (by blk_simp [idx t])
  · rw [outsAt0_B m c t h]; dsimp only; frame_out
    exact query_point m c t y _ (by blk_simp [idx t]) (by blk_simp [idx t])

theorem final_key (c : Dev nD) : (dats m 0 c).arrAt 8 (cfgs 0).N = grad (qkv m c) 1 (key_gain m c) (key_cot (dk m c)) := by
  refine (dats m 0 c).arrAt_eq_of_covers 8 _ (by decide +kernel) fun t hf y => ?_
  blk_simp; rw [after0_8]
  by_cases h : t.val % 64 = 0
  · rw [outsAt0_A m c t h]; dsimp only; frame_out
    exact key_point m c t y _ (by blk_simp [idx t]) (by blk_simp [idx t])
  · rw [outsAt0_B m c t h]; dsimp only; frame_out
    exact key_point m c t y _ (by blk_simp [idx t]) (by blk_simp [idx t])

theorem value_point (c : Dev nD) (t : Fin cfg0.N) (y : S1024x128.Idx) (j : S8192x1024.Idx)
    (h0 : (j 0 : ℕ) = t.val / 8 * 1024 + y 0) (h1 : (j 1 : ℕ) = t.val % 8 * 128 + y 1) :
    (k0_pay21 (F := Ideal) (iblk m c 4 t) y : EReal) = dv m c j := by
  refine Eq.trans ?_ (value_block m c t y j h0 h1)
  pointwise [k0_pay21]

theorem final_value (c : Dev nD) : (dats m 0 c).arrAt 9 (cfgs 0).N = (fun i => dv m c i : FVec Ideal S8192x1024 .bf16) := by
  refine (dats m 0 c).arrAt_eq_of_covers 9 _ (by decide +kernel) fun t hf y => ?_
  blk_simp; rw [after0_9]
  by_cases h : t.val % 64 = 0
  · rw [outsAt0_A m c t h]; dsimp only; frame_out
    exact value_point m c t y _ (by blk_simp [idx t]) (by blk_simp [idx t])
  · rw [outsAt0_B m c t h]; dsimp only; frame_out
    exact value_point m c t y _ (by blk_simp [idx t]) (by blk_simp [idx t])

theorem zero_query (j : S1x128.Idx) : k0_pay22 (F := Ideal) j = 0 := by pointwise [k0_pay22]
theorem zero_key (j : S1x128.Idx) : k0_pay23 (F := Ideal) j = 0 := by pointwise [k0_pay23]

/-- What one grid point adds to a lane of the query gain's gradient. -/
def query_part (t d : FVec Ideal S1024x128 .f32) (j : S1x128.Idx) : EReal :=
  ∑ a : Fin 1024, d (ix2 a (j 1)) * A * (t (ix2 a (j 1)) * Cert.Norm.inv W E (fun k : Fin 64 => t (ix2 a (lane (half j) k))))

theorem query_part_eq (c : Dev nD) (s : Fin cfg0.N) (s' : Fin 64) (hs : s.val = s') (b : Fin 2) (e : Fin 64) :
    query_part (iblk m c 0 s) (iblk m c 2 s) (ix2 0 (lane b e)) = ∑ a : Fin 1024, gain_term (qkv m c) 0 (query_cot (dq m c)) ⟨s' / 8 * 1024 + a, by omega⟩ ⟨2 * (s' % 8) + b, by omega⟩ e := by
  unfold query_part gain_term
  refine Finset.sum_congr rfl fun a _ => ?_
  have hr : ((⟨s' / 8 * 1024 + a, by omega⟩ : Fin 8192) : ℕ) = s.val / 8 * 1024 + a := by show (s' : ℕ) / 8 * 1024 + a = _; omega
  have hh : ((⟨2 * (s' % 8) + b, by omega⟩ : Fin 16) : ℕ) = 2 * (s.val % 8) + b := by show 2 * ((s' : ℕ) % 8) + b = _; omega
  rw [half_lane, query_row m c s a b _ _ hr hh]
  unfold query_cot
  exact congrArg₂ (fun u v : EReal => u * A * (v * _)) (query_cot_block m c s a b e _ _ hr hh) (query_block m c s a b e _ _ hr hh)

theorem final_query_gain (c : Dev nD) : (dats m 0 c).arrAt 10 (cfgs 0).N = gain_lanes (qkv m c) 0 (query_cot (dq m c)) := by
  refine (dats m 0 c).arrAt_eq_of_covers 10 _ (by decide +kernel) fun t hf y => ?_
  blk_simp
  rw [after0_10]
  have ht : t.val < 64 := lt_of_lt_of_eq t.isLt N_0
  have hy : ((win0_10.blk t).view.emb y : S1x128.Idx) = y := by
    funext k
    match k with
    | ⟨0, _⟩ => exact Fin.ext (by blk_simp [idx t])
    | ⟨1, _⟩ => exact Fin.ext (by blk_simp [idx t])
  refine Eq.trans ?_ (congrArg (gain_lanes _ _ _) hy.symm)
  refine (Pipeline.eq_sum_fin_of_reset_step_apply_of_flush (M := EReal) (ι := S1x128.Idx) (fun n h => (outsAt0 m c n h).2.2.2.1) 64 (fun _ => 0)
    (fun s => query_part (iblk m c 0 s) (iblk m c 2 s))
    (fun t h j => by rw [outsAt0_A m c t h]; frame_out; rw [query_gain_step, zero_query]; rfl)
    (fun t h j => by rw [outsAt0_B m c t h]; frame_out; rw [query_gain_step]; rfl)
    t ((flush0_10 t).mp hf) y).trans ((zero_add _).trans ?_)
  unfold gain_lanes
  refine Finset.sum_congr rfl fun s _ => ?_
  obtain ⟨b, e, rfl⟩ := lanes y
  refine (query_part_eq m c _ s ?_ b e).trans (Finset.sum_congr rfl fun a _ => ?_)
  · show 64 * (t.val / 64) + s.val = s
    omega
  refine congrArg₂ (gain_term _ _ _ _) (Fin.ext ?_) (Fin.ext ?_)
  · show 2 * ((s : ℕ) % 8) + b = 2 * (s % 8) + half (ix2 0 (lane b e))
    rw [half_lane]
  · show (e : ℕ) = (64 * (b : ℕ) + e) % 64
    omega

/-- What one grid point adds to a lane of the key gain's gradient. -/
def key_part (t d : FVec Ideal S1024x128 .f32) (j : S1x128.Idx) : EReal :=
  ∑ a : Fin 1024, d (ix2 a (j 1)) * (t (ix2 a (j 1)) * Cert.Norm.inv W E (fun k : Fin 64 => t (ix2 a (lane (half j) k))))

theorem key_part_eq (c : Dev nD) (s : Fin cfg0.N) (s' : Fin 64) (hs : s.val = s') (b : Fin 2) (e : Fin 64) :
    key_part (iblk m c 1 s) (iblk m c 3 s) (ix2 0 (lane b e)) = ∑ a : Fin 1024, gain_term (qkv m c) 1 (key_cot (dk m c)) ⟨s' / 8 * 1024 + a, by omega⟩ ⟨2 * (s' % 8) + b, by omega⟩ e := by
  unfold key_part gain_term
  refine Finset.sum_congr rfl fun a _ => ?_
  have hr : ((⟨s' / 8 * 1024 + a, by omega⟩ : Fin 8192) : ℕ) = s.val / 8 * 1024 + a := by show (s' : ℕ) / 8 * 1024 + a = _; omega
  have hh : ((⟨2 * (s' % 8) + b, by omega⟩ : Fin 16) : ℕ) = 2 * (s.val % 8) + b := by show 2 * ((s' : ℕ) % 8) + b = _; omega
  rw [half_lane, key_row m c s a b _ _ hr hh]
  exact congrArg₂ (fun u v : EReal => u * (v * _)) (key_cot_block m c s a b e _ _ hr hh) (key_block m c s a b e _ _ hr hh)

theorem final_key_gain (c : Dev nD) : (dats m 0 c).arrAt 11 (cfgs 0).N = gain_lanes (qkv m c) 1 (key_cot (dk m c)) := by
  refine (dats m 0 c).arrAt_eq_of_covers 11 _ (by decide +kernel) fun t hf y => ?_
  blk_simp
  rw [after0_11]
  have ht : t.val < 64 := lt_of_lt_of_eq t.isLt N_0
  have hy : ((win0_11.blk t).view.emb y : S1x128.Idx) = y := by
    funext k
    match k with
    | ⟨0, _⟩ => exact Fin.ext (by blk_simp [idx t])
    | ⟨1, _⟩ => exact Fin.ext (by blk_simp [idx t])
  refine Eq.trans ?_ (congrArg (gain_lanes _ _ _) hy.symm)
  refine (Pipeline.eq_sum_fin_of_reset_step_apply_of_flush (M := EReal) (ι := S1x128.Idx) (fun n h => (outsAt0 m c n h).2.2.2.2) 64 (fun _ => 0)
    (fun s => key_part (iblk m c 1 s) (iblk m c 3 s))
    (fun t h j => by rw [outsAt0_A m c t h]; frame_out; rw [key_gain_step, zero_key]; rfl)
    (fun t h j => by rw [outsAt0_B m c t h]; frame_out; rw [key_gain_step]; rfl)
    t ((flush0_11 t).mp hf) y).trans ((zero_add _).trans ?_)
  unfold gain_lanes
  refine Finset.sum_congr rfl fun s _ => ?_
  obtain ⟨b, e, rfl⟩ := lanes y
  refine (key_part_eq m c _ s ?_ b e).trans (Finset.sum_congr rfl fun a _ => ?_)
  · show 64 * (t.val / 64) + s.val = s
    omega
  refine congrArg₂ (gain_term _ _ _ _) (Fin.ext ?_) (Fin.ext ?_)
  · show 2 * ((s : ℕ) % 8) + b = 2 * (s % 8) + half (ix2 0 (lane b e))
    rw [half_lane]
  · show (e : ℕ) = (64 * (b : ℕ) + e) % 64
    omega

end Cert.QkNormBwdIdeal.Value

end
-- ==== Proof.QkNormReference.lean ====
/- What the reference of the head normalisations' gradient computes. -/
module

public import proofs.«01_k».proof.Defs
public import proofs.«01_k».proof.Proof.Gen.QkNormBwdIdeal
public import proofs.«01_k».proof.Proof.Gen.QkNormBwdIdeal.Frame
public import proofs.«01_k».proof.Proof.Gen.QkNormBwdRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.QkNormArrays
public import proofs.«01_k».proof.Proof.Gen.Pre_finite_qknorm

@[expose] public section

set_option maxRecDepth 16384

noncomputable section

open Idealize.ShloMosaic Idealize.ShloMosaic.TcCoe Idealize.SL.Sem
open Idealize.ShloMosaic.Pipeline (Dat)
open scoped BigOperators

namespace Cert.QkNormBwdIdeal.Value

open Cert.QkNormBwdIdeal Cert.QkNormBwdIdeal.Gen

open Cert.QkNormBwdRefIdeal.Read

/-- A host sum over the two leading axes of three, at one element of the last. -/
theorem sum_leading {a b n : ℕ} (h : (⟨3, ![a, b, n]⟩ : Shape).ReducesTo [0, 1] ⟨1, ![n]⟩) (v : (⟨3, ![a, b, n]⟩ : Shape).Idx → EReal) (init : EReal) (e : Fin n) :
    Ideal.hostReduceAdd h v init (ix1 e) = init + ∑ r : Fin a, ∑ k : Fin b, v (ix3 r k e) := by
  have hd : ∀ (r : Fin a) (k : Fin b) (f : Fin n), h.drop (ix3 r k f) = ix1 e ↔ f = e := by
    intro r k f
    constructor
    · intro hh
      have h0 := congrArg Fin.val (congrFun hh 0)
      exact Fin.ext h0
    · rintro rfl
      funext i
      match i with
      | ⟨0, _⟩ => rfl
  show init + (∑ i ∈ Finset.univ.filter (fun i => h.drop i = ix1 e), v i) = _
  rw [Finset.sum_filter, sum_idx3]
  simp only [hd, Finset.sum_ite_eq', Finset.mem_univ, if_true]

/-- The heads of the queries, of the keys, and of their cotangents. -/
theorem ref_query_row (x : FVec Ideal S8192x3072 .f32) (r : Fin 8192) (h : Fin 16) (k : Fin 64) :
    (val_main_v3 (F := Ideal) x (ix3 r h k) : EReal) = row x 0 r h k := by
  unfold val_main_v3 val_main_v0 row
  pointwise
  exact congrArg x (congrArg (ix2 r) (Fin.ext (by show (h : ℕ) * 64 + k = 1024 * 0 + 64 * h + k; omega)))

theorem ref_key_row (x : FVec Ideal S8192x3072 .f32) (r : Fin 8192) (h : Fin 16) (k : Fin 64) :
    (val_main_v22 (F := Ideal) x (ix3 r h k) : EReal) = row x 1 r h k := by
  unfold val_main_v22 val_main_v1 row
  pointwise
  exact congrArg x (congrArg (ix2 r) (Fin.ext (by show 1024 + ((h : ℕ) * 64 + k) = 1024 * 1 + 64 * h + k; omega)))

theorem ref_query_cot (d : FVec Ideal S8192x1024 .f32) (r : Fin 8192) (h : Fin 16) (k : Fin 64) :
    (val_main_v42 (F := Ideal) d (ix3 r h k) : EReal) = d (ix2 r (pos h k)) := by
  unfold val_main_v42
  pointwise
  exact congrArg d (congrArg (ix2 r) (Fin.ext (by show (h : ℕ) * 64 + k = 64 * h + k; omega)))

theorem ref_key_cot (d : FVec Ideal S8192x1024 .f32) (r : Fin 8192) (h : Fin 16) (k : Fin 64) :
    (val_main_v41 (F := Ideal) d (ix3 r h k) : EReal) = d (ix2 r (pos h k)) := ref_query_cot d r h k

theorem ref_query_chain (x : FVec Ideal S8192x3072 .f32) (g : FVec Ideal S64 .f32) (d : FVec Ideal S8192x1024 .f32) (r : Fin 8192) (h : Fin 16) (e : Fin 64) :
    (val_main_v85 (F := Ideal) x g d (ix3 r h e) : EReal)
      = query_cot d r h e * g (ix1 e) * Cert.Norm.inv W E (row x 0 r h)
        + row x 0 r h e * Cert.Norm.slope W E (Ideal.ofBits .f32 0xBF000000#32) (row x 0 r h) (fun k => query_cot d r h k * g (ix1 k))
        + Cert.Norm.slope W E (Ideal.ofBits .f32 0xBF000000#32) (row x 0 r h) (fun k => query_cot d r h k * g (ix1 k)) * row x 0 r h e := by
  unfold val_main_v85 val_main_v84 val_main_v83 val_main_v82 val_main_v81 val_main_v80 val_main_cst_18 val_main_v79 val_main_v78 val_main_cst_17 val_main_v77 val_main_v14 val_main_v12 val_main_v13 val_main_cst_2 val_main_v74 val_main_v73 val_main_cst_16 val_main_v72 val_main_v76 val_main_v75 val_main_v11 val_main_v10 val_main_v9 val_main_cst_1 val_main_v8 val_main_v7 val_main_cst_0 val_main_v6 val_main_v5 val_main_cst val_main_v4 val_main_v70 val_main_v69 val_main_v17 val_main_v65 val_main_v64 val_main_cst_13
  unfold Cert.Norm.slope Cert.Norm.inv Cert.Norm.mean_square query_cot
  pointwise
  simp only [Fin.sum_univ_one, Finset.univ_unique, Finset.sum_singleton, ref_query_row, ref_query_cot]

theorem ref_key_chain (x : FVec Ideal S8192x3072 .f32) (g : FVec Ideal S64 .f32) (d : FVec Ideal S8192x1024 .f32) (r : Fin 8192) (h : Fin 16) (e : Fin 64) :
    (val_main_v62 (F := Ideal) x g d (ix3 r h e) : EReal)
      = key_cot d r h e * g (ix1 e) * Cert.Norm.inv W E (row x 1 r h)
        + row x 1 r h e * Cert.Norm.slope W E (Ideal.ofBits .f32 0xBF000000#32) (row x 1 r h) (fun k => key_cot d r h k * g (ix1 k))
        + Cert.Norm.slope W E (Ideal.ofBits .f32 0xBF000000#32) (row x 1 r h) (fun k => key_cot d r h k * g (ix1 k)) * row x 1 r h e := by
  unfold val_main_v62 val_main_v61 val_main_v60 val_main_v59 val_main_v58 val_main_v57 val_main_cst_12 val_main_v56 val_main_v55 val_main_cst_11 val_main_v54 val_main_v33 val_main_v31 val_main_v32 val_main_cst_7 val_main_v51 val_main_v50 val_main_cst_10 val_main_v49 val_main_v53 val_main_v52 val_main_v30 val_main_v29 val_main_v28 val_main_cst_6 val_main_v27 val_main_v26 val_main_cst_5 val_main_v25 val_main_v24 val_main_cst_4 val_main_v23 val_main_v47 val_main_v46 val_main_v36
  unfold Cert.Norm.slope Cert.Norm.inv Cert.Norm.mean_square key_cot
  pointwise
  simp only [Fin.sum_univ_one, Finset.univ_unique, Finset.sum_singleton, ref_key_row, ref_key_cot]

theorem ref_query_gain_term (x : FVec Ideal S8192x3072 .f32) (d : FVec Ideal S8192x1024 .f32) (r : Fin 8192) (h : Fin 16) (e : Fin 64) :
    (val_main_v66 (F := Ideal) x d (ix3 r h e) : EReal) = gain_term x 0 (query_cot d) r h e := by
  unfold val_main_v66 val_main_v65 val_main_v64 val_main_cst_13 val_main_v16 val_main_v15 val_main_v11 val_main_v10 val_main_v9 val_main_cst_1 val_main_v8 val_main_v7 val_main_cst_0 val_main_v6 val_main_v5 val_main_cst val_main_v4
  unfold gain_term Cert.Norm.inv Cert.Norm.mean_square query_cot
  pointwise
  simp only [ref_query_row, ref_query_cot]
  exact mul_comm (_ : EReal) _

theorem ref_query_gain_sum (x : FVec Ideal S8192x3072 .f32) (d : FVec Ideal S8192x1024 .f32) (e : Fin 64) :
    (val_main_v67 (F := Ideal) x d (ix1 e) : EReal) = 0 + ∑ r : Fin 8192, ∑ h : Fin 16, gain_term x 0 (query_cot d) r h e := by
  unfold val_main_v67 val_main_cst_14
  refine (sum_leading _ _ _ e).trans ?_
  simp only [ref_query_gain_term]
  exact congrArg (· + _) (by pointwise)

theorem ref_query_gain_cast (x : FVec Ideal S8192x3072 .f32) (d : FVec Ideal S8192x1024 .f32) (a b : Fin 1) (e : Fin 64) :
    (val_main_v68 (F := Ideal) x d (ix3 a b e) : EReal) = val_main_v67 (F := Ideal) x d (ix1 e) := by
  unfold val_main_v68
  pointwise

theorem ref_query_gain (x : FVec Ideal S8192x3072 .f32) (d : FVec Ideal S8192x1024 .f32) (e : Fin 64) :
    (val_main_v89 (F := Ideal) x d (ix2 0 e) : EReal) = ∑ r : Fin 8192, ∑ h : Fin 16, gain_term x 0 (query_cot d) r h e := by
  unfold val_main_v89 val_main_v71 val_main_cst_15
  pointwise
  rw [sum_leading]
  simp only [Fin.sum_univ_one, Finset.univ_unique, Finset.sum_singleton, ref_query_gain_cast, ref_query_gain_sum, zero_add]

theorem ref_key_gain_term (x : FVec Ideal S8192x3072 .f32) (d : FVec Ideal S8192x1024 .f32) (r : Fin 8192) (h : Fin 16) (e : Fin 64) :
    (val_main_v43 (F := Ideal) x d (ix3 r h e) : EReal) = gain_term x 1 (key_cot d) r h e := by
  unfold val_main_v43 val_main_v35 val_main_v34 val_main_v30 val_main_v29 val_main_v28 val_main_cst_6 val_main_v27 val_main_v26 val_main_cst_5 val_main_v25 val_main_v24 val_main_cst_4 val_main_v23
  unfold gain_term Cert.Norm.inv Cert.Norm.mean_square key_cot
  pointwise
  simp only [ref_key_row, ref_key_cot]
  exact mul_comm (_ : EReal) _

theorem ref_key_gain_sum (x : FVec Ideal S8192x3072 .f32) (d : FVec Ideal S8192x1024 .f32) (e : Fin 64) :
    (val_main_v44 (F := Ideal) x d (ix1 e) : EReal) = 0 + ∑ r : Fin 8192, ∑ h : Fin 16, gain_term x 1 (key_cot d) r h e := by
  unfold val_main_v44 val_main_cst_8
  refine (sum_leading _ _ _ e).trans ?_
  simp only [ref_key_gain_term]
  exact congrArg (· + _) (by pointwise)

theorem ref_key_gain_cast (x : FVec Ideal S8192x3072 .f32) (d : FVec Ideal S8192x1024 .f32) (a b : Fin 1) (e : Fin 64) :
    (val_main_v45 (F := Ideal) x d (ix3 a b e) : EReal) = val_main_v44 (F := Ideal) x d (ix1 e) := by
  unfold val_main_v45
  pointwise

theorem ref_key_gain (x : FVec Ideal S8192x3072 .f32) (d : FVec Ideal S8192x1024 .f32) (e : Fin 64) :
    (val_main_v90 (F := Ideal) x d (ix2 0 e) : EReal) = ∑ r : Fin 8192, ∑ h : Fin 16, gain_term x 1 (key_cot d) r h e := by
  unfold val_main_v90 val_main_v48 val_main_cst_9
  pointwise
  rw [sum_leading]
  simp only [Fin.sum_univ_one, Finset.univ_unique, Finset.sum_singleton, ref_key_gain_cast, ref_key_gain_sum, zero_add]

end Cert.QkNormBwdIdeal.Value

end
-- ==== Proof.QkNormBwd.lean ====
/- The gradient of the head normalisations equals its reference. -/
module

public import proofs.«01_k».proof.Defs
public import proofs.«01_k».proof.Proof.Gen.QkNormBwdIdeal
public import proofs.«01_k».proof.Proof.Gen.QkNormBwdIdeal.Frame
public import proofs.«01_k».proof.Proof.Gen.QkNormBwdRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.QkNormReference
public import proofs.«01_k».proof.Proof.Gen.Pre_finite_qknorm

@[expose] public section

set_option maxRecDepth 16384

noncomputable section

open Idealize.ShloMosaic Idealize.ShloMosaic.TcCoe Idealize.SL.Sem
open Idealize.ShloMosaic.Pipeline (Dat)
open scoped BigOperators

namespace Cert.QkNormBwdIdeal.Value

open Cert.QkNormBwdIdeal Cert.QkNormBwdIdeal.Gen

variable (m : (ℓ : Loc nD τ sig) → Buf (Elt Ideal) ℓ)

open Cert.QkNormBwdRefIdeal.Read

/-- The chain rule's form of a head's gradient is the kernel's. -/
theorem head_chain_eq (X B : Fin 64 → ℝ) (a : Fin 64 → EReal) (ha : a = fun k => ((B k : ℝ) : EReal)) (e : Fin 64) :
    a e * Cert.Norm.inv W E (fun k => ((X k : ℝ) : EReal))
        + ((X e : ℝ) : EReal) * Cert.Norm.slope W E (Ideal.ofBits .f32 0xBF000000#32) (fun k => ((X k : ℝ) : EReal)) a
        + Cert.Norm.slope W E (Ideal.ofBits .f32 0xBF000000#32) (fun k => ((X k : ℝ) : EReal)) a * ((X e : ℝ) : EReal)
      = Cert.Norm.spread W E (fun k => ((X k : ℝ) : EReal)) a e := by
  subst ha
  unfold W E
  rw [Cert.Reals.head_width, Cert.Reals.eps, Cert.Reals.neg_half]
  exact Cert.Norm.chain_eq (w := 64) (e := 8796093 / 8796093022208) (by norm_num) (by norm_num) X B e

theorem ref_query_grad {x : FVec Ideal S8192x3072 .f32} {g : FVec Ideal S64 .f32} {d : FVec Ideal S8192x1024 .f32} (hx : Cert.Reals.Finite x)
    (hg : Cert.Reals.Finite g) (hd : Cert.Reals.Finite d) (r : Fin 8192) (h : Fin 16) (e : Fin 64) :
    (val_main_v85 (F := Ideal) x g d (ix3 r h e) : EReal) = Cert.Norm.spread W E (row x 0 r h) (fun k => query_cot d r h k * g (ix1 k)) e := by
  refine (ref_query_chain x g d r h e).trans ?_
  obtain ⟨X, rfl⟩ := hx
  obtain ⟨G, rfl⟩ := hg
  obtain ⟨D, rfl⟩ := hd
  exact head_chain_eq (fun k => X (ix2 r (col 0 h k))) (fun k => D (ix2 r (pos h k)) * (1 / 8) * G (ix1 k))
    (fun k => query_cot (fun i => ((D i : ℝ) : EReal)) r h k * ((G (ix1 k) : ℝ) : EReal)) (funext fun k => by
    unfold query_cot A; rw [Cert.Reals.eighth]; simp only [← EReal.coe_mul]) e

theorem ref_key_grad {x : FVec Ideal S8192x3072 .f32} {g : FVec Ideal S64 .f32} {d : FVec Ideal S8192x1024 .f32} (hx : Cert.Reals.Finite x)
    (hg : Cert.Reals.Finite g) (hd : Cert.Reals.Finite d) (r : Fin 8192) (h : Fin 16) (e : Fin 64) :
    (val_main_v62 (F := Ideal) x g d (ix3 r h e) : EReal) = Cert.Norm.spread W E (row x 1 r h) (fun k => key_cot d r h k * g (ix1 k)) e := by
  refine (ref_key_chain x g d r h e).trans ?_
  obtain ⟨X, rfl⟩ := hx
  obtain ⟨G, rfl⟩ := hg
  obtain ⟨D, rfl⟩ := hd
  exact head_chain_eq (fun k => X (ix2 r (col 1 h k))) (fun k => D (ix2 r (pos h k)) * G (ix1 k))
    (fun k => key_cot (fun i => ((D i : ℝ) : EReal)) r h k * ((G (ix1 k) : ℝ) : EReal)) (funext fun k => by
    unfold key_cot; simp only [← EReal.coe_mul]) e

/-- The columns of a row are the elements of its heads. -/
theorem heads (i : S8192x1024.Idx) : ∃ (r : Fin 8192) (h : Fin 16) (e : Fin 64), i = ix2 r (pos h e) := by
  have h : (i 1 : ℕ) < 1024 := (i 1).isLt
  refine ⟨i 0, ⟨(i 1 : ℕ) / 64, by omega⟩, ⟨(i 1 : ℕ) % 64, by omega⟩, (ix2_eta i).symm.trans (congrArg (ix2 (i 0)) (Fin.ext ?_))⟩
  show (i 1 : ℕ) = 64 * ((i 1 : ℕ) / 64) + (i 1 : ℕ) % 64
  omega

theorem grad_at (x : FVec Ideal S8192x3072 .f32) (o : Fin 2) (g : FVec Ideal S64 .f32) (d : Fin 8192 → Fin 16 → Fin 64 → EReal) (r : Fin 8192)
    (h : Fin 16) (e : Fin 64) : (grad x o g d (ix2 r (pos h e)) : EReal) = Cert.Norm.spread W E (row x o r h) (fun k => d r h k * g (ix1 k)) e := by
  have hh : head (pos h e) = h := Fin.ext (by show (64 * (h : ℕ) + e) / 64 = h; omega)
  have he : elem (pos h e) = e := Fin.ext (by show (64 * (h : ℕ) + e) % 64 = e; omega)
  show Cert.Norm.spread W E (row x o r (head (pos h e))) (fun k => d r (head (pos h e)) k * g (ix1 k)) (elem (pos h e)) = _
  rw [hh, he]

theorem ref_query (x : FVec Ideal S8192x3072 .f32) (g : FVec Ideal S64 .f32) (d : FVec Ideal S8192x1024 .f32) (hx : Cert.Reals.Finite x)
    (hg : Cert.Reals.Finite g) (hd : Cert.Reals.Finite d) : val_main_v86 (F := Ideal) x g d = grad x 0 g (query_cot d) := by
  funext i
  obtain ⟨r, h, e, rfl⟩ := heads i
  unfold val_main_v86
  pointwise
  rw [show (⟨(64 * (h : ℕ) + e) / 64, by omega⟩ : Fin 16) = h from Fin.ext (by show (64 * (h : ℕ) + e) / 64 = h; omega),
    show (⟨(64 * (h : ℕ) + e) % 64, by omega⟩ : Fin 64) = e from Fin.ext (by show (64 * (h : ℕ) + e) % 64 = e; omega)]
  exact (ref_query_grad hx hg hd r h e).trans (grad_at x 0 g _ r h e).symm

theorem ref_key (x : FVec Ideal S8192x3072 .f32) (g : FVec Ideal S64 .f32) (d : FVec Ideal S8192x1024 .f32) (hx : Cert.Reals.Finite x)
    (hg : Cert.Reals.Finite g) (hd : Cert.Reals.Finite d) : val_main_v63 (F := Ideal) x g d = grad x 1 g (key_cot d) := by
  funext i
  obtain ⟨r, h, e, rfl⟩ := heads i
  unfold val_main_v63
  pointwise
  rw [show (⟨(64 * (h : ℕ) + e) / 64, by omega⟩ : Fin 16) = h from Fin.ext (by show (64 * (h : ℕ) + e) / 64 = h; omega),
    show (⟨(64 * (h : ℕ) + e) % 64, by omega⟩ : Fin 64) = e from Fin.ext (by show (64 * (h : ℕ) + e) % 64 = e; omega)]
  exact (ref_key_grad hx hg hd r h e).trans (grad_at x 1 g _ r h e).symm

/-- Steps and rows of a step's block, heads of its pair: all rows and heads. -/
theorem sum_steps (f : Fin 8192 → Fin 16 → EReal) :
    (∑ t : Fin 64, ∑ a : Fin 1024, f ⟨t / 8 * 1024 + a, by omega⟩ ⟨2 * (t % 8) + 0, by omega⟩)
      + (∑ t : Fin 64, ∑ a : Fin 1024, f ⟨t / 8 * 1024 + a, by omega⟩ ⟨2 * (t % 8) + 1, by omega⟩) = ∑ r, ∑ h, f r h := by
  rw [← Finset.sum_add_distrib]
  simp only [← Finset.sum_add_distrib]
  refine (Fin.sum_divmod_congr (F := fun t : Fin 64 => ∑ a : Fin 1024, (f ⟨t / 8 * 1024 + a, by omega⟩ ⟨2 * (t % 8) + 0, by omega⟩ + f ⟨t / 8 * 1024 + a, by omega⟩ ⟨2 * (t % 8) + 1, by omega⟩))
    (f := fun (q s : Fin 8) => ∑ a : Fin 1024, (f ⟨q * 1024 + a, by omega⟩ ⟨2 * s + 0, by omega⟩ + f ⟨q * 1024 + a, by omega⟩ ⟨2 * s + 1, by omega⟩)) fun t _ _ => rfl).trans ?_
  refine Eq.trans ?_ (Fin.sum_mul_add_congr (F := fun (q : Fin 8) (a : Fin 1024) => ∑ h, f ⟨q * 1024 + a, by omega⟩ h) fun s k hl => rfl)
  refine Finset.sum_congr rfl fun q _ => ?_
  rw [Finset.sum_comm]
  refine Finset.sum_congr rfl fun a _ => ?_
  refine Eq.trans ?_ (Fin.sum_mul_add_congr (F := fun (s : Fin 8) (b : Fin 2) => f ⟨q * 1024 + a, by omega⟩ ⟨s * 2 + b, by omega⟩) fun s k hl => rfl)
  refine Finset.sum_congr rfl fun s _ => ?_
  rw [Fin.sum_univ_two]
  exact congrArg₂ (· + · : EReal → EReal → EReal) (congrArg (f _) (Fin.ext (by show 2 * (s : ℕ) + 0 = s * 2 + 0; omega)))
    (congrArg (f _) (Fin.ext (by show 2 * (s : ℕ) + 1 = s * 2 + 1; omega)))

theorem gain_halves (x : FVec Ideal S8192x3072 .f32) (o : Fin 2) (d : Fin 8192 → Fin 16 → Fin 64 → EReal) (e : Fin 64) :
    gain_lanes x o d (ix2 0 (lane 0 e)) + gain_lanes x o d (ix2 0 (lane 1 e)) = ∑ r : Fin 8192, ∑ h : Fin 16, gain_term x o d r h e := by
  rw [← sum_steps (fun r h => gain_term x o d r h e)]
  have he (b : Fin 2) : (⟨((ix2 0 (lane b e) : S1x128.Idx) 1 : ℕ) % 64, Nat.mod_lt _ (by decide)⟩ : Fin 64) = e :=
    Fin.ext (by show (64 * (b : ℕ) + e) % 64 = e; omega)
  have hb (b : Fin 2) : gain_lanes x o d (ix2 0 (lane b e))
      = ∑ t : Fin 64, ∑ a : Fin 1024, gain_term x o d ⟨t / 8 * 1024 + a, by omega⟩ ⟨2 * (t % 8) + b, by omega⟩ e := by
    show (∑ t : Fin 64, ∑ a : Fin 1024, gain_term x o d ⟨t / 8 * 1024 + a, _⟩ ⟨2 * (t % 8) + (half (ix2 0 (lane b e))), _⟩ _) = _
    refine Finset.sum_congr rfl fun t _ => Finset.sum_congr rfl fun a _ => ?_
    exact congrArg₂ (gain_term x o d _) (Fin.ext (congrArg (fun v : Fin 2 => 2 * ((t : ℕ) % 8) + v) (half_lane b e))) (he b)
  exact congrArg₂ (· + · : EReal → EReal → EReal) (hb 0) (hb 1)

/-- The two halves of the lanes added. -/
def joined (v : FVec Ideal S1x128 .f32) : FVec Ideal S1x64 .f32 :=
  addf (extractStridedSlice S1x64 ![0, 0] v slices_S1x128_S1x64_0_0) (extractStridedSlice S1x64 ![0, 64] v slices_S1x128_S1x64_0_64)

theorem joined_apply (v : FVec Ideal S1x128 .f32) (a : Fin 1) (e : Fin 64) : (joined v (ix2 a e) : EReal) = v (ix2 0 (lane 0 e)) + v (ix2 0 (lane 1 e)) := by
  unfold joined
  pointwise
  exact congrArg₂ (fun p q : Fin 128 => (v (ix2 0 p) + v (ix2 0 q) : EReal)) (Fin.ext (by show (e : ℕ) = 64 * 0 + e; omega))
    (Fin.ext (by show 64 + (e : ℕ) = 64 * 1 + e; omega))

/-- What the launch leaves in its arrays. -/
theorem left (c : Dev nD) (w : Fin 12) :
    Pipeline.withArrays (cfgs 0).spec c (V0 m c) ((dats m 0 c).arrAt · (cfgs 0).N) (Proc.devRef .tc (Pipeline.arrRef (cfgs 0).spec w))
      = (dats m 0 c).arrAt w (cfgs 0).N := by
  exact (dats m 0 c).withArrays_arrAt (by decide) (V0 m c) (A_eq m c) w

theorem query_gain_after (c : Dev nD) : Pipeline.afterTail₀ cfgs (dats m) 0 (V0 m) [hostOps1] c main_v12
    = joined ((dats m 0 c).arrAt 10 (cfgs 0).N) := by
  show StableHlo.after hostOps1 _ _ = _
  after_results
  exact congrArg joined (left m c 10)

theorem key_gain_after (c : Dev nD) : Pipeline.afterTail₀ cfgs (dats m) 0 (V0 m) [hostOps1] c main_v15
    = joined ((dats m 0 c).arrAt 11 (cfgs 0).N) := by
  show StableHlo.after hostOps1 _ _ = _
  after_results
  exact congrArg joined (left m c 11)

/-- The three parts of the fused projection's gradient side by side. -/
def fused (q k v : FVec Ideal S8192x1024 .bf16) : FVec Ideal S8192x3072 .bf16 :=
  concatenate S8192x3072 1 [⟨S8192x1024, q⟩, ⟨S8192x1024, k⟩, ⟨S8192x1024, v⟩] concatenates_S8192x1024_S8192x1024_S8192x1024_S8192x3072_d1

theorem fused_after (c : Dev nD) : Pipeline.afterTail₀ cfgs (dats m) 0 (V0 m) [hostOps1] c main_v9
    = fused ((dats m 0 c).arrAt 7 (cfgs 0).N) ((dats m 0 c).arrAt 8 (cfgs 0).N) ((dats m 0 c).arrAt 9 (cfgs 0).N) := by
  show StableHlo.after hostOps1 _ _ = _
  after_results
  have h := congr (congrArg₂ fused (left m c 7) (left m c 8)) (left m c 9)
  exact h

/-- The precondition says that the arguments it names are arrays of real numbers. -/
theorem finite_args (h : Cert.Pre_QkNormBwdIdeal_finite_qknorm m) (c : Dev nD) :
    Cert.Reals.Finite (qkv m c) ∧ Cert.Reals.Finite (query_gain m c) ∧ Cert.Reals.Finite (key_gain m c) ∧ Cert.Reals.Finite (dq m c)
      ∧ Cert.Reals.Finite (dk m c) := by
  have h0 := congrFun (h c) (fun a => a.elim0)
  unfold Cert.Pre_finite_qknorm.fn Cert.Pre_finite_qknorm.fn_part1 at h0
  obtain ⟨h, h4⟩ := Cert.Reals.and_one h0
  obtain ⟨h, h3⟩ := Cert.Reals.and_one h
  obtain ⟨h, h2⟩ := Cert.Reals.and_one h
  obtain ⟨h0, h1⟩ := Cert.Reals.and_one h
  exact ⟨Cert.Reals.finite_of_all _ _ _ _ _ _ h0, Cert.Reals.finite_of_all _ _ _ _ _ _ h1,
    Cert.Reals.finite_of_all _ _ _ _ _ _ h2, Cert.Reals.finite_of_all _ _ _ _ _ _ h3, Cert.Reals.finite_of_all _ _ _ _ _ _ h4⟩

theorem fused_eq (hpre : Cert.Pre_QkNormBwdIdeal_finite_qknorm m) (c : Dev nD) :
    val_main_v88 (F := Ideal) (qkv m c) (query_gain m c) (key_gain m c) (dq m c) (dk m c) (dv m c)
      = Pipeline.afterTail₀ cfgs (dats m) 0 (V0 m) [hostOps1] c main_v9 := by
  obtain ⟨h0, h1, h2, h3, h4⟩ := finite_args m hpre c
  rw [fused_after, final_query, final_key, final_value]
  unfold val_main_v88 val_main_v87
  rw [ref_query _ _ _ h0 h1 h3, ref_key _ _ _ h0 h2 h4]
  rfl

theorem query_gain_eq (c : Dev nD) :
    val_main_v89 (F := Ideal) (qkv m c) (dq m c) = Pipeline.afterTail₀ cfgs (dats m) 0 (V0 m) [hostOps1] c main_v12 := by
  rw [query_gain_after, final_query_gain]
  funext i
  obtain ⟨e, rfl⟩ : ∃ e : Fin 64, i = ix2 0 e := ⟨i 1, (ix2_eta i).symm.trans (congrArg (ix2 · (i 1)) (Subsingleton.elim (α := Fin 1) (i 0) 0))⟩
  exact (ref_query_gain _ _ e).trans ((joined_apply _ 0 e).trans (gain_halves _ 0 _ e)).symm

theorem key_gain_eq (c : Dev nD) :
    val_main_v90 (F := Ideal) (qkv m c) (dk m c) = Pipeline.afterTail₀ cfgs (dats m) 0 (V0 m) [hostOps1] c main_v15 := by
  rw [key_gain_after, final_key_gain]
  funext i
  obtain ⟨e, rfl⟩ : ∃ e : Fin 64, i = ix2 0 e := ⟨i 1, (ix2_eta i).symm.trans (congrArg (ix2 · (i 1)) (Subsingleton.elim (α := Fin 1) (i 0) 0))⟩
  exact (ref_key_gain _ _ e).trans ((joined_apply _ 0 e).trans (gain_halves _ 1 _ e)).symm

theorem algebraic : Cert.algebraic_QkNormBwdIdeal_QkNormBwdRefIdeal_pre_finite_qknorm := by
  pair_intro
  · run_from Cert.QkNormBwdIdeal.Gen.run_main m g
    · show StableHlo.after hostOps1 _ _ = _
      after_results
      exact (Pipeline.withArrays_of_ne (cfgs 0).spec c _ _ main_arg1 (by decide)).trans (V_main_arg1 m c)
    · show StableHlo.after hostOps1 _ _ = _
      after_results
      exact (Pipeline.withArrays_of_ne (cfgs 0).spec c _ _ main_arg2 (by decide)).trans (V_main_arg2 m c)
  · run_from Cert.QkNormBwdRefIdeal.Value.run m' g'
    · obtain ⟨e0, e1, e2, e3, e4, e5⟩ := hagree c
      refine Eq.trans ?_ (fused_eq m hpre c)
      rw [val_main_v88_eq, e0, e1, e2, e3, e4, e5]
    · exact query_gain_eq m c
    · exact key_gain_eq m c

end Cert.QkNormBwdIdeal.Value

end
-- ==== Proof.AttnBwdRing.lean ====
/- The names of the attention gradient's transfers. The weights of a pair of heads lie in HBM as 144 blocks of 2×1024×256, all pairs' blocks in a
   row numbered 0 … 1151; a grid point (pair `i 0`, query tile `i 1`) takes the `4 * (i 1 + 1)` blocks from `first i` on, in order, through three
   slots of VMEM, each with its own semaphore. Here every offset the body computes is put in closed form, the blocks, slots and semaphores get
   names, and the resources a transfer moves are written down. -/
module

public import proofs.«01_k».proof.Proof.Gen.AttnBwdIdeal.Launch
public import proofs.«01_k».proof.Proof.Gen.AttnBwdIdeal.Skeleton
public import proofs.«01_k».proof.Proof.Gen.AttnBwdIdeal.Loops
public import proofs.«01_k».proof.Proof.Gen.AttnBwdIdeal.Points
public import proofs.«01_k».proof.Proof.Gen.AttnBwdIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Closed forms -/

/-- The first block of a grid point. -/
def first (i : grid0.Coords) : ℕ := 144 * (i 0).val + 2 * (i 1).val * ((i 1).val + 1)

theorem first_lt (i : grid0.Coords) : first i + 4 * (i 1).val + 3 < 1152 := by
  revert i; decide +kernel

def grpOff (b : Fin 1152) : Fin 5 → ℕ := ![b.val / 144, b.val % 144, 0, 0, 0]
theorem grpOff_inb (b : Fin 1152) : ∀ a, grpOff b a + S1x1x2x1024x256.size a ≤ S8x144x2x1024x256.size a := by
  have h := b.isLt
  intro a; fin_cases a <;> simp [grpOff, S1x1x2x1024x256, S8x144x2x1024x256] <;> omega
def slotOff (s : Fin 3) : Fin 4 → ℕ := ![s.val, 0, 0, 0]
theorem slotOff_inb (s : Fin 3) : ∀ a, slotOff s a + S1x2x1024x256.size a ≤ S3x2x1024x256.size a := by
  have h := s.isLt
  intro a; fin_cases a <;> simp [slotOff, S1x2x1024x256, S3x2x1024x256] <;> omega
def semOff (s : Fin 3) : Fin 1 → ℕ := ![s.val]
theorem semOff_inb (s : Fin 3) : ∀ a, semOff s a + S1.size a ≤ S3.size a := by
  have h := s.isLt
  intro a; fin_cases a; simp [semOff, S1, S3]; omega

theorem trips_eq : ∀ i : grid0.Coords, (k0_t1_loop i).trips = 4 * (i 1).val := by decide +kernel
theorem trips2_eq : ∀ i : grid0.Coords, (k0_t2_loop i).trips = 0 := by decide +kernel

theorem cond2 : ∀ i : grid0.Coords, k0_cond2 i = 1#1 := by decide +kernel
theorem cond3 : ∀ i : grid0.Coords, k0_cond3 i = 1#1 := by decide +kernel
theorem cond4 : ∀ i : grid0.Coords, k0_cond4 i = 1#1 := by decide +kernel
theorem cond5 : ∀ (i : grid0.Coords) (k : Fin (k0_t1_loop i).trips), k0_cond5 i k = 1#1 := by decide +kernel
theorem cond7 : ∀ i : grid0.Coords, k0_cond7 i = 1#1 := by decide +kernel
theorem cond8 : ∀ i : grid0.Coords, ¬k0_cond8 i = 1#1 := by decide +kernel
theorem cond9 : ∀ i : grid0.Coords, ¬k0_cond9 i = 1#1 := by decide +kernel
theorem cond10 : ∀ i : grid0.Coords, ¬k0_cond10 i = 1#1 := by decide +kernel

theorem off1_eq : ∀ i : grid0.Coords, k0_off1 i = grpOff (Ring.bk 1152 (first i)) := by decide +kernel
theorem off2_eq : ∀ i : grid0.Coords, k0_off2 i = grpOff (Ring.bk 1152 (first i + 1)) := by decide +kernel
theorem off3_eq : ∀ i : grid0.Coords, k0_off3 i = grpOff (Ring.bk 1152 (first i + 2)) := by decide +kernel
theorem off6_eq : ∀ (i : grid0.Coords) (k : Fin (k0_t1_loop i).trips), k0_off6 i k = semOff (Ring.sl 3 k.val) := by decide +kernel
theorem off7_eq : ∀ (i : grid0.Coords) (k : Fin (k0_t1_loop i).trips), k0_off7 i k = slotOff (Ring.sl 3 k.val) := by decide +kernel
theorem off8_eq : ∀ (i : grid0.Coords) (k : Fin (k0_t1_loop i).trips), k0_off8 i k = grpOff (Ring.bk 1152 (first i + k.val)) := by decide +kernel
theorem off9_eq : ∀ (i : grid0.Coords) (k : Fin (k0_t1_loop i).trips), k0_off9 i k = ![(Ring.sl 3 k.val).val, 0, 0, 0] := by decide +kernel
theorem off10_eq : ∀ (i : grid0.Coords) (k : Fin (k0_t1_loop i).trips), k0_off10 i k = ![(Ring.sl 3 k.val).val, 1, 0, 0] := by decide +kernel
theorem off11_eq : ∀ (i : grid0.Coords) (k : Fin (k0_t1_loop i).trips), k0_off11 i k = semOff (Ring.sl 3 k.val) := by decide +kernel
theorem off12_eq : ∀ (i : grid0.Coords) (k : Fin (k0_t1_loop i).trips), k0_off12 i k = slotOff (Ring.sl 3 k.val) := by decide +kernel
theorem off13_eq : ∀ (i : grid0.Coords) (k : Fin (k0_t1_loop i).trips), k0_off13 i k = grpOff (Ring.bk 1152 (first i + k.val + 3)) := by decide +kernel

theorem off26_0 : ∀ i : grid0.Coords, k0_off26 i 0#32 = semOff (Ring.sl 3 (k0_t1_loop i).trips) := by decide +kernel
theorem off27_0 : ∀ i : grid0.Coords, k0_off27 i 0#32 = slotOff (Ring.sl 3 (k0_t1_loop i).trips) := by decide +kernel
theorem off28_0 : ∀ i : grid0.Coords, k0_off28 i 0#32 = grpOff (Ring.bk 1152 (first i + (k0_t1_loop i).trips)) := by decide +kernel
theorem off26_1 : ∀ i : grid0.Coords, k0_off26 i 1#32 = semOff (Ring.sl 3 ((k0_t1_loop i).trips + 1)) := by decide +kernel
theorem off27_1 : ∀ i : grid0.Coords, k0_off27 i 1#32 = slotOff (Ring.sl 3 ((k0_t1_loop i).trips + 1)) := by decide +kernel
theorem off28_1 : ∀ i : grid0.Coords, k0_off28 i 1#32 = grpOff (Ring.bk 1152 (first i + (k0_t1_loop i).trips + 1)) := by decide +kernel
theorem off26_2 : ∀ i : grid0.Coords, k0_off26 i 2#32 = semOff (Ring.sl 3 ((k0_t1_loop i).trips + 2)) := by decide +kernel
theorem off27_2 : ∀ i : grid0.Coords, k0_off27 i 2#32 = slotOff (Ring.sl 3 ((k0_t1_loop i).trips + 2)) := by decide +kernel
theorem off28_2 : ∀ i : grid0.Coords, k0_off28 i 2#32 = grpOff (Ring.bk 1152 (first i + (k0_t1_loop i).trips + 2)) := by decide +kernel
theorem off26_3 : ∀ i : grid0.Coords, k0_off26 i 3#32 = semOff (Ring.sl 3 (k0_t1_loop i).trips) := by decide +kernel
theorem off27_3 : ∀ i : grid0.Coords, k0_off27 i 3#32 = slotOff (Ring.sl 3 (k0_t1_loop i).trips) := by decide +kernel
theorem off28_3 : ∀ i : grid0.Coords, k0_off28 i 3#32 = grpOff (Ring.bk 1152 (first i + (k0_t1_loop i).trips + 3)) := by decide +kernel
theorem off29_eq : ∀ i : grid0.Coords, k0_off29 i = ![(Ring.sl 3 (k0_t1_loop i).trips).val, 0, 0, 0] := by decide +kernel
theorem off30_eq : ∀ i : grid0.Coords, k0_off30 i = ![(Ring.sl 3 (k0_t1_loop i).trips).val, 1, 0, 0] := by decide +kernel
theorem off31_eq : ∀ i : grid0.Coords, k0_off31 i = semOff (Ring.sl 3 (k0_t1_loop i).trips) := by decide +kernel
theorem off32_eq : ∀ i : grid0.Coords, k0_off32 i = slotOff (Ring.sl 3 (k0_t1_loop i).trips) := by decide +kernel
theorem off33_eq : ∀ i : grid0.Coords, k0_off33 i = grpOff (Ring.bk 1152 (first i + (k0_t1_loop i).trips + 3)) := by decide +kernel
theorem off34_eq : ∀ i : grid0.Coords, k0_off34 i = ![(Ring.sl 3 ((k0_t1_loop i).trips + 1)).val, 0, 256, 0] := by decide +kernel
theorem off35_eq : ∀ i : grid0.Coords, k0_off35 i = ![(Ring.sl 3 ((k0_t1_loop i).trips + 1)).val, 1, 256, 0] := by decide +kernel
theorem off39_eq : ∀ i : grid0.Coords, k0_off39 i = ![(Ring.sl 3 ((k0_t1_loop i).trips + 2)).val, 0, 512, 0] := by decide +kernel
theorem off40_eq : ∀ i : grid0.Coords, k0_off40 i = ![(Ring.sl 3 ((k0_t1_loop i).trips + 2)).val, 1, 512, 0] := by decide +kernel
theorem off44_eq : ∀ i : grid0.Coords, k0_off44 i = ![(Ring.sl 3 (k0_t1_loop i).trips).val, 0, 768, 0] := by decide +kernel
theorem off45_eq : ∀ i : grid0.Coords, k0_off45 i = ![(Ring.sl 3 (k0_t1_loop i).trips).val, 1, 768, 0] := by decide +kernel

instance (s : Fin 3) : ClosedOff (slotOff s) := ⟨![s.val, 0, 0, 0], rfl⟩
instance (i : grid0.Coords) (k : Fin (k0_t1_loop i).trips) : ClosedOff (k0_off9 i k) := ⟨![(Ring.sl 3 k.val).val, 0, 0, 0], off9_eq i k⟩
instance (i : grid0.Coords) (k : Fin (k0_t1_loop i).trips) : ClosedOff (k0_off10 i k) := ⟨![(Ring.sl 3 k.val).val, 1, 0, 0], off10_eq i k⟩
instance (i : grid0.Coords) : ClosedOff (k0_off29 i) := ⟨![(Ring.sl 3 (k0_t1_loop i).trips).val, 0, 0, 0], off29_eq i⟩
instance (i : grid0.Coords) : ClosedOff (k0_off30 i) := ⟨![(Ring.sl 3 (k0_t1_loop i).trips).val, 1, 0, 0], off30_eq i⟩
instance (i : grid0.Coords) : ClosedOff (k0_off34 i) := ⟨![(Ring.sl 3 ((k0_t1_loop i).trips + 1)).val, 0, 256, 0], off34_eq i⟩
instance (i : grid0.Coords) : ClosedOff (k0_off35 i) := ⟨![(Ring.sl 3 ((k0_t1_loop i).trips + 1)).val, 1, 256, 0], off35_eq i⟩
instance (i : grid0.Coords) : ClosedOff (k0_off39 i) := ⟨![(Ring.sl 3 ((k0_t1_loop i).trips + 2)).val, 0, 512, 0], off39_eq i⟩
instance (i : grid0.Coords) : ClosedOff (k0_off40 i) := ⟨![(Ring.sl 3 ((k0_t1_loop i).trips + 2)).val, 1, 512, 0], off40_eq i⟩
instance (i : grid0.Coords) : ClosedOff (k0_off44 i) := ⟨![(Ring.sl 3 (k0_t1_loop i).trips).val, 0, 768, 0], off44_eq i⟩
instance (i : grid0.Coords) : ClosedOff (k0_off45 i) := ⟨![(Ring.sl 3 (k0_t1_loop i).trips).val, 1, 768, 0], off45_eq i⟩

/-! ## The blocks, the slots, the semaphores -/

abbrev aM : Memref sig .tc .hbm S8x144x2x1024x256 .bf16 := Memref.whole main_v40
abbrev bufM : Memref sig .tc .vmem S3x2x1024x256 .bf16 := Memref.whole cc0_scratch0

def grp (b : Fin 1152) : Memref sig .tc .hbm S2x1024x256 .bf16 :=
  (aM.slice (Rect.unit (s := S8x144x2x1024x256) (grpOff b) S1x1x2x1024x256.size (grpOff_inb b)) (fun _ => rfl)).squeeze S2x1024x256 squeezes_S1x1x2x1024x256_S2x1024x256
def rslot (s : Fin 3) : Memref sig .tc .vmem S2x1024x256 .bf16 :=
  (bufM.slice (Rect.unit (s := S3x2x1024x256) (slotOff s) S1x2x1024x256.size (slotOff_inb s)) (fun _ => rfl)).squeeze S2x1024x256 squeezes_S1x2x1024x256_S2x1024x256
def csm (s : Fin 3) : DmaSems sig S_ := (cc0_scratch1.slice (Rect.unit (s := S3) (semOff s) S1.size (semOff_inb s))).squeeze S_ squeezes_S1_S_

theorem csm_congr {s : Fin 3} {off : Fin 1 → ℕ} (e : off = semOff s) (hh : ∀ a, off a + S1.size a ≤ S3.size a) :
    (cc0_scratch1.slice (Rect.unit (s := S3) off S1.size hh)).squeeze S_ squeezes_S1_S_ = csm s :=
  congrArg (fun A : DmaSems sig S1 => A.squeeze S_ squeezes_S1_S_) (SemArray.slice_unit_congr _ e _ _)
theorem rslot_congr {s : Fin 3} {off : Fin 4 → ℕ} (e : off = slotOff s) (hh : ∀ a, off a + S1x2x1024x256.size a ≤ S3x2x1024x256.size a)
    (hs : ∀ a, (Rect.unit (s := S3x2x1024x256) off S1x2x1024x256.size hh).stride a = 1) :
    (bufM.slice (Rect.unit (s := S3x2x1024x256) off S1x2x1024x256.size hh) hs).squeeze S2x1024x256 squeezes_S1x2x1024x256_S2x1024x256 = rslot s :=
  congrArg (fun M : Memref sig .tc .vmem S1x2x1024x256 .bf16 => M.squeeze S2x1024x256 squeezes_S1x2x1024x256_S2x1024x256) (Memref.slice_unit_congr _ e _ _ _ _)
theorem grp_congr {b : Fin 1152} {off : Fin 5 → ℕ} (e : off = grpOff b) (hh : ∀ a, off a + S1x1x2x1024x256.size a ≤ S8x144x2x1024x256.size a)
    (hs : ∀ a, (Rect.unit (s := S8x144x2x1024x256) off S1x1x2x1024x256.size hh).stride a = 1) :
    (aM.slice (Rect.unit (s := S8x144x2x1024x256) off S1x1x2x1024x256.size hh) hs).squeeze S2x1024x256 squeezes_S1x1x2x1024x256_S2x1024x256 = grp b :=
  congrArg (fun M : Memref sig .tc .hbm S1x1x2x1024x256 .bf16 => M.squeeze S2x1024x256 squeezes_S1x1x2x1024x256_S2x1024x256) (Memref.slice_unit_congr _ e _ _ _ _)

/-! ## The body's slices under these names -/

@[sl_canon] theorem semL0 (hh) : (cc0_scratch1.slice (Rect.unit (s := S3) ![0] S1.size hh)).squeeze S_ squeezes_S1_S_ = csm (0) := csm_congr (by decide) _
@[sl_canon] theorem slotL0 (hh hs) : (bufM.slice (Rect.unit (s := S3x2x1024x256) (![0, 0, 0, 0]) S1x2x1024x256.size hh) hs).squeeze S2x1024x256 squeezes_S1x2x1024x256_S2x1024x256 = rslot (0) := rslot_congr (by decide) _ _
@[sl_canon] theorem grpL0 (i : grid0.Coords) (hh hs) : (aM.slice (Rect.unit (s := S8x144x2x1024x256) (k0_off1 i) S1x1x2x1024x256.size hh) hs).squeeze S2x1024x256 squeezes_S1x1x2x1024x256_S2x1024x256 = grp (Ring.bk 1152 (first i)) := grp_congr (off1_eq i) _ _
@[sl_canon] theorem semL1 (hh) : (cc0_scratch1.slice (Rect.unit (s := S3) ![1] S1.size hh)).squeeze S_ squeezes_S1_S_ = csm (1) := csm_congr (by decide) _
@[sl_canon] theorem slotL1 (hh hs) : (bufM.slice (Rect.unit (s := S3x2x1024x256) (![1, 0, 0, 0]) S1x2x1024x256.size hh) hs).squeeze S2x1024x256 squeezes_S1x2x1024x256_S2x1024x256 = rslot (1) := rslot_congr (by decide) _ _
@[sl_canon] theorem grpL1 (i : grid0.Coords) (hh hs) : (aM.slice (Rect.unit (s := S8x144x2x1024x256) (k0_off2 i) S1x1x2x1024x256.size hh) hs).squeeze S2x1024x256 squeezes_S1x1x2x1024x256_S2x1024x256 = grp (Ring.bk 1152 (first i + 1)) := grp_congr (off2_eq i) _ _
@[sl_canon] theorem semL2 (hh) : (cc0_scratch1.slice (Rect.unit (s := S3) ![2] S1.size hh)).squeeze S_ squeezes_S1_S_ = csm (2) := csm_congr (by decide) _
@[sl_canon] theorem slotL2 (hh hs) : (bufM.slice (Rect.unit (s := S3x2x1024x256) (![2, 0, 0, 0]) S1x2x1024x256.size hh) hs).squeeze S2x1024x256 squeezes_S1x2x1024x256_S2x1024x256 = rslot (2) := rslot_congr (by decide) _ _
@[sl_canon] theorem grpL2 (i : grid0.Coords) (hh hs) : (aM.slice (Rect.unit (s := S8x144x2x1024x256) (k0_off3 i) S1x1x2x1024x256.size hh) hs).squeeze S2x1024x256 squeezes_S1x1x2x1024x256_S2x1024x256 = grp (Ring.bk 1152 (first i + 2)) := grp_congr (off3_eq i) _ _
@[sl_canon] theorem semK (i : grid0.Coords) (k : Fin (k0_t1_loop i).trips) (hh) : (cc0_scratch1.slice (Rect.unit (s := S3) (k0_off6 i k) S1.size hh)).squeeze S_ squeezes_S1_S_ = csm (Ring.sl 3 k.val) := csm_congr (off6_eq i k) _
@[sl_canon] theorem slotK (i : grid0.Coords) (k : Fin (k0_t1_loop i).trips) (hh hs) : (bufM.slice (Rect.unit (s := S3x2x1024x256) (k0_off7 i k) S1x2x1024x256.size hh) hs).squeeze S2x1024x256 squeezes_S1x2x1024x256_S2x1024x256 = rslot (Ring.sl 3 k.val) := rslot_congr (off7_eq i k) _ _
@[sl_canon] theorem grpK (i : grid0.Coords) (k : Fin (k0_t1_loop i).trips) (hh hs) : (aM.slice (Rect.unit (s := S8x144x2x1024x256) (k0_off8 i k) S1x1x2x1024x256.size hh) hs).squeeze S2x1024x256 squeezes_S1x1x2x1024x256_S2x1024x256 = grp (Ring.bk 1152 (first i + k.val)) := grp_congr (off8_eq i k) _ _
@[sl_canon] theorem semI (i : grid0.Coords) (k : Fin (k0_t1_loop i).trips) (hh) : (cc0_scratch1.slice (Rect.unit (s := S3) (k0_off11 i k) S1.size hh)).squeeze S_ squeezes_S1_S_ = csm (Ring.sl 3 k.val) := csm_congr (off11_eq i k) _
@[sl_canon] theorem slotI (i : grid0.Coords) (k : Fin (k0_t1_loop i).trips) (hh hs) : (bufM.slice (Rect.unit (s := S3x2x1024x256) (k0_off12 i k) S1x2x1024x256.size hh) hs).squeeze S2x1024x256 squeezes_S1x2x1024x256_S2x1024x256 = rslot (Ring.sl 3 k.val) := rslot_congr (off12_eq i k) _ _
@[sl_canon] theorem grpI (i : grid0.Coords) (k : Fin (k0_t1_loop i).trips) (hh hs) : (aM.slice (Rect.unit (s := S8x144x2x1024x256) (k0_off13 i k) S1x1x2x1024x256.size hh) hs).squeeze S2x1024x256 squeezes_S1x1x2x1024x256_S2x1024x256 = grp (Ring.bk 1152 (first i + k.val + 3)) := grp_congr (off13_eq i k) _ _
@[sl_canon] theorem semE0 (i : grid0.Coords) (hh) : (cc0_scratch1.slice (Rect.unit (s := S3) (k0_off26 i 0#32) S1.size hh)).squeeze S_ squeezes_S1_S_ = csm (Ring.sl 3 (k0_t1_loop i).trips) := csm_congr (off26_0 i) _
@[sl_canon] theorem slotE0 (i : grid0.Coords) (hh hs) : (bufM.slice (Rect.unit (s := S3x2x1024x256) (k0_off27 i 0#32) S1x2x1024x256.size hh) hs).squeeze S2x1024x256 squeezes_S1x2x1024x256_S2x1024x256 = rslot (Ring.sl 3 (k0_t1_loop i).trips) := rslot_congr (off27_0 i) _ _
@[sl_canon] theorem grpE0 (i : grid0.Coords) (hh hs) : (aM.slice (Rect.unit (s := S8x144x2x1024x256) (k0_off28 i 0#32) S1x1x2x1024x256.size hh) hs).squeeze S2x1024x256 squeezes_S1x1x2x1024x256_S2x1024x256 = grp (Ring.bk 1152 (first i + (k0_t1_loop i).trips)) := grp_congr (off28_0 i) _ _
@[sl_canon] theorem semE1 (i : grid0.Coords) (hh) : (cc0_scratch1.slice (Rect.unit (s := S3) (k0_off26 i 1#32) S1.size hh)).squeeze S_ squeezes_S1_S_ = csm (Ring.sl 3 ((k0_t1_loop i).trips + 1)) := csm_congr (off26_1 i) _
@[sl_canon] theorem slotE1 (i : grid0.Coords) (hh hs) : (bufM.slice (Rect.unit (s := S3x2x1024x256) (k0_off27 i 1#32) S1x2x1024x256.size hh) hs).squeeze S2x1024x256 squeezes_S1x2x1024x256_S2x1024x256 = rslot (Ring.sl 3 ((k0_t1_loop i).trips + 1)) := rslot_congr (off27_1 i) _ _
@[sl_canon] theorem grpE1 (i : grid0.Coords) (hh hs) : (aM.slice (Rect.unit (s := S8x144x2x1024x256) (k0_off28 i 1#32) S1x1x2x1024x256.size hh) hs).squeeze S2x1024x256 squeezes_S1x1x2x1024x256_S2x1024x256 = grp (Ring.bk 1152 (first i + (k0_t1_loop i).trips + 1)) := grp_congr (off28_1 i) _ _
@[sl_canon] theorem semE2 (i : grid0.Coords) (hh) : (cc0_scratch1.slice (Rect.unit (s := S3) (k0_off26 i 2#32) S1.size hh)).squeeze S_ squeezes_S1_S_ = csm (Ring.sl 3 ((k0_t1_loop i).trips + 2)) := csm_congr (off26_2 i) _
@[sl_canon] theorem slotE2 (i : grid0.Coords) (hh hs) : (bufM.slice (Rect.unit (s := S3x2x1024x256) (k0_off27 i 2#32) S1x2x1024x256.size hh) hs).squeeze S2x1024x256 squeezes_S1x2x1024x256_S2x1024x256 = rslot (Ring.sl 3 ((k0_t1_loop i).trips + 2)) := rslot_congr (off27_2 i) _ _
@[sl_canon] theorem grpE2 (i : grid0.Coords) (hh hs) : (aM.slice (Rect.unit (s := S8x144x2x1024x256) (k0_off28 i 2#32) S1x1x2x1024x256.size hh) hs).squeeze S2x1024x256 squeezes_S1x1x2x1024x256_S2x1024x256 = grp (Ring.bk 1152 (first i + (k0_t1_loop i).trips + 2)) := grp_congr (off28_2 i) _ _
@[sl_canon] theorem semE3 (i : grid0.Coords) (hh) : (cc0_scratch1.slice (Rect.unit (s := S3) (k0_off26 i 3#32) S1.size hh)).squeeze S_ squeezes_S1_S_ = csm (Ring.sl 3 (k0_t1_loop i).trips) := csm_congr (off26_3 i) _
@[sl_canon] theorem slotE3 (i : grid0.Coords) (hh hs) : (bufM.slice (Rect.unit (s := S3x2x1024x256) (k0_off27 i 3#32) S1x2x1024x256.size hh) hs).squeeze S2x1024x256 squeezes_S1x2x1024x256_S2x1024x256 = rslot (Ring.sl 3 (k0_t1_loop i).trips) := rslot_congr (off27_3 i) _ _
@[sl_canon] theorem grpE3 (i : grid0.Coords) (hh hs) : (aM.slice (Rect.unit (s := S8x144x2x1024x256) (k0_off28 i 3#32) S1x1x2x1024x256.size hh) hs).squeeze S2x1024x256 squeezes_S1x1x2x1024x256_S2x1024x256 = grp (Ring.bk 1152 (first i + (k0_t1_loop i).trips + 3)) := grp_congr (off28_3 i) _ _
@[sl_canon] theorem semJ (i : grid0.Coords) (hh) : (cc0_scratch1.slice (Rect.unit (s := S3) (k0_off31 i) S1.size hh)).squeeze S_ squeezes_S1_S_ = csm (Ring.sl 3 (k0_t1_loop i).trips) := csm_congr (off31_eq i) _
@[sl_canon] theorem slotJ (i : grid0.Coords) (hh hs) : (bufM.slice (Rect.unit (s := S3x2x1024x256) (k0_off32 i) S1x2x1024x256.size hh) hs).squeeze S2x1024x256 squeezes_S1x2x1024x256_S2x1024x256 = rslot (Ring.sl 3 (k0_t1_loop i).trips) := rslot_congr (off32_eq i) _ _
@[sl_canon] theorem grpJ (i : grid0.Coords) (hh hs) : (aM.slice (Rect.unit (s := S8x144x2x1024x256) (k0_off33 i) S1x1x2x1024x256.size hh) hs).squeeze S2x1024x256 squeezes_S1x1x2x1024x256_S2x1024x256 = grp (Ring.bk 1152 (first i + (k0_t1_loop i).trips + 3)) := grp_congr (off33_eq i) _ _

/-! ## The pieces: a block home, a slot held, a slot's semaphore, a slot in flight -/

variable {F : FTy → Type} [FloatOps F]

local notation "𝕄" => MT nD τ sig Unit (Elt F) ℕ (Pipeline.UD sig nD τ) ℕ
abbrev 𝒱₀ : Variants := Variants.none

section Pieces
variable (c : Dev nD) (XA : Buf (Elt F) (aM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
/-- A block at rest in HBM. -/
abbrev homeP (b : Fin 1152) : sProp 𝕄 := (grp b).view.loc (c : Thread nD τ) ↦[(grp b).view.set]{fullShare} XA
/-- A block's words as a slot receives them. -/
abbrev payload (b : Fin 1152) : S2x1024x256.Idx → Elt F .bf16 := ReadAs.same.apply ((grp b).view.read (Elt F) XA)
/-- What a block's transfer leaves in a slot over prior contents. -/
abbrev landed (s : Fin 3) (b : Fin 1152) (f : Buf (Elt F) ((rslot s).view.loc (c : Thread nD τ))) : Buf (Elt F) ((rslot s).view.loc (c : Thread nD τ)) :=
  (rslot s).view.writes (Elt F) f [⟨Rect.whole S2x1024x256, payload c XA b⟩]
/-- The units one transfer moves on its semaphore. -/
abbrev NN (s : Fin 3) : ℕ := 32768
/-- A slot in flight with a block. -/
abbrev flightP (s : Fin 3) (b : Fin 1152) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)

/-- The blocks at rest when the three from `p` on are out: the next to go out beside the rest, -/
theorem homes_here (p : ℕ) (hp : p + 3 < 1152) :
    bigSep (Ring.homeSet 3 p) (homeP c XA) = iprop(homeP c XA (Ring.bk 1152 (p + 3)) ∗ bigSep ((Ring.homeSet 3 p).erase (Ring.bk 1152 (p + 3))) (homeP c XA)) := by
  conv_lhs => rw [Ring.homeSet_out 3 p hp, bigSep_insert (Ring.bkL_not_mem_erase 3 p)]
  rfl
/-- and one block later: the one just back beside that rest. -/
theorem homes_next (p : ℕ) (hp : p + 3 < 1152) :
    bigSep (Ring.homeSet 3 (p + 1)) (homeP c XA) = iprop(homeP c XA (Ring.bk 1152 p) ∗ bigSep ((Ring.homeSet 3 p).erase (Ring.bk 1152 (p + 3))) (homeP c XA)) := by
  conv_lhs => rw [Ring.homeSet_succ 3 p hp, bigSep_insert (Ring.bk_not_mem_erase 3 p (by omega) (by decide))]
  rfl

/-- All blocks: the three from `p` on, and the others. -/
theorem homes_all (p : ℕ) (hp : p + 2 < 1152) :
    bigSep Finset.univ (homeP c XA) = iprop(homeP c XA (Ring.bk 1152 p) ∗ homeP c XA (Ring.bk 1152 (p + 1)) ∗ homeP c XA (Ring.bk 1152 (p + 2)) ∗ bigSep (Ring.homeSet 3 p) (homeP c XA)) := by
  have v0 : (Ring.bk 1152 p).val = p := Ring.bk_val (by omega)
  have v1 : (Ring.bk 1152 (p + 1)).val = p + 1 := Ring.bk_val (by omega)
  have v2 : (Ring.bk 1152 (p + 2)).val = p + 2 := Ring.bk_val (by omega)
  have e : (Finset.univ : Finset (Fin 1152)) = insert (Ring.bk 1152 p) (insert (Ring.bk 1152 (p + 1)) (insert (Ring.bk 1152 (p + 2)) (Ring.homeSet 3 p))) := by
    ext b
    simp only [Finset.mem_univ, Finset.mem_insert, Ring.mem_homeSet, true_iff, Fin.ext_iff, v0, v1, v2]
    omega
  have h0 : Ring.bk 1152 p ∉ insert (Ring.bk 1152 (p + 1)) (insert (Ring.bk 1152 (p + 2)) (Ring.homeSet 3 p)) := by
    simp only [Finset.mem_insert, Ring.mem_homeSet, Fin.ext_iff, v0, v1, v2]; omega
  have h1 : Ring.bk 1152 (p + 1) ∉ insert (Ring.bk 1152 (p + 2)) (Ring.homeSet (NB := 1152) 3 p) := by
    simp only [Finset.mem_insert, Ring.mem_homeSet, Fin.ext_iff, v1, v2]; omega
  have h2 : Ring.bk 1152 (p + 2) ∉ Ring.homeSet (NB := 1152) 3 p := by
    rw [Ring.mem_homeSet, v2]; omega
  rw [e, bigSep_insert h0, bigSep_insert h1, bigSep_insert h2]; rfl

/-- The flight a slot goes on with after a block was delivered. -/
theorem flightP_after (s : Fin 3) (b b' : Fin 1152) :
    flightP c XA s b' ((rslot s).view.writes (Elt F) (rslot s).view.junk [⟨Rect.whole S2x1024x256, payload c XA b⟩])
      = Transfers.Flight countersEmb (c : Thread nD τ) (SemLoc.dma (csm s).sem) () 32768
          iprop(((rslot s).view.loc (c : Thread nD τ) ↦[(rslot s).view.set]{fullShare}
                  (rslot s).view.writes (Elt F) (rslot s).view.junk [⟨Rect.whole S2x1024x256, payload c XA b'⟩, ⟨Rect.whole S2x1024x256, payload c XA b⟩])
                ∗ homeP c XA b') := by
  simp only [flightP, landed, slotP, NN, View.writes]

end Pieces

end Cert.AttnBwdIdeal.Hand

end
-- ==== Proof.AttnBwdTrip.lean ====
/- One trip of the attention gradient's loop over the key blocks before the diagonal, at a symbolic trip, and the loop by its invariant. -/
module

public import proofs.«01_k».proof.Proof.AttnBwdRing

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the loop carries: for each of the two heads the query gradient so far and the row sums of `g` so far. -/
abbrev Carry (F : FTy → Type) : Type := FVec F S1024x64 .f32 × FVec F S1024x1 .f32 × FVec F S1024x64 .f32 × FVec F S1024x1 .f32

/-- A buffer held whole at given contents. -/
abbrev heldP (c : Dev nD) {s : Shape} {e : EltTy} (M : Memref sig .tc .vmem s e) (f : Buf (Elt F) (M.view.loc (c : Thread nD τ))) : sProp 𝕄 :=
  M.view.loc (c : Thread nD τ) ↦[M.view.set]{fullShare} f

section Trip

variable (c : Dev nD) (XA : Buf (Elt F) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (arg7 : Memref sig .tc .vmem S1024x128 .f32) (harg7 : arg7.IsWhole) (arg8 : Memref sig .tc .vmem S8192x128 .f32) (harg8 : arg8.IsWhole)
  (arg9 : Memref sig .tc .vmem S8192x128 .f32) (harg9 : arg9.IsWhole)
  (arg1 : BitVec 32) (v8 : FVec F S256x256 .bf16) (v10 : FVec F S1024x64 .bf16) (v12 : FVec F S1024x64 .bf16) (v14 : FVec F S1024x64 .bf16)
  (v16 : FVec F S1024x64 .bf16) (v17 v18 : BitVec 32) (v28 : FVec F S1024x64 .f32) (v29 : FVec F S1024x1 .f32) (v30 : FVec F S1024x64 .f32)
  (v31 : FVec F S1024x1 .f32)
  (f3 : Buf (Elt F) (arg3.view.loc (c : Thread nD τ))) (f4 : Buf (Elt F) (arg4.view.loc (c : Thread nD τ)))

/-- The resources before trip `k`: the keys' and values' buffers, the two accumulators at `f8` and `f9`, what is owed, the blocks at rest and the
    three in flight. -/
def resAt (k : ℕ) (f8 : Buf (Elt F) (arg8.view.loc (c : Thread nD τ))) (f9 : Buf (Elt F) (arg9.view.loc (c : Thread nD τ))) : sProp 𝕄 :=
  iprop(heldP c arg3 f3 ∗ heldP c arg4 f4
    ∗ heldP c arg8 f8 ∗ heldP c arg9 f9
    ∗ (∃ W, owes (c : Thread nD τ) 0 W)
    ∗ bigSep (Ring.homeSet 3 (first i + k)) (homeP c XA)
    ∗ (∃ f, flightP c XA (Ring.sl 3 k) (Ring.bk 1152 (first i + k)) f)
    ∗ (∃ f, flightP c XA (Ring.sl 3 (k + 1)) (Ring.bk 1152 (first i + k + 1)) f)
    ∗ (∃ f, flightP c XA (Ring.sl 3 (k + 2)) (Ring.bk 1152 (first i + k + 2)) f))

/-- The trip on the kernel's own buffers. -/
abbrev tripG (k : Fin (k0_t1_loop i).trips) (acc : Carry F) : Prog (TpuEff nD τ sig (Elt F) Λ₀ .tc) (Carry F) :=
  k0_t1_body (F := F) i arg2 harg2 arg3 harg3 arg4 harg4 arg5 harg5 aM (Memref.isWhole_whole _) arg7 harg7 arg8 harg8 arg9 harg9 bufM (Memref.isWhole_whole _)
    cc0_scratch1 arg1 v8 v10 v12 v14 v16 v17 v18 v28 v29 v30 v31 k acc

set_option maxHeartbeats 4000000 in
set_option backward.proofsInPublic true in
/-- One trip: block `k` is waited for in its slot, its rows of the two accumulators are updated, block `k + 3` is sent for into the slot; what the trip
    yields and what it writes are found by the run. -/
def tripRun (k : Fin (k0_t1_loop i).trips) (a13 : FVec F S1024x64 .f32) (a14 : FVec F S1024x1 .f32) (a15 : FVec F S1024x64 .f32) (a16 : FVec F S1024x1 .f32) (f8 : Buf (Elt F) (arg8.view.loc (c : Thread nD τ))) (f9 : Buf (Elt F) (arg9.view.loc (c : Thread nD τ))) :
    Σ' (acc' : Carry F) (L8 : List (View.Piece (Elt F) S8192x128 .f32)), { L9 : List (View.Piece (Elt F) S8192x128 .f32) //
      resAt c XA i arg3 arg4 arg8 arg9 f3 f4 k f8 f9
        ⊢ wp frame (wpE (defs₀ (F := F)) 𝒱₀ (c : Thread nD τ) none) Set.univ
            (tripG i arg2 harg2 arg3 harg3 arg4 harg4 arg5 harg5 arg7 harg7 arg8 harg8 arg9 harg9 arg1 v8 v10 v12 v14 v16 v17 v18 v28 v29 v30 v31 k (a13, a14, a15, a16))
        (fun r => iprop(⌜r = acc'⌝ ∗ resAt c XA i arg3 arg4 arg8 arg9 f3 f4 (k.val + 1) (arg8.view.writes (Elt F) f8 L8) (arg9.view.writes (Elt F) f9 L9))) } := by
  refine ⟨?_, ?_, ?_, ?run⟩
  case run =>
    have hk : first i + k.val + 3 < 1152 := by
      have h1 := first_lt i; have h2 := k.isLt; have h3 := trips_eq i; omega
    have h5 := cond5 i k
    unfold resAt
    rw [show first i + (k.val + 1) = first i + k.val + 1 from rfl, homes_here c XA (first i + k.val) hk, homes_next c XA (first i + k.val) hk,
      show k.val + 1 + 2 = k.val + 3 from rfl, show k.val + 1 + 1 = k.val + 2 from rfl, Ring.sl_add,
      show first i + k.val + 1 + 2 = first i + k.val + 3 from rfl, show first i + k.val + 1 + 1 = first i + k.val + 2 from rfl]
    iintro ⟨H3, H4, H8, H9, ⟨%W, HW⟩, ⟨Hg, Hrest⟩, ⟨%f0, HF0⟩, ⟨%f1, HF1⟩, ⟨%f2, HF2⟩⟩
    dsimp only [tripG]
    sl_unfold [k0_t1_body]
    sl_exec
    sl_step
    isplitr; · ipureintro; exact rfl
    isplitl [H3]; · iexact H3
    isplitl [H4]; · iexact H4
    isplitl [H8]; · iexact H8
    isplitl [H9]; · iexact H9
    isplitl [HW]; · iexists _; iexact HW
    isplitl [HF0_src Hrest]
    · isplitl [HF0_src]; · iexact HF0_src
      iexact Hrest
    isplitl [HF1]; · iexists f1; iexact HF1
    isplitl [HF2]; · iexists f2; iexact HF2
    iexists ((rslot (Ring.sl 3 k.val)).view.writes (Elt F) (rslot (Ring.sl 3 k.val)).view.junk [⟨Rect.whole S2x1024x256, payload c XA (Ring.bk 1152 (first i + k.val))⟩])
    irw [flightP_after]
    iexact HF0

/-- The carried values and the two accumulators before trip `k`, from what they are before the loop. -/
def state (init : Carry F) (f8 : Buf (Elt F) (arg8.view.loc (c : Thread nD τ))) (f9 : Buf (Elt F) (arg9.view.loc (c : Thread nD τ))) :
    ℕ → Carry F × Buf (Elt F) (arg8.view.loc (c : Thread nD τ)) × Buf (Elt F) (arg9.view.loc (c : Thread nD τ))
  | 0 => (init, f8, f9)
  | k + 1 =>
    if h : k < (k0_t1_loop i).trips then
      let s := state init f8 f9 k
      let r := tripRun c XA i arg2 harg2 arg3 harg3 arg4 harg4 arg5 harg5 arg7 harg7 arg8 harg8 arg9 harg9 arg1 v8 v10 v12 v14 v16 v17 v18 v28 v29 v30 v31 f3 f4 ⟨k, h⟩ s.1.1 s.1.2.1 s.1.2.2.1 s.1.2.2.2 s.2.1 s.2.2
      (r.1, arg8.view.writes (Elt F) s.2.1 r.2.1, arg9.view.writes (Elt F) s.2.2 r.2.2.1)
    else state init f8 f9 k

theorem state_succ (init : Carry F) (f8 : Buf (Elt F) (arg8.view.loc (c : Thread nD τ))) (f9 : Buf (Elt F) (arg9.view.loc (c : Thread nD τ)))
    (k : Fin (k0_t1_loop i).trips) :
    state c XA i arg2 harg2 arg3 harg3 arg4 harg4 arg5 harg5 arg7 harg7 arg8 harg8 arg9 harg9 arg1 v8 v10 v12 v14 v16 v17 v18 v28 v29 v30 v31 f3 f4 init f8 f9 (k.val + 1)
      = ((tripRun c XA i arg2 harg2 arg3 harg3 arg4 harg4 arg5 harg5 arg7 harg7 arg8 harg8 arg9 harg9 arg1 v8 v10 v12 v14 v16 v17 v18 v28 v29 v30 v31 f3 f4 k (state c XA i arg2 harg2 arg3 harg3 arg4 harg4 arg5 harg5 arg7 harg7 arg8 harg8 arg9 harg9 arg1 v8 v10 v12 v14 v16 v17 v18 v28 v29 v30 v31 f3 f4 init f8 f9 k.val).1.1 (state c XA i arg2 harg2 arg3 harg3 arg4 harg4 arg5 harg5 arg7 harg7 arg8 harg8 arg9 harg9 arg1 v8 v10 v12 v14 v16 v17 v18 v28 v29 v30 v31 f3 f4 init f8 f9 k.val).1.2.1 (state c XA i arg2 harg2 arg3 harg3 arg4 harg4 arg5 harg5 arg7 harg7 arg8 harg8 arg9 harg9 arg1 v8 v10 v12 v14 v16 v17 v18 v28 v29 v30 v31 f3 f4 init f8 f9 k.val).1.2.2.1
            (state c XA i arg2 harg2 arg3 harg3 arg4 harg4 arg5 harg5 arg7 harg7 arg8 harg8 arg9 harg9 arg1 v8 v10 v12 v14 v16 v17 v18 v28 v29 v30 v31 f3 f4 init f8 f9 k.val).1.2.2.2 (state c XA i arg2 harg2 arg3 harg3 arg4 harg4 arg5 harg5 arg7 harg7 arg8 harg8 arg9 harg9 arg1 v8 v10 v12 v14 v16 v17 v18 v28 v29 v30 v31 f3 f4 init f8 f9 k.val).2.1 (state c XA i arg2 harg2 arg3 harg3 arg4 harg4 arg5 harg5 arg7 harg7 arg8 harg8 arg9 harg9 arg1 v8 v10 v12 v14 v16 v17 v18 v28 v29 v30 v31 f3 f4 init f8 f9 k.val).2.2).1,
          arg8.view.writes (Elt F) (state c XA i arg2 harg2 arg3 harg3 arg4 harg4 arg5 harg5 arg7 harg7 arg8 harg8 arg9 harg9 arg1 v8 v10 v12 v14 v16 v17 v18 v28 v29 v30 v31 f3 f4 init f8 f9 k.val).2.1 (tripRun c XA i arg2 harg2 arg3 harg3 arg4 harg4 arg5 harg5 arg7 harg7 arg8 harg8 arg9 harg9 arg1 v8 v10 v12 v14 v16 v17 v18 v28 v29 v30 v31 f3 f4 k (state c XA i arg2 harg2 arg3 harg3 arg4 harg4 arg5 harg5 arg7 harg7 arg8 harg8 arg9 harg9 arg1 v8 v10 v12 v14 v16 v17 v18 v28 v29 v30 v31 f3 f4 init f8 f9 k.val).1.1 (state c XA i arg2 harg2 arg3 harg3 arg4 harg4 arg5 harg5 arg7 harg7 arg8 harg8 arg9 harg9 arg1 v8 v10 v12 v14 v16 v17 v18 v28 v29 v30 v31 f3 f4 init f8 f9 k.val).1.2.1
            (state c XA i arg2 harg2 arg3 harg3 arg4 harg4 arg5 harg5 arg7 harg7 arg8 harg8 arg9 harg9 arg1 v8 v10 v12 v14 v16 v17 v18 v28 v29 v30 v31 f3 f4 init f8 f9 k.val).1.2.2.1 (state c XA i arg2 harg2 arg3 harg3 arg4 harg4 arg5 harg5 arg7 harg7 arg8 harg8 arg9 harg9 arg1 v8 v10 v12 v14 v16 v17 v18 v28 v29 v30 v31 f3 f4 init f8 f9 k.val).1.2.2.2 (state c XA i arg2 harg2 arg3 harg3 arg4 harg4 arg5 harg5 arg7 harg7 arg8 harg8 arg9 harg9 arg1 v8 v10 v12 v14 v16 v17 v18 v28 v29 v30 v31 f3 f4 init f8 f9 k.val).2.1 (state c XA i arg2 harg2 arg3 harg3 arg4 harg4 arg5 harg5 arg7 harg7 arg8 harg8 arg9 harg9 arg1 v8 v10 v12 v14 v16 v17 v18 v28 v29 v30 v31 f3 f4 init f8 f9 k.val).2.2).2.1,
          arg9.view.writes (Elt F) (state c XA i arg2 harg2 arg3 harg3 arg4 harg4 arg5 harg5 arg7 harg7 arg8 harg8 arg9 harg9 arg1 v8 v10 v12 v14 v16 v17 v18 v28 v29 v30 v31 f3 f4 init f8 f9 k.val).2.2 (tripRun c XA i arg2 harg2 arg3 harg3 arg4 harg4 arg5 harg5 arg7 harg7 arg8 harg8 arg9 harg9 arg1 v8 v10 v12 v14 v16 v17 v18 v28 v29 v30 v31 f3 f4 k (state c XA i arg2 harg2 arg3 harg3 arg4 harg4 arg5 harg5 arg7 harg7 arg8 harg8 arg9 harg9 arg1 v8 v10 v12 v14 v16 v17 v18 v28 v29 v30 v31 f3 f4 init f8 f9 k.val).1.1 (state c XA i arg2 harg2 arg3 harg3 arg4 harg4 arg5 harg5 arg7 harg7 arg8 harg8 arg9 harg9 arg1 v8 v10 v12 v14 v16 v17 v18 v28 v29 v30 v31 f3 f4 init f8 f9 k.val).1.2.1
            (state c XA i arg2 harg2 arg3 harg3 arg4 harg4 arg5 harg5 arg7 harg7 arg8 harg8 arg9 harg9 arg1 v8 v10 v12 v14 v16 v17 v18 v28 v29 v30 v31 f3 f4 init f8 f9 k.val).1.2.2.1 (state c XA i arg2 harg2 arg3 harg3 arg4 harg4 arg5 harg5 arg7 harg7 arg8 harg8 arg9 harg9 arg1 v8 v10 v12 v14 v16 v17 v18 v28 v29 v30 v31 f3 f4 init f8 f9 k.val).1.2.2.2 (state c XA i arg2 harg2 arg3 harg3 arg4 harg4 arg5 harg5 arg7 harg7 arg8 harg8 arg9 harg9 arg1 v8 v10 v12 v14 v16 v17 v18 v28 v29 v30 v31 f3 f4 init f8 f9 k.val).2.1 (state c XA i arg2 harg2 arg3 harg3 arg4 harg4 arg5 harg5 arg7 harg7 arg8 harg8 arg9 harg9 arg1 v8 v10 v12 v14 v16 v17 v18 v28 v29 v30 v31 f3 f4 init f8 f9 k.val).2.2).2.2.1) := by
  rw [state, dif_pos k.isLt]

/-- The resources and the carried values before trip `k`. -/
def invAt (init : Carry F) (f8 : Buf (Elt F) (arg8.view.loc (c : Thread nD τ))) (f9 : Buf (Elt F) (arg9.view.loc (c : Thread nD τ))) (k : ℕ) (acc : Carry F) : sProp 𝕄 :=
  iprop(⌜acc = (state c XA i arg2 harg2 arg3 harg3 arg4 harg4 arg5 harg5 arg7 harg7 arg8 harg8 arg9 harg9 arg1 v8 v10 v12 v14 v16 v17 v18 v28 v29 v30 v31 f3 f4 init f8 f9 k).1⌝ ∗ resAt c XA i arg3 arg4 arg8 arg9 f3 f4 k (state c XA i arg2 harg2 arg3 harg3 arg4 harg4 arg5 harg5 arg7 harg7 arg8 harg8 arg9 harg9 arg1 v8 v10 v12 v14 v16 v17 v18 v28 v29 v30 v31 f3 f4 init f8 f9 k).2.1 (state c XA i arg2 harg2 arg3 harg3 arg4 harg4 arg5 harg5 arg7 harg7 arg8 harg8 arg9 harg9 arg1 v8 v10 v12 v14 v16 v17 v18 v28 v29 v30 v31 f3 f4 init f8 f9 k).2.2)

set_option warn.classDefReducibility false in
/-- The loop's invariant. -/
@[sl_loop] def loopInv1 (init : Carry F) (f8 : Buf (Elt F) (arg8.view.loc (c : Thread nD τ))) (f9 : Buf (Elt F) (arg9.view.loc (c : Thread nD τ))) :
    LoopInvTy_k0_t1 (F := F) Unit ℕ (Pipeline.UD sig nD τ) ℕ 𝒱₀ c none Set.univ i arg2 harg2 arg3 harg3 arg4 harg4 arg5 harg5 aM (Memref.isWhole_whole _) arg7 harg7 arg8 harg8
      arg9 harg9 bufM (Memref.isWhole_whole _) cc0_scratch1 arg1 v8 v10 v12 v14 v16 v17 v18 v28 v29 v30 v31 init where
  inv k acc := invAt c XA i arg2 harg2 arg3 harg3 arg4 harg4 arg5 harg5 arg7 harg7 arg8 harg8 arg9 harg9 arg1 v8 v10 v12 v14 v16 v17 v18 v28 v29 v30 v31 f3 f4 init f8 f9 k acc
  step k acc := by
    unfold invAt
    rw [state_succ]
    iintro ⟨%e, H⟩
    subst e
    iapply (wp_wand_r Idealize.ShloMosaic.frame (wpE (defs₀ (F := F)) 𝒱₀ (c : Thread nD τ) none) Set.univ)
    isplitl [H]
    · iapply (tripRun c XA i arg2 harg2 arg3 harg3 arg4 harg4 arg5 harg5 arg7 harg7 arg8 harg8 arg9 harg9 arg1 v8 v10 v12 v14 v16 v17 v18 v28 v29 v30 v31 f3 f4 k _ _ _ _ _ _).2.2.2; iexact H
    · iintro %r H'
      iexact H'

set_option warn.classDefReducibility false in
/-- The loop over the key blocks left before the diagonal has no trip. -/
@[sl_loop] def loopInv2 (v36 : BitVec 32) (init : Carry F) (f8 : Buf (Elt F) (arg8.view.loc (c : Thread nD τ))) (f9 : Buf (Elt F) (arg9.view.loc (c : Thread nD τ))) :
    LoopInvTy_k0_t2 (F := F) Unit ℕ (Pipeline.UD sig nD τ) ℕ 𝒱₀ c none Set.univ i arg2 harg2 arg3 harg3 arg4 harg4 arg5 harg5 aM (Memref.isWhole_whole _) arg7 harg7 arg8 harg8
      arg9 harg9 bufM (Memref.isWhole_whole _) cc0_scratch1 arg1 v8 v10 v12 v14 v16 v17 v18 v28 v29 v30 v31 v36 init where
  inv _ acc := iprop(⌜acc = init⌝ ∗ resAt c XA i arg3 arg4 arg8 arg9 f3 f4 (k0_t1_loop i).trips f8 f9)
  step k _ := (Nat.not_lt_zero _ (Nat.lt_of_lt_of_eq k.isLt (trips2_eq i))).elim

end Trip

end Cert.AttnBwdIdeal.Hand

end
-- ==== Proof.AttnBwdBody.lean ====
/- The attention gradient's body at a symbolic grid point: the prologue, the loop by its invariant, the four blocks on the diagonal. -/
module

public import proofs.«01_k».proof.Proof.AttnBwdTrip

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body

variable (c : Dev nD) (XA : Buf (Elt F) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (arg7 : Memref sig .tc .vmem S1024x128 .f32) (harg7 : arg7.IsWhole) (arg8 : Memref sig .tc .vmem S8192x128 .f32) (harg8 : arg8.IsWhole)
  (arg9 : Memref sig .tc .vmem S8192x128 .f32) (harg9 : arg9.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

/-- The body on given buffers, the tiles, the ring and its cells its own. -/
abbrev bodyG : Prog (TpuEff nD τ sig (Elt F) Λ₀ .tc) PUnit :=
  cc0_attn_bwd (F := F) i arg2 harg2 arg3 harg3 arg4 harg4 arg5 harg5 aM (Memref.isWhole_whole _) arg7 harg7 arg8 harg8 arg9 harg9 bufM (Memref.isWhole_whole _) cc0_scratch1

/-- The test for the first point of a pair of heads. -/
abbrev cond1 (i : grid0.Coords) : Prop := (Scalar.cmpi .ne (Scalar.extui (Scalar.cmpi .eq (BitVec.ofNat 32 (i 1).val) 0#32)) 0#32) = 1#1

/-- What the body is handed: the operands, the query gradient's buffer at anything, the two accumulators, the blocks of the tiles (the first three
    apart), the slots, the cells, what is owed. -/
abbrev PRE (f7 : Buf (Elt F) (arg7.view.loc (c : Thread nD τ))) (f8 : Buf (Elt F) (arg8.view.loc (c : Thread nD τ))) (f9 : Buf (Elt F) (arg9.view.loc (c : Thread nD τ))) : sProp 𝕄 :=
  iprop(heldP c arg2 f2 ∗ heldP c arg3 f3 ∗ heldP c arg4 f4 ∗ heldP c arg5 f5 ∗ heldP c arg7 f7 ∗ heldP c arg8 f8 ∗ heldP c arg9 f9
    ∗ homeP c XA (Ring.bk 1152 (first i)) ∗ homeP c XA (Ring.bk 1152 (first i + 1)) ∗ homeP c XA (Ring.bk 1152 (first i + 2))
    ∗ bigSep (Ring.homeSet 3 (first i)) (homeP c XA)
    ∗ (∃ f, slotP c 0 f) ∗ (∃ f, slotP c 1 f) ∗ (∃ f, slotP c 2 f) ∗ cellP c 0 ∗ cellP c 1 ∗ cellP c 2 ∗ (∃ W, owes (c : Thread nD τ) 0 W))

/-- What it hands back. -/
abbrev POST (L7 : List (View.Piece (Elt F) S1024x128 .f32)) (o8 : Buf (Elt F) (arg8.view.loc (c : Thread nD τ))) (o9 : Buf (Elt F) (arg9.view.loc (c : Thread nD τ))) : sProp 𝕄 :=
  iprop(heldP c arg2 f2 ∗ heldP c arg3 f3 ∗ heldP c arg4 f4 ∗ heldP c arg5 f5 ∗ (∃ f7, heldP c arg7 (arg7.view.writes (Elt F) f7 L7)) ∗ heldP c arg8 o8 ∗ heldP c arg9 o9
    ∗ bigSep Finset.univ (homeP c XA)
    ∗ (∃ f, slotP c 0 f) ∗ (∃ f, slotP c 1 f) ∗ (∃ f, slotP c 2 f) ∗ cellP c 0 ∗ cellP c 1 ∗ cellP c 2 ∗ (∃ W, owes (c : Thread nD τ) 0 W))

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)

theorem entails_of_eq {P Q : sProp 𝕄} (e : P = Q) : P ⊢ Q := e ▸ .rfl

/-- All blocks at rest again when the four on the diagonal are back. -/
theorem homes_back (p : ℕ) (hp : p + 3 < 1152) :
    iprop(homeP c XA (Ring.bk 1152 p) ∗ homeP c XA (Ring.bk 1152 (p + 1)) ∗ homeP c XA (Ring.bk 1152 (p + 2)) ∗ homeP c XA (Ring.bk 1152 (p + 3))
      ∗ bigSep ((Ring.homeSet 3 p).erase (Ring.bk 1152 (p + 3))) (homeP c XA)) ⊢ bigSep Finset.univ (homeP c XA) := by
  iintro ⟨H0, H1, H2, H3, H⟩
  iapply (entails_of_eq (homes_all c XA (p + 1) (by omega)).symm)
  isplitl [H1]; · iexact H1
  isplitl [H2]; · iexact H2
  isplitl [H3]; · iexact H3
  iapply (entails_of_eq (homes_next c XA p hp).symm)
  isplitl [H0]; · iexact H0
  iexact H

/-- An accumulator's buffer after its zeroing store. -/
def zeroed (M : Memref sig .tc .vmem S8192x128 .f32) (p : FVec F S8192x128 .f32) : Buf (Elt F) (M.view.loc (c : Thread nD τ)) :=
  M.view.writes (Elt F) M.view.junk [⟨Rect.unit (s := S8192x128) ![0, 0] S8192x128.size inb_S8192x128_S8192x128_0_0, p⟩]

theorem zeroed_intro (M : Memref sig .tc .vmem S8192x128 .f32) (p : FVec F S8192x128 .f32) :
    heldP c M (M.view.writes (Elt F) M.view.junk [⟨Rect.unit (s := S8192x128) ![0, 0] S8192x128.size inb_S8192x128_S8192x128_0_0, p⟩]) ⊢ heldP c M (zeroed c M p) := .rfl

-- the loop's start is matched against the accumulators' contents by name
seal zeroed

/-- A slot in flight under another name of the slot. -/
theorem flight_slot {s s' : Fin 3} (h : s = s') (b : Fin 1152) : (∃ f, flightP c XA s b f : sProp 𝕄) ⊢ (∃ f, flightP c XA s' b f : sProp 𝕄) := by
  subst h; exact .rfl

set_option maxHeartbeats 16000000 in
set_option backward.proofsInPublic true in
/-- The body at a point that is not the first of its pair of heads. -/
def bodyRunB (hc : ¬ cond1 i) (f8 : Buf (Elt F) (arg8.view.loc (c : Thread nD τ))) (f9 : Buf (Elt F) (arg9.view.loc (c : Thread nD τ))) :
    Σ' (L7 : List (View.Piece (Elt F) S1024x128 .f32)) (o8 : Buf (Elt F) (arg8.view.loc (c : Thread nD τ))), { o9 : Buf (Elt F) (arg9.view.loc (c : Thread nD τ)) //
      ∀ f7 (Q : PUnit → sProp 𝕄), iprop(PRE c XA i arg2 arg3 arg4 arg5 arg7 arg8 arg9 f2 f3 f4 f5 f7 f8 f9 ∗ (POST c XA arg2 arg3 arg4 arg5 arg7 arg8 arg9 f2 f3 f4 f5 L7 o8 o9 -∗ Q ⟨⟩))
        ⊢ wp frame (wpE (defs₀ (F := F)) 𝒱₀ (c : Thread nD τ) none) Set.univ
            (bodyG i arg2 harg2 arg3 harg3 arg4 harg4 arg5 harg5 arg7 harg7 arg8 harg8 arg9 harg9) Q } := by
  refine ⟨?_, ?_, ⟨?_, ?run⟩⟩
  case run =>
    intro f7 Q
    have h2 := cond2 i; have h3 := cond3 i; have h4 := cond4 i; have h7 := cond7 i; have h8 := cond8 i; have h9 := cond9 i; have h10 := cond10 i
    have hlt := first_lt i; have htr := trips_eq i
    iintro ⟨⟨H2, H3, H4, H5, H7, H8, H9, Hg0, Hg1, Hg2, Hh, ⟨%g0, Hs0⟩, ⟨%g1, Hs1⟩, ⟨%g2, Hs2⟩, Hc0, Hc1, Hc2, ⟨%W, HW⟩⟩, Hk⟩
    dsimp only [bodyG]
    sl_exec
    ihave F0 := (flight_slot c XA sl3_0.symm (Ring.bk 1152 (first i + 0))) $$ [Hc0]
    · iexists g0; iexact Hc0
    ihave F1 := (flight_slot c XA sl3_1.symm (Ring.bk 1152 (first i + 1))) $$ [Hc1]
    · iexists g1; iexact Hc1
    ihave F2 := (flight_slot c XA sl3_2.symm (Ring.bk 1152 (first i + 2))) $$ [Hc2]
    · iexists g2; iexact Hc2
    icases F0 with ⟨%u0, F0⟩
    icases F1 with ⟨%u1, F1⟩
    icases F2 with ⟨%u2, F2⟩
    sl_exec
    ihave Hh' := (entails_of_eq (homes_here c XA (first i + (k0_t1_loop i).trips) (by omega))) $$ Hh
    icases Hh' with ⟨Hg3, Hrest⟩
    sl_exec
    sl_step
    iapply Hk
    isplitl [H2]; · iexact H2
    isplitl [H3]; · iexact H3
    isplitl [H4]; · iexact H4
    isplitl [H5]; · iexact H5
    isplitl [H7]; · iexists f7; iexact H7
    isplitl [H8]; · iexact H8
    isplitl [H9]; · iexact H9
    isplitl [F0_src F1_src F2_src Hg3 Hrest]
    · iapply (homes_back c XA (first i + (k0_t1_loop i).trips) (by omega))
      isplitl [F0_src]; · iexact F0_src
      isplitl [F1_src]; · iexact F1_src
      isplitl [F2_src]; · iexact F2_src
      isplitl [Hg3]; · iexact Hg3
      iexact Hrest
    ihave Hs := (Ring.free3_of_roles (fun s => iprop(∃ f, slotP c s f)) (k0_t1_loop i).trips) $$ [F0_dst F1_dst F2_dst]
    · isplitl [F0_dst]; · iexists _; iexact F0_dst
      isplitl [F1_dst]; · iexists _; iexact F1_dst
      iexists _; iexact F2_dst
    icases Hs with ⟨Hs0, Hs1, Hs2⟩
    ihave Hc := (Ring.free3_of_roles (cellP c) (k0_t1_loop i).trips) $$ [F0 F1 F2]
    · isplitl [F0]; · iexact F0
      isplitl [F1]; · iexact F1
      iexact F2
    icases Hc with ⟨Hc0', Hc1', Hc2'⟩
    isplitl [Hs0]; · iexact Hs0
    isplitl [Hs1]; · iexact Hs1
    isplitl [Hs2]; · iexact Hs2
    isplitl [Hc0']; · iexact Hc0'
    isplitl [Hc1']; · iexact Hc1'
    isplitl [Hc2']; · iexact Hc2'
    iexists _; iexact HW

set_option maxHeartbeats 16000000 in
set_option backward.proofsInPublic true in
/-- The body at the first point of a pair of heads: the two accumulators start from zero. -/
def bodyRunA (hc : cond1 i) :
    Σ' (L7 : List (View.Piece (Elt F) S1024x128 .f32)) (o8 : Buf (Elt F) (arg8.view.loc (c : Thread nD τ))), { o9 : Buf (Elt F) (arg9.view.loc (c : Thread nD τ)) //
      ∀ f7 f8 f9 (Q : PUnit → sProp 𝕄), iprop(PRE c XA i arg2 arg3 arg4 arg5 arg7 arg8 arg9 f2 f3 f4 f5 f7 f8 f9 ∗ (POST c XA arg2 arg3 arg4 arg5 arg7 arg8 arg9 f2 f3 f4 f5 L7 o8 o9 -∗ Q ⟨⟩))
        ⊢ wp frame (wpE (defs₀ (F := F)) 𝒱₀ (c : Thread nD τ) none) Set.univ
            (bodyG i arg2 harg2 arg3 harg3 arg4 harg4 arg5 harg5 arg7 harg7 arg8 harg8 arg9 harg9) Q } := by
  refine ⟨?_, ?_, ⟨?_, ?run⟩⟩
  case run =>
    intro f7 f8 f9 Q
    have h2 := cond2 i; have h3 := cond3 i; have h4 := cond4 i; have h7 := cond7 i; have h8 := cond8 i; have h9 := cond9 i; have h10 := cond10 i
    have hlt := first_lt i; have htr := trips_eq i
    iintro ⟨⟨H2, H3, H4, H5, H7, H8, H9, Hg0, Hg1, Hg2, Hh, ⟨%g0, Hs0⟩, ⟨%g1, Hs1⟩, ⟨%g2, Hs2⟩, Hc0, Hc1, Hc2, ⟨%W, HW⟩⟩, Hk⟩
    dsimp only [bodyG]
    sl_exec
    ihave H8' : heldP c arg8 (zeroed c arg8 k0_pay39) $$ [H8]
    · iapply (zeroed_intro c arg8 k0_pay39); iexact H8
    ihave H9' : heldP c arg9 (zeroed c arg9 k0_pay40) $$ [H9]
    · iapply (zeroed_intro c arg9 k0_pay40); iexact H9
    ihave F0 := (flight_slot c XA sl3_0.symm (Ring.bk 1152 (first i + 0))) $$ [Hc0]
    · iexists g0; iexact Hc0
    ihave F1 := (flight_slot c XA sl3_1.symm (Ring.bk 1152 (first i + 1))) $$ [Hc1]
    · iexists g1; iexact Hc1
    ihave F2 := (flight_slot c XA sl3_2.symm (Ring.bk 1152 (first i + 2))) $$ [Hc2]
    · iexists g2; iexact Hc2
    icases F0 with ⟨%u0, F0⟩
    icases F1 with ⟨%u1, F1⟩
    icases F2 with ⟨%u2, F2⟩
    sl_exec
    ihave Hh' := (entails_of_eq (homes_here c XA (first i + (k0_t1_loop i).trips) (by omega))) $$ Hh
    icases Hh' with ⟨Hg3, Hrest⟩
    sl_exec
    sl_step
    iapply Hk
    isplitl [H2]; · iexact H2
    isplitl [H3]; · iexact H3
    isplitl [H4]; · iexact H4
    isplitl [H5]; · iexact H5
    isplitl [H7]; · iexists f7; iexact H7
    isplitl [H8']; · iexact H8'
    isplitl [H9']; · iexact H9'
    isplitl [F0_src F1_src F2_src Hg3 Hrest]
    · iapply (homes_back c XA (first i + (k0_t1_loop i).trips) (by omega))
      isplitl [F0_src]; · iexact F0_src
      isplitl [F1_src]; · iexact F1_src
      isplitl [F2_src]; · iexact F2_src
      isplitl [Hg3]; · iexact Hg3
      iexact Hrest
    ihave Hs := (Ring.free3_of_roles (fun s => iprop(∃ f, slotP c s f)) (k0_t1_loop i).trips) $$ [F0_dst F1_dst F2_dst]
    · isplitl [F0_dst]; · iexists _; iexact F0_dst
      isplitl [F1_dst]; · iexists _; iexact F1_dst
      iexists _; iexact F2_dst
    icases Hs with ⟨Hs0, Hs1, Hs2⟩
    ihave Hc := (Ring.free3_of_roles (cellP c) (k0_t1_loop i).trips) $$ [F0 F1 F2]
    · isplitl [F0]; · iexact F0
      isplitl [F1]; · iexact F1
      iexact F2
    icases Hc with ⟨Hc0', Hc1', Hc2'⟩
    isplitl [Hs0]; · iexact Hs0
    isplitl [Hs1]; · iexact Hs1
    isplitl [Hs2]; · iexact Hs2
    isplitl [Hc0']; · iexact Hc0'
    isplitl [Hc1']; · iexact Hc1'
    isplitl [Hc2']; · iexact Hc2'
    iexists _; iexact HW

end Body

end Cert.AttnBwdIdeal.Hand

end
-- ==== Proof.AttnBwdLaunch.lean ====
/- The attention gradient's launch: the proof data of its pipeline, the body's obligation at every point, the run. -/
module

public import proofs.«01_k».proof.Proof.AttnBwdBody

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and buffers -/

abbrev osem : Fin 3 → SemLoc sig := fun s => .dma (csm s).sem
theorem ownSemFacts : Pipeline.OwnSemFacts spec0 osem := by decide

abbrev GB (b : Fin 1152) : Finset S8x144x2x1024x256.Idx := (Rect.unit (s := S8x144x2x1024x256) (grpOff b) S1x1x2x1024x256.size (grpOff_inb b)).set
abbrev SB (s : Fin 3) : Finset S3x2x1024x256.Idx := (Rect.unit (s := S3x2x1024x256) (slotOff s) S1x2x1024x256.size (slotOff_inb s)).set

theorem grp_set (b : Fin 1152) : (grp b).view.set = GB b := (View.set_reshape _ _).trans (View.set_slice_whole _ _)
theorem rslot_set (s : Fin 3) : (rslot s).view.set = SB s := (View.set_reshape _ _).trans (View.set_slice_whole _ _)

theorem mem_GB (b : Fin 1152) (y : S8x144x2x1024x256.Idx) : y ∈ GB b ↔ 144 * (y 0).val + (y 1).val = b.val := by
  rw [Rect.mem_set_unit]
  have hb := b.isLt
  have h0 : (y 0).val < 8 := (y 0).isLt
  have h1 : (y 1).val < 144 := (y 1).isLt
  have h2 : (y 2).val < 2 := (y 2).isLt
  have h3 : (y 3).val < 1024 := (y 3).isLt
  have h4 : (y 4).val < 256 := (y 4).isLt
  constructor
  · intro H
    have a0 : b.val / 144 ≤ (y 0).val ∧ (y 0).val < b.val / 144 + 1 := H 0
    have a1 : b.val % 144 ≤ (y 1).val ∧ (y 1).val < b.val % 144 + 1 := H 1
    omega
  · intro H i; fin_cases i
    · show b.val / 144 ≤ (y 0).val ∧ (y 0).val < b.val / 144 + 1; omega
    · show b.val % 144 ≤ (y 1).val ∧ (y 1).val < b.val % 144 + 1; omega
    · show 0 ≤ (y 2).val ∧ (y 2).val < 0 + 2; omega
    · show 0 ≤ (y 3).val ∧ (y 3).val < 0 + 1024; omega
    · show 0 ≤ (y 4).val ∧ (y 4).val < 0 + 256; omega
theorem mem_SB (s : Fin 3) (y : S3x2x1024x256.Idx) : y ∈ SB s ↔ (y 0).val = s.val := by
  rw [Rect.mem_set_unit]
  have h1 : (y 1).val < 2 := (y 1).isLt
  have h2 : (y 2).val < 1024 := (y 2).isLt
  have h3 : (y 3).val < 256 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 1024; omega
    · show 0 ≤ (y 3).val ∧ (y 3).val < 0 + 256; omega

theorem GB_disjoint : ∀ b b' : Fin 1152, b ≠ b' → Disjoint (GB b) (GB b') := by
  intro b b' hne; rw [Finset.disjoint_left]; intro y hy hy'; rw [mem_GB] at hy hy'; exact hne (Fin.ext (hy.symm.trans hy'))
theorem GB_cover : (Finset.univ : Finset (Fin 1152)).biUnion GB = Finset.univ := by
  ext y; simp only [Finset.mem_biUnion, Finset.mem_univ, true_and, iff_true]
  have h0 : (y 0).val < 8 := (y 0).isLt
  have h1 : (y 1).val < 144 := (y 1).isLt
  exact ⟨⟨144 * (y 0).val + (y 1).val, by omega⟩, by rw [mem_GB]⟩
theorem SB_disjoint : ∀ s s' : Fin 3, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 3)).biUnion SB = Finset.univ := by
  ext y; simp only [Finset.mem_biUnion, Finset.mem_univ, true_and, iff_true]; exact ⟨(y 0).cast (by decide), by rw [mem_SB]; rfl⟩

/-- The tiles as the region finds them. -/
abbrev XA (c : Dev nD) : Buf (Elt F) (aM.view.loc (c : Thread nD τ)) := V m c main_v40

/-- The tiles whole are their blocks at rest. -/
theorem tiles_eq (c : Dev nD) : (((c : Thread nD τ).loc main_v40) ↦{fullShare} V m c main_v40 : sProp 𝕄) = bigSep Finset.univ (homeP c (XA m c)) := by
  rw [Ring.pointsTo_blocks (ℓ := (c : Thread nD τ).loc main_v40) GB GB_disjoint GB_cover]
  exact bigSep_congr fun b _ => by rw [← grp_set]; rfl

theorem slotP_eq (c : Dev nD) (s : Fin 3) (f) : slotP c s f = (((c : Thread nD τ).loc cc0_scratch0) ↦[SB s]{fullShare} f : sProp 𝕄) :=
  congrArg (fun S => (_ ↦[S]{fullShare} f : sProp 𝕄)) (rslot_set s)

theorem buf_split (c : Dev nD) : iprop(∃ f : Buf (Elt F) ((c : Thread nD τ).loc cc0_scratch0), ((c : Thread nD τ).loc cc0_scratch0) ↦{fullShare} f)
    ⊢ (iprop((∃ f, slotP c 0 f) ∗ (∃ f, slotP c 1 f) ∗ ∃ f, slotP c 2 f) : sProp 𝕄) :=
  Ring.slots3_split (ℓ := (c : Thread nD τ).loc cc0_scratch0) SB SB_disjoint SB_cover _ _ _ (slotP_eq c 0) (slotP_eq c 1) (slotP_eq c 2)
theorem buf_join (c : Dev nD) : iprop((∃ f, slotP c 0 f) ∗ (∃ f, slotP c 1 f) ∗ ∃ f, slotP c 2 f)
    ⊢ (iprop(∃ f : Buf (Elt F) ((c : Thread nD τ).loc cc0_scratch0), ((c : Thread nD τ).loc cc0_scratch0) ↦{fullShare} f) : sProp 𝕄) :=
  Ring.slots3_join (ℓ := (c : Thread nD τ).loc cc0_scratch0) SB SB_disjoint SB_cover _ _ _ (slotP_eq c 0) (slotP_eq c 1) (slotP_eq c 2)

theorem cells_eq (c : Dev nD) : (Pipeline.ownSems0 (Ix := Unit) (Name := ℕ) (U := Pipeline.UD sig nD τ) (Lvl := ℕ) (Val := Elt F) (τ := τ) osem c : sProp 𝕄)
    = iprop(cellP c 0 ∗ cellP c 1 ∗ cellP c 2) := by
  rw [Pipeline.ownSems0_eq_of_list c osem [0, 1, 2] (by decide) (by decide)]; rfl

/-- The buffer the kernel reads by its own transfers. -/
abbrev H0 : Finset (Ref sig .tc) := {main_v40}
theorem H0_sub : H0 ⊆ Pipeline.restRefs sig spec0 := by decide
theorem H0_eq (c : Dev nD) : (bigSep H0 fun b => ((c : Thread nD τ).loc b) ↦{fullShare} V m c b : sProp 𝕄) = bigSep Finset.univ (homeP c (XA m c)) := by
  rw [← tiles_eq, BI.bigSep_eq_bigSepL_of_eq [main_v40] (by decide) (by decide)]; rfl

/-! ## The proof data -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8192x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)

theorem cond1_iff : ∀ t : Fin cfg0.N, cond1 (grid0.coords t) ↔ t.val % 8 = 0 := by decide +kernel

/-- The run at the first point of a pair of heads, -/
abbrev runA (c : Dev nD) (t : Fin cfg0.N) (h : t.val % 8 = 0) :=
  bodyRunA c (XA m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hs0_0 t).unread (iblk m c 0 t)) ((hs0_1 t).unread (iblk m c 1 t)) ((hs0_2 t).unread (iblk m c 2 t)) ((hs0_3 t).unread (iblk m c 3 t)) ((cond1_iff t).mpr h)
/-- and at another, over what the point before left in the two accumulators. -/
abbrev runB (c : Dev nD) (t : Fin cfg0.N) (h : ¬t.val % 8 = 0) (x8 x9 : Vec F S8192x128 .f32) :=
  bodyRunB c (XA m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hs0_0 t).unread (iblk m c 0 t)) ((hs0_1 t).unread (iblk m c 1 t)) ((hs0_2 t).unread (iblk m c 2 t)) ((hs0_3 t).unread (iblk m c 3 t)) (fun hc => h ((cond1_iff t).mp hc)) ((hs0_5 t).unread x8) ((hs0_6 t).unread x9)

/-- What the first point of a pair of heads leaves in the three results' buffers, -/
def stepA (c : Dev nD) (t : Fin cfg0.N) (h : t.val % 8 = 0) : Vec F S1024x128 .f32 × Vec F S8192x128 .f32 × Vec F S8192x128 .f32 :=
  ((ms0_4 t).view.read (Elt F) ((ms0_4 t).view.writes (Elt F) (ms0_4 t).view.junk (runA m c t h).1), (ms0_5 t).view.read (Elt F) (runA m c t h).2.1,
    (ms0_6 t).view.read (Elt F) (runA m c t h).2.2.1)
/-- and what another point leaves over what the point before left. -/
def stepB (c : Dev nD) (t : Fin cfg0.N) (h : ¬t.val % 8 = 0) (x8 x9 : Vec F S8192x128 .f32) : Vec F S1024x128 .f32 × Vec F S8192x128 .f32 × Vec F S8192x128 .f32 :=
  ((ms0_4 t).view.read (Elt F) ((ms0_4 t).view.writes (Elt F) (ms0_4 t).view.junk (runB m c t h x8 x9).1), (ms0_5 t).view.read (Elt F) (runB m c t h x8 x9).2.1,
    (ms0_6 t).view.read (Elt F) (runB m c t h x8 x9).2.2.1)

/-- What a point leaves. -/
def stepAt (c : Dev nD) (t : Fin cfg0.N) (x8 x9 : Vec F S8192x128 .f32) : Vec F S1024x128 .f32 × Vec F S8192x128 .f32 × Vec F S8192x128 .f32 :=
  if h : t.val % 8 = 0 then stepA m c t h else stepB m c t h x8 x9

/-- What the three results' buffers hold after each point. -/
def outsAt (c : Dev nD) : (n : ℕ) → n < cfg0.N → Vec F S1024x128 .f32 × Vec F S8192x128 .f32 × Vec F S8192x128 .f32
  | 0, hn => stepAt m c ⟨0, hn⟩ ((ms0_5 ⟨0, hn⟩).view.read (Elt F) (ms0_5 ⟨0, hn⟩).view.junk) ((ms0_6 ⟨0, hn⟩).view.read (Elt F) (ms0_6 ⟨0, hn⟩).view.junk)
  | n + 1, hn => stepAt m c ⟨n + 1, hn⟩ (outsAt c n (by omega)).2.1 (outsAt c n (by omega)).2.2

theorem outsAt_A (c : Dev nD) (t : Fin cfg0.N) (h : t.val % 8 = 0) : outsAt m c t.val t.isLt = stepA m c t h := by
  obtain ⟨n, hn⟩ := t
  cases n with
  | zero => rw [outsAt, stepAt, dif_pos h]
  | succ n => rw [outsAt, stepAt, dif_pos h]

/-- What the point before left in the key gradient's buffer, -/
abbrev prev8 (c : Dev nD) (t : Fin cfg0.N) : Vec F S8192x128 .f32 := (outsAt m c (t.val - 1) (Nat.lt_of_le_of_lt (Nat.sub_le _ _) t.isLt)).2.1
/-- and in the value gradient's. -/
abbrev prev9 (c : Dev nD) (t : Fin cfg0.N) : Vec F S8192x128 .f32 := (outsAt m c (t.val - 1) (Nat.lt_of_le_of_lt (Nat.sub_le _ _) t.isLt)).2.2

theorem outsAt_B (c : Dev nD) (t : Fin cfg0.N) (h : ¬t.val % 8 = 0) : outsAt m c t.val t.isLt = stepB m c t h (prev8 m c t) (prev9 m c t) := by
  obtain ⟨n, hn⟩ := t
  cases n with
  | zero => exact absurd rfl h
  | succ n => rw [outsAt, stepAt, dif_neg h]; rfl

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦD osem spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2.1 := by dsimp only [dats]
theorem after0_6 (c : Dev nD) (t : Fin cfg0.N) : (dats m 0 c).after 6 t = (outsAt m c t.val t.isLt).2.2 := by dsimp only [dats]

/-! Every input's buffer holds its block at every point, fetched there or not; the accumulators hold what the point before left. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_5_B (c : Dev nD) (t : Fin cfg0.N) (h : ¬t.val % 8 = 0) (d) : (dats m 0 c).before 5 t d = prev8 m c t := by
  have hN : t.val < 64 := lt_of_lt_of_eq t.isLt (show cfg0.N = 64 from N_0)
  rw [Dat.before_out_kept _ 5 rfl t (by omega) (Bool.eq_false_iff.mpr fun h' => by have := (flush0_5 _).mp h'; dsimp only at this; omega)
    (fun _ => rfl) (fun _ _ => rfl)]
  dsimp only [dats]
theorem before0_6_B (c : Dev nD) (t : Fin cfg0.N) (h : ¬t.val % 8 = 0) (d) : (dats m 0 c).before 6 t d = prev9 m c t := by
  have hN : t.val < 64 := lt_of_lt_of_eq t.isLt (show cfg0.N = 64 from N_0)
  rw [Dat.before_out_kept _ 6 rfl t (by omega) (Bool.eq_false_iff.mpr fun h' => by have := (flush0_6 _).mp h'; dsimp only at this; omega)
    (fun _ => rfl) (fun _ _ => rfl)]
  dsimp only [dats]

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The invariant, conjunct by conjunct. -/
theorem inv_eq (c : Dev nD) (t) : (dats m 0 c).Φ t = iprop((∃ f : Buf (Elt F) ((c : Thread nD τ).loc cc0_scratch0), ((c : Thread nD τ).loc cc0_scratch0) ↦{fullShare} f)
    ∗ (∃ r, prngReg c r) ∗ (cellP c 0 ∗ cellP c 1 ∗ cellP c 2) ∗ bigSep Finset.univ (homeP c (XA m c))) := by
  show Pipeline.ΦD osem spec0 H0 (V m) c = _
  rw [Pipeline.ΦD_eq, scopedRest0_eq, cells_eq, H0_eq]

/-- A result's two column halves cover its block. -/
theorem coverA (c : Dev nD) (t : Fin cfg0.N) (h : t.val % 8 = 0) (y : S1024x128.Idx) : ∃ pc ∈ (runA m c t h).1, y ∈ pc.1.set :=
  View.cover_of_tiledL (runA m c t h).1 S1024x64.size (by sl_kernel_rfl) y
theorem coverB (c : Dev nD) (t : Fin cfg0.N) (h : ¬t.val % 8 = 0) (x8 x9) (y : S1024x128.Idx) : ∃ pc ∈ (runB m c t h x8 x9).1, y ∈ pc.1.set :=
  View.cover_of_tiledL (runB m c t h x8 x9).1 S1024x64.size (by sl_kernel_rfl) y

set_option maxHeartbeats 4000000 in
/-- The body meets its obligation at every point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [inv_eq, inv_eq, after0_0, after0_1, after0_2, after0_3, after0_4, after0_5, after0_6]
  unfold Dat.owesAt Pipeline.owesWithin
  rw [show (dats m 0 c).owed t.castSucc = 0 from rfl, show (dats m 0 c).owed t.succ = 0 from rfl]
  unfold owns
  by_cases h : t.val % 8 = 0
  · rw [outsAt_A m c t h]
    unfold stepA
    iintro ⟨⟨Hbuf, Hprng, ⟨Hc0, Hc1, Hc2⟩, Hhomes⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩⟩
    obtain rfl := (hs0_0 t).eq_unread e0
    obtain rfl := (hs0_1 t).eq_unread e1
    obtain rfl := (hs0_2 t).eq_unread e2
    obtain rfl := (hs0_3 t).eq_unread e3
    ihave Hs := (buf_split c) $$ Hbuf
    icases Hs with ⟨Hs0, Hs1, Hs2⟩
    ihave Hh := (entails_of_eq (homes_all c (XA m c) (first (grid0.coords t)) (by have := first_lt (grid0.coords t); omega))) $$ Hhomes
    icases Hh with ⟨Hg0, Hg1, Hg2, Hh⟩
    iapply ((runA m c t h).2.2.2 g4 g5 g6 _)
    isplitl [H0 H1 H2 H3 H4 H5 H6 Hs0 Hs1 Hs2 Hc0 Hc1 Hc2 Hg0 Hg1 Hg2 Hh HW]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hg0]; · iexact Hg0
      isplitl [Hg1]; · iexact Hg1
      isplitl [Hg2]; · iexact Hg2
      isplitl [Hh]; · iexact Hh
      isplitl [Hs0]; · iexact Hs0
      isplitl [Hs1]; · iexact Hs1
      isplitl [Hs2]; · iexact Hs2
      isplitl [Hc0]; · iexact Hc0
      isplitl [Hc1]; · iexact Hc1
      isplitl [Hc2]; · iexact Hc2
      iexists W; iexact HW
    iintro ⟨H0, H1, H2, H3, ⟨%f4, H4⟩, H5, H6, Hhomes, Hs0, Hs1, Hs2, Hc0, Hc1, Hc2, ⟨%W', HW⟩⟩
    isplitl [Hs0 Hs1 Hs2 Hprng Hc0 Hc1 Hc2 Hhomes]
    · isplitl [Hs0 Hs1 Hs2]
      · iapply (buf_join c)
        isplitl [Hs0]; · iexact Hs0
        isplitl [Hs1]; · iexact Hs1
        iexact Hs2
      isplitl [Hprng]; · iexact Hprng
      isplitl [Hc0 Hc1 Hc2]
      · isplitl [Hc0]; · iexact Hc0
        isplitl [Hc1]; · iexact Hc1
        iexact Hc2
      iexact Hhomes
    isplitl [HW]
    · iexists W'; isplitr; · ipureintro; exact fun _ _ => Or.inl trivial
      iexact HW
    isplitl [H0]; · iexists _; isplitr; · ipureintro; exact (hs0_0 t).read_unread _
                    iexact H0
    isplitl [H1]; · iexists _; isplitr; · ipureintro; exact (hs0_1 t).read_unread _
                    iexact H1
    isplitl [H2]; · iexists _; isplitr; · ipureintro; exact (hs0_2 t).read_unread _
                    iexact H2
    isplitl [H3]; · iexists _; isplitr; · ipureintro; exact (hs0_3 t).read_unread _
                    iexact H3
    isplitl [H4]
    · iexists _; isplitr
      swap; · iexact H4
      ipureintro; exact View.read_writes_of_cover _ _ _ _ _ (coverA m c t h)
    isplitl [H5]
    · iexists _; isplitr
      swap; · iexact H5
      ipureintro; rfl
    iexists _; isplitr
    swap; · iexact H6
    ipureintro; rfl
  · rw [outsAt_B m c t h]
    simp only [before0_5_B m c t h, before0_6_B m c t h]
    unfold stepB
    iintro ⟨⟨Hbuf, Hprng, ⟨Hc0, Hc1, Hc2⟩, Hhomes⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩⟩
    obtain rfl := (hs0_0 t).eq_unread e0
    obtain rfl := (hs0_1 t).eq_unread e1
    obtain rfl := (hs0_2 t).eq_unread e2
    obtain rfl := (hs0_3 t).eq_unread e3
    obtain rfl := (hs0_5 t).eq_unread e5
    obtain rfl := (hs0_6 t).eq_unread e6
    ihave Hs := (buf_split c) $$ Hbuf
    icases Hs with ⟨Hs0, Hs1, Hs2⟩
    ihave Hh := (entails_of_eq (homes_all c (XA m c) (first (grid0.coords t)) (by have := first_lt (grid0.coords t); omega))) $$ Hhomes
    icases Hh with ⟨Hg0, Hg1, Hg2, Hh⟩
    iapply ((runB m c t h (prev8 m c t) (prev9 m c t)).2.2.2 g4 _)
    isplitl [H0 H1 H2 H3 H4 H5 H6 Hs0 Hs1 Hs2 Hc0 Hc1 Hc2 Hg0 Hg1 Hg2 Hh HW]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hg0]; · iexact Hg0
      isplitl [Hg1]; · iexact Hg1
      isplitl [Hg2]; · iexact Hg2
      isplitl [Hh]; · iexact Hh
      isplitl [Hs0]; · iexact Hs0
      isplitl [Hs1]; · iexact Hs1
      isplitl [Hs2]; · iexact Hs2
      isplitl [Hc0]; · iexact Hc0
      isplitl [Hc1]; · iexact Hc1
      isplitl [Hc2]; · iexact Hc2
      iexists W; iexact HW
    iintro ⟨H0, H1, H2, H3, ⟨%f4, H4⟩, H5, H6, Hhomes, Hs0, Hs1, Hs2, Hc0, Hc1, Hc2, ⟨%W', HW⟩⟩
    isplitl [Hs0 Hs1 Hs2 Hprng Hc0 Hc1 Hc2 Hhomes]
    · isplitl [Hs0 Hs1 Hs2]
      · iapply (buf_join c)
        isplitl [Hs0]; · iexact Hs0
        isplitl [Hs1]; · iexact Hs1
        iexact Hs2
      isplitl [Hprng]; · iexact Hprng
      isplitl [Hc0 Hc1 Hc2]
      · isplitl [Hc0]; · iexact Hc0
        isplitl [Hc1]; · iexact Hc1
        iexact Hc2
      iexact Hhomes
    isplitl [HW]
    · iexists W'; isplitr; · ipureintro; exact fun _ _ => Or.inl trivial
      iexact HW
    isplitl [H0]; · iexists _; isplitr; · ipureintro; exact (hs0_0 t).read_unread _
                    iexact H0
    isplitl [H1]; · iexists _; isplitr; · ipureintro; exact (hs0_1 t).read_unread _
                    iexact H1
    isplitl [H2]; · iexists _; isplitr; · ipureintro; exact (hs0_2 t).read_unread _
                    iexact H2
    isplitl [H3]; · iexists _; isplitr; · ipureintro; exact (hs0_3 t).read_unread _
                    iexact H3
    isplitl [H4]
    · iexists _; isplitr
      swap; · iexact H4
      ipureintro; exact View.read_writes_of_cover _ _ _ _ _ (coverB m c t h _ _)
    isplitl [H5]
    · iexists _; isplitr
      swap; · iexact H5
      ipureintro; rfl
    iexists _; isplitr
    swap; · iexact H6
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

theorem hmainD : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩)
    main_chain

set_option backward.isDefEq.respectTransparency.types false in
/-- Every execution of the kernel's program ends with the pipeline's arrays at what the proof data gives, every other array unchanged, and every
    semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ 𝒱₀ ownSemFacts H0 H0_sub m ρ main
    (hbody := fun c => (body_obligation m c).loose) (hshare := fun c => (dats m 0 c).share_full fun _ => rfl) (howed := fun _ _ => rfl)
    (V := V m) (hmain := hmainD m) (hA := A_eq m) (hin := fun _ => .rfl) (hout := fun _ => .rfl)

/-- The arguments end unchanged, the semaphores at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_quiescent m ρ)

end Cert.AttnBwdIdeal.Hand

end
-- ==== Proof.AttnBwdMath.lean ====
/- The attention gradient of one head on one block of keys, as a function of the block's arguments, and its meaning over the reals. -/
module

public import Idealize.ShloMosaic.Lib.Pointwise
public import proofs.«01_k».proof.Proof.Reals

@[expose] public section

set_option maxRecDepth 16384

noncomputable section

open Idealize.ShloMosaic
open scoped BigOperators

namespace Cert.AttnBwdIdeal.Value

/-- The probability to stop at a key of score `z`. -/
def stop (z : EReal) : EReal := ((1/2 : ℝ) : EReal) * Ideal.tanh (((1/2 : ℝ) : EReal) * z) + ((1/2 : ℝ) : EReal)

/-- One where key `b'` comes before key `b`, else zero. -/
def before (b' b : Fin 256) : EReal := if b' < b then 1 else 0

/-- The gradient of the score at key `b`, from the weighted gradients `g` of the block's keys, the stopping probability `β` and what the earlier blocks
    sum to. -/
def scoreGrad (g : Fin 256 → EReal) (β C : EReal) (b : Fin 256) : EReal := g b - β * (g b + (C + ∑ b' : Fin 256, g b' * before b' b))

/-- The same from a query's row `q`, its cotangent `d`, the block's keys and values, the row's weights `w` and the earlier blocks' sum. -/
def rowGrad (q : Fin 64 → EReal) (k : Fin 256 → Fin 64 → EReal) (d : Fin 64 → EReal) (v : Fin 256 → Fin 64 → EReal) (w : Fin 256 → EReal) (C : EReal)
    (b : Fin 256) : EReal :=
  scoreGrad (fun b' => w b' * ∑ e : Fin 64, d e * v b' e) (stop (∑ e : Fin 64, q e * k b e)) C b

/-- Row `a` of the block's rows, counted in the tile of queries: the block leaves out the first `r0`. -/
def up {R r0 : ℕ} (h : r0 + R = 1024) (a : Fin R) : Fin 1024 := ⟨r0 + a.val, by have := a.isLt; omega⟩

/-- What one block of keys does for one head: `q`, `d` the tile's queries and cotangents, `k`, `v` the block's keys and values, `w` the weights; `acc`,
    `old8`, `old9` the query gradient, the key gradient and the value gradient before it. On a block of the diagonal only earlier keys count. -/
structure Block {R r0 : ℕ} (h : r0 + R = 1024) (diag : Bool) (q d acc acc' : (⟨2, ![1024, 64]⟩ : Shape).Idx → EReal)
    (k v old8 old9 new8 new9 : (⟨2, ![256, 64]⟩ : Shape).Idx → EReal) (C : (⟨2, ![1024, 1]⟩ : Shape).Idx → EReal) (w : Fin R → Fin 256 → EReal)
    (dz : Fin R → Fin 256 → EReal) : Prop where
  grad : ∀ a b, dz a b = if diag = true → b.val < a.val then
      rowGrad (fun e => q (ix2 (up h a) e)) (fun b e => k (ix2 b e)) (fun e => d (ix2 (up h a) e)) (fun b e => v (ix2 b e)) (w a) (C (ix2 (up h a) 0)) b else 0
  key : ∀ b e, new8 (ix2 b e) = old8 (ix2 b e) + ∑ a : Fin R, dz a b * q (ix2 (up h a) e)
  val : ∀ b e, new9 (ix2 b e) = old9 (ix2 b e) + ∑ a : Fin R, w a b * d (ix2 (up h a) e)
  query : ∀ a e, acc' (ix2 (up h a) e) = acc (ix2 (up h a) e) + ∑ b : Fin 256, dz a b * k (ix2 b e)
  rest : ∀ (a : Fin 1024) e, a.val < r0 → acc' (ix2 a e) = acc (ix2 a e)

/-- What the block does to the sums of the weighted gradients. -/
structure Sums {R r0 : ℕ} (h : r0 + R = 1024) (d : (⟨2, ![1024, 64]⟩ : Shape).Idx → EReal) (v : (⟨2, ![256, 64]⟩ : Shape).Idx → EReal)
    (C C' : (⟨2, ![1024, 1]⟩ : Shape).Idx → EReal) (w : Fin R → Fin 256 → EReal) : Prop where
  sum : ∀ a, C' (ix2 (up h a) 0) = C (ix2 (up h a) 0) + ∑ b : Fin 256, w a b * ∑ e : Fin 64, d (ix2 (up h a) e) * v (ix2 b e)
  rest : ∀ a : Fin 1024, a.val < r0 → C' (ix2 a 0) = C (ix2 a 0)

/-- One head's arguments over the reals, for a tile of 1024 queries the first of which is query `n0`. -/
structure Head where
  n0 : ℕ
  q : Fin 1024 → Fin 64 → ℝ
  d : Fin 1024 → Fin 64 → ℝ
  k : ℕ → Fin 64 → ℝ
  v : ℕ → Fin 64 → ℝ
  w : Fin 1024 → ℕ → ℝ
  past : ∀ (a : Fin 1024) (s : ℕ), n0 + a.val ≤ s → w a s = 0

namespace Head

variable (H : Head)

/-- The probability to stop at a key of score `z`. -/
def stopR (z : ℝ) : ℝ := 1/2 * Real.tanh (1/2 * z) + 1/2

/-- The weighted gradient of key `s`. -/
def g (a : Fin 1024) (s : ℕ) : ℝ := H.w a s * ∑ e : Fin 64, H.d a e * H.v s e

/-- The gradient of the score of query `a` at key `s`. -/
def dz (a : Fin 1024) (s : ℕ) : ℝ :=
  if s < H.n0 + a.val then H.g a s - stopR (∑ e : Fin 64, H.q a e * H.k s e) * (H.g a s + ∑ s' ∈ Finset.range s, H.g a s') else 0

theorem g_past (a : Fin 1024) (s : ℕ) (h : H.n0 + a.val ≤ s) : H.g a s = 0 := by rw [g, H.past a s h, zero_mul]

theorem dz_past (a : Fin 1024) (s : ℕ) (h : H.n0 + a.val ≤ s) : H.dz a s = 0 := if_neg (by omega)

end Head

theorem stop_coe (z : ℝ) : stop (z : EReal) = ((Head.stopR z : ℝ) : EReal) := by
  unfold stop Head.stopR
  rw [← EReal.coe_mul]
  show ((1/2 : ℝ) : EReal) * ((Real.tanh (1/2 * z) : ℝ) : EReal) + ((1/2 : ℝ) : EReal) = _
  rw [← EReal.coe_mul, ← EReal.coe_add]

/-- A sum over the earlier keys of the block. -/
theorem sum_before (f : ℕ → ℝ) (b : Fin 256) : ∑ b' : Fin 256, ((f b' : ℝ) : EReal) * before b' b = ((∑ s ∈ Finset.range b, f s : ℝ) : EReal) := by
  have e : ∀ b' : Fin 256, ((f b' : ℝ) : EReal) * before b' b = (((if b'.val < b.val then f b' else 0 : ℝ)) : EReal) := fun b' => by
    unfold before
    by_cases h : b' < b
    · rw [if_pos h, if_pos (show b'.val < b.val from h), mul_one]
    · rw [if_neg h, if_neg (show ¬b'.val < b.val from h), mul_zero]; rfl
  rw [Finset.sum_congr rfl fun b' _ => e b', Cert.Reals.coe_sum]
  congr 1
  rw [Fin.sum_univ_eq_sum_range (fun s => if s < b.val then f s else 0) 256, ← Finset.sum_filter]
  refine Finset.sum_congr (Finset.ext fun s => ?_) fun _ _ => rfl
  rw [Finset.mem_filter, Finset.mem_range, Finset.mem_range]
  have := b.isLt
  omega

/-- A block's sum after what came before it. -/
theorem sum_block (f : ℕ → ℝ) (N : ℕ) : ∑ s ∈ Finset.range (N + 256), f s = ∑ s ∈ Finset.range N, f s + ∑ b : Fin 256, f (N + b) := by
  rw [Finset.sum_range_add, Fin.sum_univ_eq_sum_range (fun s => f (N + s)) 256]

/-- A sum over the block's rows is one over the whole tile's where the rows left out add nothing. -/
theorem sum_up {R r0 : ℕ} (h : r0 + R = 1024) (f : Fin 1024 → ℝ) (hf : ∀ a : Fin 1024, a.val < r0 → f a = 0) : ∑ a : Fin R, f (up h a) = ∑ a : Fin 1024, f a := by
  refine Fintype.sum_of_injective (up h) (fun a b hab => Fin.ext ?_) _ _ (fun a ha => hf a ?_) fun _ => rfl
  · have : r0 + a.val = r0 + b.val := congrArg Fin.val hab
    omega
  · by_contra hn
    exact ha ⟨⟨a.val - r0, by have := a.isLt; omega⟩, Fin.ext (show r0 + (a.val - r0) = a.val by omega)⟩

variable {H : Head} {N : ℕ}

/-- A row's gradient over the reals. -/
theorem rowGrad_coe (H : Head) (N : ℕ) (a : Fin 1024) (b : Fin 256) :
    rowGrad (fun e => ((H.q a e : ℝ) : EReal)) (fun b e => ((H.k (N + b) e : ℝ) : EReal)) (fun e => ((H.d a e : ℝ) : EReal)) (fun b e => ((H.v (N + b) e : ℝ) : EReal))
        (fun b => ((H.w a (N + b) : ℝ) : EReal)) ((∑ s ∈ Finset.range N, H.g a s : ℝ) : EReal) b
      = ((H.g a (N + b) - Head.stopR (∑ e : Fin 64, H.q a e * H.k (N + b) e) * (H.g a (N + b) + ∑ s' ∈ Finset.range (N + b), H.g a s') : ℝ) : EReal) := by
  have eg : ∀ b' : Fin 256, ((H.w a (N + b') : ℝ) : EReal) * ∑ e : Fin 64, ((H.d a e : ℝ) : EReal) * ((H.v (N + b') e : ℝ) : EReal) = ((H.g a (N + b') : ℝ) : EReal) := fun b' => by
    rw [Finset.sum_congr rfl fun e _ => (EReal.coe_mul (H.d a e) (H.v (N + b') e)).symm, Cert.Reals.coe_sum, ← EReal.coe_mul]; rfl
  unfold rowGrad scoreGrad
  dsimp only
  rw [eg b, Finset.sum_congr rfl fun b' _ => congrArg (· * before b' b) (eg b'), sum_before (fun s => H.g a (N + s)) b,
    Finset.sum_congr rfl fun e _ => (EReal.coe_mul (H.q a e) (H.k (N + b) e)).symm, Cert.Reals.coe_sum, stop_coe]
  rw [← EReal.coe_add, ← EReal.coe_add, ← EReal.coe_mul, ← EReal.coe_sub, Finset.sum_range_add]

section Step

variable {R r0 : ℕ} {h : r0 + R = 1024} {diag : Bool} {q d acc acc' : (⟨2, ![1024, 64]⟩ : Shape).Idx → EReal}
  {k v old8 old9 new8 new9 : (⟨2, ![256, 64]⟩ : Shape).Idx → EReal} {C C' : (⟨2, ![1024, 1]⟩ : Shape).Idx → EReal} {w : Fin R → Fin 256 → EReal}
  {dz : Fin R → Fin 256 → EReal}

/-- Where a block lies: on the diagonal it begins at the first row it keeps; before the diagonal it ends before the tile's first query. -/
def Placed (H : Head) (N r0 : ℕ) (diag : Bool) : Prop := if diag = true then N = H.n0 + r0 else N + 256 ≤ H.n0 ∧ r0 = 0

theorem Placed.skip (hp : Placed H N r0 diag) {a : Fin 1024} (ha : a.val < r0) (b : ℕ) : H.n0 + a.val ≤ N + b := by
  unfold Placed at hp
  cases diag with
  | true => rw [if_pos rfl] at hp; omega
  | false => rw [if_neg (by decide)] at hp; omega

theorem Block.grad_coe (B : Block h diag q d acc acc' k v old8 old9 new8 new9 C w dz) (hp : Placed H N r0 diag)
    (hq : ∀ a e, q (ix2 a e) = ((H.q a e : ℝ) : EReal)) (hd : ∀ a e, d (ix2 a e) = ((H.d a e : ℝ) : EReal))
    (hk : ∀ (b : Fin 256) e, k (ix2 b e) = ((H.k (N + b) e : ℝ) : EReal)) (hv : ∀ (b : Fin 256) e, v (ix2 b e) = ((H.v (N + b) e : ℝ) : EReal))
    (hw : ∀ a (b : Fin 256), w a b = ((H.w (up h a) (N + b) : ℝ) : EReal)) (hC : ∀ a, C (ix2 a 0) = ((∑ s ∈ Finset.range N, H.g a s : ℝ) : EReal))
    (a : Fin R) (b : Fin 256) : dz a b = ((H.dz (up h a) (N + b) : ℝ) : EReal) := by
  rw [B.grad a b]
  have ew : w a = fun b : Fin 256 => ((H.w (up h a) (N + b) : ℝ) : EReal) := funext (hw a)
  simp only [hq, hd, hk, hv, ew, hC, rowGrad_coe]
  unfold Head.dz
  have ha := a.isLt
  have hb := b.isLt
  have hu : (up h a).val = r0 + a.val := rfl
  cases diag with
  | true =>
    have hp' : N = H.n0 + r0 := hp
    by_cases hab : b.val < a.val
    · rw [if_pos fun _ => hab, if_pos (by omega)]
    · rw [if_neg fun hh => hab (hh rfl), if_neg (by omega)]; rfl
  | false =>
    have hp' : N + 256 ≤ H.n0 ∧ r0 = 0 := hp
    rw [if_pos fun hh => absurd hh (by decide), if_pos (by omega)]

/-- One block over the reals. -/
theorem Block.real (B : Block h diag q d acc acc' k v old8 old9 new8 new9 C w dz) (hp : Placed H N r0 diag)
    (hq : ∀ a e, q (ix2 a e) = ((H.q a e : ℝ) : EReal)) (hd : ∀ a e, d (ix2 a e) = ((H.d a e : ℝ) : EReal))
    (hk : ∀ (b : Fin 256) e, k (ix2 b e) = ((H.k (N + b) e : ℝ) : EReal)) (hv : ∀ (b : Fin 256) e, v (ix2 b e) = ((H.v (N + b) e : ℝ) : EReal))
    (hw : ∀ a (b : Fin 256), w a b = ((H.w (up h a) (N + b) : ℝ) : EReal)) (hC : ∀ a, C (ix2 a 0) = ((∑ s ∈ Finset.range N, H.g a s : ℝ) : EReal))
    (hacc : ∀ a e, acc (ix2 a e) = ((∑ s ∈ Finset.range N, H.dz a s * H.k s e : ℝ) : EReal)) :
    (∀ (b : Fin 256) e, new8 (ix2 b e) = old8 (ix2 b e) + ((∑ a : Fin 1024, H.dz a (N + b) * H.q a e : ℝ) : EReal))
      ∧ (∀ (b : Fin 256) e, new9 (ix2 b e) = old9 (ix2 b e) + ((∑ a : Fin 1024, H.w a (N + b) * H.d a e : ℝ) : EReal))
      ∧ ∀ a e, acc' (ix2 a e) = ((∑ s ∈ Finset.range (N + 256), H.dz a s * H.k s e : ℝ) : EReal) := by
  have hdz := B.grad_coe hp hq hd hk hv hw hC
  refine ⟨fun b e => ?_, fun b e => ?_, fun a e => ?_⟩
  · rw [B.key b e]
    simp only [hdz, hq, ← EReal.coe_mul, Cert.Reals.coe_sum]
    rw [sum_up h (fun a => H.dz a (N + b) * H.q a e) fun a ha => by rw [H.dz_past a _ (hp.skip ha b), zero_mul]]
  · rw [B.val b e]
    simp only [hw, hd, ← EReal.coe_mul, Cert.Reals.coe_sum]
    rw [sum_up h (fun a => H.w a (N + b) * H.d a e) fun a ha => by rw [H.past a _ (hp.skip ha b), zero_mul]]
  · rw [sum_block, EReal.coe_add, ← hacc a e]
    by_cases ha : a.val < r0
    · rw [B.rest a e ha, Finset.sum_eq_zero fun b _ => by rw [H.dz_past a _ (hp.skip ha b), zero_mul]]
      exact (add_zero _).symm
    · obtain ⟨a', rfl⟩ : ∃ a' : Fin R, a = up h a' :=
        ⟨⟨a.val - r0, by have := a.isLt; omega⟩, Fin.ext (show a.val = r0 + (a.val - r0) by omega)⟩
      rw [B.query a' e]
      simp only [hdz, hk, ← EReal.coe_mul, Cert.Reals.coe_sum]

/-- The sums of the weighted gradients over the reals. -/
theorem Sums.real (S : Sums h d v C C' w) (hp : Placed H N r0 diag)
    (hd : ∀ a e, d (ix2 a e) = ((H.d a e : ℝ) : EReal)) (hv : ∀ (b : Fin 256) e, v (ix2 b e) = ((H.v (N + b) e : ℝ) : EReal))
    (hw : ∀ a (b : Fin 256), w a b = ((H.w (up h a) (N + b) : ℝ) : EReal)) (hC : ∀ a, C (ix2 a 0) = ((∑ s ∈ Finset.range N, H.g a s : ℝ) : EReal)) :
    ∀ a, C' (ix2 a 0) = ((∑ s ∈ Finset.range (N + 256), H.g a s : ℝ) : EReal) := by
  intro a
  rw [sum_block, EReal.coe_add, ← hC a]
  by_cases ha : a.val < r0
  · rw [S.rest a ha, Finset.sum_eq_zero fun (b : Fin 256) _ => H.g_past a (N + b.val) (hp.skip ha b)]
    exact (add_zero _).symm
  · obtain ⟨a', rfl⟩ : ∃ a' : Fin R, a = up h a' :=
      ⟨⟨a.val - r0, by have := a.isLt; omega⟩, Fin.ext (show a.val = r0 + (a.val - r0) by omega)⟩
    rw [S.sum a']
    simp only [hw, hd, hv, ← EReal.coe_mul, Cert.Reals.coe_sum]
    rfl

end Step

end Cert.AttnBwdIdeal.Value
-- ==== Proof.AttnBwdScalar.lean ====
/- The scalar functions of the stick-breaking weights over the reals: the softplus as the programs write it, and the two probabilities that are its
   derivatives. -/
module

public import proofs.«01_k».proof.Proof.AttnBwdMath

@[expose] public section

noncomputable section

open Idealize.ShloMosaic
open scoped BigOperators

namespace Cert.AttnBwdIdeal.Value

/-- The softplus of a real number, as the programs compute it. -/
def softplusR (z : ℝ) : ℝ := max z 0 + Real.log (1 + Real.exp (-max z (-z)))

theorem coe_max (a b : ℝ) : max (a : EReal) (b : EReal) = ((max a b : ℝ) : EReal) := (EReal.coe_strictMono.monotone.map_max).symm

theorem log1p_coe {x : ℝ} (h : 0 < x) : Ideal.log1p (x : EReal) = ((Real.log (1 + x) : ℝ) : EReal) := by
  unfold Ideal.log1p
  rw [← EReal.coe_one, ← EReal.coe_add]
  show (if 1 + x ≤ 0 then ⊥ else ((Real.log (1 + x) : ℝ) : EReal)) = _
  rw [if_neg (by linarith)]

theorem softplus_coe (z : ℝ) :
    max (z : EReal) 0 + Ideal.log1p (Ideal.exp (-max (z : EReal) (-(z : EReal)))) = ((softplusR z : ℝ) : EReal) := by
  rw [← EReal.coe_zero, ← EReal.coe_neg, coe_max, coe_max, ← EReal.coe_neg]
  show ((max z 0 : ℝ) : EReal) + Ideal.log1p ((Real.exp (-max z (-z)) : ℝ) : EReal) = _
  rw [log1p_coe (Real.exp_pos _), ← EReal.coe_add]
  rfl

theorem exp_softplus (z : ℝ) : Real.exp (softplusR z) = 1 + Real.exp z := by
  unfold softplusR
  have hp : ∀ y : ℝ, 0 < 1 + Real.exp y := fun y => by have := Real.exp_pos y; linarith
  rw [Real.exp_add, Real.exp_log (hp _)]
  rcases le_total z 0 with h | h
  · rw [max_eq_right h, max_eq_right (by linarith), neg_neg, Real.exp_zero, one_mul]
  · rw [max_eq_left h, max_eq_left (by linarith), mul_add, mul_one, ← Real.exp_add, add_neg_cancel, Real.exp_zero, add_comm]

theorem stopR_eq (z : ℝ) : Head.stopR z = Real.exp z / (1 + Real.exp z) := by
  unfold Head.stopR
  have e : z = 1/2 * z + 1/2 * z := by ring
  have e2 : Real.exp z = Real.exp (1/2 * z) * Real.exp (1/2 * z) := by rw [← Real.exp_add, ← e]
  rw [e2, Real.tanh_eq_sinh_div_cosh, Real.sinh_eq, Real.cosh_eq, Real.exp_neg]
  generalize hx : Real.exp (1/2 * z) = x
  have hx0 : 0 < x := hx ▸ Real.exp_pos _
  have hne : x ≠ 0 := hx0.ne'
  have h1 : x * x + 1 ≠ 0 := by nlinarith
  have h2 : 1 + x * x ≠ 0 := by nlinarith
  have h3 : (x + x⁻¹) / 2 ≠ 0 := by positivity
  field_simp
  ring

/-- The derivative of the softplus is the stopping probability. -/
theorem exp_sub_softplus (z : ℝ) : Real.exp (z - softplusR z) = Head.stopR z := by
  rw [Real.exp_sub, exp_softplus, stopR_eq]

theorem stopR_neg (z : ℝ) : Head.stopR (-z) = 1 - Head.stopR z := by
  unfold Head.stopR
  rw [mul_neg, Real.tanh_neg]
  ring

end Cert.AttnBwdIdeal.Value

end
-- ==== Proof.AttnBwdRefPoint.lean ====
/- The reference's probabilities at one query and one key, from its score there. -/
module

public import proofs.«01_k».proof.Proof.AttnBwdScalar
public import proofs.«01_k».proof.Proof.Gen.AttnBwdRefIdeal.Read

@[expose] public section

noncomputable section

open Idealize.ShloMosaic
open scoped BigOperators

namespace Cert.AttnBwdIdeal.Value

open Cert.AttnBwdRefIdeal Cert.AttnBwdRefIdeal.Read

/-- The softplus as the programs print it, with its guard against a value that is no number. -/
theorem soft (z : ℝ) :
    (if (z : EReal) ≠ (z : EReal) then (z : EReal) else max (z : EReal) 0 + Ideal.log1p (Ideal.exp (-(FloatOps.absf (F := Ideal) (φ := .f32) (z : EReal) : EReal))))
      = ((softplusR z : ℝ) : EReal) := by
  rw [if_neg (fun h => h rfl)]
  exact softplus_coe z

/-- Its derivative as the programs print it. -/
theorem soft_grad (z s : ℝ) (hs : s = softplusR z) :
    Ideal.exp ((if (z : EReal) = ⊤ then 0 else (z : EReal)) - (if (s : EReal) = ⊤ then 0 else (s : EReal))) = ((Head.stopR z : ℝ) : EReal) := by
  subst hs
  rw [if_neg (EReal.coe_ne_top _), if_neg (EReal.coe_ne_top _), ← EReal.coe_sub]
  show ((Real.exp (z - softplusR z) : ℝ) : EReal) = _
  rw [exp_sub_softplus]

variable (x0 x1 : (⟨S8192x1024, .f32⟩ : BufTy).Contents (Elt Ideal)) (i : S16x8192x8192.Idx) (z : ℝ)

/-- The stopping probability. -/
theorem stop_point (hz : val_main_v4 (F := Ideal) x0 x1 i = (z : EReal)) : val_main_v13_1 (F := Ideal) x0 x1 i = ((Head.stopR z : ℝ) : EReal) := by
  unfold val_main_v13_1 val_main_call0_call0_v21 val_main_call0_call0_v20 val_main_call0_call0_v19 val_main_call0_call0_cst_3 val_main_call0_call0_v18 val_main_call0_call0_v17 val_main_call0_call0_cst_2 val_main_call0_v1_0 val_main_call0_call0_v11 val_main_call0_call0_v10 val_main_call0_call0_v9 val_main_call0_call0_v8 val_main_call0_call0_v7 val_main_call0_call0_v1 val_main_call0_call0_v0 val_main_call0_call0_v6 val_main_call0_call0_v5 val_main_call0_call0_v4 val_main_call0_call0_v3 val_main_call0_call0_v2 val_main_call0_call0_cst val_main_call0_call0_v16 val_main_call0_call0_v15 val_main_call0_call0_cst_1 val_main_call0_call0_v14 val_main_call0_call0_v13 val_main_call0_call0_cst_0 val_main_call0_v0 val_main_v12
  pointwise [hz, Cert.Reals.infinity]
  simp only [neg_neg]
  rw [soft]
  exact soft_grad z _ rfl

/-- The logarithm of the probability to go on. -/
theorem keep_point (hz : val_main_v4 (F := Ideal) x0 x1 i = (z : EReal)) : val_main_v13_0 (F := Ideal) x0 x1 i = ((-softplusR z : ℝ) : EReal) := by
  unfold val_main_v13_0 val_main_call0_v1_0 val_main_call0_call0_v11 val_main_call0_call0_v10 val_main_call0_call0_v9 val_main_call0_call0_v8 val_main_call0_call0_v7 val_main_call0_call0_v1 val_main_call0_call0_v0 val_main_call0_call0_v6 val_main_call0_call0_v5 val_main_call0_call0_v4 val_main_call0_call0_v3 val_main_call0_call0_v2 val_main_call0_call0_cst val_main_call0_v0 val_main_v12
  pointwise [hz, Cert.Reals.infinity]
  simp only [neg_neg]
  rw [soft]
  exact (EReal.coe_neg _).symm

/-- The logarithm of the stopping probability. -/
theorem log_stop_point (hz : val_main_v4 (F := Ideal) x0 x1 i = (z : EReal)) : val_main_v17_0 (F := Ideal) x0 x1 i = ((-softplusR (-z) : ℝ) : EReal) := by
  unfold val_main_v17_0 val_main_call3_v1_0 val_main_call3_call0_v11 val_main_call3_call0_v10 val_main_call3_call0_v9 val_main_call3_call0_v8 val_main_call3_call0_v7 val_main_call3_call0_v1 val_main_call3_call0_v0 val_main_call3_call0_v6 val_main_call3_call0_v5 val_main_call3_call0_v4 val_main_call3_call0_v3 val_main_call3_call0_v2 val_main_call3_call0_cst val_main_call3_v0
  pointwise [hz, Cert.Reals.infinity]
  rw [← EReal.coe_neg, soft]
  exact (EReal.coe_neg _).symm

/-- The derivative of that logarithm: the probability to go on. -/
theorem go_point (hz : val_main_v4 (F := Ideal) x0 x1 i = (z : EReal)) : val_main_v17_1 (F := Ideal) x0 x1 i = ((1 - Head.stopR z : ℝ) : EReal) := by
  unfold val_main_v17_1 val_main_call3_call0_v21 val_main_call3_call0_v20 val_main_call3_call0_v19 val_main_call3_call0_cst_3 val_main_call3_call0_v18 val_main_call3_call0_v17 val_main_call3_call0_cst_2 val_main_call3_v1_0 val_main_call3_call0_v11 val_main_call3_call0_v10 val_main_call3_call0_v9 val_main_call3_call0_v8 val_main_call3_call0_v7 val_main_call3_call0_v1 val_main_call3_call0_v0 val_main_call3_call0_v6 val_main_call3_call0_v5 val_main_call3_call0_v4 val_main_call3_call0_v3 val_main_call3_call0_v2 val_main_call3_call0_cst val_main_call3_call0_v16 val_main_call3_call0_v15 val_main_call3_call0_cst_1 val_main_call3_call0_v14 val_main_call3_call0_v13 val_main_call3_call0_cst_0 val_main_call3_v0
  pointwise [hz, Cert.Reals.infinity]
  rw [← EReal.coe_neg, soft, ← stopR_neg]
  exact soft_grad (-z) _ rfl

end Cert.AttnBwdIdeal.Value

end
-- ==== Proof.AttnBwdRefHead.lean ====
/- The real numbers both programs compute for the attention's gradient, head by head: scores, weights, the gradient of a score. -/
module

public import proofs.«01_k».proof.Proof.AttnBwdRefPoint

@[expose] public section

noncomputable section

open Idealize.ShloMosaic
open scoped BigOperators

namespace Cert.AttnBwdIdeal.Value

/-- Column `e` of head `h`. -/
abbrev col (h : Fin 16) (e : Fin 64) : Fin 1024 := ⟨64 * h.val + e.val, by omega⟩

/-- The arguments over the reals, with the weights they lead to. -/
structure Args where
  q : (⟨2, ![8192, 1024]⟩ : Shape).Idx → ℝ
  k : (⟨2, ![8192, 1024]⟩ : Shape).Idx → ℝ
  v : (⟨2, ![8192, 1024]⟩ : Shape).Idx → ℝ
  d : (⟨2, ![8192, 1024]⟩ : Shape).Idx → ℝ
  w : Fin 16 → Fin 8192 → Fin 8192 → ℝ
  past : ∀ h t s, t ≤ s → w h t s = 0

namespace Args

variable (A : Args)

/-- Row `s` of head `h` of an array of keys or values; zero past its end. -/
def row (x : (⟨2, ![8192, 1024]⟩ : Shape).Idx → ℝ) (h : Fin 16) (s : ℕ) (e : Fin 64) : ℝ := if hs : s < 8192 then x (ix2 ⟨s, hs⟩ (col h e)) else 0

/-- The weight of key `s`; zero past the end. -/
def weight (h : Fin 16) (t : Fin 8192) (s : ℕ) : ℝ := if hs : s < 8192 then A.w h t ⟨s, hs⟩ else 0

/-- The weighted gradient of key `s`. -/
def g (h : Fin 16) (t : Fin 8192) (s : ℕ) : ℝ := A.weight h t s * ∑ e : Fin 64, A.d (ix2 t (col h e)) * row A.v h s e

/-- The gradient of the score of query `t` at key `s`. -/
def dz (h : Fin 16) (t : Fin 8192) (s : ℕ) : ℝ :=
  if s < t.val then A.g h t s - Head.stopR (∑ e : Fin 64, A.q (ix2 t (col h e)) * row A.k h s e) * (A.g h t s + ∑ s' ∈ Finset.range s, A.g h t s') else 0

/-- The query of row `a` in tile `i`. -/
abbrev query (i : Fin 8) (a : Fin 1024) : Fin 8192 := ⟨1024 * i.val + a.val, by omega⟩

/-- One head of one tile of queries. -/
def head (h : Fin 16) (i : Fin 8) : Head where
  n0 := 1024 * i.val
  q a e := A.q (ix2 (query i a) (col h e))
  d a e := A.d (ix2 (query i a) (col h e))
  k := row A.k h
  v := row A.v h
  w a := A.weight h (query i a)
  past a s hs := by
    unfold weight
    by_cases h8 : s < 8192
    · rw [dif_pos h8]; exact A.past _ _ _ hs
    · rw [dif_neg h8]

theorem head_dz (h : Fin 16) (i : Fin 8) (a : Fin 1024) (s : ℕ) : (A.head h i).dz a s = A.dz h (query i a) s := rfl

/-- A sum over the queries, tile by tile. -/
theorem sum_tiles (f : Fin 8192 → ℝ) : ∑ t : Fin 8192, f t = ∑ i : Fin 8, ∑ a : Fin 1024, f (query i a) := by
  rw [← Fintype.sum_prod_type']
  exact (Fintype.sum_equiv (finProdFinEquiv (m := 8) (n := 1024)) _ _ fun x => congrArg f (Fin.ext (show 1024 * x.1.val + x.2.val = x.2.val + 1024 * x.1.val by omega))).symm

end Args

end Cert.AttnBwdIdeal.Value

end
-- ==== Proof.AttnBwdRefValue.lean ====
/- What the reference computes: its scores, its weights, its two running sums and its three gradients, as real numbers. -/
module

public import proofs.«01_k».proof.Proof.AttnBwdRefHead
public import proofs.«01_k».proof.Proof.Running

@[expose] public section

noncomputable section

open Idealize.ShloMosaic
open scoped BigOperators

namespace Cert.AttnBwdIdeal.Value

open Cert.AttnBwdRefIdeal Cert.AttnBwdRefIdeal.Gen Cert.AttnBwdRefIdeal.Read

theorem select_one {α : Type} (a b : α) : Scalar.select 1#1 a b = a := rfl
theorem select_zero {α : Type} (a b : α) : Scalar.select 0#1 a b = b := rfl

/-! ## Heads and scores -/

theorem ext3 {n0 n1 n2 : ℕ} {j : (⟨3, ![n0, n1, n2]⟩ : Shape).Idx} {a : Fin n0} {b : Fin n1} {c : Fin n2} (h0 : (j 0).val = a.val) (h1 : (j 1).val = b.val)
    (h2 : (j 2).val = c.val) : j = ix3 a b c :=
  funext fun d => Fin.ext <| match d with
    | ⟨0, _⟩ => h0
    | ⟨1, _⟩ => h1
    | ⟨2, _⟩ => h2

theorem ext2 {n0 n1 : ℕ} {j : (⟨2, ![n0, n1]⟩ : Shape).Idx} {a : Fin n0} {b : Fin n1} (h0 : (j 0).val = a.val) (h1 : (j 1).val = b.val) : j = ix2 a b :=
  funext fun d => Fin.ext <| match d with
    | ⟨0, _⟩ => h0
    | ⟨1, _⟩ => h1

theorem head_v1 (x : FVec Ideal S8192x1024 .f32) (h : Fin 16) (t : Fin 8192) (e : Fin 64) :
    val_main_v1 (F := Ideal) x (ix3 h t e) = x (ix2 t (col h e)) := by
  rw [val_main_v1_apply, val_main_v0_apply]
  refine congrArg x (ext2 ?_ ?_)
  · show ((t.val * 16 + h.val) * 64 + e.val) / 1024 = t.val; omega
  · show ((t.val * 16 + h.val) * 64 + e.val) % 1024 = 64 * h.val + e.val; omega

theorem v3_eq (x : FVec Ideal S8192x1024 .f32) : val_main_v3 (F := Ideal) x = val_main_v1 (F := Ideal) x := rfl
theorem v22_eq (x : FVec Ideal S8192x1024 .f32) : val_main_v22 (F := Ideal) x = val_main_v1 (F := Ideal) x := rfl
theorem v27_eq (x : FVec Ideal S8192x1024 .f32) : val_main_v27 (F := Ideal) x = val_main_v1 (F := Ideal) x := rfl

section

variable {x y : FVec Ideal S8192x1024 .f32} {X Y : S8192x1024.Idx → ℝ} (hx : x = fun i => ((X i : ℝ) : EReal)) (hy : y = fun i => ((Y i : ℝ) : EReal))
include hx hy

theorem coe_dot (h : Fin 16) (t s : Fin 8192) :
    ∑ e : Fin 64, (val_main_v1 (F := Ideal) x (ix3 h t e) : EReal) * (val_main_v1 (F := Ideal) y (ix3 h s e) : EReal)
      = ((∑ e : Fin 64, X (ix2 t (col h e)) * Args.row Y h s e : ℝ) : EReal) := by
  rw [← Cert.Reals.coe_sum]
  refine Finset.sum_congr rfl fun e _ => ?_
  rw [head_v1, head_v1, hx, hy, ← EReal.coe_mul]
  unfold Args.row
  rw [dif_pos s.isLt]

theorem score_point (h : Fin 16) (t s : Fin 8192) :
    val_main_v4 (F := Ideal) x y (ix3 h t s) = ((∑ e : Fin 64, X (ix2 t (col h e)) * Args.row Y h s e : ℝ) : EReal) := by
  rw [val_main_v4_apply, v3_eq, ← coe_dot hx hy]
  exact Finset.sum_congr rfl fun e _ => congrArg₂ (· * · : EReal → EReal → EReal)
    (congrArg (val_main_v1 (F := Ideal) x) (ext3 rfl rfl rfl)) (congrArg (val_main_v1 (F := Ideal) y) (ext3 rfl rfl rfl))

theorem da_point (h : Fin 16) (t s : Fin 8192) :
    val_main_v30 (F := Ideal) y x (ix3 h t s) = ((∑ e : Fin 64, X (ix2 t (col h e)) * Args.row Y h s e : ℝ) : EReal) := by
  rw [val_main_v30_apply, v22_eq, v27_eq, ← coe_dot hx hy]
  exact Finset.sum_congr rfl fun e _ => congrArg₂ (· * · : EReal → EReal → EReal)
    (congrArg (val_main_v1 (F := Ideal) x) (ext3 rfl rfl rfl)) (congrArg (val_main_v1 (F := Ideal) y) (ext3 rfl rfl rfl))

end

/-! ## The mask -/

theorem mask_point (h : Fin 16) (t s : Fin 8192) : val_main_v14_1 (F := Ideal) (ix3 h t s) = if s.val < t.val then 1#1 else 0#1 := by
  have e : ∀ n : Fin 8192, (BitVec.ofNat 32 n.val).toInt = (n.val : ℤ) := fun n => by
    have := n.isLt
    rw [BitVec.toInt_eq_toNat_cond, BitVec.toNat_ofNat, Nat.mod_eq_of_lt (by omega), if_pos (by omega)]
  unfold val_main_v14_1 val_main_v11 val_main_v10 val_main_v9 val_main_v8 val_main_v7 val_main_v6 val_main_v5
  pointwise
  unfold IntOp.cmpi
  simp only [BitVec.slt, e, Nat.cast_lt]
  by_cases h : s.val < t.val <;> simp [h]

theorem mask_eq : val_main_v20_1 (F := Ideal) = val_main_v14_1 (F := Ideal) := rfl

/-! ## The running sums -/

/-- A sum over windows of real numbers is a real number. -/
theorem window_real {s t : Shape} {window strides lo hi : Fin s.rank → Nat} (h : s.ReduceWindows window strides lo hi t) (x : s.Idx → EReal)
    (hx : ∀ i, ∃ r : ℝ, x i = (r : EReal)) (j : t.Idx) : ∃ r : ℝ, Ideal.hostReduceWindowAdd window strides lo hi h x 0 j = (r : EReal) := by
  obtain ⟨X, hX⟩ : ∃ X : s.Idx → ℝ, ∀ i, x i = ((X i : ℝ) : EReal) := ⟨fun i => (hx i).choose, fun i => (hx i).choose_spec⟩
  rw [Cert.Running.window_sum]
  refine ⟨∑ w : (⟨s.rank, window⟩ : Shape).Idx, if hin : ∀ a, lo a ≤ (j (a.cast h.1.symm)).val * strides a + (w a).val
              ∧ (j (a.cast h.1.symm)).val * strides a + (w a).val - lo a < s.size a
          then X (fun a => ⟨(j (a.cast h.1.symm)).val * strides a + (w a).val - lo a, (hin a).2⟩) else 0, ?_⟩
  rw [← Cert.Reals.coe_sum]
  refine Finset.sum_congr rfl fun w _ => ?_
  split_ifs
  · exact hX _
  · exact EReal.coe_zero.symm

/-- The running sum along the last of three axes, as the host writes it. -/
theorem prefix_sum {p q n : ℕ} {lo hi : Fin 3 → ℕ} (hlo : lo = ![0, 0, n - 1])
    (h : (⟨3, ![p, q, n]⟩ : Shape).ReduceWindows ![1, 1, n] ![1, 1, 1] lo hi ⟨3, ![p, q, n]⟩)
    (x : (⟨3, ![p, q, n]⟩ : Shape).Idx → EReal) (a : Fin p) (b : Fin q) (X : ℕ → ℝ) (hX : ∀ s : Fin n, x (ix3 a b s) = ((X s : ℝ) : EReal)) (r : Fin n) :
    Ideal.hostReduceWindowAdd ![1, 1, n] ![1, 1, 1] lo hi h x 0 (ix3 a b r) = ((∑ s ∈ Finset.range (r.val + 1), X s : ℝ) : EReal) := by
  subst hlo
  have hr := r.isLt
  rw [Cert.Running.window_sum]
  refine (sum_idx3 (n0 := 1) (n1 := 1) (n2 := n) _).trans ?_
  rw [Fin.sum_univ_one, Fin.sum_univ_one]
  have e : ∑ s ∈ Finset.range (r.val + 1), X s = ∑ k : Fin n, if n - 1 ≤ r.val + k.val then X (r.val + k.val - (n - 1)) else 0 := by
    rw [Fin.sum_univ_eq_sum_range (fun k => if n - 1 ≤ r.val + k then X (r.val + k - (n - 1)) else 0) n]
    have en : n = (n - 1 - r.val) + (r.val + 1) := by omega
    rw [show Finset.range n = Finset.range (n - 1 - r.val + (r.val + 1)) from congrArg Finset.range en,
      Finset.sum_range_add (fun k => if n - 1 ≤ r.val + k then X (r.val + k - (n - 1)) else 0) (n - 1 - r.val) (r.val + 1),
      Finset.sum_eq_zero (s := Finset.range (n - 1 - r.val)), zero_add]
    · refine Finset.sum_congr rfl fun s hs => ?_
      have hs' := Finset.mem_range.mp hs
      rw [if_pos (by omega)]
      exact congrArg X (by omega)
    · intro s hs
      have hs' := Finset.mem_range.mp hs
      exact if_neg (by omega)
  rw [e, ← Cert.Reals.coe_sum]
  refine Finset.sum_congr rfl fun k _ => ?_
  have hk := k.isLt
  by_cases hc : n - 1 ≤ r.val + k.val
  · rw [if_pos hc, dif_pos]
    · have hl : r.val + k.val - (n - 1) < n := by omega
      refine Eq.trans (congrArg x (ext3 (a := a) (b := b) (c := ⟨r.val + k.val - (n - 1), hl⟩) ?_ ?_ ?_)) (hX ⟨_, hl⟩)
      · show (a : ℕ) * 1 + 0 - 0 = a; omega
      · show (b : ℕ) * 1 + 0 - 0 = b; omega
      · show (r : ℕ) * 1 + k - (n - 1) = r + k - (n - 1); omega
    · intro d
      match d with
      | ⟨0, _⟩ => exact ⟨Nat.zero_le _, (show (a : ℕ) * 1 + 0 - 0 < p by have := a.isLt; omega)⟩
      | ⟨1, _⟩ => exact ⟨Nat.zero_le _, (show (b : ℕ) * 1 + 0 - 0 < q by have := b.isLt; omega)⟩
      | ⟨2, _⟩ => exact ⟨(show n - 1 ≤ (r : ℕ) * 1 + k by omega), (show (r : ℕ) * 1 + k - (n - 1) < n by omega)⟩
  · rw [if_neg hc, dif_neg]
    · exact EReal.coe_zero.symm
    · intro hin
      have h3 : n - 1 ≤ (r : ℕ) * 1 + k := (hin (2 : Fin 3)).1
      omega

/-! ## The weights -/

/-- The extended reals of an array of arguments are the reals `A` names. -/
structure Holds (A : Args) (x0 x1 x2 x3 : FVec Ideal S8192x1024 .f32) : Prop where
  q : x0 = fun i => ((A.q i : ℝ) : EReal)
  k : x1 = fun i => ((A.k i : ℝ) : EReal)
  v : x2 = fun i => ((A.v i : ℝ) : EReal)
  d : x3 = fun i => ((A.d i : ℝ) : EReal)
  w : ∀ h t s, s < t → val_main_v19 (F := Ideal) x0 x1 (ix3 h t s) = ((A.w h t s : ℝ) : EReal)

theorem log_keep_point {x y : FVec Ideal S8192x1024 .f32} {X Y : S8192x1024.Idx → ℝ} (hx : x = fun i => ((X i : ℝ) : EReal))
    (hy : y = fun i => ((Y i : ℝ) : EReal)) (h : Fin 16) (t s : Fin 8192) :
    val_main_v14_0 (F := Ideal) x y (ix3 h t s)
      = ((if s.val < t.val then -softplusR (∑ e : Fin 64, X (ix2 t (col h e)) * Args.row Y h s e) else 0 : ℝ) : EReal) := by
  unfold val_main_v14_0 val_main_call1_v2 val_main_call1_v0 val_main_cst
  pointwise [id_eq, mask_point, keep_point x y (ix3 h t s) _ (score_point hx hy h t s)]
  by_cases hst : s.val < t.val
  · rw [if_pos hst, if_pos hst, select_one]
  · rw [if_neg hst, if_neg hst, select_zero]
    exact EReal.coe_zero.symm

theorem weights_real {x y : FVec Ideal S8192x1024 .f32} {X Y : S8192x1024.Idx → ℝ} (hx : x = fun i => ((X i : ℝ) : EReal))
    (hy : y = fun i => ((Y i : ℝ) : EReal)) : ∃ W : Fin 16 → Fin 8192 → Fin 8192 → ℝ, ∀ h t s, val_main_v19 (F := Ideal) x y (ix3 h t s) = ((W h t s : ℝ) : EReal) := by
  have h15 : ∀ j, ∃ r : ℝ, val_main_v15 (F := Ideal) x y j = (r : EReal) := fun j => by
    have h0 : val_main_call2_v0 (F := Ideal) (Shape.Idx.first h_S_) = 0 := by
      unfold val_main_call2_v0 val_main_call2_cst
      pointwise
    unfold val_main_v15 Host.reduceWindowAdd
    rw [Ideal.hostReduceWindowAdd_def, h0]
    refine window_real _ _ (fun i => ?_) j
    obtain ⟨a, b, c, rfl⟩ : ∃ a b c, i = ix3 a b c := ⟨i 0, i 1, i 2, ext3 rfl rfl rfl⟩
    exact ⟨_, log_keep_point hx hy a b c⟩
  have h19 : ∀ h t s, ∃ r : ℝ, val_main_v19 (F := Ideal) x y (ix3 h t s) = (r : EReal) := fun h t s => by
    obtain ⟨r, hr⟩ := h15 (ix3 h t s)
    unfold val_main_v19 val_main_v18 val_main_v16
    pointwise [hr, log_keep_point hx hy, log_stop_point x y (ix3 h t s) _ (score_point hx hy h t s)]
    rw [← EReal.coe_sub, ← EReal.coe_add]
    exact ⟨_, rfl⟩
  exact ⟨fun h t s => (h19 h t s).choose, fun h t s => (h19 h t s).choose_spec⟩

/-- Finite arguments have such reals. -/
theorem holds_of_finite {x0 x1 x2 x3 : FVec Ideal S8192x1024 .f32} (h0 : Cert.Reals.Finite x0) (h1 : Cert.Reals.Finite x1) (h2 : Cert.Reals.Finite x2)
    (h3 : Cert.Reals.Finite x3) : ∃ A : Args, Holds A x0 x1 x2 x3 := by
  obtain ⟨Q, hq⟩ := h0
  obtain ⟨K, hk⟩ := h1
  obtain ⟨V, hv⟩ := h2
  obtain ⟨D, hd⟩ := h3
  obtain ⟨W, hW⟩ := weights_real hq hk
  exact ⟨⟨Q, K, V, D, fun h t s => if s < t then W h t s else 0, fun h t s hts => if_neg (not_lt.mpr hts)⟩, hq, hk, hv, hd,
    fun h t s hst => (hW h t s).trans (congrArg (fun r : ℝ => (r : EReal)) (if_pos hst).symm)⟩

variable {A : Args} {x0 x1 x2 x3 : FVec Ideal S8192x1024 .f32} (H : Holds A x0 x1 x2 x3)
include H

theorem weight_point (h : Fin 16) (t s : Fin 8192) : val_main_v20_0 (F := Ideal) x0 x1 (ix3 h t s) = ((A.w h t s : ℝ) : EReal) := by
  unfold val_main_v20_0 val_main_call4_v2 val_main_call4_v0 val_main_cst_0
  pointwise [id_eq, mask_eq, mask_point]
  by_cases hst : s < t
  · rw [if_pos (show s.val < t.val from hst), select_one]
    exact H.w h t s hst
  · rw [if_neg (show ¬s.val < t.val from hst), A.past h t s (not_lt.mp hst), select_zero]
    exact EReal.coe_zero.symm

theorem g_point (h : Fin 16) (t s : Fin 8192) : val_main_v34 (F := Ideal) x0 x1 x2 x3 (ix3 h t s) = ((A.g h t s : ℝ) : EReal) := by
  unfold val_main_v34 val_main_v33 val_main_call5_v0 val_main_call5_cst
  pointwise [mask_eq, mask_point, da_point H.d H.v]
  unfold Args.g Args.weight
  rw [dif_pos s.isLt]
  by_cases hst : s < t
  · rw [if_pos (show s.val < t.val from hst), select_one, H.w h t s hst, EReal.coe_mul, mul_comm]
  · rw [if_neg (show ¬s.val < t.val from hst), show A.w h t ⟨s.val, s.isLt⟩ = 0 from A.past h t s (not_lt.mp hst), zero_mul, select_zero]
    exact EReal.coe_zero.symm

theorem before_point (h : Fin 16) (t s : Fin 8192) :
    val_main_v38 (F := Ideal) x0 x1 x2 x3 (ix3 h t s) = ((∑ s' ∈ Finset.range s.val, A.g h t s' : ℝ) : EReal) := by
  have h0 : val_main_call7_v0 (F := Ideal) (Shape.Idx.first h_S_) = 0 := by
    unfold val_main_call7_v0 val_main_call7_cst
    pointwise
  have h37 : val_main_v37 (F := Ideal) x0 x1 x2 x3 (ix3 h t s) = ((∑ s' ∈ Finset.range (s.val + 1), A.g h t s' : ℝ) : EReal) := by
    unfold val_main_v37 Host.reduceWindowAdd
    rw [Ideal.hostReduceWindowAdd_def, h0]
    exact prefix_sum (p := 16) (q := 8192) (n := 8192) rfl _ _ h t (A.g h t) (fun s => g_point H h t s) s
  unfold val_main_v38 val_main_v36
  pointwise [h37, g_point H]
  rw [← EReal.coe_neg, ← EReal.coe_add]
  refine congrArg (fun r : ℝ => (r : EReal)) ?_
  rw [Finset.sum_range_succ]
  ring

theorem dz_point (h : Fin 16) (t s : Fin 8192) : val_main_v42 (F := Ideal) x0 x1 x2 x3 (ix3 h t s) = ((A.dz h t s : ℝ) : EReal) := by
  unfold val_main_v42 val_main_v41 val_main_v40 val_main_call9_v1 val_main_call9_v0 val_main_v39 val_main_call8_v0 val_main_call8_cst val_main_v35 val_main_call6_v1 val_main_call6_v0
  pointwise [mask_point, g_point H, before_point H, go_point x0 x1 (ix3 h t s) _ (score_point H.q H.k h t s), stop_point x0 x1 (ix3 h t s) _ (score_point H.q H.k h t s)]
  unfold Args.dz
  by_cases hst : s < t
  · rw [if_pos (show s.val < t.val from hst), if_pos (show s.val < t.val from hst), select_one]
    simp only [← EReal.coe_neg, ← EReal.coe_mul, ← EReal.coe_add]
    refine congrArg (fun r : ℝ => (r : EReal)) ?_
    ring
  · rw [if_neg (show ¬s.val < t.val from hst), if_neg (show ¬s.val < t.val from hst)]
    have hg : A.g h t s = 0 := by
      unfold Args.g Args.weight
      rw [dif_pos s.isLt, show A.w h t ⟨s.val, s.isLt⟩ = 0 from A.past h t s (not_lt.mp hst), zero_mul]
    rw [hg, select_zero]
    simp

/-! ## The gradients -/

theorem reference_dq (h : Fin 16) (t : Fin 8192) (e : Fin 64) :
    val_main_v48 (F := Ideal) x0 x1 x2 x3 (ix2 t (col h e)) = ((∑ s : Fin 8192, A.dz h t s * A.k (ix2 s (col h e)) : ℝ) : EReal) := by
  rw [val_main_v48_apply, val_main_v47_apply]
  rw [show idx_main_v47 (idx_main_v48 (ix2 t (col h e))) = ix3 h t e from ext3 (show (t.val * 1024 + (64 * h.val + e.val)) / 64 % 16 = h.val by omega)
    (show (t.val * 1024 + (64 * h.val + e.val)) / 1024 = t.val by omega) (show (t.val * 1024 + (64 * h.val + e.val)) % 64 = e.val by omega)]
  rw [val_main_v44_apply, v3_eq, ← Cert.Reals.coe_sum]
  refine Finset.sum_congr rfl fun s _ => ?_
  rw [EReal.coe_mul]
  exact congrArg₂ (· * · : EReal → EReal → EReal) ((congrArg (val_main_v42 (F := Ideal) x0 x1 x2 x3) (ext3 rfl rfl rfl)).trans (dz_point H h t s))
    ((congrArg (val_main_v1 (F := Ideal) x1) (ext3 rfl rfl rfl)).trans ((head_v1 x1 h s e).trans (congrFun H.k _)))

theorem reference_dk (h : Fin 16) (s : Fin 8192) (e : Fin 64) :
    val_main_v46 (F := Ideal) x0 x1 x2 x3 (ix2 s (col h e)) = ((∑ t : Fin 8192, A.dz h t s * A.q (ix2 t (col h e)) : ℝ) : EReal) := by
  rw [val_main_v46_apply, val_main_v45_apply]
  rw [show idx_main_v45 (idx_main_v46 (ix2 s (col h e))) = ix3 h s e from ext3 (show (s.val * 1024 + (64 * h.val + e.val)) / 64 % 16 = h.val by omega)
    (show (s.val * 1024 + (64 * h.val + e.val)) / 1024 = s.val by omega) (show (s.val * 1024 + (64 * h.val + e.val)) % 64 = e.val by omega)]
  rw [val_main_v43_apply, ← Cert.Reals.coe_sum]
  refine Finset.sum_congr rfl fun t _ => ?_
  rw [EReal.coe_mul]
  exact congrArg₂ (· * · : EReal → EReal → EReal) ((congrArg (val_main_v42 (F := Ideal) x0 x1 x2 x3) (ext3 rfl rfl rfl)).trans (dz_point H h t s))
    ((congrArg (val_main_v1 (F := Ideal) x0) (ext3 rfl rfl rfl)).trans ((head_v1 x0 h t e).trans (congrFun H.q _)))

theorem reference_dv (h : Fin 16) (s : Fin 8192) (e : Fin 64) :
    val_main_v32 (F := Ideal) x0 x1 x3 (ix2 s (col h e)) = ((∑ t : Fin 8192, A.w h t s * A.d (ix2 t (col h e)) : ℝ) : EReal) := by
  rw [val_main_v32_apply, val_main_v31_apply]
  rw [show idx_main_v31 (idx_main_v32 (ix2 s (col h e))) = ix3 h s e from ext3 (show (s.val * 1024 + (64 * h.val + e.val)) / 64 % 16 = h.val by omega)
    (show (s.val * 1024 + (64 * h.val + e.val)) / 1024 = s.val by omega) (show (s.val * 1024 + (64 * h.val + e.val)) % 64 = e.val by omega)]
  rw [val_main_v29_apply, show idx_main_v29 (ix3 h s e) = ix3 h e s from ext3 rfl rfl rfl, val_main_v28_apply, v27_eq, ← Cert.Reals.coe_sum]
  refine Finset.sum_congr rfl fun t _ => ?_
  rw [EReal.coe_mul, mul_comm (A.w h t s : EReal)]
  exact congrArg₂ (· * · : EReal → EReal → EReal) ((congrArg (val_main_v1 (F := Ideal) x3) (ext3 rfl rfl rfl)).trans ((head_v1 x3 h t e).trans (congrFun H.d _)))
    ((congrArg (val_main_v20_0 (F := Ideal) x0 x1) (ext3 rfl rfl rfl)).trans (weight_point H h t s))

end Cert.AttnBwdIdeal.Value

end
-- ==== Proof.AttnBwdTiles.lean ====
/- The tiles of weights as the host lays them out for the kernel: for each pair of heads and tile of queries the blocks of keys up to the diagonal, all
   in one row. -/
module

public import proofs.«01_k».proof.Proof.AttnBwdRefValue
public import proofs.«01_k».proof.Proof.AttnBwdRing

@[expose] public section

set_option maxRecDepth 16384

noncomputable section

open Idealize.ShloMosaic
open scoped BigOperators

namespace Cert.AttnBwdIdeal.Value

open Cert.AttnBwdIdeal Cert.AttnBwdIdeal.Gen

/-- The blocks of all pairs of heads, tiles of queries and blocks of keys. -/
def blocks (w : FVec Ideal S16x8192x8192 .f32) : FVec Ideal S8x8x32x2x1024x256 .bf16 :=
  transpose S8x8x32x2x1024x256 [0, 2, 4, 1, 3, 5] (shapeCast S8x2x8x1024x32x256 (truncf .bf16 w bitsLt_bf16_f32 : FVec Ideal S16x8192x8192 .bf16) shapeCasts_S16x8192x8192_S8x2x8x1024x32x256)
    transposes_S8x2x8x1024x32x256_S8x8x32x2x1024x256_0_2_4_1_3_5

/-- Those up to the diagonal, in one row. -/
def rowed (T : FVec Ideal S8x8x32x2x1024x256 .bf16) : FVec Ideal S8x144x2x1024x256 .bf16 :=
  concatenate S8x144x2x1024x256 1 [
    ⟨S8x4x2x1024x256, shapeCast S8x4x2x1024x256 (extractStridedSlice S8x1x4x2x1024x256 ![0, 0, 0, 0, 0, 0] T slices_S8x8x32x2x1024x256_S8x1x4x2x1024x256_0_0_0_0_0_0) shapeCasts_S8x1x4x2x1024x256_S8x4x2x1024x256⟩,
    ⟨S8x8x2x1024x256, shapeCast S8x8x2x1024x256 (extractStridedSlice S8x1x8x2x1024x256 ![0, 1, 0, 0, 0, 0] T slices_S8x8x32x2x1024x256_S8x1x8x2x1024x256_0_1_0_0_0_0) shapeCasts_S8x1x8x2x1024x256_S8x8x2x1024x256⟩,
    ⟨S8x12x2x1024x256, shapeCast S8x12x2x1024x256 (extractStridedSlice S8x1x12x2x1024x256 ![0, 2, 0, 0, 0, 0] T slices_S8x8x32x2x1024x256_S8x1x12x2x1024x256_0_2_0_0_0_0) shapeCasts_S8x1x12x2x1024x256_S8x12x2x1024x256⟩,
    ⟨S8x16x2x1024x256, shapeCast S8x16x2x1024x256 (extractStridedSlice S8x1x16x2x1024x256 ![0, 3, 0, 0, 0, 0] T slices_S8x8x32x2x1024x256_S8x1x16x2x1024x256_0_3_0_0_0_0) shapeCasts_S8x1x16x2x1024x256_S8x16x2x1024x256⟩,
    ⟨S8x20x2x1024x256, shapeCast S8x20x2x1024x256 (extractStridedSlice S8x1x20x2x1024x256 ![0, 4, 0, 0, 0, 0] T slices_S8x8x32x2x1024x256_S8x1x20x2x1024x256_0_4_0_0_0_0) shapeCasts_S8x1x20x2x1024x256_S8x20x2x1024x256⟩,
    ⟨S8x24x2x1024x256, shapeCast S8x24x2x1024x256 (extractStridedSlice S8x1x24x2x1024x256 ![0, 5, 0, 0, 0, 0] T slices_S8x8x32x2x1024x256_S8x1x24x2x1024x256_0_5_0_0_0_0) shapeCasts_S8x1x24x2x1024x256_S8x24x2x1024x256⟩,
    ⟨S8x28x2x1024x256, shapeCast S8x28x2x1024x256 (extractStridedSlice S8x1x28x2x1024x256 ![0, 6, 0, 0, 0, 0] T slices_S8x8x32x2x1024x256_S8x1x28x2x1024x256_0_6_0_0_0_0) shapeCasts_S8x1x28x2x1024x256_S8x28x2x1024x256⟩,
    ⟨S8x32x2x1024x256, shapeCast S8x32x2x1024x256 (extractStridedSlice S8x1x32x2x1024x256 ![0, 7, 0, 0, 0, 0] T slices_S8x8x32x2x1024x256_S8x1x32x2x1024x256_0_7_0_0_0_0) shapeCasts_S8x1x32x2x1024x256_S8x32x2x1024x256⟩]
    concatenates_S8x4x2x1024x256_S8x8x2x1024x256_S8x12x2x1024x256_S8x16x2x1024x256_S8x20x2x1024x256_S8x24x2x1024x256_S8x28x2x1024x256_S8x32x2x1024x256_S8x144x2x1024x256_d1

theorem blocks_apply (w : FVec Ideal S16x8192x8192 .f32) (p i : Fin 8) (j : Fin 32) (h : Fin 2) (a : Fin 1024) (b : Fin 256) :
    blocks w (ix6 p i j h a b) = w (ix3 ⟨2 * p.val + h.val, by omega⟩ (Args.query i a) ⟨256 * j.val + b.val, by omega⟩) := by
  unfold blocks
  pointwise
  refine congrArg w (ext3 ?_ ?_ ?_)
  · show p.val * 2 + h.val = 2 * p.val + h.val; omega
  · show i.val * 1024 + a.val = 1024 * i.val + a.val; omega
  · show j.val * 256 + b.val = 256 * j.val + b.val; omega

set_option maxHeartbeats 2000000 in
theorem rowed_apply (T : FVec Ideal S8x8x32x2x1024x256 .bf16) (p i : Fin 8) (j : Fin 32) (hj : j.val < 4 * i.val + 4) (g : Fin 144)
    (hg : g.val = 2 * i.val * (i.val + 1) + j.val) (h : Fin 2) (a : Fin 1024) (b : Fin 256) : rowed T (ix5 p g h a b) = T (ix6 p i j h a b) := by
  unfold rowed
  pointwise
  obtain ⟨n, hn⟩ := i
  interval_cases n
  all_goals
    norm_num at hg hj
    split_ifs
    all_goals first
      | (exfalso; omega)
      | exact congrArg (fun z : Fin 32 => T (ix6 p _ z h a b)) (Fin.ext (by dsimp only; omega))

end Cert.AttnBwdIdeal.Value

end
-- ==== Proof.AttnBwdHost.lean ====
/- What the host hands the attention's backward kernel: the arguments as they are, and the weights of the forward lines in tiles. -/
module

public import proofs.«01_k».proof.Proof.AttnBwdTiles
public import proofs.«01_k».proof.Proof.Gen.AttnBwdIdeal.Frame
public import Idealize.ShloMosaic.Lib.Pipeline.ValueKit

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen

variable (m : (ℓ : Loc nD τ sig) → Buf (Elt Ideal) ℓ)

/-- The arguments. -/
abbrev query (c : Dev nD) : FVec Ideal S8192x1024 .f32 := m ((c : Thread nD τ).loc main_arg0)
abbrev key (c : Dev nD) : FVec Ideal S8192x1024 .f32 := m ((c : Thread nD τ).loc main_arg1)
abbrev value (c : Dev nD) : FVec Ideal S8192x1024 .f32 := m ((c : Thread nD τ).loc main_arg2)
abbrev cotangent (c : Dev nD) : FVec Ideal S8192x1024 .f32 := m ((c : Thread nD τ).loc main_arg3)

/-- The host's lines up to the weights, and the lines after them. -/
abbrev forward : List (HloOp τ sig (Elt Ideal)) :=
  [hostOps0, hostOps0_1, hostOps0_2, hostOps0_3, hostOps0_4, hostOps0_5, hostOps0_6, hostOps0_7, hostOps0_8].flatten

theorem weights_eq (c : Dev nD) :
    (StableHlo.after forward (fun b => m (c, b)) (Proc.tc.devRef main_v20) : FVec Ideal S16x8192x8192 .f32)
      = Cert.AttnBwdRefIdeal.Read.val_main_v20_0 (F := Ideal) (query m c) (key m c) := by
  dsimp only [forward, hostOps0, hostOps0_1, hostOps0_2, hostOps0_3, hostOps0_4, hostOps0_5, hostOps0_6, hostOps0_7, hostOps0_8, List.flatten_cons, List.flatten_nil, List.cons_append, List.nil_append, List.append_nil]
  after_results
  rfl

theorem last_tiles (U : Valuation τ sig (Elt Ideal)) :
    (StableHlo.after hostOps0_9 U (Proc.tc.devRef main_v40) : FVec Ideal S8x144x2x1024x256 .bf16)
      = rowed (blocks (U (Proc.tc.devRef main_v20) : FVec Ideal S16x8192x8192 .f32)) := by
  dsimp only [hostOps0_9]
  after_results
  rfl

theorem V_split (c : Dev nD) (b : Ref sig .tc) : V m c b = StableHlo.after hostOps0_9 (StableHlo.after forward (fun b => m (c, b))) (Proc.tc.devRef b) := by
  rw [← StableHlo.after_append]
  rfl

theorem tiles_eq (c : Dev nD) : (V m c main_v40 : FVec Ideal S8x144x2x1024x256 .bf16)
    = rowed (blocks (Cert.AttnBwdRefIdeal.Read.val_main_v20_0 (F := Ideal) (query m c) (key m c))) := by
  rw [V_split, last_tiles, weights_eq]

end Cert.AttnBwdIdeal.Value

end
-- ==== Proof.AttnBwdReads.lean ====
/- What the body's loads read: a block of rows of a buffer of keys or values, a written block of an accumulator, a tile of weights in a slot. -/
module

public import proofs.«01_k».proof.Proof.AttnBwdRing
public import Idealize.ShloMosaic.Lib.Pipeline.ValueKit
public import Idealize.ShloMosaic.Lib.WritesUnit
public import Idealize.ShloMosaic.Lib.VecWindow
public import proofs.«01_k».proof.Proof.AttnBwdMath

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen Cert.AttnBwdIdeal.Hand

/-- Column `e` of the first head of a pair, and of the second. -/
def lo (e : Fin 64) : Fin 128 := ⟨e.val, by have := e.isLt; omega⟩
def hi (e : Fin 64) : Fin 128 := ⟨64 + e.val, by have := e.isLt; omega⟩

section Rows

variable {sig : RefSig} {κ : Kind} {sp : Space} {e : EltTy} {Val : EltTy → Type} {n m N : ℕ}

/-- A load of `m` rows from row `N` on, first head's columns. -/
theorem readAt_lo (v : View sig κ sp (⟨2, ![n, 128]⟩ : Shape) e) (f : v.ty.Contents Val) {off : Fin 2 → ℕ}
    (inb : ∀ a : Fin 2, off a + (![m, 64] : Fin 2 → ℕ) a ≤ (![n, 128] : Fin 2 → ℕ) a) (h : off = ![N, 0]) (b : Fin m) (x : Fin 64) (r : Fin n) (hr : r.val = N + b.val) :
    v.readAt Val (Rect.unit (s := ⟨2, ![n, 128]⟩) off ![m, 64] inb).toLoadRect f (ix2 b x) = v.read Val f (ix2 r (lo x)) := by
  subst h
  refine congrArg (v.read Val f) (funext fun a => Fin.ext ?_)
  match a with
  | ⟨0, _⟩ => show N + 1 * b.val = r.val; omega
  | ⟨1, _⟩ => show 0 + 1 * x.val = x.val; omega

/-- The same, second head's columns. -/
theorem readAt_hi (v : View sig κ sp (⟨2, ![n, 128]⟩ : Shape) e) (f : v.ty.Contents Val) {off : Fin 2 → ℕ}
    (inb : ∀ a : Fin 2, off a + (![m, 64] : Fin 2 → ℕ) a ≤ (![n, 128] : Fin 2 → ℕ) a) (h : off = ![N, 64]) (b : Fin m) (x : Fin 64) (r : Fin n) (hr : r.val = N + b.val) :
    v.readAt Val (Rect.unit (s := ⟨2, ![n, 128]⟩) off ![m, 64] inb).toLoadRect f (ix2 b x) = v.read Val f (ix2 r (hi x)) := by
  subst h
  refine congrArg (v.read Val f) (funext fun a => Fin.ext ?_)
  match a with
  | ⟨0, _⟩ => show N + 1 * b.val = r.val; omega
  | ⟨1, _⟩ => show 64 + 1 * x.val = 64 + x.val; omega

variable (v : View sig κ sp (⟨2, ![n, 128]⟩ : Shape) e) (f : v.ty.Contents Val) {off1 off0 : Fin 2 → ℕ}
  (inb1 : ∀ a : Fin 2, off1 a + (![m, 64] : Fin 2 → ℕ) a ≤ (![n, 128] : Fin 2 → ℕ) a) (inb0 : ∀ a : Fin 2, off0 a + (![m, 64] : Fin 2 → ℕ) a ≤ (![n, 128] : Fin 2 → ℕ) a)
  (w1 : (Rect.unit (s := ⟨2, ![n, 128]⟩) off1 ![m, 64] inb1).shape.Idx → Val e) (w0 : (Rect.unit (s := ⟨2, ![n, 128]⟩) off0 ![m, 64] inb0).shape.Idx → Val e)
  (L : List (View.Piece Val (⟨2, ![n, 128]⟩ : Shape) e))

/-- Both heads' columns of rows `N … N + m` written: a row outside them reads what was there before. -/
theorem pair_out (h1 : off1 = ![N, 64]) (h0 : off0 = ![N, 0]) (r : Fin n) (y : Fin 128) (hr : r.val < N ∨ N + m ≤ r.val) :
    v.read Val (v.writes Val f (⟨Rect.unit (s := ⟨2, ![n, 128]⟩) off1 ![m, 64] inb1, w1⟩ :: ⟨Rect.unit (s := ⟨2, ![n, 128]⟩) off0 ![m, 64] inb0, w0⟩ :: L)) (ix2 r y)
      = v.read Val (v.writes Val f L) (ix2 r y) := by
  rw [View.read_writes_cons_unit_of_not_mem v f inb1 w1 _ (ix2 r y) h1 (0 : Fin 2) hr,
    View.read_writes_cons_unit_of_not_mem v f inb0 w0 _ (ix2 r y) h0 (0 : Fin 2) hr]

/-- A row inside, first head. -/
theorem pair_lo (h1 : off1 = ![N, 64]) (h0 : off0 = ![N, 0]) (r : Fin n) (x : Fin 64) (b : Fin m) (hr : r.val = N + b.val) :
    v.read Val (v.writes Val f (⟨Rect.unit (s := ⟨2, ![n, 128]⟩) off1 ![m, 64] inb1, w1⟩ :: ⟨Rect.unit (s := ⟨2, ![n, 128]⟩) off0 ![m, 64] inb0, w0⟩ :: L)) (ix2 r (lo x))
      = w0 (ix2 b x) := by
  rw [View.read_writes_cons_unit_of_not_mem v f inb1 w1 _ (ix2 r (lo x)) h1 (1 : Fin 2) (Or.inl x.isLt)]
  refine View.read_writes_cons_unit_of_mem v f inb0 w0 _ (ix2 r (lo x)) (ix2 b x) h0 fun a => ?_
  match a with
  | ⟨0, _⟩ => exact hr
  | ⟨1, _⟩ => show x.val = 0 + x.val; omega

/-- A row inside, second head. -/
theorem pair_hi (h1 : off1 = ![N, 64]) (r : Fin n) (x : Fin 64) (b : Fin m) (hr : r.val = N + b.val) :
    v.read Val (v.writes Val f (⟨Rect.unit (s := ⟨2, ![n, 128]⟩) off1 ![m, 64] inb1, w1⟩ :: L)) (ix2 r (hi x)) = w1 (ix2 b x) := by
  refine View.read_writes_cons_unit_of_mem v f inb1 w1 _ (ix2 r (hi x)) (ix2 b x) h1 fun a => ?_
  match a with
  | ⟨0, _⟩ => exact hr
  | ⟨1, _⟩ => rfl

end Rows

variable {F : FTy → Type} [FloatOps F]

/-- What a slot holds after block `b` landed in it: the tiles' block. -/
theorem slot_read (c : Dev nD) (XA : Buf (Elt F) (aM.view.loc (c : Thread nD τ))) (s : Fin 3) (b : Fin 1152)
    (f : Buf (Elt F) ((rslot s).view.loc (c : Thread nD τ))) (L : List (View.Piece (Elt F) S2x1024x256 .bf16)) {off : Fin 4 → ℕ} {R r0 hh : ℕ}
    (inb : ∀ a : Fin 4, off a + (![1, 1, R, 256] : Fin 4 → ℕ) a ≤ S3x2x1024x256.size a) (ho : off = ![s.val, hh, r0, 0])
    (hhh : hh < 2) (a : Fin R) (j : Fin 256) (a' : Fin 1024) (ha : a'.val = r0 + a.val) (p : Fin 8) (g : Fin 144) (hp : p.val = b.val / 144) (hg : g.val = b.val % 144) :
    bufM.view.readAt (Elt F) (Rect.unit (s := S3x2x1024x256) off ![1, 1, R, 256] inb).toLoadRect
        ((rslot s).view.writes (Elt F) f (⟨Rect.whole S2x1024x256, payload c XA b⟩ :: L)) (ix4 0 0 a j)
      = (XA (ix5 p g ⟨hh, hhh⟩ a' j) : Elt F .bf16) := by
  subst ho
  have e1 : (rslot s).view.read (Elt F) ((rslot s).view.writes (Elt F) f (⟨Rect.whole S2x1024x256, payload c XA b⟩ :: L)) (ix3 ⟨hh, hhh⟩ a' j)
      = payload c XA b (ix3 ⟨hh, hhh⟩ a' j) := by
    have h := View.read_writes_cons_emb (rslot s).view f (Rect.whole S2x1024x256) (payload c XA b) L (ix3 ⟨hh, hhh⟩ a' j)
    rwa [Rect.emb_whole_apply] at h
  have q1 : Shape.reshapeEquiv squeezes_S1x2x1024x256_S2x1024x256.numel_eq (ix3 (⟨hh, hhh⟩ : Fin 2) a' j) = ix4 (0 : Fin 1) (⟨hh, hhh⟩ : Fin 2) a' j :=
    (Shape.reshapeEquiv_cons_one (d := ![2, 1024, 256]) _ _).trans (funext fun d => match d with
      | ⟨0, _⟩ => rfl
      | ⟨1, _⟩ => rfl
      | ⟨2, _⟩ => rfl
      | ⟨3, _⟩ => rfl)
  have e2 : bufM.view.readAt (Elt F) (Rect.unit (s := S3x2x1024x256) ![s.val, hh, r0, 0] ![1, 1, R, 256] inb).toLoadRect
        ((rslot s).view.writes (Elt F) f (⟨Rect.whole S2x1024x256, payload c XA b⟩ :: L)) (ix4 0 0 a j)
      = (rslot s).view.read (Elt F) ((rslot s).view.writes (Elt F) f (⟨Rect.whole S2x1024x256, payload c XA b⟩ :: L)) (ix3 ⟨hh, hhh⟩ a' j) := by
    refine congrArg (bufM.view.read (Elt F) ((rslot s).view.writes (Elt F) f (⟨Rect.whole S2x1024x256, payload c XA b⟩ :: L)))
      (a₂ := (Rect.unit (s := S3x2x1024x256) (slotOff s) S1x2x1024x256.size (slotOff_inb s)).emb
        (Shape.reshapeEquiv squeezes_S1x2x1024x256_S2x1024x256.numel_eq (ix3 (⟨hh, hhh⟩ : Fin 2) a' j))) ?_
    rw [q1]
    refine funext fun d => Fin.ext ?_
    match d with
    | ⟨0, _⟩ => rfl
    | ⟨1, _⟩ => show hh + 1 * 0 = 0 + 1 * hh; omega
    | ⟨2, _⟩ => show r0 + 1 * a.val = 0 + 1 * a'.val; omega
    | ⟨3, _⟩ => rfl
  have q2 : Shape.reshapeEquiv squeezes_S1x1x2x1024x256_S2x1024x256.numel_eq (ix3 (⟨hh, hhh⟩ : Fin 2) a' j) = ix5 (0 : Fin 1) (0 : Fin 1) (⟨hh, hhh⟩ : Fin 2) a' j :=
    (Shape.reshapeEquiv_eq_of_rowMajor _ (by
      show ((Shape.rowMajorPi ![1, 1, 2, 1024, 256] (ix5 (0 : Fin 1) (0 : Fin 1) (⟨hh, hhh⟩ : Fin 2) a' j) : Fin _) : ℕ) = (Shape.rowMajorPi ![2, 1024, 256] (ix3 (⟨hh, hhh⟩ : Fin 2) a' j) : ℕ)
      rw [Shape.rowMajorPi_succ_val, Shape.rowMajorPi_succ_val]
      show 0 * _ + (0 * _ + ((Shape.rowMajorPi ![2, 1024, 256] (ix3 (⟨hh, hhh⟩ : Fin 2) a' j) : Fin _) : ℕ)) = _
      rw [Nat.zero_mul, Nat.zero_mul, Nat.zero_add, Nat.zero_add]))
  rw [e2, e1]
  refine congrArg (aM.view.read (Elt F) XA) (a₁ := (Rect.unit (s := S8x144x2x1024x256) (grpOff b) S1x1x2x1024x256.size (grpOff_inb b)).emb
        (Shape.reshapeEquiv squeezes_S1x1x2x1024x256_S2x1024x256.numel_eq (ix3 (⟨hh, hhh⟩ : Fin 2) a' j))) (a₂ := ix5 p g ⟨hh, hhh⟩ a' j) ?_
  rw [q2]
  refine funext fun d => Fin.ext ?_
  match d with
  | ⟨0, _⟩ => show b.val / 144 + 1 * 0 = p.val; omega
  | ⟨1, _⟩ => show b.val % 144 + 1 * 0 = g.val; omega
  | ⟨2, _⟩ => show 0 + 1 * hh = hh; omega
  | ⟨3, _⟩ => show 0 + 1 * a'.val = a'.val; omega
  | ⟨4, _⟩ => show 0 + 1 * j.val = j.val; omega

end Cert.AttnBwdIdeal.Value
-- ==== Proof.AttnBwdBlocks.lean ====
/- What the kernel computes on a block of keys, for each head: before the diagonal, and on the four blocks of the diagonal. -/
module

public import proofs.«01_k».proof.Proof.AttnBwdRing
public import Idealize.ShloMosaic.Lib.Pipeline.ValueKit
public import proofs.«01_k».proof.Proof.AttnBwdMath

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen

/-- Comparing two small numbers as the kernel's words does. -/
theorem less (a b : ℕ) (ha : a < 1024) (hb : b < 1024) : IntOp.cmpi CmpIPredicate.slt (BitVec.ofNat 32 a) (BitVec.ofNat 32 b) = if a < b then 1#1 else 0#1 := by
  have e : ∀ n : ℕ, n < 1024 → (BitVec.ofNat 32 n).toInt = (n : ℤ) := fun n hn => by
    rw [BitVec.toInt_eq_toNat_cond, BitVec.toNat_ofNat, Nat.mod_eq_of_lt (by omega), if_pos (by omega)]
  unfold IntOp.cmpi
  simp only [BitVec.slt, e a ha, e b hb, Nat.cast_lt]
  by_cases h : a < b <;> simp [h]

theorem before_eq (b' b : Fin 256) : k0_pay41 (F := Ideal) (ix2 b' b) = before b' b := by
  pointwise [k0_pay41]
  rw [less b' b (by omega) (by omega)]
  unfold before
  by_cases h : b' < b
  · rw [if_pos h, if_pos (show (b' : ℕ) < b from h)]
    show (((BitVec.setWidth 32 1#1).toInt : ℝ) : EReal) = 1
    norm_num
  · rw [if_neg h, if_neg (show ¬(b' : ℕ) < b from h)]
    show (((BitVec.setWidth 32 0#1).toInt : ℝ) : EReal) = 0
    norm_num

/-- The mask of a block of the diagonal: the key comes before the query. -/
theorem mask0 (a : Fin 1024) (b : Fin 256) : k0_pay60 (ix2 a b) = if b.val < a.val then 1#1 else 0#1 := by
  pointwise [k0_pay60]; exact less b a (by omega) (by omega)

theorem mask1 (a : Fin 768) (b : Fin 256) : k0_pay82 (ix2 a b) = if b.val < a.val then 1#1 else 0#1 := by
  pointwise [k0_pay82]; exact less b a (by omega) (by omega)

theorem mask2 (a : Fin 512) (b : Fin 256) : k0_pay108 (ix2 a b) = if b.val < a.val then 1#1 else 0#1 := by
  pointwise [k0_pay108]; exact less b a (by omega) (by omega)

theorem mask3 (a : Fin 256) (b : Fin 256) : k0_pay136 (ix2 a b) = if b.val < a.val then 1#1 else 0#1 := by
  pointwise [k0_pay136]; exact less b a (by omega) (by omega)

section Blocks

variable (q d : Vec Ideal S1024x64 .bf16) (acc : Vec Ideal S1024x64 .f32) (k v : Vec Ideal S256x64 .bf16) (old8 old9 : Vec Ideal S256x64 .f32)
  (C : Vec Ideal S1024x1 .f32)

/-- A block before the diagonal, first head. -/
theorem trip0 (w : Vec Ideal S1x1x1024x256 .bf16) :
    Block (R := 1024) (r0 := 0) rfl false q d acc (k0_pay51 (F := Ideal) acc (k0_pay3 (F := Ideal) k) (k0_pay14 (F := Ideal) k0_pay41 C (k0_pay5 (F := Ideal) q k) (k0_pay7 (F := Ideal) d v) (k0_pay11 (F := Ideal) w))) k v old8 old9
      (k0_pay16 (F := Ideal) k0_pay41 q C (k0_pay5 (F := Ideal) q k) (k0_pay7 (F := Ideal) d v) (k0_pay11 (F := Ideal) w) old8) (k0_pay17 (F := Ideal) d (k0_pay9 (F := Ideal) w) old9) C (fun a b => w (ix4 0 0 a b))
      (fun a b => k0_pay14 (F := Ideal) k0_pay41 C (k0_pay5 (F := Ideal) q k) (k0_pay7 (F := Ideal) d v) (k0_pay11 (F := Ideal) w) (ix2 a b)) := by
  refine ⟨fun a b => ?_, fun b e => ?_, fun b e => ?_, fun a e => ?_, fun a e ha => ?_⟩
  · rw [if_pos (fun h => absurd h (by decide))]; pointwise [k0_pay3, k0_pay5, k0_pay7, k0_pay9, k0_pay11, k0_pay12, k0_pay14, before_eq, Cert.Reals.half, up]; rfl
  · pointwise [k0_pay3, k0_pay5, k0_pay7, k0_pay9, k0_pay11, k0_pay16, up]
  · pointwise [k0_pay9, k0_pay17, up]
  · pointwise [k0_pay3, k0_pay5, k0_pay7, k0_pay9, k0_pay11, k0_pay51, up]
  · exact absurd ha (Nat.not_lt_zero _)

/-- A block before the diagonal, first head: the sums of the weighted gradients. -/
theorem trip0_sums (w : Vec Ideal S1x1x1024x256 .bf16) :
    Sums (R := 1024) (r0 := 0) rfl d v C (k0_pay52 (F := Ideal) C (k0_pay12 (F := Ideal) (k0_pay7 (F := Ideal) d v) (k0_pay11 (F := Ideal) w))) (fun a b => w (ix4 0 0 a b)) := by
  refine ⟨fun a => ?_, fun a ha => ?_⟩
  · pointwise [k0_pay7, k0_pay9, k0_pay11, k0_pay12, k0_pay52, up]
  · exact absurd ha (Nat.not_lt_zero _)

/-- A block before the diagonal, second head. -/
theorem trip1 (w : Vec Ideal S1x1x1024x256 .bf16) :
    Block (R := 1024) (r0 := 0) rfl false q d acc (k0_pay53 (F := Ideal) acc (k0_pay4 (F := Ideal) k) (k0_pay15 (F := Ideal) k0_pay41 C (k0_pay6 (F := Ideal) q k) (k0_pay8 (F := Ideal) d v) (k0_pay10 (F := Ideal) w))) k v old8 old9
      (k0_pay18 (F := Ideal) k0_pay41 q C (k0_pay6 (F := Ideal) q k) (k0_pay8 (F := Ideal) d v) (k0_pay10 (F := Ideal) w) old8) (k0_pay50 (F := Ideal) (k0_pay19 (F := Ideal) old9) (k0_pay20 (F := Ideal) d (k0_pay10 (F := Ideal) w))) C (fun a b => w (ix4 0 0 a b))
      (fun a b => k0_pay15 (F := Ideal) k0_pay41 C (k0_pay6 (F := Ideal) q k) (k0_pay8 (F := Ideal) d v) (k0_pay10 (F := Ideal) w) (ix2 a b)) := by
  refine ⟨fun a b => ?_, fun b e => ?_, fun b e => ?_, fun a e => ?_, fun a e ha => ?_⟩
  · rw [if_pos (fun h => absurd h (by decide))]; pointwise [k0_pay4, k0_pay6, k0_pay8, k0_pay10, k0_pay13, k0_pay15, before_eq, Cert.Reals.half, up]; rfl
  · pointwise [k0_pay4, k0_pay6, k0_pay8, k0_pay10, k0_pay18, up]
  · pointwise [k0_pay10, k0_pay19, k0_pay20, k0_pay50, up]
  · pointwise [k0_pay4, k0_pay6, k0_pay8, k0_pay10, k0_pay53, up]
  · exact absurd ha (Nat.not_lt_zero _)

/-- A block before the diagonal, second head: the sums of the weighted gradients. -/
theorem trip1_sums (w : Vec Ideal S1x1x1024x256 .bf16) :
    Sums (R := 1024) (r0 := 0) rfl d v C (k0_pay54 (F := Ideal) C (k0_pay13 (F := Ideal) (k0_pay8 (F := Ideal) d v) (k0_pay10 (F := Ideal) w))) (fun a b => w (ix4 0 0 a b)) := by
  refine ⟨fun a => ?_, fun a ha => ?_⟩
  · pointwise [k0_pay8, k0_pay10, k0_pay13, k0_pay54, up]
  · exact absurd ha (Nat.not_lt_zero _)

/-- The first block of the diagonal, first head. -/
theorem first0 (w : Vec Ideal S1x1x1024x256 .bf16) :
    Block (R := 1024) (r0 := 0) rfl true q d acc (k0_pay78 (F := Ideal) acc (k0_pay61 (F := Ideal) k) (k0_pay72 (F := Ideal) k0_pay41 C k0_pay60 (k0_pay63 (F := Ideal) q k) (k0_pay66 (F := Ideal) d v) w)) k v old8 old9
      (k0_pay74 (F := Ideal) k0_pay41 q C k0_pay60 (k0_pay63 (F := Ideal) q k) (k0_pay66 (F := Ideal) d v) w old8) (k0_pay75 (F := Ideal) d w old9) C (fun a b => w (ix4 0 0 a b))
      (fun a b => k0_pay72 (F := Ideal) k0_pay41 C k0_pay60 (k0_pay63 (F := Ideal) q k) (k0_pay66 (F := Ideal) d v) w (ix2 a b)) := by
  refine ⟨fun a b => ?_, fun b e => ?_, fun b e => ?_, fun a e => ?_, fun a e ha => ?_⟩
  · by_cases h : b.val < a.val
    · rw [if_pos (fun _ => h)]; pointwise [k0_pay61, k0_pay63, k0_pay66, k0_pay68, k0_pay70, k0_pay72, before_eq, Cert.Reals.half, up, mask0]; rw [if_pos h]; rfl
    · rw [if_neg (fun h' => h (h' rfl))]; pointwise [k0_pay61, k0_pay63, k0_pay66, k0_pay68, k0_pay70, k0_pay72, before_eq, Cert.Reals.half, mask0]; rw [if_neg h]; rfl
  · pointwise [k0_pay61, k0_pay63, k0_pay66, k0_pay74, up]
  · pointwise [k0_pay68, k0_pay75, up]
  · pointwise [k0_pay61, k0_pay63, k0_pay66, k0_pay78, up]
  · exact absurd ha (Nat.not_lt_zero _)

/-- The first block of the diagonal, first head: the sums of the weighted gradients. -/
theorem first0_sums (w : Vec Ideal S1x1x1024x256 .bf16) :
    Sums (R := 1024) (r0 := 0) rfl d v C (k0_pay79 (F := Ideal) C (k0_pay70 (F := Ideal) (k0_pay66 (F := Ideal) d v) w)) (fun a b => w (ix4 0 0 a b)) := by
  refine ⟨fun a => ?_, fun a ha => ?_⟩
  · pointwise [k0_pay66, k0_pay68, k0_pay70, k0_pay79, up]
  · exact absurd ha (Nat.not_lt_zero _)

/-- The first block of the diagonal, second head. -/
theorem first1 (w : Vec Ideal S1x1x1024x256 .bf16) :
    Block (R := 1024) (r0 := 0) rfl true q d acc (k0_pay80 (F := Ideal) acc (k0_pay62 (F := Ideal) k) (k0_pay73 (F := Ideal) k0_pay41 C k0_pay60 (k0_pay65 (F := Ideal) (k0_pay64 (F := Ideal) q k)) (k0_pay67 (F := Ideal) d v) w)) k v old8 old9
      (k0_pay76 (F := Ideal) q (k0_pay73 (F := Ideal) k0_pay41 C k0_pay60 (k0_pay65 (F := Ideal) (k0_pay64 (F := Ideal) q k)) (k0_pay67 (F := Ideal) d v) w) old8) (k0_pay77 (F := Ideal) d (k0_pay69 (F := Ideal) w) old9) C (fun a b => w (ix4 0 0 a b))
      (fun a b => k0_pay73 (F := Ideal) k0_pay41 C k0_pay60 (k0_pay65 (F := Ideal) (k0_pay64 (F := Ideal) q k)) (k0_pay67 (F := Ideal) d v) w (ix2 a b)) := by
  refine ⟨fun a b => ?_, fun b e => ?_, fun b e => ?_, fun a e => ?_, fun a e ha => ?_⟩
  · by_cases h : b.val < a.val
    · rw [if_pos (fun _ => h)]; pointwise [k0_pay62, k0_pay64, k0_pay65, k0_pay67, k0_pay69, k0_pay71, k0_pay73, before_eq, Cert.Reals.half, up, mask0]; rw [if_pos h]; rfl
    · rw [if_neg (fun h' => h (h' rfl))]; pointwise [k0_pay62, k0_pay64, k0_pay65, k0_pay67, k0_pay69, k0_pay71, k0_pay73, before_eq, Cert.Reals.half, mask0]; rw [if_neg h]; rfl
  · pointwise [k0_pay62, k0_pay64, k0_pay65, k0_pay67, k0_pay76, up]
  · pointwise [k0_pay69, k0_pay77, up]
  · pointwise [k0_pay62, k0_pay64, k0_pay65, k0_pay67, k0_pay80, up]
  · exact absurd ha (Nat.not_lt_zero _)

/-- The first block of the diagonal, second head: the sums of the weighted gradients. -/
theorem first1_sums (w : Vec Ideal S1x1x1024x256 .bf16) :
    Sums (R := 1024) (r0 := 0) rfl d v C (k0_pay81 (F := Ideal) C (k0_pay71 (F := Ideal) (k0_pay67 (F := Ideal) d v) w)) (fun a b => w (ix4 0 0 a b)) := by
  refine ⟨fun a => ?_, fun a ha => ?_⟩
  · pointwise [k0_pay67, k0_pay69, k0_pay71, k0_pay81, up]
  · exact absurd ha (Nat.not_lt_zero _)

/-- The second block of the diagonal, first head. -/
theorem second0 (w : Vec Ideal S1x1x768x256 .bf16) :
    Block (R := 768) (r0 := 256) rfl true q d acc (k0_pay104 (F := Ideal) acc (k0_pay83 (F := Ideal) k) (k0_pay98 (F := Ideal) k0_pay41 C k0_pay82 (k0_pay89 (F := Ideal) q k) (k0_pay95 (F := Ideal) (k0_pay91 (F := Ideal) d v) w) (k0_pay97 (F := Ideal) (k0_pay91 (F := Ideal) d v) w) (constant S768x256 .f32 0x00000000#32))) k v old8 old9
      (k0_pay100 (F := Ideal) k0_pay41 C k0_pay82 (k0_pay85 (F := Ideal) q) (k0_pay89 (F := Ideal) q k) (k0_pay95 (F := Ideal) (k0_pay91 (F := Ideal) d v) w) (k0_pay97 (F := Ideal) (k0_pay91 (F := Ideal) d v) w) (constant S768x256 .f32 0x00000000#32) old8) (k0_pay101 (F := Ideal) (k0_pay87 (F := Ideal) d) (k0_pay93 (F := Ideal) w) old9) C (fun a b => w (ix4 0 0 a b))
      (fun a b => k0_pay98 (F := Ideal) k0_pay41 C k0_pay82 (k0_pay89 (F := Ideal) q k) (k0_pay95 (F := Ideal) (k0_pay91 (F := Ideal) d v) w) (k0_pay97 (F := Ideal) (k0_pay91 (F := Ideal) d v) w) (constant S768x256 .f32 0x00000000#32) (ix2 a b)) := by
  refine ⟨fun a b => ?_, fun b e => ?_, fun b e => ?_, fun a e => ?_, fun a e ha => ?_⟩
  · by_cases h : b.val < a.val
    · rw [if_pos (fun _ => h)]; pointwise [k0_pay83, k0_pay85, k0_pay87, k0_pay89, k0_pay91, k0_pay93, k0_pay95, k0_pay97, k0_pay98, before_eq, Cert.Reals.half, up, mask1]; rw [if_pos h]; rfl
    · rw [if_neg (fun h' => h (h' rfl))]; pointwise [k0_pay83, k0_pay85, k0_pay87, k0_pay89, k0_pay91, k0_pay93, k0_pay95, k0_pay97, k0_pay98, before_eq, Cert.Reals.half, mask1]; rw [if_neg h]; rfl
  · pointwise [k0_pay83, k0_pay85, k0_pay87, k0_pay89, k0_pay91, k0_pay93, k0_pay95, k0_pay97, k0_pay100, up]
  · pointwise [k0_pay87, k0_pay93, k0_pay101, up]
  · pointwise [k0_pay83, k0_pay85, k0_pay87, k0_pay89, k0_pay91, k0_pay93, k0_pay95, k0_pay97, k0_pay104, up]
  · pointwise [k0_pay83, k0_pay85, k0_pay87, k0_pay89, k0_pay91, k0_pay93, k0_pay95, k0_pay97, k0_pay104]; exact dif_pos ha

/-- The second block of the diagonal, first head: the sums of the weighted gradients. -/
theorem second0_sums (w : Vec Ideal S1x1x768x256 .bf16) :
    Sums (R := 768) (r0 := 256) rfl d v C (k0_pay105 (F := Ideal) C (k0_pay95 (F := Ideal) (k0_pay91 (F := Ideal) d v) w)) (fun a b => w (ix4 0 0 a b)) := by
  refine ⟨fun a => ?_, fun a ha => ?_⟩
  · pointwise [k0_pay87, k0_pay91, k0_pay93, k0_pay95, k0_pay105, up]
  · pointwise [k0_pay87, k0_pay91, k0_pay93, k0_pay95, k0_pay105]; exact dif_pos ha

/-- The second block of the diagonal, second head. -/
theorem second1 (w : Vec Ideal S1x1x768x256 .bf16) :
    Block (R := 768) (r0 := 256) rfl true q d acc (k0_pay106 (F := Ideal) acc (k0_pay84 (F := Ideal) k) (k0_pay99 (F := Ideal) k0_pay41 C k0_pay82 (k0_pay90 (F := Ideal) q k) (k0_pay96 (F := Ideal) (k0_pay92 (F := Ideal) d v) w))) k v old8 old9
      (k0_pay102 (F := Ideal) k0_pay41 C k0_pay82 (k0_pay86 (F := Ideal) q) (k0_pay90 (F := Ideal) q k) (k0_pay96 (F := Ideal) (k0_pay92 (F := Ideal) d v) w) old8) (k0_pay103 (F := Ideal) (k0_pay88 (F := Ideal) d) (k0_pay94 (F := Ideal) w) old9) C (fun a b => w (ix4 0 0 a b))
      (fun a b => k0_pay99 (F := Ideal) k0_pay41 C k0_pay82 (k0_pay90 (F := Ideal) q k) (k0_pay96 (F := Ideal) (k0_pay92 (F := Ideal) d v) w) (ix2 a b)) := by
  refine ⟨fun a b => ?_, fun b e => ?_, fun b e => ?_, fun a e => ?_, fun a e ha => ?_⟩
  · by_cases h : b.val < a.val
    · rw [if_pos (fun _ => h)]; pointwise [k0_pay84, k0_pay86, k0_pay88, k0_pay90, k0_pay92, k0_pay94, k0_pay96, k0_pay99, before_eq, Cert.Reals.half, up, mask1]; rw [if_pos h]; rfl
    · rw [if_neg (fun h' => h (h' rfl))]; pointwise [k0_pay84, k0_pay86, k0_pay88, k0_pay90, k0_pay92, k0_pay94, k0_pay96, k0_pay99, before_eq, Cert.Reals.half, mask1]; rw [if_neg h]; rfl
  · pointwise [k0_pay84, k0_pay86, k0_pay88, k0_pay90, k0_pay92, k0_pay94, k0_pay96, k0_pay102, up]
  · pointwise [k0_pay88, k0_pay94, k0_pay103, up]
  · pointwise [k0_pay84, k0_pay86, k0_pay88, k0_pay90, k0_pay92, k0_pay94, k0_pay96, k0_pay106, up]
  · pointwise [k0_pay84, k0_pay86, k0_pay88, k0_pay90, k0_pay92, k0_pay94, k0_pay96, k0_pay106]; exact dif_pos ha

/-- The second block of the diagonal, second head: the sums of the weighted gradients. -/
theorem second1_sums (w : Vec Ideal S1x1x768x256 .bf16) :
    Sums (R := 768) (r0 := 256) rfl d v C (k0_pay107 (F := Ideal) C (k0_pay96 (F := Ideal) (k0_pay92 (F := Ideal) d v) w)) (fun a b => w (ix4 0 0 a b)) := by
  refine ⟨fun a => ?_, fun a ha => ?_⟩
  · pointwise [k0_pay88, k0_pay92, k0_pay94, k0_pay96, k0_pay107, up]
  · pointwise [k0_pay88, k0_pay92, k0_pay94, k0_pay96, k0_pay107]; exact dif_pos ha

/-- The third block of the diagonal, first head. -/
theorem third0 (w : Vec Ideal S1x1x512x256 .bf16) :
    Block (R := 512) (r0 := 512) rfl true q d acc (k0_pay132 (F := Ideal) acc (k0_pay109 (F := Ideal) k) (k0_pay126 (F := Ideal) k0_pay108 (k0_pay115 (F := Ideal) q k) (k0_pay121 (F := Ideal) (k0_pay117 (F := Ideal) d v) w) (k0_pay123 (F := Ideal) k0_pay41 (k0_pay117 (F := Ideal) d v) w) (k0_pay125 (F := Ideal) C))) k v old8 old9
      (k0_pay128 (F := Ideal) k0_pay108 (k0_pay111 (F := Ideal) q) (k0_pay115 (F := Ideal) q k) (k0_pay121 (F := Ideal) (k0_pay117 (F := Ideal) d v) w) (k0_pay123 (F := Ideal) k0_pay41 (k0_pay117 (F := Ideal) d v) w) (k0_pay125 (F := Ideal) C) old8) (k0_pay129 (F := Ideal) (k0_pay113 (F := Ideal) d) (k0_pay119 (F := Ideal) w) old9) C (fun a b => w (ix4 0 0 a b))
      (fun a b => k0_pay126 (F := Ideal) k0_pay108 (k0_pay115 (F := Ideal) q k) (k0_pay121 (F := Ideal) (k0_pay117 (F := Ideal) d v) w) (k0_pay123 (F := Ideal) k0_pay41 (k0_pay117 (F := Ideal) d v) w) (k0_pay125 (F := Ideal) C) (ix2 a b)) := by
  refine ⟨fun a b => ?_, fun b e => ?_, fun b e => ?_, fun a e => ?_, fun a e ha => ?_⟩
  · by_cases h : b.val < a.val
    · rw [if_pos (fun _ => h)]; pointwise [k0_pay109, k0_pay111, k0_pay113, k0_pay115, k0_pay117, k0_pay119, k0_pay121, k0_pay123, k0_pay125, k0_pay126, before_eq, Cert.Reals.half, up, mask2]; rw [if_pos h]; rfl
    · rw [if_neg (fun h' => h (h' rfl))]; pointwise [k0_pay109, k0_pay111, k0_pay113, k0_pay115, k0_pay117, k0_pay119, k0_pay121, k0_pay123, k0_pay125, k0_pay126, before_eq, Cert.Reals.half, mask2]; rw [if_neg h]; rfl
  · pointwise [k0_pay109, k0_pay111, k0_pay113, k0_pay115, k0_pay117, k0_pay119, k0_pay121, k0_pay123, k0_pay125, k0_pay128, up]
  · pointwise [k0_pay113, k0_pay119, k0_pay129, up]
  · pointwise [k0_pay109, k0_pay111, k0_pay113, k0_pay115, k0_pay117, k0_pay119, k0_pay121, k0_pay123, k0_pay125, k0_pay132, up]
  · pointwise [k0_pay109, k0_pay111, k0_pay113, k0_pay115, k0_pay117, k0_pay119, k0_pay121, k0_pay123, k0_pay125, k0_pay132]; exact dif_pos ha

/-- The third block of the diagonal, first head: the sums of the weighted gradients. -/
theorem third0_sums (w : Vec Ideal S1x1x512x256 .bf16) :
    Sums (R := 512) (r0 := 512) rfl d v C (k0_pay133 (F := Ideal) C (k0_pay121 (F := Ideal) (k0_pay117 (F := Ideal) d v) w)) (fun a b => w (ix4 0 0 a b)) := by
  refine ⟨fun a => ?_, fun a ha => ?_⟩
  · pointwise [k0_pay113, k0_pay117, k0_pay119, k0_pay121, k0_pay133, up]
  · pointwise [k0_pay113, k0_pay117, k0_pay119, k0_pay121, k0_pay133]; exact dif_pos ha

/-- The third block of the diagonal, second head. -/
theorem third1 (w : Vec Ideal S1x1x512x256 .bf16) :
    Block (R := 512) (r0 := 512) rfl true q d acc (k0_pay134 (F := Ideal) acc (k0_pay110 (F := Ideal) k) (k0_pay127 (F := Ideal) C k0_pay108 (k0_pay116 (F := Ideal) q k) (k0_pay122 (F := Ideal) (k0_pay118 (F := Ideal) d v) w) (k0_pay124 (F := Ideal) k0_pay41 (k0_pay118 (F := Ideal) d v) w))) k v old8 old9
      (k0_pay130 (F := Ideal) C k0_pay108 (k0_pay112 (F := Ideal) q) (k0_pay116 (F := Ideal) q k) (k0_pay122 (F := Ideal) (k0_pay118 (F := Ideal) d v) w) (k0_pay124 (F := Ideal) k0_pay41 (k0_pay118 (F := Ideal) d v) w) old8) (k0_pay131 (F := Ideal) (k0_pay114 (F := Ideal) d) (k0_pay120 (F := Ideal) w) old9) C (fun a b => w (ix4 0 0 a b))
      (fun a b => k0_pay127 (F := Ideal) C k0_pay108 (k0_pay116 (F := Ideal) q k) (k0_pay122 (F := Ideal) (k0_pay118 (F := Ideal) d v) w) (k0_pay124 (F := Ideal) k0_pay41 (k0_pay118 (F := Ideal) d v) w) (ix2 a b)) := by
  refine ⟨fun a b => ?_, fun b e => ?_, fun b e => ?_, fun a e => ?_, fun a e ha => ?_⟩
  · by_cases h : b.val < a.val
    · rw [if_pos (fun _ => h)]; pointwise [k0_pay110, k0_pay112, k0_pay114, k0_pay116, k0_pay118, k0_pay120, k0_pay122, k0_pay124, k0_pay127, before_eq, Cert.Reals.half, up, mask2]; rw [if_pos h]; rfl
    · rw [if_neg (fun h' => h (h' rfl))]; pointwise [k0_pay110, k0_pay112, k0_pay114, k0_pay116, k0_pay118, k0_pay120, k0_pay122, k0_pay124, k0_pay127, before_eq, Cert.Reals.half, mask2]; rw [if_neg h]; rfl
  · pointwise [k0_pay110, k0_pay112, k0_pay114, k0_pay116, k0_pay118, k0_pay120, k0_pay122, k0_pay124, k0_pay130, up]
  · pointwise [k0_pay114, k0_pay120, k0_pay131, up]
  · pointwise [k0_pay110, k0_pay112, k0_pay114, k0_pay116, k0_pay118, k0_pay120, k0_pay122, k0_pay124, k0_pay134, up]
  · pointwise [k0_pay110, k0_pay112, k0_pay114, k0_pay116, k0_pay118, k0_pay120, k0_pay122, k0_pay124, k0_pay134]; exact dif_pos ha

/-- The third block of the diagonal, second head: the sums of the weighted gradients. -/
theorem third1_sums (w : Vec Ideal S1x1x512x256 .bf16) :
    Sums (R := 512) (r0 := 512) rfl d v C (k0_pay135 (F := Ideal) C (k0_pay122 (F := Ideal) (k0_pay118 (F := Ideal) d v) w)) (fun a b => w (ix4 0 0 a b)) := by
  refine ⟨fun a => ?_, fun a ha => ?_⟩
  · pointwise [k0_pay114, k0_pay118, k0_pay120, k0_pay122, k0_pay135, up]
  · pointwise [k0_pay114, k0_pay118, k0_pay120, k0_pay122, k0_pay135]; exact dif_pos ha

/-- The fourth block of the diagonal, first head. -/
theorem fourth0 (w : Vec Ideal S1x1x256x256 .bf16) :
    Block (R := 256) (r0 := 768) rfl true q d acc (k0_pay1 (F := Ideal) acc (k0_pay159 (F := Ideal) acc k0_pay136 (k0_pay137 (F := Ideal) k) (k0_pay151 (F := Ideal) k0_pay41 C (k0_pay143 (F := Ideal) q k) (k0_pay145 (F := Ideal) d v) w))) k v old8 old9
      (k0_pay155 (F := Ideal) k0_pay136 (k0_pay139 (F := Ideal) q) (k0_pay151 (F := Ideal) k0_pay41 C (k0_pay143 (F := Ideal) q k) (k0_pay145 (F := Ideal) d v) w) old8) (k0_pay156 (F := Ideal) (k0_pay141 (F := Ideal) d) (k0_pay147 (F := Ideal) w) old9) C (fun a b => w (ix4 0 0 a b))
      (fun a b => k0_pay153 (F := Ideal) k0_pay136 (k0_pay151 (F := Ideal) k0_pay41 C (k0_pay143 (F := Ideal) q k) (k0_pay145 (F := Ideal) d v) w) (ix2 a b)) := by
  refine ⟨fun a b => ?_, fun b e => ?_, fun b e => ?_, fun a e => ?_, fun a e ha => ?_⟩
  · by_cases h : b.val < a.val
    · rw [if_pos (fun _ => h)]; pointwise [k0_pay137, k0_pay139, k0_pay141, k0_pay143, k0_pay145, k0_pay147, k0_pay151, k0_pay153, before_eq, Cert.Reals.half, up, mask3]; rw [if_pos h]; rfl
    · rw [if_neg (fun h' => h (h' rfl))]; pointwise [k0_pay137, k0_pay139, k0_pay141, k0_pay143, k0_pay145, k0_pay147, k0_pay151, k0_pay153, before_eq, Cert.Reals.half, mask3]; rw [if_neg h]; rfl
  · pointwise [k0_pay137, k0_pay139, k0_pay141, k0_pay143, k0_pay145, k0_pay147, k0_pay151, k0_pay155, up]
  · pointwise [k0_pay141, k0_pay147, k0_pay156, up]
  · pointwise [k0_pay1, k0_pay137, k0_pay139, k0_pay141, k0_pay143, k0_pay145, k0_pay147, k0_pay151, k0_pay159, up]
  · pointwise [k0_pay1, k0_pay137, k0_pay139, k0_pay141, k0_pay143, k0_pay145, k0_pay147, k0_pay151, k0_pay159]; exact dif_pos ha

/-- The fourth block of the diagonal, second head. -/
theorem fourth1 (w : Vec Ideal S1x1x256x256 .bf16) :
    Block (R := 256) (r0 := 768) rfl true q d acc (k0_pay2 (F := Ideal) acc (k0_pay138 (F := Ideal) k) (k0_pay154 (F := Ideal) k0_pay136 (k0_pay144 (F := Ideal) q k) (k0_pay149 (F := Ideal) (k0_pay146 (F := Ideal) d v) w) (k0_pay150 (F := Ideal) k0_pay41 (k0_pay146 (F := Ideal) d v) w) (k0_pay152 (F := Ideal) C))) k v old8 old9
      (k0_pay157 (F := Ideal) k0_pay136 (k0_pay140 (F := Ideal) q) (k0_pay144 (F := Ideal) q k) (k0_pay149 (F := Ideal) (k0_pay146 (F := Ideal) d v) w) (k0_pay150 (F := Ideal) k0_pay41 (k0_pay146 (F := Ideal) d v) w) (k0_pay152 (F := Ideal) C) old8) (k0_pay158 (F := Ideal) (k0_pay142 (F := Ideal) d) (k0_pay148 (F := Ideal) w) old9) C (fun a b => w (ix4 0 0 a b))
      (fun a b => k0_pay154 (F := Ideal) k0_pay136 (k0_pay144 (F := Ideal) q k) (k0_pay149 (F := Ideal) (k0_pay146 (F := Ideal) d v) w) (k0_pay150 (F := Ideal) k0_pay41 (k0_pay146 (F := Ideal) d v) w) (k0_pay152 (F := Ideal) C) (ix2 a b)) := by
  refine ⟨fun a b => ?_, fun b e => ?_, fun b e => ?_, fun a e => ?_, fun a e ha => ?_⟩
  · by_cases h : b.val < a.val
    · rw [if_pos (fun _ => h)]; pointwise [k0_pay138, k0_pay140, k0_pay142, k0_pay144, k0_pay146, k0_pay148, k0_pay149, k0_pay150, k0_pay152, k0_pay154, before_eq, Cert.Reals.half, up, mask3]; rw [if_pos h]; rfl
    · rw [if_neg (fun h' => h (h' rfl))]; pointwise [k0_pay138, k0_pay140, k0_pay142, k0_pay144, k0_pay146, k0_pay148, k0_pay149, k0_pay150, k0_pay152, k0_pay154, before_eq, Cert.Reals.half, mask3]; rw [if_neg h]; rfl
  · pointwise [k0_pay138, k0_pay140, k0_pay142, k0_pay144, k0_pay146, k0_pay148, k0_pay149, k0_pay150, k0_pay152, k0_pay157, up]
  · pointwise [k0_pay142, k0_pay148, k0_pay158, up]
  · pointwise [k0_pay2, k0_pay138, k0_pay140, k0_pay142, k0_pay144, k0_pay146, k0_pay148, k0_pay149, k0_pay150, k0_pay152, up]
  · pointwise [k0_pay2, k0_pay138, k0_pay140, k0_pay142, k0_pay144, k0_pay146, k0_pay148, k0_pay149, k0_pay150, k0_pay152]; exact dif_pos ha

end Blocks

end Cert.AttnBwdIdeal.Value
-- ==== Proof.AttnBwdTripValue.lean ====
/- One trip over the reals: what the carried values and the two accumulators' buffers hold after a block before the diagonal. -/
module

public import proofs.«01_k».proof.Proof.AttnBwdTrip
public import proofs.«01_k».proof.Proof.AttnBwdReads
public import proofs.«01_k».proof.Proof.AttnBwdBlocks

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen Cert.AttnBwdIdeal.Hand

/-- A buffer of both heads' columns that holds, in its first `N` rows, `S0` and `S1` more than `x`. -/
structure Acc (x : S8192x128.Idx → EReal) (S0 S1 : ℕ → Fin 64 → ℝ) (N : ℕ) (y : S8192x128.Idx → EReal) : Prop where
  lo : ∀ (r : Fin 8192) e, y (ix2 r (lo e)) = x (ix2 r (lo e)) + ((if r.val < N then S0 r e else 0 : ℝ) : EReal)
  hi : ∀ (r : Fin 8192) e, y (ix2 r (hi e)) = x (ix2 r (hi e)) + ((if r.val < N then S1 r e else 0 : ℝ) : EReal)

/-- The next 256 rows written. -/
theorem Acc.step {sig : RefSig} {κ : Kind} {sp : Space} {x : S8192x128.Idx → EReal} {S0 S1 : ℕ → Fin 64 → ℝ} {N : ℕ}
    (v : View sig κ sp S8192x128 .f32) (f : v.ty.Contents (Elt Ideal)) {off1 off0 : Fin 2 → ℕ}
    (inb1 : ∀ a : Fin 2, off1 a + (![256, 64] : Fin 2 → ℕ) a ≤ (![8192, 128] : Fin 2 → ℕ) a) (inb0 : ∀ a : Fin 2, off0 a + (![256, 64] : Fin 2 → ℕ) a ≤ (![8192, 128] : Fin 2 → ℕ) a)
    (w1 w0 : (⟨2, ![256, 64]⟩ : Shape).Idx → EReal)
    (L : List (View.Piece (Elt Ideal) S8192x128 .f32)) (h1 : off1 = ![N, 64]) (h0 : off0 = ![N, 0])
    (A : Acc x S0 S1 N (v.read (Elt Ideal) (v.writes (Elt Ideal) f L)))
    (hw0 : ∀ (b : Fin 256) e (r : Fin 8192), r.val = N + b.val → w0 (ix2 b e) = x (ix2 r (Value.lo e)) + ((S0 (N + b) e : ℝ) : EReal))
    (hw1 : ∀ (b : Fin 256) e (r : Fin 8192), r.val = N + b.val → w1 (ix2 b e) = x (ix2 r (Value.hi e)) + ((S1 (N + b) e : ℝ) : EReal)) :
    Acc x S0 S1 (N + 256) (v.read (Elt Ideal) (v.writes (Elt Ideal) f
      (⟨Rect.unit (s := S8192x128) off1 ![256, 64] inb1, w1⟩ :: ⟨Rect.unit (s := S8192x128) off0 ![256, 64] inb0, w0⟩ :: L))) := by
  have key : ∀ r : Fin 8192, (N ≤ r.val ∧ r.val < N + 256) ∨ (r.val < N ∨ N + 256 ≤ r.val) := fun r => by omega
  refine ⟨fun r e => ?_, fun r e => ?_⟩
  · rcases key r with hr | hr
    · rw [pair_lo (n := 8192) (m := 256) v f inb1 inb0 w1 w0 L h1 h0 r e ⟨r.val - N, by omega⟩ (by show r.val = N + (r.val - N); omega),
        hw0 _ e r (by show r.val = N + (r.val - N); omega), if_pos hr.2]
      exact congrArg (fun n => x (ix2 r (Value.lo e)) + ((S0 n e : ℝ) : EReal)) (show N + (r.val - N) = r.val by omega)
    · rw [pair_out (n := 8192) (m := 256) v f inb1 inb0 w1 w0 L h1 h0 r _ hr, A.lo r e]
      by_cases h : r.val < N
      · rw [if_pos h, if_pos (by omega)]
      · rw [if_neg h, if_neg (by omega)]
  · rcases key r with hr | hr
    · rw [pair_hi (n := 8192) (m := 256) v f inb1 w1 _ h1 r e ⟨r.val - N, by omega⟩ (by show r.val = N + (r.val - N); omega),
        hw1 _ e r (by show r.val = N + (r.val - N); omega), if_pos hr.2]
      exact congrArg (fun n => x (ix2 r (Value.hi e)) + ((S1 n e : ℝ) : EReal)) (show N + (r.val - N) = r.val by omega)
    · rw [pair_out (n := 8192) (m := 256) v f inb1 inb0 w1 w0 L h1 h0 r _ hr, A.hi r e]
      by_cases h : r.val < N
      · rw [if_pos h, if_pos (by omega)]
      · rw [if_neg h, if_neg (by omega)]

namespace Head
variable (H : Head)
/-- The key gradient and the value gradient of key `s` from the tile's queries. -/
def dk (s : ℕ) (e : Fin 64) : ℝ := ∑ a : Fin 1024, H.dz a s * H.q a e
def dv (s : ℕ) (e : Fin 64) : ℝ := ∑ a : Fin 1024, H.w a s * H.d a e
end Head

/-- What is carried and held once the first `N` keys are done. -/
structure Good (H0 H1 : Head) (x8 x9 : S8192x128.Idx → EReal) (N : ℕ) (t : Carry Ideal) (y8 y9 : S8192x128.Idx → EReal) : Prop where
  q0 : ∀ a e, t.1 (ix2 a e) = ((∑ s ∈ Finset.range N, H0.dz a s * H0.k s e : ℝ) : EReal)
  g0 : ∀ a, t.2.1 (ix2 a 0) = ((∑ s ∈ Finset.range N, H0.g a s : ℝ) : EReal)
  q1 : ∀ a e, t.2.2.1 (ix2 a e) = ((∑ s ∈ Finset.range N, H1.dz a s * H1.k s e : ℝ) : EReal)
  g1 : ∀ a, t.2.2.2 (ix2 a 0) = ((∑ s ∈ Finset.range N, H1.g a s : ℝ) : EReal)
  k : Acc x8 H0.dk H1.dk N y8
  v : Acc x9 H0.dv H1.dv N y9

section Trip

variable (c : Dev nD) (XA : Buf (Elt Ideal) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (arg7 : Memref sig .tc .vmem S1024x128 .f32) (harg7 : arg7.IsWhole) (arg8 : Memref sig .tc .vmem S8192x128 .f32) (harg8 : arg8.IsWhole)
  (arg9 : Memref sig .tc .vmem S8192x128 .f32) (harg9 : arg9.IsWhole)
  (arg1 : BitVec 32) (v10 v12 v14 v16 : FVec Ideal S1024x64 .bf16) (v17 v18 : BitVec 32) (v28 : FVec Ideal S1024x64 .f32) (v29 : FVec Ideal S1024x1 .f32)
  (v30 : FVec Ideal S1024x64 .f32) (v31 : FVec Ideal S1024x1 .f32)
  (f3 : Buf (Elt Ideal) (arg3.view.loc (c : Thread nD τ))) (f4 : Buf (Elt Ideal) (arg4.view.loc (c : Thread nD τ)))

/-- The operands at a grid point are real numbers, those of the two heads. -/
structure Operands (H0 H1 : Head) : Prop where
  n0 : H0.n0 = 1024 * (i 1).val
  n1 : H1.n0 = 1024 * (i 1).val
  q0 : ∀ a e, v10 (ix2 a e) = ((H0.q a e : ℝ) : EReal)
  q1 : ∀ a e, v12 (ix2 a e) = ((H1.q a e : ℝ) : EReal)
  d0 : ∀ a e, v14 (ix2 a e) = ((H0.d a e : ℝ) : EReal)
  d1 : ∀ a e, v16 (ix2 a e) = ((H1.d a e : ℝ) : EReal)
  k0 : ∀ (r : Fin 8192) e, arg3.view.read (Elt Ideal) f3 (ix2 r (lo e)) = ((H0.k r e : ℝ) : EReal)
  k1 : ∀ (r : Fin 8192) e, arg3.view.read (Elt Ideal) f3 (ix2 r (hi e)) = ((H1.k r e : ℝ) : EReal)
  v0 : ∀ (r : Fin 8192) e, arg4.view.read (Elt Ideal) f4 (ix2 r (lo e)) = ((H0.v r e : ℝ) : EReal)
  v1 : ∀ (r : Fin 8192) e, arg4.view.read (Elt Ideal) f4 (ix2 r (hi e)) = ((H1.v r e : ℝ) : EReal)
  w0 : ∀ (kj : ℕ), kj < 4 * (i 1).val + 4 → ∀ (p : Fin 8) (g : Fin 144), p.val = (Ring.bk 1152 (first i + kj)).val / 144 → g.val = (Ring.bk 1152 (first i + kj)).val % 144 →
    ∀ (a : Fin 1024) (j : Fin 256), (XA (ix5 p g 0 a j) : EReal) = ((H0.w a (256 * kj + j) : ℝ) : EReal)
  w1 : ∀ (kj : ℕ), kj < 4 * (i 1).val + 4 → ∀ (p : Fin 8) (g : Fin 144), p.val = (Ring.bk 1152 (first i + kj)).val / 144 → g.val = (Ring.bk 1152 (first i + kj)).val % 144 →
    ∀ (a : Fin 1024) (j : Fin 256), (XA (ix5 p g 1 a j) : EReal) = ((H1.w a (256 * kj + j) : ℝ) : EReal)

variable {H0 H1 : Head} (O : Operands c XA i arg3 arg4 v10 v12 v14 v16 f3 f4 H0 H1) {x8 x9 : S8192x128.Idx → EReal}

/-- What a slot's tile reads, at a block of the point. -/
theorem Operands.slot0 (O : Operands c XA i arg3 arg4 v10 v12 v14 v16 f3 f4 H0 H1) (kj : ℕ) (hkj : kj < 4 * (i 1).val + 4) (s : Fin 3) (f : Buf (Elt Ideal) ((rslot s).view.loc (c : Thread nD τ))) (L : List (View.Piece (Elt Ideal) S2x1024x256 .bf16)) {off : Fin 4 → ℕ} {R r0 : ℕ}
    (inb : ∀ a : Fin 4, off a + (![1, 1, R, 256] : Fin 4 → ℕ) a ≤ S3x2x1024x256.size a) (ho : off = ![s.val, 0, r0, 0]) (h : r0 + R = 1024) (a : Fin R) (j : Fin 256) :
    (bufM.view.readAt (Elt Ideal) (Rect.unit (s := S3x2x1024x256) off ![1, 1, R, 256] inb).toLoadRect
        ((rslot s).view.writes (Elt Ideal) f (⟨Rect.whole S2x1024x256, payload c XA (Ring.bk 1152 (first i + kj))⟩ :: L)) (ix4 0 0 a j) : EReal)
      = ((H0.w (up h a) (256 * kj + j) : ℝ) : EReal) :=
  (slot_read c XA s _ f L inb ho (by decide) a j (up h a) rfl ⟨_, Nat.div_lt_of_lt_mul (Ring.bk 1152 (first i + kj)).isLt⟩
    ⟨_, Nat.mod_lt _ (by decide)⟩ rfl rfl).trans (O.w0 kj hkj _ _ rfl rfl (up h a) j)

theorem Operands.slot1 (O : Operands c XA i arg3 arg4 v10 v12 v14 v16 f3 f4 H0 H1) (kj : ℕ) (hkj : kj < 4 * (i 1).val + 4) (s : Fin 3) (f : Buf (Elt Ideal) ((rslot s).view.loc (c : Thread nD τ))) (L : List (View.Piece (Elt Ideal) S2x1024x256 .bf16)) {off : Fin 4 → ℕ} {R r0 : ℕ}
    (inb : ∀ a : Fin 4, off a + (![1, 1, R, 256] : Fin 4 → ℕ) a ≤ S3x2x1024x256.size a) (ho : off = ![s.val, 1, r0, 0]) (h : r0 + R = 1024) (a : Fin R) (j : Fin 256) :
    (bufM.view.readAt (Elt Ideal) (Rect.unit (s := S3x2x1024x256) off ![1, 1, R, 256] inb).toLoadRect
        ((rslot s).view.writes (Elt Ideal) f (⟨Rect.whole S2x1024x256, payload c XA (Ring.bk 1152 (first i + kj))⟩ :: L)) (ix4 0 0 a j) : EReal)
      = ((H1.w (up h a) (256 * kj + j) : ℝ) : EReal) :=
  (slot_read c XA s _ f L inb ho (by decide) a j (up h a) rfl ⟨_, Nat.div_lt_of_lt_mul (Ring.bk 1152 (first i + kj)).isLt⟩
    ⟨_, Nat.mod_lt _ (by decide)⟩ rfl rfl).trans (O.w1 kj hkj _ _ rfl rfl (up h a) j)

/-- One trip. -/
theorem Good.trip (O : Operands c XA i arg3 arg4 v10 v12 v14 v16 f3 f4 H0 H1) (k : Fin (k0_t1_loop i).trips) (a13 : FVec Ideal S1024x64 .f32) (a14 : FVec Ideal S1024x1 .f32) (a15 : FVec Ideal S1024x64 .f32) (a16 : FVec Ideal S1024x1 .f32)
    (f8 : Buf (Elt Ideal) (arg8.view.loc (c : Thread nD τ))) (f9 : Buf (Elt Ideal) (arg9.view.loc (c : Thread nD τ)))
    (G : Good H0 H1 x8 x9 (256 * k.val) (a13, a14, a15, a16) (arg8.view.read (Elt Ideal) f8) (arg9.view.read (Elt Ideal) f9)) :
    Good H0 H1 x8 x9 (256 * k.val + 256)
      (tripRun c XA i arg2 harg2 arg3 harg3 arg4 harg4 arg5 harg5 arg7 harg7 arg8 harg8 arg9 harg9 arg1 k0_pay41 v10 v12 v14 v16 v17 v18 v28 v29 v30 v31 f3 f4 k a13 a14 a15 a16 f8 f9).1
      (arg8.view.read (Elt Ideal) (arg8.view.writes (Elt Ideal) f8
        (tripRun c XA i arg2 harg2 arg3 harg3 arg4 harg4 arg5 harg5 arg7 harg7 arg8 harg8 arg9 harg9 arg1 k0_pay41 v10 v12 v14 v16 v17 v18 v28 v29 v30 v31 f3 f4 k a13 a14 a15 a16 f8 f9).2.1))
      (arg9.view.read (Elt Ideal) (arg9.view.writes (Elt Ideal) f9
        (tripRun c XA i arg2 harg2 arg3 harg3 arg4 harg4 arg5 harg5 arg7 harg7 arg8 harg8 arg9 harg9 arg1 k0_pay41 v10 v12 v14 v16 v17 v18 v28 v29 v30 v31 f3 f4 k a13 a14 a15 a16 f8 f9).2.2.1)) := by
  have hk : k.val < 4 * (i 1).val := lt_of_lt_of_eq k.isLt (trips_eq i)
  have hi1 : (i 1).val < 8 := (i 1).isLt
  have o4 : k0_off4 i k = ![256 * k.val, 0] := k0_off4_eq i k
  have o5 : k0_off5 i k = ![256 * k.val, 64] := k0_off5_eq i k
  have p0 : Placed H0 (256 * k.val) 0 false := by
    rw [Placed, if_neg (by decide), O.n0]; omega
  have p1 : Placed H1 (256 * k.val) 0 false := by
    rw [Placed, if_neg (by decide), O.n1]; omega
  have row : ∀ b : Fin 256, 256 * k.val + b.val < 8192 := fun b => by have := b.isLt; omega
  let inb4 : ∀ a : Fin 2, k0_off4 i k a + (![256, 64] : Fin 2 → ℕ) a ≤ (![8192, 128] : Fin 2 → ℕ) a := by
    rw [o4]; intro a; fin_cases a <;> simp <;> omega
  let inb5 : ∀ a : Fin 2, k0_off5 i k a + (![256, 64] : Fin 2 → ℕ) a ≤ (![8192, 128] : Fin 2 → ℕ) a := by
    rw [o5]; intro a; fin_cases a <;> simp <;> omega
  let inb9 : ∀ a : Fin 4, k0_off9 i k a + (![1, 1, 1024, 256] : Fin 4 → ℕ) a ≤ S3x2x1024x256.size a := by
    have := (Ring.sl 3 k.val).isLt
    rw [off9_eq]; intro a; fin_cases a <;> simp [S3x2x1024x256] <;> omega
  let inb10 : ∀ a : Fin 4, k0_off10 i k a + (![1, 1, 1024, 256] : Fin 4 → ℕ) a ≤ S3x2x1024x256.size a := by
    have := (Ring.sl 3 k.val).isLt
    rw [off10_eq]; intro a; fin_cases a <;> simp [S3x2x1024x256] <;> omega
  let K0 : Vec Ideal S256x64 .bf16 := arg3.view.readAt (Elt Ideal) (Rect.unit (s := S8192x128) (k0_off4 i k) ![256, 64] inb4).toLoadRect f3
  let K1 : Vec Ideal S256x64 .bf16 := arg3.view.readAt (Elt Ideal) (Rect.unit (s := S8192x128) (k0_off5 i k) ![256, 64] inb5).toLoadRect f3
  let V0 : Vec Ideal S256x64 .bf16 := arg4.view.readAt (Elt Ideal) (Rect.unit (s := S8192x128) (k0_off4 i k) ![256, 64] inb4).toLoadRect f4
  let V1 : Vec Ideal S256x64 .bf16 := arg4.view.readAt (Elt Ideal) (Rect.unit (s := S8192x128) (k0_off5 i k) ![256, 64] inb5).toLoadRect f4
  let A0 : Vec Ideal S256x64 .f32 := arg8.view.readAt (Elt Ideal) (Rect.unit (s := S8192x128) (k0_off4 i k) ![256, 64] inb4).toLoadRect f8
  let A1 : Vec Ideal S256x64 .f32 := arg8.view.readAt (Elt Ideal) (Rect.unit (s := S8192x128) (k0_off5 i k) ![256, 64] inb5).toLoadRect f8
  let B0 : Vec Ideal S256x64 .f32 := arg9.view.readAt (Elt Ideal) (Rect.unit (s := S8192x128) (k0_off4 i k) ![256, 64] inb4).toLoadRect f9
  let B1 : Vec Ideal S256x64 .f32 := arg9.view.readAt (Elt Ideal) (Rect.unit (s := S8192x128) (k0_off5 i k) ![256, 64] inb5).toLoadRect f9
  let W0 : Vec Ideal S1x1x1024x256 .bf16 := bufM.view.readAt (Elt Ideal) (Rect.unit (s := S3x2x1024x256) (k0_off9 i k) ![1, 1, 1024, 256] inb9).toLoadRect
    ((rslot (Ring.sl 3 k.val)).view.writes (Elt Ideal) (rslot (Ring.sl 3 k.val)).view.junk [⟨Rect.whole S2x1024x256, payload c XA (Ring.bk 1152 (first i + k.val))⟩])
  let W1 : Vec Ideal S1x1x1024x256 .bf16 := bufM.view.readAt (Elt Ideal) (Rect.unit (s := S3x2x1024x256) (k0_off10 i k) ![1, 1, 1024, 256] inb10).toLoadRect
    ((rslot (Ring.sl 3 k.val)).view.writes (Elt Ideal) (rslot (Ring.sl 3 k.val)).view.junk [⟨Rect.whole S2x1024x256, payload c XA (Ring.bk 1152 (first i + k.val))⟩])
  have hK0 : ∀ (b : Fin 256) e, K0 (ix2 b e) = ((H0.k (256 * k.val + b) e : ℝ) : EReal) := fun b e =>
    (readAt_lo (n := 8192) (m := 256) arg3.view f3 inb4 o4 b e ⟨256 * k.val + b, row b⟩ rfl).trans (O.k0 _ e)
  have hK1 : ∀ (b : Fin 256) e, K1 (ix2 b e) = ((H1.k (256 * k.val + b) e : ℝ) : EReal) := fun b e =>
    (readAt_hi (n := 8192) (m := 256) arg3.view f3 inb5 o5 b e ⟨256 * k.val + b, row b⟩ rfl).trans (O.k1 _ e)
  have hV0 : ∀ (b : Fin 256) e, V0 (ix2 b e) = ((H0.v (256 * k.val + b) e : ℝ) : EReal) := fun b e =>
    (readAt_lo (n := 8192) (m := 256) arg4.view f4 inb4 o4 b e ⟨256 * k.val + b, row b⟩ rfl).trans (O.v0 _ e)
  have hV1 : ∀ (b : Fin 256) e, V1 (ix2 b e) = ((H1.v (256 * k.val + b) e : ℝ) : EReal) := fun b e =>
    (readAt_hi (n := 8192) (m := 256) arg4.view f4 inb5 o5 b e ⟨256 * k.val + b, row b⟩ rfl).trans (O.v1 _ e)
  have hW0 : ∀ (a : Fin 1024) (b : Fin 256), W0 (ix4 0 0 a b) = ((H0.w (up (r0 := 0) rfl a) (256 * k.val + b) : ℝ) : EReal) := fun a b =>
    O.slot0 c XA i arg3 arg4 v10 v12 v14 v16 f3 f4 k.val (by omega) _ _ [] inb9 (off9_eq i k) rfl a b
  have hW1 : ∀ (a : Fin 1024) (b : Fin 256), W1 (ix4 0 0 a b) = ((H1.w (up (r0 := 0) rfl a) (256 * k.val + b) : ℝ) : EReal) := fun a b =>
    O.slot1 c XA i arg3 arg4 v10 v12 v14 v16 f3 f4 k.val (by omega) _ _ [] inb10 (off10_eq i k) rfl a b
  have R0 := (trip0 v10 v14 a13 K0 V0 A0 B0 a14 W0).real p0 O.q0 O.d0 hK0 hV0 hW0 G.g0 G.q0
  have R1 := (trip1 v12 v16 a15 K1 V1 A1 B1 a16 W1).real p1 O.q1 O.d1 hK1 hV1 hW1 G.g1 G.q1
  have S0 := (trip0_sums v14 V0 a14 W0).real p0 O.d0 hV0 hW0 G.g0
  have S1 := (trip1_sums v16 V1 a16 W1).real p1 O.d1 hV1 hW1 G.g1
  have none0 : ∀ (b : Fin 256) (r : Fin 8192) (S : ℝ), r.val = 256 * k.val + b.val → (if r.val < 256 * k.val then S else 0 : ℝ) = 0 := fun b r S hr => if_neg (by omega)
  exact ⟨R0.2.2, S0, R1.2.2, S1,
    G.k.step arg8.view f8 inb5 inb4 _ _ [] o5 o4
      (fun b e r hr => (R0.1 b e).trans (congrArg (· + ((H0.dk (256 * k.val + b) e : ℝ) : EReal)) (by
        refine (readAt_lo (n := 8192) (m := 256) arg8.view f8 inb4 o4 b e r hr).trans ((G.k.lo r e).trans ?_)
        rw [none0 b r _ hr]; exact add_zero _)))
      (fun b e r hr => (R1.1 b e).trans (congrArg (· + ((H1.dk (256 * k.val + b) e : ℝ) : EReal)) (by
        refine (readAt_hi (n := 8192) (m := 256) arg8.view f8 inb5 o5 b e r hr).trans ((G.k.hi r e).trans ?_)
        rw [none0 b r _ hr]; exact add_zero _))),
    G.v.step arg9.view f9 inb5 inb4 _ _ [] o5 o4
      (fun b e r hr => (R0.2.1 b e).trans (congrArg (· + ((H0.dv (256 * k.val + b) e : ℝ) : EReal)) (by
        refine (readAt_lo (n := 8192) (m := 256) arg9.view f9 inb4 o4 b e r hr).trans ((G.v.lo r e).trans ?_)
        rw [none0 b r _ hr]; exact add_zero _)))
      (fun b e r hr => (R1.2.1 b e).trans (congrArg (· + ((H1.dv (256 * k.val + b) e : ℝ) : EReal)) (by
        refine (readAt_hi (n := 8192) (m := 256) arg9.view f9 inb5 o5 b e r hr).trans ((G.v.hi r e).trans ?_)
        rw [none0 b r _ hr]; exact add_zero _)))⟩

end Trip

end Cert.AttnBwdIdeal.Value
-- ==== Proof.AttnBwdBodyValue.lean ====
/- A grid point over the reals: the loop over the blocks before the diagonal, then the four blocks of the diagonal. -/
module

public import proofs.«01_k».proof.Proof.AttnBwdBody
public import proofs.«01_k».proof.Proof.AttnBwdTripValue

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen Cert.AttnBwdIdeal.Hand

/-- The query gradients and the two accumulators once the first `N` keys are done. -/
structure Part (H0 H1 : Head) (x8 x9 : S8192x128.Idx → EReal) (N : ℕ) (dq0 dq1 : S1024x64.Idx → EReal) (y8 y9 : S8192x128.Idx → EReal) : Prop where
  q0 : ∀ a e, dq0 (ix2 a e) = ((∑ s ∈ Finset.range N, H0.dz a s * H0.k s e : ℝ) : EReal)
  q1 : ∀ a e, dq1 (ix2 a e) = ((∑ s ∈ Finset.range N, H1.dz a s * H1.k s e : ℝ) : EReal)
  k : Acc x8 H0.dk H1.dk N y8
  v : Acc x9 H0.dv H1.dv N y9

theorem Part.at {H0 H1 : Head} {x8 x9 : S8192x128.Idx → EReal} {N M : ℕ} {dq0 dq1 : S1024x64.Idx → EReal} {y8 y9 : S8192x128.Idx → EReal}
    (P : Part H0 H1 x8 x9 N dq0 dq1 y8 y9) (h : N = M) : Part H0 H1 x8 x9 M dq0 dq1 y8 y9 := h ▸ P

theorem Good.at {H0 H1 : Head} {x8 x9 : S8192x128.Idx → EReal} {N M : ℕ} {t : Carry Ideal} {y8 y9 : S8192x128.Idx → EReal}
    (P : Good H0 H1 x8 x9 N t y8 y9) (h : N = M) : Good H0 H1 x8 x9 M t y8 y9 := h ▸ P

section

variable (c : Dev nD) (XA : Buf (Elt Ideal) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (arg7 : Memref sig .tc .vmem S1024x128 .f32) (harg7 : arg7.IsWhole) (arg8 : Memref sig .tc .vmem S8192x128 .f32) (harg8 : arg8.IsWhole)
  (arg9 : Memref sig .tc .vmem S8192x128 .f32) (harg9 : arg9.IsWhole)

section Loop

variable (arg1 : BitVec 32) (v10 v12 v14 v16 : FVec Ideal S1024x64 .bf16) (v17 v18 : BitVec 32) (v28 : FVec Ideal S1024x64 .f32) (v29 : FVec Ideal S1024x1 .f32)
  (v30 : FVec Ideal S1024x64 .f32) (v31 : FVec Ideal S1024x1 .f32)
  (f3 : Buf (Elt Ideal) (arg3.view.loc (c : Thread nD τ))) (f4 : Buf (Elt Ideal) (arg4.view.loc (c : Thread nD τ)))
  {H0 H1 : Head} {x8 x9 : S8192x128.Idx → EReal}

/-- The loop over the blocks before the diagonal. -/
theorem Good.loop (O : Operands c XA i arg3 arg4 v10 v12 v14 v16 f3 f4 H0 H1) (init : Carry Ideal) (f8 : Buf (Elt Ideal) (arg8.view.loc (c : Thread nD τ))) (f9 : Buf (Elt Ideal) (arg9.view.loc (c : Thread nD τ)))
    (G : Good H0 H1 x8 x9 0 init (arg8.view.read (Elt Ideal) f8) (arg9.view.read (Elt Ideal) f9)) :
    ∀ k : ℕ, k ≤ (k0_t1_loop i).trips → Good H0 H1 x8 x9 (256 * k)
      (state c XA i arg2 harg2 arg3 harg3 arg4 harg4 arg5 harg5 arg7 harg7 arg8 harg8 arg9 harg9 arg1 k0_pay41 v10 v12 v14 v16 v17 v18 v28 v29 v30 v31 f3 f4 init f8 f9 k).1
      (arg8.view.read (Elt Ideal) (state c XA i arg2 harg2 arg3 harg3 arg4 harg4 arg5 harg5 arg7 harg7 arg8 harg8 arg9 harg9 arg1 k0_pay41 v10 v12 v14 v16 v17 v18 v28 v29 v30 v31 f3 f4 init f8 f9 k).2.1)
      (arg9.view.read (Elt Ideal) (state c XA i arg2 harg2 arg3 harg3 arg4 harg4 arg5 harg5 arg7 harg7 arg8 harg8 arg9 harg9 arg1 k0_pay41 v10 v12 v14 v16 v17 v18 v28 v29 v30 v31 f3 f4 init f8 f9 k).2.2)
  | 0, _ => G
  | k + 1, h => by
    have ih := Good.loop O init f8 f9 G k (by omega)
    have e := state_succ c XA i arg2 harg2 arg3 harg3 arg4 harg4 arg5 harg5 arg7 harg7 arg8 harg8 arg9 harg9 arg1 k0_pay41 v10 v12 v14 v16 v17 v18 v28 v29 v30 v31 f3 f4 init f8 f9 ⟨k, h⟩
    have T := Good.trip c XA i arg2 harg2 arg3 harg3 arg4 harg4 arg5 harg5 arg7 harg7 arg8 harg8 arg9 harg9 arg1 v10 v12 v14 v16 v17 v18 v28 v29 v30 v31 f3 f4 O ⟨k, h⟩ _ _ _ _ _ _ ih
    rw [show k + 1 = (⟨k, h⟩ : Fin (k0_t1_loop i).trips).val + 1 from rfl, e]
    exact T

end Loop

section Diag

variable (v10 v12 v14 v16 : FVec Ideal S1024x64 .bf16)
  (f3 : Buf (Elt Ideal) (arg3.view.loc (c : Thread nD τ))) (f4 : Buf (Elt Ideal) (arg4.view.loc (c : Thread nD τ)))
  {H0 H1 : Head} {x8 x9 : S8192x128.Idx → EReal}

/-- One block of the diagonal, from what each head computes on it. -/
theorem Part.diag (O : Operands c XA i arg3 arg4 v10 v12 v14 v16 f3 f4 H0 H1) {R r0 : ℕ} (h : r0 + R = 1024) {offl offh : Fin 2 → ℕ}
    (inbl : ∀ a : Fin 2, offl a + (![256, 64] : Fin 2 → ℕ) a ≤ (![8192, 128] : Fin 2 → ℕ) a) (inbh : ∀ a : Fin 2, offh a + (![256, 64] : Fin 2 → ℕ) a ≤ (![8192, 128] : Fin 2 → ℕ) a)
    (hl : offl = ![1024 * (i 1).val + r0, 0]) (hh : offh = ![1024 * (i 1).val + r0, 64])
    (f8 : Buf (Elt Ideal) (arg8.view.loc (c : Thread nD τ))) (f9 : Buf (Elt Ideal) (arg9.view.loc (c : Thread nD τ)))
    (L8 L9 : List (View.Piece (Elt Ideal) S8192x128 .f32))
    {t : Carry Ideal} {dq0 dq1 : S1024x64.Idx → EReal} {n80 n81 n90 n91 : (⟨2, ![256, 64]⟩ : Shape).Idx → EReal} {W0 W1 Z0 Z1 : Fin R → Fin 256 → EReal}
    (hW0 : ∀ a (b : Fin 256), W0 a b = ((H0.w (up h a) (1024 * (i 1).val + r0 + b) : ℝ) : EReal)) (hW1 : ∀ a (b : Fin 256), W1 a b = ((H1.w (up h a) (1024 * (i 1).val + r0 + b) : ℝ) : EReal))
    (B0 : Block h true v10 v14 t.1 dq0 (arg3.view.readAt (Elt Ideal) (Rect.unit (s := S8192x128) offl ![256, 64] inbl).toLoadRect f3)
      (arg4.view.readAt (Elt Ideal) (Rect.unit (s := S8192x128) offl ![256, 64] inbl).toLoadRect f4)
      (arg8.view.readAt (Elt Ideal) (Rect.unit (s := S8192x128) offl ![256, 64] inbl).toLoadRect f8)
      (arg9.view.readAt (Elt Ideal) (Rect.unit (s := S8192x128) offl ![256, 64] inbl).toLoadRect f9) n80 n90 t.2.1 W0 Z0)
    (B1 : Block h true v12 v16 t.2.2.1 dq1 (arg3.view.readAt (Elt Ideal) (Rect.unit (s := S8192x128) offh ![256, 64] inbh).toLoadRect f3)
      (arg4.view.readAt (Elt Ideal) (Rect.unit (s := S8192x128) offh ![256, 64] inbh).toLoadRect f4)
      (arg8.view.readAt (Elt Ideal) (Rect.unit (s := S8192x128) offh ![256, 64] inbh).toLoadRect f8)
      (arg9.view.readAt (Elt Ideal) (Rect.unit (s := S8192x128) offh ![256, 64] inbh).toLoadRect f9) n81 n91 t.2.2.2 W1 Z1)
    (A8 : Acc x8 H0.dk H1.dk (1024 * (i 1).val) (arg8.view.read (Elt Ideal) f8)) (A9 : Acc x9 H0.dv H1.dv (1024 * (i 1).val) (arg9.view.read (Elt Ideal) f9))
    (G : Good H0 H1 x8 x9 (1024 * (i 1).val + r0) t (arg8.view.read (Elt Ideal) (arg8.view.writes (Elt Ideal) f8 L8)) (arg9.view.read (Elt Ideal) (arg9.view.writes (Elt Ideal) f9 L9))) :
    Part H0 H1 x8 x9 (1024 * (i 1).val + r0 + 256) dq0 dq1
      (arg8.view.read (Elt Ideal) (arg8.view.writes (Elt Ideal) f8 (⟨Rect.unit (s := S8192x128) offh ![256, 64] inbh, n81⟩ :: ⟨Rect.unit (s := S8192x128) offl ![256, 64] inbl, n80⟩ :: L8)))
      (arg9.view.read (Elt Ideal) (arg9.view.writes (Elt Ideal) f9 (⟨Rect.unit (s := S8192x128) offh ![256, 64] inbh, n91⟩ :: ⟨Rect.unit (s := S8192x128) offl ![256, 64] inbl, n90⟩ :: L9))) := by
  have fits : 1024 * (i 1).val + r0 + 256 ≤ 8192 := by
    have := inbl (0 : Fin 2); rw [hl] at this; exact this
  have row : ∀ b : Fin 256, 1024 * (i 1).val + r0 + b.val < 8192 := fun b => by have := b.isLt; omega
  have p0 : Placed H0 (1024 * (i 1).val + r0) r0 true := by rw [Placed, if_pos rfl, O.n0]
  have p1 : Placed H1 (1024 * (i 1).val + r0) r0 true := by rw [Placed, if_pos rfl, O.n1]
  have R0 := B0.real p0 O.q0 O.d0
    (fun b e => (readAt_lo (n := 8192) (m := 256) arg3.view f3 inbl hl b e ⟨_, row b⟩ rfl).trans (O.k0 _ e))
    (fun b e => (readAt_lo (n := 8192) (m := 256) arg4.view f4 inbl hl b e ⟨_, row b⟩ rfl).trans (O.v0 _ e)) hW0 G.g0 G.q0
  have R1 := B1.real p1 O.q1 O.d1
    (fun b e => (readAt_hi (n := 8192) (m := 256) arg3.view f3 inbh hh b e ⟨_, row b⟩ rfl).trans (O.k1 _ e))
    (fun b e => (readAt_hi (n := 8192) (m := 256) arg4.view f4 inbh hh b e ⟨_, row b⟩ rfl).trans (O.v1 _ e)) hW1 G.g1 G.q1
  have none0 : ∀ (b : Fin 256) (r : Fin 8192) (S : ℝ), r.val = 1024 * (i 1).val + r0 + b.val → (if r.val < 1024 * (i 1).val then S else 0 : ℝ) = 0 := fun b r S hr => if_neg (by omega)
  exact ⟨R0.2.2, R1.2.2,
    G.k.step arg8.view f8 inbh inbl _ _ L8 hh hl
      (fun b e r hr => (R0.1 b e).trans (congrArg (· + ((H0.dk (1024 * (i 1).val + r0 + b) e : ℝ) : EReal)) (by
        refine (readAt_lo (n := 8192) (m := 256) arg8.view f8 inbl hl b e r hr).trans ((A8.lo r e).trans ?_)
        rw [none0 b r _ hr]; exact add_zero _)))
      (fun b e r hr => (R1.1 b e).trans (congrArg (· + ((H1.dk (1024 * (i 1).val + r0 + b) e : ℝ) : EReal)) (by
        refine (readAt_hi (n := 8192) (m := 256) arg8.view f8 inbh hh b e r hr).trans ((A8.hi r e).trans ?_)
        rw [none0 b r _ hr]; exact add_zero _))),
    G.v.step arg9.view f9 inbh inbl _ _ L9 hh hl
      (fun b e r hr => (R0.2.1 b e).trans (congrArg (· + ((H0.dv (1024 * (i 1).val + r0 + b) e : ℝ) : EReal)) (by
        refine (readAt_lo (n := 8192) (m := 256) arg9.view f9 inbl hl b e r hr).trans ((A9.lo r e).trans ?_)
        rw [none0 b r _ hr]; exact add_zero _)))
      (fun b e r hr => (R1.2.1 b e).trans (congrArg (· + ((H1.dv (1024 * (i 1).val + r0 + b) e : ℝ) : EReal)) (by
        refine (readAt_hi (n := 8192) (m := 256) arg9.view f9 inbh hh b e r hr).trans ((A9.hi r e).trans ?_)
        rw [none0 b r _ hr]; exact add_zero _)))⟩

/-- The running sums after a block of the diagonal. -/
theorem Part.good (O : Operands c XA i arg3 arg4 v10 v12 v14 v16 f3 f4 H0 H1) {R r0 : ℕ} (h : r0 + R = 1024) {offl offh : Fin 2 → ℕ}
    (inbl : ∀ a : Fin 2, offl a + (![256, 64] : Fin 2 → ℕ) a ≤ (![8192, 128] : Fin 2 → ℕ) a) (inbh : ∀ a : Fin 2, offh a + (![256, 64] : Fin 2 → ℕ) a ≤ (![8192, 128] : Fin 2 → ℕ) a)
    (hl : offl = ![1024 * (i 1).val + r0, 0]) (hh : offh = ![1024 * (i 1).val + r0, 64])
    {t : Carry Ideal} {dq0 dq1 : S1024x64.Idx → EReal} {C0 C1 : S1024x1.Idx → EReal} {y8 y9 z8 z9 : S8192x128.Idx → EReal} {W0 W1 : Fin R → Fin 256 → EReal}
    (hW0 : ∀ a (b : Fin 256), W0 a b = ((H0.w (up h a) (1024 * (i 1).val + r0 + b) : ℝ) : EReal)) (hW1 : ∀ a (b : Fin 256), W1 a b = ((H1.w (up h a) (1024 * (i 1).val + r0 + b) : ℝ) : EReal))
    (S0 : Sums h v14 (arg4.view.readAt (Elt Ideal) (Rect.unit (s := S8192x128) offl ![256, 64] inbl).toLoadRect f4) t.2.1 C0 W0)
    (S1 : Sums h v16 (arg4.view.readAt (Elt Ideal) (Rect.unit (s := S8192x128) offh ![256, 64] inbh).toLoadRect f4) t.2.2.2 C1 W1)
    (G : Good H0 H1 x8 x9 (1024 * (i 1).val + r0) t z8 z9)
    (P : Part H0 H1 x8 x9 (1024 * (i 1).val + r0 + 256) dq0 dq1 y8 y9) :
    Good H0 H1 x8 x9 (1024 * (i 1).val + r0 + 256) (dq0, C0, dq1, C1) y8 y9 := by
  have fits : 1024 * (i 1).val + r0 + 256 ≤ 8192 := by
    have := inbl (0 : Fin 2); rw [hl] at this; exact this
  have row : ∀ b : Fin 256, 1024 * (i 1).val + r0 + b.val < 8192 := fun b => by have := b.isLt; omega
  have p0 : Placed H0 (1024 * (i 1).val + r0) r0 true := by rw [Placed, if_pos rfl, O.n0]
  have p1 : Placed H1 (1024 * (i 1).val + r0) r0 true := by rw [Placed, if_pos rfl, O.n1]
  exact ⟨P.q0, S0.real p0 O.d0 (fun b e => (readAt_lo (n := 8192) (m := 256) arg4.view f4 inbl hl b e ⟨_, row b⟩ rfl).trans (O.v0 _ e)) hW0 G.g0,
    P.q1, S1.real p1 O.d1 (fun b e => (readAt_hi (n := 8192) (m := 256) arg4.view f4 inbh hh b e ⟨_, row b⟩ rfl).trans (O.v1 _ e)) hW1 G.g1, P.k, P.v⟩

/-- What a slot's tile reads at block `d` of the diagonal, from row `r0` on. -/
theorem Operands.tile0 (O : Operands c XA i arg3 arg4 v10 v12 v14 v16 f3 f4 H0 H1) {R r0 : ℕ} (h : r0 + R = 1024) (d : ℕ) (hd : r0 = 256 * d) (hd4 : d < 4) {n : ℕ} (hn : n = first i + (4 * (i 1).val + d)) {off : Fin 4 → ℕ} (s : Fin 3)
    (inb : ∀ a : Fin 4, off a + (![1, 1, R, 256] : Fin 4 → ℕ) a ≤ S3x2x1024x256.size a) (ho : off = ![s.val, 0, r0, 0])
    (f : Buf (Elt Ideal) ((rslot s).view.loc (c : Thread nD τ))) (L : List (View.Piece (Elt Ideal) S2x1024x256 .bf16)) (a : Fin R) (b : Fin 256) :
    (bufM.view.readAt (Elt Ideal) (Rect.unit (s := S3x2x1024x256) off ![1, 1, R, 256] inb).toLoadRect
        ((rslot s).view.writes (Elt Ideal) f (⟨Rect.whole S2x1024x256, payload c XA (Ring.bk 1152 n)⟩ :: L)) (ix4 0 0 a b) : EReal)
      = ((H0.w (up h a) (1024 * (i 1).val + r0 + b) : ℝ) : EReal) := by
  subst hn
  rw [O.slot0 c XA i arg3 arg4 v10 v12 v14 v16 f3 f4 _ (by omega) s f L inb ho h a b, show 256 * (4 * (i 1).val + d) + b.val = 1024 * (i 1).val + r0 + b.val by omega]

theorem Operands.tile1 (O : Operands c XA i arg3 arg4 v10 v12 v14 v16 f3 f4 H0 H1) {R r0 : ℕ} (h : r0 + R = 1024) (d : ℕ) (hd : r0 = 256 * d) (hd4 : d < 4) {n : ℕ} (hn : n = first i + (4 * (i 1).val + d)) {off : Fin 4 → ℕ} (s : Fin 3)
    (inb : ∀ a : Fin 4, off a + (![1, 1, R, 256] : Fin 4 → ℕ) a ≤ S3x2x1024x256.size a) (ho : off = ![s.val, 1, r0, 0])
    (f : Buf (Elt Ideal) ((rslot s).view.loc (c : Thread nD τ))) (L : List (View.Piece (Elt Ideal) S2x1024x256 .bf16)) (a : Fin R) (b : Fin 256) :
    (bufM.view.readAt (Elt Ideal) (Rect.unit (s := S3x2x1024x256) off ![1, 1, R, 256] inb).toLoadRect
        ((rslot s).view.writes (Elt Ideal) f (⟨Rect.whole S2x1024x256, payload c XA (Ring.bk 1152 n)⟩ :: L)) (ix4 0 0 a b) : EReal)
      = ((H1.w (up h a) (1024 * (i 1).val + r0 + b) : ℝ) : EReal) := by
  subst hn
  rw [O.slot1 c XA i arg3 arg4 v10 v12 v14 v16 f3 f4 _ (by omega) s f L inb ho h a b, show 256 * (4 * (i 1).val + d) + b.val = 1024 * (i 1).val + r0 + b.val by omega]

/-- The tile of attention weights a block of the diagonal reads, for each head. -/
abbrev tile00 : Vec Ideal S1x1x1024x256 .bf16 :=
  bufM.view.readAt (Elt Ideal) (Rect.unit (s := S3x2x1024x256) (k0_off29 i) ![1, 1, 1024, 256] (k0_off29_inb i)).toLoadRect
    ((rslot (Ring.sl 3 (k0_t1_loop i).trips)).view.writes (Elt Ideal) (rslot (Ring.sl 3 (k0_t1_loop i).trips)).view.junk [⟨Rect.whole S2x1024x256, payload c XA (Ring.bk 1152 (first i + (k0_t1_loop i).trips))⟩])
abbrev tile01 : Vec Ideal S1x1x1024x256 .bf16 :=
  bufM.view.readAt (Elt Ideal) (Rect.unit (s := S3x2x1024x256) (k0_off30 i) ![1, 1, 1024, 256] (k0_off30_inb i)).toLoadRect
    ((rslot (Ring.sl 3 (k0_t1_loop i).trips)).view.writes (Elt Ideal) (rslot (Ring.sl 3 (k0_t1_loop i).trips)).view.junk [⟨Rect.whole S2x1024x256, payload c XA (Ring.bk 1152 (first i + (k0_t1_loop i).trips))⟩])
abbrev tile10 : Vec Ideal S1x1x768x256 .bf16 :=
  bufM.view.readAt (Elt Ideal) (Rect.unit (s := S3x2x1024x256) (k0_off34 i) ![1, 1, 768, 256] (k0_off34_inb i)).toLoadRect
    ((rslot (Ring.sl 3 ((k0_t1_loop i).trips + 1))).view.writes (Elt Ideal) (rslot (Ring.sl 3 ((k0_t1_loop i).trips + 1))).view.junk [⟨Rect.whole S2x1024x256, payload c XA (Ring.bk 1152 (first i + (k0_t1_loop i).trips + 1))⟩])
abbrev tile11 : Vec Ideal S1x1x768x256 .bf16 :=
  bufM.view.readAt (Elt Ideal) (Rect.unit (s := S3x2x1024x256) (k0_off35 i) ![1, 1, 768, 256] (k0_off35_inb i)).toLoadRect
    ((rslot (Ring.sl 3 ((k0_t1_loop i).trips + 1))).view.writes (Elt Ideal) (rslot (Ring.sl 3 ((k0_t1_loop i).trips + 1))).view.junk [⟨Rect.whole S2x1024x256, payload c XA (Ring.bk 1152 (first i + (k0_t1_loop i).trips + 1))⟩])
abbrev tile20 : Vec Ideal S1x1x512x256 .bf16 :=
  bufM.view.readAt (Elt Ideal) (Rect.unit (s := S3x2x1024x256) (k0_off39 i) ![1, 1, 512, 256] (k0_off39_inb i)).toLoadRect
    ((rslot (Ring.sl 3 ((k0_t1_loop i).trips + 2))).view.writes (Elt Ideal) (rslot (Ring.sl 3 ((k0_t1_loop i).trips + 2))).view.junk [⟨Rect.whole S2x1024x256, payload c XA (Ring.bk 1152 (first i + (k0_t1_loop i).trips + 2))⟩])
abbrev tile21 : Vec Ideal S1x1x512x256 .bf16 :=
  bufM.view.readAt (Elt Ideal) (Rect.unit (s := S3x2x1024x256) (k0_off40 i) ![1, 1, 512, 256] (k0_off40_inb i)).toLoadRect
    ((rslot (Ring.sl 3 ((k0_t1_loop i).trips + 2))).view.writes (Elt Ideal) (rslot (Ring.sl 3 ((k0_t1_loop i).trips + 2))).view.junk [⟨Rect.whole S2x1024x256, payload c XA (Ring.bk 1152 (first i + (k0_t1_loop i).trips + 2))⟩])
abbrev tile30 : Vec Ideal S1x1x256x256 .bf16 :=
  bufM.view.readAt (Elt Ideal) (Rect.unit (s := S3x2x1024x256) (k0_off44 i) ![1, 1, 256, 256] (k0_off44_inb i)).toLoadRect
    ((rslot (Ring.sl 3 (k0_t1_loop i).trips)).view.writes (Elt Ideal) (rslot (Ring.sl 3 (k0_t1_loop i).trips)).view.junk [⟨Rect.whole S2x1024x256, payload c XA (Ring.bk 1152 (first i + (k0_t1_loop i).trips + 3))⟩,
      ⟨Rect.whole S2x1024x256, payload c XA (Ring.bk 1152 (first i + (k0_t1_loop i).trips))⟩])
abbrev tile31 : Vec Ideal S1x1x256x256 .bf16 :=
  bufM.view.readAt (Elt Ideal) (Rect.unit (s := S3x2x1024x256) (k0_off45 i) ![1, 1, 256, 256] (k0_off45_inb i)).toLoadRect
    ((rslot (Ring.sl 3 (k0_t1_loop i).trips)).view.writes (Elt Ideal) (rslot (Ring.sl 3 (k0_t1_loop i).trips)).view.junk [⟨Rect.whole S2x1024x256, payload c XA (Ring.bk 1152 (first i + (k0_t1_loop i).trips + 3))⟩,
      ⟨Rect.whole S2x1024x256, payload c XA (Ring.bk 1152 (first i + (k0_t1_loop i).trips))⟩])

/-- The rows of a block of the diagonal, columns of each head. -/
abbrev rowsLo {e : EltTy} (v : View sig .tc .vmem S8192x128 e) (f : v.ty.Contents (Elt Ideal)) (d : Fin 4) : Vec Ideal S256x64 e :=
  v.readAt (Elt Ideal) (Rect.unit (s := S8192x128) (k0_off24 i (BitVec.ofNat 32 d.val)) ![256, 64] (k0_off24_inb i d)).toLoadRect f
abbrev rowsHi {e : EltTy} (v : View sig .tc .vmem S8192x128 e) (f : v.ty.Contents (Elt Ideal)) (d : Fin 4) : Vec Ideal S256x64 e :=
  v.readAt (Elt Ideal) (Rect.unit (s := S8192x128) (k0_off25 i (BitVec.ofNat 32 d.val)) ![256, 64] (k0_off25_inb i d)).toLoadRect f
/-- The two stores of a block of the diagonal, newest first. -/
abbrev stores (d : Fin 4) (hi lo : Vec Ideal S256x64 .f32) (L : List (View.Piece (Elt Ideal) S8192x128 .f32)) : List (View.Piece (Elt Ideal) S8192x128 .f32) :=
  ⟨Rect.unit (s := S8192x128) (k0_off25 i (BitVec.ofNat 32 d.val)) ![256, 64] (k0_off25_inb i d), hi⟩
    :: ⟨Rect.unit (s := S8192x128) (k0_off24 i (BitVec.ofNat 32 d.val)) ![256, 64] (k0_off24_inb i d), lo⟩ :: L

set_option maxHeartbeats 1000000 in
/-- The four blocks of the diagonal, last one first in the list of what each computes. -/
theorem diagonal (f8 : Buf (Elt Ideal) (arg8.view.loc (c : Thread nD τ))) (f9 : Buf (Elt Ideal) (arg9.view.loc (c : Thread nD τ)))
    {a00 a01 a10 a11 a20 a21 a30 a31 a40 a41 : FVec Ideal S1024x64 .f32} {C00 C01 C10 C11 C20 C21 C30 C31 : FVec Ideal S1024x1 .f32} {k00 k01 k10 k11 k20 k21 k30 k31 u00 u01 u10 u11 u20 u21 u30 u31 : Vec Ideal S256x64 .f32}
    {z00 : Fin 1024 → Fin 256 → EReal} {z01 : Fin 1024 → Fin 256 → EReal} {z10 : Fin 768 → Fin 256 → EReal} {z11 : Fin 768 → Fin 256 → EReal} {z20 : Fin 512 → Fin 256 → EReal} {z21 : Fin 512 → Fin 256 → EReal} {z30 : Fin 256 → Fin 256 → EReal} {z31 : Fin 256 → Fin 256 → EReal}
    (O : Operands c XA i arg3 arg4 v10 v12 v14 v16 f3 f4 H0 H1)
    (B30 : Block (R := 256) (r0 := 768) rfl true v10 v14 a30 a40 (rowsLo i arg3.view f3 3) (rowsLo i arg4.view f4 3) (rowsLo i arg8.view f8 3) (rowsLo i arg9.view f9 3) k30 u30 C30 (fun a b => tile30 c XA i (ix4 0 0 a b)) z30)
    (B31 : Block (R := 256) (r0 := 768) rfl true v12 v16 a31 a41 (rowsHi i arg3.view f3 3) (rowsHi i arg4.view f4 3) (rowsHi i arg8.view f8 3) (rowsHi i arg9.view f9 3) k31 u31 C31 (fun a b => tile31 c XA i (ix4 0 0 a b)) z31)
    (B20 : Block (R := 512) (r0 := 512) rfl true v10 v14 a20 a30 (rowsLo i arg3.view f3 2) (rowsLo i arg4.view f4 2) (rowsLo i arg8.view f8 2) (rowsLo i arg9.view f9 2) k20 u20 C20 (fun a b => tile20 c XA i (ix4 0 0 a b)) z20)
    (S20 : Sums (R := 512) (r0 := 512) rfl v14 (rowsLo i arg4.view f4 2) C20 C30 (fun a b => tile20 c XA i (ix4 0 0 a b)))
    (B21 : Block (R := 512) (r0 := 512) rfl true v12 v16 a21 a31 (rowsHi i arg3.view f3 2) (rowsHi i arg4.view f4 2) (rowsHi i arg8.view f8 2) (rowsHi i arg9.view f9 2) k21 u21 C21 (fun a b => tile21 c XA i (ix4 0 0 a b)) z21)
    (S21 : Sums (R := 512) (r0 := 512) rfl v16 (rowsHi i arg4.view f4 2) C21 C31 (fun a b => tile21 c XA i (ix4 0 0 a b)))
    (B10 : Block (R := 768) (r0 := 256) rfl true v10 v14 a10 a20 (rowsLo i arg3.view f3 1) (rowsLo i arg4.view f4 1) (rowsLo i arg8.view f8 1) (rowsLo i arg9.view f9 1) k10 u10 C10 (fun a b => tile10 c XA i (ix4 0 0 a b)) z10)
    (S10 : Sums (R := 768) (r0 := 256) rfl v14 (rowsLo i arg4.view f4 1) C10 C20 (fun a b => tile10 c XA i (ix4 0 0 a b)))
    (B11 : Block (R := 768) (r0 := 256) rfl true v12 v16 a11 a21 (rowsHi i arg3.view f3 1) (rowsHi i arg4.view f4 1) (rowsHi i arg8.view f8 1) (rowsHi i arg9.view f9 1) k11 u11 C11 (fun a b => tile11 c XA i (ix4 0 0 a b)) z11)
    (S11 : Sums (R := 768) (r0 := 256) rfl v16 (rowsHi i arg4.view f4 1) C11 C21 (fun a b => tile11 c XA i (ix4 0 0 a b)))
    (B00 : Block (R := 1024) (r0 := 0) rfl true v10 v14 a00 a10 (rowsLo i arg3.view f3 0) (rowsLo i arg4.view f4 0) (rowsLo i arg8.view f8 0) (rowsLo i arg9.view f9 0) k00 u00 C00 (fun a b => tile00 c XA i (ix4 0 0 a b)) z00)
    (S00 : Sums (R := 1024) (r0 := 0) rfl v14 (rowsLo i arg4.view f4 0) C00 C10 (fun a b => tile00 c XA i (ix4 0 0 a b)))
    (B01 : Block (R := 1024) (r0 := 0) rfl true v12 v16 a01 a11 (rowsHi i arg3.view f3 0) (rowsHi i arg4.view f4 0) (rowsHi i arg8.view f8 0) (rowsHi i arg9.view f9 0) k01 u01 C01 (fun a b => tile01 c XA i (ix4 0 0 a b)) z01)
    (S01 : Sums (R := 1024) (r0 := 0) rfl v16 (rowsHi i arg4.view f4 0) C01 C11 (fun a b => tile01 c XA i (ix4 0 0 a b)))
    (G : Good H0 H1 x8 x9 (1024 * (i 1).val) (a00, C00, a01, C01) (arg8.view.read (Elt Ideal) f8) (arg9.view.read (Elt Ideal) f9)) :
    Part H0 H1 x8 x9 (1024 * (i 1).val + 1024) a40 a41
      (arg8.view.read (Elt Ideal) (arg8.view.writes (Elt Ideal) f8 (stores i 3 k31 k30 (stores i 2 k21 k20 (stores i 1 k11 k10 (stores i 0 k01 k00 []))))))
      (arg9.view.read (Elt Ideal) (arg9.view.writes (Elt Ideal) f9 (stores i 3 u31 u30 (stores i 2 u21 u20 (stores i 1 u11 u10 (stores i 0 u01 u00 [])))))) := by
  have tr := trips_eq i
  have W00 : ∀ (a : Fin 1024) (b : Fin 256), (tile00 c XA i (ix4 0 0 a b) : EReal) = ((H0.w (up (r0 := 0) rfl a) (1024 * (i 1).val + 0 + b) : ℝ) : EReal) :=
    O.tile0 c XA i arg3 arg4 v10 v12 v14 v16 f3 f4 (R := 1024) (r0 := 0) rfl 0 rfl (by decide) (n := first i + (k0_t1_loop i).trips) (by omega) (Ring.sl 3 (k0_t1_loop i).trips) (k0_off29_inb i) (off29_eq i) (rslot (Ring.sl 3 (k0_t1_loop i).trips)).view.junk []
  have W01 : ∀ (a : Fin 1024) (b : Fin 256), (tile01 c XA i (ix4 0 0 a b) : EReal) = ((H1.w (up (r0 := 0) rfl a) (1024 * (i 1).val + 0 + b) : ℝ) : EReal) :=
    O.tile1 c XA i arg3 arg4 v10 v12 v14 v16 f3 f4 (R := 1024) (r0 := 0) rfl 0 rfl (by decide) (n := first i + (k0_t1_loop i).trips) (by omega) (Ring.sl 3 (k0_t1_loop i).trips) (k0_off30_inb i) (off30_eq i) (rslot (Ring.sl 3 (k0_t1_loop i).trips)).view.junk []
  have P1 := Part.diag c XA i arg3 arg4 arg8 arg9 v10 v12 v14 v16 f3 f4 O (R := 1024) (r0 := 0) rfl (k0_off24_inb i 0) (k0_off25_inb i 0) (k0_off24_eq i 0) (k0_off25_eq i 0) f8 f9 [] [] W00 W01 B00 B01 G.k G.v G
  have G1 := (Part.good c XA i arg3 arg4 v10 v12 v14 v16 f3 f4 O (R := 1024) (r0 := 0) rfl (k0_off24_inb i 0) (k0_off25_inb i 0) (k0_off24_eq i 0) (k0_off25_eq i 0) W00 W01 S00 S01 G P1).at (M := 1024 * (i 1).val + 256) (by omega)
  have W10 : ∀ (a : Fin 768) (b : Fin 256), (tile10 c XA i (ix4 0 0 a b) : EReal) = ((H0.w (up (r0 := 256) rfl a) (1024 * (i 1).val + 256 + b) : ℝ) : EReal) :=
    O.tile0 c XA i arg3 arg4 v10 v12 v14 v16 f3 f4 (R := 768) (r0 := 256) rfl 1 rfl (by decide) (n := first i + (k0_t1_loop i).trips + 1) (by omega) (Ring.sl 3 ((k0_t1_loop i).trips + 1)) (k0_off34_inb i) (off34_eq i) (rslot (Ring.sl 3 ((k0_t1_loop i).trips + 1))).view.junk []
  have W11 : ∀ (a : Fin 768) (b : Fin 256), (tile11 c XA i (ix4 0 0 a b) : EReal) = ((H1.w (up (r0 := 256) rfl a) (1024 * (i 1).val + 256 + b) : ℝ) : EReal) :=
    O.tile1 c XA i arg3 arg4 v10 v12 v14 v16 f3 f4 (R := 768) (r0 := 256) rfl 1 rfl (by decide) (n := first i + (k0_t1_loop i).trips + 1) (by omega) (Ring.sl 3 ((k0_t1_loop i).trips + 1)) (k0_off35_inb i) (off35_eq i) (rslot (Ring.sl 3 ((k0_t1_loop i).trips + 1))).view.junk []
  have P2 := Part.diag c XA i arg3 arg4 arg8 arg9 v10 v12 v14 v16 f3 f4 O (R := 768) (r0 := 256) rfl (k0_off24_inb i 1) (k0_off25_inb i 1) (k0_off24_eq i 1) (k0_off25_eq i 1) f8 f9 _ _ W10 W11 B10 B11 G.k G.v G1
  have G2 := (Part.good c XA i arg3 arg4 v10 v12 v14 v16 f3 f4 O (R := 768) (r0 := 256) rfl (k0_off24_inb i 1) (k0_off25_inb i 1) (k0_off24_eq i 1) (k0_off25_eq i 1) W10 W11 S10 S11 G1 P2).at (M := 1024 * (i 1).val + 512) (by omega)
  have W20 : ∀ (a : Fin 512) (b : Fin 256), (tile20 c XA i (ix4 0 0 a b) : EReal) = ((H0.w (up (r0 := 512) rfl a) (1024 * (i 1).val + 512 + b) : ℝ) : EReal) :=
    O.tile0 c XA i arg3 arg4 v10 v12 v14 v16 f3 f4 (R := 512) (r0 := 512) rfl 2 rfl (by decide) (n := first i + (k0_t1_loop i).trips + 2) (by omega) (Ring.sl 3 ((k0_t1_loop i).trips + 2)) (k0_off39_inb i) (off39_eq i) (rslot (Ring.sl 3 ((k0_t1_loop i).trips + 2))).view.junk []
  have W21 : ∀ (a : Fin 512) (b : Fin 256), (tile21 c XA i (ix4 0 0 a b) : EReal) = ((H1.w (up (r0 := 512) rfl a) (1024 * (i 1).val + 512 + b) : ℝ) : EReal) :=
    O.tile1 c XA i arg3 arg4 v10 v12 v14 v16 f3 f4 (R := 512) (r0 := 512) rfl 2 rfl (by decide) (n := first i + (k0_t1_loop i).trips + 2) (by omega) (Ring.sl 3 ((k0_t1_loop i).trips + 2)) (k0_off40_inb i) (off40_eq i) (rslot (Ring.sl 3 ((k0_t1_loop i).trips + 2))).view.junk []
  have P3 := Part.diag c XA i arg3 arg4 arg8 arg9 v10 v12 v14 v16 f3 f4 O (R := 512) (r0 := 512) rfl (k0_off24_inb i 2) (k0_off25_inb i 2) (k0_off24_eq i 2) (k0_off25_eq i 2) f8 f9 _ _ W20 W21 B20 B21 G.k G.v G2
  have G3 := (Part.good c XA i arg3 arg4 v10 v12 v14 v16 f3 f4 O (R := 512) (r0 := 512) rfl (k0_off24_inb i 2) (k0_off25_inb i 2) (k0_off24_eq i 2) (k0_off25_eq i 2) W20 W21 S20 S21 G2 P3).at (M := 1024 * (i 1).val + 768) (by omega)
  have W30 : ∀ (a : Fin 256) (b : Fin 256), (tile30 c XA i (ix4 0 0 a b) : EReal) = ((H0.w (up (r0 := 768) rfl a) (1024 * (i 1).val + 768 + b) : ℝ) : EReal) :=
    O.tile0 c XA i arg3 arg4 v10 v12 v14 v16 f3 f4 (R := 256) (r0 := 768) rfl 3 rfl (by decide) (n := first i + (k0_t1_loop i).trips + 3) (by omega) (Ring.sl 3 (k0_t1_loop i).trips) (k0_off44_inb i) (off44_eq i) (rslot (Ring.sl 3 (k0_t1_loop i).trips)).view.junk [⟨Rect.whole S2x1024x256, payload c XA (Ring.bk 1152 (first i + (k0_t1_loop i).trips))⟩]
  have W31 : ∀ (a : Fin 256) (b : Fin 256), (tile31 c XA i (ix4 0 0 a b) : EReal) = ((H1.w (up (r0 := 768) rfl a) (1024 * (i 1).val + 768 + b) : ℝ) : EReal) :=
    O.tile1 c XA i arg3 arg4 v10 v12 v14 v16 f3 f4 (R := 256) (r0 := 768) rfl 3 rfl (by decide) (n := first i + (k0_t1_loop i).trips + 3) (by omega) (Ring.sl 3 (k0_t1_loop i).trips) (k0_off45_inb i) (off45_eq i) (rslot (Ring.sl 3 (k0_t1_loop i).trips)).view.junk [⟨Rect.whole S2x1024x256, payload c XA (Ring.bk 1152 (first i + (k0_t1_loop i).trips))⟩]
  have P4 := Part.diag c XA i arg3 arg4 arg8 arg9 v10 v12 v14 v16 f3 f4 O (R := 256) (r0 := 768) rfl (k0_off24_inb i 3) (k0_off25_inb i 3) (k0_off24_eq i 3) (k0_off25_eq i 3) f8 f9 _ _ W30 W31 B30 B31 G.k G.v G3
  exact P4.at (by omega)

end Diag

section Ends

variable (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ))) {H0 H1 : Head}

/-- The query tile's columns of each head, and the cotangent's. -/
abbrev colsLo (v : View sig .tc .vmem S1024x128 .bf16) (f : v.ty.Contents (Elt Ideal)) : Vec Ideal S1024x64 .bf16 :=
  v.readAt (Elt Ideal) (Rect.unit (s := S1024x128) ![0, 0] S1024x64.size inb_S1024x128_S1024x64_0_0).toLoadRect f
abbrev colsHi (v : View sig .tc .vmem S1024x128 .bf16) (f : v.ty.Contents (Elt Ideal)) : Vec Ideal S1024x64 .bf16 :=
  v.readAt (Elt Ideal) (Rect.unit (s := S1024x128) ![0, 64] S1024x64.size inb_S1024x128_S1024x64_0_64).toLoadRect f

/-- Nothing is carried before the first block. -/
theorem Good.start {x8 x9 : S8192x128.Idx → EReal} : Good H0 H1 x8 x9 0 (k0_pay46, k0_pay47, k0_pay48, k0_pay49) x8 x9 := by
  have z : ∀ x : EReal, x = x + ((0 : ℝ) : EReal) := fun x => (add_zero x).symm
  have s : ∀ f : ℕ → ℝ, ∑ s ∈ Finset.range 0, f s = 0 := fun f => Finset.sum_range_zero f
  refine ⟨fun a e => ?_, fun a => ?_, fun a e => ?_, fun a => ?_, ⟨fun r e => ?_, fun r e => ?_⟩, ⟨fun r e => ?_, fun r e => ?_⟩⟩
  · rw [s]; pointwise [k0_pay46]; exact EReal.coe_zero.symm
  · rw [s]; pointwise [k0_pay47]; exact EReal.coe_zero.symm
  · rw [s]; pointwise [k0_pay48]; exact EReal.coe_zero.symm
  · rw [s]; pointwise [k0_pay49]; exact EReal.coe_zero.symm
  all_goals rw [if_neg (Nat.not_lt_zero _)]; exact z _

theorem Good.diagonal_at {x8 x9 : S8192x128.Idx → EReal} {t : Carry Ideal} {y8 y9 : S8192x128.Idx → EReal} (G : Good H0 H1 x8 x9 (256 * (k0_t1_loop i).trips) t y8 y9) :
    Good H0 H1 x8 x9 (1024 * (i 1).val) t y8 y9 := by
  have e : 256 * (k0_t1_loop i).trips = 1024 * (i 1).val := by rw [trips_eq]; omega
  rw [← e]; exact G

set_option maxHeartbeats 1000000 in
/-- A later point of a pair of heads. -/
theorem endsB (hc : ¬ cond1 i) (f8 : Buf (Elt Ideal) (arg8.view.loc (c : Thread nD τ))) (f9 : Buf (Elt Ideal) (arg9.view.loc (c : Thread nD τ)))
    (O : Operands c XA i arg3 arg4 (k0_pay42 (F := Ideal) (colsLo arg2.view f2)) (k0_pay43 (F := Ideal) (colsHi arg2.view f2)) (k0_pay44 (F := Ideal) (colsLo arg5.view f5)) (k0_pay45 (F := Ideal) (colsHi arg5.view f5)) f3 f4 H0 H1) :
    ∃ dq0 dq1 : S1024x64.Idx → EReal,
      (bodyRunB c XA i arg2 harg2 arg3 harg3 arg4 harg4 arg5 harg5 arg7 harg7 arg8 harg8 arg9 harg9 f2 f3 f4 f5 hc f8 f9).1
        = [⟨Rect.unit (s := S1024x128) ![0, 64] S1024x64.size inb_S1024x128_S1024x64_0_64, dq1⟩, ⟨Rect.unit (s := S1024x128) ![0, 0] S1024x64.size inb_S1024x128_S1024x64_0_0, dq0⟩]
      ∧ Part H0 H1 (arg8.view.read (Elt Ideal) f8) (arg9.view.read (Elt Ideal) f9) (1024 * (i 1).val + 1024) dq0 dq1
        (arg8.view.read (Elt Ideal) (bodyRunB c XA i arg2 harg2 arg3 harg3 arg4 harg4 arg5 harg5 arg7 harg7 arg8 harg8 arg9 harg9 f2 f3 f4 f5 hc f8 f9).2.1)
        (arg9.view.read (Elt Ideal) (bodyRunB c XA i arg2 harg2 arg3 harg3 arg4 harg4 arg5 harg5 arg7 harg7 arg8 harg8 arg9 harg9 f2 f3 f4 f5 hc f8 f9).2.2.1) :=
  ⟨_, _, rfl, diagonal c XA i arg3 arg4 arg8 arg9 _ _ _ _ f3 f4 _ _ O
    (fourth0 _ _ _ _ _ _ _ _ _) (fourth1 _ _ _ _ _ _ _ _ _)
    (third0 _ _ _ _ _ _ _ _ _) (third0_sums _ _ _ _) (third1 _ _ _ _ _ _ _ _ _) (third1_sums _ _ _ _)
    (second0 _ _ _ _ _ _ _ _ _) (second0_sums _ _ _ _) (second1 _ _ _ _ _ _ _ _ _) (second1_sums _ _ _ _)
    (first0 _ _ _ _ _ _ _ _ _) (first0_sums _ _ _ _) (first1 _ _ _ _ _ _ _ _ _) (first1_sums _ _ _ _)
    (Good.loop c XA i arg2 harg2 arg3 harg3 arg4 harg4 arg5 harg5 arg7 harg7 arg8 harg8 arg9 harg9 _ _ _ _ _ _ _ _ _ _ _ f3 f4 O _ f8 f9 Good.start _ le_rfl).diagonal_at⟩

set_option maxHeartbeats 1000000 in
/-- The first point of a pair of heads. -/
theorem endsA (hc : cond1 i)
    (O : Operands c XA i arg3 arg4 (k0_pay42 (F := Ideal) (colsLo arg2.view f2)) (k0_pay43 (F := Ideal) (colsHi arg2.view f2)) (k0_pay44 (F := Ideal) (colsLo arg5.view f5)) (k0_pay45 (F := Ideal) (colsHi arg5.view f5)) f3 f4 H0 H1) :
    ∃ dq0 dq1 : S1024x64.Idx → EReal,
      (bodyRunA c XA i arg2 harg2 arg3 harg3 arg4 harg4 arg5 harg5 arg7 harg7 arg8 harg8 arg9 harg9 f2 f3 f4 f5 hc).1
        = [⟨Rect.unit (s := S1024x128) ![0, 64] S1024x64.size inb_S1024x128_S1024x64_0_64, dq1⟩, ⟨Rect.unit (s := S1024x128) ![0, 0] S1024x64.size inb_S1024x128_S1024x64_0_0, dq0⟩]
      ∧ Part H0 H1 (arg8.view.read (Elt Ideal) (zeroed c arg8 k0_pay39)) (arg9.view.read (Elt Ideal) (zeroed c arg9 k0_pay40)) (1024 * (i 1).val + 1024) dq0 dq1
        (arg8.view.read (Elt Ideal) (bodyRunA c XA i arg2 harg2 arg3 harg3 arg4 harg4 arg5 harg5 arg7 harg7 arg8 harg8 arg9 harg9 f2 f3 f4 f5 hc).2.1)
        (arg9.view.read (Elt Ideal) (bodyRunA c XA i arg2 harg2 arg3 harg3 arg4 harg4 arg5 harg5 arg7 harg7 arg8 harg8 arg9 harg9 f2 f3 f4 f5 hc).2.2.1) :=
  ⟨_, _, rfl, diagonal c XA i arg3 arg4 arg8 arg9 _ _ _ _ f3 f4 _ _ O
    (fourth0 _ _ _ _ _ _ _ _ _) (fourth1 _ _ _ _ _ _ _ _ _)
    (third0 _ _ _ _ _ _ _ _ _) (third0_sums _ _ _ _) (third1 _ _ _ _ _ _ _ _ _) (third1_sums _ _ _ _)
    (second0 _ _ _ _ _ _ _ _ _) (second0_sums _ _ _ _) (second1 _ _ _ _ _ _ _ _ _) (second1_sums _ _ _ _)
    (first0 _ _ _ _ _ _ _ _ _) (first0_sums _ _ _ _) (first1 _ _ _ _ _ _ _ _ _) (first1_sums _ _ _ _)
    (Good.loop c XA i arg2 harg2 arg3 harg3 arg4 harg4 arg5 harg5 arg7 harg7 arg8 harg8 arg9 harg9 _ _ _ _ _ _ _ _ _ _ _ f3 f4 O _ _ _ Good.start _ le_rfl).diagonal_at⟩

/-- An accumulator cleared reads zero. -/
theorem zeroed_read (M : Memref sig .tc .vmem S8192x128 .f32) (p : FVec Ideal S8192x128 .f32) : M.view.read (Elt Ideal) (zeroed c M p) = p :=
  View.read_writes_full _ _ _ _ _

end Ends

end

end Cert.AttnBwdIdeal.Value
-- ==== Proof.AttnBwdOperands.lean ====
/- What a grid point of the attention's gradient reads: the two heads of its pair on its tile of queries. -/
module

public import proofs.«01_k».proof.Proof.AttnBwdHost
public import proofs.«01_k».proof.Proof.AttnBwdBodyValue
public import proofs.«01_k».proof.Proof.AttnBwdLaunch

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen Cert.AttnBwdIdeal.Hand

variable (m : (ℓ : Loc nD τ sig) → Buf (Elt Ideal) ℓ)

/-! ## The host's casts of the arguments -/

/-- The last host lines cast the four arguments. -/
theorem casts (U : Valuation τ sig (Elt Ideal)) :
    (StableHlo.after hostOps0_9 U (Proc.tc.devRef main_v41) : FVec Ideal S8192x1024 .bf16)
        = (truncf .bf16 (StableHlo.after hostOps0_9 U (Proc.tc.devRef main_arg0) : FVec Ideal S8192x1024 .f32) bitsLt_bf16_f32 : FVec Ideal S8192x1024 .bf16)
    ∧ (StableHlo.after hostOps0_9 U (Proc.tc.devRef main_v42) : FVec Ideal S8192x1024 .bf16)
        = (truncf .bf16 (StableHlo.after hostOps0_9 U (Proc.tc.devRef main_arg1) : FVec Ideal S8192x1024 .f32) bitsLt_bf16_f32 : FVec Ideal S8192x1024 .bf16)
    ∧ (StableHlo.after hostOps0_9 U (Proc.tc.devRef main_v43) : FVec Ideal S8192x1024 .bf16)
        = (truncf .bf16 (StableHlo.after hostOps0_9 U (Proc.tc.devRef main_arg2) : FVec Ideal S8192x1024 .f32) bitsLt_bf16_f32 : FVec Ideal S8192x1024 .bf16)
    ∧ (StableHlo.after hostOps0_9 U (Proc.tc.devRef main_v44) : FVec Ideal S8192x1024 .bf16)
        = (truncf .bf16 (StableHlo.after hostOps0_9 U (Proc.tc.devRef main_arg3) : FVec Ideal S8192x1024 .f32) bitsLt_bf16_f32 : FVec Ideal S8192x1024 .bf16) := by
  dsimp only [hostOps0_9]
  refine ⟨?_, ?_, ?_, ?_⟩
  all_goals
    after_results
    try rfl

theorem V_query (c : Dev nD) : (V m c main_v41 : FVec Ideal S8192x1024 .bf16) = fun i => query m c i := by
  rw [V_split, (casts _).1, ← V_split, V_main_arg0]; rfl
theorem V_key (c : Dev nD) : (V m c main_v42 : FVec Ideal S8192x1024 .bf16) = fun i => key m c i := by
  rw [V_split, (casts _).2.1, ← V_split, V_main_arg1]; rfl
theorem V_value (c : Dev nD) : (V m c main_v43 : FVec Ideal S8192x1024 .bf16) = fun i => value m c i := by
  rw [V_split, (casts _).2.2.1, ← V_split, V_main_arg2]; rfl
theorem V_cotangent (c : Dev nD) : (V m c main_v44 : FVec Ideal S8192x1024 .bf16) = fun i => cotangent m c i := by
  rw [V_split, (casts _).2.2.2, ← V_split, V_main_arg3]; rfl

/-! ## The blocks -/

theorem idx : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![0, t.val / 8] ∧ win0_6.index t = ![0, t.val / 8] :=
  (by decide +kernel : ∀ t : Fin grid0.N, _)

theorem coords : ∀ t : Fin cfg0.N, (grid0.coords t 0).val = t.val / 8 ∧ (grid0.coords t 1).val = t.val % 8 :=
  (by decide +kernel : ∀ t : Fin grid0.N, _)

theorem query_block (c : Dev nD) (t : Fin cfg0.N) (a : Fin 1024) (x : Fin 128) (r : Fin 8192) (j : Fin 1024)
    (hr : (r : ℕ) = t.val % 8 * 1024 + a) (hj : (j : ℕ) = t.val / 8 * 128 + x) : (iblk m c 0 t (ix2 a x) : EReal) = query m c (ix2 r j) := by
  refine Eq.trans ?_ (congrFun (V_query m c) (ix2 r j))
  blk_point [iblk, idx t]

theorem key_block (c : Dev nD) (t : Fin cfg0.N) (r : Fin 8192) (x : Fin 128) (j : Fin 1024)
    (hj : (j : ℕ) = t.val / 8 * 128 + x) : (iblk m c 1 t (ix2 r x) : EReal) = key m c (ix2 r j) := by
  refine Eq.trans ?_ (congrFun (V_key m c) (ix2 r j))
  blk_point [iblk, idx t]

theorem value_block (c : Dev nD) (t : Fin cfg0.N) (r : Fin 8192) (x : Fin 128) (j : Fin 1024)
    (hj : (j : ℕ) = t.val / 8 * 128 + x) : (iblk m c 2 t (ix2 r x) : EReal) = value m c (ix2 r j) := by
  refine Eq.trans ?_ (congrFun (V_value m c) (ix2 r j))
  blk_point [iblk, idx t]

theorem cotangent_block (c : Dev nD) (t : Fin cfg0.N) (a : Fin 1024) (x : Fin 128) (r : Fin 8192) (j : Fin 1024)
    (hr : (r : ℕ) = t.val % 8 * 1024 + a) (hj : (j : ℕ) = t.val / 8 * 128 + x) : (iblk m c 3 t (ix2 a x) : EReal) = cotangent m c (ix2 r j) := by
  refine Eq.trans ?_ (congrFun (V_cotangent m c) (ix2 r j))
  blk_point [iblk, idx t]

seal iblk

/-! ## The two heads of a point -/

/-- The pair of heads of a point, its tile of queries, and head `h` of the pair. -/
def pairOf (t : Fin cfg0.N) : Fin 8 := ⟨t.val / 8, by have : t.val < 64 := lt_of_lt_of_eq t.isLt N_0; omega⟩
def tileOf (t : Fin cfg0.N) : Fin 8 := ⟨t.val % 8, Nat.mod_lt _ (by decide)⟩
def headOf (p : Fin 8) (h : Fin 2) : Fin 16 := ⟨2 * p.val + h.val, by omega⟩

theorem cols_lo {v : View sig .tc .vmem S1024x128 .bf16} (f : v.ty.Contents (Elt Ideal)) (a : Fin 1024) (e : Fin 64) :
    colsLo v f (ix2 a e) = v.read (Elt Ideal) f (ix2 a (lo e)) := readAt_lo v f _ rfl a e a (Nat.zero_add _).symm
theorem cols_hi {v : View sig .tc .vmem S1024x128 .bf16} (f : v.ty.Contents (Elt Ideal)) (a : Fin 1024) (e : Fin 64) :
    colsHi v f (ix2 a e) = v.read (Elt Ideal) f (ix2 a (hi e)) := readAt_hi v f _ rfl a e a (Nat.zero_add _).symm

theorem row_lt (x : (⟨2, ![8192, 1024]⟩ : Shape).Idx → ℝ) (h : Fin 16) (r : Fin 8192) (e : Fin 64) : Args.row x h r e = x (ix2 r (col h e)) := dif_pos r.isLt

theorem block_number (n kj : ℕ) (hn : n < 8) (h : kj < 4 * n + 4) : 2 * n * (n + 1) + kj < 144 := by
  interval_cases n <;> omega

variable {m} {A : Args} {c : Dev nD} (H : Holds A (query m c) (key m c) (value m c) (cotangent m c))

include H in
/-- The weights a point reads. -/
theorem tile_point (t : Fin cfg0.N) (h : Fin 2) (kj : ℕ) (hkj : kj < 4 * (grid0.coords t 1).val + 4) (p : Fin 8) (g : Fin 144)
    (hp : p.val = (Ring.bk 1152 (first (grid0.coords t) + kj)).val / 144) (hg : g.val = (Ring.bk 1152 (first (grid0.coords t) + kj)).val % 144)
    (a : Fin 1024) (j : Fin 256) :
    ((XA m c : FVec Ideal S8x144x2x1024x256 .bf16) (ix5 p g h a j) : EReal) = (((A.head (headOf (pairOf t) h) (tileOf t)).w a (256 * kj + j) : ℝ) : EReal) := by
  obtain ⟨e0, e1⟩ := coords t
  have ht : t.val < 64 := lt_of_lt_of_eq t.isLt N_0
  have hlt := first_lt (grid0.coords t)
  rw [Ring.bk_val (by omega)] at hp hg
  unfold first at hp hg
  rw [e0, e1] at hp hg
  rw [e1] at hkj
  have hb := block_number (t.val % 8) kj (Nat.mod_lt _ (by decide)) hkj
  have hj := j.isLt
  have hp' : p = pairOf t := Fin.ext (show p.val = t.val / 8 by omega)
  have hg' : g.val = 2 * (tileOf t).val * ((tileOf t).val + 1) + kj := by
    show g.val = 2 * (t.val % 8) * (t.val % 8 + 1) + kj
    omega
  subst hp'
  rw [show XA m c = _ from tiles_eq m c, rowed_apply _ _ (tileOf t) ⟨kj, by omega⟩ hkj g hg' h a j, blocks_apply]
  refine (weight_point H _ _ _).trans (congrArg (fun x : ℝ => (x : EReal)) ?_)
  show _ = A.weight _ _ _
  unfold Args.weight
  rw [dif_pos (show 256 * kj + j.val < 8192 by omega)]
  rfl

include H in
/-- The operands of a point. -/
theorem operands (t : Fin cfg0.N) :
    Operands c (XA m c) (grid0.coords t) (ms0_1 t) (ms0_2 t) (k0_pay42 (F := Ideal) (colsLo (ms0_0 t).view ((hs0_0 t).unread (iblk m c 0 t))))
      (k0_pay43 (F := Ideal) (colsHi (ms0_0 t).view ((hs0_0 t).unread (iblk m c 0 t)))) (k0_pay44 (F := Ideal) (colsLo (ms0_3 t).view ((hs0_3 t).unread (iblk m c 3 t))))
      (k0_pay45 (F := Ideal) (colsHi (ms0_3 t).view ((hs0_3 t).unread (iblk m c 3 t)))) ((hs0_1 t).unread (iblk m c 1 t)) ((hs0_2 t).unread (iblk m c 2 t))
      (A.head (headOf (pairOf t) 0) (tileOf t)) (A.head (headOf (pairOf t) 1) (tileOf t)) := by
  have e1 := (coords t).2
  have ht : t.val < 64 := lt_of_lt_of_eq t.isLt N_0
  refine ⟨?_, ?_, fun a e => ?_, fun a e => ?_, fun a e => ?_, fun a e => ?_, fun r e => ?_, fun r e => ?_, fun r e => ?_, fun r e => ?_, tile_point H t 0, tile_point H t 1⟩
  · show 1024 * (t.val % 8) = _; rw [e1]
  · show 1024 * (t.val % 8) = _; rw [e1]
  · rw [show k0_pay42 (F := Ideal) (colsLo (ms0_0 t).view ((hs0_0 t).unread (iblk m c 0 t))) (ix2 a e) = colsLo (ms0_0 t).view ((hs0_0 t).unread (iblk m c 0 t)) (ix2 a e) by pointwise [k0_pay42],
      cols_lo, (hs0_0 t).read_unread, query_block m c t a (lo e) (Args.query (tileOf t) a) (col (headOf (pairOf t) 0) e)
        (show 1024 * (t.val % 8) + a.val = _ by omega) (show 64 * (2 * (t.val / 8) + 0) + e.val = t.val / 8 * 128 + e.val by omega), H.q]
    rfl
  · rw [show k0_pay43 (F := Ideal) (colsHi (ms0_0 t).view ((hs0_0 t).unread (iblk m c 0 t))) (ix2 a e) = colsHi (ms0_0 t).view ((hs0_0 t).unread (iblk m c 0 t)) (ix2 a e) by pointwise [k0_pay43],
      cols_hi, (hs0_0 t).read_unread, query_block m c t a (hi e) (Args.query (tileOf t) a) (col (headOf (pairOf t) 1) e)
        (show 1024 * (t.val % 8) + a.val = _ by omega) (show 64 * (2 * (t.val / 8) + 1) + e.val = t.val / 8 * 128 + (64 + e.val) by omega), H.q]
    rfl
  · rw [show k0_pay44 (F := Ideal) (colsLo (ms0_3 t).view ((hs0_3 t).unread (iblk m c 3 t))) (ix2 a e) = colsLo (ms0_3 t).view ((hs0_3 t).unread (iblk m c 3 t)) (ix2 a e) by pointwise [k0_pay44],
      cols_lo, (hs0_3 t).read_unread, cotangent_block m c t a (lo e) (Args.query (tileOf t) a) (col (headOf (pairOf t) 0) e)
        (show 1024 * (t.val % 8) + a.val = _ by omega) (show 64 * (2 * (t.val / 8) + 0) + e.val = t.val / 8 * 128 + e.val by omega), H.d]
    rfl
  · rw [show k0_pay45 (F := Ideal) (colsHi (ms0_3 t).view ((hs0_3 t).unread (iblk m c 3 t))) (ix2 a e) = colsHi (ms0_3 t).view ((hs0_3 t).unread (iblk m c 3 t)) (ix2 a e) by pointwise [k0_pay45],
      cols_hi, (hs0_3 t).read_unread, cotangent_block m c t a (hi e) (Args.query (tileOf t) a) (col (headOf (pairOf t) 1) e)
        (show 1024 * (t.val % 8) + a.val = _ by omega) (show 64 * (2 * (t.val / 8) + 1) + e.val = t.val / 8 * 128 + (64 + e.val) by omega), H.d]
    rfl
  · rw [(hs0_1 t).read_unread, key_block m c t r (lo e) (col (headOf (pairOf t) 0) e) (show 64 * (2 * (t.val / 8) + 0) + e.val = t.val / 8 * 128 + e.val by omega), H.k]
    exact congrArg (fun x : ℝ => (x : EReal)) (row_lt _ _ r e).symm
  · rw [(hs0_1 t).read_unread, key_block m c t r (hi e) (col (headOf (pairOf t) 1) e) (show 64 * (2 * (t.val / 8) + 1) + e.val = t.val / 8 * 128 + (64 + e.val) by omega), H.k]
    exact congrArg (fun x : ℝ => (x : EReal)) (row_lt _ _ r e).symm
  · rw [(hs0_2 t).read_unread, value_block m c t r (lo e) (col (headOf (pairOf t) 0) e) (show 64 * (2 * (t.val / 8) + 0) + e.val = t.val / 8 * 128 + e.val by omega), H.v]
    exact congrArg (fun x : ℝ => (x : EReal)) (row_lt _ _ r e).symm
  · rw [(hs0_2 t).read_unread, value_block m c t r (hi e) (col (headOf (pairOf t) 1) e) (show 64 * (2 * (t.val / 8) + 1) + e.val = t.val / 8 * 128 + (64 + e.val) by omega), H.v]
    exact congrArg (fun x : ℝ => (x : EReal)) (row_lt _ _ r e).symm

end Cert.AttnBwdIdeal.Value

end
-- ==== Proof.AttnBwdPoints.lean ====
/- What every grid point of the attention's gradient leaves: its tile of query gradients, and the key and value gradients of the queries so far. -/
module

public import proofs.«01_k».proof.Proof.AttnBwdOperands

@[expose] public section

set_option maxRecDepth 16384

noncomputable section

open Idealize.ShloMosaic Idealize.ShloMosaic.TcCoe Idealize.SL.Sem
open scoped BigOperators

namespace Cert.AttnBwdIdeal.Value

open Cert.AttnBwdIdeal Cert.AttnBwdIdeal.Gen Cert.AttnBwdIdeal.Hand

seal iblk

/-- What a point leaves, from what its accumulators held. -/
structure Left (H0 H1 : Head) (x8 x9 : S8192x128.Idx → EReal) (N : ℕ) (z : S1024x128.Idx → EReal) (y8 y9 : S8192x128.Idx → EReal) : Prop where
  q0 : ∀ a e, z (ix2 a (lo e)) = ((∑ s ∈ Finset.range N, H0.dz a s * H0.k s e : ℝ) : EReal)
  q1 : ∀ a e, z (ix2 a (hi e)) = ((∑ s ∈ Finset.range N, H1.dz a s * H1.k s e : ℝ) : EReal)
  k : Acc x8 H0.dk H1.dk N y8
  v : Acc x9 H0.dv H1.dv N y9

variable (m : (ℓ : Loc nD τ sig) → Buf (Elt Ideal) ℓ)

/-- The two heads' columns put side by side. -/
theorem Part.left {H0 H1 : Head} {x8 x9 : S8192x128.Idx → EReal} {N : ℕ} {dq0 dq1 : S1024x64.Idx → EReal} {y8 y9 : S8192x128.Idx → EReal}
    (P : Part H0 H1 x8 x9 N dq0 dq1 y8 y9) (v : View sig .tc .vmem S1024x128 .f32) (f : v.ty.Contents (Elt Ideal))
    (L : List (View.Piece (Elt Ideal) S1024x128 .f32))
    (hL : L = [⟨Rect.unit (s := S1024x128) ![0, 64] S1024x64.size inb_S1024x128_S1024x64_0_64, dq1⟩, ⟨Rect.unit (s := S1024x128) ![0, 0] S1024x64.size inb_S1024x128_S1024x64_0_0, dq0⟩]) :
    Left H0 H1 x8 x9 N (v.read (Elt Ideal) (v.writes (Elt Ideal) f L)) y8 y9 := by
  subst hL
  refine ⟨fun a e => ?_, fun a e => ?_, P.k, P.v⟩
  · exact (pair_lo (N := 0) v f inb_S1024x128_S1024x64_0_64 inb_S1024x128_S1024x64_0_0 dq1 dq0 [] rfl rfl a e a (Nat.zero_add _).symm).trans (P.q0 a e)
  · exact (pair_hi (N := 0) v f inb_S1024x128_S1024x64_0_64 dq1 _ rfl a e a (Nat.zero_add _).symm).trans (P.q1 a e)

variable {m} {A : Args} {c : Dev nD} (H : Holds A (query m c) (key m c) (value m c) (cotangent m c))

/-- Head `h` of the pair of a point, on its tile. -/
abbrev atPoint (A : Args) (t : Fin cfg0.N) (h : Fin 2) : Head := A.head (headOf (pairOf t) h) (tileOf t)

theorem zero39 : (k0_pay39 (F := Ideal) : S8192x128.Idx → EReal) = fun _ => 0 := by funext j; pointwise [k0_pay39]
theorem zero40 : (k0_pay40 (F := Ideal) : S8192x128.Idx → EReal) = fun _ => 0 := by funext j; pointwise [k0_pay40]

include H in
/-- The first point of a pair. -/
theorem left_A (t : Fin cfg0.N) (h : t.val % 8 = 0) :
    Left (atPoint A t 0) (atPoint A t 1) (fun _ => 0) (fun _ => 0) (1024 * (t.val % 8) + 1024) (outsAt m c t.val t.isLt).1 (outsAt m c t.val t.isLt).2.1
      (outsAt m c t.val t.isLt).2.2 := by
  obtain ⟨dq0, dq1, hrun, P⟩ := endsA c (XA m c) (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) ((hs0_0 t).unread (iblk m c 0 t)) ((hs0_1 t).unread (iblk m c 1 t)) ((hs0_2 t).unread (iblk m c 2 t))
    ((hs0_3 t).unread (iblk m c 3 t)) ((cond1_iff t).mpr h) (operands H t)
  rw [zeroed_read, zeroed_read, zero39, zero40, (coords t).2] at P
  rw [outsAt_A m c t h]
  exact P.left _ _ _ hrun

include H in
/-- A later point. -/
theorem left_B (t : Fin cfg0.N) (h : ¬t.val % 8 = 0) :
    Left (atPoint A t 0) (atPoint A t 1) (prev8 m c t) (prev9 m c t) (1024 * (t.val % 8) + 1024) (outsAt m c t.val t.isLt).1 (outsAt m c t.val t.isLt).2.1
      (outsAt m c t.val t.isLt).2.2 := by
  rw [outsAt_B m c t h]
  generalize prev8 m c t = x8
  generalize prev9 m c t = x9
  obtain ⟨dq0, dq1, hrun, P⟩ := endsB c (XA m c) (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) ((hs0_0 t).unread (iblk m c 0 t)) ((hs0_1 t).unread (iblk m c 1 t)) ((hs0_2 t).unread (iblk m c 2 t))
    ((hs0_3 t).unread (iblk m c 3 t)) (fun hc => h ((cond1_iff t).mp hc)) ((hs0_5 t).unread x8) ((hs0_6 t).unread x9) (operands H t)
  rw [(hs0_5 t).read_unread, (hs0_6 t).read_unread, (coords t).2] at P
  exact P.left _ _ _ hrun

/-! ## A tile's gradient is zero past it -/

theorem dk_past (h : Fin 16) (i : Fin 8) (s : ℕ) (e : Fin 64) (hs : 1024 * i.val + 1024 ≤ s) : (A.head h i).dk s e = 0 :=
  Finset.sum_eq_zero fun a _ => by
    rw [(A.head h i).dz_past a s (show 1024 * i.val + a.val ≤ s by omega), zero_mul]

theorem dv_past (h : Fin 16) (i : Fin 8) (s : ℕ) (e : Fin 64) (hs : 1024 * i.val + 1024 ≤ s) : (A.head h i).dv s e = 0 :=
  Finset.sum_eq_zero fun a _ => by
    rw [(A.head h i).past a s (show 1024 * i.val + a.val ≤ s by omega), zero_mul]

theorem drop_if (N s : ℕ) (x : ℝ) (h : N ≤ s → x = 0) : (if s < N then x else 0) = x := by
  by_cases hs : s < N
  · rw [if_pos hs]
  · rw [if_neg hs, h (by omega)]

/-- The keys past the tile add nothing to a query's gradient. -/
theorem query_sum (h : Fin 16) (i : Fin 8) (a : Fin 1024) (e : Fin 64) :
    ∑ s ∈ Finset.range (1024 * i.val + 1024), (A.head h i).dz a s * (A.head h i).k s e
      = ∑ s : Fin 8192, A.dz h (Args.query i a) s * A.k (ix2 s (col h e)) := by
  have hi := i.isLt
  rw [Finset.sum_subset (Finset.range_mono (show 1024 * i.val + 1024 ≤ 8192 by omega)) fun s _ hs => by
    rw [(A.head h i).dz_past a s (show 1024 * i.val + a.val ≤ s by have := Finset.mem_range.not.mp hs; omega), zero_mul],
    ← Fin.sum_univ_eq_sum_range (fun s => (A.head h i).dz a s * (A.head h i).k s e) 8192]
  refine Finset.sum_congr rfl fun s _ => ?_
  rw [Args.head_dz, show (A.head h i).k s e = A.k (ix2 s (col h e)) from row_lt _ _ s e]

/-! ## The accumulators at the last point of a pair -/

/-- An accumulator that starts at zero and at every point takes its tile's gradient holds the sum over the tiles at the pair's last point. -/
theorem accumulated (f : (n : ℕ) → n < cfg0.N → S8192x128.Idx → EReal) (S : Head → ℕ → Fin 64 → ℝ)
    (hS : ∀ (h : Fin 16) (i : Fin 8) (s : ℕ) (e : Fin 64), 1024 * i.val + 1024 ≤ s → S (A.head h i) s e = 0)
    (h0 : ∀ t : Fin cfg0.N, t.val % 8 = 0 → Acc (fun _ => 0) (S (atPoint A t 0)) (S (atPoint A t 1)) (1024 * (t.val % 8) + 1024) (f t.val t.isLt))
    (hs : ∀ t : Fin cfg0.N, ¬t.val % 8 = 0 → Acc (f (t.val - 1) (Nat.lt_of_le_of_lt (Nat.sub_le _ _) t.isLt)) (S (atPoint A t 0)) (S (atPoint A t 1))
      (1024 * (t.val % 8) + 1024) (f t.val t.isLt))
    (t : Fin cfg0.N) (ht : t.val % 8 = 7) (r : Fin 8192) (e : Fin 64) :
    f t.val t.isLt (ix2 r (lo e)) = ((∑ i : Fin 8, S (A.head (headOf (pairOf t) 0) i) r e : ℝ) : EReal)
      ∧ f t.val t.isLt (ix2 r (hi e)) = ((∑ i : Fin 8, S (A.head (headOf (pairOf t) 1) i) r e : ℝ) : EReal) := by
  have hd : ∀ (s : Fin cfg0.N) (h : Fin 2) (r : ℕ) (e : Fin 64), (if r < 1024 * (s.val % 8) + 1024 then S (atPoint A s h) r e else 0) = S (atPoint A s h) r e :=
    fun s h r e => drop_if _ _ _ fun hr => hS _ (tileOf s) r e hr
  have hp : ∀ (s : Fin 8) (hlt : 8 * (t.val / 8) + s.val < cfg0.N), pairOf ⟨8 * (t.val / 8) + s.val, hlt⟩ = pairOf t := fun s hlt =>
    Fin.ext (show (8 * (t.val / 8) + s.val) / 8 = t.val / 8 by omega)
  have hq : ∀ (s : Fin 8) (hlt : 8 * (t.val / 8) + s.val < cfg0.N), tileOf ⟨8 * (t.val / 8) + s.val, hlt⟩ = s := fun s hlt =>
    Fin.ext (show (8 * (t.val / 8) + s.val) % 8 = s.val by omega)
  constructor
  · rw [Pipeline.eq_sum_fin_of_reset_step_apply_of_flush (M := EReal) (ι := Fin 8192 × Fin 64) (fun n h i => f n h (ix2 i.1 (lo i.2))) 8 (fun _ => 0)
      (fun s i => ((S (atPoint A s 0) i.1 i.2 : ℝ) : EReal))
      (fun s h i => by rw [(h0 s h).lo, hd]) (fun s h i => by rw [(hs s h).lo, hd]) t ht (r, e), zero_add, ← Cert.Reals.coe_sum]
    refine Finset.sum_congr rfl fun s _ => congrArg (fun x : ℝ => (x : EReal)) ?_
    show S (A.head (headOf (pairOf _) 0) (tileOf _)) r e = _
    rw [hp, hq]
  · rw [Pipeline.eq_sum_fin_of_reset_step_apply_of_flush (M := EReal) (ι := Fin 8192 × Fin 64) (fun n h i => f n h (ix2 i.1 (hi i.2))) 8 (fun _ => 0)
      (fun s i => ((S (atPoint A s 1) i.1 i.2 : ℝ) : EReal))
      (fun s h i => by rw [(h0 s h).hi, hd]) (fun s h i => by rw [(hs s h).hi, hd]) t ht (r, e), zero_add, ← Cert.Reals.coe_sum]
    refine Finset.sum_congr rfl fun s _ => congrArg (fun x : ℝ => (x : EReal)) ?_
    show S (A.head (headOf (pairOf _) 1) (tileOf _)) r e = _
    rw [hp, hq]

/-- The sum over the tiles of the key gradients. -/
theorem dk_tiles (h : Fin 16) (s : Fin 8192) (e : Fin 64) :
    ∑ i : Fin 8, (A.head h i).dk s e = ∑ t : Fin 8192, A.dz h t s * A.q (ix2 t (col h e)) :=
  (Args.sum_tiles fun t => A.dz h t s * A.q (ix2 t (col h e))).symm

/-- The sum over the tiles of the value gradients. -/
theorem dv_tiles (h : Fin 16) (s : Fin 8192) (e : Fin 64) :
    ∑ i : Fin 8, (A.head h i).dv s e = ∑ t : Fin 8192, A.w h t s * A.d (ix2 t (col h e)) := by
  refine Eq.trans ?_ (Args.sum_tiles fun t => A.w h t s * A.d (ix2 t (col h e))).symm
  refine Finset.sum_congr rfl fun i _ => Finset.sum_congr rfl fun a _ => ?_
  exact congrArg (· * A.d (ix2 (Args.query i a) (col h e))) (dif_pos s.isLt)

include H in
/-- The key gradients at a pair's last point. -/
theorem keys_left (t : Fin cfg0.N) (ht : t.val % 8 = 7) (s : Fin 8192) (e : Fin 64) :
    (outsAt m c t.val t.isLt).2.1 (ix2 s (lo e)) = ((∑ t' : Fin 8192, A.dz (headOf (pairOf t) 0) t' s * A.q (ix2 t' (col (headOf (pairOf t) 0) e)) : ℝ) : EReal)
      ∧ (outsAt m c t.val t.isLt).2.1 (ix2 s (hi e)) = ((∑ t' : Fin 8192, A.dz (headOf (pairOf t) 1) t' s * A.q (ix2 t' (col (headOf (pairOf t) 1) e)) : ℝ) : EReal) := by
  rw [← dk_tiles, ← dk_tiles]
  exact accumulated (fun n h => (outsAt m c n h).2.1) Head.dk dk_past (fun t h => (left_A H t h).k) (fun t h => (left_B H t h).k) t ht s e

include H in
/-- The value gradients at a pair's last point. -/
theorem values_left (t : Fin cfg0.N) (ht : t.val % 8 = 7) (s : Fin 8192) (e : Fin 64) :
    (outsAt m c t.val t.isLt).2.2 (ix2 s (lo e)) = ((∑ t' : Fin 8192, A.w (headOf (pairOf t) 0) t' s * A.d (ix2 t' (col (headOf (pairOf t) 0) e)) : ℝ) : EReal)
      ∧ (outsAt m c t.val t.isLt).2.2 (ix2 s (hi e)) = ((∑ t' : Fin 8192, A.w (headOf (pairOf t) 1) t' s * A.d (ix2 t' (col (headOf (pairOf t) 1) e)) : ℝ) : EReal) := by
  rw [← dv_tiles, ← dv_tiles]
  exact accumulated (fun n h => (outsAt m c n h).2.2) Head.dv dv_past (fun t h => (left_A H t h).v) (fun t h => (left_B H t h).v) t ht s e

include H in
/-- The query gradients of a point. -/
theorem queries_left (t : Fin cfg0.N) (a : Fin 1024) (e : Fin 64) :
    (outsAt m c t.val t.isLt).1 (ix2 a (lo e))
        = ((∑ s : Fin 8192, A.dz (headOf (pairOf t) 0) (Args.query (tileOf t) a) s * A.k (ix2 s (col (headOf (pairOf t) 0) e)) : ℝ) : EReal)
      ∧ (outsAt m c t.val t.isLt).1 (ix2 a (hi e))
        = ((∑ s : Fin 8192, A.dz (headOf (pairOf t) 1) (Args.query (tileOf t) a) s * A.k (ix2 s (col (headOf (pairOf t) 1) e)) : ℝ) : EReal) := by
  rw [← query_sum, ← query_sum]
  by_cases h : t.val % 8 = 0
  · exact ⟨(left_A H t h).q0 a e, (left_A H t h).q1 a e⟩
  · exact ⟨(left_B H t h).q0 a e, (left_B H t h).q1 a e⟩

end Cert.AttnBwdIdeal.Value

end
-- ==== Proof.AttnBwd.lean ====
/- The attention's gradient equals its reference: the arrays the launch leaves, and the claim. -/
module

public import proofs.«01_k».proof.Defs
public import proofs.«01_k».proof.Proof.AttnBwdPoints
public import proofs.«01_k».proof.Proof.Gen.AttnBwdRefIdeal.Read
public import proofs.«01_k».proof.Proof.Gen.Pre_finite_attn
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Value

open Cert.AttnBwdIdeal Cert.AttnBwdIdeal.Gen Cert.AttnBwdIdeal.Hand
open Cert.AttnBwdRefIdeal.Read

seal iblk

/-- A column of a pair's block belongs to its first head or to its second. -/
theorem halves (x : Fin 128) : (∃ e : Fin 64, x = lo e) ∨ ∃ e : Fin 64, x = hi e := by
  have hx := x.isLt
  by_cases h : x.val < 64
  · exact Or.inl ⟨⟨x.val, h⟩, rfl⟩
  · exact Or.inr ⟨⟨x.val - 64, by omega⟩, Fin.ext (show x.val = 64 + (x.val - 64) by omega)⟩

theorem eq_ix2 {n k : ℕ} (j : (⟨2, ![n, k]⟩ : Shape).Idx) (r : Fin n) (x : Fin k) (h0 : (j 0 : ℕ) = r) (h1 : (j 1 : ℕ) = x) : j = ix2 r x :=
  ext2 h0 h1

variable {m : (ℓ : Loc nD τ sig) → Buf (Elt Ideal) ℓ} {A : Args} {c : Dev nD} (H : Holds A (query m c) (key m c) (value m c) (cotangent m c))

include H in
theorem query_point (t : Fin cfg0.N) (y : S1024x128.Idx) (j : S8192x1024.Idx) (h0 : (j 0 : ℕ) = t.val % 8 * 1024 + y 0) (h1 : (j 1 : ℕ) = t.val / 8 * 128 + y 1) :
    ((outsAt m c t.val t.isLt).1 y : EReal) = val_main_v48 (F := Ideal) (query m c) (key m c) (value m c) (cotangent m c) j := by
  obtain ⟨a, x, rfl⟩ : ∃ (a : Fin 1024) (x : Fin 128), y = ix2 a x := ⟨y 0, y 1, (ix2_eta y).symm⟩
  replace h0 : (j 0 : ℕ) = t.val % 8 * 1024 + a.val := h0
  replace h1 : (j 1 : ℕ) = t.val / 8 * 128 + x.val := h1
  rcases halves x with ⟨e, rfl⟩ | ⟨e, rfl⟩
  · rw [(queries_left H t a e).1, eq_ix2 j (Args.query (tileOf t) a) (col (headOf (pairOf t) 0) e)
      (h0.trans (show t.val % 8 * 1024 + a.val = 1024 * (t.val % 8) + a.val by omega))
      (h1.trans (show t.val / 8 * 128 + e.val = 64 * (2 * (t.val / 8) + 0) + e.val by omega)), reference_dq H]
  · rw [(queries_left H t a e).2, eq_ix2 j (Args.query (tileOf t) a) (col (headOf (pairOf t) 1) e)
      (h0.trans (show t.val % 8 * 1024 + a.val = 1024 * (t.val % 8) + a.val by omega))
      (h1.trans (show t.val / 8 * 128 + (64 + e.val) = 64 * (2 * (t.val / 8) + 1) + e.val by omega)), reference_dq H]

include H in
theorem key_point (t : Fin cfg0.N) (ht : t.val % 8 = 7) (y : S8192x128.Idx) (j : S8192x1024.Idx) (h0 : (j 0 : ℕ) = y 0) (h1 : (j 1 : ℕ) = t.val / 8 * 128 + y 1) :
    ((outsAt m c t.val t.isLt).2.1 y : EReal) = val_main_v46 (F := Ideal) (query m c) (key m c) (value m c) (cotangent m c) j := by
  obtain ⟨s, x, rfl⟩ : ∃ (s : Fin 8192) (x : Fin 128), y = ix2 s x := ⟨y 0, y 1, (ix2_eta y).symm⟩
  replace h1 : (j 1 : ℕ) = t.val / 8 * 128 + x.val := h1
  rcases halves x with ⟨e, rfl⟩ | ⟨e, rfl⟩
  · rw [(keys_left H t ht s e).1, eq_ix2 j s (col (headOf (pairOf t) 0) e) h0
      (h1.trans (show t.val / 8 * 128 + e.val = 64 * (2 * (t.val / 8) + 0) + e.val by omega)), reference_dk H]
  · rw [(keys_left H t ht s e).2, eq_ix2 j s (col (headOf (pairOf t) 1) e) h0
      (h1.trans (show t.val / 8 * 128 + (64 + e.val) = 64 * (2 * (t.val / 8) + 1) + e.val by omega)), reference_dk H]

include H in
theorem value_point (t : Fin cfg0.N) (ht : t.val % 8 = 7) (y : S8192x128.Idx) (j : S8192x1024.Idx) (h0 : (j 0 : ℕ) = y 0) (h1 : (j 1 : ℕ) = t.val / 8 * 128 + y 1) :
    ((outsAt m c t.val t.isLt).2.2 y : EReal) = val_main_v32 (F := Ideal) (query m c) (key m c) (cotangent m c) j := by
  obtain ⟨s, x, rfl⟩ : ∃ (s : Fin 8192) (x : Fin 128), y = ix2 s x := ⟨y 0, y 1, (ix2_eta y).symm⟩
  replace h1 : (j 1 : ℕ) = t.val / 8 * 128 + x.val := h1
  rcases halves x with ⟨e, rfl⟩ | ⟨e, rfl⟩
  · rw [(values_left H t ht s e).1, eq_ix2 j s (col (headOf (pairOf t) 0) e) h0
      (h1.trans (show t.val / 8 * 128 + e.val = 64 * (2 * (t.val / 8) + 0) + e.val by omega)), reference_dv H]
  · rw [(values_left H t ht s e).2, eq_ix2 j s (col (headOf (pairOf t) 1) e) h0
      (h1.trans (show t.val / 8 * 128 + (64 + e.val) = 64 * (2 * (t.val / 8) + 1) + e.val by omega)), reference_dv H]

/-! ## The arrays -/

include H in
theorem final_query : (dats m 0 c).arrAt 4 (cfgs 0).N = val_main_v48 (F := Ideal) (query m c) (key m c) (value m c) (cotangent m c) := by
  refine (dats m 0 c).arrAt_eq_of_covers 4 _ (by decide +kernel) fun t hf y => ?_
  blk_simp; rw [after0_4]
  exact query_point H t y _ (by blk_simp [idx t]) (by blk_simp [idx t])

include H in
theorem final_key : (dats m 0 c).arrAt 5 (cfgs 0).N = val_main_v46 (F := Ideal) (query m c) (key m c) (value m c) (cotangent m c) := by
  refine (dats m 0 c).arrAt_eq_of_covers 5 _ (by decide +kernel) fun t hf y => ?_
  blk_simp; rw [after0_5]
  exact key_point H t ((flush0_5 t).mp hf) y _ (by blk_simp [idx t]) (by blk_simp [idx t])

include H in
theorem final_value : (dats m 0 c).arrAt 6 (cfgs 0).N = val_main_v32 (F := Ideal) (query m c) (key m c) (cotangent m c) := by
  refine (dats m 0 c).arrAt_eq_of_covers 6 _ (by decide +kernel) fun t hf y => ?_
  blk_simp; rw [after0_6]
  exact value_point H t ((flush0_6 t).mp hf) y _ (by blk_simp [idx t]) (by blk_simp [idx t])

/-- The precondition says that the arguments are arrays of real numbers. -/
theorem finite_args (h : Cert.Pre_AttnBwdIdeal_finite_attn m) (c : Dev nD) :
    Cert.Reals.Finite (query m c) ∧ Cert.Reals.Finite (key m c) ∧ Cert.Reals.Finite (value m c) ∧ Cert.Reals.Finite (cotangent m c) := by
  have h0 := congrFun (h c) (fun a => a.elim0)
  unfold Cert.Pre_finite_attn.fn at h0
  obtain ⟨h, h3⟩ := Cert.Reals.and_one h0
  obtain ⟨h, h2⟩ := Cert.Reals.and_one h
  obtain ⟨h0, h1⟩ := Cert.Reals.and_one h
  exact ⟨Cert.Reals.finite_of_all _ _ _ _ _ _ h0, Cert.Reals.finite_of_all _ _ _ _ _ _ h1,
    Cert.Reals.finite_of_all _ _ _ _ _ _ h2, Cert.Reals.finite_of_all _ _ _ _ _ _ h3⟩

/-- The run with its results named. -/
theorem results_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v45_0) = (dats m 0 c).arrAt 4 (cfgs 0).N
      ∧ r.2.mem ((c.tc : Thread nD τ).loc main_v45_1) = (dats m 0 c).arrAt 5 (cfgs 0).N
      ∧ r.2.mem ((c.tc : Thread nD τ).loc main_v45_2) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_quiescent m ρ)

/-- On finite arguments the launch's arrays are the reference's. -/
theorem arrays (h : Cert.Pre_AttnBwdIdeal_finite_attn m) (c : Dev nD) :
    (dats m 0 c).arrAt 4 (cfgs 0).N = val_main_v48 (F := Ideal) (query m c) (key m c) (value m c) (cotangent m c)
      ∧ (dats m 0 c).arrAt 5 (cfgs 0).N = val_main_v46 (F := Ideal) (query m c) (key m c) (value m c) (cotangent m c)
      ∧ (dats m 0 c).arrAt 6 (cfgs 0).N = val_main_v32 (F := Ideal) (query m c) (key m c) (cotangent m c) := by
  obtain ⟨h0, h1, h2, h3⟩ := finite_args h c
  obtain ⟨A, H⟩ := holds_of_finite h0 h1 h2 h3
  exact ⟨final_query H, final_key H, final_value H⟩

theorem algebraic : Cert.algebraic_AttnBwdIdeal_AttnBwdRefIdeal_pre_finite_attn := by
  pair_intro
  · run_from results_run m g
  · run_from Cert.AttnBwdRefIdeal.Value.run m' g'
    · obtain ⟨e0, e1, e2, e3⟩ := hagree c
      rw [(arrays hpre c).1, val_main_v48_eq, e0, e1, e2, e3]
    · obtain ⟨e0, e1, e2, e3⟩ := hagree c
      rw [(arrays hpre c).2.1, val_main_v46_eq, e0, e1, e2, e3]
    · obtain ⟨e0, e1, e2, e3⟩ := hagree c
      rw [(arrays hpre c).2.2, val_main_v32_eq, e0, e1, e3]

end Cert.AttnBwdIdeal.Value

end
-- ==== Proof.RmsNorm.lean ====
/- The root-mean-square normalisation of the forward pass: kernel, reference, and that they are equal. -/
module

public import proofs.«01_k».proof.Defs
public import proofs.«01_k».proof.Proof.Gen.RmsNormIdeal
public import proofs.«01_k».proof.Proof.Gen.RmsNormIdeal.Frame
public import proofs.«01_k».proof.Proof.Gen.RmsNormRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.RmsNormIdeal.Value

open Cert.RmsNormIdeal Cert.RmsNormIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0] :=
  (by decide +kernel : ∀ t : Fin grid0.N, _)

/-- The width of a row and the small constant under the root, as the programs spell them. -/
abbrev W : EReal := Ideal.ofBits .f32 0x44800000#32
abbrev E : EReal := Ideal.ofBits .f32 0x358637BD#32

/-- One element of a row over the root of the row's mean square, times its gain. -/
def normed (x : FVec Ideal S8192x1024 .f32) (g : FVec Ideal S4x1024 .f32) (r : Fin 8192) (k : Fin 1024) : EReal :=
  x (ix2 r k) * Cert.Norm.inv W E (fun k : Fin 1024 => x (ix2 r k)) * g (ix2 0 k)

def rows (x : FVec Ideal S8192x1024 .f32) (g : FVec Ideal S4x1024 .f32) : FVec Ideal S8192x1024 .bf16 := fun i => normed x g (i 0) (i 1)

/-- What the body stores at an index of a block is the array's element there. -/
theorem point (c : Dev nD) (t : Fin cfg0.N) (y : S512x1024.Idx) (j : S8192x1024.Idx)
    (h0 : (j 0 : ℕ) = t.val * 512 + y 0) (h1 : (j 1 : ℕ) = y 1) :
    k0_pay1 (iblk m c 0 t) (iblk m c 1 t) y = rows (m ((c : Thread nD τ).loc main_arg0)) (m ((c : Thread nD τ).loc main_arg1)) j := by
  unfold rows normed Cert.Norm.inv Cert.Norm.mean_square
  pointwise [k0_pay1]; blk_point [iblk, V, idx t]

theorem final (c : Dev nD) : (dats m 0 c).arrAt 2 (cfgs 0).N = rows (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y _ (by blk_simp [idx t]) (by blk_simp [idx t])

theorem algebraic : Cert.algebraic_RmsNormIdeal_RmsNormRefIdeal := by
  pair_intro
  · run_from Cert.RmsNormIdeal.Gen.run_main m g
  · run_from Cert.RmsNormRefIdeal.Value.run m' g'
    rw [final]
    funext i
    unfold rows normed Cert.Norm.inv Cert.Norm.mean_square W E
    pointwise

end Cert.RmsNormIdeal.Value

end
-- ==== Proof.FfnUp.lean ====
/- The feed-forward gate of the forward pass: kernel, reference, and that they are equal. -/
module

public import proofs.«01_k».proof.Defs
public import proofs.«01_k».proof.Proof.Gen.FfnUpIdeal
public import proofs.«01_k».proof.Proof.Gen.FfnUpIdeal.Frame
public import proofs.«01_k».proof.Proof.Gen.FfnUpRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.FfnUpIdeal.Value

open Cert.FfnUpIdeal Cert.FfnUpIdeal.Gen

variable (m : (ℓ : Loc nD τ sig) → Buf (Elt Ideal) ℓ)

theorem idx : ∀ t : Fin cfg0.N, win0_0.index t = ![t.val % 16, 0]
    ∧ win0_1.index t = ![0, t.val / 16, 0, 0]
    ∧ win0_2.index t = ![0, t.val / 16 + 2, 0, 0]
    ∧ win0_3.index t = ![t.val % 16, t.val / 16]
    ∧ win0_4.index t = ![t.val % 16, t.val / 16]
    ∧ win0_5.index t = ![t.val % 16, t.val / 16] :=
  (by decide +kernel : ∀ t : Fin grid0.N, _)

/-- The gate's and the up projection's products side by side. -/
def product (h : FVec Ideal S8192x1024 .f32) (w : FVec Ideal S4x1024x5632 .f32) (r : Fin 8192) (f : Fin 5632) : EReal :=
  ∑ k : Fin 1024, h (ix2 r k) * w (ix3 0 k f)

/-- Column `f` of the gate, and of the up projection, in the product. -/
def gate_col (f : Fin 2816) : Fin 5632 := ⟨f, by omega⟩
def up_col (f : Fin 2816) : Fin 5632 := ⟨2816 + f, by omega⟩

def gate (h : FVec Ideal S8192x1024 .f32) (w : FVec Ideal S4x1024x5632 .f32) : FVec Ideal S8192x2816 .bf16 := fun i =>
  product h w (i 0) (gate_col (i 1))
def up (h : FVec Ideal S8192x1024 .f32) (w : FVec Ideal S4x1024x5632 .f32) : FVec Ideal S8192x2816 .bf16 := fun i =>
  product h w (i 0) (up_col (i 1))
def act (h : FVec Ideal S8192x1024 .f32) (w : FVec Ideal S4x1024x5632 .f32) : FVec Ideal S8192x2816 .bf16 := fun i =>
  product h w (i 0) (gate_col (i 1)) * Ideal.logistic (product h w (i 0) (gate_col (i 1))) * product h w (i 0) (up_col (i 1))

theorem row_block (c : Dev nD) (t : Fin cfg0.N) (a : Fin 512) (k : Fin 1024) (r : Fin 8192) (hr : (r : ℕ) = t.val % 16 * 512 + a) :
    iblk m c 0 t (ix2 a k) = (m ((c : Thread nD τ).loc main_arg0)) (ix2 r k) := by
  blk_simp [iblk, idx t]; entry_read; pointwise; blk_point [iblk, V, idx t]

theorem gate_weight (c : Dev nD) (t : Fin cfg0.N) (k : Fin 1024) (b : Fin 1408) (f : Fin 5632) (hf : (f : ℕ) = t.val / 16 * 1408 + b) :
    iblk m c 1 t (ix4 0 0 k b) = (m ((c : Thread nD τ).loc main_arg1)) (ix3 0 k f) := by
  blk_simp [iblk, idx t]; entry_read; pointwise; blk_point [iblk, V, idx t]

theorem up_weight (c : Dev nD) (t : Fin cfg0.N) (k : Fin 1024) (b : Fin 1408) (f : Fin 5632) (hf : (f : ℕ) = 2816 + (t.val / 16 * 1408 + b)) :
    iblk m c 2 t (ix4 0 0 k b) = (m ((c : Thread nD τ).loc main_arg1)) (ix3 0 k f) := by
  blk_simp [iblk, idx t]; entry_read; pointwise; blk_point [iblk, V, idx t]

theorem gate_pay (h : Vec Ideal S512x1024 .bf16) (w : Vec Ideal S1x1x1024x1408 .bf16) (y : S512x1408.Idx) :
    k0_pay2 h w y = ∑ k : Fin 1024, h (ix2 (y 0) k) * w (ix4 0 0 k (y 1)) := by
  pointwise [k0_pay2, k0_pay1]

theorem up_pay (h : Vec Ideal S512x1024 .bf16) (w : Vec Ideal S1x1x1024x1408 .bf16) (y : S512x1408.Idx) :
    k0_pay3 h w y = ∑ k : Fin 1024, h (ix2 (y 0) k) * w (ix4 0 0 k (y 1)) := by
  pointwise [k0_pay3, k0_pay1]

theorem gate_product (c : Dev nD) (t : Fin cfg0.N) (y : S512x1408.Idx) (j : S8192x2816.Idx)
    (h0 : (j 0 : ℕ) = t.val % 16 * 512 + y 0) (h1 : (j 1 : ℕ) = t.val / 16 * 1408 + y 1) :
    k0_pay2 (iblk m c 0 t) (iblk m c 1 t) y = product (m ((c : Thread nD τ).loc main_arg0)) (m ((c : Thread nD τ).loc main_arg1)) (j 0) (gate_col (j 1)) := by
  rw [gate_pay]
  unfold product
  exact Finset.sum_congr rfl fun k _ => congrArg₂ (· * · : EReal → EReal → EReal)
    (row_block m c t (y 0) k (j 0) h0) (gate_weight m c t k (y 1) (gate_col (j 1)) h1)

theorem up_product (c : Dev nD) (t : Fin cfg0.N) (y : S512x1408.Idx) (j : S8192x2816.Idx)
    (h0 : (j 0 : ℕ) = t.val % 16 * 512 + y 0) (h1 : (j 1 : ℕ) = t.val / 16 * 1408 + y 1) :
    k0_pay3 (iblk m c 0 t) (iblk m c 2 t) y = product (m ((c : Thread nD τ).loc main_arg0)) (m ((c : Thread nD τ).loc main_arg1)) (j 0) (up_col (j 1)) := by
  rw [up_pay]
  unfold product
  exact Finset.sum_congr rfl fun k _ => congrArg₂ (· * · : EReal → EReal → EReal)
    (row_block m c t (y 0) k (j 0) h0) (up_weight m c t k (y 1) (up_col (j 1)) (congrArg (2816 + ·) h1))

theorem act_pay (h : Vec Ideal S512x1024 .bf16) (w v : Vec Ideal S1x1x1024x1408 .bf16) (y : S512x1408.Idx) :
    k0_pay6 h w v y = k0_pay2 h w y * Ideal.logistic (k0_pay2 h w y) * k0_pay3 h v y := by
  unfold k0_pay6
  generalize k0_pay2 h w = a
  generalize k0_pay3 h v = b
  pointwise

theorem final_gate (c : Dev nD) : (dats m 0 c).arrAt 3 (cfgs 0).N = gate (m ((c : Thread nD τ).loc main_arg0)) (m ((c : Thread nD τ).loc main_arg1)) := by
  refine (dats m 0 c).arrAt_eq_of_covers 3 _ (by decide +kernel) fun t hf y => ?_
  blk_simp; rw [after0_3]; frame_out
  exact gate_product m c t y _ (by blk_simp [idx t]) (by blk_simp [idx t])

theorem final_up (c : Dev nD) : (dats m 0 c).arrAt 4 (cfgs 0).N = up (m ((c : Thread nD τ).loc main_arg0)) (m ((c : Thread nD τ).loc main_arg1)) := by
  refine (dats m 0 c).arrAt_eq_of_covers 4 _ (by decide +kernel) fun t hf y => ?_
  blk_simp; rw [after0_4]; frame_out
  exact up_product m c t y _ (by blk_simp [idx t]) (by blk_simp [idx t])

theorem final_act (c : Dev nD) : (dats m 0 c).arrAt 5 (cfgs 0).N = act (m ((c : Thread nD τ).loc main_arg0)) (m ((c : Thread nD τ).loc main_arg1)) := by
  refine (dats m 0 c).arrAt_eq_of_covers 5 _ (by decide +kernel) fun t hf y => ?_
  blk_simp; rw [after0_5]; frame_out
  have h0 : ((win0_5.blk t).view.emb y 0 : ℕ) = t.val % 16 * 512 + y 0 := by blk_simp [idx t]
  have h1 : ((win0_5.blk t).view.emb y 1 : ℕ) = t.val / 16 * 1408 + y 1 := by blk_simp [idx t]
  rw [act_pay, gate_product m c t y _ h0 h1, up_product m c t y _ h0 h1]
  rfl

theorem algebraic : Cert.algebraic_FfnUpIdeal_FfnUpRefIdeal := by
  pair_intro
  · run_from Cert.FfnUpIdeal.Gen.run_main m g
  · run_from Cert.FfnUpRefIdeal.Value.run m' g'
    · rw [final_gate]
      funext i
      unfold gate product gate_col
      pointwise
    · rw [final_up]
      funext i
      unfold up product up_col
      pointwise
    · rw [final_act]
      funext i
      unfold act product gate_col up_col Ideal.logistic
      pointwise

end Cert.FfnUpIdeal.Value

end
-- ==== Proof.PleFwd.lean ====
/- The per-layer embedding of the forward pass: kernel, reference, and that they are equal. -/
module

public import proofs.«01_k».proof.Defs
public import proofs.«01_k».proof.Proof.Gen.PleFwdIdeal
public import proofs.«01_k».proof.Proof.Gen.PleFwdIdeal.Frame
public import proofs.«01_k».proof.Proof.Gen.PleFwdRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.PleFwdIdeal.Value

open Cert.PleFwdIdeal Cert.PleFwdIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![0, 0, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The width of a row and the small constant under the root, as the programs spell them. -/
abbrev W : EReal := Ideal.ofBits .f32 0x44800000#32
abbrev E : EReal := Ideal.ofBits .f32 0x358637BD#32

/-- One element of a row over the root of the row's mean square, times its gain. -/
def normed (x : FVec Ideal S8192x1024 .f32) (g : FVec Ideal S4x1024 .f32) (r : Fin 8192) (k : Fin 1024) : EReal :=
  x (ix2 r k) * Cert.Norm.inv W E (fun k : Fin 1024 => x (ix2 r k)) * g (ix2 0 k)

/-- The gate before the sigmoid: the normalised row times the gate's weights. -/
def gate (x : FVec Ideal S8192x1024 .f32) (g : FVec Ideal S4x1024 .f32) (w : FVec Ideal S4x1024x1024 .f32) (r : Fin 8192) (q : Fin 1024) : EReal :=
  ∑ k : Fin 1024, normed x g r k * w (ix3 0 k q)

/-- The projected embedding. -/
def embedding (p : FVec Ideal S8192x256 .f32) (v : FVec Ideal S256x1024 .f32) (r : Fin 8192) (q : Fin 1024) : EReal :=
  ∑ k : Fin 256, p (ix2 r k) * v (ix2 k q)

def rows (x : FVec Ideal S8192x1024 .f32) (g : FVec Ideal S4x1024 .f32) : FVec Ideal S8192x1024 .bf16 := fun i => normed x g (i 0) (i 1)
def gates (x : FVec Ideal S8192x1024 .f32) (g : FVec Ideal S4x1024 .f32) (w : FVec Ideal S4x1024x1024 .f32) : FVec Ideal S8192x1024 .bf16 :=
  fun i => gate x g w (i 0) (i 1)
def embeddings (p : FVec Ideal S8192x256 .f32) (v : FVec Ideal S256x1024 .f32) : FVec Ideal S8192x1024 .bf16 := fun i => embedding p v (i 0) (i 1)
def output (x : FVec Ideal S8192x1024 .f32) (g : FVec Ideal S4x1024 .f32) (w : FVec Ideal S4x1024x1024 .f32)
    (p : FVec Ideal S8192x256 .f32) (v : FVec Ideal S256x1024 .f32) : FVec Ideal S8192x1024 .f32 := fun i =>
  x i + Ideal.logistic (gate x g w (i 0) (i 1)) * embedding p v (i 0) (i 1)

theorem rows_point (c : Dev nD) (t : Fin cfg0.N) (y : S512x1024.Idx) (j : S8192x1024.Idx)
    (h0 : (j 0 : ℕ) = t.val * 512 + y 0) (h1 : (j 1 : ℕ) = y 1) :
    k0_pay1 (iblk m c 0 t) (iblk m c 1 t) y = rows (m ((c : Thread nD τ).loc main_arg0)) (m ((c : Thread nD τ).loc main_arg1)) j := by
  unfold rows normed Cert.Norm.inv Cert.Norm.mean_square
  pointwise [k0_pay1]; blk_point [iblk, V, idx t]

theorem weight_block (c : Dev nD) (t : Fin cfg0.N) (k q : Fin 1024) : iblk m c 2 t (ix3 0 k q) = (m ((c : Thread nD τ).loc main_arg2)) (ix3 0 k q) := by
  blk_simp [iblk, idx t]; entry_read; pointwise; blk_point [iblk, V, idx t]

theorem gate_pay (x : Vec Ideal S512x1024 .f32) (g : Vec Ideal S1x1024 .f32) (w : Vec Ideal S1x1024x1024 .bf16) (y : S512x1024.Idx) :
    k0_pay2 x g w y = ∑ k : Fin 1024, k0_pay1 x g (ix2 (y 0) k) * w (ix3 0 k (y 1)) := by
  unfold k0_pay2
  generalize k0_pay1 x g = f
  pointwise

theorem gate_point (c : Dev nD) (t : Fin cfg0.N) (y : S512x1024.Idx) (j : S8192x1024.Idx)
    (h0 : (j 0 : ℕ) = t.val * 512 + y 0) (h1 : (j 1 : ℕ) = y 1) :
    k0_pay2 (iblk m c 0 t) (iblk m c 1 t) (iblk m c 2 t) y = gate (m ((c : Thread nD τ).loc main_arg0)) (m ((c : Thread nD τ).loc main_arg1)) (m ((c : Thread nD τ).loc main_arg2)) (j 0) (j 1) := by
  rw [gate_pay, show y 1 = j 1 from Fin.ext h1.symm]
  unfold gate
  exact Finset.sum_congr rfl fun k _ => congrArg₂ (· * · : EReal → EReal → EReal)
    (rows_point m c t (ix2 (y 0) k) (ix2 (j 0) k) h0 rfl) (weight_block m c t k (j 1))

theorem embedding_point (c : Dev nD) (t : Fin cfg0.N) (y : S512x1024.Idx) (j : S8192x1024.Idx)
    (h0 : (j 0 : ℕ) = t.val * 512 + y 0) (h1 : (j 1 : ℕ) = y 1) :
    k0_pay3 (iblk m c 3 t) (iblk m c 4 t) y = embedding (m ((c : Thread nD τ).loc main_arg3)) (m ((c : Thread nD τ).loc main_arg4)) (j 0) (j 1) := by
  unfold embedding
  pointwise [k0_pay3]; blk_point [iblk, V, idx t]

theorem output_pay (x : Vec Ideal S512x1024 .f32) (g : Vec Ideal S1x1024 .f32) (w : Vec Ideal S1x1024x1024 .bf16)
    (p : Vec Ideal S512x256 .f32) (v : Vec Ideal S256x1024 .bf16) (y : S512x1024.Idx) :
    k0_pay4 x g w p v y = x y + Ideal.logistic (k0_pay2 x g w y) * k0_pay3 p v y := by
  unfold k0_pay4
  generalize k0_pay2 x g w = a
  generalize k0_pay3 p v = b
  pointwise

theorem final_output (c : Dev nD) : (dats m 0 c).arrAt 5 (cfgs 0).N = output (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  have h0 : ((win0_5.blk t).view.emb y 0 : ℕ) = t.val * 512 + y 0 := by blk_simp [idx t]
  have h1 : ((win0_5.blk t).view.emb y 1 : ℕ) = y 1 := by blk_simp [idx t]
  have hx : iblk m c 0 t y = (m ((c : Thread nD τ).loc main_arg0)) ((win0_5.blk t).view.emb y) := by blk_point [iblk, V, idx t]
  rw [output_pay, gate_point m c t y _ h0 h1, embedding_point m c t y _ h0 h1, hx]
  rfl

theorem final_rows (c : Dev nD) : (dats m 0 c).arrAt 6 (cfgs 0).N = rows (m ((c : Thread nD τ).loc main_arg0)) (m ((c : Thread nD τ).loc main_arg1)) := by
  refine (dats m 0 c).arrAt_eq_of_covers 6 _ (by decide +kernel) fun t hf y => ?_
  blk_simp; rw [after0_6]; frame_out
  exact rows_point m c t y _ (by blk_simp [idx t]) (by blk_simp [idx t])

theorem final_gates (c : Dev nD) : (dats m 0 c).arrAt 7 (cfgs 0).N = gates (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact gate_point m c t y _ (by blk_simp [idx t]) (by blk_simp [idx t])

theorem final_embeddings (c : Dev nD) : (dats m 0 c).arrAt 8 (cfgs 0).N = embeddings (m ((c : Thread nD τ).loc main_arg3)) (m ((c : Thread nD τ).loc main_arg4)) := by
  refine (dats m 0 c).arrAt_eq_of_covers 8 _ (by decide +kernel) fun t hf y => ?_
  blk_simp; rw [after0_8]; frame_out
  exact embedding_point m c t y _ (by blk_simp [idx t]) (by blk_simp [idx t])

theorem algebraic : Cert.algebraic_PleFwdIdeal_PleFwdRefIdeal := by
  pair_intro
  · run_from Cert.PleFwdIdeal.Gen.run_main m g
  · run_from Cert.PleFwdRefIdeal.Value.run m' g'
    · rw [final_output]
      funext i
      unfold output gate embedding normed Cert.Norm.inv Cert.Norm.mean_square Ideal.logistic W E
      pointwise
    · rw [final_rows]
      funext i
      unfold rows normed Cert.Norm.inv Cert.Norm.mean_square W E
      pointwise
    · rw [final_gates]
      funext i
      unfold gates gate normed Cert.Norm.inv Cert.Norm.mean_square W E
      pointwise
    · rw [final_embeddings]
      funext i
      unfold embeddings embedding
      pointwise

end Cert.PleFwdIdeal.Value

end
-- ==== Proof.AttnFwdRing.lean ====
/- The names of the attention's transfers. The weights of a pair of heads are saved in HBM as 144 blocks of 2×1024×256, all pairs' blocks in a row
   numbered 0 … 1151; a grid point (pair `i 0`, query tile `i 1`) writes the `4 * (i 1 + 1)` blocks from `first i` on, the last one first, each out
   of one of three slots of VMEM with a semaphore of its own. Here every offset the body computes is put in closed form, the blocks, slots and
   semaphores get names, and the resources a transfer moves are written down. -/
module

public import proofs.«01_k».proof.Proof.Gen.AttnFwdIdeal.Launch
public import proofs.«01_k».proof.Proof.Gen.AttnFwdIdeal.Skeleton
public import proofs.«01_k».proof.Proof.Gen.AttnFwdIdeal.Loops
public import proofs.«01_k».proof.Proof.Gen.AttnFwdIdeal.Points
public import proofs.«01_k».proof.Proof.Gen.AttnFwdIdeal.Frame
public import Idealize.ShloMosaic.Lib.Pipeline.KitQuiescent
public import Idealize.ShloMosaic.Lib.Pipeline.FrameValue
public import Idealize.ShloMosaic.Lib.Ring
public import Idealize.ShloMosaic.Lib.Affine
public import Idealize.ShloMosaic.Lib.Tactic

@[expose] public section

noncomputable section

namespace Cert.AttnFwdIdeal.Hand

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Closed forms -/

/-- The first block of a grid point, -/
def first (i : grid0.Coords) : ℕ := 144 * (i 0).val + 2 * (i 1).val * ((i 1).val + 1)
/-- and its last, the one written first. -/
def top (i : grid0.Coords) : ℕ := first i + 4 * (i 1).val + 3

theorem top_lt (i : grid0.Coords) : top i < 1152 := by
  revert i; decide +kernel

/-- The block a grid point writes as its `n`-th. -/
def nth (i : grid0.Coords) (n : ℕ) : Fin 1152 := Ring.bk 1152 (top i - n)

def grpOff (b : Fin 1152) : Fin 5 → ℕ := ![b.val / 144, b.val % 144, 0, 0, 0]
theorem grpOff_inb (b : Fin 1152) : ∀ a, grpOff b a + S1x1x2x1024x256.size a ≤ S8x144x2x1024x256.size a := by
  have h := b.isLt
  intro a; fin_cases a <;> simp [grpOff, S1x1x2x1024x256, S8x144x2x1024x256] <;> omega
def slotOff (s : Fin 3) : Fin 4 → ℕ := ![s.val, 0, 0, 0]
theorem slotOff_inb (s : Fin 3) : ∀ a, slotOff s a + S1x2x1024x256.size a ≤ S3x2x1024x256.size a := by
  have h := s.isLt
  intro a; fin_cases a <;> simp [slotOff, S1x2x1024x256, S3x2x1024x256] <;> omega
def semOff (s : Fin 3) : Fin 1 → ℕ := ![s.val]
theorem semOff_inb (s : Fin 3) : ∀ a, semOff s a + S1.size a ≤ S3.size a := by
  have h := s.isLt
  intro a; fin_cases a; simp [semOff, S1, S3]; omega

theorem trips_eq : ∀ i : grid0.Coords, (k0_t1_loop i).trips = 4 * (i 1).val := by decide +kernel
theorem trips2_eq : ∀ i : grid0.Coords, (k0_t2_loop i).trips = 0 := by decide +kernel

theorem cond1 : ∀ (i : grid0.Coords) (k : Fin (k0_t1_loop i).trips), k0_cond1 i k = 1#1 := by decide +kernel
theorem cond3 : ∀ i : grid0.Coords, k0_cond3 i = 1#1 := by decide +kernel
theorem cond4 : ∀ i : grid0.Coords, k0_cond4 i = 1#1 := by decide +kernel
theorem cond5 : ∀ i : grid0.Coords, k0_cond5 i = 1#1 := by decide +kernel

theorem off3_3 : ∀ i : grid0.Coords, k0_off3 i 3#32 = grpOff (nth i 0) := by decide +kernel
theorem off3_2 : ∀ i : grid0.Coords, k0_off3 i 2#32 = grpOff (nth i 1) := by decide +kernel
theorem off3_1 : ∀ i : grid0.Coords, k0_off3 i 1#32 = grpOff (nth i 2) := by decide +kernel
theorem off3_0 : ∀ i : grid0.Coords, k0_off3 i 0#32 = grpOff (nth i 3) := by decide +kernel
theorem off6_eq : ∀ (i : grid0.Coords) (k : Fin (k0_t1_loop i).trips), k0_off6 i k = semOff (Ring.sl 3 (k.val + 1)) := by decide +kernel
theorem off7_eq : ∀ (i : grid0.Coords) (k : Fin (k0_t1_loop i).trips), k0_off7 i k = grpOff (nth i (k.val + 4)) := by decide +kernel
theorem off8_eq : ∀ (i : grid0.Coords) (k : Fin (k0_t1_loop i).trips), k0_off8 i k = slotOff (Ring.sl 3 (k.val + 1)) := by decide +kernel
theorem off9_eq : ∀ (i : grid0.Coords) (k : Fin (k0_t1_loop i).trips), k0_off9 i k = ![(Ring.sl 3 (k.val + 1)).val, 0, 0, 0] := by decide +kernel
theorem off10_eq : ∀ (i : grid0.Coords) (k : Fin (k0_t1_loop i).trips), k0_off10 i k = ![(Ring.sl 3 (k.val + 1)).val, 1, 0, 0] := by decide +kernel
theorem off11_eq : ∀ (i : grid0.Coords) (k : Fin (k0_t1_loop i).trips), k0_off11 i k = semOff (Ring.sl 3 (k.val + 1)) := by decide +kernel
theorem off12_eq : ∀ (i : grid0.Coords) (k : Fin (k0_t1_loop i).trips), k0_off12 i k = grpOff (nth i (k.val + 4)) := by decide +kernel
theorem off13_eq : ∀ (i : grid0.Coords) (k : Fin (k0_t1_loop i).trips), k0_off13 i k = slotOff (Ring.sl 3 (k.val + 1)) := by decide +kernel
theorem off24_eq : ∀ i : grid0.Coords, k0_off24 i = grpOff (Ring.bk 1152 (first i)) := by decide +kernel
theorem off25_eq : ∀ i : grid0.Coords, k0_off25 i = grpOff (Ring.bk 1152 (first i)) := by decide +kernel
theorem off26_eq : ∀ i : grid0.Coords, k0_off26 i = grpOff (Ring.bk 1152 (first i)) := by decide +kernel

instance (s : Fin 3) : ClosedOff (slotOff s) := ⟨![s.val, 0, 0, 0], rfl⟩
instance (i : grid0.Coords) (k : Fin (k0_t1_loop i).trips) : ClosedOff (k0_off9 i k) := ⟨![(Ring.sl 3 (k.val + 1)).val, 0, 0, 0], off9_eq i k⟩
instance (i : grid0.Coords) (k : Fin (k0_t1_loop i).trips) : ClosedOff (k0_off10 i k) := ⟨![(Ring.sl 3 (k.val + 1)).val, 1, 0, 0], off10_eq i k⟩

/-! ## The blocks, the slots, the semaphores -/

abbrev aM : Memref sig .tc .hbm S8x144x2x1024x256 .bf16 := Memref.whole main_v3_1
abbrev bufM : Memref sig .tc .vmem S3x2x1024x256 .bf16 := Memref.whole cc0_scratch0

def grp (b : Fin 1152) : Memref sig .tc .hbm S2x1024x256 .bf16 :=
  (aM.slice (Rect.unit (s := S8x144x2x1024x256) (grpOff b) S1x1x2x1024x256.size (grpOff_inb b)) (fun _ => rfl)).squeeze S2x1024x256 squeezes_S1x1x2x1024x256_S2x1024x256
def rslot (s : Fin 3) : Memref sig .tc .vmem S2x1024x256 .bf16 :=
  (bufM.slice (Rect.unit (s := S3x2x1024x256) (slotOff s) S1x2x1024x256.size (slotOff_inb s)) (fun _ => rfl)).squeeze S2x1024x256 squeezes_S1x2x1024x256_S2x1024x256
def csm (s : Fin 3) : DmaSems sig S_ := (cc0_scratch1.slice (Rect.unit (s := S3) (semOff s) S1.size (semOff_inb s))).squeeze S_ squeezes_S1_S_

theorem csm_congr {s : Fin 3} {off : Fin 1 → ℕ} (e : off = semOff s) (hh : ∀ a, off a + S1.size a ≤ S3.size a) :
    (cc0_scratch1.slice (Rect.unit (s := S3) off S1.size hh)).squeeze S_ squeezes_S1_S_ = csm s :=
  congrArg (fun A : DmaSems sig S1 => A.squeeze S_ squeezes_S1_S_) (SemArray.slice_unit_congr _ e _ _)
theorem rslot_congr {s : Fin 3} {off : Fin 4 → ℕ} (e : off = slotOff s) (hh : ∀ a, off a + S1x2x1024x256.size a ≤ S3x2x1024x256.size a)
    (hs : ∀ a, (Rect.unit (s := S3x2x1024x256) off S1x2x1024x256.size hh).stride a = 1) :
    (bufM.slice (Rect.unit (s := S3x2x1024x256) off S1x2x1024x256.size hh) hs).squeeze S2x1024x256 squeezes_S1x2x1024x256_S2x1024x256 = rslot s :=
  congrArg (fun M : Memref sig .tc .vmem S1x2x1024x256 .bf16 => M.squeeze S2x1024x256 squeezes_S1x2x1024x256_S2x1024x256) (Memref.slice_unit_congr _ e _ _ _ _)
theorem grp_congr {b : Fin 1152} {off : Fin 5 → ℕ} (e : off = grpOff b) (hh : ∀ a, off a + S1x1x2x1024x256.size a ≤ S8x144x2x1024x256.size a)
    (hs : ∀ a, (Rect.unit (s := S8x144x2x1024x256) off S1x1x2x1024x256.size hh).stride a = 1) :
    (aM.slice (Rect.unit (s := S8x144x2x1024x256) off S1x1x2x1024x256.size hh) hs).squeeze S2x1024x256 squeezes_S1x1x2x1024x256_S2x1024x256 = grp b :=
  congrArg (fun M : Memref sig .tc .hbm S1x1x2x1024x256 .bf16 => M.squeeze S2x1024x256 squeezes_S1x1x2x1024x256_S2x1024x256) (Memref.slice_unit_congr _ e _ _ _ _)

/-! ## The body's slices under these names -/

@[sl_canon] theorem semL0 (hh) : (cc0_scratch1.slice (Rect.unit (s := S3) ![0] S1.size hh)).squeeze S_ squeezes_S1_S_ = csm (0) := csm_congr (by decide) _
@[sl_canon] theorem slotL0 (hh hs) : (bufM.slice (Rect.unit (s := S3x2x1024x256) (![0, 0, 0, 0]) S1x2x1024x256.size hh) hs).squeeze S2x1024x256 squeezes_S1x2x1024x256_S2x1024x256 = rslot (0) := rslot_congr (by decide) _ _
@[sl_canon] theorem semL1 (hh) : (cc0_scratch1.slice (Rect.unit (s := S3) ![1] S1.size hh)).squeeze S_ squeezes_S1_S_ = csm (1) := csm_congr (by decide) _
@[sl_canon] theorem slotL1 (hh hs) : (bufM.slice (Rect.unit (s := S3x2x1024x256) (![1, 0, 0, 0]) S1x2x1024x256.size hh) hs).squeeze S2x1024x256 squeezes_S1x2x1024x256_S2x1024x256 = rslot (1) := rslot_congr (by decide) _ _
@[sl_canon] theorem semL2 (hh) : (cc0_scratch1.slice (Rect.unit (s := S3) ![2] S1.size hh)).squeeze S_ squeezes_S1_S_ = csm (2) := csm_congr (by decide) _
@[sl_canon] theorem slotL2 (hh hs) : (bufM.slice (Rect.unit (s := S3x2x1024x256) (![2, 0, 0, 0]) S1x2x1024x256.size hh) hs).squeeze S2x1024x256 squeezes_S1x2x1024x256_S2x1024x256 = rslot (2) := rslot_congr (by decide) _ _
@[sl_canon] theorem grpD3 (i : grid0.Coords) (hh hs) : (aM.slice (Rect.unit (s := S8x144x2x1024x256) (k0_off3 i 3#32) S1x1x2x1024x256.size hh) hs).squeeze S2x1024x256 squeezes_S1x1x2x1024x256_S2x1024x256 = grp (nth i 0) := grp_congr (off3_3 i) _ _
@[sl_canon] theorem grpD2 (i : grid0.Coords) (hh hs) : (aM.slice (Rect.unit (s := S8x144x2x1024x256) (k0_off3 i 2#32) S1x1x2x1024x256.size hh) hs).squeeze S2x1024x256 squeezes_S1x1x2x1024x256_S2x1024x256 = grp (nth i 1) := grp_congr (off3_2 i) _ _
@[sl_canon] theorem grpD1 (i : grid0.Coords) (hh hs) : (aM.slice (Rect.unit (s := S8x144x2x1024x256) (k0_off3 i 1#32) S1x1x2x1024x256.size hh) hs).squeeze S2x1024x256 squeezes_S1x1x2x1024x256_S2x1024x256 = grp (nth i 2) := grp_congr (off3_1 i) _ _
@[sl_canon] theorem grpD0 (i : grid0.Coords) (hh hs) : (aM.slice (Rect.unit (s := S8x144x2x1024x256) (k0_off3 i 0#32) S1x1x2x1024x256.size hh) hs).squeeze S2x1024x256 squeezes_S1x1x2x1024x256_S2x1024x256 = grp (nth i 3) := grp_congr (off3_0 i) _ _
@[sl_canon] theorem semW (i : grid0.Coords) (k : Fin (k0_t1_loop i).trips) (hh) : (cc0_scratch1.slice (Rect.unit (s := S3) (k0_off6 i k) S1.size hh)).squeeze S_ squeezes_S1_S_ = csm (Ring.sl 3 (k.val + 1)) := csm_congr (off6_eq i k) _
@[sl_canon] theorem grpW (i : grid0.Coords) (k : Fin (k0_t1_loop i).trips) (hh hs) : (aM.slice (Rect.unit (s := S8x144x2x1024x256) (k0_off7 i k) S1x1x2x1024x256.size hh) hs).squeeze S2x1024x256 squeezes_S1x1x2x1024x256_S2x1024x256 = grp (nth i (k.val + 4)) := grp_congr (off7_eq i k) _ _
@[sl_canon] theorem slotW (i : grid0.Coords) (k : Fin (k0_t1_loop i).trips) (hh hs) : (bufM.slice (Rect.unit (s := S3x2x1024x256) (k0_off8 i k) S1x2x1024x256.size hh) hs).squeeze S2x1024x256 squeezes_S1x2x1024x256_S2x1024x256 = rslot (Ring.sl 3 (k.val + 1)) := rslot_congr (off8_eq i k) _ _
@[sl_canon] theorem semS (i : grid0.Coords) (k : Fin (k0_t1_loop i).trips) (hh) : (cc0_scratch1.slice (Rect.unit (s := S3) (k0_off11 i k) S1.size hh)).squeeze S_ squeezes_S1_S_ = csm (Ring.sl 3 (k.val + 1)) := csm_congr (off11_eq i k) _
@[sl_canon] theorem grpS (i : grid0.Coords) (k : Fin (k0_t1_loop i).trips) (hh hs) : (aM.slice (Rect.unit (s := S8x144x2x1024x256) (k0_off12 i k) S1x1x2x1024x256.size hh) hs).squeeze S2x1024x256 squeezes_S1x1x2x1024x256_S2x1024x256 = grp (nth i (k.val + 4)) := grp_congr (off12_eq i k) _ _
@[sl_canon] theorem slotS (i : grid0.Coords) (k : Fin (k0_t1_loop i).trips) (hh hs) : (bufM.slice (Rect.unit (s := S3x2x1024x256) (k0_off13 i k) S1x2x1024x256.size hh) hs).squeeze S2x1024x256 squeezes_S1x2x1024x256_S2x1024x256 = rslot (Ring.sl 3 (k.val + 1)) := rslot_congr (off13_eq i k) _ _
@[sl_canon] theorem grpE24 (i : grid0.Coords) (hh hs) : (aM.slice (Rect.unit (s := S8x144x2x1024x256) (k0_off24 i) S1x1x2x1024x256.size hh) hs).squeeze S2x1024x256 squeezes_S1x1x2x1024x256_S2x1024x256 = grp (Ring.bk 1152 (first i)) := grp_congr (off24_eq i) _ _
@[sl_canon] theorem grpE25 (i : grid0.Coords) (hh hs) : (aM.slice (Rect.unit (s := S8x144x2x1024x256) (k0_off25 i) S1x1x2x1024x256.size hh) hs).squeeze S2x1024x256 squeezes_S1x1x2x1024x256_S2x1024x256 = grp (Ring.bk 1152 (first i)) := grp_congr (off25_eq i) _ _
@[sl_canon] theorem grpE26 (i : grid0.Coords) (hh hs) : (aM.slice (Rect.unit (s := S8x144x2x1024x256) (k0_off26 i) S1x1x2x1024x256.size hh) hs).squeeze S2x1024x256 squeezes_S1x1x2x1024x256_S2x1024x256 = grp (Ring.bk 1152 (first i)) := grp_congr (off26_eq i) _ _

/-! ## The pieces: a block in HBM, a slot held, a slot's semaphore, a slot's copy in flight -/

variable {F : FTy → Type} [FloatOps F]

local notation "𝕄" => MT nD τ sig Unit (Elt F) ℕ (Pipeline.UD sig nD τ) ℕ
abbrev 𝒱₀ : Variants := Variants.none

/-- The weights of one key block for a pair of heads. -/
abbrev Tile (F : FTy → Type) : Type := S2x1024x256.Idx → Elt F .bf16

section Pieces
variable (c : Dev nD) (XA : Buf (Elt F) (aM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
/-- A block in HBM, at the contents `C` gives it. -/
abbrev homeP (C : Fin 1152 → Buf (Elt F) (aM.view.loc (c : Thread nD τ))) (b : Fin 1152) : sProp 𝕄 :=
  (grp b).view.loc (c : Thread nD τ) ↦[(grp b).view.set]{fullShare} C b
/-- A block with the weights `T` written over it. -/
def stored (b : Fin 1152) (T : Tile F) : Buf (Elt F) (aM.view.loc (c : Thread nD τ)) :=
  (grp b).view.writes (Elt F) XA [⟨Rect.whole S2x1024x256, T⟩]
/-- A slot's copy of the weights `T` in flight to a block. -/
def flightP (s : Fin 3) (b : Fin 1152) (T : Tile F) : sProp 𝕄 :=
  iprop(∃ g, Transfers.Flight countersEmb (c : Thread nD τ) (SemLoc.dma (csm s).sem) () 32768
    iprop(((grp b).view.loc (c : Thread nD τ) ↦[(grp b).view.set]{fullShare} stored c XA b T) ∗ slotP c s g))

/-- The contents of the blocks when the first `n` of the point `i` have landed. -/
def landed (i : grid0.Coords) (C : Fin 1152 → Buf (Elt F) (aM.view.loc (c : Thread nD τ))) (T : ℕ → Tile F) (n : ℕ) (b : Fin 1152) :
    Buf (Elt F) (aM.view.loc (c : Thread nD τ)) :=
  if top i < b.val + n ∧ b.val ≤ top i then stored c XA b (T (top i - b.val)) else C b

end Pieces

end Cert.AttnFwdIdeal.Hand

end
-- ==== Proof.AttnFwdTrip.lean ====
/- One trip of the attention's loop over the key blocks before the diagonal, at a symbolic trip, and the loop by its invariant. -/
module

public import proofs.«01_k».proof.Proof.AttnFwdRing

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the loop carries: for each of the two heads the output so far and what is left to give so far (the sum of the logarithms). -/
abbrev Carry (F : FTy → Type) : Type := FVec F S1024x64 .f32 × FVec F S1024x1 .f32 × FVec F S1024x64 .f32 × FVec F S1024x1 .f32

/-- A buffer held whole at given contents. -/
abbrev heldP (c : Dev nD) {s : Shape} {e : EltTy} (M : Memref sig .tc .vmem s e) (f : Buf (Elt F) (M.view.loc (c : Thread nD τ))) : sProp 𝕄 :=
  M.view.loc (c : Thread nD τ) ↦[M.view.set]{fullShare} f

/-- The stores of a trip: the weights of the pair's two heads. -/
def tripPieces (i : grid0.Coords) (k : Fin (k0_t1_loop i).trips) (p0 p1 : FVec F S1x1x1024x256 .bf16) : List (View.Piece (Elt F) S3x2x1024x256 .bf16) :=
  [⟨Rect.unit (s := S3x2x1024x256) (k0_off10 i k) S1x1x1024x256.size (k0_off10_inb i k), p1⟩,
    ⟨Rect.unit (s := S3x2x1024x256) (k0_off9 i k) S1x1x1024x256.size (k0_off9_inb i k), p0⟩]

/-- The weights that a list of stores leaves in a slot. -/
def tileOf (s : Fin 3) (L : List (View.Piece (Elt F) S3x2x1024x256 .bf16)) : Tile F :=
  (rslot s).view.read (Elt F) (bufM.view.writes (Elt F) bufM.view.junk L)

/-- The place in the ring of a place in a slot. -/
theorem rslot_read (s : Fin 3) (f : S3x2x1024x256.Idx → Elt F .bf16) (x : S2x1024x256.Idx) :
    (rslot s).view.read (Elt F) f x = bufM.view.read (Elt F) f ((Rect.unit (s := S3x2x1024x256) (slotOff s) S1x2x1024x256.size (slotOff_inb s)).emb
        (Shape.reshapeEquiv squeezes_S1x2x1024x256_S2x1024x256.numel_eq x)) := rfl

theorem slot_emb_zero (s : Fin 3) (z : S1x2x1024x256.Idx) : (((Rect.unit (s := S3x2x1024x256) (slotOff s) S1x2x1024x256.size (slotOff_inb s)).emb z) 0).val = s.val := by
  have h : (z 0).val < 1 := (z 0).isLt
  show s.val + 1 * (z 0).val = s.val
  omega

/-- They do not depend on what lay there before, where the stores cover the slot. -/
theorem read_tileOf (s : Fin 3) (L : List (View.Piece (Elt F) S3x2x1024x256 .bf16))
    (h : ∀ y : S3x2x1024x256.Idx, (y 0).val = s.val → ∃ pc ∈ L, y ∈ pc.1.set) (g : S3x2x1024x256.Idx → Elt F .bf16) :
    (rslot s).view.read (Elt F) (bufM.view.writes (Elt F) g L) = tileOf s L := by
  funext x
  rw [tileOf, rslot_read, rslot_read]
  exact View.read_writes_apply_eq bufM.view g bufM.view bufM.view.junk _ L (h _ (slot_emb_zero s _))

theorem tripPieces_cover (i : grid0.Coords) (k : Fin (k0_t1_loop i).trips) (p0 p1 : FVec F S1x1x1024x256 .bf16) :
    ∀ y : S3x2x1024x256.Idx, (y 0).val = (Ring.sl 3 (k.val + 1)).val → ∃ pc ∈ tripPieces i k p0 p1, y ∈ pc.1.set := by
  intro y hy
  have h1 : (y 1).val < 2 := (y 1).isLt
  have h2 : (y 2).val < 1024 := (y 2).isLt
  have h3 : (y 3).val < 256 := (y 3).isLt
  by_cases hh : (y 1).val = 1
  · refine ⟨_, List.mem_cons_self, ?_⟩
    rw [Rect.mem_set_unit, off10_eq i k]
    intro a; fin_cases a
    · show (Ring.sl 3 (k.val + 1)).val ≤ (y 0).val ∧ (y 0).val < (Ring.sl 3 (k.val + 1)).val + 1; omega
    · show 1 ≤ (y 1).val ∧ (y 1).val < 1 + 1; omega
    · show 0 ≤ (y 2).val ∧ (y 2).val < 0 + 1024; omega
    · show 0 ≤ (y 3).val ∧ (y 3).val < 0 + 256; omega
  · refine ⟨_, List.mem_cons_of_mem _ List.mem_cons_self, ?_⟩
    rw [Rect.mem_set_unit, off9_eq i k]
    intro a; fin_cases a
    · show (Ring.sl 3 (k.val + 1)).val ≤ (y 0).val ∧ (y 0).val < (Ring.sl 3 (k.val + 1)).val + 1; omega
    · show 0 ≤ (y 1).val ∧ (y 1).val < 0 + 1; omega
    · show 0 ≤ (y 2).val ∧ (y 2).val < 0 + 1024; omega
    · show 0 ≤ (y 3).val ∧ (y 3).val < 0 + 256; omega

section Trip

variable (c : Dev nD) (XA : Buf (Elt F) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (arg1 : BitVec 32) (v5 : FVec F S256x256 .bf16) (v7 : FVec F S1024x64 .bf16) (v9 : FVec F S1024x64 .bf16) (v11 : BitVec 32)
  (v401 : FVec F S1024x64 .f32) (v404 : FVec F S1024x1 .f32) (v408 : FVec F S1024x64 .f32) (v411 : FVec F S1024x1 .f32) (v413 : BitVec 32)
  (v471 : FVec F S1024x1 .f32) (v474 : FVec F S1024x1 .f32) (v480 : FVec F S1024x64 .f32) (v484 : FVec F S1024x64 .f32) (v519 : BitVec 32)
  (c2 : BitVec 32) (v520 : BitVec 32) (v522 : BitVec 32) (v523 : BitVec 1)
  (f3 : Buf (Elt F) (arg3.view.loc (c : Thread nD τ))) (f4 : Buf (Elt F) (arg4.view.loc (c : Thread nD τ)))

/-- The resources before trip `k`: the keys' and values' buffers, what is owed, the blocks that are not out, at contents `D`, and the three copies
    in flight, the `n`-th block of the point being given the weights `T n`. -/
def resAt (D : Fin 1152 → Buf (Elt F) (aM.view.loc (c : Thread nD τ))) (T : ℕ → Tile F) (k : ℕ) : sProp 𝕄 :=
  iprop(heldP c arg3 f3 ∗ heldP c arg4 f4
    ∗ (∃ W, owes (c : Thread nD τ) 0 W)
    ∗ bigSep (Ring.homeSet 3 (top i - (k + 3))) (homeP c D)
    ∗ flightP c XA (Ring.sl 3 (k + 1)) (nth i (k + 1)) (T (k + 1))
    ∗ flightP c XA (Ring.sl 3 (k + 2)) (nth i (k + 2)) (T (k + 2))
    ∗ flightP c XA (Ring.sl 3 k) (nth i (k + 3)) (T (k + 3)))

/-- The contents of the blocks when the block after the `k`-th has landed too. -/
def land (D : Fin 1152 → Buf (Elt F) (aM.view.loc (c : Thread nD τ))) (T : ℕ → Tile F) (k : ℕ) : Fin 1152 → Buf (Elt F) (aM.view.loc (c : Thread nD τ)) :=
  Function.update D (nth i (k + 1)) (stored c XA (nth i (k + 1)) (T (k + 1)))

/-- The trip on the kernel's own buffers. -/
abbrev tripG (k : Fin (k0_t1_loop i).trips) (acc : Carry F) : Prog (TpuEff nD τ sig (Elt F) Λ₀ .tc) (Carry F) :=
  k0_t1_body (F := F) i arg2 harg2 arg3 harg3 arg4 harg4 arg5 harg5 aM (Memref.isWhole_whole _) bufM (Memref.isWhole_whole _)
    cc0_scratch1 arg1 v5 v7 v9 v11 v401 v404 v408 v411 v413 v471 v474 v480 v484 v519 c2 v520 v522 v523 k acc

variable (D : Fin 1152 → Buf (Elt F) (aM.view.loc (c : Thread nD τ)))

/-- The blocks that are not out before trip `k`: the one that goes out in it beside the rest, -/
theorem homes_here (k : ℕ) (hk : k + 4 ≤ top i) (hD : D (nth i (k + 4)) = XA) :
    bigSep (Ring.homeSet 3 (top i - (k + 3))) (homeP c D)
      = iprop(homeP c (fun _ => XA) (nth i (k + 4)) ∗ bigSep ((Ring.homeSet 3 (top i - (k + 4))).erase (nth i (k + 1))) (homeP c D)) := by
  have ht := top_lt i
  have e : top i - (k + 3) = top i - (k + 4) + 1 := by omega
  have e' : nth i (k + 1) = Ring.bk 1152 (top i - (k + 4) + 3) := by rw [nth]; congr 1; omega
  rw [e, Ring.homeSet_succ 3 _ (by omega), bigSep_insert (Ring.bk_not_mem_erase 3 _ (by omega) (by decide)), e']
  congr 1
  exact congrArg (fun f => homeP c (fun _ => f) (nth i (k + 4))) hD

/-- and after it: the one just landed beside that rest. -/
theorem homes_next (T : ℕ → Tile F) (k : ℕ) (hk : k + 4 ≤ top i) :
    bigSep (Ring.homeSet 3 (top i - (k + 4))) (homeP c (land c XA i D T k))
      = iprop(homeP c (fun _ => stored c XA (nth i (k + 1)) (T (k + 1))) (nth i (k + 1))
        ∗ bigSep ((Ring.homeSet 3 (top i - (k + 4))).erase (nth i (k + 1))) (homeP c D)) := by
  have ht := top_lt i
  have e' : nth i (k + 1) = Ring.bk 1152 (top i - (k + 4) + 3) := by rw [nth]; congr 1; omega
  have e2 : bigSep ((Ring.homeSet 3 (top i - (k + 4))).erase (nth i (k + 1))) (homeP c D)
      = bigSep ((Ring.homeSet 3 (top i - (k + 4))).erase (nth i (k + 1))) (homeP c (land c XA i D T k)) :=
    bigSep_congr fun b hb => congrArg (fun f => homeP c (fun _ => f) b) (Function.update_of_ne (Finset.ne_of_mem_erase hb) _ _).symm
  have e1 : homeP c (land c XA i D T k) (nth i (k + 1)) = homeP c (fun _ => stored c XA (nth i (k + 1)) (T (k + 1))) (nth i (k + 1)) :=
    congrArg (fun f => homeP c (fun _ => f) (nth i (k + 1))) (Function.update_self _ _ _)
  rw [e2, ← e1]
  conv_lhs => rw [Ring.homeSet_out 3 _ (by omega), bigSep_insert (Ring.bkL_not_mem_erase 3 _), ← e']
  rfl

/-- A copy just started is a copy in flight of the weights that lie in its slot. -/
theorem flight_fold (s : Fin 3) (b : Fin 1152) (T : Tile F) (g : Buf (Elt F) ((rslot s).view.loc (c : Thread nD τ)))
    (e : (rslot s).view.read (Elt F) g = T) :
    (Transfers.Flight countersEmb (c : Thread nD τ) (SemLoc.dma (csm s).sem) () 32768
      iprop(((grp b).view.loc (c : Thread nD τ) ↦[(grp b).view.set]{fullShare}
          (grp b).view.writes (Elt F) XA [⟨Rect.whole S2x1024x256, ReadAs.same.apply ((rslot s).view.read (Elt F) g)⟩]) ∗ slotP c s g) : sProp 𝕄)
      ⊢ flightP c XA s b T := by
  subst e
  unfold flightP stored
  iintro H
  iexists g
  iexact H

/-- The same, the slot's weights being two stores. -/
theorem flight_two (s : Fin 3) (b : Fin 1152) (T : Tile F) (g : Buf (Elt F) ((rslot s).view.loc (c : Thread nD τ))) {o1 o0 : Fin 4 → ℕ}
    (h1 : ∀ a : Fin 4, o1 a + S1x1x1024x256.size a ≤ S3x2x1024x256.size a) (h0 : ∀ a : Fin 4, o0 a + S1x1x1024x256.size a ≤ S3x2x1024x256.size a)
    (p1 p0 : FVec F S1x1x1024x256 .bf16)
    (e : (rslot s).view.read (Elt F) (bufM.view.writes (Elt F) g [⟨Rect.unit (s := S3x2x1024x256) o1 S1x1x1024x256.size h1, p1⟩, ⟨Rect.unit (s := S3x2x1024x256) o0 S1x1x1024x256.size h0, p0⟩]) = T) :
    (Transfers.Flight countersEmb (c : Thread nD τ) (SemLoc.dma (csm s).sem) () 32768
      iprop(((grp b).view.loc (c : Thread nD τ) ↦[(grp b).view.set]{fullShare}
          (grp b).view.writes (Elt F) XA [⟨Rect.whole S2x1024x256, ReadAs.same.apply ((rslot s).view.read (Elt F)
            (View.write (Elt F) (bufM.access (Rect.unit (s := S3x2x1024x256) o1 S1x1x1024x256.size h1))
              (View.write (Elt F) (bufM.access (Rect.unit (s := S3x2x1024x256) o0 S1x1x1024x256.size h0)) g p0 Finset.univ) p1 Finset.univ))⟩])
        ∗ slotP c s (View.write (Elt F) (bufM.access (Rect.unit (s := S3x2x1024x256) o1 S1x1x1024x256.size h1))
            (View.write (Elt F) (bufM.access (Rect.unit (s := S3x2x1024x256) o0 S1x1x1024x256.size h0)) g p0 Finset.univ) p1 Finset.univ)) : sProp 𝕄)
      ⊢ flightP c XA s b T :=
  flight_fold c XA s b T _ e

/-- A copy in flight, its slot's contents named. -/
theorem flight_out (s : Fin 3) (b : Fin 1152) (T : Tile F) :
    flightP c XA s b T ⊢ (iprop(∃ g, Transfers.Flight countersEmb (c : Thread nD τ) (SemLoc.dma (csm s).sem) () 32768
      iprop(homeP c (fun b => stored c XA b T) b ∗ slotP c s g)) : sProp 𝕄) := by
  unfold flightP; exact .rfl

set_option maxHeartbeats 4000000 in
set_option backward.proofsInPublic true in
/-- One trip: the block written three trips before has landed, the weights of key block `k + 4` are stored in its slot and sent; what the trip
    yields and what it stores are found by the run. -/
def tripRun (k : Fin (k0_t1_loop i).trips) (a10 : FVec F S1024x64 .f32) (a11 : FVec F S1024x1 .f32) (a12 : FVec F S1024x64 .f32) (a13 : FVec F S1024x1 .f32) :
    Σ' (acc' : Carry F) (p0 : FVec F S1x1x1024x256 .bf16), { p1 : FVec F S1x1x1024x256 .bf16 // ∀ T : ℕ → Tile F, T (k.val + 4) = tileOf (Ring.sl 3 (k.val + 1)) (tripPieces i k p0 p1) →
      ∀ D, D (nth i (k.val + 4)) = XA →
      resAt c XA i arg3 arg4 f3 f4 D T k
        ⊢ wp frame (wpE (defs₀ (F := F)) 𝒱₀ (c : Thread nD τ) none) Set.univ
            (tripG i arg2 harg2 arg3 harg3 arg4 harg4 arg5 harg5 arg1 v5 v7 v9 v11 v401 v404 v408 v411 v413 v471 v474 v480 v484 v519 c2 v520 v522 v523 k (a10, a11, a12, a13))
        (fun r => iprop(⌜r = acc'⌝ ∗ resAt c XA i arg3 arg4 f3 f4 (land c XA i D T k) T (k.val + 1))) } := by
  refine ⟨?acc, ?p0, ⟨?p1, ?run⟩⟩
  case run =>
    intro T hT D hD
    have hk : k.val + 4 ≤ top i := by
      have h2 := k.isLt; have h3 := trips_eq i; unfold top; omega
    have h1 := cond1 i k
    unfold resAt
    rw [show k.val + 1 + 3 = k.val + 4 from rfl, show k.val + 1 + 1 = k.val + 2 from rfl, show k.val + 1 + 2 = k.val + 3 from rfl,
      homes_here c XA i D k.val hk hD, homes_next c XA i D T k.val hk]
    iintro ⟨H3, H4, ⟨%W, HW⟩, ⟨Hg, Hrest⟩, HF1, HF2, HF3⟩
    ihave HF1' := (flight_out c XA _ _ _) $$ HF1
    icases HF1' with ⟨%g1, HF1⟩
    dsimp only [tripG]
    sl_unfold [k0_t1_body]
    sl_exec
    sl_step
    isplitr; · ipureintro; exact rfl
    isplitl [H3]; · iexact H3
    isplitl [H4]; · iexact H4
    isplitl [HW]; · iexists _; iexact HW
    isplitl [HF1_dst Hrest]
    · isplitl [HF1_dst]; · iexact HF1_dst
      iexact Hrest
    isplitl [HF2]; · iexact HF2
    isplitl [HF3]
    · irw [Ring.sl_add]; iexact HF3
    have e0 : ?p0 = k0_pay17 v5 a11 (tripRun.sl.r c i arg3 v7 f3 k) (tripRun.sl.r_2 c i arg3 v7 f3 k) := by exact rfl
    have e1 : ?p1 = k0_pay142 (tripRun.sl.r_7 c i arg3 v5 v9 f3 k a13) := by exact rfl
    delta tripRun.sl.dma8 tripRun.sl.HF1_src_w2 tripRun.sl.HF1_src_w1
    iapply (flight_two c XA (Ring.sl 3 (k.val + 1)) (nth i (k.val + 4)) (T (k.val + 4)) g1 (k0_off10_inb i k) (k0_off9_inb i k)
      (k0_pay142 (tripRun.sl.r_7 c i arg3 v5 v9 f3 k a13)) (k0_pay17 v5 a11 (tripRun.sl.r c i arg3 v7 f3 k) (tripRun.sl.r_2 c i arg3 v7 f3 k))
      ((read_tileOf _ _ (tripPieces_cover i k _ _) g1).trans hT.symm))
    iexact HF1

/-- The carried values before trip `k`, from what they are before the loop. -/
def state (init : Carry F) : ℕ → Carry F
  | 0 => init
  | k + 1 =>
    if h : k < (k0_t1_loop i).trips then
      let s := state init k
      (tripRun c XA i arg2 harg2 arg3 harg3 arg4 harg4 arg5 harg5 arg1 v5 v7 v9 v11 v401 v404 v408 v411 v413 v471 v474 v480 v484 v519 c2 v520 v522 v523 f3 f4 ⟨k, h⟩ s.1 s.2.1 s.2.2.1 s.2.2.2).1
    else state init k

/-- What trip `k` stores. -/
def pieces (init : Carry F) (k : Fin (k0_t1_loop i).trips) : List (View.Piece (Elt F) S3x2x1024x256 .bf16) :=
  tripPieces i k (tripRun c XA i arg2 harg2 arg3 harg3 arg4 harg4 arg5 harg5 arg1 v5 v7 v9 v11 v401 v404 v408 v411 v413 v471 v474 v480 v484 v519 c2 v520 v522 v523 f3 f4 k (state c XA i arg2 harg2 arg3 harg3 arg4 harg4 arg5 harg5 arg1 v5 v7 v9 v11 v401 v404 v408 v411 v413 v471 v474 v480 v484 v519 c2 v520 v522 v523 f3 f4 init k).1 (state c XA i arg2 harg2 arg3 harg3 arg4 harg4 arg5 harg5 arg1 v5 v7 v9 v11 v401 v404 v408 v411 v413 v471 v474 v480 v484 v519 c2 v520 v522 v523 f3 f4 init k).2.1 (state c XA i arg2 harg2 arg3 harg3 arg4 harg4 arg5 harg5 arg1 v5 v7 v9 v11 v401 v404 v408 v411 v413 v471 v474 v480 v484 v519 c2 v520 v522 v523 f3 f4 init k).2.2.1 (state c XA i arg2 harg2 arg3 harg3 arg4 harg4 arg5 harg5 arg1 v5 v7 v9 v11 v401 v404 v408 v411 v413 v471 v474 v480 v484 v519 c2 v520 v522 v523 f3 f4 init k).2.2.2).2.1 (tripRun c XA i arg2 harg2 arg3 harg3 arg4 harg4 arg5 harg5 arg1 v5 v7 v9 v11 v401 v404 v408 v411 v413 v471 v474 v480 v484 v519 c2 v520 v522 v523 f3 f4 k (state c XA i arg2 harg2 arg3 harg3 arg4 harg4 arg5 harg5 arg1 v5 v7 v9 v11 v401 v404 v408 v411 v413 v471 v474 v480 v484 v519 c2 v520 v522 v523 f3 f4 init k).1 (state c XA i arg2 harg2 arg3 harg3 arg4 harg4 arg5 harg5 arg1 v5 v7 v9 v11 v401 v404 v408 v411 v413 v471 v474 v480 v484 v519 c2 v520 v522 v523 f3 f4 init k).2.1 (state c XA i arg2 harg2 arg3 harg3 arg4 harg4 arg5 harg5 arg1 v5 v7 v9 v11 v401 v404 v408 v411 v413 v471 v474 v480 v484 v519 c2 v520 v522 v523 f3 f4 init k).2.2.1 (state c XA i arg2 harg2 arg3 harg3 arg4 harg4 arg5 harg5 arg1 v5 v7 v9 v11 v401 v404 v408 v411 v413 v471 v474 v480 v484 v519 c2 v520 v522 v523 f3 f4 init k).2.2.2).2.2.1

/-- The weights of the point's blocks, those of the first ones given. -/
def tiles (init : Carry F) (T1 T2 T3 : Tile F) : ℕ → Tile F
  | 0 => T1
  | 1 => T1
  | 2 => T2
  | 3 => T3
  | k + 4 => if h : k < (k0_t1_loop i).trips then tileOf (Ring.sl 3 (k + 1)) (pieces c XA i arg2 harg2 arg3 harg3 arg4 harg4 arg5 harg5 arg1 v5 v7 v9 v11 v401 v404 v408 v411 v413 v471 v474 v480 v484 v519 c2 v520 v522 v523 f3 f4 init ⟨k, h⟩) else T1

/-- The contents of the blocks before trip `k`. -/
def conts (init : Carry F) (T1 T2 T3 : Tile F) (D0 : Fin 1152 → Buf (Elt F) (aM.view.loc (c : Thread nD τ))) : ℕ → Fin 1152 → Buf (Elt F) (aM.view.loc (c : Thread nD τ))
  | 0 => D0
  | k + 1 => land c XA i (conts init T1 T2 T3 D0 k) (tiles c XA i arg2 harg2 arg3 harg3 arg4 harg4 arg5 harg5 arg1 v5 v7 v9 v11 v401 v404 v408 v411 v413 v471 v474 v480 v484 v519 c2 v520 v522 v523 f3 f4 init T1 T2 T3) k

theorem state_succ (init : Carry F) (k : Fin (k0_t1_loop i).trips) :
    state c XA i arg2 harg2 arg3 harg3 arg4 harg4 arg5 harg5 arg1 v5 v7 v9 v11 v401 v404 v408 v411 v413 v471 v474 v480 v484 v519 c2 v520 v522 v523 f3 f4 init (k.val + 1) = (tripRun c XA i arg2 harg2 arg3 harg3 arg4 harg4 arg5 harg5 arg1 v5 v7 v9 v11 v401 v404 v408 v411 v413 v471 v474 v480 v484 v519 c2 v520 v522 v523 f3 f4 k (state c XA i arg2 harg2 arg3 harg3 arg4 harg4 arg5 harg5 arg1 v5 v7 v9 v11 v401 v404 v408 v411 v413 v471 v474 v480 v484 v519 c2 v520 v522 v523 f3 f4 init k).1 (state c XA i arg2 harg2 arg3 harg3 arg4 harg4 arg5 harg5 arg1 v5 v7 v9 v11 v401 v404 v408 v411 v413 v471 v474 v480 v484 v519 c2 v520 v522 v523 f3 f4 init k).2.1 (state c XA i arg2 harg2 arg3 harg3 arg4 harg4 arg5 harg5 arg1 v5 v7 v9 v11 v401 v404 v408 v411 v413 v471 v474 v480 v484 v519 c2 v520 v522 v523 f3 f4 init k).2.2.1 (state c XA i arg2 harg2 arg3 harg3 arg4 harg4 arg5 harg5 arg1 v5 v7 v9 v11 v401 v404 v408 v411 v413 v471 v474 v480 v484 v519 c2 v520 v522 v523 f3 f4 init k).2.2.2).1 := by
  rw [state, dif_pos k.isLt]

theorem tiles_trip (init : Carry F) (T1 T2 T3 : Tile F) (k : Fin (k0_t1_loop i).trips) :
    tiles c XA i arg2 harg2 arg3 harg3 arg4 harg4 arg5 harg5 arg1 v5 v7 v9 v11 v401 v404 v408 v411 v413 v471 v474 v480 v484 v519 c2 v520 v522 v523 f3 f4 init T1 T2 T3 (k.val + 4) = tileOf (Ring.sl 3 (k.val + 1)) (pieces c XA i arg2 harg2 arg3 harg3 arg4 harg4 arg5 harg5 arg1 v5 v7 v9 v11 v401 v404 v408 v411 v413 v471 v474 v480 v484 v519 c2 v520 v522 v523 f3 f4 init k) := by
  rw [tiles, dif_pos k.isLt]

/-- A block that no trip before has let land is as it was. -/
theorem conts_ahead (init : Carry F) (T1 T2 T3 : Tile F) (D0 : Fin 1152 → Buf (Elt F) (aM.view.loc (c : Thread nD τ))) (b : Fin 1152) :
    ∀ k : ℕ, (∀ j, j < k → b ≠ nth i (j + 1)) → conts c XA i arg2 harg2 arg3 harg3 arg4 harg4 arg5 harg5 arg1 v5 v7 v9 v11 v401 v404 v408 v411 v413 v471 v474 v480 v484 v519 c2 v520 v522 v523 f3 f4 init T1 T2 T3 D0 k b = D0 b
  | 0, _ => rfl
  | k + 1, h => (Function.update_of_ne (h k (Nat.lt_succ_self k)) _ _).trans (conts_ahead init T1 T2 T3 D0 b k fun j hj => h j (Nat.lt_succ_of_lt hj))

theorem nth_ne {a b : ℕ} (ha : a ≤ top i) (hb : b ≤ top i) (h : a ≠ b) : nth i a ≠ nth i b := by
  have ht := top_lt i
  intro e
  have := congrArg Fin.val e
  rw [nth, nth, Ring.bk_val (by omega), Ring.bk_val (by omega)] at this
  omega

/-- The resources and the carried values before trip `k`. -/
def invAt (init : Carry F) (T1 T2 T3 : Tile F) (D0 : Fin 1152 → Buf (Elt F) (aM.view.loc (c : Thread nD τ))) (k : ℕ) (acc : Carry F) : sProp 𝕄 :=
  iprop(⌜acc = state c XA i arg2 harg2 arg3 harg3 arg4 harg4 arg5 harg5 arg1 v5 v7 v9 v11 v401 v404 v408 v411 v413 v471 v474 v480 v484 v519 c2 v520 v522 v523 f3 f4 init k⌝ ∗ resAt c XA i arg3 arg4 f3 f4 (conts c XA i arg2 harg2 arg3 harg3 arg4 harg4 arg5 harg5 arg1 v5 v7 v9 v11 v401 v404 v408 v411 v413 v471 v474 v480 v484 v519 c2 v520 v522 v523 f3 f4 init T1 T2 T3 D0 k) (tiles c XA i arg2 harg2 arg3 harg3 arg4 harg4 arg5 harg5 arg1 v5 v7 v9 v11 v401 v404 v408 v411 v413 v471 v474 v480 v484 v519 c2 v520 v522 v523 f3 f4 init T1 T2 T3) k)

set_option warn.classDefReducibility false in
/-- The loop's invariant. -/
@[sl_loop] def loopInv1 (init : Carry F) (T1 T2 T3 : Tile F) (D0 : Fin 1152 → Buf (Elt F) (aM.view.loc (c : Thread nD τ)))
    (hD : ∀ n, 4 ≤ n → n ≤ 4 * (i 1).val + 3 → D0 (nth i n) = XA) :
    LoopInvTy_k0_t1 (F := F) Unit ℕ (Pipeline.UD sig nD τ) ℕ 𝒱₀ c none Set.univ i arg2 harg2 arg3 harg3 arg4 harg4 arg5 harg5 aM (Memref.isWhole_whole _)
      bufM (Memref.isWhole_whole _) cc0_scratch1 arg1 v5 v7 v9 v11 v401 v404 v408 v411 v413 v471 v474 v480 v484 v519 c2 v520 v522 v523 init where
  inv k acc := invAt c XA i arg2 harg2 arg3 harg3 arg4 harg4 arg5 harg5 arg1 v5 v7 v9 v11 v401 v404 v408 v411 v413 v471 v474 v480 v484 v519 c2 v520 v522 v523 f3 f4 init T1 T2 T3 D0 k acc
  step k acc := by
    have htr := trips_eq i
    have hk : k.val < 4 * (i 1).val := Nat.lt_of_lt_of_eq k.isLt (trips_eq i)
    have htop : 4 * (i 1).val + 3 ≤ top i := by unfold top; omega
    unfold invAt
    rw [state_succ]
    iintro ⟨%e, H⟩
    subst e
    iapply (wp_wand_r Idealize.ShloMosaic.frame (wpE (defs₀ (F := F)) 𝒱₀ (c : Thread nD τ) none) Set.univ)
    isplitl [H]
    · iapply (tripRun c XA i arg2 harg2 arg3 harg3 arg4 harg4 arg5 harg5 arg1 v5 v7 v9 v11 v401 v404 v408 v411 v413 v471 v474 v480 v484 v519 c2 v520 v522 v523 f3 f4 k _ _ _ _).2.2.2 _ (tiles_trip c XA i arg2 harg2 arg3 harg3 arg4 harg4 arg5 harg5 arg1 v5 v7 v9 v11 v401 v404 v408 v411 v413 v471 v474 v480 v484 v519 c2 v520 v522 v523 f3 f4 init T1 T2 T3 k) _
        ((conts_ahead c XA i arg2 harg2 arg3 harg3 arg4 harg4 arg5 harg5 arg1 v5 v7 v9 v11 v401 v404 v408 v411 v413 v471 v474 v480 v484 v519 c2 v520 v522 v523 f3 f4 init T1 T2 T3 D0 _ k.val fun j hj => nth_ne i (by omega) (by omega) (by omega)).trans (hD _ (by omega) (by omega)))
      iexact H
    · iintro %r H'
      iexact H'

set_option warn.classDefReducibility false in
/-- The loop over the key blocks left has no trip. -/
@[sl_loop] def loopInv2 (v554 : BitVec 32) (init : Carry F) (T : ℕ → Tile F) (D : Fin 1152 → Buf (Elt F) (aM.view.loc (c : Thread nD τ))) :
    LoopInvTy_k0_t2 (F := F) Unit ℕ (Pipeline.UD sig nD τ) ℕ 𝒱₀ c none Set.univ i arg2 harg2 arg3 harg3 arg4 harg4 arg5 harg5 aM (Memref.isWhole_whole _)
      bufM (Memref.isWhole_whole _) cc0_scratch1 arg1 v5 v7 v9 v11 v401 v404 v408 v411 v413 v471 v474 v480 v484 v519 c2 v520 v522 v523 v554 init where
  inv _ acc := iprop(⌜acc = init⌝ ∗ resAt c XA i arg3 arg4 f3 f4 D T (k0_t1_loop i).trips)
  step k _ := (Nat.not_lt_zero _ (Nat.lt_of_lt_of_eq k.isLt (trips2_eq i))).elim

end Trip

end Cert.AttnFwdIdeal.Hand

end
-- ==== Proof.AttnFwdBody.lean ====
/- The attention's body at a symbolic grid point: the four blocks on the diagonal, the loop by its invariant, the last copies awaited. -/
module

public import proofs.«01_k».proof.Proof.AttnFwdTrip

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body

variable (c : Dev nD) (XA : Buf (Elt F) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ)))

/-- The body on given buffers, the tiles, the ring and its cells its own. -/
abbrev bodyG : Prog (TpuEff nD τ sig (Elt F) Λ₀ .tc) PUnit :=
  cc0_attn_fwd (F := F) i arg2 harg2 arg3 harg3 arg4 harg4 arg5 harg5 aM (Memref.isWhole_whole _) bufM (Memref.isWhole_whole _) cc0_scratch1

theorem entails_of_eq {P Q : sProp 𝕄} (e : P = Q) : P ⊢ Q := e ▸ .rfl

/-- What the body is handed: the operands, the output's buffer at anything, the blocks of the tiles, the slots, the cells, what is owed. -/
abbrev PRE (f5 : Buf (Elt F) (arg5.view.loc (c : Thread nD τ))) (C : Fin 1152 → Buf (Elt F) (aM.view.loc (c : Thread nD τ))) : sProp 𝕄 :=
  iprop(heldP c arg2 f2 ∗ heldP c arg3 f3 ∗ heldP c arg4 f4 ∗ heldP c arg5 f5
    ∗ bigSep Finset.univ (homeP c C)
    ∗ (∃ f, slotP c 0 f) ∗ (∃ f, slotP c 1 f) ∗ (∃ f, slotP c 2 f) ∗ cellP c 0 ∗ cellP c 1 ∗ cellP c 2 ∗ (∃ W, owes (c : Thread nD τ) 0 W))

/-- What it hands back. -/
abbrev POST (L5 : List (View.Piece (Elt F) S1024x128 .bf16)) (T : ℕ → Tile F) (C : Fin 1152 → Buf (Elt F) (aM.view.loc (c : Thread nD τ))) : sProp 𝕄 :=
  iprop(heldP c arg2 f2 ∗ heldP c arg3 f3 ∗ heldP c arg4 f4 ∗ (∃ f5, heldP c arg5 (arg5.view.writes (Elt F) f5 L5))
    ∗ bigSep Finset.univ (homeP c (landed c XA i C T (4 * (i 1).val + 4)))
    ∗ (∃ f, slotP c 0 f) ∗ (∃ f, slotP c 1 f) ∗ (∃ f, slotP c 2 f) ∗ cellP c 0 ∗ cellP c 1 ∗ cellP c 2 ∗ (∃ W, owes (c : Thread nD τ) 0 W))

theorem top_ge : 4 * (i 1).val + 3 ≤ top i := by unfold top; omega

/-- The blocks at the start: the four on the diagonal apart. -/
theorem homes_start (C : Fin 1152 → Buf (Elt F) (aM.view.loc (c : Thread nD τ))) (hC : ∀ n, n ≤ 4 * (i 1).val + 3 → C (nth i n) = XA) :
    bigSep Finset.univ (homeP c C)
      = iprop(homeP c (fun _ => XA) (nth i 0) ∗ homeP c (fun _ => XA) (nth i 1) ∗ homeP c (fun _ => XA) (nth i 2) ∗ homeP c (fun _ => XA) (nth i 3)
        ∗ bigSep ((Ring.homeSet 3 (top i - 3)).erase (nth i 0)) (homeP c C)) := by
  have ht := top_lt i
  have hg := top_ge i
  have v0 : (nth i 0).val = top i := Ring.bk_val (by omega)
  have v1 : (nth i 1).val = top i - 1 := Ring.bk_val (by omega)
  have v2 : (nth i 2).val = top i - 2 := Ring.bk_val (by omega)
  have v3 : (nth i 3).val = top i - 3 := Ring.bk_val (by omega)
  have e : (Finset.univ : Finset (Fin 1152)) = insert (nth i 0) (insert (nth i 1) (insert (nth i 2) (insert (nth i 3) ((Ring.homeSet 3 (top i - 3)).erase (nth i 0))))) := by
    ext b; have := b.isLt
    simp only [Finset.mem_univ, Finset.mem_insert, Finset.mem_erase, Ring.mem_homeSet, true_iff, ne_eq, Fin.ext_iff, v0, v1, v2, v3]; omega
  have h3 : nth i 3 ∉ (Ring.homeSet (NB := 1152) 3 (top i - 3)).erase (nth i 0) := by
    simp only [Finset.mem_erase, Ring.mem_homeSet, Ne, Fin.ext_iff, v0, v3]; omega
  have h2 : nth i 2 ∉ insert (nth i 3) ((Ring.homeSet (NB := 1152) 3 (top i - 3)).erase (nth i 0)) := by
    simp only [Finset.mem_insert, Finset.mem_erase, Ring.mem_homeSet, Ne, Fin.ext_iff, v0, v2, v3]; omega
  have h1 : nth i 1 ∉ insert (nth i 2) (insert (nth i 3) ((Ring.homeSet (NB := 1152) 3 (top i - 3)).erase (nth i 0))) := by
    simp only [Finset.mem_insert, Finset.mem_erase, Ring.mem_homeSet, Ne, Fin.ext_iff, v0, v1, v2, v3]; omega
  have h0 : nth i 0 ∉ insert (nth i 1) (insert (nth i 2) (insert (nth i 3) ((Ring.homeSet (NB := 1152) 3 (top i - 3)).erase (nth i 0)))) := by
    simp only [Finset.mem_insert, Finset.mem_erase, Ring.mem_homeSet, ne_eq, Fin.ext_iff, v0, v1, v2, v3, not_true_eq_false, false_and, or_false]; omega
  have c0 := hC 0 (by omega)
  have c1 := hC 1 (by omega)
  have c2 := hC 2 (by omega)
  have c3 := hC 3 (by omega)
  have hh : ∀ n, C (nth i n) = XA → homeP c C (nth i n) = homeP c (fun _ => XA) (nth i n) := fun n h => congrArg (fun f => homeP c (fun _ => f) (nth i n)) h
  rw [e, bigSep_insert h0, bigSep_insert h1, bigSep_insert h2, bigSep_insert h3, hh 0 c0, hh 1 c1, hh 2 c2, hh 3 c3]
  rfl

/-- The contents when the first block has landed. -/
def land0 (C : Fin 1152 → Buf (Elt F) (aM.view.loc (c : Thread nD τ))) (T : Tile F) : Fin 1152 → Buf (Elt F) (aM.view.loc (c : Thread nD τ)) :=
  Function.update C (nth i 0) (stored c XA (nth i 0) T)

/-- The blocks before the loop: the first one landed beside the rest. -/
theorem homes_loop (C : Fin 1152 → Buf (Elt F) (aM.view.loc (c : Thread nD τ))) (T : Tile F) :
    bigSep (Ring.homeSet 3 (top i - (0 + 3))) (homeP c (land0 c XA i C T))
      = iprop(homeP c (fun _ => stored c XA (nth i 0) T) (nth i 0) ∗ bigSep ((Ring.homeSet 3 (top i - 3)).erase (nth i 0)) (homeP c C)) := by
  have ht := top_lt i
  have hg := top_ge i
  have e' : nth i 0 = Ring.bk 1152 (top i - 3 + 3) := by rw [nth]; congr 1; first | done | omega
  have e2 : bigSep ((Ring.homeSet 3 (top i - 3)).erase (nth i 0)) (homeP c C)
      = bigSep ((Ring.homeSet 3 (top i - 3)).erase (nth i 0)) (homeP c (land0 c XA i C T)) :=
    bigSep_congr fun b hb => congrArg (fun f => homeP c (fun _ => f) b) (Function.update_of_ne (Finset.ne_of_mem_erase hb) _ _).symm
  have e1 : homeP c (land0 c XA i C T) (nth i 0) = homeP c (fun _ => stored c XA (nth i 0) T) (nth i 0) :=
    congrArg (fun f => homeP c (fun _ => f) (nth i 0)) (Function.update_self _ _ _)
  rw [e2, ← e1]
  conv_lhs => rw [show top i - (0 + 3) = top i - 3 from rfl, Ring.homeSet_out 3 _ (by omega), bigSep_insert (Ring.bkL_not_mem_erase 3 _), ← e']
  rfl

/-- Four stores of a slot: two blocks of rows of either head. -/
def quad (s : ℕ) (m : ℕ) (sz0 sz1 : Fin 4 → ℕ)
    (h00 : ∀ a : Fin 4, (![s, 0, 0, 0] : Fin 4 → ℕ) a + sz0 a ≤ S3x2x1024x256.size a) (h01 : ∀ a : Fin 4, (![s, 0, m, 0] : Fin 4 → ℕ) a + sz1 a ≤ S3x2x1024x256.size a)
    (h10 : ∀ a : Fin 4, (![s, 1, 0, 0] : Fin 4 → ℕ) a + sz0 a ≤ S3x2x1024x256.size a) (h11 : ∀ a : Fin 4, (![s, 1, m, 0] : Fin 4 → ℕ) a + sz1 a ≤ S3x2x1024x256.size a)
    (p00 p10 : FVec F ⟨4, sz0⟩ .bf16) (p01 p11 : FVec F ⟨4, sz1⟩ .bf16) : List (View.Piece (Elt F) S3x2x1024x256 .bf16) :=
  [⟨Rect.unit (s := S3x2x1024x256) ![s, 1, m, 0] sz1 h11, p11⟩, ⟨Rect.unit (s := S3x2x1024x256) ![s, 1, 0, 0] sz0 h10, p10⟩,
    ⟨Rect.unit (s := S3x2x1024x256) ![s, 0, m, 0] sz1 h01, p01⟩, ⟨Rect.unit (s := S3x2x1024x256) ![s, 0, 0, 0] sz0 h00, p00⟩]

theorem quad_cover (s : Fin 3) (m n : ℕ) (hmn : m + n = 1024) (h00 h01 h10 h11) (p00 p10 : FVec F ⟨4, ![1, 1, m, 256]⟩ .bf16) (p01 p11 : FVec F ⟨4, ![1, 1, n, 256]⟩ .bf16) :
    ∀ y : S3x2x1024x256.Idx, (y 0).val = s.val → ∃ pc ∈ quad s.val m ![1, 1, m, 256] ![1, 1, n, 256] h00 h01 h10 h11 p00 p10 p01 p11, y ∈ pc.1.set := by
  intro y hy
  have h1 : (y 1).val < 2 := (y 1).isLt
  have h2 : (y 2).val < 1024 := (y 2).isLt
  have h3 : (y 3).val < 256 := (y 3).isLt
  unfold quad
  by_cases hh : (y 1).val = 1 <;> by_cases hr : (y 2).val < m
  · refine ⟨_, List.mem_cons_of_mem _ List.mem_cons_self, ?_⟩
    rw [Rect.mem_set_unit]
    intro a; fin_cases a
    · show s.val ≤ (y 0).val ∧ (y 0).val < s.val + 1; omega
    · show 1 ≤ (y 1).val ∧ (y 1).val < 1 + 1; omega
    · show 0 ≤ (y 2).val ∧ (y 2).val < 0 + m; omega
    · show 0 ≤ (y 3).val ∧ (y 3).val < 0 + 256; omega
  · refine ⟨_, List.mem_cons_self, ?_⟩
    rw [Rect.mem_set_unit]
    intro a; fin_cases a
    · show s.val ≤ (y 0).val ∧ (y 0).val < s.val + 1; omega
    · show 1 ≤ (y 1).val ∧ (y 1).val < 1 + 1; omega
    · show m ≤ (y 2).val ∧ (y 2).val < m + n; omega
    · show 0 ≤ (y 3).val ∧ (y 3).val < 0 + 256; omega
  · refine ⟨_, List.mem_cons_of_mem _ (List.mem_cons_of_mem _ (List.mem_cons_of_mem _ List.mem_cons_self)), ?_⟩
    rw [Rect.mem_set_unit]
    intro a; fin_cases a
    · show s.val ≤ (y 0).val ∧ (y 0).val < s.val + 1; omega
    · show 0 ≤ (y 1).val ∧ (y 1).val < 0 + 1; omega
    · show 0 ≤ (y 2).val ∧ (y 2).val < 0 + m; omega
    · show 0 ≤ (y 3).val ∧ (y 3).val < 0 + 256; omega
  · refine ⟨_, List.mem_cons_of_mem _ (List.mem_cons_of_mem _ List.mem_cons_self), ?_⟩
    rw [Rect.mem_set_unit]
    intro a; fin_cases a
    · show s.val ≤ (y 0).val ∧ (y 0).val < s.val + 1; omega
    · show 0 ≤ (y 1).val ∧ (y 1).val < 0 + 1; omega
    · show m ≤ (y 2).val ∧ (y 2).val < m + n; omega
    · show 0 ≤ (y 3).val ∧ (y 3).val < 0 + 256; omega

/-- The last diagonal block's two stores. -/
def pair0 (p0 p1 : FVec F S1x1x1024x256 .bf16) : List (View.Piece (Elt F) S3x2x1024x256 .bf16) :=
  [⟨Rect.unit (s := S3x2x1024x256) ![0, 1, 0, 0] S1x1x1024x256.size (by decide), p1⟩, ⟨Rect.unit (s := S3x2x1024x256) ![0, 0, 0, 0] S1x1x1024x256.size (by decide), p0⟩]

theorem pair0_cover (p0 p1 : FVec F S1x1x1024x256 .bf16) :
    ∀ y : S3x2x1024x256.Idx, (y 0).val = (0 : Fin 3).val → ∃ pc ∈ pair0 p0 p1, y ∈ pc.1.set := by
  intro y hy
  have h1 : (y 1).val < 2 := (y 1).isLt
  have h2 : (y 2).val < 1024 := (y 2).isLt
  have h3 : (y 3).val < 256 := (y 3).isLt
  have hy0 : (y 0).val = 0 := hy
  by_cases hh : (y 1).val = 1
  · refine ⟨_, List.mem_cons_self, ?_⟩
    rw [Rect.mem_set_unit]
    intro a; fin_cases a
    · show 0 ≤ (y 0).val ∧ (y 0).val < 0 + 1; omega
    · show 1 ≤ (y 1).val ∧ (y 1).val < 1 + 1; omega
    · show 0 ≤ (y 2).val ∧ (y 2).val < 0 + 1024; omega
    · show 0 ≤ (y 3).val ∧ (y 3).val < 0 + 256; omega
  · refine ⟨_, List.mem_cons_of_mem _ List.mem_cons_self, ?_⟩
    rw [Rect.mem_set_unit]
    intro a; fin_cases a
    · show 0 ≤ (y 0).val ∧ (y 0).val < 0 + 1; omega
    · show 0 ≤ (y 1).val ∧ (y 1).val < 0 + 1; omega
    · show 0 ≤ (y 2).val ∧ (y 2).val < 0 + 1024; omega
    · show 0 ≤ (y 3).val ∧ (y 3).val < 0 + 256; omega

/-- Four stores written one after the other. -/
theorem quad_writes (g : S3x2x1024x256.Idx → Elt F .bf16) {s m : ℕ} {sz0 sz1 : Fin 4 → ℕ} (h00 h01 h10 h11) (p00 p10 : FVec F ⟨4, sz0⟩ .bf16) (p01 p11 : FVec F ⟨4, sz1⟩ .bf16) :
    View.write (Elt F) (bufM.access (Rect.unit (s := S3x2x1024x256) ![s, 1, m, 0] sz1 h11))
      (View.write (Elt F) (bufM.access (Rect.unit (s := S3x2x1024x256) ![s, 1, 0, 0] sz0 h10))
        (View.write (Elt F) (bufM.access (Rect.unit (s := S3x2x1024x256) ![s, 0, m, 0] sz1 h01))
          (View.write (Elt F) (bufM.access (Rect.unit (s := S3x2x1024x256) ![s, 0, 0, 0] sz0 h00)) g p00 Finset.univ) p01 Finset.univ) p10 Finset.univ) p11 Finset.univ
      = bufM.view.writes (Elt F) g (quad s m sz0 sz1 h00 h01 h10 h11 p00 p10 p01 p11) := rfl

/-- A copy in flight of what four stores left in a slot. -/
theorem flight_quad (s : Fin 3) (b : Fin 1152) (m n : ℕ) (hmn : m + n = 1024) (g : Buf (Elt F) ((rslot s).view.loc (c : Thread nD τ))) (h00 h01 h10 h11)
    (p00 p10 : FVec F ⟨4, ![1, 1, m, 256]⟩ .bf16) (p01 p11 : FVec F ⟨4, ![1, 1, n, 256]⟩ .bf16) {g' : Buf (Elt F) ((rslot s).view.loc (c : Thread nD τ))}
    (e : g' = bufM.view.writes (Elt F) g (quad s.val m ![1, 1, m, 256] ![1, 1, n, 256] h00 h01 h10 h11 p00 p10 p01 p11)) :
    (Transfers.Flight countersEmb (c : Thread nD τ) (SemLoc.dma (csm s).sem) () 32768
      iprop(((grp b).view.loc (c : Thread nD τ) ↦[(grp b).view.set]{fullShare}
          (grp b).view.writes (Elt F) XA [⟨Rect.whole S2x1024x256, ReadAs.same.apply ((rslot s).view.read (Elt F) g')⟩]) ∗ slotP c s g') : sProp 𝕄)
      ⊢ flightP c XA s b (tileOf s (quad s.val m ![1, 1, m, 256] ![1, 1, n, 256] h00 h01 h10 h11 p00 p10 p01 p11)) :=
  flight_fold c XA s b _ _ (by rw [e]; exact read_tileOf s _ (quad_cover s m n hmn h00 h01 h10 h11 p00 p10 p01 p11) g)

theorem flight_pair0 (b : Fin 1152) (g : Buf (Elt F) ((rslot 0).view.loc (c : Thread nD τ)))
    (p0 p1 : FVec F S1x1x1024x256 .bf16) {g' : Buf (Elt F) ((rslot 0).view.loc (c : Thread nD τ))}
    (e : g' = bufM.view.writes (Elt F) g (pair0 p0 p1)) :
    (Transfers.Flight countersEmb (c : Thread nD τ) (SemLoc.dma (csm 0).sem) () 32768
      iprop(((grp b).view.loc (c : Thread nD τ) ↦[(grp b).view.set]{fullShare}
          (grp b).view.writes (Elt F) XA [⟨Rect.whole S2x1024x256, ReadAs.same.apply ((rslot 0).view.read (Elt F) g')⟩]) ∗ slotP c 0 g') : sProp 𝕄)
      ⊢ flightP c XA 0 b (tileOf 0 (pair0 p0 p1)) :=
  flight_fold c XA 0 b _ _ (by rw [e]; exact read_tileOf 0 _ (pair0_cover p0 p1) g)

/-- A block overwritten whole does not show what it held before. -/
theorem home_junk (b : Fin 1152) (T : Tile F) :
    ((grp b).view.loc (c : Thread nD τ) ↦[(grp b).view.set]{fullShare} (grp b).view.writes (Elt F) (grp b).view.junk [⟨Rect.whole S2x1024x256, T⟩] : sProp 𝕄)
      = ((grp b).view.loc (c : Thread nD τ) ↦[(grp b).view.set]{fullShare} stored c XA b T) :=
  Ring.pointsTo_whole_rebase (c := (c : Thread nD τ)) (grp b) (grp b).view.junk XA T fullShare

/-- The first block landed, as the execution leaves it. -/
theorem home_quad (b : Fin 1152) (m n : ℕ) (hmn : m + n = 1024) (g : Buf (Elt F) ((rslot 0).view.loc (c : Thread nD τ))) (h00 h01 h10 h11)
    (p00 p10 : FVec F ⟨4, ![1, 1, m, 256]⟩ .bf16) (p01 p11 : FVec F ⟨4, ![1, 1, n, 256]⟩ .bf16) {g' : Buf (Elt F) ((rslot 0).view.loc (c : Thread nD τ))}
    (e : g' = bufM.view.writes (Elt F) g (quad 0 m ![1, 1, m, 256] ![1, 1, n, 256] h00 h01 h10 h11 p00 p10 p01 p11)) :
    ((grp b).view.loc (c : Thread nD τ) ↦[(grp b).view.set]{fullShare}
          (grp b).view.writes (Elt F) (grp b).view.junk [⟨Rect.whole S2x1024x256, ReadAs.same.apply ((rslot 0).view.read (Elt F) g')⟩] : sProp 𝕄)
      ⊢ homeP c (fun _ => stored c XA b (tileOf 0 (quad 0 m ![1, 1, m, 256] ![1, 1, n, 256] h00 h01 h10 h11 p00 p10 p01 p11))) b := by
  have h : ReadAs.same.apply ((rslot 0).view.read (Elt F) g') = tileOf 0 (quad 0 m ![1, 1, m, 256] ![1, 1, n, 256] h00 h01 h10 h11 p00 p10 p01 p11) := by
    rw [e]; exact read_tileOf (0 : Fin 3) _ (quad_cover 0 m n hmn h00 h01 h10 h11 p00 p10 p01 p11) g
  rw [h, home_junk c XA b]

/-- The stores of the diagonal block three in its slot. -/
def quadA (p00 p10 : FVec F S1x1x768x256 .bf16) (p01 p11 : FVec F S1x1x256x256 .bf16) : List (View.Piece (Elt F) S3x2x1024x256 .bf16) :=
  quad 0 768 ![1, 1, 768, 256] ![1, 1, 256, 256] (by decide) (by decide) (by decide) (by decide) p00 p10 p01 p11

/-- The stores of the diagonal block two in its slot. -/
def quadB (p00 p10 : FVec F S1x1x512x256 .bf16) (p01 p11 : FVec F S1x1x512x256 .bf16) : List (View.Piece (Elt F) S3x2x1024x256 .bf16) :=
  quad 1 512 ![1, 1, 512, 256] ![1, 1, 512, 256] (by decide) (by decide) (by decide) (by decide) p00 p10 p01 p11

/-- The stores of the diagonal block one in its slot. -/
def quadC (p00 p10 : FVec F S1x1x256x256 .bf16) (p01 p11 : FVec F S1x1x768x256 .bf16) : List (View.Piece (Elt F) S3x2x1024x256 .bf16) :=
  quad 2 256 ![1, 1, 256, 256] ![1, 1, 768, 256] (by decide) (by decide) (by decide) (by decide) p00 p10 p01 p11

theorem home_A (b : Fin 1152) (g : Buf (Elt F) ((rslot 0).view.loc (c : Thread nD τ))) (p00 p10 : FVec F S1x1x768x256 .bf16) (p01 p11 : FVec F S1x1x256x256 .bf16)
    {g' : Buf (Elt F) ((rslot 0).view.loc (c : Thread nD τ))} (e : g' = bufM.view.writes (Elt F) g (quadA p00 p10 p01 p11)) :
    ((grp b).view.loc (c : Thread nD τ) ↦[(grp b).view.set]{fullShare}
          (grp b).view.writes (Elt F) (grp b).view.junk [⟨Rect.whole S2x1024x256, ReadAs.same.apply ((rslot 0).view.read (Elt F) g')⟩] : sProp 𝕄)
      ⊢ homeP c (fun _ => stored c XA b (tileOf 0 (quadA p00 p10 p01 p11))) b :=
  home_quad c XA b 768 256 rfl g _ _ _ _ p00 p10 p01 p11 e

theorem flight_B (b : Fin 1152) (g : Buf (Elt F) ((rslot 1).view.loc (c : Thread nD τ))) (p00 p10 : FVec F S1x1x512x256 .bf16) (p01 p11 : FVec F S1x1x512x256 .bf16)
    {g' : Buf (Elt F) ((rslot 1).view.loc (c : Thread nD τ))} (e : g' = bufM.view.writes (Elt F) g (quadB p00 p10 p01 p11)) :
    (Transfers.Flight countersEmb (c : Thread nD τ) (SemLoc.dma (csm 1).sem) () 32768
      iprop(((grp b).view.loc (c : Thread nD τ) ↦[(grp b).view.set]{fullShare}
          (grp b).view.writes (Elt F) XA [⟨Rect.whole S2x1024x256, ReadAs.same.apply ((rslot 1).view.read (Elt F) g')⟩]) ∗ slotP c 1 g') : sProp 𝕄)
      ⊢ flightP c XA 1 b (tileOf 1 (quadB p00 p10 p01 p11)) :=
  flight_quad c XA 1 b 512 512 rfl g _ _ _ _ p00 p10 p01 p11 e

theorem flight_C (b : Fin 1152) (g : Buf (Elt F) ((rslot 2).view.loc (c : Thread nD τ))) (p00 p10 : FVec F S1x1x256x256 .bf16) (p01 p11 : FVec F S1x1x768x256 .bf16)
    {g' : Buf (Elt F) ((rslot 2).view.loc (c : Thread nD τ))} (e : g' = bufM.view.writes (Elt F) g (quadC p00 p10 p01 p11)) :
    (Transfers.Flight countersEmb (c : Thread nD τ) (SemLoc.dma (csm 2).sem) () 32768
      iprop(((grp b).view.loc (c : Thread nD τ) ↦[(grp b).view.set]{fullShare}
          (grp b).view.writes (Elt F) XA [⟨Rect.whole S2x1024x256, ReadAs.same.apply ((rslot 2).view.read (Elt F) g')⟩]) ∗ slotP c 2 g') : sProp 𝕄)
      ⊢ flightP c XA 2 b (tileOf 2 (quadC p00 p10 p01 p11)) :=
  flight_quad c XA 2 b 256 768 rfl g _ _ _ _ p00 p10 p01 p11 e

/-- A copy in flight under equal names of its slot and its block. -/
theorem flight_slot {s s' : Fin 3} (h : s = s') (b : Fin 1152) (T : Tile F) : flightP c XA s b T ⊢ flightP c XA s' b T := by
  subst h; exact .rfl

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)

/-- The weights of all the point's blocks. -/
def allT (T0 : Tile F) (T : ℕ → Tile F) : ℕ → Tile F
  | 0 => T0
  | n + 1 => T (n + 1)

/-- Which of the point's blocks is on slot `s` when `k` trips are over. -/
def nOf (s : Fin 3) (k : ℕ) : ℕ := k + 1 + (s.val + 2 * (k + 1)) % 3

theorem nOf_1 (k : ℕ) : nOf (Ring.sl 3 (k + 1)) k = k + 1 := by
  show k + 1 + ((k + 1) % 3 + 2 * (k + 1)) % 3 = k + 1; omega
theorem nOf_2 (k : ℕ) : nOf (Ring.sl 3 (k + 2)) k = k + 2 := by
  show k + 1 + ((k + 2) % 3 + 2 * (k + 1)) % 3 = k + 2; omega
theorem nOf_3 (k : ℕ) : nOf (Ring.sl 3 k) k = k + 3 := by
  show k + 1 + (k % 3 + 2 * (k + 1)) % 3 = k + 3; omega

theorem nOf_cases (q : ℕ) : (nOf 0 q = q + 1 ∧ nOf 1 q = q + 2 ∧ nOf 2 q = q + 3) ∨ (nOf 0 q = q + 2 ∧ nOf 1 q = q + 3 ∧ nOf 2 q = q + 1)
    ∨ (nOf 0 q = q + 3 ∧ nOf 1 q = q + 1 ∧ nOf 2 q = q + 2) := by
  show (q + 1 + (0 + 2 * (q + 1)) % 3 = q + 1 ∧ q + 1 + (1 + 2 * (q + 1)) % 3 = q + 2 ∧ q + 1 + (2 + 2 * (q + 1)) % 3 = q + 3)
    ∨ (q + 1 + (0 + 2 * (q + 1)) % 3 = q + 2 ∧ q + 1 + (1 + 2 * (q + 1)) % 3 = q + 3 ∧ q + 1 + (2 + 2 * (q + 1)) % 3 = q + 1)
    ∨ (q + 1 + (0 + 2 * (q + 1)) % 3 = q + 3 ∧ q + 1 + (1 + 2 * (q + 1)) % 3 = q + 1 ∧ q + 1 + (2 + 2 * (q + 1)) % 3 = q + 2)
  have h3 : q % 3 = 0 ∨ q % 3 = 1 ∨ q % 3 = 2 := by omega
  rcases h3 with h | h | h
  · exact Or.inr (Or.inr ⟨by omega, by omega, by omega⟩)
  · exact Or.inr (Or.inl ⟨by omega, by omega, by omega⟩)
  · exact Or.inl ⟨by omega, by omega, by omega⟩

/-- The three copies still in flight after the loop, by slot. -/
theorem flights_slots (T : ℕ → Tile F) (k : ℕ) :
    iprop(flightP c XA (Ring.sl 3 (k + 1)) (nth i (k + 1)) (T (k + 1)) ∗ flightP c XA (Ring.sl 3 (k + 2)) (nth i (k + 2)) (T (k + 2))
      ∗ flightP c XA (Ring.sl 3 k) (nth i (k + 3)) (T (k + 3)))
    ⊢ (iprop(flightP c XA 0 (nth i (nOf 0 k)) (T (nOf 0 k)) ∗ flightP c XA 1 (nth i (nOf 1 k)) (T (nOf 1 k)) ∗ flightP c XA 2 (nth i (nOf 2 k)) (T (nOf 2 k))) : sProp 𝕄) := by
  have h := Ring.free3_of_roles (fun s => (flightP c XA s (nth i (nOf s k)) (T (nOf s k)) : sProp 𝕄)) k
  beta_reduce at h
  rw [nOf_1, nOf_2, nOf_3] at h
  iintro ⟨H1, H2, H3⟩
  iapply h
  isplitl [H3]; · iexact H3
  isplitl [H1]; · iexact H1
  iexact H2

/-- The blocks the loop has let land. -/
theorem landed_one (C : Fin 1152 → Buf (Elt F) (aM.view.loc (c : Thread nD τ))) (T0 : Tile F) (T : ℕ → Tile F) (b : Fin 1152) :
    land0 c XA i C T0 b = landed c XA i C (allT T0 T) 1 b := by
  have ht := top_lt i
  have v0 : (nth i 0).val = top i := Ring.bk_val (by omega)
  unfold land0 landed
  by_cases h : b = nth i 0
  · subst h
    rw [Function.update_self, if_pos (by omega), v0, Nat.sub_self]
    rfl
  · have h' : b.val ≠ top i := fun e => h (Fin.ext (e.trans v0.symm))
    rw [Function.update_of_ne h, if_neg (by omega)]

theorem landed_step (C D : Fin 1152 → Buf (Elt F) (aM.view.loc (c : Thread nD τ))) (T0 : Tile F) (T : ℕ → Tile F) (k : ℕ) (hk : k + 1 ≤ top i)
    (h : ∀ b, D b = landed c XA i C (allT T0 T) (k + 1) b) (b : Fin 1152) : land c XA i D T k b = landed c XA i C (allT T0 T) (k + 2) b := by
  have ht := top_lt i
  have hv : (nth i (k + 1)).val = top i - (k + 1) := Ring.bk_val (by omega)
  unfold land
  by_cases e : b = nth i (k + 1)
  · subst e
    have e2 : top i - (top i - (k + 1)) = k + 1 := by omega
    rw [Function.update_self, landed, if_pos (by omega), hv, e2]
    rfl
  · have hne : b.val ≠ top i - (k + 1) := fun h => e (Fin.ext (h.trans hv.symm))
    rw [Function.update_of_ne e, h b]
    unfold landed
    by_cases h : top i < b.val + (k + 1) ∧ b.val ≤ top i
    · rw [if_pos h, if_pos (by omega)]
    · rw [if_neg h, if_neg (by omega)]

/-- All blocks at the end: the three on the slots landed beside those that were not out. -/
theorem homes_end (C K : Fin 1152 → Buf (Elt F) (aM.view.loc (c : Thread nD τ))) (T0 : Tile F) (T : ℕ → Tile F) (k : ℕ) (hk : k = 4 * (i 1).val)
    (hK : ∀ b, K b = landed c XA i C (allT T0 T) (k + 1) b) :
    iprop(homeP c (fun _ => stored c XA (nth i (nOf 0 k)) (T (nOf 0 k))) (nth i (nOf 0 k)) ∗ homeP c (fun _ => stored c XA (nth i (nOf 1 k)) (T (nOf 1 k))) (nth i (nOf 1 k))
      ∗ homeP c (fun _ => stored c XA (nth i (nOf 2 k)) (T (nOf 2 k))) (nth i (nOf 2 k)) ∗ bigSep (Ring.homeSet 3 (top i - (k + 3))) (homeP c K))
      ⊢ bigSep Finset.univ (homeP c (landed c XA i C (allT T0 T) (4 * (i 1).val + 4))) := by
  subst hk
  have ht := top_lt i
  have hg := top_ge i
  have hp := nOf_cases (4 * (i 1).val)
  generalize nOf 0 (4 * (i 1).val) = a0 at *
  generalize nOf 1 (4 * (i 1).val) = a1 at *
  generalize nOf 2 (4 * (i 1).val) = a2 at *
  generalize hq : 4 * (i 1).val = q at *
  have v0 : (nth i a0).val = top i - a0 := Ring.bk_val (by omega)
  have v1 : (nth i a1).val = top i - a1 := Ring.bk_val (by omega)
  have v2 : (nth i a2).val = top i - a2 := Ring.bk_val (by omega)
  have e : (Finset.univ : Finset (Fin 1152)) = insert (nth i a0) (insert (nth i a1) (insert (nth i a2) (Ring.homeSet 3 (top i - (q + 3))))) := by
    ext b; have := b.isLt
    simp only [Finset.mem_univ, Finset.mem_insert, Ring.mem_homeSet, true_iff, Fin.ext_iff, v0, v1, v2]
    rcases hp with ⟨rfl, rfl, rfl⟩ | ⟨rfl, rfl, rfl⟩ | ⟨rfl, rfl, rfl⟩ <;> omega
  have h2 : nth i a2 ∉ Ring.homeSet (NB := 1152) 3 (top i - (q + 3)) := by
    rw [Ring.mem_homeSet, v2]; rcases hp with ⟨rfl, rfl, rfl⟩ | ⟨rfl, rfl, rfl⟩ | ⟨rfl, rfl, rfl⟩ <;> omega
  have h1 : nth i a1 ∉ insert (nth i a2) (Ring.homeSet (NB := 1152) 3 (top i - (q + 3))) := by
    simp only [Finset.mem_insert, Ring.mem_homeSet, Fin.ext_iff, v1, v2]; rcases hp with ⟨rfl, rfl, rfl⟩ | ⟨rfl, rfl, rfl⟩ | ⟨rfl, rfl, rfl⟩ <;> omega
  have h0 : nth i a0 ∉ insert (nth i a1) (insert (nth i a2) (Ring.homeSet (NB := 1152) 3 (top i - (q + 3)))) := by
    simp only [Finset.mem_insert, Ring.mem_homeSet, Fin.ext_iff, v0, v1, v2]; rcases hp with ⟨rfl, rfl, rfl⟩ | ⟨rfl, rfl, rfl⟩ | ⟨rfl, rfl, rfl⟩ <;> omega
  have hl : ∀ a, q + 1 ≤ a → a ≤ q + 3 → (nth i a).val = top i - a →
      homeP c (fun _ => stored c XA (nth i a) (T a)) (nth i a) = homeP c (landed c XA i C (allT T0 T) (q + 4)) (nth i a) := by
    intro a ha hb hv
    have e2 : top i - (top i - a) = a := by omega
    have e3 : allT T0 T a = T a := by obtain ⟨d, rfl⟩ : ∃ d, a = d + 1 := ⟨a - 1, by omega⟩; rfl
    refine congrArg (fun f => homeP c (fun _ => f) (nth i a)) ?_
    rw [landed, if_pos (by omega), hv, e2, e3]
  have hr : bigSep (Ring.homeSet 3 (top i - (q + 3))) (homeP c K) = bigSep (Ring.homeSet 3 (top i - (q + 3))) (homeP c (landed c XA i C (allT T0 T) (q + 4))) := by
    refine bigSep_congr fun b hb => congrArg (fun f => homeP c (fun _ => f) b) ?_
    rw [Ring.mem_homeSet] at hb
    rw [hK b]
    unfold landed
    by_cases h : top i < b.val + (q + 1) ∧ b.val ≤ top i
    · rw [if_pos h, if_pos (by omega)]
    · rw [if_neg h, if_neg (by omega)]
  rw [hl a0 (by omega) (by omega) v0, hl a1 (by omega) (by omega) v1, hl a2 (by omega) (by omega) v2, hr, e, bigSep_insert h0, bigSep_insert h1, bigSep_insert h2]
  exact .rfl

/-- The blocks' contents along the loop: the first ones landed. -/
theorem conts_landed (arg1 : BitVec 32) (v5 : FVec F S256x256 .bf16) (v7 : FVec F S1024x64 .bf16) (v9 : FVec F S1024x64 .bf16) (v11 : BitVec 32)
    (v401 : FVec F S1024x64 .f32) (v404 : FVec F S1024x1 .f32) (v408 : FVec F S1024x64 .f32) (v411 : FVec F S1024x1 .f32) (v413 : BitVec 32)
    (v471 : FVec F S1024x1 .f32) (v474 : FVec F S1024x1 .f32) (v480 : FVec F S1024x64 .f32) (v484 : FVec F S1024x64 .f32) (v519 : BitVec 32)
    (c2 : BitVec 32) (v520 : BitVec 32) (v522 : BitVec 32) (v523 : BitVec 1) (init : Carry F) (T0 T1 T2 T3 : Tile F)
    (C : Fin 1152 → Buf (Elt F) (aM.view.loc (c : Thread nD τ))) (b : Fin 1152) :
    ∀ k : ℕ, k ≤ top i → conts c XA i arg2 harg2 arg3 harg3 arg4 harg4 arg5 harg5 arg1 v5 v7 v9 v11 v401 v404 v408 v411 v413 v471 v474 v480 v484 v519 c2 v520 v522 v523 f3 f4 init T1 T2 T3 (land0 c XA i C T0) k b
      = landed c XA i C (allT T0 (tiles c XA i arg2 harg2 arg3 harg3 arg4 harg4 arg5 harg5 arg1 v5 v7 v9 v11 v401 v404 v408 v411 v413 v471 v474 v480 v484 v519 c2 v520 v522 v523 f3 f4 init T1 T2 T3)) (k + 1) b := by
  intro k
  induction k generalizing b with
  | zero => exact fun _ => landed_one c XA i C T0 _ b
  | succ k ih => exact fun hk => landed_step c XA i C _ T0 _ k hk (fun b => ih b (by omega)) b

/-- A copy in flight, its slot's content let go. -/
theorem flight_in (s : Fin 3) (b : Fin 1152) (T : Tile F) (g : Buf (Elt F) ((rslot s).view.loc (c : Thread nD τ))) :
    (Transfers.Flight countersEmb (c : Thread nD τ) (SemLoc.dma (csm s).sem) () 32768
      iprop(homeP c (fun b => stored c XA b T) b ∗ slotP c s g) : sProp 𝕄) ⊢ flightP c XA s b T := by
  unfold flightP
  iintro H
  iexists g
  iexact H

/-- The blocks when the loop is over and the copies left have landed. -/
theorem homes_conts (arg1 : BitVec 32) (v5 : FVec F S256x256 .bf16) (v7 : FVec F S1024x64 .bf16) (v9 : FVec F S1024x64 .bf16) (v11 : BitVec 32)
    (v401 : FVec F S1024x64 .f32) (v404 : FVec F S1024x1 .f32) (v408 : FVec F S1024x64 .f32) (v411 : FVec F S1024x1 .f32) (v413 : BitVec 32)
    (v471 : FVec F S1024x1 .f32) (v474 : FVec F S1024x1 .f32) (v480 : FVec F S1024x64 .f32) (v484 : FVec F S1024x64 .f32) (v519 : BitVec 32)
    (c2 : BitVec 32) (v520 : BitVec 32) (v522 : BitVec 32) (v523 : BitVec 1) (init : Carry F) (T0 T1 T2 T3 : Tile F)
    (C : Fin 1152 → Buf (Elt F) (aM.view.loc (c : Thread nD τ))) :
    iprop(homeP c (fun _ => stored c XA (nth i (nOf 0 (k0_t1_loop i).trips)) (tiles c XA i arg2 harg2 arg3 harg3 arg4 harg4 arg5 harg5 arg1 v5 v7 v9 v11 v401 v404 v408 v411 v413 v471 v474 v480 v484 v519 c2 v520 v522 v523 f3 f4 init T1 T2 T3 (nOf 0 (k0_t1_loop i).trips))) (nth i (nOf 0 (k0_t1_loop i).trips))
      ∗ homeP c (fun _ => stored c XA (nth i (nOf 1 (k0_t1_loop i).trips)) (tiles c XA i arg2 harg2 arg3 harg3 arg4 harg4 arg5 harg5 arg1 v5 v7 v9 v11 v401 v404 v408 v411 v413 v471 v474 v480 v484 v519 c2 v520 v522 v523 f3 f4 init T1 T2 T3 (nOf 1 (k0_t1_loop i).trips))) (nth i (nOf 1 (k0_t1_loop i).trips))
      ∗ homeP c (fun _ => stored c XA (nth i (nOf 2 (k0_t1_loop i).trips)) (tiles c XA i arg2 harg2 arg3 harg3 arg4 harg4 arg5 harg5 arg1 v5 v7 v9 v11 v401 v404 v408 v411 v413 v471 v474 v480 v484 v519 c2 v520 v522 v523 f3 f4 init T1 T2 T3 (nOf 2 (k0_t1_loop i).trips))) (nth i (nOf 2 (k0_t1_loop i).trips))
      ∗ bigSep (Ring.homeSet 3 (top i - ((k0_t1_loop i).trips + 3))) (homeP c (conts c XA i arg2 harg2 arg3 harg3 arg4 harg4 arg5 harg5 arg1 v5 v7 v9 v11 v401 v404 v408 v411 v413 v471 v474 v480 v484 v519 c2 v520 v522 v523 f3 f4 init T1 T2 T3 (land0 c XA i C T0) (k0_t1_loop i).trips)))
      ⊢ bigSep Finset.univ (homeP c (landed c XA i C (allT T0 (tiles c XA i arg2 harg2 arg3 harg3 arg4 harg4 arg5 harg5 arg1 v5 v7 v9 v11 v401 v404 v408 v411 v413 v471 v474 v480 v484 v519 c2 v520 v522 v523 f3 f4 init T1 T2 T3)) (4 * (i 1).val + 4))) :=
  homes_end c XA i C _ T0 _ _ (trips_eq i) fun b => conts_landed c XA i arg2 harg2 arg3 harg3 arg4 harg4 arg5 harg5 f3 f4 arg1 v5 v7 v9 v11 v401 v404 v408 v411 v413 v471 v474 v480 v484 v519 c2 v520 v522 v523 init T0 T1 T2 T3 C b _
    (by have h1 := trips_eq i; have h2 := top_ge i; omega)

seal tileOf

set_option maxHeartbeats 16000000 in
set_option backward.proofsInPublic true in
/-- The body at a point: the output's stores and the blocks' weights are found by the run. -/
def bodyRun : Σ' (L5 : List (View.Piece (Elt F) S1024x128 .bf16)), { T : ℕ → Tile F //
      ∀ f5 C (hC : ∀ n, n ≤ 4 * (i 1).val + 3 → C (nth i n) = XA) (Q : PUnit → sProp 𝕄),
        iprop(PRE c arg2 arg3 arg4 arg5 f2 f3 f4 f5 C ∗ (POST c XA i arg2 arg3 arg4 arg5 f2 f3 f4 L5 T C -∗ Q ⟨⟩))
        ⊢ wp frame (wpE (defs₀ (F := F)) 𝒱₀ (c : Thread nD τ) none) Set.univ (bodyG i arg2 harg2 arg3 harg3 arg4 harg4 arg5 harg5) Q } := by
  refine ⟨?L5, ⟨?T, ?run⟩⟩
  case run =>
    intro f5 C hC Q
    have h3 := cond3 i; have h4 := cond4 i; have h5 := cond5 i
    have ht := top_lt i; have hg := top_ge i; have htr := trips_eq i
    rw [PRE, homes_start c XA i C hC]
    iintro ⟨⟨H2, H3, H4, H5, ⟨Hg0, Hg1, Hg2, Hg3, Hrest⟩, ⟨%g0, Hs0⟩, ⟨%g1, Hs1⟩, ⟨%g2, Hs2⟩, Hc0, Hc1, Hc2, ⟨%W, HW⟩⟩, Hk⟩
    dsimp only [bodyG]
    sl_exec
    delta bodyRun.sl.dma14 bodyRun.sl.dma26 bodyRun.sl.dma38 bodyRun.sl.dma46
    ihave F1 := (flight_B c XA (nth i 1) g1 k0_pay86 k0_pay88 (k0_pay87 (bodyRun.sl.r_27 c i arg2 arg3 f2 f3))
      (k0_pay89 k0_pay67 (bodyRun.sl.r_26 c i arg2 arg3 f2 f3)) (g' := bodyRun.sl.Hs1_w8 c i arg2 arg3 f2 f3 g1) rfl) $$ [Hc1]
    · iexact Hc1
    ihave F2 := (flight_C c XA (nth i 2) g2 k0_pay110 bodyRun.sl.v367 (k0_pay111 k0_pay94 (bodyRun.sl.r_36 c i arg2 arg3 f2 f3)
      (bodyRun.sl.r_38 c i arg2 arg3 f2 f3) (bodyRun.sl.r_40 c i arg2 arg3 f2 f3) (bodyRun.sl.r_42 c i arg2 arg3 f2 f3))
      (bodyRun.sl.v370 c i arg2 arg3 f2 f3) (g' := bodyRun.sl.Hs2_w12 c i arg2 arg3 f2 f3 g2) rfl) $$ [Hc2]
    · iexact Hc2
    ihave F3 := (flight_pair0 c XA (nth i 3) (bodyRun.sl.Hs0_w4 c i arg2 arg3 f2 f3 g0) _ (bodyRun.sl.v517 c i arg2 arg3 f2 f3)
      (g' := bodyRun.sl.Hs0_w14 c i arg2 arg3 f2 f3 g0) rfl) $$ [Hc0]
    · iexact Hc0
    ihave Hg0' := (home_A c XA (nth i 0) g0 k0_pay59 k0_pay61 (k0_pay60 (bodyRun.sl.r_8 c i arg2 arg3 f2 f3))
      (k0_pay62 (bodyRun.sl.r_9 c i arg2 arg3 f2 f3)) (g' := bodyRun.sl.Hs0_w4 c i arg2 arg3 f2 f3 g0) rfl) $$ [Hg0]
    · iexact Hg0
    ihave Hh := (entails_of_eq (homes_loop c XA i C _).symm) $$ [Hg0' Hrest]
    · isplitl [Hg0']; · iexact Hg0'
      iexact Hrest
    ihave F1' := (flight_slot c XA sl3_1.symm (nth i (0 + 1)) _) $$ [F1]
    · iexact F1
    ihave F2' := (flight_slot c XA sl3_2.symm (nth i (0 + 2)) _) $$ [F2]
    · iexact F2
    ihave F3' := (flight_slot c XA sl3_0.symm (nth i (0 + 3)) _) $$ [F3]
    · iexact F3
    have hD : ∀ n, 4 ≤ n → n ≤ 4 * (i 1).val + 3 → Function.update C (nth i 0) (stored c XA (nth i 0) (tileOf 0 (quadA k0_pay59 k0_pay61 (k0_pay60 (bodyRun.sl.r_8 c i arg2 arg3 f2 f3))
      (k0_pay62 (bodyRun.sl.r_9 c i arg2 arg3 f2 f3))))) (nth i n) = XA :=
      fun n hn hm => (Function.update_of_ne (nth_ne i (by omega) (by omega) (by omega)) _ _).trans (hC n hm)
    ihave U1 := (flight_out c XA _ _ _) $$ F1'
    icases U1 with ⟨%u1, U1⟩
    ihave U2 := (flight_out c XA _ _ _) $$ F2'
    icases U2 with ⟨%u2, U2⟩
    ihave U3 := (flight_out c XA _ _ _) $$ F3'
    icases U3 with ⟨%u3, U3⟩
    sl_exec
    ihave G1 := (flight_in c XA _ _ _ _) $$ U1
    ihave G2 := (flight_in c XA _ _ _ _) $$ U2
    ihave G3 := (flight_in c XA _ _ _ _) $$ U3
    ihave F := (flights_slots c XA i _ (k0_t1_loop i).trips) $$ [G1 G2 G3]
    · isplitl [G1]; · iexact G1
      isplitl [G2]; · iexact G2
      iexact G3
    icases F with ⟨F0, F1, F2⟩
    ihave V0 := (flight_out c XA _ _ _) $$ F0
    icases V0 with ⟨%w0, V0⟩
    ihave V1 := (flight_out c XA _ _ _) $$ F1
    icases V1 with ⟨%w1, V1⟩
    ihave V2 := (flight_out c XA _ _ _) $$ F2
    icases V2 with ⟨%w2, V2⟩
    sl_exec
    sl_step
    ihave HH := (homes_conts c XA i arg2 harg2 arg3 harg3 arg4 harg4 arg5 harg5 _ _ _ _ _ _ _ _ _ _ _ _ _ _ _ _ _ _ _ _ _ _ _ _ _ _ _) $$ [V0_dst V1_dst V2_dst Hh]
    · isplitl [V0_dst]; · iexact V0_dst
      isplitl [V1_dst]; · iexact V1_dst
      isplitl [V2_dst]; · iexact V2_dst
      iexact Hh
    iapply Hk
    unfold POST
    isplitl [H2]; · iexact H2
    isplitl [H3]; · iexact H3
    isplitl [H4]; · iexact H4
    isplitl [H5]; · iexists f5; iexact H5
    isplitl [HH]; · iexact HH
    isplitl [V0_src]; · iexists w0; iexact V0_src
    isplitl [V1_src]; · iexists w1; iexact V1_src
    isplitl [V2_src]; · iexists w2; iexact V2_src
    isplitl [V0]; · iexact V0
    isplitl [V1]; · iexact V1
    isplitl [V2]; · iexact V2
    iexists _
    iexact HW

end Body

end Cert.AttnFwdIdeal.Hand

end
-- ==== Proof.AttnFwdLaunch.lean ====
/- The attention's launch: the proof data of its pipeline, the body's obligation at every point, the run. -/
module

public import proofs.«01_k».proof.Proof.AttnFwdBody

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and buffers -/

abbrev osem : Fin 3 → SemLoc sig := fun s => .dma (csm s).sem
theorem ownSemFacts : Pipeline.OwnSemFacts spec0 osem := by decide

abbrev GB (b : Fin 1152) : Finset S8x144x2x1024x256.Idx := (Rect.unit (s := S8x144x2x1024x256) (grpOff b) S1x1x2x1024x256.size (grpOff_inb b)).set
abbrev SB (s : Fin 3) : Finset S3x2x1024x256.Idx := (Rect.unit (s := S3x2x1024x256) (slotOff s) S1x2x1024x256.size (slotOff_inb s)).set

theorem grp_set (b : Fin 1152) : (grp b).view.set = GB b := (View.set_reshape _ _).trans (View.set_slice_whole _ _)
theorem rslot_set (s : Fin 3) : (rslot s).view.set = SB s := (View.set_reshape _ _).trans (View.set_slice_whole _ _)

theorem mem_GB (b : Fin 1152) (y : S8x144x2x1024x256.Idx) : y ∈ GB b ↔ 144 * (y 0).val + (y 1).val = b.val := by
  rw [Rect.mem_set_unit]
  have hb := b.isLt
  have h0 : (y 0).val < 8 := (y 0).isLt
  have h1 : (y 1).val < 144 := (y 1).isLt
  have h2 : (y 2).val < 2 := (y 2).isLt
  have h3 : (y 3).val < 1024 := (y 3).isLt
  have h4 : (y 4).val < 256 := (y 4).isLt
  constructor
  · intro H
    have a0 : b.val / 144 ≤ (y 0).val ∧ (y 0).val < b.val / 144 + 1 := H 0
    have a1 : b.val % 144 ≤ (y 1).val ∧ (y 1).val < b.val % 144 + 1 := H 1
    omega
  · intro H i; fin_cases i
    · show b.val / 144 ≤ (y 0).val ∧ (y 0).val < b.val / 144 + 1; omega
    · show b.val % 144 ≤ (y 1).val ∧ (y 1).val < b.val % 144 + 1; omega
    · show 0 ≤ (y 2).val ∧ (y 2).val < 0 + 2; omega
    · show 0 ≤ (y 3).val ∧ (y 3).val < 0 + 1024; omega
    · show 0 ≤ (y 4).val ∧ (y 4).val < 0 + 256; omega
theorem mem_SB (s : Fin 3) (y : S3x2x1024x256.Idx) : y ∈ SB s ↔ (y 0).val = s.val := by
  rw [Rect.mem_set_unit]
  have h1 : (y 1).val < 2 := (y 1).isLt
  have h2 : (y 2).val < 1024 := (y 2).isLt
  have h3 : (y 3).val < 256 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 1024; omega
    · show 0 ≤ (y 3).val ∧ (y 3).val < 0 + 256; omega

theorem GB_disjoint : ∀ b b' : Fin 1152, b ≠ b' → Disjoint (GB b) (GB b') := by
  intro b b' hne; rw [Finset.disjoint_left]; intro y hy hy'; rw [mem_GB] at hy hy'; exact hne (Fin.ext (hy.symm.trans hy'))
theorem GB_cover : (Finset.univ : Finset (Fin 1152)).biUnion GB = Finset.univ := by
  ext y; simp only [Finset.mem_biUnion, Finset.mem_univ, true_and, iff_true]
  have h0 : (y 0).val < 8 := (y 0).isLt
  have h1 : (y 1).val < 144 := (y 1).isLt
  exact ⟨⟨144 * (y 0).val + (y 1).val, by omega⟩, by rw [mem_GB]⟩
theorem SB_disjoint : ∀ s s' : Fin 3, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 3)).biUnion SB = Finset.univ := by
  ext y; simp only [Finset.mem_biUnion, Finset.mem_univ, true_and, iff_true]; exact ⟨(y 0).cast (by decide), by rw [mem_SB]; rfl⟩

/-- The weights' array as the region finds it. -/
abbrev XA (c : Dev nD) : Buf (Elt F) (aM.view.loc (c : Thread nD τ)) := V m c main_v3_1

/-- The weights' array whole is its blocks at rest. -/
theorem tiles_eq (c : Dev nD) (f : Buf (Elt F) (aM.view.loc (c : Thread nD τ))) (D : Fin 1152 → Buf (Elt F) (aM.view.loc (c : Thread nD τ)))
    (h : ∀ b, ∀ y ∈ GB b, f y = D b y) :
    (((c : Thread nD τ).loc main_v3_1) ↦{fullShare} f : sProp 𝕄) = bigSep Finset.univ (homeP c D) := by
  rw [Ring.pointsTo_blocks (ℓ := (c : Thread nD τ).loc main_v3_1) GB GB_disjoint GB_cover]
  exact bigSep_congr fun b _ => by
    show _ = ((grp b).view.loc (c : Thread nD τ) ↦[(grp b).view.set]{fullShare} D b : sProp 𝕄)
    rw [grp_set]
    exact pointsTo_congr (h b)

theorem slotP_eq (c : Dev nD) (s : Fin 3) (f) : slotP c s f = (((c : Thread nD τ).loc cc0_scratch0) ↦[SB s]{fullShare} f : sProp 𝕄) :=
  congrArg (fun S => (_ ↦[S]{fullShare} f : sProp 𝕄)) (rslot_set s)

theorem buf_split (c : Dev nD) : iprop(∃ f : Buf (Elt F) ((c : Thread nD τ).loc cc0_scratch0), ((c : Thread nD τ).loc cc0_scratch0) ↦{fullShare} f)
    ⊢ (iprop((∃ f, slotP c 0 f) ∗ (∃ f, slotP c 1 f) ∗ ∃ f, slotP c 2 f) : sProp 𝕄) :=
  Ring.slots3_split (ℓ := (c : Thread nD τ).loc cc0_scratch0) SB SB_disjoint SB_cover _ _ _ (slotP_eq c 0) (slotP_eq c 1) (slotP_eq c 2)
theorem buf_join (c : Dev nD) : iprop((∃ f, slotP c 0 f) ∗ (∃ f, slotP c 1 f) ∗ ∃ f, slotP c 2 f)
    ⊢ (iprop(∃ f : Buf (Elt F) ((c : Thread nD τ).loc cc0_scratch0), ((c : Thread nD τ).loc cc0_scratch0) ↦{fullShare} f) : sProp 𝕄) :=
  Ring.slots3_join (ℓ := (c : Thread nD τ).loc cc0_scratch0) SB SB_disjoint SB_cover _ _ _ (slotP_eq c 0) (slotP_eq c 1) (slotP_eq c 2)

theorem cells_eq (c : Dev nD) : (Pipeline.ownSems0 (Ix := Unit) (Name := ℕ) (U := Pipeline.UD sig nD τ) (Lvl := ℕ) (Val := Elt F) (τ := τ) osem c : sProp 𝕄)
    = iprop(cellP c 0 ∗ cellP c 1 ∗ cellP c 2) := by
  rw [Pipeline.ownSems0_eq_of_list c osem [0, 1, 2] (by decide) (by decide)]; rfl

/-! ## The proof data -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)

/-- The body's run at a point. -/
abbrev runAt (c : Dev nD) (t : Fin cfg0.N) :=
  bodyRun c (XA m c) (grid0.coords t) (ms0_0 t) (hs0_0 t) (ms0_1 t) (hs0_1 t) (ms0_2 t) (hs0_2 t) (ms0_3 t) (hs0_3 t) ((hs0_0 t).unread (iblk m c 0 t)) ((hs0_1 t).unread (iblk m c 1 t)) ((hs0_2 t).unread (iblk m c 2 t))

/-- What a point leaves in the output's buffer. -/
def outAt (c : Dev nD) (t : Fin cfg0.N) : Vec F S1024x128 .bf16 :=
  (ms0_3 t).view.read (Elt F) ((ms0_3 t).view.writes (Elt F) (ms0_3 t).view.junk (runAt m c t).1)

/-- What the blocks of the weights hold after `n` points. -/
def contAt (c : Dev nD) : ℕ → Fin 1152 → Buf (Elt F) (aM.view.loc (c : Thread nD τ))
  | 0 => fun _ => XA m c
  | n + 1 => if h : n < cfg0.N then
      landed c (XA m c) (grid0.coords ⟨n, h⟩) (contAt c n) (runAt m c ⟨n, h⟩).2.1 (4 * (grid0.coords (⟨n, h⟩ : Fin cfg0.N) 1).val + 4)
    else contAt c n

theorem contAt_succ (c : Dev nD) (t : Fin cfg0.N) : contAt m c (t.val + 1)
    = landed c (XA m c) (grid0.coords t) (contAt m c t.val) (runAt m c t).2.1 (4 * (grid0.coords t 1).val + 4) := by
  rw [contAt, dif_pos t.isLt]

/-- The blocks of a point come after those of the points before. -/
theorem first_after : ∀ t t' : Fin grid0.N, t'.val < t.val → top (grid0.coords t') + (4 * (grid0.coords t 1).val + 3) < top (grid0.coords t) := by decide +kernel

/-- A block past the points gone by is as the region finds it. -/
theorem contAt_ahead (c : Dev nD) (b : Fin 1152) : ∀ n : ℕ, n ≤ cfg0.N → (∀ t : Fin cfg0.N, t.val < n → top (grid0.coords t) < b.val) → contAt m c n b = XA m c := by
  intro n
  induction n with
  | zero => intro _ _; rfl
  | succ n ih =>
    intro hn h
    have h1 := h ⟨n, hn⟩ (Nat.lt_succ_self n)
    rw [contAt_succ m c ⟨n, hn⟩, landed, if_neg (by omega)]
    exact ih (by omega) fun t ht => h t (by omega)

theorem contAt_own (c : Dev nD) (t : Fin cfg0.N) (n : ℕ) (hn : n ≤ 4 * (grid0.coords t 1).val + 3) : contAt m c t.val (nth (grid0.coords t) n) = XA m c := by
  refine contAt_ahead m c _ _ t.isLt.le fun t' ht => ?_
  have h1 := first_after t t' ht
  have h2 := top_lt (grid0.coords t)
  have h3 : (nth (grid0.coords t) n).val = top (grid0.coords t) - n := Ring.bk_val (by omega)
  omega

/-- A point's blocks keep what it stored there. -/
theorem contAt_block (c : Dev nD) (t : Fin cfg0.N) (b : Fin 1152) (h1 : b.val ≤ top (grid0.coords t))
    (h2 : top (grid0.coords t) ≤ b.val + (4 * (grid0.coords t 1).val + 3)) :
    ∀ n : ℕ, t.val < n → n ≤ cfg0.N → contAt m c n b = stored c (XA m c) b ((runAt m c t).2.1 (top (grid0.coords t) - b.val)) := by
  intro n
  induction n with
  | zero => intro h; omega
  | succ n ih =>
    intro hn hN
    rw [contAt_succ m c ⟨n, hN⟩, landed]
    by_cases e : t.val = n
    · obtain rfl : t = ⟨n, hN⟩ := Fin.ext e
      rw [if_pos (by omega)]
    · have h3 := first_after ⟨n, hN⟩ t (by show t.val < n; omega)
      rw [if_neg (by omega)]
      exact ih (by omega) (by omega)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := iprop((∃ f : Buf (Elt F) ((c : Thread nD τ).loc cc0_scratch0), ((c : Thread nD τ).loc cc0_scratch0) ↦{fullShare} f)
    ∗ (∃ r, prngReg c r) ∗ (cellP c 0 ∗ cellP c 1 ∗ cellP c 2) ∗ bigSep Finset.univ (homeP c (contAt m c t.val)))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-! Every input's buffer holds its block at every point, fetched there or not. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
/-- and what it returns with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The invariant before a point, conjunct by conjunct, -/
theorem inv_before (c : Dev nD) (t : Fin cfg0.N) : (dats m 0 c).Φ t.castSucc = iprop((∃ f : Buf (Elt F) ((c : Thread nD τ).loc cc0_scratch0), ((c : Thread nD τ).loc cc0_scratch0) ↦{fullShare} f)
    ∗ (∃ r, prngReg c r) ∗ (cellP c 0 ∗ cellP c 1 ∗ cellP c 2) ∗ bigSep Finset.univ (homeP c (contAt m c t.val))) := rfl
/-- and after it. -/
theorem inv_after (c : Dev nD) (t : Fin cfg0.N) : (dats m 0 c).Φ t.succ = iprop((∃ f : Buf (Elt F) ((c : Thread nD τ).loc cc0_scratch0), ((c : Thread nD τ).loc cc0_scratch0) ↦{fullShare} f)
    ∗ (∃ r, prngReg c r) ∗ (cellP c 0 ∗ cellP c 1 ∗ cellP c 2) ∗ bigSep Finset.univ (homeP c
      (landed c (XA m c) (grid0.coords t) (contAt m c t.val) (runAt m c t).2.1 (4 * (grid0.coords t 1).val + 4)))) := by
  rw [← contAt_succ]; rfl

/-- The output's two column halves cover its block. -/
theorem cover (c : Dev nD) (t : Fin cfg0.N) (y : S1024x128.Idx) : ∃ pc ∈ (runAt m c t).1, y ∈ pc.1.set :=
  View.cover_of_tiledL (runAt m c t).1 S1024x64.size (by sl_kernel_rfl) y

set_option maxHeartbeats 4000000 in
/-- The body meets its obligation at every point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [inv_before, inv_after, after0_0, after0_1, after0_2, after0_3]
  unfold Dat.owesAt Pipeline.owesWithin
  rw [show (dats m 0 c).owed t.castSucc = 0 from rfl, show (dats m 0 c).owed t.succ = 0 from rfl]
  unfold owns outAt
  iintro ⟨⟨Hbuf, Hprng, ⟨Hc0, Hc1, Hc2⟩, Hhomes⟩, ⟨%W, -, HW⟩, ⟨%d0, %g0, %e0, H0⟩, ⟨%d1, %g1, %e1, H1⟩, ⟨%d2, %g2, %e2, H2⟩, ⟨%d3, %g3, %e3, H3⟩⟩
  obtain rfl := (hs0_0 t).eq_unread e0
  obtain rfl := (hs0_1 t).eq_unread e1
  obtain rfl := (hs0_2 t).eq_unread e2
  ihave Hs := (buf_split c) $$ Hbuf
  icases Hs with ⟨Hs0, Hs1, Hs2⟩
  iapply ((runAt m c t).2.2 g3 (contAt m c t.val) (contAt_own m c t) _)
  isplitl [H0 H1 H2 H3 Hs0 Hs1 Hs2 Hc0 Hc1 Hc2 Hhomes HW]
  · isplitl [H0]; · iexact H0
    isplitl [H1]; · iexact H1
    isplitl [H2]; · iexact H2
    isplitl [H3]; · iexact H3
    isplitl [Hhomes]; · iexact Hhomes
    isplitl [Hs0]; · iexact Hs0
    isplitl [Hs1]; · iexact Hs1
    isplitl [Hs2]; · iexact Hs2
    isplitl [Hc0]; · iexact Hc0
    isplitl [Hc1]; · iexact Hc1
    isplitl [Hc2]; · iexact Hc2
    iexists W; iexact HW
  iintro ⟨H0, H1, H2, ⟨%f3, H3⟩, Hhomes, Hs0, Hs1, Hs2, Hc0, Hc1, Hc2, ⟨%W', HW⟩⟩
  isplitl [Hs0 Hs1 Hs2 Hprng Hc0 Hc1 Hc2 Hhomes]
  · isplitl [Hs0 Hs1 Hs2]
    · iapply (buf_join c)
      isplitl [Hs0]; · iexact Hs0
      isplitl [Hs1]; · iexact Hs1
      iexact Hs2
    isplitl [Hprng]; · iexact Hprng
    isplitl [Hc0 Hc1 Hc2]
    · isplitl [Hc0]; · iexact Hc0
      isplitl [Hc1]; · iexact Hc1
      iexact Hc2
    iexact Hhomes
  isplitl [HW]
  · iexists W'; isplitr; · ipureintro; exact fun _ _ => Or.inl trivial
    iexact HW
  isplitl [H0]; · iexists _; isplitr; · ipureintro; exact (hs0_0 t).read_unread _
                  iexact H0
  isplitl [H1]; · iexists _; isplitr; · ipureintro; exact (hs0_1 t).read_unread _
                  iexact H1
  isplitl [H2]; · iexists _; isplitr; · ipureintro; exact (hs0_2 t).read_unread _
                  iexact H2
  iexists _; isplitr
  swap; · iexact H3
  ipureintro; exact View.read_writes_of_cover _ _ _ _ _ (cover m c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

/-- The array the kernel writes by its own transfers. -/
abbrev R0 : Finset (Ref sig .tc) := {main_v3_1}

/-- What it holds at the end: each block at what the blocks hold after the last point. -/
def outTiles (c : Dev nD) : Buf (Elt F) (aM.view.loc (c : Thread nD τ)) :=
  fun y => contAt m c cfg0.N (Ring.bk 1152 (144 * (y 0).val + (y 1).val)) y

/-- What the unscoped buffers hold at the end, as far as the kernel's own transfers write them. -/
def G (c : Dev nD) : (b : Ref sig .tc) → Buf (Elt F) ((c.tc : Thread nD τ).loc b) := Function.update (V m c) main_v3_1 (outTiles m c)

theorem G_eq (c : Dev nD) : G m c main_v3_1 = outTiles m c := Function.update_self _ _ _

theorem routed_eq (c : Dev nD) (W : (b : Ref sig .tc) → Buf (Elt F) ((c.tc : Thread nD τ).loc b)) :
    (Pipeline.routed R0 c W : sProp 𝕄) = (((c : Thread nD τ).loc main_v3_1) ↦{fullShare} W main_v3_1) := by
  unfold Pipeline.routed; rw [BI.bigSep_eq_bigSepL_of_eq [main_v3_1] (by decide) (by decide)]; rfl

theorem ends_eq (c : Dev nD) (W : (c : Dev nD) → (b : Ref sig .tc) → Buf (Elt F) ((c.tc : Thread nD τ).loc b)) (D : Fin 1152 → Buf (Elt F) (aM.view.loc (c : Thread nD τ)))
    (h : ∀ b, ∀ y ∈ GB b, W c main_v3_1 y = D b y) :
    (Pipeline.ΦDRG osem spec0 ∅ R0 (V m) W c : sProp 𝕄) = iprop((∃ f : Buf (Elt F) ((c : Thread nD τ).loc cc0_scratch0), ((c : Thread nD τ).loc cc0_scratch0) ↦{fullShare} f)
    ∗ (∃ r, prngReg c r) ∗ (cellP c 0 ∗ cellP c 1 ∗ cellP c 2) ∗ (BI.emp : sProp 𝕄) ∗ bigSep Finset.univ (homeP c D)) := by
  rw [Pipeline.ΦDRG_eq, scopedRest0_eq, cells_eq, routed_eq, tiles_eq c _ D h, BI.bigSep_empty]

theorem drop_emp (A B C D : sProp 𝕄) : iprop(A ∗ B ∗ C ∗ (BI.emp : sProp 𝕄) ∗ D) = iprop(A ∗ B ∗ C ∗ D) :=
  congrArg (fun X : sProp 𝕄 => iprop(A ∗ B ∗ C ∗ X)) (equiv_iff.mp emp_sep)

theorem outTiles_block (c : Dev nD) (b : Fin 1152) (y : S8x144x2x1024x256.Idx) (hy : y ∈ GB b) : outTiles m c y = contAt m c cfg0.N b y := by
  rw [mem_GB] at hy
  unfold outTiles
  rw [show Ring.bk 1152 (144 * (y 0).val + (y 1).val) = b from Fin.ext ((Ring.bk_val (by have := b.isLt; omega)).trans hy)]

theorem hmainD : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution of the kernel's program ends with the pipeline's arrays at what the proof data gives, the weights' array at what the
    blocks hold after the last point, every other array unchanged, and every semaphore at zero. -/
theorem run_quiescent : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem defs₀ 𝒱₀ ownSemFacts ∅ R0 (by decide) (by decide) m ρ main
    (hbody := fun c => (body_obligation m c).loose) (hshare := fun c => (dats m 0 c).share_full fun _ => rfl) (howed := fun _ _ => rfl)
    (V := V m) (hmain := hmainD m) (hA := A_eq m) (G := G m)
    (hin := fun c => entails_of_eq ((ends_eq m c (V m) (contAt m c 0) fun _ _ _ => rfl).trans (drop_emp _ _ _ _)))
    (hout := fun c => entails_of_eq (((ends_eq m c (G m) (contAt m c cfg0.N) fun b y hy => (congrFun (G_eq m c) y).trans (outTiles_block m c b y hy)).trans (drop_emp _ _ _ _)).symm))

/-- The arguments end unchanged, the semaphores at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1.1 c).2 main_arg0 (by decide)).trans (V_main_arg0 m c),
      ((h.1.1 c).2 main_arg1 (by decide)).trans (V_main_arg1 m c),
      ((h.1.1 c).2 main_arg2 (by decide)).trans (V_main_arg2 m c)⟩, h.2⟩) (run_quiescent m ρ)

end Cert.AttnFwdIdeal.Hand

end
-- ==== Proof.AttnFwdMath.lean ====
/- One head of the stick-breaking attention on a tile of queries, over the reals (the values it sums up may be any extended reals): what a key takes from what is left, the weights, and the sums the
   kernel carries from the last block of keys to the first. -/
module

public import proofs.«01_k».proof.Proof.AttnBwdScalar

@[expose] public section

noncomputable section

open Idealize.ShloMosaic
open scoped BigOperators

namespace Cert.AttnFwdIdeal.Value

open Cert.AttnBwdIdeal.Value (softplusR up)

/-- One head's arguments, queries and keys over the reals, for a tile of 1024 queries the first of which is query `n0`. -/
structure Head where
  n0 : ℕ
  q : Fin 1024 → Fin 64 → ℝ
  k : ℕ → Fin 64 → ℝ
  v : ℕ → Fin 64 → EReal

namespace Head

variable (H : Head)

/-- The score of query `a` at key `s`. -/
def score (a : Fin 1024) (s : ℕ) : ℝ := ∑ e : Fin 64, H.q a e * H.k s e

/-- What key `s` takes, as a logarithm, from what is left for the earlier ones. -/
def loss (a : Fin 1024) (s : ℕ) : ℝ := if s < H.n0 + a.val then softplusR (H.score a s) else 0

/-- What the keys from `N` on take. -/
def left (a : Fin 1024) (N : ℕ) : ℝ := ∑ s ∈ Finset.Ico N 8192, H.loss a s

/-- The weight of key `s`. -/
def w (a : Fin 1024) (s : ℕ) : ℝ :=
  if s < H.n0 + a.val then Real.exp (H.score a s - softplusR (H.score a s) - H.left a (s + 1)) else 0

/-- The output's part of the keys from `N` on. -/
def out (a : Fin 1024) (e : Fin 64) (N : ℕ) : EReal := ∑ s ∈ Finset.Ico N 8192, ((H.w a s : ℝ) : EReal) * H.v s e

end Head

/-- A sum from a block on is the block's and the later ones'. -/
theorem sum_ico {M : Type} [AddCommMonoid M] (f : ℕ → M) {N : ℕ} (h : N + 256 ≤ 8192) :
    ∑ s ∈ Finset.Ico N 8192, f s = ∑ b : Fin 256, f (N + b) + ∑ s ∈ Finset.Ico (N + 256) 8192, f s := by
  rw [← Finset.sum_Ico_consecutive f (show N ≤ N + 256 by omega) h, Finset.sum_Ico_eq_sum_range, Nat.add_sub_cancel_left,
    Fin.sum_univ_eq_sum_range (fun s => f (N + s)) 256]

/-- The same after key `b` of the block. -/
theorem sum_after (f : ℕ → ℝ) {N : ℕ} (h : N + 256 ≤ 8192) (b : Fin 256) :
    ∑ s ∈ Finset.Ico (N + b.val + 1) 8192, f s = ∑ j : Fin 256, (if b.val < j.val then f (N + j) else 0) + ∑ s ∈ Finset.Ico (N + 256) 8192, f s := by
  have hb := b.isLt
  rw [← Finset.sum_Ico_consecutive f (show N + b.val + 1 ≤ N + 256 by omega) h]
  congr 1
  rw [Fin.sum_univ_eq_sum_range (fun j => if b.val < j then f (N + j) else 0) 256, ← Finset.sum_filter]
  rw [show Finset.filter (fun j => b.val < j) (Finset.range 256) = Finset.Ico (b.val + 1) 256 from Finset.ext fun j => by
    rw [Finset.mem_filter, Finset.mem_range, Finset.mem_Ico]; omega]
  rw [Finset.sum_Ico_add f (b.val + 1) 256 N]
  exact congrArg₂ (fun x y => ∑ s ∈ Finset.Ico x y, f s) (by omega) (by omega)

/-- The kernel's softplus of a real number. -/
theorem soft_coe (z : ℝ) :
    max (z : EReal) 0 + Ideal.log (((1 : ℝ) : EReal) + Ideal.exp (0 - max (z : EReal) (-(z : EReal)))) = ((softplusR z : ℝ) : EReal) := by
  rw [← Cert.AttnBwdIdeal.Value.softplus_coe, zero_sub, EReal.coe_one]
  rfl

/-- What is carried once the keys from `N` on are done. -/
structure State (H : Head) (N : ℕ) (acc : (⟨2, ![1024, 64]⟩ : Shape).Idx → EReal) (stay : (⟨2, ![1024, 1]⟩ : Shape).Idx → EReal) : Prop where
  out : ∀ a e, acc (ix2 a e) = H.out a e N
  left : ∀ a, stay (ix2 a 0) = ((-(H.left a N) : ℝ) : EReal)

/-- Before any key. -/
theorem State.first (H : Head) {acc : (⟨2, ![1024, 64]⟩ : Shape).Idx → EReal} {stay : (⟨2, ![1024, 1]⟩ : Shape).Idx → EReal} {N : ℕ}
    (hN : H.n0 + 1024 ≤ N) (ha : ∀ a e, acc (ix2 a e) = 0) (hs : ∀ a, stay (ix2 a 0) = 0) : State H N acc stay := by
  have hl : ∀ (a : Fin 1024) (s : ℕ), s ∈ Finset.Ico N 8192 → ¬s < H.n0 + a.val := fun a s h => by
    have h1 := (Finset.mem_Ico.mp h).1
    have h2 : a.val < 1024 := a.isLt
    omega
  refine ⟨fun a e => ?_, fun a => ?_⟩
  · rw [ha, Head.out, Finset.sum_eq_zero fun s h => by rw [Head.w, if_neg (hl a s h), EReal.coe_zero, zero_mul]]
  · rw [hs, Head.left, Finset.sum_eq_zero fun s h => by rw [Head.loss, if_neg (hl a s h)], neg_zero]
    rfl

/-- A block of keys, the rows from `r0` on being given what it adds and the others left as they are. -/
theorem State.step {H : Head} {N R r0 : ℕ} (h : r0 + R = 1024) (hN : N + 256 ≤ 8192) (hp : ∀ a : Fin 1024, a.val < r0 → ∀ b : ℕ, ¬N + b < H.n0 + a.val)
    {acc acc' : (⟨2, ![1024, 64]⟩ : Shape).Idx → EReal} {stay stay' : (⟨2, ![1024, 1]⟩ : Shape).Idx → EReal} (S : State H (N + 256) acc stay)
    {o : (⟨2, ![R, 64]⟩ : Shape).Idx → EReal} {t : (⟨2, ![R, 1]⟩ : Shape).Idx → EReal}
    (ho : ∀ a e, o (ix2 a e) = ∑ b : Fin 256, ((H.w (up h a) (N + b) : ℝ) : EReal) * H.v (N + b) e)
    (ht : ∀ a, t (ix2 a 0) = ((∑ b : Fin 256, H.loss (up h a) (N + b) : ℝ) : EReal))
    (ha : ∀ a e, acc' (ix2 (up h a) e) = acc (ix2 (up h a) e) + o (ix2 a e)) (ha' : ∀ (a : Fin 1024) e, a.val < r0 → acc' (ix2 a e) = acc (ix2 a e))
    (hs : ∀ a, stay' (ix2 (up h a) 0) = stay (ix2 (up h a) 0) - t (ix2 a 0)) (hs' : ∀ a : Fin 1024, a.val < r0 → stay' (ix2 a 0) = stay (ix2 a 0)) :
    State H N acc' stay' := by
  have hu : ∀ a : Fin 1024, ¬a.val < r0 → ∃ a' : Fin R, a = up h a' := fun a hr =>
    ⟨⟨a.val - r0, by have := a.isLt; omega⟩, Fin.ext (show a.val = r0 + (a.val - r0) by omega)⟩
  refine ⟨fun a e => ?_, fun a => ?_⟩
  · rw [Head.out, sum_ico _ hN]
    by_cases hr : a.val < r0
    · rw [ha' a e hr, S.out, Finset.sum_eq_zero fun (b : Fin 256) _ => by rw [Head.w, if_neg (hp a hr b), EReal.coe_zero, zero_mul], zero_add]
      rfl
    · obtain ⟨a', rfl⟩ := hu a hr
      rw [ha, S.out, ho, add_comm]
      rfl
  · rw [Head.left, sum_ico _ hN]
    by_cases hr : a.val < r0
    · rw [hs' a hr, S.left, Finset.sum_eq_zero fun (b : Fin 256) _ => by rw [Head.loss, if_neg (hp a hr b)], zero_add]
      rfl
    · obtain ⟨a', rfl⟩ := hu a hr
      rw [hs, S.left, ht, ← EReal.coe_sub]
      refine congrArg (fun r : ℝ => (r : EReal)) ?_
      unfold Head.left
      ring

end Cert.AttnFwdIdeal.Value

end
-- ==== Proof.AttnFwdBlocks.lean ====
/- What the attention's forward kernel computes on one block of keys for one head, as functions of the block's arguments, for any number of rows of the
   tile of queries, and what they are over the reals. -/
module

public import proofs.«01_k».proof.Proof.AttnFwdMath
public import proofs.«01_k».proof.Proof.AttnFwdRing
public import Idealize.ShloMosaic.Lib.Pipeline.ValueKit

@[expose] public section

set_option maxRecDepth 16384

noncomputable section

open Idealize.ShloMosaic Idealize.ShloMosaic.TcCoe Idealize.SL.Sem
open scoped BigOperators

namespace Cert.AttnFwdIdeal.Value

open Cert.AttnFwdIdeal Cert.AttnFwdIdeal.Gen
open Cert.AttnBwdIdeal.Value (softplusR up)

/-- The products and the two re-readings of a block with `R` rows of queries, and what their entries are. -/
structure Rows (R : ℕ) where
  score : DotDims ⟨2, ![R, 64]⟩ S256x64 ⟨2, ![R, 256]⟩
  right : DotDims ⟨2, ![R, 256]⟩ S256x256 ⟨2, ![R, 256]⟩
  mix : DotDims ⟨2, ![R, 256]⟩ S256x64 ⟨2, ![R, 64]⟩
  wide : (⟨2, ![R, 1]⟩ : Shape).Broadcasts ⟨2, ![R, 256]⟩
  first : (⟨2, ![R, 256]⟩ : Shape).Slices ![0, 0] ⟨2, ![R, 1]⟩
  score_apply : ∀ (x : FVec Ideal ⟨2, ![R, 64]⟩ .bf16) (y : FVec Ideal S256x64 .bf16) (a : Fin R) (b : Fin 256),
    matmul score none x y (constant ⟨2, ![R, 256]⟩ .f32 0x00000000#32) (ix2 a b) = ∑ e : Fin 64, (x (ix2 a e) * y (ix2 b e) : EReal)
  right_apply : ∀ (x : FVec Ideal ⟨2, ![R, 256]⟩ .bf16) (y : FVec Ideal S256x256 .bf16) (a : Fin R) (b : Fin 256),
    matmul right none x y (constant ⟨2, ![R, 256]⟩ .f32 0x00000000#32) (ix2 a b) = ∑ j : Fin 256, (x (ix2 a j) * y (ix2 j b) : EReal)
  mix_apply : ∀ (x : FVec Ideal ⟨2, ![R, 256]⟩ .bf16) (y : FVec Ideal S256x64 .bf16) (a : Fin R) (e : Fin 64),
    matmul mix none x y (constant ⟨2, ![R, 64]⟩ .f32 0x00000000#32) (ix2 a e) = ∑ b : Fin 256, (x (ix2 a b) * y (ix2 b e) : EReal)
  wide_apply : ∀ (x : FVec Ideal ⟨2, ![R, 1]⟩ .f32) (a : Fin R) (b : Fin 256), broadcastTo ⟨2, ![R, 256]⟩ x wide (ix2 a b) = x (ix2 a 0)
  first_apply : ∀ (x : FVec Ideal ⟨2, ![R, 256]⟩ .f32) (a : Fin R), extractStridedSlice ⟨2, ![R, 1]⟩ ![0, 0] x first (ix2 a 0) = x (ix2 a 0)

def rows1024 : Rows 1024 where
  score := dot_S1024x64_S256x64_S1024x256_1_1_0_0_n_n
  right := dot_S1024x256_S256x256_S1024x256_1_0_0_1_n_n
  mix := dot_S1024x256_S256x64_S1024x64_1_0_0_1_n_n
  wide := broadcasts_S1024x1_S1024x256
  first := slices_S1024x256_o0_0_S1024x1
  score_apply x y a b := by pointwise
  right_apply x y a b := by pointwise
  mix_apply x y a b := by pointwise
  wide_apply x a b := by pointwise
  first_apply x a := by pointwise

def rows768 : Rows 768 where
  score := dot_S768x64_S256x64_S768x256_1_1_0_0_n_n
  right := dot_S768x256_S256x256_S768x256_1_0_0_1_n_n
  mix := dot_S768x256_S256x64_S768x64_1_0_0_1_n_n
  wide := broadcasts_S768x1_S768x256
  first := slices_S768x256_o0_0_S768x1
  score_apply x y a b := by pointwise
  right_apply x y a b := by pointwise
  mix_apply x y a b := by pointwise
  wide_apply x a b := by pointwise
  first_apply x a := by pointwise

def rows512 : Rows 512 where
  score := dot_S512x64_S256x64_S512x256_1_1_0_0_n_n
  right := dot_S512x256_S256x256_S512x256_1_0_0_1_n_n
  mix := dot_S512x256_S256x64_S512x64_1_0_0_1_n_n
  wide := broadcasts_S512x1_S512x256
  first := slices_S512x256_o0_0_S512x1
  score_apply x y a b := by pointwise
  right_apply x y a b := by pointwise
  mix_apply x y a b := by pointwise
  wide_apply x a b := by pointwise
  first_apply x a := by pointwise

def rows256 : Rows 256 where
  score := dot_S256x64_S256x64_S256x256_1_1_0_0_n_n
  right := dot_S256x256_S256x256_S256x256_1_0_0_1_n_n
  mix := dot_S256x256_S256x64_S256x64_1_0_0_1_n_n
  wide := broadcasts_S256x1_S256x256
  first := slices_S256x256_o0_0_S256x1
  score_apply x y a b := by pointwise
  right_apply x y a b := by pointwise
  mix_apply x y a b := by pointwise
  wide_apply x a b := by pointwise
  first_apply x a := by pointwise

/-- The kernel's softplus. -/
def soft {s : Shape} (z : FVec Ideal s .f32) : FVec Ideal s .f32 :=
  addf (maximumf z (broadcast s (Scalar.ofBits .f32 0x00000000#32)))
    (log (addf (broadcast s (Scalar.ofBits .f32 0x3F800000#32)) (exp (subf (broadcast s (Scalar.ofBits .f32 0x00000000#32)) (absf z)))))

theorem soft_apply {s : Shape} (z : FVec Ideal s .f32) (j : s.Idx) (x : ℝ) (h : z j = (x : EReal)) : soft z j = ((softplusR x : ℝ) : EReal) := by
  rw [← soft_coe, ← h]
  have e0 : Ideal.ofBits .f32 0x00000000#32 = 0 := by pointwise
  show max (z j : EReal) (Ideal.ofBits .f32 0x00000000#32) + Ideal.log (Ideal.ofBits .f32 0x3F800000#32 + Ideal.exp (Ideal.ofBits .f32 0x00000000#32 - max (z j : EReal) (-(z j : EReal)))) = _
  rw [e0, Cert.Reals.one]

section Block

variable {R : ℕ} (D : Rows R) (keep : FVec Ideal ⟨2, ![R, 256]⟩ .f32 → FVec Ideal ⟨2, ![R, 256]⟩ .f32) (q : FVec Ideal ⟨2, ![R, 64]⟩ .bf16)
  (k v : FVec Ideal S256x64 .bf16) (tri : FVec Ideal S256x256 .bf16) (stay : FVec Ideal ⟨2, ![R, 1]⟩ .f32)

/-- The scores of the block. -/
def scores : FVec Ideal ⟨2, ![R, 256]⟩ .f32 := matmul D.score none q (shapeCast S256x64 k shapeCasts_S256x64_S256x64) (constant ⟨2, ![R, 256]⟩ .f32 0x00000000#32)

/-- What its keys take. -/
def losses : FVec Ideal ⟨2, ![R, 256]⟩ .f32 := keep (soft (scores D q k))

/-- What the later keys of the block take. -/
def later : FVec Ideal ⟨2, ![R, 256]⟩ .f32 := matmul D.right none (truncf .bf16 (losses D keep q k) bitsLt_bf16_f32) tri (constant ⟨2, ![R, 256]⟩ .f32 0x00000000#32)

/-- The weights. -/
def weights : FVec Ideal ⟨2, ![R, 256]⟩ .bf16 :=
  truncf .bf16 (keep (exp (addf (subf (subf (scores D q k) (losses D keep q k)) (later D keep q k tri)) (broadcastTo ⟨2, ![R, 256]⟩ stay D.wide)))) bitsLt_bf16_f32

/-- What the block takes in all. -/
def taken : FVec Ideal ⟨2, ![R, 1]⟩ .f32 :=
  addf (extractStridedSlice ⟨2, ![R, 1]⟩ ![0, 0] (later D keep q k tri) D.first) (extractStridedSlice ⟨2, ![R, 1]⟩ ![0, 0] (losses D keep q k) D.first)

/-- The values, weighted. -/
def mixed : FVec Ideal ⟨2, ![R, 64]⟩ .f32 :=
  matmul D.mix none (weights D keep q k tri stay) (shapeCast S256x64 v shapeCasts_S256x64_S256x64) (constant ⟨2, ![R, 64]⟩ .f32 0x00000000#32)

/-- The block's arguments are those of a head: the rows from `r0` on of the tile, and the keys from `N` on. -/
structure Holds (H : Head) (N : ℕ) {r0 : ℕ} (h : r0 + R = 1024) : Prop where
  room : N + 256 ≤ 8192
  keep : ∀ x (a : Fin R) (b : Fin 256), keep x (ix2 a b) = if N + b.val < H.n0 + (r0 + a.val) then x (ix2 a b) else (0 : EReal)
  q : ∀ a e, q (ix2 a e) = ((H.q (up h a) e : ℝ) : EReal)
  k : ∀ (b : Fin 256) e, k (ix2 b e) = ((H.k (N + b) e : ℝ) : EReal)
  v : ∀ (b : Fin 256) e, v (ix2 b e) = H.v (N + b) e
  tri : ∀ (j b : Fin 256), tri (ix2 j b) = if b.val < j.val then (1 : EReal) else 0
  stay : ∀ a, stay (ix2 a 0) = ((-(H.left (up h a) (N + 256)) : ℝ) : EReal)

variable {D keep q k v tri stay} {H : Head} {N r0 : ℕ} {h : r0 + R = 1024} (B : Holds keep q k v tri stay H N h)
include B

theorem Holds.scores_apply (a : Fin R) (b : Fin 256) : scores D q k (ix2 a b) = ((H.score (up h a) (N + b) : ℝ) : EReal) := by
  unfold scores
  rw [D.score_apply, Head.score, ← Cert.Reals.coe_sum]
  refine Finset.sum_congr rfl fun e _ => ?_
  rw [EReal.coe_mul, ← B.q a e, ← B.k b e]
  refine congrArg (fun x : EReal => (q (ix2 a e) : EReal) * x) ?_
  pointwise

theorem Holds.losses_apply (a : Fin R) (b : Fin 256) : losses D keep q k (ix2 a b) = ((H.loss (up h a) (N + b) : ℝ) : EReal) := by
  unfold losses
  rw [B.keep, soft_apply _ _ _ (B.scores_apply a b), Head.loss]
  by_cases hl : N + b.val < H.n0 + (r0 + a.val)
  · rw [if_pos hl, if_pos (show N + b.val < H.n0 + (up h a).val from hl)]
  · rw [if_neg hl, if_neg (show ¬N + b.val < H.n0 + (up h a).val from hl)]; rfl

theorem Holds.later_apply (a : Fin R) (b : Fin 256) :
    later D keep q k tri (ix2 a b) = ((∑ j : Fin 256, (if b.val < j.val then H.loss (up h a) (N + j) else 0) : ℝ) : EReal) := by
  unfold later
  rw [D.right_apply, ← Cert.Reals.coe_sum]
  refine Finset.sum_congr rfl fun j _ => ?_
  rw [B.tri]
  refine (congrArg (fun x : EReal => x * (if b.val < j.val then (1 : EReal) else 0)) (B.losses_apply (D := D) a j)).trans ?_
  by_cases hj : b.val < j.val
  · rw [if_pos hj, if_pos hj, mul_one]
  · rw [if_neg hj, if_neg hj, mul_zero]; rfl

theorem Holds.weights_apply (a : Fin R) (b : Fin 256) : weights D keep q k tri stay (ix2 a b) = ((H.w (up h a) (N + b) : ℝ) : EReal) := by
  unfold weights
  refine (B.keep _ a b).trans ?_
  unfold Head.w
  by_cases hl : N + b.val < H.n0 + (r0 + a.val)
  · rw [if_pos hl, if_pos (show N + b.val < H.n0 + (up h a).val from hl)]
    show Ideal.exp ((scores D q k (ix2 a b) - losses D keep q k (ix2 a b) - later D keep q k tri (ix2 a b) : EReal) + broadcastTo ⟨2, ![R, 256]⟩ stay D.wide (ix2 a b)) = _
    rw [B.scores_apply, B.losses_apply, B.later_apply, D.wide_apply, B.stay, ← EReal.coe_sub, ← EReal.coe_sub, ← EReal.coe_add]
    show ((Real.exp _ : ℝ) : EReal) = _
    refine congrArg (fun r : ℝ => ((Real.exp r : ℝ) : EReal)) ?_
    rw [Head.left, Head.left, sum_after _ B.room b, Head.loss, if_pos (show N + b.val < H.n0 + (up h a).val from hl)]
    ring
  · rw [if_neg hl, if_neg (show ¬N + b.val < H.n0 + (up h a).val from hl)]; rfl

theorem Holds.taken_apply (a : Fin R) : taken D keep q k tri (ix2 a 0) = ((∑ b : Fin 256, H.loss (up h a) (N + b) : ℝ) : EReal) := by
  unfold taken
  show (extractStridedSlice ⟨2, ![R, 1]⟩ ![0, 0] (later D keep q k tri) D.first (ix2 a 0) + extractStridedSlice ⟨2, ![R, 1]⟩ ![0, 0] (losses D keep q k) D.first (ix2 a 0) : EReal) = _
  rw [D.first_apply, D.first_apply, B.later_apply, B.losses_apply, ← EReal.coe_add]
  refine congrArg (fun r : ℝ => (r : EReal)) ?_
  rw [← Finset.sum_erase_add _ _ (Finset.mem_univ (0 : Fin 256)), ← Finset.sum_erase_add _ (fun b : Fin 256 => H.loss (up h a) (N + b)) (Finset.mem_univ (0 : Fin 256)),
    if_neg (lt_irrefl _), add_zero]
  congr 1
theorem Holds.mixed_apply (a : Fin R) (e : Fin 64) :
    mixed D keep q k v tri stay (ix2 a e) = ∑ b : Fin 256, ((H.w (up h a) (N + b) : ℝ) : EReal) * H.v (N + b) e := by
  unfold mixed
  rw [D.mix_apply]
  refine Finset.sum_congr rfl fun b _ => ?_
  rw [← B.weights_apply (D := D) a b, ← B.v b e]
  refine congrArg (fun x : EReal => (weights D keep q k tri stay (ix2 a b) : EReal) * x) ?_
  pointwise

end Block

end Cert.AttnFwdIdeal.Value

end
-- ==== Proof.AttnFwdSteps.lean ====
/- One block of keys for one head, with what is carried from block to block: a block of the diagonal touches the rows from its own first query on, a
   block before it all of them. -/
module

public import proofs.«01_k».proof.Proof.AttnFwdBlocks

@[expose] public section

set_option maxRecDepth 16384

noncomputable section

open Idealize.ShloMosaic Idealize.ShloMosaic.TcCoe Idealize.SL.Sem
open scoped BigOperators

namespace Cert.AttnFwdIdeal.Value

open Cert.AttnFwdIdeal Cert.AttnFwdIdeal.Gen
open Cert.AttnBwdIdeal.Value (softplusR up)

/-- The tile's rows cut after the first `r0`: the pieces and what their entries are. -/
structure Cut (r0 R : ℕ) where
  split : r0 + R = 1024
  low64 : S1024x64.Slices ![r0, 0] ⟨2, ![R, 64]⟩
  top64 : S1024x64.Slices ![0, 0] ⟨2, ![r0, 64]⟩
  join64 : Shape.Concatenates [⟨2, ![r0, 64]⟩, ⟨2, ![R, 64]⟩] S1024x64 0
  low1 : S1024x1.Slices ![r0, 0] ⟨2, ![R, 1]⟩
  top1 : S1024x1.Slices ![0, 0] ⟨2, ![r0, 1]⟩
  join1 : Shape.Concatenates [⟨2, ![r0, 1]⟩, ⟨2, ![R, 1]⟩] S1024x1 0
  low64_apply : ∀ {φ : FTy} (x : FVec Ideal S1024x64 φ) (a : Fin R) e, extractStridedSlice ⟨2, ![R, 64]⟩ ![r0, 0] x low64 (ix2 a e) = x (ix2 (up split a) e)
  low1_apply : ∀ (x : FVec Ideal S1024x1 .f32) (a : Fin R), extractStridedSlice ⟨2, ![R, 1]⟩ ![r0, 0] x low1 (ix2 a 0) = x (ix2 (up split a) 0)
  join64_low : ∀ (x : FVec Ideal ⟨2, ![r0, 64]⟩ .f32) (y : FVec Ideal ⟨2, ![R, 64]⟩ .f32) (a : Fin R) e,
    concatenate S1024x64 0 [⟨⟨2, ![r0, 64]⟩, x⟩, ⟨⟨2, ![R, 64]⟩, y⟩] join64 (ix2 (up split a) e) = y (ix2 a e)
  join64_top : ∀ (x : FVec Ideal S1024x64 .f32) (y : FVec Ideal ⟨2, ![R, 64]⟩ .f32) (a : Fin 1024) e, a.val < r0 →
    concatenate S1024x64 0 [⟨⟨2, ![r0, 64]⟩, extractStridedSlice ⟨2, ![r0, 64]⟩ ![0, 0] x top64⟩, ⟨⟨2, ![R, 64]⟩, y⟩] join64 (ix2 a e) = x (ix2 a e)
  join1_low : ∀ (x : FVec Ideal ⟨2, ![r0, 1]⟩ .f32) (y : FVec Ideal ⟨2, ![R, 1]⟩ .f32) (a : Fin R),
    concatenate S1024x1 0 [⟨⟨2, ![r0, 1]⟩, x⟩, ⟨⟨2, ![R, 1]⟩, y⟩] join1 (ix2 (up split a) 0) = y (ix2 a 0)
  join1_top : ∀ (x : FVec Ideal S1024x1 .f32) (y : FVec Ideal ⟨2, ![R, 1]⟩ .f32) (a : Fin 1024), a.val < r0 →
    concatenate S1024x1 0 [⟨⟨2, ![r0, 1]⟩, extractStridedSlice ⟨2, ![r0, 1]⟩ ![0, 0] x top1⟩, ⟨⟨2, ![R, 1]⟩, y⟩] join1 (ix2 a 0) = x (ix2 a 0)

def cut768 : Cut 768 256 where
  split := rfl
  low64 := slices_S1024x64_o768_0_S256x64
  top64 := slices_S1024x64_o0_0_S768x64
  join64 := concatenates_S768x64_S256x64_S1024x64_d0
  low1 := slices_S1024x1_o768_0_S256x1
  top1 := slices_S1024x1_o0_0_S768x1
  join1 := concatenates_S768x1_S256x1_S1024x1_d0
  low64_apply x a e := by pointwise [up]
  low1_apply x a := by pointwise [up]
  join64_low x y a e := by pointwise [up]
  join64_top x y a e ha := by pointwise; rw [dif_pos ha]
  join1_low x y a := by pointwise [up]
  join1_top x y a ha := by pointwise; rw [dif_pos ha]

def cut512 : Cut 512 512 where
  split := rfl
  low64 := slices_S1024x64_o512_0_S512x64
  top64 := slices_S1024x64_o0_0_S512x64
  join64 := concatenates_S512x64_S512x64_S1024x64_d0
  low1 := slices_S1024x1_o512_0_S512x1
  top1 := slices_S1024x1_o0_0_S512x1
  join1 := concatenates_S512x1_S512x1_S1024x1_d0
  low64_apply x a e := by pointwise [up]
  low1_apply x a := by pointwise [up]
  join64_low x y a e := by pointwise [up]
  join64_top x y a e ha := by pointwise; rw [dif_pos ha]
  join1_low x y a := by pointwise [up]
  join1_top x y a ha := by pointwise; rw [dif_pos ha]

def cut256 : Cut 256 768 where
  split := rfl
  low64 := slices_S1024x64_o256_0_S768x64
  top64 := slices_S1024x64_o0_0_S256x64
  join64 := concatenates_S256x64_S768x64_S1024x64_d0
  low1 := slices_S1024x1_o256_0_S768x1
  top1 := slices_S1024x1_o0_0_S256x1
  join1 := concatenates_S256x1_S768x1_S1024x1_d0
  low64_apply x a e := by pointwise [up]
  low1_apply x a := by pointwise [up]
  join64_low x y a e := by pointwise [up]
  join64_top x y a e ha := by pointwise; rw [dif_pos ha]
  join1_low x y a := by pointwise [up]
  join1_top x y a ha := by pointwise; rw [dif_pos ha]

/-- Only what a mask lets through. -/
def masked {R : ℕ} (m : IVec ⟨2, ![R, 256]⟩ 1) (x : FVec Ideal ⟨2, ![R, 256]⟩ .f32) : FVec Ideal ⟨2, ![R, 256]⟩ .f32 :=
  select m x (broadcast ⟨2, ![R, 256]⟩ (Scalar.ofBits .f32 0x00000000#32))

/-- Comparing two small numbers as the kernel's words does. -/
theorem less (a b : ℕ) (ha : a < 1024) (hb : b < 1024) : IntOp.cmpi CmpIPredicate.slt (BitVec.ofNat 32 a) (BitVec.ofNat 32 b) = if a < b then 1#1 else 0#1 := by
  have e : ∀ n : ℕ, n < 1024 → (BitVec.ofNat 32 n).toInt = (n : ℤ) := fun n hn => by
    rw [BitVec.toInt_eq_toNat_cond, BitVec.toNat_ofNat, Nat.mod_eq_of_lt (by omega), if_pos (by omega)]
  unfold IntOp.cmpi
  simp only [BitVec.slt, e a ha, e b hb, Nat.cast_lt]
  by_cases h : a < b <;> simp [h]

theorem masked_apply {R : ℕ} (m : IVec ⟨2, ![R, 256]⟩ 1) (hm : ∀ (a : Fin R) (b : Fin 256), m (ix2 a b) = if b.val < a.val then 1#1 else 0#1)
    (x : FVec Ideal ⟨2, ![R, 256]⟩ .f32) (a : Fin R) (b : Fin 256) : masked m x (ix2 a b) = if b.val < a.val then x (ix2 a b) else (0 : EReal) := by
  have e0 : Ideal.ofBits .f32 0x00000000#32 = 0 := by pointwise
  show Scalar.select (m (ix2 a b)) (x (ix2 a b)) (Ideal.ofBits .f32 0x00000000#32) = _
  rw [hm, e0]
  by_cases h : b.val < a.val
  · rw [if_pos h, if_pos h]; rfl
  · rw [if_neg h, if_neg h]; rfl

/-! ## A block of the diagonal -/

section Diagonal

variable {r0 R : ℕ} (C : Cut r0 R) (D : Rows R) (m : IVec ⟨2, ![R, 256]⟩ 1) (q : FVec Ideal S1024x64 .bf16) (k v : FVec Ideal S256x64 .bf16)
  (tri : FVec Ideal S256x256 .bf16) (acc : FVec Ideal S1024x64 .f32) (stay : FVec Ideal S1024x1 .f32)

def lowQ : FVec Ideal ⟨2, ![R, 64]⟩ .bf16 := extractStridedSlice ⟨2, ![R, 64]⟩ ![r0, 0] q C.low64
def lowStay : FVec Ideal ⟨2, ![R, 1]⟩ .f32 := extractStridedSlice ⟨2, ![R, 1]⟩ ![r0, 0] stay C.low1

/-- Its weights. -/
def cutWeights : FVec Ideal ⟨2, ![R, 256]⟩ .bf16 := weights D (masked m) (lowQ C q) k tri (lowStay C stay)

/-- The output after it. -/
def cutAcc : FVec Ideal S1024x64 .f32 :=
  concatenate S1024x64 0 [⟨⟨2, ![r0, 64]⟩, extractStridedSlice ⟨2, ![r0, 64]⟩ ![0, 0] acc C.top64⟩,
    ⟨⟨2, ![R, 64]⟩, addf (extractStridedSlice ⟨2, ![R, 64]⟩ ![r0, 0] acc C.low64) (mixed D (masked m) (lowQ C q) k v tri (lowStay C stay))⟩] C.join64

/-- What is left after it. -/
def cutStay : FVec Ideal S1024x1 .f32 :=
  concatenate S1024x1 0 [⟨⟨2, ![r0, 1]⟩, extractStridedSlice ⟨2, ![r0, 1]⟩ ![0, 0] stay C.top1⟩,
    ⟨⟨2, ![R, 1]⟩, subf (lowStay C stay) (taken D (masked m) (lowQ C q) k tri)⟩] C.join1

variable {C D m q k v tri acc stay} {H : Head}

/-- The block over the reals. -/
theorem cut_real (hm : ∀ (a : Fin R) (b : Fin 256), m (ix2 a b) = if b.val < a.val then 1#1 else 0#1) (hN : H.n0 + r0 + 256 ≤ 8192)
    (hq : ∀ a e, q (ix2 a e) = ((H.q a e : ℝ) : EReal)) (hk : ∀ (b : Fin 256) e, k (ix2 b e) = ((H.k (H.n0 + r0 + b) e : ℝ) : EReal))
    (hv : ∀ (b : Fin 256) e, v (ix2 b e) = H.v (H.n0 + r0 + b) e) (ht : ∀ (j b : Fin 256), tri (ix2 j b) = if b.val < j.val then (1 : EReal) else 0)
    (S : State H (H.n0 + r0 + 256) acc stay) :
    State H (H.n0 + r0) (cutAcc C D m q k v tri acc stay) (cutStay C D m q k tri stay)
      ∧ ∀ a b, cutWeights C D m q k tri stay (ix2 a b) = ((H.w (up C.split a) (H.n0 + r0 + b) : ℝ) : EReal) := by
  have B : Holds (masked m) (lowQ C q) k v tri (lowStay C stay) H (H.n0 + r0) C.split := by
    refine ⟨hN, fun x a b => ?_, fun a e => ?_, hk, hv, ht, fun a => ?_⟩
    · rw [masked_apply m hm]
      exact if_congr (by omega) rfl rfl
    · exact (C.low64_apply q a e).trans (hq _ _)
    · exact (C.low1_apply stay a).trans (S.left _)
  refine ⟨State.step C.split hN (fun a ha b => by omega) S (B.mixed_apply (D := D)) (B.taken_apply (D := D)) (fun a e => ?_) (fun a e ha => ?_) (fun a => ?_) (fun a ha => ?_),
    B.weights_apply (D := D)⟩
  · refine (C.join64_low _ _ a e).trans ?_
    exact congrArg (fun x : EReal => x + mixed D (masked m) (lowQ C q) k v tri (lowStay C stay) (ix2 a e)) (C.low64_apply acc a e)
  · exact C.join64_top acc _ a e ha
  · refine (C.join1_low _ _ a).trans ?_
    exact congrArg (fun x : EReal => x - taken D (masked m) (lowQ C q) k tri (ix2 a 0)) (C.low1_apply stay a)
  · exact C.join1_top stay _ a ha

end Diagonal

/-! ## A block that touches all rows -/

section Full

variable (keep : FVec Ideal S1024x256 .f32 → FVec Ideal S1024x256 .f32) (q : FVec Ideal S1024x64 .bf16) (k v : FVec Ideal S256x64 .bf16)
  (tri : FVec Ideal S256x256 .bf16) (acc : FVec Ideal S1024x64 .f32) (stay : FVec Ideal S1024x1 .f32)

def fullAcc : FVec Ideal S1024x64 .f32 := addf acc (mixed rows1024 keep q k v tri stay)
def fullStay : FVec Ideal S1024x1 .f32 := subf stay (taken rows1024 keep q k tri)

variable {keep q k v tri acc stay} {H : Head} {N : ℕ}

theorem full_real (hkeep : ∀ x (a : Fin 1024) (b : Fin 256), keep x (ix2 a b) = if N + b.val < H.n0 + a.val then x (ix2 a b) else (0 : EReal)) (hN : N + 256 ≤ 8192)
    (hq : ∀ a e, q (ix2 a e) = ((H.q a e : ℝ) : EReal)) (hk : ∀ (b : Fin 256) e, k (ix2 b e) = ((H.k (N + b) e : ℝ) : EReal))
    (hv : ∀ (b : Fin 256) e, v (ix2 b e) = H.v (N + b) e) (ht : ∀ (j b : Fin 256), tri (ix2 j b) = if b.val < j.val then (1 : EReal) else 0)
    (S : State H (N + 256) acc stay) :
    State H N (fullAcc keep q k v tri acc stay) (fullStay keep q k tri stay)
      ∧ ∀ a b, weights rows1024 keep q k tri stay (ix2 a b) = ((H.w a (N + b) : ℝ) : EReal) := by
  have hu : ∀ a : Fin 1024, up (R := 1024) (r0 := 0) rfl a = a := fun a => Fin.ext (show 0 + a.val = a.val by omega)
  have B : Holds keep q k v tri stay H N (R := 1024) (r0 := 0) rfl := by
    refine ⟨hN, fun x a b => ?_, fun a e => ?_, hk, hv, ht, fun a => ?_⟩
    · rw [hkeep, Nat.zero_add]
    · rw [hu]; exact hq _ _
    · rw [hu]; exact S.left _
  refine ⟨State.step (R := 1024) (r0 := 0) rfl hN (fun a ha => absurd ha (Nat.not_lt_zero _)) S (B.mixed_apply (D := rows1024)) (B.taken_apply (D := rows1024))
    (fun a e => ?_) (fun a e ha => absurd ha (Nat.not_lt_zero _)) (fun a => ?_) (fun a ha => absurd ha (Nat.not_lt_zero _)), fun a b => ?_⟩
  · rw [hu]; rfl
  · rw [hu]; rfl
  · rw [B.weights_apply (D := rows1024), hu]

end Full

end Cert.AttnFwdIdeal.Value

end
-- ==== Proof.AttnFwdTripValue.lean ====
/- One trip over the reals: what is carried after a block before the diagonal and the weights it stores. -/
module

public import proofs.«01_k».proof.Proof.AttnFwdTrip
public import proofs.«01_k».proof.Proof.AttnFwdSteps
public import proofs.«01_k».proof.Proof.AttnBwdReads

@[expose] public section

set_option maxRecDepth 16384

noncomputable section

open Idealize.ShloMosaic Idealize.ShloMosaic.TcCoe Idealize.SL.Sem
open scoped BigOperators

namespace Cert.AttnFwdIdeal.Value

open Cert.AttnFwdIdeal Cert.AttnFwdIdeal.Gen Cert.AttnFwdIdeal.Hand
open Cert.AttnBwdIdeal.Value (softplusR up lo hi readAt_lo readAt_hi)

/-- Which key comes before which in a block: the triangle the sums over the block are taken with. -/
theorem tri_apply (j b : Fin 256) : (k0_pay33 (F := Ideal)) (ix2 j b) = if b.val < j.val then (1 : EReal) else 0 := by
  have e : IntOp.cmpi CmpIPredicate.sgt (BitVec.ofNat 32 j.val) (BitVec.ofNat 32 b.val) = if b.val < j.val then 1#1 else 0#1 := by
    have h := less b.val j.val (by omega) (by omega)
    rw [← h]; rfl
  have e2 : (k0_pay33 (F := Ideal)) (ix2 j b) = FloatOps.sitofp (F := Ideal) .f32 ((IntOp.cmpi CmpIPredicate.sgt (BitVec.ofNat 32 j.val) (BitVec.ofNat 32 b.val)).setWidth 32) := by
    pointwise [k0_pay33]
  rw [e2, e]
  by_cases h : b.val < j.val
  · rw [if_pos h, if_pos h]
    show ((((1#1 : BitVec 1).setWidth 32).toInt : ℝ) : EReal) = 1
    simp
  · rw [if_neg h, if_neg h]
    show ((((0#1 : BitVec 1).setWidth 32).toInt : ℝ) : EReal) = 0
    simp

/-- A tile's block of rows as the ring holds it. -/
theorem cast1024 (x : FVec Ideal S1024x256 .bf16) (a : Fin 1024) (b : Fin 256) : shapeCast S1x1x1024x256 x shapeCasts_S1024x256_S1x1x1024x256 (ix4 0 0 a b) = x (ix2 a b) := by pointwise
theorem cast768 (x : FVec Ideal S768x256 .bf16) (a : Fin 768) (b : Fin 256) : shapeCast S1x1x768x256 x shapeCasts_S768x256_S1x1x768x256 (ix4 0 0 a b) = x (ix2 a b) := by pointwise
theorem cast512 (x : FVec Ideal S512x256 .bf16) (a : Fin 512) (b : Fin 256) : shapeCast S1x1x512x256 x shapeCasts_S512x256_S1x1x512x256 (ix4 0 0 a b) = x (ix2 a b) := by pointwise
theorem cast256 (x : FVec Ideal S256x256 .bf16) (a : Fin 256) (b : Fin 256) : shapeCast S1x1x256x256 x shapeCasts_S256x256_S1x1x256x256 (ix4 0 0 a b) = x (ix2 a b) := by pointwise

/-- The rows of a trip's keys. -/
theorem off4_eq : ∀ (i : grid0.Coords) (k : Fin (k0_t1_loop i).trips), k0_off4 i k = ![1024 * (i 1).val - 256 * (k.val + 1), 0] := by decide +kernel
theorem off5_eq : ∀ (i : grid0.Coords) (k : Fin (k0_t1_loop i).trips), k0_off5 i k = ![1024 * (i 1).val - 256 * (k.val + 1), 64] := by decide +kernel

/-- What is carried once only the first `N` keys are left. -/
structure Good (H0 H1 : Head) (N : ℕ) (t : Carry Ideal) : Prop where
  lo : State H0 N t.1 t.2.1
  hi : State H1 N t.2.2.1 t.2.2.2

/-- The operands at a grid point are those of the two heads. -/
structure Operands {sig : RefSig} {κ : Kind} {sp : Space} (i : grid0.Coords) (q0 q1 : FVec Ideal S1024x64 .bf16) (va vb : View sig κ sp S8192x128 .bf16)
    (f3 : va.ty.Contents (Elt Ideal)) (f4 : vb.ty.Contents (Elt Ideal)) (H0 H1 : Head) : Prop where
  n0 : H0.n0 = 1024 * (i 1).val
  n1 : H1.n0 = 1024 * (i 1).val
  q0 : ∀ a e, q0 (ix2 a e) = ((H0.q a e : ℝ) : EReal)
  q1 : ∀ a e, q1 (ix2 a e) = ((H1.q a e : ℝ) : EReal)
  k0 : ∀ (r : Fin 8192) e, va.read (Elt Ideal) f3 (ix2 r (lo e)) = ((H0.k r e : ℝ) : EReal)
  k1 : ∀ (r : Fin 8192) e, va.read (Elt Ideal) f3 (ix2 r (hi e)) = ((H1.k r e : ℝ) : EReal)
  v0 : ∀ (r : Fin 8192) e, vb.read (Elt Ideal) f4 (ix2 r (lo e)) = H0.v r e
  v1 : ∀ (r : Fin 8192) e, vb.read (Elt Ideal) f4 (ix2 r (hi e)) = H1.v r e

section Trip

variable (c : Dev nD) (XA : Buf (Elt Ideal) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (arg1 : BitVec 32) (v7 : FVec Ideal S1024x64 .bf16) (v9 : FVec Ideal S1024x64 .bf16) (v11 : BitVec 32)
  (v401 : FVec Ideal S1024x64 .f32) (v404 : FVec Ideal S1024x1 .f32) (v408 : FVec Ideal S1024x64 .f32) (v411 : FVec Ideal S1024x1 .f32) (v413 : BitVec 32)
  (v471 : FVec Ideal S1024x1 .f32) (v474 : FVec Ideal S1024x1 .f32) (v480 : FVec Ideal S1024x64 .f32) (v484 : FVec Ideal S1024x64 .f32) (v519 : BitVec 32)
  (c2 : BitVec 32) (v520 : BitVec 32) (v522 : BitVec 32) (v523 : BitVec 1)
  (f3 : Buf (Elt Ideal) (arg3.view.loc (c : Thread nD τ))) (f4 : Buf (Elt Ideal) (arg4.view.loc (c : Thread nD τ)))
  {H0 H1 : Head}

/-- One trip: what it carries on, and the weights it stores. -/
theorem Good.trip (O : Operands i v7 v9 arg3.view arg4.view f3 f4 H0 H1) (k : Fin (k0_t1_loop i).trips) (t : Carry Ideal)
    (G : Good H0 H1 (1024 * (i 1).val - 256 * k.val) t) :
    Good H0 H1 (1024 * (i 1).val - 256 * (k.val + 1)) (tripRun c XA i arg2 harg2 arg3 harg3 arg4 harg4 arg5 harg5 arg1 k0_pay33 v7 v9 v11 v401 v404 v408 v411 v413 v471 v474 v480 v484 v519 c2 v520 v522 v523 f3 f4 k t.1 t.2.1 t.2.2.1 t.2.2.2).1
      ∧ (∀ a b, (tripRun c XA i arg2 harg2 arg3 harg3 arg4 harg4 arg5 harg5 arg1 k0_pay33 v7 v9 v11 v401 v404 v408 v411 v413 v471 v474 v480 v484 v519 c2 v520 v522 v523 f3 f4 k t.1 t.2.1 t.2.2.1 t.2.2.2).2.1 (ix4 0 0 a b)
        = ((H0.w a (1024 * (i 1).val - 256 * (k.val + 1) + b) : ℝ) : EReal))
      ∧ (∀ a b, (tripRun c XA i arg2 harg2 arg3 harg3 arg4 harg4 arg5 harg5 arg1 k0_pay33 v7 v9 v11 v401 v404 v408 v411 v413 v471 v474 v480 v484 v519 c2 v520 v522 v523 f3 f4 k t.1 t.2.1 t.2.2.1 t.2.2.2).2.2.1 (ix4 0 0 a b)
        = ((H1.w a (1024 * (i 1).val - 256 * (k.val + 1) + b) : ℝ) : EReal)) := by
  have hk : k.val < 4 * (i 1).val := lt_of_lt_of_eq k.isLt (trips_eq i)
  have hi1 : (i 1).val < 8 := (i 1).isLt
  have o4 := off4_eq i k
  have o5 := off5_eq i k
  set N := 1024 * (i 1).val - 256 * (k.val + 1) with hN
  have eN : 1024 * (i 1).val - 256 * k.val = N + 256 := by omega
  rw [eN] at G
  have row : ∀ b : Fin 256, N + b.val < 8192 := fun b => by have := b.isLt; omega
  let inb4 : ∀ a : Fin 2, k0_off4 i k a + (![256, 64] : Fin 2 → ℕ) a ≤ (![8192, 128] : Fin 2 → ℕ) a := by
    rw [o4]; intro a; fin_cases a <;> simp <;> omega
  let inb5 : ∀ a : Fin 2, k0_off5 i k a + (![256, 64] : Fin 2 → ℕ) a ≤ (![8192, 128] : Fin 2 → ℕ) a := by
    rw [o5]; intro a; fin_cases a <;> simp <;> omega
  let K0 : Vec Ideal S256x64 .bf16 := arg3.view.readAt (Elt Ideal) (Rect.unit (s := S8192x128) (k0_off4 i k) ![256, 64] inb4).toLoadRect f3
  let K1 : Vec Ideal S256x64 .bf16 := arg3.view.readAt (Elt Ideal) (Rect.unit (s := S8192x128) (k0_off5 i k) ![256, 64] inb5).toLoadRect f3
  let V0 : Vec Ideal S256x64 .bf16 := arg4.view.readAt (Elt Ideal) (Rect.unit (s := S8192x128) (k0_off4 i k) ![256, 64] inb4).toLoadRect f4
  let V1 : Vec Ideal S256x64 .bf16 := arg4.view.readAt (Elt Ideal) (Rect.unit (s := S8192x128) (k0_off5 i k) ![256, 64] inb5).toLoadRect f4
  have hK0 : ∀ (b : Fin 256) e, K0 (ix2 b e) = ((H0.k (N + b) e : ℝ) : EReal) := fun b e =>
    (readAt_lo (n := 8192) (m := 256) arg3.view f3 inb4 o4 b e ⟨N + b, row b⟩ rfl).trans (O.k0 _ e)
  have hK1 : ∀ (b : Fin 256) e, K1 (ix2 b e) = ((H1.k (N + b) e : ℝ) : EReal) := fun b e =>
    (readAt_hi (n := 8192) (m := 256) arg3.view f3 inb5 o5 b e ⟨N + b, row b⟩ rfl).trans (O.k1 _ e)
  have hV0 : ∀ (b : Fin 256) e, V0 (ix2 b e) = H0.v (N + b) e := fun b e =>
    (readAt_lo (n := 8192) (m := 256) arg4.view f4 inb4 o4 b e ⟨N + b, row b⟩ rfl).trans (O.v0 _ e)
  have hV1 : ∀ (b : Fin 256) e, V1 (ix2 b e) = H1.v (N + b) e := fun b e =>
    (readAt_hi (n := 8192) (m := 256) arg4.view f4 inb5 o5 b e ⟨N + b, row b⟩ rfl).trans (O.v1 _ e)
  have R0 := full_real (keep := fun x => x) (tri := k0_pay33) (fun x a b => (if_pos (by have := b.isLt; rw [O.n0]; omega)).symm) (by omega) O.q0 hK0 hV0 tri_apply G.lo
  have R1 := full_real (keep := fun x => x) (tri := k0_pay33) (fun x a b => (if_pos (by have := b.isLt; rw [O.n1]; omega)).symm) (by omega) O.q1 hK1 hV1 tri_apply G.hi
  refine ⟨⟨R0.1, R1.1⟩, fun a b => ?_, fun a b => ?_⟩
  · exact (cast1024 (weights rows1024 (fun x => x) v7 K0 k0_pay33 t.2.1) a b).trans (R0.2 a b)
  · exact (cast1024 (weights rows1024 (fun x => x) v9 K1 k0_pay33 t.2.2.2) a b).trans (R1.2 a b)

end Trip

end Cert.AttnFwdIdeal.Value

end
-- ==== Proof.AttnFwdBodyValue.lean ====
/- A grid point over the reals: the four blocks of the diagonal from the last on, then the loop over the blocks before it. -/
module

public import proofs.«01_k».proof.Proof.AttnFwdBody
public import proofs.«01_k».proof.Proof.AttnFwdTripValue

@[expose] public section

set_option maxRecDepth 16384

noncomputable section

open Idealize.ShloMosaic Idealize.ShloMosaic.TcCoe Idealize.SL.Sem
open scoped BigOperators

namespace Cert.AttnFwdIdeal.Value

open Cert.AttnFwdIdeal Cert.AttnFwdIdeal.Gen Cert.AttnFwdIdeal.Hand
open Cert.AttnBwdIdeal.Value (softplusR up lo hi readAt_lo readAt_hi pair_lo pair_hi)

/-- The rows of the diagonal blocks' keys. -/
theorem off1_eq : ∀ (i : grid0.Coords) (j : Fin 4), k0_off1 i (BitVec.ofNat 32 j.val) = ![1024 * (i 1).val + 256 * j.val, 0] := by decide +kernel
theorem off2_eq : ∀ (i : grid0.Coords) (j : Fin 4), k0_off2 i (BitVec.ofNat 32 j.val) = ![1024 * (i 1).val + 256 * j.val, 64] := by decide +kernel

/-- The masks of the diagonal blocks. -/
theorem mask3 (a b : Fin 256) : k0_pay40 (ix2 a b) = if b.val < a.val then 1#1 else 0#1 := by pointwise [k0_pay40]; exact less b a (by omega) (by omega)
theorem mask2 (a : Fin 512) (b : Fin 256) : k0_pay67 (ix2 a b) = if b.val < a.val then 1#1 else 0#1 := by pointwise [k0_pay67]; exact less b a (by omega) (by omega)
theorem mask1 (a : Fin 768) (b : Fin 256) : k0_pay94 (ix2 a b) = if b.val < a.val then 1#1 else 0#1 := by pointwise [k0_pay94]; exact less b a (by omega) (by omega)
theorem mask0 (a : Fin 1024) (b : Fin 256) : k0_pay120 (ix2 a b) = if b.val < a.val then 1#1 else 0#1 := by pointwise [k0_pay120]; exact less b a (by omega) (by omega)

/-! ## A tile of weights -/

/-- A tile that holds the two heads' weights of the keys from `N` on. -/
structure Weighs (H0 H1 : Head) (N : ℕ) (T : Tile Ideal) : Prop where
  lo : ∀ (a : Fin 1024) (b : Fin 256), (T (ix3 0 a b) : EReal) = ((H0.w a (N + b) : ℝ) : EReal)
  hi : ∀ (a : Fin 1024) (b : Fin 256), (T (ix3 1 a b) : EReal) = ((H1.w a (N + b) : ℝ) : EReal)

/-- Where a slot's places are in the ring. -/
theorem tileOf_apply (s : Fin 3) (L : List (View.Piece (Elt Ideal) S3x2x1024x256 .bf16)) (h : Fin 2) (a : Fin 1024) (b : Fin 256) :
    tileOf s L (ix3 h a b) = bufM.view.read (Elt Ideal) (bufM.view.writes (Elt Ideal) bufM.view.junk L) (ix4 s h a b) := by
  unfold tileOf
  rw [rslot_read]
  have q1 : Shape.reshapeEquiv squeezes_S1x2x1024x256_S2x1024x256.numel_eq (ix3 h a b) = ix4 (0 : Fin 1) h a b :=
    (Shape.reshapeEquiv_cons_one (d := ![2, 1024, 256]) _ _).trans (funext fun d => match d with
      | ⟨0, _⟩ => rfl
      | ⟨1, _⟩ => rfl
      | ⟨2, _⟩ => rfl
      | ⟨3, _⟩ => rfl)
  rw [q1]
  refine congrArg (bufM.view.read (Elt Ideal) _) (funext fun d => Fin.ext ?_)
  match d with
  | ⟨0, _⟩ => show s.val + 1 * 0 = s.val; omega
  | ⟨1, _⟩ => show 0 + 1 * h.val = h.val; omega
  | ⟨2, _⟩ => show 0 + 1 * a.val = a.val; omega
  | ⟨3, _⟩ => show 0 + 1 * b.val = b.val; omega

section Stores

variable {Val : EltTy → Type} {v : View sig .tc .vmem S3x2x1024x256 .bf16} {f : v.ty.Contents Val} {L : List (View.Piece Val S3x2x1024x256 .bf16)}
  {s : Fin 3} {h : Fin 2} {a : Fin 1024} {b : Fin 256} {s' h' m n : ℕ} {off : Fin 4 → ℕ} {inb : ∀ a : Fin 4, off a + (![1, 1, n, 256] : Fin 4 → ℕ) a ≤ S3x2x1024x256.size a}
  {p : (⟨4, ![1, 1, n, 256]⟩ : Shape).Idx → Val .bf16}

/-- A place the last store wrote. -/
theorem store_hit (ho : off = ![s', h', m, 0]) (hs : s.val = s') (hh : h.val = h') (a' : Fin n) (ha : a.val = m + a'.val) :
    v.read Val (v.writes Val f (⟨Rect.unit (s := S3x2x1024x256) off ![1, 1, n, 256] inb, p⟩ :: L)) (ix4 s h a b) = p (ix4 0 0 a' b) := by
  refine View.read_writes_cons_unit_of_mem v f inb p L (ix4 s h a b) (ix4 0 0 a' b) ho fun d => ?_
  match d with
  | ⟨0, _⟩ => show s.val = s' + 0; omega
  | ⟨1, _⟩ => show h.val = h' + 0; omega
  | ⟨2, _⟩ => exact ha
  | ⟨3, _⟩ => show b.val = 0 + b.val; omega

/-- A place of the other head, -/
theorem store_head (ho : off = ![s', h', m, 0]) (hh : h.val < h' ∨ h' + 1 ≤ h.val) :
    v.read Val (v.writes Val f (⟨Rect.unit (s := S3x2x1024x256) off ![1, 1, n, 256] inb, p⟩ :: L)) (ix4 s h a b) = v.read Val (v.writes Val f L) (ix4 s h a b) :=
  View.read_writes_cons_unit_of_not_mem v f inb p L (ix4 s h a b) ho (1 : Fin 4) hh

/-- or of another row. -/
theorem store_row (ho : off = ![s', h', m, 0]) (ha : a.val < m ∨ m + n ≤ a.val) :
    v.read Val (v.writes Val f (⟨Rect.unit (s := S3x2x1024x256) off ![1, 1, n, 256] inb, p⟩ :: L)) (ix4 s h a b) = v.read Val (v.writes Val f L) (ix4 s h a b) :=
  View.read_writes_cons_unit_of_not_mem v f inb p L (ix4 s h a b) ho (2 : Fin 4) ha

end Stores

/-- A tile stored in four pieces: no weight above the diagonal block's first row, the block's weights from there on. -/
theorem Weighs.quad {H0 H1 : Head} {r0 R N : ℕ} (h : r0 + R = 1024) (h0 : N = H0.n0 + r0) (h1 : N = H1.n0 + r0) (s : Fin 3)
    (h00 : ∀ a : Fin 4, (![s.val, 0, 0, 0] : Fin 4 → ℕ) a + (![1, 1, r0, 256] : Fin 4 → ℕ) a ≤ S3x2x1024x256.size a) (h01 : ∀ a : Fin 4, (![s.val, 0, r0, 0] : Fin 4 → ℕ) a + (![1, 1, R, 256] : Fin 4 → ℕ) a ≤ S3x2x1024x256.size a)
    (h10 : ∀ a : Fin 4, (![s.val, 1, 0, 0] : Fin 4 → ℕ) a + (![1, 1, r0, 256] : Fin 4 → ℕ) a ≤ S3x2x1024x256.size a) (h11 : ∀ a : Fin 4, (![s.val, 1, r0, 0] : Fin 4 → ℕ) a + (![1, 1, R, 256] : Fin 4 → ℕ) a ≤ S3x2x1024x256.size a)
    (p00 p10 : FVec Ideal ⟨4, ![1, 1, r0, 256]⟩ .bf16) (p01 p11 : FVec Ideal ⟨4, ![1, 1, R, 256]⟩ .bf16)
    (z0 : ∀ a b, p00 (ix4 0 0 a b) = (0 : EReal)) (z1 : ∀ a b, p10 (ix4 0 0 a b) = (0 : EReal))
    (w0 : ∀ a (b : Fin 256), p01 (ix4 0 0 a b) = ((H0.w (up h a) (N + b) : ℝ) : EReal)) (w1 : ∀ a (b : Fin 256), p11 (ix4 0 0 a b) = ((H1.w (up h a) (N + b) : ℝ) : EReal)) :
    Weighs H0 H1 N (tileOf s (Hand.quad s.val r0 ![1, 1, r0, 256] ![1, 1, R, 256] h00 h01 h10 h11 p00 p10 p01 p11)) := by
  have zero : ∀ (H : Head) (a : Fin 1024) (b : Fin 256), N = H.n0 + r0 → a.val < r0 → ((H.w a (N + b) : ℝ) : EReal) = 0 := fun H a b hN ha => by
    unfold Head.w; rw [if_neg (by omega)]; rfl
  refine ⟨fun a b => ?_, fun a b => ?_⟩
  · rw [tileOf_apply]
    unfold Hand.quad
    refine Eq.trans (store_head (s := s) (h := 0) (s' := s.val) (h' := 1) rfl (Or.inl Nat.zero_lt_one)) (Eq.trans (store_head (s := s) (h := 0) (s' := s.val) (h' := 1) rfl (Or.inl Nat.zero_lt_one)) ?_)
    by_cases ha : a.val < r0
    · refine Eq.trans (store_row (s := s) (h := 0) (s' := s.val) (h' := 0) rfl (Or.inl ha)) (Eq.trans (store_hit (s := s) (h := 0) (s' := s.val) (h' := 0) rfl rfl rfl ⟨a.val, ha⟩ (Nat.zero_add _).symm) ?_)
      exact (z0 _ _).trans (zero H0 a b h0 ha).symm
    · have e : a = up h ⟨a.val - r0, by have := a.isLt; omega⟩ := Fin.ext (show a.val = r0 + (a.val - r0) by omega)
      refine Eq.trans (store_hit (s := s) (h := 0) (s' := s.val) (h' := 0) rfl rfl rfl ⟨a.val - r0, by have := a.isLt; omega⟩ (show a.val = r0 + (a.val - r0) by omega)) ?_
      exact (w0 _ _).trans (congrArg (fun a' => ((H0.w a' (N + b) : ℝ) : EReal)) e.symm)
  · rw [tileOf_apply]
    unfold Hand.quad
    by_cases ha : a.val < r0
    · refine Eq.trans (store_row (s := s) (h := 1) (s' := s.val) (h' := 1) rfl (Or.inl ha)) (Eq.trans (store_hit (s := s) (h := 1) (s' := s.val) (h' := 1) rfl rfl rfl ⟨a.val, ha⟩ (Nat.zero_add _).symm) ?_)
      exact (z1 _ _).trans (zero H1 a b h1 ha).symm
    · have e : a = up h ⟨a.val - r0, by have := a.isLt; omega⟩ := Fin.ext (show a.val = r0 + (a.val - r0) by omega)
      refine Eq.trans (store_hit (s := s) (h := 1) (s' := s.val) (h' := 1) rfl rfl rfl ⟨a.val - r0, by have := a.isLt; omega⟩ (show a.val = r0 + (a.val - r0) by omega)) ?_
      exact (w1 _ _).trans (congrArg (fun a' => ((H1.w a' (N + b) : ℝ) : EReal)) e.symm)

/-- A tile stored in two pieces. -/
theorem Weighs.pair {H0 H1 : Head} {N : ℕ} (s : Fin 3) {off1 off0 : Fin 4 → ℕ} (o1 : off1 = ![s.val, 1, 0, 0]) (o0 : off0 = ![s.val, 0, 0, 0])
    (i1 : ∀ a : Fin 4, off1 a + (![1, 1, 1024, 256] : Fin 4 → ℕ) a ≤ S3x2x1024x256.size a) (i0 : ∀ a : Fin 4, off0 a + (![1, 1, 1024, 256] : Fin 4 → ℕ) a ≤ S3x2x1024x256.size a)
    (p0 p1 : FVec Ideal S1x1x1024x256 .bf16) (w0 : ∀ a (b : Fin 256), p0 (ix4 0 0 a b) = ((H0.w a (N + b) : ℝ) : EReal)) (w1 : ∀ a (b : Fin 256), p1 (ix4 0 0 a b) = ((H1.w a (N + b) : ℝ) : EReal)) :
    Weighs H0 H1 N (tileOf s [⟨Rect.unit (s := S3x2x1024x256) off1 ![1, 1, 1024, 256] i1, p1⟩, ⟨Rect.unit (s := S3x2x1024x256) off0 ![1, 1, 1024, 256] i0, p0⟩]) := by
  refine ⟨fun a b => ?_, fun a b => ?_⟩
  · rw [tileOf_apply]
    exact Eq.trans (store_head o1 (Or.inl Nat.zero_lt_one)) (Eq.trans (store_hit o0 rfl rfl a (Nat.zero_add _).symm) (w0 a b))
  · rw [tileOf_apply]
    exact Eq.trans (store_hit o1 rfl rfl a (Nat.zero_add _).symm) (w1 a b)

/-! ## The point -/

section Point

variable (c : Dev nD) (XA : Buf (Elt Ideal) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)

section Loop

variable (arg1 : BitVec 32) (v7 : FVec Ideal S1024x64 .bf16) (v9 : FVec Ideal S1024x64 .bf16) (v11 : BitVec 32)
  (v401 : FVec Ideal S1024x64 .f32) (v404 : FVec Ideal S1024x1 .f32) (v408 : FVec Ideal S1024x64 .f32) (v411 : FVec Ideal S1024x1 .f32) (v413 : BitVec 32)
  (v471 : FVec Ideal S1024x1 .f32) (v474 : FVec Ideal S1024x1 .f32) (v480 : FVec Ideal S1024x64 .f32) (v484 : FVec Ideal S1024x64 .f32) (v519 : BitVec 32)
  (c2 : BitVec 32) (v520 : BitVec 32) (v522 : BitVec 32) (v523 : BitVec 1)
  (f3 : Buf (Elt Ideal) (arg3.view.loc (c : Thread nD τ))) (f4 : Buf (Elt Ideal) (arg4.view.loc (c : Thread nD τ)))
  {H0 H1 : Head}

/-- The loop over the blocks before the diagonal. -/
theorem Good.loop (O : Operands i v7 v9 arg3.view arg4.view f3 f4 H0 H1) (init : Carry Ideal) (G : Good H0 H1 (1024 * (i 1).val) init) :
    ∀ k : ℕ, k ≤ (k0_t1_loop i).trips → Good H0 H1 (1024 * (i 1).val - 256 * k)
      (state c XA i arg2 harg2 arg3 harg3 arg4 harg4 arg5 harg5 arg1 k0_pay33 v7 v9 v11 v401 v404 v408 v411 v413 v471 v474 v480 v484 v519 c2 v520 v522 v523 f3 f4 init k)
  | 0, _ => G
  | k + 1, h => by
    have ih := Good.loop O init G k (by omega)
    have e := state_succ c XA i arg2 harg2 arg3 harg3 arg4 harg4 arg5 harg5 arg1 k0_pay33 v7 v9 v11 v401 v404 v408 v411 v413 v471 v474 v480 v484 v519 c2 v520 v522 v523 f3 f4 init ⟨k, h⟩
    have T := Good.trip c XA i arg2 harg2 arg3 harg3 arg4 harg4 arg5 harg5 arg1 v7 v9 v11 v401 v404 v408 v411 v413 v471 v474 v480 v484 v519 c2 v520 v522 v523 f3 f4 O ⟨k, h⟩ _ ih
    rw [show k + 1 = (⟨k, h⟩ : Fin (k0_t1_loop i).trips).val + 1 from rfl, e]
    exact T.1

/-- The weights a trip stores. -/
theorem Good.weighs (O : Operands i v7 v9 arg3.view arg4.view f3 f4 H0 H1) (init : Carry Ideal) (G : Good H0 H1 (1024 * (i 1).val) init) (T1 T2 T3 : Tile Ideal)
    (k : Fin (k0_t1_loop i).trips) : Weighs H0 H1 (1024 * (i 1).val - 256 * (k.val + 1))
      (tiles c XA i arg2 harg2 arg3 harg3 arg4 harg4 arg5 harg5 arg1 k0_pay33 v7 v9 v11 v401 v404 v408 v411 v413 v471 v474 v480 v484 v519 c2 v520 v522 v523 f3 f4 init T1 T2 T3 (k.val + 4)) := by
  rw [tiles_trip]
  have ih := Good.loop c XA i arg2 harg2 arg3 harg3 arg4 harg4 arg5 harg5 arg1 v7 v9 v11 v401 v404 v408 v411 v413 v471 v474 v480 v484 v519 c2 v520 v522 v523 f3 f4 O init G k.val k.isLt.le
  have T := Good.trip c XA i arg2 harg2 arg3 harg3 arg4 harg4 arg5 harg5 arg1 v7 v9 v11 v401 v404 v408 v411 v413 v471 v474 v480 v484 v519 c2 v520 v522 v523 f3 f4 O k _ ih
  exact Weighs.pair (Ring.sl 3 (k.val + 1)) (off10_eq i k) (off9_eq i k) _ _ _ _ T.2.1 T.2.2

end Loop

section Diagonal

variable (f2 : Buf (Elt Ideal) (arg2.view.loc (c : Thread nD τ))) (f3 : Buf (Elt Ideal) (arg3.view.loc (c : Thread nD τ))) (f4 : Buf (Elt Ideal) (arg4.view.loc (c : Thread nD τ)))
  {H0 H1 : Head}

/-- The keys and values of a block of the diagonal. -/
theorem in1 (j : Fin 4) : ∀ a : Fin 2, k0_off1 i (BitVec.ofNat 32 j.val) a + (![256, 64] : Fin 2 → ℕ) a ≤ (![8192, 128] : Fin 2 → ℕ) a := by
  have h8 : (i 1).val < 8 := (i 1).isLt
  rw [off1_eq]; intro a; fin_cases a <;> simp <;> omega
theorem in2 (j : Fin 4) : ∀ a : Fin 2, k0_off2 i (BitVec.ofNat 32 j.val) a + (![256, 64] : Fin 2 → ℕ) a ≤ (![8192, 128] : Fin 2 → ℕ) a := by
  have h8 : (i 1).val < 8 := (i 1).isLt
  rw [off2_eq]; intro a; fin_cases a <;> simp <;> omega

/-- A block of the diagonal's rows, first head's columns, and second's. -/
def rowsLo {sp : Space} (v : View sig .tc sp S8192x128 .bf16) (f : v.ty.Contents (Elt Ideal)) (j : Fin 4) : FVec Ideal S256x64 .bf16 :=
  v.readAt (Elt Ideal) (Rect.unit (s := S8192x128) (k0_off1 i (BitVec.ofNat 32 j.val)) ![256, 64] (in1 i j)).toLoadRect f
def rowsHi {sp : Space} (v : View sig .tc sp S8192x128 .bf16) (f : v.ty.Contents (Elt Ideal)) (j : Fin 4) : FVec Ideal S256x64 .bf16 :=
  v.readAt (Elt Ideal) (Rect.unit (s := S8192x128) (k0_off2 i (BitVec.ofNat 32 j.val)) ![256, 64] (in2 i j)).toLoadRect f

theorem rowsLo_apply {sp : Space} (v : View sig .tc sp S8192x128 .bf16) (f : v.ty.Contents (Elt Ideal)) {S : ℕ → Fin 64 → EReal} (j : Fin 4) {N : ℕ} (hN : N = 1024 * (i 1).val + 256 * j.val)
    (h : ∀ (r : Fin 8192) e, v.read (Elt Ideal) f (ix2 r (lo e)) = S r e) (b : Fin 256) (e : Fin 64) :
    rowsLo i v f j (ix2 b e) = S (N + b) e := by
  have h8 : (i 1).val < 8 := (i 1).isLt
  subst hN
  exact (readAt_lo (n := 8192) (m := 256) v f (in1 i j) (off1_eq i j) b e ⟨1024 * (i 1).val + 256 * j.val + b, by have := b.isLt; omega⟩ rfl).trans (h _ e)

theorem rowsHi_apply {sp : Space} (v : View sig .tc sp S8192x128 .bf16) (f : v.ty.Contents (Elt Ideal)) {S : ℕ → Fin 64 → EReal} (j : Fin 4) {N : ℕ} (hN : N = 1024 * (i 1).val + 256 * j.val)
    (h : ∀ (r : Fin 8192) e, v.read (Elt Ideal) f (ix2 r (hi e)) = S r e) (b : Fin 256) (e : Fin 64) :
    rowsHi i v f j (ix2 b e) = S (N + b) e := by
  have h8 : (i 1).val < 8 := (i 1).isLt
  subst hN
  exact (readAt_hi (n := 8192) (m := 256) v f (in2 i j) (off2_eq i j) b e ⟨1024 * (i 1).val + 256 * j.val + b, by have := b.isLt; omega⟩ rfl).trans (h _ e)

/-- A block of the diagonal for both heads. -/
theorem Good.cut {r0 R : ℕ} (C : Cut r0 R) (D : Rows R) (m : IVec ⟨2, ![R, 256]⟩ 1) (hm : ∀ (a : Fin R) (b : Fin 256), m (ix2 a b) = if b.val < a.val then 1#1 else 0#1)
    {q0 q1 : FVec Ideal S1024x64 .bf16} (O : Operands i q0 q1 arg3.view arg4.view f3 f4 H0 H1) (j : Fin 4) (hj : r0 = 256 * j.val) (t : Carry Ideal)
    (G : Good H0 H1 (1024 * (i 1).val + r0 + 256) t) :
    Good H0 H1 (1024 * (i 1).val + r0) (cutAcc C D m q0 (rowsLo i arg3.view f3 j) (rowsLo i arg4.view f4 j) k0_pay33 t.1 t.2.1, cutStay C D m q0 (rowsLo i arg3.view f3 j) k0_pay33 t.2.1,
        cutAcc C D m q1 (rowsHi i arg3.view f3 j) (rowsHi i arg4.view f4 j) k0_pay33 t.2.2.1 t.2.2.2, cutStay C D m q1 (rowsHi i arg3.view f3 j) k0_pay33 t.2.2.2)
      ∧ (∀ a b, cutWeights C D m q0 (rowsLo i arg3.view f3 j) k0_pay33 t.2.1 (ix2 a b) = ((H0.w (up C.split a) (1024 * (i 1).val + r0 + b) : ℝ) : EReal))
      ∧ (∀ a b, cutWeights C D m q1 (rowsHi i arg3.view f3 j) k0_pay33 t.2.2.2 (ix2 a b) = ((H1.w (up C.split a) (1024 * (i 1).val + r0 + b) : ℝ) : EReal)) := by
  have h8 : (i 1).val < 8 := (i 1).isLt
  have hN : 1024 * (i 1).val + r0 + 256 ≤ 8192 := by have := j.isLt; omega
  have e0 : H0.n0 + r0 = 1024 * (i 1).val + 256 * j.val := by rw [O.n0, hj]
  have e1 : H1.n0 + r0 = 1024 * (i 1).val + 256 * j.val := by rw [O.n1, hj]
  have R0 := cut_real (C := C) (D := D) (m := m) hm (by rw [O.n0]; exact hN) O.q0 (rowsLo_apply (S := fun r e => ((H0.k r e : ℝ) : EReal)) i arg3.view f3 j e0 O.k0) (rowsLo_apply i arg4.view f4 j e0 O.v0) tri_apply (by rw [O.n0]; exact G.lo)
  have R1 := cut_real (C := C) (D := D) (m := m) hm (by rw [O.n1]; exact hN) O.q1 (rowsHi_apply (S := fun r e => ((H1.k r e : ℝ) : EReal)) i arg3.view f3 j e1 O.k1) (rowsHi_apply i arg4.view f4 j e1 O.v1) tri_apply (by rw [O.n1]; exact G.hi)
  rw [O.n0] at R0
  rw [O.n1] at R1
  exact ⟨⟨R0.1, R1.1⟩, R0.2, R1.2⟩

/-- The first block of the diagonal for both heads. -/
theorem Good.full {q0 q1 : FVec Ideal S1024x64 .bf16} (O : Operands i q0 q1 arg3.view arg4.view f3 f4 H0 H1) (t : Carry Ideal) (G : Good H0 H1 (1024 * (i 1).val + 256) t) :
    Good H0 H1 (1024 * (i 1).val) (fullAcc (masked k0_pay120) q0 (rowsLo i arg3.view f3 0) (rowsLo i arg4.view f4 0) k0_pay33 t.1 t.2.1, fullStay (masked k0_pay120) q0 (rowsLo i arg3.view f3 0) k0_pay33 t.2.1,
        fullAcc (masked k0_pay120) q1 (rowsHi i arg3.view f3 0) (rowsHi i arg4.view f4 0) k0_pay33 t.2.2.1 t.2.2.2, fullStay (masked k0_pay120) q1 (rowsHi i arg3.view f3 0) k0_pay33 t.2.2.2)
      ∧ (∀ a b, weights rows1024 (masked k0_pay120) q0 (rowsLo i arg3.view f3 0) k0_pay33 t.2.1 (ix2 a b) = ((H0.w a (1024 * (i 1).val + b) : ℝ) : EReal))
      ∧ (∀ a b, weights rows1024 (masked k0_pay120) q1 (rowsHi i arg3.view f3 0) k0_pay33 t.2.2.2 (ix2 a b) = ((H1.w a (1024 * (i 1).val + b) : ℝ) : EReal)) := by
  have h8 : (i 1).val < 8 := (i 1).isLt
  have R0 := full_real (keep := masked k0_pay120) (N := 1024 * (i 1).val) (H := H0) (fun x a b => by rw [masked_apply _ mask0, O.n0]; exact if_congr (by omega) rfl rfl) (by omega) O.q0
    (rowsLo_apply (S := fun r e => ((H0.k r e : ℝ) : EReal)) i arg3.view f3 0 rfl O.k0) (rowsLo_apply i arg4.view f4 0 rfl O.v0) tri_apply G.lo
  have R1 := full_real (keep := masked k0_pay120) (N := 1024 * (i 1).val) (H := H1) (fun x a b => by rw [masked_apply _ mask0, O.n1]; exact if_congr (by omega) rfl rfl) (by omega) O.q1
    (rowsHi_apply (S := fun r e => ((H1.k r e : ℝ) : EReal)) i arg3.view f3 0 rfl O.k1) (rowsHi_apply i arg4.view f4 0 rfl O.v1) tri_apply G.hi
  exact ⟨⟨R0.1, R1.1⟩, R0.2, R1.2⟩

theorem Good.start {q0 q1 : FVec Ideal S1024x64 .bf16} (O : Operands i q0 q1 arg3.view arg4.view f3 f4 H0 H1) : Good H0 H1 (1024 * (i 1).val + 768 + 256) (k0_pay36, k0_pay37, k0_pay38, k0_pay39) :=
  ⟨State.first H0 (by rw [O.n0]) (fun a e => by pointwise [k0_pay36]) (fun a => by pointwise [k0_pay37]),
    State.first H1 (by rw [O.n1]) (fun a e => by pointwise [k0_pay38]) (fun a => by pointwise [k0_pay39])⟩

end Diagonal

end Point

end Cert.AttnFwdIdeal.Value

end
-- ==== Proof.AttnFwdPoint.lean ====
/- What a grid point of the attention leaves: its output's block, and its tiles of weights. -/
module

public import proofs.«01_k».proof.Proof.AttnFwdBodyValue

@[expose] public section

set_option maxRecDepth 16384

noncomputable section

open Idealize.ShloMosaic Idealize.ShloMosaic.TcCoe Idealize.SL.Sem
open scoped BigOperators

namespace Cert.AttnFwdIdeal.Value

open Cert.AttnFwdIdeal Cert.AttnFwdIdeal.Gen Cert.AttnFwdIdeal.Hand
open Cert.AttnBwdIdeal.Value (softplusR up lo hi readAt_lo readAt_hi pair_lo pair_hi)

variable (c : Dev nD) (XA : Buf (Elt Ideal) (aM.view.loc (c : Thread nD τ))) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .bf16) (harg5 : arg5.IsWhole)
  (f2 : Buf (Elt Ideal) (arg2.view.loc (c : Thread nD τ))) (f3 : Buf (Elt Ideal) (arg3.view.loc (c : Thread nD τ))) (f4 : Buf (Elt Ideal) (arg4.view.loc (c : Thread nD τ)))
  {H0 H1 : Head}

/-- The queries of the two heads as the body reads them. -/
abbrev q0At : FVec Ideal S1024x64 .bf16 := bodyRun.sl.r c arg2 f2
abbrev q1At : FVec Ideal S1024x64 .bf16 := bodyRun.sl.r_1 c arg2 f2

/-- What is carried after each block of the diagonal. -/
abbrev carry3 : Carry Ideal := (bodyRun.sl.r_13 c i arg2 arg3 arg4 f2 f3 f4, bodyRun.sl.r_14 c i arg2 arg3 f2 f3, bodyRun.sl.r_15 c i arg2 arg3 arg4 f2 f3 f4, bodyRun.sl.r_16 c i arg2 arg3 f2 f3)
abbrev carry2 : Carry Ideal := (bodyRun.sl.r_32 c i arg2 arg3 arg4 f2 f3 f4, bodyRun.sl.r_33 c i arg2 arg3 f2 f3, bodyRun.sl.r_34 c i arg2 arg3 arg4 f2 f3 f4, bodyRun.sl.r_35 c i arg2 arg3 f2 f3)
abbrev carry1 : Carry Ideal := (bodyRun.sl.r_49 c i arg2 arg3 arg4 f2 f3 f4, bodyRun.sl.r_50 c i arg2 arg3 f2 f3, bodyRun.sl.r_51 c i arg2 arg3 arg4 f2 f3 f4, bodyRun.sl.r_52 c i arg2 arg3 f2 f3)
abbrev carry0 : Carry Ideal := (k0_pay138 (bodyRun.sl.r_49 c i arg2 arg3 arg4 f2 f3 f4) (bodyRun.sl.r_62 c i arg2 arg3 arg4 f2 f3 f4),
  k0_pay139 (bodyRun.sl.r_50 c i arg2 arg3 f2 f3) (bodyRun.sl.r_58 c i arg2 arg3 f2 f3),
  k0_pay140 (bodyRun.sl.r_51 c i arg2 arg3 arg4 f2 f3 f4) (bodyRun.sl.r_63 c i arg2 arg3 arg4 f2 f3 f4),
  k0_pay141 (bodyRun.sl.r_52 c i arg2 arg3 f2 f3) (bodyRun.sl.r_59 c i arg2 arg3 f2 f3))

variable (O : Operands i (q0At c arg2 f2) (q1At c arg2 f2) arg3.view arg4.view f3 f4 H0 H1)

include O in
theorem step3 : Good H0 H1 (1024 * (i 1).val + 768) (carry3 c i arg2 arg3 arg4 f2 f3 f4)
    ∧ (∀ a b, k0_pay60 (bodyRun.sl.r_8 c i arg2 arg3 f2 f3) (ix4 0 0 a b) = ((H0.w (up cut768.split a) (1024 * (i 1).val + 768 + b) : ℝ) : EReal))
    ∧ (∀ a b, k0_pay62 (bodyRun.sl.r_9 c i arg2 arg3 f2 f3) (ix4 0 0 a b) = ((H1.w (up cut768.split a) (1024 * (i 1).val + 768 + b) : ℝ) : EReal)) := by
  have h := Good.cut c i arg3 arg4 f3 f4 cut768 rows256 k0_pay40 mask3 O 3 rfl _ (Good.start c i arg3 arg4 f3 f4 O)
  exact ⟨h.1, fun a b => (cast256 _ a b).trans (h.2.1 a b), fun a b => (cast256 _ a b).trans (h.2.2 a b)⟩

include O in
theorem step2 : Good H0 H1 (1024 * (i 1).val + 512) (carry2 c i arg2 arg3 arg4 f2 f3 f4)
    ∧ (∀ a b, k0_pay87 (bodyRun.sl.r_27 c i arg2 arg3 f2 f3) (ix4 0 0 a b) = ((H0.w (up cut512.split a) (1024 * (i 1).val + 512 + b) : ℝ) : EReal))
    ∧ (∀ a b, k0_pay89 k0_pay67 (bodyRun.sl.r_26 c i arg2 arg3 f2 f3) (ix4 0 0 a b) = ((H1.w (up cut512.split a) (1024 * (i 1).val + 512 + b) : ℝ) : EReal)) := by
  have h := Good.cut c i arg3 arg4 f3 f4 cut512 rows512 k0_pay67 mask2 O 2 rfl _ (step3 c i arg2 arg3 arg4 f2 f3 f4 O).1
  exact ⟨h.1, fun a b => (cast512 _ a b).trans (h.2.1 a b), fun a b => (cast512 _ a b).trans (h.2.2 a b)⟩

include O in
theorem step1 : Good H0 H1 (1024 * (i 1).val + 256) (carry1 c i arg2 arg3 arg4 f2 f3 f4)
    ∧ (∀ a b, k0_pay111 k0_pay94 (bodyRun.sl.r_36 c i arg2 arg3 f2 f3) (bodyRun.sl.r_38 c i arg2 arg3 f2 f3) (bodyRun.sl.r_40 c i arg2 arg3 f2 f3) (bodyRun.sl.r_42 c i arg2 arg3 f2 f3) (ix4 0 0 a b)
      = ((H0.w (up cut256.split a) (1024 * (i 1).val + 256 + b) : ℝ) : EReal))
    ∧ (∀ a b, bodyRun.sl.v370 c i arg2 arg3 f2 f3 (ix4 0 0 a b) = ((H1.w (up cut256.split a) (1024 * (i 1).val + 256 + b) : ℝ) : EReal)) := by
  have h := Good.cut c i arg3 arg4 f3 f4 cut256 rows768 k0_pay94 mask1 O 1 rfl _ (step2 c i arg2 arg3 arg4 f2 f3 f4 O).1
  exact ⟨h.1, fun a b => (cast768 _ a b).trans (h.2.1 a b), fun a b => (cast768 _ a b).trans (h.2.2 a b)⟩

include O in
theorem step0 : Good H0 H1 (1024 * (i 1).val) (carry0 c i arg2 arg3 arg4 f2 f3 f4)
    ∧ (∀ a b, weights rows1024 (masked k0_pay120) (q0At c arg2 f2) (rowsLo i arg3.view f3 0) k0_pay33 (bodyRun.sl.r_50 c i arg2 arg3 f2 f3) (ix2 a b) = ((H0.w a (1024 * (i 1).val + b) : ℝ) : EReal))
    ∧ (∀ a b, bodyRun.sl.v517 c i arg2 arg3 f2 f3 (ix4 0 0 a b) = ((H1.w a (1024 * (i 1).val + b) : ℝ) : EReal)) := by
  have h := Good.full c i arg3 arg4 f3 f4 O _ (step1 c i arg2 arg3 arg4 f2 f3 f4 O).1
  exact ⟨h.1, fun a b => h.2.1 a b, fun a b => (cast1024 _ a b).trans (h.2.2 a b)⟩

/-! ## The tiles of weights -/

theorem none59 (a : Fin 768) (b : Fin 256) : (k0_pay59 (F := Ideal)) (ix4 0 0 a b) = (0 : EReal) := by pointwise [k0_pay59]
theorem none61 (a : Fin 768) (b : Fin 256) : (k0_pay61 (F := Ideal)) (ix4 0 0 a b) = (0 : EReal) := by pointwise [k0_pay61]
theorem none86 (a : Fin 512) (b : Fin 256) : (k0_pay86 (F := Ideal)) (ix4 0 0 a b) = (0 : EReal) := by pointwise [k0_pay86]
theorem none88 (a : Fin 512) (b : Fin 256) : (k0_pay88 (F := Ideal)) (ix4 0 0 a b) = (0 : EReal) := by pointwise [k0_pay88]
theorem none110 (a : Fin 256) (b : Fin 256) : (k0_pay110 (F := Ideal)) (ix4 0 0 a b) = (0 : EReal) := by pointwise [k0_pay110]
theorem none367 (a : Fin 256) (b : Fin 256) : (bodyRun.sl.v367 (F := Ideal)) (ix4 0 0 a b) = (0 : EReal) := by pointwise [bodyRun.sl.v367, k0_pay112]

seal Hand.tileOf

/-- The tiles a point leaves. -/
abbrev tilesAt : ℕ → Tile Ideal := (bodyRun c XA i arg2 harg2 arg3 harg3 arg4 harg4 arg5 harg5 f2 f3 f4).2.1

include O in
theorem tile3 : Weighs H0 H1 (1024 * (i 1).val + 768) (tilesAt c XA i arg2 harg2 arg3 harg3 arg4 harg4 arg5 harg5 f2 f3 f4 0) := by
  have h := step3 c i arg2 arg3 arg4 f2 f3 f4 O
  have w := Weighs.quad (N := 1024 * (i 1).val + 768) cut768.split (by rw [O.n0]) (by rw [O.n1]) 0 (by decide) (by decide) (by decide) (by decide) _ _ _ _ none59 none61 h.2.1 h.2.2
  have e : tilesAt c XA i arg2 harg2 arg3 harg3 arg4 harg4 arg5 harg5 f2 f3 f4 0 = Hand.tileOf 0 (quadA k0_pay59 k0_pay61 (k0_pay60 (bodyRun.sl.r_8 c i arg2 arg3 f2 f3)) (k0_pay62 (bodyRun.sl.r_9 c i arg2 arg3 f2 f3))) := rfl
  rw [e]
  exact w

include O in
theorem tile2 : Weighs H0 H1 (1024 * (i 1).val + 512) (tilesAt c XA i arg2 harg2 arg3 harg3 arg4 harg4 arg5 harg5 f2 f3 f4 1) := by
  have h := step2 c i arg2 arg3 arg4 f2 f3 f4 O
  have w := Weighs.quad (N := 1024 * (i 1).val + 512) cut512.split (by rw [O.n0]) (by rw [O.n1]) 1 (by decide) (by decide) (by decide) (by decide) _ _ _ _ none86 none88 h.2.1 h.2.2
  have e : tilesAt c XA i arg2 harg2 arg3 harg3 arg4 harg4 arg5 harg5 f2 f3 f4 1 = Hand.tileOf 1 (quadB k0_pay86 k0_pay88 (k0_pay87 (bodyRun.sl.r_27 c i arg2 arg3 f2 f3)) (k0_pay89 k0_pay67 (bodyRun.sl.r_26 c i arg2 arg3 f2 f3))) := rfl
  rw [e]
  exact w

include O in
theorem tile1 : Weighs H0 H1 (1024 * (i 1).val + 256) (tilesAt c XA i arg2 harg2 arg3 harg3 arg4 harg4 arg5 harg5 f2 f3 f4 2) := by
  have h := step1 c i arg2 arg3 arg4 f2 f3 f4 O
  have w := Weighs.quad (N := 1024 * (i 1).val + 256) cut256.split (by rw [O.n0]) (by rw [O.n1]) 2 (by decide) (by decide) (by decide) (by decide) _ _ _ _ none110 none367 h.2.1 h.2.2
  have e : tilesAt c XA i arg2 harg2 arg3 harg3 arg4 harg4 arg5 harg5 f2 f3 f4 2 = Hand.tileOf 2 (quadC k0_pay110 bodyRun.sl.v367 (k0_pay111 k0_pay94 (bodyRun.sl.r_36 c i arg2 arg3 f2 f3) (bodyRun.sl.r_38 c i arg2 arg3 f2 f3) (bodyRun.sl.r_40 c i arg2 arg3 f2 f3) (bodyRun.sl.r_42 c i arg2 arg3 f2 f3)) (bodyRun.sl.v370 c i arg2 arg3 f2 f3)) := rfl
  rw [e]
  exact w

include O in
theorem tile0 : Weighs H0 H1 (1024 * (i 1).val) (tilesAt c XA i arg2 harg2 arg3 harg3 arg4 harg4 arg5 harg5 f2 f3 f4 3) := by
  have h := step0 c i arg2 arg3 arg4 f2 f3 f4 O
  have w := Weighs.pair (N := 1024 * (i 1).val) 0 (off1 := ![0, 1, 0, 0]) (off0 := ![0, 0, 0, 0]) rfl rfl (by decide) (by decide) _ _
    (fun a b => (cast1024 _ a b).trans (h.2.1 a b)) h.2.2
  have e : tilesAt c XA i arg2 harg2 arg3 harg3 arg4 harg4 arg5 harg5 f2 f3 f4 3 = Hand.tileOf 0 (pair0 (shapeCast S1x1x1024x256 (weights rows1024 (masked k0_pay120) (q0At c arg2 f2) (rowsLo i arg3.view f3 0) k0_pay33 (bodyRun.sl.r_50 c i arg2 arg3 f2 f3)) shapeCasts_S1024x256_S1x1x1024x256) (bodyRun.sl.v517 c i arg2 arg3 f2 f3)) := rfl
  rw [e]
  exact w

include O in
theorem tile_trip (k : Fin (k0_t1_loop i).trips) :
    Weighs H0 H1 (1024 * (i 1).val - 256 * (k.val + 1)) (tilesAt c XA i arg2 harg2 arg3 harg3 arg4 harg4 arg5 harg5 f2 f3 f4 (k.val + 4)) :=
  Good.weighs c XA i arg2 harg2 arg3 harg3 arg4 harg4 arg5 harg5 _ _ _ _ _ _ _ _ _ _ _ _ _ _ _ _ _ _ f3 f4 O _
    (step0 c i arg2 arg3 arg4 f2 f3 f4 O).1 _ (fun _ => 0) (fun _ => 0) k

include O in
/-- The tile number `n` of a point holds the weights of the `n`th block of keys from the diagonal's last on. -/
theorem tile_at (n : ℕ) (hn : n ≤ 4 * (i 1).val + 3) :
    Weighs H0 H1 (1024 * (i 1).val + 768 - 256 * n) (tilesAt c XA i arg2 harg2 arg3 harg3 arg4 harg4 arg5 harg5 f2 f3 f4 n) := by
  match n, hn with
  | 0, _ => exact tile3 c XA i arg2 harg2 arg3 harg3 arg4 harg4 arg5 harg5 f2 f3 f4 O
  | 1, _ => exact tile2 c XA i arg2 harg2 arg3 harg3 arg4 harg4 arg5 harg5 f2 f3 f4 O
  | 2, _ => exact tile1 c XA i arg2 harg2 arg3 harg3 arg4 harg4 arg5 harg5 f2 f3 f4 O
  | 3, _ => exact tile0 c XA i arg2 harg2 arg3 harg3 arg4 harg4 arg5 harg5 f2 f3 f4 O
  | k + 4, hn =>
    have hk : k < (k0_t1_loop i).trips := by rw [trips_eq]; omega
    rw [show 1024 * (i 1).val + 768 - 256 * (k + 4) = 1024 * (i 1).val - 256 * (k + 1) by omega]
    exact tile_trip c XA i arg2 harg2 arg3 harg3 arg4 harg4 arg5 harg5 f2 f3 f4 O ⟨k, hk⟩

/-! ## The output -/

include O in
theorem out_lo : ∀ a e, (bodyRun.sl.r_64 c XA i arg2 harg2 arg3 harg3 arg4 harg4 arg5 harg5 f2 f3 f4) (ix2 a e) = H0.out a e 0 := by
  have h := (Good.loop c XA i arg2 harg2 arg3 harg3 arg4 harg4 arg5 harg5 (BitVec.ofNat 32 (i 1).val) (q0At c arg2 f2) (q1At c arg2 f2) (bodyRun.sl.v11 i) (bodyRun.sl.r_49 c i arg2 arg3 arg4 f2 f3 f4)
      (bodyRun.sl.r_50 c i arg2 arg3 f2 f3) (bodyRun.sl.r_51 c i arg2 arg3 arg4 f2 f3 f4)
      (bodyRun.sl.r_52 c i arg2 arg3 f2 f3) (bodyRun.sl.v413 i) (bodyRun.sl.r_58 c i arg2 arg3 f2 f3)
      (bodyRun.sl.r_59 c i arg2 arg3 f2 f3) (bodyRun.sl.r_62 c i arg2 arg3 arg4 f2 f3 f4)
      (bodyRun.sl.r_63 c i arg2 arg3 arg4 f2 f3 f4) (bodyRun.sl.v108 i) (2#32) (bodyRun.sl.v109 i) (bodyRun.sl.v111 i)
      (bodyRun.sl.v112 i) f3 f4 O _ (step0 c i arg2 arg3 arg4 f2 f3 f4 O).1 _ le_rfl).lo.out
  rw [trips_eq i, show 1024 * (i 1).val - 256 * (4 * (i 1).val) = 0 by omega] at h
  rw [← trips_eq i] at h
  exact h

include O in
theorem out_hi : ∀ a e, (bodyRun.sl.r_65 c XA i arg2 harg2 arg3 harg3 arg4 harg4 arg5 harg5 f2 f3 f4) (ix2 a e) = H1.out a e 0 := by
  have h := (Good.loop c XA i arg2 harg2 arg3 harg3 arg4 harg4 arg5 harg5 (BitVec.ofNat 32 (i 1).val) (q0At c arg2 f2) (q1At c arg2 f2) (bodyRun.sl.v11 i) (bodyRun.sl.r_49 c i arg2 arg3 arg4 f2 f3 f4)
      (bodyRun.sl.r_50 c i arg2 arg3 f2 f3) (bodyRun.sl.r_51 c i arg2 arg3 arg4 f2 f3 f4)
      (bodyRun.sl.r_52 c i arg2 arg3 f2 f3) (bodyRun.sl.v413 i) (bodyRun.sl.r_58 c i arg2 arg3 f2 f3)
      (bodyRun.sl.r_59 c i arg2 arg3 f2 f3) (bodyRun.sl.r_62 c i arg2 arg3 arg4 f2 f3 f4)
      (bodyRun.sl.r_63 c i arg2 arg3 arg4 f2 f3 f4) (bodyRun.sl.v108 i) (2#32) (bodyRun.sl.v109 i) (bodyRun.sl.v111 i)
      (bodyRun.sl.v112 i) f3 f4 O _ (step0 c i arg2 arg3 arg4 f2 f3 f4 O).1 _ le_rfl).hi.out
  rw [trips_eq i, show 1024 * (i 1).val - 256 * (4 * (i 1).val) = 0 by omega] at h
  rw [← trips_eq i] at h
  exact h

include O in
/-- The output's block: the first head's columns, then the second's. -/
theorem out_at (v : View sig .tc .vmem S1024x128 .bf16) (f : v.ty.Contents (Elt Ideal)) (a : Fin 1024) (e : Fin 64) :
    v.read (Elt Ideal) (v.writes (Elt Ideal) f (bodyRun c XA i arg2 harg2 arg3 harg3 arg4 harg4 arg5 harg5 f2 f3 f4).1) (ix2 a (lo e)) = H0.out a e 0
      ∧ v.read (Elt Ideal) (v.writes (Elt Ideal) f (bodyRun c XA i arg2 harg2 arg3 harg3 arg4 harg4 arg5 harg5 f2 f3 f4).1) (ix2 a (hi e)) = H1.out a e 0 := by
  have hL : (bodyRun c XA i arg2 harg2 arg3 harg3 arg4 harg4 arg5 harg5 f2 f3 f4).1
      = [⟨Rect.unit (s := S1024x128) ![0, 64] S1024x64.size inb_S1024x128_S1024x64_0_64, k0_pay2 (bodyRun.sl.r_65 c XA i arg2 harg2 arg3 harg3 arg4 harg4 arg5 harg5 f2 f3 f4)⟩,
        ⟨Rect.unit (s := S1024x128) ![0, 0] S1024x64.size inb_S1024x128_S1024x64_0_0, k0_pay1 (bodyRun.sl.r_64 c XA i arg2 harg2 arg3 harg3 arg4 harg4 arg5 harg5 f2 f3 f4)⟩] := rfl
  rw [hL]
  constructor
  · refine (pair_lo (N := 0) v f inb_S1024x128_S1024x64_0_64 inb_S1024x128_S1024x64_0_0 _ _ [] rfl rfl a e a (Nat.zero_add _).symm).trans ?_
    exact out_lo c XA i arg2 harg2 arg3 harg3 arg4 harg4 arg5 harg5 f2 f3 f4 O a e
  · refine (pair_hi (N := 0) v f inb_S1024x128_S1024x64_0_64 _ _ rfl a e a (Nat.zero_add _).symm).trans ?_
    exact out_hi c XA i arg2 harg2 arg3 harg3 arg4 harg4 arg5 harg5 f2 f3 f4 O a e

end Cert.AttnFwdIdeal.Value

end
-- ==== Proof.AttnFwdReference.lean ====
/- What the reference computes for the attention's forward pass: its weights and its output, as real numbers head by head. -/
module

public import proofs.«01_k».proof.Proof.AttnFwdMath
public import proofs.«01_k».proof.Proof.AttnBwdTiles
public import proofs.«01_k».proof.Proof.Gen.AttnFwdRefIdeal.Read

@[expose] public section

set_option maxRecDepth 16384

noncomputable section

open Idealize.ShloMosaic
open scoped BigOperators

namespace Cert.AttnFwdIdeal.Value

open Cert.AttnFwdRefIdeal Cert.AttnFwdRefIdeal.Gen
open Cert.AttnBwdIdeal.Value (softplusR Args col ext2 ext3 score_point log_keep_point log_stop_point mask_point mask_eq select_one select_zero head_v1 blocks rowed)

/-- Head `h` on tile `i` of the queries. -/
def headAt (Q K : (⟨2, ![8192, 1024]⟩ : Shape).Idx → ℝ) (V : (⟨2, ![8192, 1024]⟩ : Shape).Idx → EReal) (h : Fin 16) (i : Fin 8) : Head where
  n0 := 1024 * i.val
  q a e := Q (ix2 (Args.query i a) (col h e))
  k := Args.row K h
  v s e := if hs : s < 8192 then V (ix2 ⟨s, hs⟩ (col h e)) else 0

theorem headAt_v (Q K : (⟨2, ![8192, 1024]⟩ : Shape).Idx → ℝ) (V : (⟨2, ![8192, 1024]⟩ : Shape).Idx → EReal) (h : Fin 16) (i : Fin 8) (s : Fin 8192) (e : Fin 64) :
    (headAt Q K V h i).v s e = V (ix2 s (col h e)) := by
  unfold headAt
  exact dif_pos s.isLt

theorem softplus_neg (z : ℝ) : softplusR (-z) = softplusR z - z := by
  unfold softplusR
  rw [neg_neg, max_comm (-z) z]
  rcases le_total z 0 with h | h
  · rw [max_eq_left (by linarith : (0 : ℝ) ≤ -z), max_eq_right h]; ring
  · rw [max_eq_right (by linarith : -z ≤ (0 : ℝ)), max_eq_left h]; ring

/-- The running sum from the end along the last of three axes, as the host writes it. -/
theorem suffix_sum {p q n : ℕ} {hi : Fin 3 → ℕ}
    (h : (⟨3, ![p, q, n]⟩ : Shape).ReduceWindows ![1, 1, n] ![1, 1, 1] ![0, 0, 0] hi ⟨3, ![p, q, n]⟩)
    (x : (⟨3, ![p, q, n]⟩ : Shape).Idx → EReal) (a : Fin p) (b : Fin q) (X : ℕ → ℝ) (hX : ∀ s : Fin n, x (ix3 a b s) = ((X s : ℝ) : EReal)) (r : Fin n) :
    Ideal.hostReduceWindowAdd ![1, 1, n] ![1, 1, 1] ![0, 0, 0] hi h x 0 (ix3 a b r) = ((∑ s ∈ Finset.Ico r.val n, X s : ℝ) : EReal) := by
  have hr := r.isLt
  rw [Cert.Running.window_sum]
  refine (sum_idx3 (n0 := 1) (n1 := 1) (n2 := n) _).trans ?_
  rw [Fin.sum_univ_one, Fin.sum_univ_one]
  have e : ∑ s ∈ Finset.Ico r.val n, X s = ∑ k : Fin n, if r.val + k.val < n then X (r.val + k.val) else 0 := by
    rw [Fin.sum_univ_eq_sum_range (fun k => if r.val + k < n then X (r.val + k) else 0) n, Finset.sum_Ico_eq_sum_range,
      ← Finset.sum_subset (Finset.range_mono (show n - r.val ≤ n by omega)) fun s _ hs => if_neg (by have := Finset.mem_range.not.mp hs; omega)]
    exact Finset.sum_congr rfl fun s hs => (if_pos (by have := Finset.mem_range.mp hs; omega)).symm
  rw [e, ← Cert.Reals.coe_sum]
  refine Finset.sum_congr rfl fun k _ => ?_
  have hk := k.isLt
  by_cases hc : r.val + k.val < n
  · rw [if_pos hc, dif_pos]
    · refine Eq.trans (congrArg x (ext3 (a := a) (b := b) (c := ⟨r.val + k.val, hc⟩) ?_ ?_ ?_)) (hX ⟨_, hc⟩)
      · show (a : ℕ) * 1 + 0 - 0 = a; omega
      · show (b : ℕ) * 1 + 0 - 0 = b; omega
      · show (r : ℕ) * 1 + k - 0 = r + k; omega
    · intro d
      match d with
      | ⟨0, _⟩ => exact ⟨Nat.zero_le _, (show (a : ℕ) * 1 + 0 - 0 < p by have := a.isLt; omega)⟩
      | ⟨1, _⟩ => exact ⟨Nat.zero_le _, (show (b : ℕ) * 1 + 0 - 0 < q by have := b.isLt; omega)⟩
      | ⟨2, _⟩ => exact ⟨Nat.zero_le _, (show (r : ℕ) * 1 + k - 0 < n by omega)⟩
  · rw [if_neg hc, dif_neg]
    · exact EReal.coe_zero.symm
    · intro hin
      have h3 : (r : ℕ) * 1 + k - 0 < n := (hin (2 : Fin 3)).2
      omega

/-! ## The two programs' references compute the same weights -/

theorem weights_same (x y : FVec Ideal S8192x1024 .f32) : Read.val_main_v20 (F := Ideal) x y = Cert.AttnBwdRefIdeal.Read.val_main_v20_0 (F := Ideal) x y := rfl
theorem weights_again (x y : FVec Ideal S8192x1024 .f32) : Read.val_main_v61 (F := Ideal) x y = Cert.AttnBwdRefIdeal.Read.val_main_v20_0 (F := Ideal) x y := rfl
theorem tiles_same (x y : FVec Ideal S8192x1024 .f32) :
    (Read.val_main_v40 (F := Ideal) x y : FVec Ideal S8x144x2x1024x256 .bf16) = rowed (blocks (Cert.AttnBwdRefIdeal.Read.val_main_v20_0 (F := Ideal) x y)) := rfl
theorem values_same (z : FVec Ideal S8192x1024 .f32) : Read.val_main_v63 (F := Ideal) z = Cert.AttnBwdRefIdeal.Read.val_main_v1 (F := Ideal) z := rfl

section

variable {x y : FVec Ideal S8192x1024 .f32} (z : FVec Ideal S8192x1024 .f32) {Q K : S8192x1024.Idx → ℝ} {V : S8192x1024.Idx → EReal} (hx : x = fun i => ((Q i : ℝ) : EReal)) (hy : y = fun i => ((K i : ℝ) : EReal))
include hx hy

/-- What query `t` of head `h` takes from key `s` on, with its sign. -/
theorem left_point (h : Fin 16) (i : Fin 8) (a : Fin 1024) (s : Fin 8192) :
    Cert.AttnBwdRefIdeal.Read.val_main_v15 (F := Ideal) x y (ix3 h (Args.query i a) s) = ((-(headAt Q K V h i).left a s : ℝ) : EReal) := by
  have h0 : Cert.AttnBwdRefIdeal.Read.val_main_call2_v0 (F := Ideal) (Shape.Idx.first Cert.AttnBwdRefIdeal.Gen.h_S_) = 0 := by
    unfold Cert.AttnBwdRefIdeal.Read.val_main_call2_v0 Cert.AttnBwdRefIdeal.Read.val_main_call2_cst
    pointwise
  unfold Cert.AttnBwdRefIdeal.Read.val_main_v15 Host.reduceWindowAdd
  rw [Ideal.hostReduceWindowAdd_def, h0]
  refine (suffix_sum (p := 16) (q := 8192) (n := 8192) _ _ h (Args.query i a) (fun s => -(headAt Q K V h i).loss a s) (fun s => ?_) s).trans ?_
  · refine (log_keep_point hx hy h (Args.query i a) s).trans (congrArg (fun r : ℝ => (r : EReal)) ?_)
    unfold Head.loss
    by_cases hst : s.val < (Args.query i a).val
    · rw [if_pos hst]; exact congrArg Neg.neg (if_pos hst).symm
    · rw [if_neg hst]; exact (neg_zero.symm).trans (congrArg Neg.neg (if_neg hst).symm)
  · rw [Finset.sum_neg_distrib]; rfl

/-- The reference's weights. -/
theorem weight_point (h : Fin 16) (i : Fin 8) (a : Fin 1024) (s : Fin 8192) :
    Cert.AttnBwdRefIdeal.Read.val_main_v20_0 (F := Ideal) x y (ix3 h (Args.query i a) s) = (((headAt Q K V h i).w a s : ℝ) : EReal) := by
  unfold Cert.AttnBwdRefIdeal.Read.val_main_v20_0 Cert.AttnBwdRefIdeal.Read.val_main_call4_v2 Cert.AttnBwdRefIdeal.Read.val_main_call4_v0 Cert.AttnBwdRefIdeal.Read.val_main_cst_0
    Cert.AttnBwdRefIdeal.Read.val_main_v19 Cert.AttnBwdRefIdeal.Read.val_main_v18 Cert.AttnBwdRefIdeal.Read.val_main_v16
  pointwise [id_eq, mask_eq, mask_point, left_point (V := V) hx hy, log_keep_point hx hy, log_stop_point x y (ix3 h (Args.query i a) s) _ (score_point hx hy h (Args.query i a) s)]
  unfold Head.w
  by_cases hst : s.val < (Args.query i a).val
  · have hs : s.val < (headAt Q K V h i).n0 + a.val := hst
    have hz : (∑ e : Fin 64, Q (ix2 (Args.query i a) (col h e)) * Args.row K h s e) = (headAt Q K V h i).score a s := rfl
    rw [if_pos hst, if_pos hst, if_pos hs, select_one, hz, ← EReal.coe_sub, ← EReal.coe_add]
    show ((Real.exp _ : ℝ) : EReal) = _
    refine congrArg (fun r : ℝ => ((Real.exp r : ℝ) : EReal)) ?_
    have hl : (headAt Q K V h i).left a s = (headAt Q K V h i).loss a s + (headAt Q K V h i).left a (s + 1) := Finset.sum_eq_sum_Ico_succ_bot s.isLt _
    rw [hl, softplus_neg, show (headAt Q K V h i).loss a s = softplusR ((headAt Q K V h i).score a s) from if_pos hs]
    ring
  · have hs : ¬s.val < (headAt Q K V h i).n0 + a.val := hst
    rw [if_neg hst, if_neg hs, select_zero]
    exact EReal.coe_zero.symm

/-- The reference's output. -/
theorem output_point (h : Fin 16) (i : Fin 8) (a : Fin 1024) (e : Fin 64) :
    Read.val_main_v67 (F := Ideal) x y z (ix2 (Args.query i a) (col h e)) = (headAt Q K z h i).out a e 0 := by
  rw [Read.val_main_v67_apply]
  show Read.val_main_v66 (F := Ideal) x y z (ix2 (Args.query i a) (col h e)) = _
  rw [Read.val_main_v66_apply, Read.val_main_v65_apply]
  rw [show Read.idx_main_v65 (Read.idx_main_v66 (ix2 (Args.query i a) (col h e))) = ix3 h (Args.query i a) e from
    ext3 (show ((1024 * i.val + a.val) * 1024 + (64 * h.val + e.val)) / 64 % 16 = h.val by omega)
      (show ((1024 * i.val + a.val) * 1024 + (64 * h.val + e.val)) / 1024 = 1024 * i.val + a.val by omega) (show ((1024 * i.val + a.val) * 1024 + (64 * h.val + e.val)) % 64 = e.val by omega)]
  rw [Read.val_main_v64_apply, weights_again, values_same]
  unfold Head.out
  rw [← Finset.range_eq_Ico, ← Fin.sum_univ_eq_sum_range (fun s => (((headAt Q K z h i).w a s : ℝ) : EReal) * (headAt Q K z h i).v s e) 8192]
  refine Finset.sum_congr rfl fun s _ => ?_
  refine congrArg₂ (· * · : EReal → EReal → EReal) ((congrArg (Cert.AttnBwdRefIdeal.Read.val_main_v20_0 (F := Ideal) x y) (ext3 rfl rfl rfl)).trans (weight_point (V := z) hx hy h i a s))
    ((congrArg (Cert.AttnBwdRefIdeal.Read.val_main_v1 (F := Ideal) z) (ext3 rfl rfl rfl)).trans ((head_v1 z h s e).trans ?_))
  exact (headAt_v Q K z h i s e).symm

end

end Cert.AttnFwdIdeal.Value

end
-- ==== Proof.AttnFwdOperands.lean ====
/- What a grid point of the attention reads, and the two arrays the launch leaves: the output and the weights. -/
module

public import proofs.«01_k».proof.Proof.AttnFwdPoint
public import proofs.«01_k».proof.Proof.AttnFwdReference
public import proofs.«01_k».proof.Proof.AttnBwdOperands
public import proofs.«01_k».proof.Proof.AttnFwdLaunch

@[expose] public section

set_option maxRecDepth 16384

noncomputable section

open Idealize.ShloMosaic Idealize.ShloMosaic.TcCoe Idealize.SL.Sem
open Idealize.ShloMosaic.Pipeline (Dat)
open scoped BigOperators

namespace Cert.AttnFwdIdeal.Value

open Cert.AttnFwdIdeal Cert.AttnFwdIdeal.Gen Cert.AttnFwdIdeal.Hand
open Cert.AttnBwdIdeal.Value (Args col lo hi ext2 ext3 readAt_lo readAt_hi headOf row_lt block_number rowed_apply blocks_apply)

variable (m : (ℓ : Loc nD τ sig) → Buf (Elt Ideal) ℓ)

/-- The three arguments. -/
abbrev query (c : Dev nD) : FVec Ideal S8192x1024 .f32 := m ((c.tc : Thread nD τ).loc main_arg0)
abbrev key (c : Dev nD) : FVec Ideal S8192x1024 .f32 := m ((c.tc : Thread nD τ).loc main_arg1)
abbrev value (c : Dev nD) : FVec Ideal S8192x1024 .f32 := m ((c.tc : Thread nD τ).loc main_arg2)

/-! ## The host's casts of the arguments -/

theorem casts (U : Valuation τ sig (Elt Ideal)) :
    (StableHlo.after hostOps0 U (Proc.tc.devRef main_v0) : FVec Ideal S8192x1024 .bf16)
        = (truncf .bf16 (StableHlo.after hostOps0 U (Proc.tc.devRef main_arg0) : FVec Ideal S8192x1024 .f32) bitsLt_bf16_f32 : FVec Ideal S8192x1024 .bf16)
    ∧ (StableHlo.after hostOps0 U (Proc.tc.devRef main_v1) : FVec Ideal S8192x1024 .bf16)
        = (truncf .bf16 (StableHlo.after hostOps0 U (Proc.tc.devRef main_arg1) : FVec Ideal S8192x1024 .f32) bitsLt_bf16_f32 : FVec Ideal S8192x1024 .bf16)
    ∧ (StableHlo.after hostOps0 U (Proc.tc.devRef main_v2) : FVec Ideal S8192x1024 .bf16)
        = (truncf .bf16 (StableHlo.after hostOps0 U (Proc.tc.devRef main_arg2) : FVec Ideal S8192x1024 .f32) bitsLt_bf16_f32 : FVec Ideal S8192x1024 .bf16) := by
  dsimp only [hostOps0]
  refine ⟨?_, ?_, ?_⟩
  all_goals
    after_results
    try rfl

theorem V_query (c : Dev nD) : (V m c main_v0 : FVec Ideal S8192x1024 .bf16) = fun i => query m c i :=
  ((casts _).1.trans (congrArg (fun x : FVec Ideal S8192x1024 .f32 => (truncf .bf16 x bitsLt_bf16_f32 : FVec Ideal S8192x1024 .bf16)) (V_main_arg0 m c))).trans rfl
theorem V_key (c : Dev nD) : (V m c main_v1 : FVec Ideal S8192x1024 .bf16) = fun i => key m c i :=
  ((casts _).2.1.trans (congrArg (fun x : FVec Ideal S8192x1024 .f32 => (truncf .bf16 x bitsLt_bf16_f32 : FVec Ideal S8192x1024 .bf16)) (V_main_arg1 m c))).trans rfl
theorem V_value (c : Dev nD) : (V m c main_v2 : FVec Ideal S8192x1024 .bf16) = fun i => value m c i :=
  ((casts _).2.2.trans (congrArg (fun x : FVec Ideal S8192x1024 .f32 => (truncf .bf16 x bitsLt_bf16_f32 : FVec Ideal S8192x1024 .bf16)) (V_main_arg2 m c))).trans rfl

/-! ## The blocks -/

theorem idx : ∀ t : Fin cfg0.N, win0_0.index t = ![t.val % 8, t.val / 8] ∧ win0_1.index t = ![0, t.val / 8]
    ∧ win0_2.index t = ![0, t.val / 8] ∧ win0_3.index t = ![t.val % 8, t.val / 8] :=
  (by decide +kernel : ∀ t : Fin grid0.N, _)

theorem coords : ∀ t : Fin cfg0.N, (grid0.coords t 0).val = t.val / 8 ∧ (grid0.coords t 1).val = t.val % 8 :=
  (by decide +kernel : ∀ t : Fin grid0.N, _)

theorem query_block (c : Dev nD) (t : Fin cfg0.N) (a : Fin 1024) (x : Fin 128) (r : Fin 8192) (j : Fin 1024)
    (hr : (r : ℕ) = t.val % 8 * 1024 + a) (hj : (j : ℕ) = t.val / 8 * 128 + x) : (iblk m c 0 t (ix2 a x) : EReal) = query m c (ix2 r j) := by
  refine Eq.trans ?_ (congrFun (V_query m c) (ix2 r j))
  blk_point [iblk, idx t]

theorem key_block (c : Dev nD) (t : Fin cfg0.N) (r : Fin 8192) (x : Fin 128) (j : Fin 1024)
    (hj : (j : ℕ) = t.val / 8 * 128 + x) : (iblk m c 1 t (ix2 r x) : EReal) = key m c (ix2 r j) := by
  refine Eq.trans ?_ (congrFun (V_key m c) (ix2 r j))
  blk_point [iblk, idx t]

theorem value_block (c : Dev nD) (t : Fin cfg0.N) (r : Fin 8192) (x : Fin 128) (j : Fin 1024)
    (hj : (j : ℕ) = t.val / 8 * 128 + x) : (iblk m c 2 t (ix2 r x) : EReal) = value m c (ix2 r j) := by
  refine Eq.trans ?_ (congrFun (V_value m c) (ix2 r j))
  blk_point [iblk, idx t]

seal iblk

/-! ## The two heads of a point -/

/-- The pair of heads of a point, and its tile of queries. -/
def pairAt (t : Fin cfg0.N) : Fin 8 := ⟨t.val / 8, by have : t.val < 64 := lt_of_lt_of_eq t.isLt N_0; omega⟩
def queryTile (t : Fin cfg0.N) : Fin 8 := ⟨t.val % 8, Nat.mod_lt _ (by decide)⟩

section

variable {m} {c : Dev nD} {Q K : S8192x1024.Idx → ℝ} (hq : query m c = fun i => ((Q i : ℝ) : EReal)) (hk : key m c = fun i => ((K i : ℝ) : EReal))

include hq hk in
/-- The operands of a point. -/
theorem operands (t : Fin cfg0.N) :
    Operands (grid0.coords t) (q0At c (ms0_0 t) ((hs0_0 t).unread (iblk m c 0 t))) (q1At c (ms0_0 t) ((hs0_0 t).unread (iblk m c 0 t))) (ms0_1 t).view (ms0_2 t).view
      ((hs0_1 t).unread (iblk m c 1 t)) ((hs0_2 t).unread (iblk m c 2 t)) (headAt Q K (value m c) (headOf (pairAt t) 0) (queryTile t)) (headAt Q K (value m c) (headOf (pairAt t) 1) (queryTile t)) := by
  have e1 := (coords t).2
  have ht : t.val < 64 := lt_of_lt_of_eq t.isLt N_0
  refine ⟨?_, ?_, fun a e => ?_, fun a e => ?_, fun r e => ?_, fun r e => ?_, fun r e => ?_, fun r e => ?_⟩
  · show 1024 * (t.val % 8) = _; rw [e1]
  · show 1024 * (t.val % 8) = _; rw [e1]
  · refine Eq.trans (show q0At c (ms0_0 t) ((hs0_0 t).unread (iblk m c 0 t)) (ix2 a e) = (ms0_0 t).view.read (Elt Ideal) ((hs0_0 t).unread (iblk m c 0 t)) (ix2 a (lo e)) from ?_) ?_
    · unfold q0At bodyRun.sl.r
      pointwise [k0_pay34]
      exact readAt_lo (ms0_0 t).view _ _ rfl a e a (Nat.zero_add _).symm
    · rw [(hs0_0 t).read_unread, query_block m c t a (lo e) (Args.query (queryTile t) a) (col (headOf (pairAt t) 0) e)
        (show 1024 * (t.val % 8) + a.val = _ by omega) (show 64 * (2 * (t.val / 8) + 0) + e.val = t.val / 8 * 128 + e.val by omega), hq]
      rfl
  · refine Eq.trans (show q1At c (ms0_0 t) ((hs0_0 t).unread (iblk m c 0 t)) (ix2 a e) = (ms0_0 t).view.read (Elt Ideal) ((hs0_0 t).unread (iblk m c 0 t)) (ix2 a (hi e)) from ?_) ?_
    · unfold q1At bodyRun.sl.r_1
      pointwise [k0_pay35]
      exact readAt_hi (ms0_0 t).view _ _ rfl a e a (Nat.zero_add _).symm
    · rw [(hs0_0 t).read_unread, query_block m c t a (hi e) (Args.query (queryTile t) a) (col (headOf (pairAt t) 1) e)
        (show 1024 * (t.val % 8) + a.val = _ by omega) (show 64 * (2 * (t.val / 8) + 1) + e.val = t.val / 8 * 128 + (64 + e.val) by omega), hq]
      rfl
  · rw [(hs0_1 t).read_unread, key_block m c t r (lo e) (col (headOf (pairAt t) 0) e) (show 64 * (2 * (t.val / 8) + 0) + e.val = t.val / 8 * 128 + e.val by omega), hk]
    exact congrArg (fun x : ℝ => (x : EReal)) (row_lt _ _ r e).symm
  · rw [(hs0_1 t).read_unread, key_block m c t r (hi e) (col (headOf (pairAt t) 1) e) (show 64 * (2 * (t.val / 8) + 1) + e.val = t.val / 8 * 128 + (64 + e.val) by omega), hk]
    exact congrArg (fun x : ℝ => (x : EReal)) (row_lt _ _ r e).symm
  · rw [(hs0_2 t).read_unread, value_block m c t r (lo e) (col (headOf (pairAt t) 0) e) (show 64 * (2 * (t.val / 8) + 0) + e.val = t.val / 8 * 128 + e.val by omega)]
    exact (headAt_v _ _ _ _ _ r e).symm
  · rw [(hs0_2 t).read_unread, value_block m c t r (hi e) (col (headOf (pairAt t) 1) e) (show 64 * (2 * (t.val / 8) + 1) + e.val = t.val / 8 * 128 + (64 + e.val) by omega)]
    exact (headAt_v _ _ _ _ _ r e).symm

end

end Cert.AttnFwdIdeal.Value

end
-- ==== Proof.AttnFwdArrays.lean ====
/- The two arrays the attention's launch leaves: the output, and the weights in blocks. -/
module

public import proofs.«01_k».proof.Proof.AttnFwdOperands

@[expose] public section

set_option maxRecDepth 16384

noncomputable section

open Idealize.ShloMosaic Idealize.ShloMosaic.TcCoe Idealize.SL.Sem
open Idealize.ShloMosaic.Pipeline (Dat)
open scoped BigOperators

namespace Cert.AttnFwdIdeal.Value

open Cert.AttnFwdIdeal Cert.AttnFwdIdeal.Gen Cert.AttnFwdIdeal.Hand
open Cert.AttnBwdIdeal.Value (Args col lo hi ext2 ext3 headOf block_number rowed_apply blocks_apply)
open Cert.AttnFwdRefIdeal.Read (val_main_v40 val_main_v67)

seal iblk

/-- A block written over holds what was written. -/
theorem stored_apply (c : Dev nD) (XA : Buf (Elt Ideal) (aM.view.loc (c : Thread nD τ))) (b : Fin 1152) (T : Tile Ideal)
    (p : Fin 8) (g : Fin 144) (hp : p.val = b.val / 144) (hg : g.val = b.val % 144) (h : Fin 2) (a : Fin 1024) (j : Fin 256) :
    (stored c XA b T (ix5 p g h a j) : EReal) = T (ix3 h a j) := by
  have e1 : (grp b).view.read (Elt Ideal) (stored c XA b T) (ix3 h a j) = T (ix3 h a j) := by
    have e := View.read_writes_cons_emb (grp b).view XA (Rect.whole S2x1024x256) T [] (ix3 h a j)
    rwa [Rect.emb_whole_apply] at e
  have q2 : Shape.reshapeEquiv squeezes_S1x1x2x1024x256_S2x1024x256.numel_eq (ix3 h a j) = ix5 (0 : Fin 1) (0 : Fin 1) h a j :=
    (Shape.reshapeEquiv_eq_of_rowMajor _ (by
      show ((Shape.rowMajorPi ![1, 1, 2, 1024, 256] (ix5 (0 : Fin 1) (0 : Fin 1) h a j) : Fin _) : ℕ) = (Shape.rowMajorPi ![2, 1024, 256] (ix3 h a j) : ℕ)
      rw [Shape.rowMajorPi_succ_val, Shape.rowMajorPi_succ_val]
      show 0 * _ + (0 * _ + ((Shape.rowMajorPi ![2, 1024, 256] (ix3 h a j) : Fin _) : ℕ)) = _
      rw [Nat.zero_mul, Nat.zero_mul, Nat.zero_add, Nat.zero_add]))
  revert e1
  generalize stored c XA b T = S
  intro e1
  refine Eq.trans ?_ e1
  refine congrArg (aM.view.read (Elt Ideal) S) (a₁ := ix5 p g h a j) (a₂ := (Rect.unit (s := S8x144x2x1024x256) (grpOff b) S1x1x2x1024x256.size (grpOff_inb b)).emb
        (Shape.reshapeEquiv squeezes_S1x1x2x1024x256_S2x1024x256.numel_eq (ix3 h a j))) ?_
  rw [q2]
  refine funext fun d => Fin.ext ?_
  match d with
  | ⟨0, _⟩ => show p.val = b.val / 144 + 1 * 0; omega
  | ⟨1, _⟩ => show g.val = b.val % 144 + 1 * 0; omega
  | ⟨2, _⟩ => show h.val = 0 + 1 * h.val; omega
  | ⟨3, _⟩ => show a.val = 0 + 1 * a.val; omega
  | ⟨4, _⟩ => show j.val = 0 + 1 * j.val; omega

/-- Every block of a pair belongs to one tile of queries. -/
theorem block_tile : ∀ g : Fin 144, ∃ i : Fin 8, ∃ j : Fin 32, j.val < 4 * i.val + 4 ∧ g.val = 2 * i.val * (i.val + 1) + j.val := by decide +kernel

theorem halves (x : Fin 128) : (∃ e : Fin 64, x = lo e) ∨ ∃ e : Fin 64, x = hi e := by
  have hx := x.isLt
  by_cases h : x.val < 64
  · exact Or.inl ⟨⟨x.val, h⟩, rfl⟩
  · exact Or.inr ⟨⟨x.val - 64, by omega⟩, Fin.ext (show x.val = 64 + (x.val - 64) by omega)⟩

variable {m : (ℓ : Loc nD τ sig) → Buf (Elt Ideal) ℓ} {c : Dev nD} {Q K : S8192x1024.Idx → ℝ} (hq : query m c = fun i => ((Q i : ℝ) : EReal))
  (hk : key m c = fun i => ((K i : ℝ) : EReal))

include hq hk in
/-- The tile number `n` of a point. -/
theorem tile_left (t : Fin cfg0.N) (n : ℕ) (hn : n ≤ 4 * (grid0.coords t 1).val + 3) :
    Weighs (headAt Q K (value m c) (headOf (pairAt t) 0) (queryTile t)) (headAt Q K (value m c) (headOf (pairAt t) 1) (queryTile t)) (1024 * (grid0.coords t 1).val + 768 - 256 * n) ((runAt m c t).2.1 n) :=
  tile_at c (XA m c) (grid0.coords t) (ms0_0 t) (hs0_0 t) (ms0_1 t) (hs0_1 t) (ms0_2 t) (hs0_2 t) (ms0_3 t) (hs0_3 t) ((hs0_0 t).unread (iblk m c 0 t)) ((hs0_1 t).unread (iblk m c 1 t))
    ((hs0_2 t).unread (iblk m c 2 t)) (operands hq hk t) n hn

include hq hk in
theorem tiles_point (p : Fin 8) (g : Fin 144) (h : Fin 2) (a : Fin 1024) (b : Fin 256) :
    (outTiles m c (ix5 p g h a b) : EReal) = (val_main_v40 (F := Ideal) (query m c) (key m c) : FVec Ideal S8x144x2x1024x256 .bf16) (ix5 p g h a b) := by
  obtain ⟨i, j, hj, hg⟩ := block_tile g
  have hp := p.isLt
  have hi := i.isLt
  have hgl := g.isLt
  obtain ⟨t, ht⟩ : ∃ t : Fin cfg0.N, t.val = 8 * p.val + i.val := ⟨⟨8 * p.val + i.val, lt_of_lt_of_eq (by omega : 8 * p.val + i.val < 64) N_0.symm⟩, rfl⟩
  obtain ⟨e0, e1⟩ := coords t
  have hpt : pairAt t = p := Fin.ext (show t.val / 8 = p.val by omega)
  have hit : queryTile t = i := Fin.ext (show t.val % 8 = i.val by omega)
  replace e0 : (grid0.coords t 0).val = p.val := by omega
  replace e1 : (grid0.coords t 1).val = i.val := by omega
  have hb : (Ring.bk 1152 (144 * p.val + g.val)).val = 144 * p.val + g.val := Ring.bk_val (by omega)
  have htop : top (grid0.coords t) = 144 * p.val + 2 * i.val * (i.val + 1) + 4 * i.val + 3 := by unfold top first; rw [e0, e1]
  have hc : contAt m c cfg0.N (Ring.bk 1152 (144 * p.val + g.val))
      = stored c (XA m c) (Ring.bk 1152 (144 * p.val + g.val)) ((runAt m c t).2.1 (top (grid0.coords t) - (Ring.bk 1152 (144 * p.val + g.val)).val)) :=
    contAt_block m c t _ (by rw [hb, htop]; omega) (by rw [hb, htop, e1]; omega) cfg0.N t.isLt le_rfl
  refine (congrFun hc (ix5 p g h a b)).trans ?_
  refine (stored_apply c (XA m c) _ _ p g (by rw [hb]; omega) (by rw [hb]; omega) h a b).trans ?_
  have hn : top (grid0.coords t) - (Ring.bk 1152 (144 * p.val + g.val)).val = 4 * i.val + 3 - j.val := by rw [hb, htop]; omega
  rw [hn, Cert.AttnFwdIdeal.Value.tiles_same, rowed_apply _ p i j hj g hg h a b, blocks_apply]
  have w := tile_left hq hk t (4 * i.val + 3 - j.val) (by rw [e1]; omega)
  rw [show 1024 * (grid0.coords t 1).val + 768 - 256 * (4 * i.val + 3 - j.val) = 256 * j.val by rw [e1]; omega, hpt, hit] at w
  have r := weight_point (V := value m c) hq hk (headOf p h) i a ⟨256 * j.val + b.val, by have := j.isLt; have := b.isLt; omega⟩
  refine Eq.trans ?_ r.symm
  obtain ⟨h, hh⟩ := h
  interval_cases h
  · exact w.lo a b
  · exact w.hi a b

include hq hk in
/-- The array of weights. -/
theorem final_tiles : (outTiles m c : FVec Ideal S8x144x2x1024x256 .bf16) = val_main_v40 (F := Ideal) (query m c) (key m c) := by
  funext y
  have hy : y = ix5 (y 0) (y 1) (y 2) (y 3) (y 4) := by
    funext d
    match d with
    | ⟨0, _⟩ => rfl
    | ⟨1, _⟩ => rfl
    | ⟨2, _⟩ => rfl
    | ⟨3, _⟩ => rfl
    | ⟨4, _⟩ => rfl
  rw [hy]
  exact tiles_point hq hk (y 0) (y 1) (y 2) (y 3) (y 4)

include hq hk in
theorem output_left (t : Fin cfg0.N) (y : S1024x128.Idx) (j : S8192x1024.Idx) (h0 : (j 0 : ℕ) = t.val % 8 * 1024 + y 0) (h1 : (j 1 : ℕ) = t.val / 8 * 128 + y 1) :
    (outAt m c t y : EReal) = val_main_v67 (F := Ideal) (query m c) (key m c) (value m c) j := by
  obtain ⟨a, x, rfl⟩ : ∃ (a : Fin 1024) (x : Fin 128), y = ix2 a x := ⟨y 0, y 1, (ix2_eta y).symm⟩
  replace h0 : (j 0 : ℕ) = t.val % 8 * 1024 + a.val := h0
  replace h1 : (j 1 : ℕ) = t.val / 8 * 128 + x.val := h1
  rcases halves x with ⟨e, rfl⟩ | ⟨e, rfl⟩
  · rw [show j = ix2 (Args.query (queryTile t) a) (col (headOf (pairAt t) 0) e) from ext2
      (h0.trans (show t.val % 8 * 1024 + a.val = 1024 * (t.val % 8) + a.val by omega))
      (h1.trans (show t.val / 8 * 128 + e.val = 64 * (2 * (t.val / 8) + 0) + e.val by omega)), output_point (value m c) hq hk]
    exact (out_at c (XA m c) (grid0.coords t) (ms0_0 t) (hs0_0 t) (ms0_1 t) (hs0_1 t) (ms0_2 t) (hs0_2 t) (ms0_3 t) (hs0_3 t) ((hs0_0 t).unread (iblk m c 0 t)) ((hs0_1 t).unread (iblk m c 1 t))
      ((hs0_2 t).unread (iblk m c 2 t)) (operands hq hk t) (ms0_3 t).view (ms0_3 t).view.junk a e).1
  · rw [show j = ix2 (Args.query (queryTile t) a) (col (headOf (pairAt t) 1) e) from ext2
      (h0.trans (show t.val % 8 * 1024 + a.val = 1024 * (t.val % 8) + a.val by omega))
      (h1.trans (show t.val / 8 * 128 + (64 + e.val) = 64 * (2 * (t.val / 8) + 1) + e.val by omega)), output_point (value m c) hq hk]
    exact (out_at c (XA m c) (grid0.coords t) (ms0_0 t) (hs0_0 t) (ms0_1 t) (hs0_1 t) (ms0_2 t) (hs0_2 t) (ms0_3 t) (hs0_3 t) ((hs0_0 t).unread (iblk m c 0 t)) ((hs0_1 t).unread (iblk m c 1 t))
      ((hs0_2 t).unread (iblk m c 2 t)) (operands hq hk t) (ms0_3 t).view (ms0_3 t).view.junk a e).2

include hq hk in
/-- The array of outputs. -/
theorem final_output : (dats m 0 c).arrAt 3 (cfgs 0).N = val_main_v67 (F := Ideal) (query m c) (key m c) (value m c) := by
  refine (dats m 0 c).arrAt_eq_of_covers 3 _ (by decide +kernel) fun t hf y => ?_
  blk_simp; rw [after0_3]
  exact output_left hq hk t y _ (by blk_simp [idx t]) (by blk_simp [idx t])

end Cert.AttnFwdIdeal.Value

end
-- ==== Proof.AttnFwd.lean ====
/- The attention equals its reference: the output and the weights the launch leaves, and the claim. -/
module

public import proofs.«01_k».proof.Defs
public import proofs.«01_k».proof.Proof.AttnFwdArrays
public import proofs.«01_k».proof.Proof.Gen.AttnFwdRefIdeal.Read
public import proofs.«01_k».proof.Proof.Gen.Pre_finite_attnfwd
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AttnFwdIdeal.Value

open Cert.AttnFwdIdeal Cert.AttnFwdIdeal.Gen Cert.AttnFwdIdeal.Hand
open Cert.AttnFwdRefIdeal.Read

variable {m : (ℓ : Loc nD τ sig) → Buf (Elt Ideal) ℓ}

/-- The precondition says that queries and keys are arrays of real numbers. -/
theorem finite_args (h : Cert.Pre_AttnFwdIdeal_finite_attnfwd m) (c : Dev nD) :
    Cert.Reals.Finite (query m c) ∧ Cert.Reals.Finite (key m c) := by
  have h0 := congrFun (h c) (fun a => a.elim0)
  unfold Cert.Pre_finite_attnfwd.fn at h0
  obtain ⟨h0, h1⟩ := Cert.Reals.and_one h0
  exact ⟨Cert.Reals.finite_of_all _ _ _ _ _ _ h0, Cert.Reals.finite_of_all _ _ _ _ _ _ h1⟩

/-- The run with its results named. -/
theorem results_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3_0) = (dats m 0 c).arrAt 3 (cfgs 0).N
      ∧ r.2.mem ((c.tc : Thread nD τ).loc main_v3_1) = outTiles m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 3, (Pipeline.FramePostRG.written h.1 c (by decide)).trans (G_eq m c),
      ((h.1.1 c).2 main_arg0 (by decide)).trans (V_main_arg0 m c),
      ((h.1.1 c).2 main_arg1 (by decide)).trans (V_main_arg1 m c),
      ((h.1.1 c).2 main_arg2 (by decide)).trans (V_main_arg2 m c)⟩) (run_quiescent m ρ)

/-- On finite queries and keys the launch's arrays are the reference's. -/
theorem arrays (h : Cert.Pre_AttnFwdIdeal_finite_attnfwd m) (c : Dev nD) :
    (dats m 0 c).arrAt 3 (cfgs 0).N = val_main_v67 (F := Ideal) (query m c) (key m c) (value m c)
      ∧ (outTiles m c : FVec Ideal S8x144x2x1024x256 .bf16) = val_main_v40 (F := Ideal) (query m c) (key m c) := by
  obtain ⟨⟨Q, hq⟩, ⟨K, hk⟩⟩ := finite_args h c
  exact ⟨final_output hq hk, final_tiles hq hk⟩

/-- The kernel and the reference agree over the extended reals. -/
theorem algebraic : Cert.algebraic_AttnFwdIdeal_AttnFwdRefIdeal_pre_finite_attnfwd := by
  pair_intro
  · run_from results_run m g
  · run_from Cert.AttnFwdRefIdeal.Value.run m' g'
    · obtain ⟨e0, e1, e2⟩ := hagree c
      rw [(arrays hpre c).1, val_main_v67_eq, e0, e1, e2]
    · obtain ⟨e0, e1, e2⟩ := hagree c
      rw [(arrays hpre c).2, val_main_v40_eq, e0, e1]

end Cert.AttnFwdIdeal.Value

end
-- ==== Proof.QkNorm.lean ====
/- The head normalisations of the forward pass: kernel, reference, and that they are equal. -/
module

public import proofs.«01_k».proof.Defs
public import proofs.«01_k».proof.Proof.Gen.QkNormIdeal
public import proofs.«01_k».proof.Proof.Gen.QkNormIdeal.Frame
public import proofs.«01_k».proof.Proof.Gen.QkNormRefIdeal.Read
public import Idealize.ShloMosaic.Lib.Claim
public import Idealize.ShloMosaic.Lib.Pointwise
public import Idealize.ShloMosaic.Lib.Pipeline.ValueKit
public import proofs.«01_k».proof.Proof.Reals
public import proofs.«01_k».proof.Proof.Norm
public import proofs.«01_k».proof.Proof.QkNormBwd

@[expose] public section

set_option maxRecDepth 16384

noncomputable section

open Idealize.ShloMosaic Idealize.ShloMosaic.TcCoe Idealize.SL.Sem
open Idealize.ShloMosaic.Pipeline (Dat)
open scoped BigOperators

namespace Cert.QkNormIdeal.Value

open Cert.QkNormIdeal Cert.QkNormIdeal.Gen
open Cert.QkNormBwdIdeal.Value (lane W E A half_sum over_width col pos head elem row blocks heads tiled)

variable (m : (ℓ : Loc nD τ sig) → Buf (Elt Ideal) ℓ)

theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![0, 0] ∧ win0_4.index t = ![0, 0]
    ∧ win0_5.index t = ![t.val / 8, t.val % 8] ∧ win0_6.index t = ![t.val / 8, t.val % 8] ∧ win0_7.index t = ![t.val / 8, t.val % 8] :=
  (by decide +kernel : ∀ t : Fin grid0.N, _)

/-- The arguments. -/
abbrev qkv (c : Dev nD) : FVec Ideal S8192x3072 .f32 := m ((c : Thread nD τ).loc main_arg0)
abbrev query_gain (c : Dev nD) : FVec Ideal S64 .f32 := m ((c : Thread nD τ).loc main_arg1)
abbrev key_gain (c : Dev nD) : FVec Ideal S64 .f32 := m ((c : Thread nD τ).loc main_arg2)

/-- One element of a head over the root of the head's mean square, times its gain. -/
def normed (x g : Fin 64 → EReal) (e : Fin 64) : EReal := x e * Cert.Norm.inv W E x * g e

/-- The normalised queries with their scale, the normalised keys, and the values. -/
def queries (x : FVec Ideal S8192x3072 .f32) (g : FVec Ideal S64 .f32) : FVec Ideal S8192x1024 .bf16 :=
  fun i => normed (row x 0 (i 0) (head (i 1))) (fun k => g (ix1 k)) (elem (i 1)) * A
def keys (x : FVec Ideal S8192x3072 .f32) (g : FVec Ideal S64 .f32) : FVec Ideal S8192x1024 .bf16 :=
  fun i => normed (row x 1 (i 0) (head (i 1))) (fun k => g (ix1 k)) (elem (i 1))
def values (x : FVec Ideal S8192x3072 .f32) : FVec Ideal S8192x1024 .bf16 :=
  fun i => x (ix2 (i 0) (⟨2048 + (i 1 : ℕ), by have : (i 1 : ℕ) < 1024 := (i 1).isLt; omega⟩ : Fin 3072))

/-- What a block of queries and a block of keys hold. -/
theorem query_apply (t : FVec Ideal S1024x128 .f32) (g : FVec Ideal S1x128 .f32) (a : Fin 1024) (b : Fin 2) (e : Fin 64) :
    (k0_pay3 (F := Ideal) t g (ix2 a (lane b e)) : EReal)
      = normed (fun k : Fin 64 => t (ix2 a (lane b k))) (fun k => g (ix2 0 (lane b k))) e * A := by
  unfold normed Cert.Norm.inv Cert.Norm.mean_square
  pointwise [k0_pay3]
  rw [half_sum (fun x => t (ix2 a x) * t (ix2 a x)), over_width]

theorem key_apply (t : FVec Ideal S1024x128 .f32) (g : FVec Ideal S1x128 .f32) (a : Fin 1024) (b : Fin 2) (e : Fin 64) :
    (k0_pay1 (F := Ideal) t (k0_pay4 g) k0_pay5 (ix2 a (lane b e)) : EReal)
      = normed (fun k : Fin 64 => t (ix2 a (lane b k))) (fun k => g (ix2 0 (lane b k))) e := by
  unfold normed Cert.Norm.inv Cert.Norm.mean_square
  pointwise [k0_pay1, k0_pay4, k0_pay5]
  rw [half_sum (fun x => t (ix2 a x) * t (ix2 a x)), over_width]

theorem query_block (c : Dev nD) (t : Fin cfg0.N) (a : Fin 1024) (b : Fin 2) (k : Fin 64) (r : Fin 8192) (h : Fin 16)
    (hr : (r : ℕ) = t.val / 8 * 1024 + a) (hh : (h : ℕ) = 2 * (t.val % 8) + b) :
    (iblk m c 0 t (ix2 a (lane b k)) : EReal) = row (qkv m c) 0 r h k := by
  unfold row; blk_point [iblk, V, idx t]

theorem key_block (c : Dev nD) (t : Fin cfg0.N) (a : Fin 1024) (b : Fin 2) (k : Fin 64) (r : Fin 8192) (h : Fin 16)
    (hr : (r : ℕ) = t.val / 8 * 1024 + a) (hh : (h : ℕ) = 2 * (t.val % 8) + b) :
    (iblk m c 1 t (ix2 a (lane b k)) : EReal) = row (qkv m c) 1 r h k := by
  unfold row; blk_point [iblk, V, idx t]

theorem value_block (c : Dev nD) (t : Fin cfg0.N) (y : S1024x128.Idx) (j : S8192x1024.Idx)
    (h0 : (j 0 : ℕ) = t.val / 8 * 1024 + y 0) (h1 : (j 1 : ℕ) = t.val % 8 * 128 + y 1) :
    (iblk m c 2 t y : EReal) = values (qkv m c) j := by
  unfold values; blk_point [iblk, V, idx t]

theorem query_gain_block (c : Dev nD) (t : Fin cfg0.N) (b : Fin 2) (k : Fin 64) :
    (iblk m c 3 t (ix2 0 (lane b k)) : EReal) = query_gain m c (ix1 k) := by
  have e : (V m c main_v3 : FVec Ideal S1x128 .f32) = shapeCast S1x128 (shapeCast S128 (broadcastInDim S2x64 ![0, 1] bcast_S1x64_S2x64_0_1 (shapeCast S1x64 (query_gain m c) shapeCasts_S64_S1x64)) shapeCasts_S2x64_S128) shapeCasts_S128_S1x128 := by
    change StableHlo.after hostOps0 (fun b => m (c, b)) (Proc.tc.devRef main_v3) = _
    dsimp only [hostOps0]
    after_results
    rfl
  have e' : (iblk m c 3 t (ix2 0 (lane b k)) : EReal) = (V m c main_v3 : FVec Ideal S1x128 .f32) (ix2 0 (lane b k)) := by
    blk_point [iblk, idx t]
  rw [e', e]
  exact tiled (query_gain m c) b k

theorem key_gain_block (c : Dev nD) (t : Fin cfg0.N) (b : Fin 2) (k : Fin 64) :
    (iblk m c 4 t (ix2 0 (lane b k)) : EReal) = key_gain m c (ix1 k) := by
  have e : (V m c main_v7 : FVec Ideal S1x128 .f32) = shapeCast S1x128 (shapeCast S128 (broadcastInDim S2x64 ![0, 1] bcast_S1x64_S2x64_0_1 (shapeCast S1x64 (key_gain m c) shapeCasts_S64_S1x64)) shapeCasts_S2x64_S128) shapeCasts_S128_S1x128 := by
    change StableHlo.after hostOps0 (fun b => m (c, b)) (Proc.tc.devRef main_v7) = _
    dsimp only [hostOps0]
    after_results
    rfl
  have e' : (iblk m c 4 t (ix2 0 (lane b k)) : EReal) = (V m c main_v7 : FVec Ideal S1x128 .f32) (ix2 0 (lane b k)) := by
    blk_point [iblk, idx t]
  rw [e', e]
  exact tiled (key_gain m c) b k

seal iblk

theorem query_point (c : Dev nD) (t : Fin cfg0.N) (y : S1024x128.Idx) (j : S8192x1024.Idx)
    (h0 : (j 0 : ℕ) = t.val / 8 * 1024 + y 0) (h1 : (j 1 : ℕ) = t.val % 8 * 128 + y 1) :
    (k0_pay3 (F := Ideal) (iblk m c 0 t) (iblk m c 3 t) y : EReal) = queries (qkv m c) (query_gain m c) j := by
  obtain ⟨a, b, e, rfl⟩ := blocks y
  have h1' : (j 1 : ℕ) = t.val % 8 * 128 + (64 * b + e) := h1
  have hh : (head (j 1) : ℕ) = 2 * (t.val % 8) + b := by show (j 1 : ℕ) / 64 = _; omega
  have he : e = elem (j 1) := Fin.ext (by show (e : ℕ) = (j 1 : ℕ) % 64; omega)
  refine (query_apply (iblk m c 0 t) (iblk m c 3 t) a b e).trans ?_
  unfold queries
  rw [← he, show (fun k : Fin 64 => (iblk m c 0 t (ix2 a (lane b k)) : EReal)) = row (qkv m c) 0 (j 0) (head (j 1)) from
    funext fun k => query_block m c t a b k (j 0) (head (j 1)) h0 hh,
    show (fun k : Fin 64 => (iblk m c 3 t (ix2 0 (lane b k)) : EReal)) = fun k => query_gain m c (ix1 k) from
    funext fun k => query_gain_block m c t b k]

theorem key_point (c : Dev nD) (t : Fin cfg0.N) (y : S1024x128.Idx) (j : S8192x1024.Idx)
    (h0 : (j 0 : ℕ) = t.val / 8 * 1024 + y 0) (h1 : (j 1 : ℕ) = t.val % 8 * 128 + y 1) :
    (k0_pay1 (F := Ideal) (iblk m c 1 t) (k0_pay4 (iblk m c 4 t)) k0_pay5 y : EReal) = keys (qkv m c) (key_gain m c) j := by
  obtain ⟨a, b, e, rfl⟩ := blocks y
  have h1' : (j 1 : ℕ) = t.val % 8 * 128 + (64 * b + e) := h1
  have hh : (head (j 1) : ℕ) = 2 * (t.val % 8) + b := by show (j 1 : ℕ) / 64 = _; omega
  have he : e = elem (j 1) := Fin.ext (by show (e : ℕ) = (j 1 : ℕ) % 64; omega)
  refine (key_apply (iblk m c 1 t) (iblk m c 4 t) a b e).trans ?_
  unfold keys
  rw [← he, show (fun k : Fin 64 => (iblk m c 1 t (ix2 a (lane b k)) : EReal)) = row (qkv m c) 1 (j 0) (head (j 1)) from
    funext fun k => key_block m c t a b k (j 0) (head (j 1)) h0 hh,
    show (fun k : Fin 64 => (iblk m c 4 t (ix2 0 (lane b k)) : EReal)) = fun k => key_gain m c (ix1 k) from
    funext fun k => key_gain_block m c t b k]

theorem value_point (c : Dev nD) (t : Fin cfg0.N) (y : S1024x128.Idx) (j : S8192x1024.Idx)
    (h0 : (j 0 : ℕ) = t.val / 8 * 1024 + y 0) (h1 : (j 1 : ℕ) = t.val % 8 * 128 + y 1) :
    (k0_pay2 (F := Ideal) (iblk m c 2 t) y : EReal) = values (qkv m c) j := by
  refine Eq.trans ?_ (value_block m c t y j h0 h1)
  pointwise [k0_pay2]

/-- What the launch leaves in its arrays. -/
theorem final_query (c : Dev nD) : (dats m 0 c).arrAt 5 (cfgs 0).N = queries (qkv m c) (query_gain m c) := by
  refine (dats m 0 c).arrAt_eq_of_covers 5 _ (by decide +kernel) fun t hf y => ?_
  blk_simp; rw [after0_5]; frame_out
  exact query_point m c t y _ (by blk_simp [idx t]) (by blk_simp [idx t])

theorem final_key (c : Dev nD) : (dats m 0 c).arrAt 6 (cfgs 0).N = keys (qkv m c) (key_gain m c) := by
  refine (dats m 0 c).arrAt_eq_of_covers 6 _ (by decide +kernel) fun t hf y => ?_
  blk_simp; rw [after0_6]; frame_out
  exact key_point m c t y _ (by blk_simp [idx t]) (by blk_simp [idx t])

theorem final_value (c : Dev nD) : (dats m 0 c).arrAt 7 (cfgs 0).N = values (qkv m c) := by
  refine (dats m 0 c).arrAt_eq_of_covers 7 _ (by decide +kernel) fun t hf y => ?_
  blk_simp; rw [after0_7]; frame_out
  exact value_point m c t y _ (by blk_simp [idx t]) (by blk_simp [idx t])

section Reference

open Cert.QkNormRefIdeal.Read

theorem ref_query_row (x : FVec Ideal S8192x3072 .f32) (r : Fin 8192) (h : Fin 16) (k : Fin 64) :
    (val_main_v3 (F := Ideal) x (ix3 r h k) : EReal) = row x 0 r h k := by
  unfold val_main_v3 val_main_v0 row
  pointwise
  exact congrArg x (congrArg (ix2 r) (Fin.ext (by show (h : ℕ) * 64 + k = 1024 * 0 + 64 * h + k; omega)))

theorem ref_key_row (x : FVec Ideal S8192x3072 .f32) (r : Fin 8192) (h : Fin 16) (k : Fin 64) :
    (val_main_v19 (F := Ideal) x (ix3 r h k) : EReal) = row x 1 r h k := by
  unfold val_main_v19 val_main_v1 row
  pointwise
  exact congrArg x (congrArg (ix2 r) (Fin.ext (by show 1024 + ((h : ℕ) * 64 + k) = 1024 * 1 + 64 * h + k; omega)))

theorem ref_query_normed (x : FVec Ideal S8192x3072 .f32) (g : FVec Ideal S64 .f32) (r : Fin 8192) (h : Fin 16) (e : Fin 64) :
    (val_main_v18 (F := Ideal) x g (ix3 r h e) : EReal) = normed (row x 0 r h) (fun k => g (ix1 k)) e * A := by
  unfold val_main_v18 val_main_v17 val_main_cst_2 val_main_v16 val_main_v15 val_main_v14 val_main_v13 val_main_v12 val_main_v11 val_main_v10
    val_main_v9 val_main_cst_1 val_main_v8 val_main_v7 val_main_cst_0 val_main_v6 val_main_v5 val_main_cst val_main_v4
  unfold normed Cert.Norm.inv Cert.Norm.mean_square
  pointwise
  simp only [ref_query_row]

theorem ref_key_normed (x : FVec Ideal S8192x3072 .f32) (g : FVec Ideal S64 .f32) (r : Fin 8192) (h : Fin 16) (e : Fin 64) :
    (val_main_v32 (F := Ideal) x g (ix3 r h e) : EReal) = normed (row x 1 r h) (fun k => g (ix1 k)) e := by
  unfold val_main_v32 val_main_v31 val_main_v30 val_main_v29 val_main_v28 val_main_v27 val_main_v26
    val_main_v25 val_main_cst_5 val_main_v24 val_main_v23 val_main_cst_4 val_main_v22 val_main_v21 val_main_cst_3 val_main_v20
  unfold normed Cert.Norm.inv Cert.Norm.mean_square
  pointwise
  simp only [ref_key_row]

theorem head_pos (h : Fin 16) (e : Fin 64) : head (pos h e) = h := Fin.ext (by show (64 * (h : ℕ) + e) / 64 = h; omega)
theorem elem_pos (h : Fin 16) (e : Fin 64) : elem (pos h e) = e := Fin.ext (by show (64 * (h : ℕ) + e) % 64 = e; omega)

theorem ref_queries (x : FVec Ideal S8192x3072 .f32) (g : FVec Ideal S64 .f32) : val_main_v35 (F := Ideal) x g = queries x g := by
  funext i
  obtain ⟨r, h, e, rfl⟩ := heads i
  refine Eq.trans ?_ ((ref_query_normed x g r h e).trans
    (congrArg₂ (fun u v => normed (row x 0 r u) (fun k => g (ix1 k)) v * A) (head_pos h e).symm (elem_pos h e).symm))
  unfold val_main_v35 val_main_v33
  pointwise
  exact congrArg₂ (fun u v => (val_main_v18 (F := Ideal) x g (ix3 r u v) : EReal)) (head_pos h e) (elem_pos h e)

theorem ref_keys (x : FVec Ideal S8192x3072 .f32) (g : FVec Ideal S64 .f32) : val_main_v36 (F := Ideal) x g = keys x g := by
  funext i
  obtain ⟨r, h, e, rfl⟩ := heads i
  refine Eq.trans ?_ ((ref_key_normed x g r h e).trans
    (congrArg₂ (fun u v => normed (row x 1 r u) (fun k => g (ix1 k)) v) (head_pos h e).symm (elem_pos h e).symm))
  unfold val_main_v36 val_main_v34
  pointwise
  exact congrArg₂ (fun u v => (val_main_v32 (F := Ideal) x g (ix3 r u v) : EReal)) (head_pos h e) (elem_pos h e)

theorem ref_values (x : FVec Ideal S8192x3072 .f32) : val_main_v37 (F := Ideal) x = values x := by
  funext i
  unfold val_main_v37 val_main_v2 values
  pointwise

end Reference

theorem algebraic : Cert.algebraic_QkNormIdeal_QkNormRefIdeal := by
  pair_intro
  · run_from Cert.QkNormIdeal.Gen.run_main m g
  · run_from Cert.QkNormRefIdeal.Value.run m' g'
    · exact (ref_queries _ _).trans (final_query m c).symm
    · exact (ref_keys _ _).trans (final_key m c).symm
    · exact (ref_values _).trans (final_value m c).symm

end Cert.QkNormIdeal.Value

end
-- ==== Proof.lean ====
/- The claims of this directory, put together: for each call of the training step its frames (the kernel, its reading over the
   extended reals, and the reference), and the equality of the kernel and the reference over the extended reals. -/
module

public import proofs.«01_k».proof.Defs
public import proofs.«01_k».proof.Proof.Gen.LossHead.Frame
public import proofs.«01_k».proof.Proof.Gen.LossHeadIdeal.Frame
public import proofs.«01_k».proof.Proof.Gen.LossHeadRefIdeal.Read
public import proofs.«01_k».proof.Proof.LossHead
public import proofs.«01_k».proof.Proof.Gen.FfnDact.Frame
public import proofs.«01_k».proof.Proof.Gen.FfnDactIdeal.Frame
public import proofs.«01_k».proof.Proof.Gen.FfnDactRefIdeal.Read
public import proofs.«01_k».proof.Proof.FfnDact
public import proofs.«01_k».proof.Proof.Gen.FfnDx.Frame
public import proofs.«01_k».proof.Proof.Gen.FfnDxIdeal.Frame
public import proofs.«01_k».proof.Proof.Gen.FfnDxRefIdeal.Read
public import proofs.«01_k».proof.Proof.FfnDx
public import proofs.«01_k».proof.Proof.Gen.PoolDx.Frame
public import proofs.«01_k».proof.Proof.Gen.PoolDxIdeal.Frame
public import proofs.«01_k».proof.Proof.Gen.PoolDxRefIdeal.Read
public import proofs.«01_k».proof.Proof.PoolDx
public import proofs.«01_k».proof.Proof.Gen.PleBwd.Frame
public import proofs.«01_k».proof.Proof.Gen.PleBwdIdeal.Frame
public import proofs.«01_k».proof.Proof.Gen.PleBwdRefIdeal.Read
public import proofs.«01_k».proof.Proof.PleBwd
public import proofs.«01_k».proof.Proof.Gen.PoolGroup.Frame
public import proofs.«01_k».proof.Proof.Gen.PoolGroupIdeal.Frame
public import proofs.«01_k».proof.Proof.Gen.PoolGroupRefIdeal.Read
public import proofs.«01_k».proof.Proof.PoolGroup
public import proofs.«01_k».proof.Proof.Gen.PoolWindow.Frame
public import proofs.«01_k».proof.Proof.Gen.PoolWindowIdeal.Frame
public import proofs.«01_k».proof.Proof.Gen.PoolWindowRefIdeal.Read
public import proofs.«01_k».proof.Proof.PoolWindow
public import proofs.«01_k».proof.Proof.Gen.QkNormBwd.Frame
public import proofs.«01_k».proof.Proof.Gen.QkNormBwdIdeal.Frame
public import proofs.«01_k».proof.Proof.Gen.QkNormBwdRefIdeal.Read
public import proofs.«01_k».proof.Proof.QkNormBwd
public import proofs.«01_k».proof.Proof.Gen.AttnBwd.Frame
public import proofs.«01_k».proof.Proof.Gen.AttnBwdIdeal.Frame
public import proofs.«01_k».proof.Proof.Gen.AttnBwdRefIdeal.Read
public import proofs.«01_k».proof.Proof.AttnBwdLaunch
public import proofs.«01_k».proof.Proof.AttnBwd
public import proofs.«01_k».proof.Proof.Gen.RmsNorm.Frame
public import proofs.«01_k».proof.Proof.Gen.RmsNormIdeal.Frame
public import proofs.«01_k».proof.Proof.Gen.RmsNormRefIdeal.Read
public import proofs.«01_k».proof.Proof.RmsNorm
public import proofs.«01_k».proof.Proof.Gen.FfnUp.Frame
public import proofs.«01_k».proof.Proof.Gen.FfnUpIdeal.Frame
public import proofs.«01_k».proof.Proof.Gen.FfnUpRefIdeal.Read
public import proofs.«01_k».proof.Proof.FfnUp
public import proofs.«01_k».proof.Proof.Gen.PleFwd.Frame
public import proofs.«01_k».proof.Proof.Gen.PleFwdIdeal.Frame
public import proofs.«01_k».proof.Proof.Gen.PleFwdRefIdeal.Read
public import proofs.«01_k».proof.Proof.PleFwd
public import proofs.«01_k».proof.Proof.Gen.AttnFwd.Frame
public import proofs.«01_k».proof.Proof.Gen.AttnFwdIdeal.Frame
public import proofs.«01_k».proof.Proof.Gen.AttnFwdRefIdeal.Read
public import proofs.«01_k».proof.Proof.AttnFwdLaunch
public import proofs.«01_k».proof.Proof.AttnFwd
public import proofs.«01_k».proof.Proof.Gen.QkNorm.Frame
public import proofs.«01_k».proof.Proof.Gen.QkNormIdeal.Frame
public import proofs.«01_k».proof.Proof.Gen.QkNormRefIdeal.Read
public import proofs.«01_k».proof.Proof.QkNorm
public import proofs.«01_k».proof.Proof.Gen.Pre_finite_dact
public import proofs.«01_k».proof.Proof.Gen.Pre_finite_ffndx
public import proofs.«01_k».proof.Proof.Gen.Pre_finite_pooldx
public import proofs.«01_k».proof.Proof.Gen.Pre_finite_ple
public import proofs.«01_k».proof.Proof.Gen.Pre_finite_poolwindow
public import proofs.«01_k».proof.Proof.Gen.Pre_finite_qknorm
public import proofs.«01_k».proof.Proof.Gen.Pre_finite_attn
public import proofs.«01_k».proof.Proof.Gen.Pre_finite_attnfwd

@[expose] public section

noncomputable section

namespace Cert.Proof

open Idealize.ShloMosaic Idealize.SL.Sem

theorem frame_LossHead : Cert.quiescent_LossHead := fun m ρ _ => Cert.LossHead.Gen.frame m ρ

theorem frame_LossHeadIdeal : Cert.quiescent_LossHeadIdeal := fun m ρ _ => Cert.LossHeadIdeal.Gen.frame m ρ

theorem frame_LossHeadRefIdeal : Cert.quiescent_LossHeadRefIdeal := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

theorem frame_FfnDact : Cert.quiescent_FfnDact := fun m ρ _ => Cert.FfnDact.Gen.frame m ρ

theorem frame_FfnDactIdeal : Cert.quiescent_FfnDactIdeal := fun m ρ _ => Cert.FfnDactIdeal.Gen.frame m ρ

theorem frame_FfnDactRefIdeal : Cert.quiescent_FfnDactRefIdeal := fun m ρ _ =>
  (θ_run Cert.FfnDactRefIdeal.defs _ _).mono (fun r h => ⟨fun c => (h c).2, sem_eq_zero_of_no_sems (by decide) r.2⟩)
    (Cert.FfnDactRefIdeal.Value.run (F := Ideal) m ρ)

theorem frame_FfnDactIdeal_pre : Cert.quiescent_FfnDactIdeal_pre_finite_dact := fun m ρ _ => frame_FfnDactIdeal m ρ trivial

theorem frame_FfnDactRefIdeal_pre : Cert.quiescent_FfnDactRefIdeal_pre_finite_dact := fun m ρ _ => frame_FfnDactRefIdeal m ρ trivial

theorem frame_FfnDx : Cert.quiescent_FfnDx := fun m ρ _ => Cert.FfnDx.Gen.frame m ρ

theorem frame_FfnDxIdeal : Cert.quiescent_FfnDxIdeal := fun m ρ _ => Cert.FfnDxIdeal.Gen.frame m ρ

theorem frame_FfnDxRefIdeal : Cert.quiescent_FfnDxRefIdeal := fun m ρ _ =>
  (θ_run Cert.FfnDxRefIdeal.defs _ _).mono (fun r h => ⟨fun c => (h c).2.2, sem_eq_zero_of_no_sems (by decide) r.2⟩)
    (Cert.FfnDxRefIdeal.Value.run (F := Ideal) m ρ)

theorem frame_FfnDxIdeal_pre : Cert.quiescent_FfnDxIdeal_pre_finite_ffndx := fun m ρ _ => frame_FfnDxIdeal m ρ trivial

theorem frame_FfnDxRefIdeal_pre : Cert.quiescent_FfnDxRefIdeal_pre_finite_ffndx := fun m ρ _ => frame_FfnDxRefIdeal m ρ trivial

theorem frame_PoolDx : Cert.quiescent_PoolDx := fun m ρ _ => Cert.PoolDx.Gen.frame m ρ

theorem frame_PoolDxIdeal : Cert.quiescent_PoolDxIdeal := fun m ρ _ => Cert.PoolDxIdeal.Gen.frame m ρ

theorem frame_PoolDxRefIdeal : Cert.quiescent_PoolDxRefIdeal := fun m ρ _ =>
  (θ_run Cert.PoolDxRefIdeal.defs _ _).mono (fun r h => ⟨fun c => (h c).2.2, sem_eq_zero_of_no_sems (by decide) r.2⟩)
    (Cert.PoolDxRefIdeal.Value.run (F := Ideal) m ρ)

theorem frame_PoolDxIdeal_pre : Cert.quiescent_PoolDxIdeal_pre_finite_pooldx := fun m ρ _ => frame_PoolDxIdeal m ρ trivial

theorem frame_PoolDxRefIdeal_pre : Cert.quiescent_PoolDxRefIdeal_pre_finite_pooldx := fun m ρ _ => frame_PoolDxRefIdeal m ρ trivial

theorem frame_PleBwd : Cert.quiescent_PleBwd := fun m ρ _ => Cert.PleBwd.Gen.frame m ρ

theorem frame_PleBwdIdeal : Cert.quiescent_PleBwdIdeal := fun m ρ _ => Cert.PleBwdIdeal.Gen.frame m ρ

theorem frame_PleBwdRefIdeal : Cert.quiescent_PleBwdRefIdeal := fun m ρ _ =>
  (θ_run Cert.PleBwdRefIdeal.defs _ _).mono (fun r h => ⟨fun c => (h c).2.2.2.2, sem_eq_zero_of_no_sems (by decide) r.2⟩)
    (Cert.PleBwdRefIdeal.Value.run (F := Ideal) m ρ)

theorem frame_PleBwdIdeal_pre : Cert.quiescent_PleBwdIdeal_pre_finite_ple := fun m ρ _ => frame_PleBwdIdeal m ρ trivial

theorem frame_PleBwdRefIdeal_pre : Cert.quiescent_PleBwdRefIdeal_pre_finite_ple := fun m ρ _ => frame_PleBwdRefIdeal m ρ trivial

theorem frame_PoolGroup : Cert.quiescent_PoolGroup := fun m ρ _ => Cert.PoolGroup.Gen.frame m ρ

theorem frame_PoolGroupIdeal : Cert.quiescent_PoolGroupIdeal := fun m ρ _ => Cert.PoolGroupIdeal.Gen.frame m ρ

theorem frame_PoolGroupRefIdeal : Cert.quiescent_PoolGroupRefIdeal := fun m ρ _ =>
  (θ_run Cert.PoolGroupRefIdeal.defs _ _).mono (fun r h => ⟨fun c => (h c).2.2.2, sem_eq_zero_of_no_sems (by decide) r.2⟩)
    (Cert.PoolGroupRefIdeal.Value.run (F := Ideal) m ρ)

theorem frame_PoolWindow : Cert.quiescent_PoolWindow := fun m ρ _ => Cert.PoolWindow.Gen.frame m ρ

theorem frame_PoolWindowIdeal : Cert.quiescent_PoolWindowIdeal := fun m ρ _ => Cert.PoolWindowIdeal.Gen.frame m ρ

theorem frame_PoolWindowRefIdeal : Cert.quiescent_PoolWindowRefIdeal := fun m ρ _ =>
  (θ_run Cert.PoolWindowRefIdeal.defs _ _).mono (fun r h => ⟨fun c => (h c).2, sem_eq_zero_of_no_sems (by decide) r.2⟩)
    (Cert.PoolWindowRefIdeal.Value.run (F := Ideal) m ρ)

theorem frame_PoolWindowIdeal_pre : Cert.quiescent_PoolWindowIdeal_pre_finite_poolwindow := fun m ρ _ => frame_PoolWindowIdeal m ρ trivial

theorem frame_PoolWindowRefIdeal_pre : Cert.quiescent_PoolWindowRefIdeal_pre_finite_poolwindow := fun m ρ _ => frame_PoolWindowRefIdeal m ρ trivial

theorem frame_QkNormBwd : Cert.quiescent_QkNormBwd := fun m ρ _ => Cert.QkNormBwd.Gen.frame m ρ

theorem frame_QkNormBwdIdeal : Cert.quiescent_QkNormBwdIdeal := fun m ρ _ => Cert.QkNormBwdIdeal.Gen.frame m ρ

theorem frame_QkNormBwdRefIdeal : Cert.quiescent_QkNormBwdRefIdeal := fun m ρ _ =>
  (θ_run Cert.QkNormBwdRefIdeal.defs _ _).mono (fun r h => ⟨fun c => (h c).2.2.2, sem_eq_zero_of_no_sems (by decide) r.2⟩)
    (Cert.QkNormBwdRefIdeal.Value.run (F := Ideal) m ρ)

theorem frame_QkNormBwdIdeal_pre : Cert.quiescent_QkNormBwdIdeal_pre_finite_qknorm := fun m ρ _ => frame_QkNormBwdIdeal m ρ trivial

theorem frame_QkNormBwdRefIdeal_pre : Cert.quiescent_QkNormBwdRefIdeal_pre_finite_qknorm := fun m ρ _ => frame_QkNormBwdRefIdeal m ρ trivial

theorem frame_AttnBwdIdeal : Cert.quiescent_AttnBwdIdeal := fun m ρ _ => Cert.AttnBwdIdeal.Hand.frame_run m ρ

/-- What the frame of the kernel over any numbers says, read at the ideal program's own text. -/
theorem frame_AttnBwd_eq : Cert.quiescent_AttnBwd = (∀ (m : (ℓ : Loc Cert.AttnBwdIdeal.nD Cert.AttnBwdIdeal.τ Cert.AttnBwdIdeal.sig) → Buf (Elt Bits) ℓ)
    (ρ : Dev Cert.AttnBwdIdeal.nD → PrngReg), True → θ_run Cert.AttnBwdIdeal.defs (onTc (τ := Cert.AttnBwdIdeal.τ) (Cert.AttnBwdIdeal.main (F := Bits))) ⟨m, fun _ => 0, ρ⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)) ∧ r.2.sem = fun _ => 0)) := by
  sl_kernel_rfl

theorem frame_AttnBwd : Cert.quiescent_AttnBwd := frame_AttnBwd_eq.mpr fun m ρ _ => Cert.AttnBwdIdeal.Hand.frame_run (F := Bits) m ρ

theorem frame_AttnBwdRefIdeal : Cert.quiescent_AttnBwdRefIdeal := fun m ρ _ =>
  (θ_run Cert.AttnBwdRefIdeal.defs _ _).mono (fun r h => ⟨fun c => (h c).2.2.2, sem_eq_zero_of_no_sems (by decide) r.2⟩)
    (Cert.AttnBwdRefIdeal.Value.run (F := Ideal) m ρ)

theorem frame_AttnBwdIdeal_pre : Cert.quiescent_AttnBwdIdeal_pre_finite_attn := fun m ρ _ => frame_AttnBwdIdeal m ρ trivial

theorem frame_AttnBwdRefIdeal_pre : Cert.quiescent_AttnBwdRefIdeal_pre_finite_attn := fun m ρ _ => frame_AttnBwdRefIdeal m ρ trivial

theorem frame_RmsNorm : Cert.quiescent_RmsNorm := fun m ρ _ => Cert.RmsNorm.Gen.frame m ρ

theorem frame_RmsNormIdeal : Cert.quiescent_RmsNormIdeal := fun m ρ _ => Cert.RmsNormIdeal.Gen.frame m ρ

theorem frame_RmsNormRefIdeal : Cert.quiescent_RmsNormRefIdeal := fun m ρ _ =>
  (θ_run Cert.RmsNormRefIdeal.defs _ _).mono (fun r h => ⟨fun c => (h c).2, sem_eq_zero_of_no_sems (by decide) r.2⟩)
    (Cert.RmsNormRefIdeal.Value.run (F := Ideal) m ρ)

theorem frame_FfnUp : Cert.quiescent_FfnUp := fun m ρ _ => Cert.FfnUp.Gen.frame m ρ

theorem frame_FfnUpIdeal : Cert.quiescent_FfnUpIdeal := fun m ρ _ => Cert.FfnUpIdeal.Gen.frame m ρ

theorem frame_FfnUpRefIdeal : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem frame_PleFwd : Cert.quiescent_PleFwd := fun m ρ _ => Cert.PleFwd.Gen.frame m ρ

theorem frame_PleFwdIdeal : Cert.quiescent_PleFwdIdeal := fun m ρ _ => Cert.PleFwdIdeal.Gen.frame m ρ

theorem frame_PleFwdRefIdeal : Cert.quiescent_PleFwdRefIdeal := fun m ρ _ =>
  (θ_run Cert.PleFwdRefIdeal.defs _ _).mono (fun r h => ⟨fun c => (h c).2.2.2.2, sem_eq_zero_of_no_sems (by decide) r.2⟩)
    (Cert.PleFwdRefIdeal.Value.run (F := Ideal) m ρ)

theorem frame_AttnFwdIdeal : Cert.quiescent_AttnFwdIdeal := fun m ρ _ => Cert.AttnFwdIdeal.Hand.frame_run m ρ

/-- What the frame of the kernel over any numbers says, read at the ideal program's own text. -/
theorem frame_AttnFwd_eq : Cert.quiescent_AttnFwd = (∀ (m : (ℓ : Loc Cert.AttnFwdIdeal.nD Cert.AttnFwdIdeal.τ Cert.AttnFwdIdeal.sig) → Buf (Elt Bits) ℓ)
    (ρ : Dev Cert.AttnFwdIdeal.nD → PrngReg), True → θ_run Cert.AttnFwdIdeal.defs (onTc (τ := Cert.AttnFwdIdeal.τ) (Cert.AttnFwdIdeal.main (F := Bits))) ⟨m, fun _ => 0, ρ⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)) ∧ r.2.sem = fun _ => 0)) := by
  sl_kernel_rfl

theorem frame_AttnFwd : Cert.quiescent_AttnFwd := frame_AttnFwd_eq.mpr fun m ρ _ => Cert.AttnFwdIdeal.Hand.frame_run (F := Bits) m ρ

theorem frame_AttnFwdRefIdeal : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run (F := Ideal) m ρ)

theorem frame_AttnFwdIdeal_pre : Cert.quiescent_AttnFwdIdeal_pre_finite_attnfwd := fun m ρ _ => frame_AttnFwdIdeal m ρ trivial

theorem frame_AttnFwdRefIdeal_pre : Cert.quiescent_AttnFwdRefIdeal_pre_finite_attnfwd := fun m ρ _ => frame_AttnFwdRefIdeal m ρ trivial

theorem frame_QkNorm : Cert.quiescent_QkNorm := fun m ρ _ => Cert.QkNorm.Gen.frame m ρ

theorem frame_QkNormIdeal : Cert.quiescent_QkNormIdeal := fun m ρ _ => Cert.QkNormIdeal.Gen.frame m ρ

theorem frame_QkNormRefIdeal : Cert.quiescent_QkNormRefIdeal := fun m ρ _ =>
  (θ_run Cert.QkNormRefIdeal.defs _ _).mono (fun r h => ⟨fun c => (h c).2.2.2, sem_eq_zero_of_no_sems (by decide) r.2⟩)
    (Cert.QkNormRefIdeal.Value.run (F := Ideal) m ρ)

theorem claim : Cert.Claim :=
  ⟨Cert.LossHead.Gen.facts, Cert.LossHeadIdeal.Gen.facts, Cert.LossHeadRefIdeal.Gen.facts, Cert.FfnDact.Gen.facts,
   Cert.FfnDactIdeal.Gen.facts, Cert.FfnDactRefIdeal.Gen.facts, Cert.FfnDx.Gen.facts, Cert.FfnDxIdeal.Gen.facts,
   Cert.FfnDxRefIdeal.Gen.facts, Cert.PoolDx.Gen.facts, Cert.PoolDxIdeal.Gen.facts, Cert.PoolDxRefIdeal.Gen.facts,
   Cert.PleBwd.Gen.facts, Cert.PleBwdIdeal.Gen.facts, Cert.PleBwdRefIdeal.Gen.facts, Cert.PoolGroup.Gen.facts,
   Cert.PoolGroupIdeal.Gen.facts, Cert.PoolGroupRefIdeal.Gen.facts, Cert.PoolWindow.Gen.facts, Cert.PoolWindowIdeal.Gen.facts,
   Cert.PoolWindowRefIdeal.Gen.facts, Cert.QkNormBwd.Gen.facts, Cert.QkNormBwdIdeal.Gen.facts, Cert.QkNormBwdRefIdeal.Gen.facts,
   Cert.AttnBwd.Gen.facts, Cert.AttnBwdIdeal.Gen.facts, Cert.AttnBwdRefIdeal.Gen.facts, Cert.RmsNorm.Gen.facts,
   Cert.RmsNormIdeal.Gen.facts, Cert.RmsNormRefIdeal.Gen.facts, Cert.FfnUp.Gen.facts, Cert.FfnUpIdeal.Gen.facts,
   Cert.FfnUpRefIdeal.Gen.facts, Cert.PleFwd.Gen.facts, Cert.PleFwdIdeal.Gen.facts, Cert.PleFwdRefIdeal.Gen.facts,
   Cert.AttnFwd.Gen.facts, Cert.AttnFwdIdeal.Gen.facts, Cert.AttnFwdRefIdeal.Gen.facts, Cert.QkNorm.Gen.facts,
   Cert.QkNormIdeal.Gen.facts, Cert.QkNormRefIdeal.Gen.facts, Cert.Pre_finite_dact.Gen.facts, Cert.Pre_finite_ffndx.Gen.facts,
   Cert.Pre_finite_pooldx.Gen.facts, Cert.Pre_finite_ple.Gen.facts, Cert.Pre_finite_poolwindow.Gen.facts, Cert.Pre_finite_qknorm.Gen.facts,
   Cert.Pre_finite_attn.Gen.facts, Cert.Pre_finite_attnfwd.Gen.facts,
   frame_LossHead, frame_LossHeadIdeal, frame_LossHeadRefIdeal, frame_FfnDact, frame_FfnDactIdeal, frame_FfnDactIdeal_pre,
   frame_FfnDactRefIdeal, frame_FfnDactRefIdeal_pre, frame_FfnDx, frame_FfnDxIdeal, frame_FfnDxIdeal_pre, frame_FfnDxRefIdeal,
   frame_FfnDxRefIdeal_pre, frame_PoolDx, frame_PoolDxIdeal, frame_PoolDxIdeal_pre, frame_PoolDxRefIdeal, frame_PoolDxRefIdeal_pre,
   frame_PleBwd, frame_PleBwdIdeal, frame_PleBwdIdeal_pre, frame_PleBwdRefIdeal, frame_PleBwdRefIdeal_pre, frame_PoolGroup,
   frame_PoolGroupIdeal, frame_PoolGroupRefIdeal, frame_PoolWindow, frame_PoolWindowIdeal, frame_PoolWindowIdeal_pre, frame_PoolWindowRefIdeal,
   frame_PoolWindowRefIdeal_pre, frame_QkNormBwd, frame_QkNormBwdIdeal, frame_QkNormBwdIdeal_pre, frame_QkNormBwdRefIdeal, frame_QkNormBwdRefIdeal_pre,
   frame_AttnBwd, frame_AttnBwdIdeal, frame_AttnBwdIdeal_pre, frame_AttnBwdRefIdeal, frame_AttnBwdRefIdeal_pre, frame_RmsNorm,
   frame_RmsNormIdeal, frame_RmsNormRefIdeal, frame_FfnUp, frame_FfnUpIdeal, frame_FfnUpRefIdeal, frame_PleFwd,
   frame_PleFwdIdeal, frame_PleFwdRefIdeal, frame_AttnFwd, frame_AttnFwdIdeal, frame_AttnFwdIdeal_pre, frame_AttnFwdRefIdeal,
   frame_AttnFwdRefIdeal_pre, frame_QkNorm, frame_QkNormIdeal, frame_QkNormRefIdeal, trivial, Cert.LossHeadIdeal.Value.algebraic,
   trivial, Cert.FfnDactIdeal.Value.algebraic, trivial, Cert.FfnDxIdeal.Value.algebraic, trivial, Cert.PoolDxIdeal.Value.algebraic,
   trivial, Cert.PleBwdIdeal.Value.algebraic, trivial, Cert.PoolGroupIdeal.Value.algebraic, trivial, Cert.PoolWindowIdeal.Value.algebraic,
   trivial, Cert.QkNormBwdIdeal.Value.algebraic, trivial, Cert.AttnBwdIdeal.Value.algebraic, trivial, Cert.RmsNormIdeal.Value.algebraic,
   trivial, Cert.FfnUpIdeal.Value.algebraic, trivial, Cert.PleFwdIdeal.Value.algebraic, trivial, Cert.AttnFwdIdeal.Value.algebraic,
   trivial, Cert.QkNormIdeal.Value.algebraic⟩

end Cert.Proof

end
